-- ==== Defs.lean ====
def Pre_SampleAttn [hPre_pages_in_range : Cert.Pre_pages_in_range.Facts] (m : (ℓ : Loc Cert.SampleAttn.nD Cert.SampleAttn.τ Cert.SampleAttn.sig) → Buf (Elt Bits) ℓ) : Prop :=
  ∀ c : Dev Cert.SampleAttn.nD,
    (Cert.Pre_pages_in_range.fn (F := Bits) (m ((c.tc : Thread Cert.SampleAttn.nD Cert.SampleAttn.τ).loc Cert.SampleAttn.main_arg0)) (m ((c.tc : Thread Cert.SampleAttn.nD Cert.SampleAttn.τ).loc Cert.SampleAttn.main_arg1)) (m ((c.tc : Thread Cert.SampleAttn.nD Cert.SampleAttn.τ).loc Cert.SampleAttn.main_arg2)) (m ((c.tc : Thread Cert.SampleAttn.nD Cert.SampleAttn.τ).loc Cert.SampleAttn.main_arg3)) (m ((c.tc : Thread Cert.SampleAttn.nD Cert.SampleAttn.τ).loc Cert.SampleAttn.main_arg4)) (m ((c.tc : Thread Cert.SampleAttn.nD Cert.SampleAttn.τ).loc Cert.SampleAttn.main_arg5)) (m ((c.tc : Thread Cert.SampleAttn.nD Cert.SampleAttn.τ).loc Cert.SampleAttn.main_arg6))) = (fun _ => 1#1)

def Pre_SampleAttnIdeal [hPre_pages_in_range : Cert.Pre_pages_in_range.Facts] (m : (ℓ : Loc Cert.SampleAttnIdeal.nD Cert.SampleAttnIdeal.τ Cert.SampleAttnIdeal.sig) → Buf (Elt Ideal) ℓ) : Prop :=
  ∀ c : Dev Cert.SampleAttnIdeal.nD,
    (Cert.Pre_pages_in_range.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4)) (m ((c.tc : Thread Cert.SampleAttnIdeal.nD Cert.SampleAttnIdeal.τ).loc Cert.SampleAttnIdeal.main_arg5)) (m ((c.tc : Thread Cert.SampleAttnIdeal.nD Cert.SampleAttnIdeal.τ).loc Cert.SampleAttnIdeal.main_arg6))) = (fun _ => 1#1)

def Pre_SampleAttnIdeal_softmax_defined [hPre_softmax_defined : Cert.Pre_softmax_defined.Facts] (m : (ℓ : Loc Cert.SampleAttnIdeal.nD Cert.SampleAttnIdeal.τ Cert.SampleAttnIdeal.sig) → Buf (Elt Ideal) ℓ) : Prop :=
  ∀ c : Dev Cert.SampleAttnIdeal.nD,
    (Cert.Pre_softmax_defined.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4)) (m ((c.tc : Thread Cert.SampleAttnIdeal.nD Cert.SampleAttnIdeal.τ).loc Cert.SampleAttnIdeal.main_arg5)) (m ((c.tc : Thread Cert.SampleAttnIdeal.nD Cert.SampleAttnIdeal.τ).loc Cert.SampleAttnIdeal.main_arg6))).1 = (fun _ => 1#1)
    ∧ (Cert.Pre_softmax_defined.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4)) (m ((c.tc : Thread Cert.SampleAttnIdeal.nD Cert.SampleAttnIdeal.τ).loc Cert.SampleAttnIdeal.main_arg5)) (m ((c.tc : Thread Cert.SampleAttnIdeal.nD Cert.SampleAttnIdeal.τ).loc Cert.SampleAttnIdeal.main_arg6))).2.1 = (fun _ => 1#1)
    ∧ (Cert.Pre_softmax_defined.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4)) (m ((c.tc : Thread Cert.SampleAttnIdeal.nD Cert.SampleAttnIdeal.τ).loc Cert.SampleAttnIdeal.main_arg5)) (m ((c.tc : Thread Cert.SampleAttnIdeal.nD Cert.SampleAttnIdeal.τ).loc Cert.SampleAttnIdeal.main_arg6))).2.2.1 = (fun _ => 1#1)
    ∧ (Cert.Pre_softmax_defined.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4)) (m ((c.tc : Thread Cert.SampleAttnIdeal.nD Cert.SampleAttnIdeal.τ).loc Cert.SampleAttnIdeal.main_arg5)) (m ((c.tc : Thread Cert.SampleAttnIdeal.nD Cert.SampleAttnIdeal.τ).loc Cert.SampleAttnIdeal.main_arg6))).2.2.2.1 = (fun _ => 1#1)
    ∧ (Cert.Pre_softmax_defined.fn (F := Ideal) (m ((c.tc : Thread Cert.SampleAttnIdeal.nD Cert.SampleAttnIdeal.τ).loc Cert.SampleAttnIdeal.main_arg0)) (m ((c.tc : Thread Cert.SampleAttnIdeal.nD Cert.SampleAttnIdeal.τ).loc Cert.SampleAttnIdeal.main_arg1)) (m ((c.tc : Thread Cert.SampleAttnIdeal.nD Cert.SampleAttnIdeal.τ).loc Cert.SampleAttnIdeal.main_arg2)) (m ((c.tc : Thread Cert.SampleAttnIdeal.nD Cert.SampleAttnIdeal.τ).loc Cert.SampleAttnIdeal.main_arg3)) (m ((c.tc : Thread Cert.SampleAttnIdeal.nD Cert.SampleAttnIdeal.τ).loc Cert.SampleAttnIdeal.main_arg4)) (m ((c.tc : Thread Cert.SampleAttnIdeal.nD Cert.SampleAttnIdeal.τ).loc Cert.SampleAttnIdeal.main_arg5)) (m ((c.tc : Thread Cert.SampleAttnIdeal.nD Cert.SampleAttnIdeal.τ).loc Cert.SampleAttnIdeal.main_arg6))).2.2.2.2 = (fun _ => 1#1)

def Pre_SampleAttnRefIdeal (m : (ℓ : Loc Cert.SampleAttnRefIdeal.nD Cert.SampleAttnRefIdeal.τ Cert.SampleAttnRefIdeal.sig) → Buf (Elt Ideal) ℓ) : Prop :=
  True

def Pre_SampleAttnRefIdeal_softmax_defined [hPre_softmax_defined : Cert.Pre_softmax_defined.Facts] (m : (ℓ : Loc Cert.SampleAttnRefIdeal.nD Cert.SampleAttnRefIdeal.τ Cert.SampleAttnRefIdeal.sig) → Buf (Elt Ideal) ℓ) : Prop :=
  ∀ c : Dev Cert.SampleAttnRefIdeal.nD,
    (Cert.Pre_softmax_defined.fn (F := Ideal) (m ((c.tc : Thread Cert.SampleAttnRefIdeal.nD Cert.SampleAttnRefIdeal.τ).loc Cert.SampleAttnRefIdeal.main_arg0)) (m ((c.tc : Thread Cert.SampleAttnRefIdeal.nD Cert.SampleAttnRefIdeal.τ).loc Cert.SampleAttnRefIdeal.main_arg1)) (m ((c.tc : Thread Cert.SampleAttnRefIdeal.nD Cert.SampleAttnRefIdeal.τ).loc Cert.SampleAttnRefIdeal.main_arg2)) (m ((c.tc : Thread Cert.SampleAttnRefIdeal.nD Cert.SampleAttnRefIdeal.τ).loc Cert.SampleAttnRefIdeal.main_arg3)) (m ((c.tc : Thread Cert.SampleAttnRefIdeal.nD Cert.SampleAttnRefIdeal.τ).loc Cert.SampleAttnRefIdeal.main_arg4)) (m ((c.tc : Thread Cert.SampleAttnRefIdeal.nD Cert.SampleAttnRefIdeal.τ).loc Cert.SampleAttnRefIdeal.main_arg5)) (m ((c.tc : Thread Cert.SampleAttnRefIdeal.nD Cert.SampleAttnRefIdeal.τ).loc Cert.SampleAttnRefIdeal.main_arg6))).1 = (fun _ => 1#1)
    ∧ (Cert.Pre_softmax_defined.fn (F := Ideal) (m ((c.tc : Thread Cert.SampleAttnRefIdeal.nD Cert.SampleAttnRefIdeal.τ).loc Cert.SampleAttnRefIdeal.main_arg0)) (m ((c.tc : Thread Cert.SampleAttnRefIdeal.nD Cert.SampleAttnRefIdeal.τ).loc Cert.SampleAttnRefIdeal.main_arg1)) (m ((c.tc : Thread Cert.SampleAttnRefIdeal.nD Cert.SampleAttnRefIdeal.τ).loc Cert.SampleAttnRefIdeal.main_arg2)) (m ((c.tc : Thread Cert.SampleAttnRefIdeal.nD Cert.SampleAttnRefIdeal.τ).loc Cert.SampleAttnRefIdeal.main_arg3)) (m ((c.tc : Thread Cert.SampleAttnRefIdeal.nD Cert.SampleAttnRefIdeal.τ).loc Cert.SampleAttnRefIdeal.main_arg4)) (m ((c.tc : Thread Cert.SampleAttnRefIdeal.nD Cert.SampleAttnRefIdeal.τ).loc Cert.SampleAttnRefIdeal.main_arg5)) (m ((c.tc : Thread Cert.SampleAttnRefIdeal.nD Cert.SampleAttnRefIdeal.τ).loc Cert.SampleAttnRefIdeal.main_arg6))).2.1 = (fun _ => 1#1)
    ∧ (Cert.Pre_softmax_defined.fn (F := Ideal) (m ((c.tc : Thread Cert.SampleAttnRefIdeal.nD Cert.SampleAttnRefIdeal.τ).loc Cert.SampleAttnRefIdeal.main_arg0)) (m ((c.tc : Thread Cert.SampleAttnRefIdeal.nD Cert.SampleAttnRefIdeal.τ).loc Cert.SampleAttnRefIdeal.main_arg1)) (m ((c.tc : Thread Cert.SampleAttnRefIdeal.nD Cert.SampleAttnRefIdeal.τ).loc Cert.SampleAttnRefIdeal.main_arg2)) (m ((c.tc : Thread Cert.SampleAttnRefIdeal.nD Cert.SampleAttnRefIdeal.τ).loc Cert.SampleAttnRefIdeal.main_arg3)) (m ((c.tc : Thread Cert.SampleAttnRefIdeal.nD Cert.SampleAttnRefIdeal.τ).loc Cert.SampleAttnRefIdeal.main_arg4)) (m ((c.tc : Thread Cert.SampleAttnRefIdeal.nD Cert.SampleAttnRefIdeal.τ).loc Cert.SampleAttnRefIdeal.main_arg5)) (m ((c.tc : Thread Cert.SampleAttnRefIdeal.nD Cert.SampleAttnRefIdeal.τ).loc Cert.SampleAttnRefIdeal.main_arg6))).2.2.1 = (fun _ => 1#1)
    ∧ (Cert.Pre_softmax_defined.fn (F := Ideal) (m ((c.tc : Thread Cert.SampleAttnRefIdeal.nD Cert.SampleAttnRefIdeal.τ).loc Cert.SampleAttnRefIdeal.main_arg0)) (m ((c.tc : Thread Cert.SampleAttnRefIdeal.nD Cert.SampleAttnRefIdeal.τ).loc Cert.SampleAttnRefIdeal.main_arg1)) (m ((c.tc : Thread Cert.SampleAttnRefIdeal.nD Cert.SampleAttnRefIdeal.τ).loc Cert.SampleAttnRefIdeal.main_arg2)) (m ((c.tc : Thread Cert.SampleAttnRefIdeal.nD Cert.SampleAttnRefIdeal.τ).loc Cert.SampleAttnRefIdeal.main_arg3)) (m ((c.tc : Thread Cert.SampleAttnRefIdeal.nD Cert.SampleAttnRefIdeal.τ).loc Cert.SampleAttnRefIdeal.main_arg4)) (m ((c.tc : Thread Cert.SampleAttnRefIdeal.nD Cert.SampleAttnRefIdeal.τ).loc Cert.SampleAttnRefIdeal.main_arg5)) (m ((c.tc : Thread Cert.SampleAttnRefIdeal.nD Cert.SampleAttnRefIdeal.τ).loc Cert.SampleAttnRefIdeal.main_arg6))).2.2.2.1 = (fun _ => 1#1)
    ∧ (Cert.Pre_softmax_defined.fn (F := Ideal) (m ((c.tc : Thread Cert.SampleAttnRefIdeal.nD Cert.SampleAttnRefIdeal.τ).loc Cert.SampleAttnRefIdeal.main_arg0)) (m ((c.tc : Thread Cert.SampleAttnRefIdeal.nD Cert.SampleAttnRefIdeal.τ).loc Cert.SampleAttnRefIdeal.main_arg1)) (m ((c.tc : Thread Cert.SampleAttnRefIdeal.nD Cert.SampleAttnRefIdeal.τ).loc Cert.SampleAttnRefIdeal.main_arg2)) (m ((c.tc : Thread Cert.SampleAttnRefIdeal.nD Cert.SampleAttnRefIdeal.τ).loc Cert.SampleAttnRefIdeal.main_arg3)) (m ((c.tc : Thread Cert.SampleAttnRefIdeal.nD Cert.SampleAttnRefIdeal.τ).loc Cert.SampleAttnRefIdeal.main_arg4)) (m ((c.tc : Thread Cert.SampleAttnRefIdeal.nD Cert.SampleAttnRefIdeal.τ).loc Cert.SampleAttnRefIdeal.main_arg5)) (m ((c.tc : Thread Cert.SampleAttnRefIdeal.nD Cert.SampleAttnRefIdeal.τ).loc Cert.SampleAttnRefIdeal.main_arg6))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleRefIdeal (m : (ℓ : Loc Cert.InprojSampleRefIdeal.nD Cert.InprojSampleRefIdeal.τ Cert.InprojSampleRefIdeal.sig) → Buf (Elt Ideal) ℓ) : Prop :=
  True

def Pre_MixoutSample (m : (ℓ : Loc Cert.MixoutSample.nD Cert.MixoutSample.τ Cert.MixoutSample.sig) → Buf (Elt Bits) ℓ) : Prop :=
  True

def Pre_MixoutSampleIdeal (m : (ℓ : Loc Cert.MixoutSampleIdeal.nD Cert.MixoutSampleIdeal.τ Cert.MixoutSampleIdeal.sig) → Buf (Elt Ideal) ℓ) : Prop :=
  True

def Pre_MixoutSampleIdeal_pool_state_finite [hPre_pool_state_finite : Cert.Pre_pool_state_finite.Facts] (m : (ℓ : Loc Cert.MixoutSampleIdeal.nD Cert.MixoutSampleIdeal.τ Cert.MixoutSampleIdeal.sig) → Buf (Elt Ideal) ℓ) : Prop :=
  ∀ c : Dev Cert.MixoutSampleIdeal.nD,
    (Cert.Pre_pool_state_finite.fn (F := Ideal) (m ((c.tc : Thread Cert.MixoutSampleIdeal.nD Cert.MixoutSampleIdeal.τ).loc Cert.MixoutSampleIdeal.main_arg0)) (m ((c.tc : Thread Cert.MixoutSampleIdeal.nD Cert.MixoutSampleIdeal.τ).loc Cert.MixoutSampleIdeal.main_arg1)) (m ((c.tc : Thread Cert.MixoutSampleIdeal.nD Cert.MixoutSampleIdeal.τ).loc Cert.MixoutSampleIdeal.main_arg2)) (m ((c.tc : Thread Cert.MixoutSampleIdeal.nD Cert.MixoutSampleIdeal.τ).loc Cert.MixoutSampleIdeal.main_arg3)) (m ((c.tc : Thread Cert.MixoutSampleIdeal.nD Cert.MixoutSampleIdeal.τ).loc Cert.MixoutSampleIdeal.main_arg4)) (m ((c.tc : Thread Cert.MixoutSampleIdeal.nD Cert.MixoutSampleIdeal.τ).loc Cert.MixoutSampleIdeal.main_arg5)) (m ((c.tc : Thread Cert.MixoutSampleIdeal.nD Cert.MixoutSampleIdeal.τ).loc Cert.MixoutSampleIdeal.main_arg6)) (m ((c.tc : Thread Cert.MixoutSampleIdeal.nD Cert.MixoutSampleIdeal.τ).loc Cert.MixoutSampleIdeal.main_arg7)) (m ((c.tc : Thread Cert.MixoutSampleIdeal.nD Cert.MixoutSampleIdeal.τ).loc Cert.MixoutSampleIdeal.main_arg8)) (m ((c.tc : Thread Cert.MixoutSampleIdeal.nD Cert.MixoutSampleIdeal.τ).loc Cert.MixoutSampleIdeal.main_arg9)) (m ((c.tc : Thread Cert.MixoutSampleIdeal.nD Cert.MixoutSampleIdeal.τ).loc Cert.MixoutSampleIdeal.main_arg10)) (m ((c.tc : Thread Cert.MixoutSampleIdeal.nD Cert.MixoutSampleIdeal.τ).loc Cert.MixoutSampleIdeal.main_arg11)) (m ((c.tc : Thread Cert.MixoutSampleIdeal.nD Cert.MixoutSampleIdeal.τ).loc Cert.MixoutSampleIdeal.main_arg12)) (m ((c.tc : Thread Cert.MixoutSampleIdeal.nD Cert.MixoutSampleIdeal.τ).loc Cert.MixoutSampleIdeal.main_arg13)) (m ((c.tc : Thread Cert.MixoutSampleIdeal.nD Cert.MixoutSampleIdeal.τ).loc Cert.MixoutSampleIdeal.main_arg14)) (m ((c.tc : Thread Cert.MixoutSampleIdeal.nD Cert.MixoutSampleIdeal.τ).loc Cert.MixoutSampleIdeal.main_arg15))) = (fun _ => 1#1)

def Pre_MixoutSampleRefIdeal (m : (ℓ : Loc Cert.MixoutSampleRefIdeal.nD Cert.MixoutSampleRefIdeal.τ Cert.MixoutSampleRefIdeal.sig) → Buf (Elt Ideal) ℓ) : Prop :=
  True

def Pre_MixoutSampleRefIdeal_pool_state_finite [hPre_pool_state_finite : Cert.Pre_pool_state_finite.Facts] (m : (ℓ : Loc Cert.MixoutSampleRefIdeal.nD Cert.MixoutSampleRefIdeal.τ Cert.MixoutSampleRefIdeal.sig) → Buf (Elt Ideal) ℓ) : Prop :=
  ∀ c : Dev Cert.MixoutSampleRefIdeal.nD,
    (Cert.Pre_pool_state_finite.fn (F := Ideal) (m ((c.tc : Thread Cert.MixoutSampleRefIdeal.nD Cert.MixoutSampleRefIdeal.τ).loc Cert.MixoutSampleRefIdeal.main_arg0)) (m ((c.tc : Thread Cert.MixoutSampleRefIdeal.nD Cert.MixoutSampleRefIdeal.τ).loc Cert.MixoutSampleRefIdeal.main_arg1)) (m ((c.tc : Thread Cert.MixoutSampleRefIdeal.nD Cert.MixoutSampleRefIdeal.τ).loc Cert.MixoutSampleRefIdeal.main_arg2)) (m ((c.tc : Thread Cert.MixoutSampleRefIdeal.nD Cert.MixoutSampleRefIdeal.τ).loc Cert.MixoutSampleRefIdeal.main_arg3)) (m ((c.tc : Thread Cert.MixoutSampleRefIdeal.nD Cert.MixoutSampleRefIdeal.τ).loc Cert.MixoutSampleRefIdeal.main_arg4)) (m ((c.tc : Thread Cert.MixoutSampleRefIdeal.nD Cert.MixoutSampleRefIdeal.τ).loc Cert.MixoutSampleRefIdeal.main_arg5)) (m ((c.tc : Thread Cert.MixoutSampleRefIdeal.nD Cert.MixoutSampleRefIdeal.τ).loc Cert.MixoutSampleRefIdeal.main_arg6)) (m ((c.tc : Thread Cert.MixoutSampleRefIdeal.nD Cert.MixoutSampleRefIdeal.τ).loc Cert.MixoutSampleRefIdeal.main_arg7)) (m ((c.tc : Thread Cert.MixoutSampleRefIdeal.nD Cert.MixoutSampleRefIdeal.τ).loc Cert.MixoutSampleRefIdeal.main_arg8)) (m ((c.tc : Thread Cert.MixoutSampleRefIdeal.nD Cert.MixoutSampleRefIdeal.τ).loc Cert.MixoutSampleRefIdeal.main_arg9)) (m ((c.tc : Thread Cert.MixoutSampleRefIdeal.nD Cert.MixoutSampleRefIdeal.τ).loc Cert.MixoutSampleRefIdeal.main_arg10)) (m ((c.tc : Thread Cert.MixoutSampleRefIdeal.nD Cert.MixoutSampleRefIdeal.τ).loc Cert.MixoutSampleRefIdeal.main_arg11)) (m ((c.tc : Thread Cert.MixoutSampleRefIdeal.nD Cert.MixoutSampleRefIdeal.τ).loc Cert.MixoutSampleRefIdeal.main_arg12)) (m ((c.tc : Thread Cert.MixoutSampleRefIdeal.nD Cert.MixoutSampleRefIdeal.τ).loc Cert.MixoutSampleRefIdeal.main_arg13)) (m ((c.tc : Thread Cert.MixoutSampleRefIdeal.nD Cert.MixoutSampleRefIdeal.τ).loc Cert.MixoutSampleRefIdeal.main_arg14)) (m ((c.tc : Thread Cert.MixoutSampleRefIdeal.nD Cert.MixoutSampleRefIdeal.τ).loc Cert.MixoutSampleRefIdeal.main_arg15))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_MixoutPrompt (m : (ℓ : Loc Cert.MixoutPrompt.nD Cert.MixoutPrompt.τ Cert.MixoutPrompt.sig) → Buf (Elt Bits) ℓ) : Prop :=
  True

def Pre_MixoutPromptIdeal (m : (ℓ : Loc Cert.MixoutPromptIdeal.nD Cert.MixoutPromptIdeal.τ Cert.MixoutPromptIdeal.sig) → Buf (Elt Ideal) ℓ) : Prop :=
  True

def Pre_MixoutPromptIdeal_pool_input_finite [hPre_pool_input_finite : Cert.Pre_pool_input_finite.Facts] (m : (ℓ : Loc Cert.MixoutPromptIdeal.nD Cert.MixoutPromptIdeal.τ Cert.MixoutPromptIdeal.sig) → Buf (Elt Ideal) ℓ) : Prop :=
  ∀ c : Dev Cert.MixoutPromptIdeal.nD,
    (Cert.Pre_pool_input_finite.fn (F := Ideal) (m ((c.tc : Thread Cert.MixoutPromptIdeal.nD Cert.MixoutPromptIdeal.τ).loc Cert.MixoutPromptIdeal.main_arg0)) (m ((c.tc : Thread Cert.MixoutPromptIdeal.nD Cert.MixoutPromptIdeal.τ).loc Cert.MixoutPromptIdeal.main_arg1)) (m ((c.tc : Thread Cert.MixoutPromptIdeal.nD Cert.MixoutPromptIdeal.τ).loc Cert.MixoutPromptIdeal.main_arg2)) (m ((c.tc : Thread Cert.MixoutPromptIdeal.nD Cert.MixoutPromptIdeal.τ).loc Cert.MixoutPromptIdeal.main_arg3)) (m ((c.tc : Thread Cert.MixoutPromptIdeal.nD Cert.MixoutPromptIdeal.τ).loc Cert.MixoutPromptIdeal.main_arg4)) (m ((c.tc : Thread Cert.MixoutPromptIdeal.nD Cert.MixoutPromptIdeal.τ).loc Cert.MixoutPromptIdeal.main_arg5)) (m ((c.tc : Thread Cert.MixoutPromptIdeal.nD Cert.MixoutPromptIdeal.τ).loc Cert.MixoutPromptIdeal.main_arg6)) (m ((c.tc : Thread Cert.MixoutPromptIdeal.nD Cert.MixoutPromptIdeal.τ).loc Cert.MixoutPromptIdeal.main_arg7)) (m ((c.tc : Thread Cert.MixoutPromptIdeal.nD Cert.MixoutPromptIdeal.τ).loc Cert.MixoutPromptIdeal.main_arg8)) (m ((c.tc : Thread Cert.MixoutPromptIdeal.nD Cert.MixoutPromptIdeal.τ).loc Cert.MixoutPromptIdeal.main_arg9)) (m ((c.tc : Thread Cert.MixoutPromptIdeal.nD Cert.MixoutPromptIdeal.τ).loc Cert.MixoutPromptIdeal.main_arg10)) (m ((c.tc : Thread Cert.MixoutPromptIdeal.nD Cert.MixoutPromptIdeal.τ).loc Cert.MixoutPromptIdeal.main_arg11)) (m ((c.tc : Thread Cert.MixoutPromptIdeal.nD Cert.MixoutPromptIdeal.τ).loc Cert.MixoutPromptIdeal.main_arg12)) (m ((c.tc : Thread Cert.MixoutPromptIdeal.nD Cert.MixoutPromptIdeal.τ).loc Cert.MixoutPromptIdeal.main_arg13))) = (fun _ => 1#1)

def Pre_MixoutPromptRefIdeal (m : (ℓ : Loc Cert.MixoutPromptRefIdeal.nD Cert.MixoutPromptRefIdeal.τ Cert.MixoutPromptRefIdeal.sig) → Buf (Elt Ideal) ℓ) : Prop :=
  True

def Pre_MixoutPromptRefIdeal_pool_input_finite [hPre_pool_input_finite : Cert.Pre_pool_input_finite.Facts] (m : (ℓ : Loc Cert.MixoutPromptRefIdeal.nD Cert.MixoutPromptRefIdeal.τ Cert.MixoutPromptRefIdeal.sig) → Buf (Elt Ideal) ℓ) : Prop :=
  ∀ c : Dev Cert.MixoutPromptRefIdeal.nD,
    (Cert.Pre_pool_input_finite.fn (F := Ideal) (m ((c.tc : Thread Cert.MixoutPromptRefIdeal.nD Cert.MixoutPromptRefIdeal.τ).loc Cert.MixoutPromptRefIdeal.main_arg0)) (m ((c.tc : Thread Cert.MixoutPromptRefIdeal.nD Cert.MixoutPromptRefIdeal.τ).loc Cert.MixoutPromptRefIdeal.main_arg1)) (m ((c.tc : Thread Cert.MixoutPromptRefIdeal.nD Cert.MixoutPromptRefIdeal.τ).loc Cert.MixoutPromptRefIdeal.main_arg2)) (m ((c.tc : Thread Cert.MixoutPromptRefIdeal.nD Cert.MixoutPromptRefIdeal.τ).loc Cert.MixoutPromptRefIdeal.main_arg3)) (m ((c.tc : Thread Cert.MixoutPromptRefIdeal.nD Cert.MixoutPromptRefIdeal.τ).loc Cert.MixoutPromptRefIdeal.main_arg4)) (m ((c.tc : Thread Cert.MixoutPromptRefIdeal.nD Cert.MixoutPromptRefIdeal.τ).loc Cert.MixoutPromptRefIdeal.main_arg5)) (m ((c.tc : Thread Cert.MixoutPromptRefIdeal.nD Cert.MixoutPromptRefIdeal.τ).loc Cert.MixoutPromptRefIdeal.main_arg6)) (m ((c.tc : Thread Cert.MixoutPromptRefIdeal.nD Cert.MixoutPromptRefIdeal.τ).loc Cert.MixoutPromptRefIdeal.main_arg7)) (m ((c.tc : Thread Cert.MixoutPromptRefIdeal.nD Cert.MixoutPromptRefIdeal.τ).loc Cert.MixoutPromptRefIdeal.main_arg8)) (m ((c.tc : Thread Cert.MixoutPromptRefIdeal.nD Cert.MixoutPromptRefIdeal.τ).loc Cert.MixoutPromptRefIdeal.main_arg9)) (m ((c.tc : Thread Cert.MixoutPromptRefIdeal.nD Cert.MixoutPromptRefIdeal.τ).loc Cert.MixoutPromptRefIdeal.main_arg10)) (m ((c.tc : Thread Cert.MixoutPromptRefIdeal.nD Cert.MixoutPromptRefIdeal.τ).loc Cert.MixoutPromptRefIdeal.main_arg11)) (m ((c.tc : Thread Cert.MixoutPromptRefIdeal.nD Cert.MixoutPromptRefIdeal.τ).loc Cert.MixoutPromptRefIdeal.main_arg12)) (m ((c.tc : Thread Cert.MixoutPromptRefIdeal.nD Cert.MixoutPromptRefIdeal.τ).loc Cert.MixoutPromptRefIdeal.main_arg13))) = (fun _ => 1#1)

def quiescent_SampleAttn [hSampleAttn : Cert.SampleAttn.Facts] [hPre_pages_in_range : Cert.Pre_pages_in_range.Facts] : Prop :=
  ∀ (m : (ℓ : Loc Cert.SampleAttn.nD Cert.SampleAttn.τ Cert.SampleAttn.sig) → Buf (Elt Bits) ℓ) (g : Dev Cert.SampleAttn.nD → PrngReg), Pre_SampleAttn m →
    θ_run (Cert.SampleAttn.defs (F := Bits)) (onTc (τ := Cert.SampleAttn.τ) (Cert.SampleAttn.main (F := Bits))) ⟨m, fun _ => 0, g⟩ (fun r => (∀ c : Dev Cert.SampleAttn.nD,
      r.2.mem ((c.tc : Thread Cert.SampleAttn.nD Cert.SampleAttn.τ).loc Cert.SampleAttn.main_arg0) = m ((c.tc : Thread Cert.SampleAttn.nD Cert.SampleAttn.τ).loc Cert.SampleAttn.main_arg0)
      ∧ r.2.mem ((c.tc : Thread Cert.SampleAttn.nD Cert.SampleAttn.τ).loc Cert.SampleAttn.main_arg1) = m ((c.tc : Thread Cert.SampleAttn.nD Cert.SampleAttn.τ).loc Cert.SampleAttn.main_arg1)
      ∧ r.2.mem ((c.tc : Thread Cert.SampleAttn.nD Cert.SampleAttn.τ).loc Cert.SampleAttn.main_arg2) = m ((c.tc : Thread Cert.SampleAttn.nD Cert.SampleAttn.τ).loc Cert.SampleAttn.main_arg2)
      ∧ r.2.mem ((c.tc : Thread Cert.SampleAttn.nD Cert.SampleAttn.τ).loc Cert.SampleAttn.main_arg3) = m ((c.tc : Thread Cert.SampleAttn.nD Cert.SampleAttn.τ).loc Cert.SampleAttn.main_arg3)
      ∧ r.2.mem ((c.tc : Thread Cert.SampleAttn.nD Cert.SampleAttn.τ).loc Cert.SampleAttn.main_arg4) = m ((c.tc : Thread Cert.SampleAttn.nD Cert.SampleAttn.τ).loc Cert.SampleAttn.main_arg4)
      ∧ r.2.mem ((c.tc : Thread Cert.SampleAttn.nD Cert.SampleAttn.τ).loc Cert.SampleAttn.main_arg5) = m ((c.tc : Thread Cert.SampleAttn.nD Cert.SampleAttn.τ).loc Cert.SampleAttn.main_arg5)
      ∧ r.2.mem ((c.tc : Thread Cert.SampleAttn.nD Cert.SampleAttn.τ).loc Cert.SampleAttn.main_arg6) = m ((c.tc : Thread Cert.SampleAttn.nD Cert.SampleAttn.τ).loc Cert.SampleAttn.main_arg6))
      ∧ r.2.sem = fun _ => 0)

def quiescent_SampleAttnIdeal [hSampleAttnIdeal : Cert.SampleAttnIdeal.Facts] [hPre_pages_in_range : Cert.Pre_pages_in_range.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg), Pre_SampleAttnIdeal m →
    θ_run (Cert.SampleAttnIdeal.defs (F := Ideal)) (onTc (τ := Cert.SampleAttnIdeal.τ) (Cert.SampleAttnIdeal.main (F := Ideal))) ⟨m, fun _ => 0, g⟩ (fun r => (∀ c : Dev Cert.SampleAttnIdeal.nD,
      r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
      ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
      ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
      ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
      ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4)
      ∧ r.2.mem ((c.tc : Thread Cert.SampleAttnIdeal.nD Cert.SampleAttnIdeal.τ).loc Cert.SampleAttnIdeal.main_arg5) = m ((c.tc : Thread Cert.SampleAttnIdeal.nD Cert.SampleAttnIdeal.τ).loc Cert.SampleAttnIdeal.main_arg5)
      ∧ r.2.mem ((c.tc : Thread Cert.SampleAttnIdeal.nD Cert.SampleAttnIdeal.τ).loc Cert.SampleAttnIdeal.main_arg6) = m ((c.tc : Thread Cert.SampleAttnIdeal.nD Cert.SampleAttnIdeal.τ).loc Cert.SampleAttnIdeal.main_arg6))
      ∧ r.2.sem = fun _ => 0)

def quiescent_SampleAttnIdeal_pre_softmax_defined [hSampleAttnIdeal : Cert.SampleAttnIdeal.Facts] [hPre_softmax_defined : Cert.Pre_softmax_defined.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg), Pre_SampleAttnIdeal_softmax_defined m →
    θ_run (Cert.SampleAttnIdeal.defs (F := Ideal)) (onTc (τ := Cert.SampleAttnIdeal.τ) (Cert.SampleAttnIdeal.main (F := Ideal))) ⟨m, fun _ => 0, g⟩ (fun r => (∀ c : Dev Cert.SampleAttnIdeal.nD,
      r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
      ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
      ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
      ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
      ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4)
      ∧ r.2.mem ((c.tc : Thread Cert.SampleAttnIdeal.nD Cert.SampleAttnIdeal.τ).loc Cert.SampleAttnIdeal.main_arg5) = m ((c.tc : Thread Cert.SampleAttnIdeal.nD Cert.SampleAttnIdeal.τ).loc Cert.SampleAttnIdeal.main_arg5)
      ∧ r.2.mem ((c.tc : Thread Cert.SampleAttnIdeal.nD Cert.SampleAttnIdeal.τ).loc Cert.SampleAttnIdeal.main_arg6) = m ((c.tc : Thread Cert.SampleAttnIdeal.nD Cert.SampleAttnIdeal.τ).loc Cert.SampleAttnIdeal.main_arg6))
      ∧ r.2.sem = fun _ => 0)

def quiescent_SampleAttnRefIdeal [hSampleAttnRefIdeal : Cert.SampleAttnRefIdeal.Facts] : Prop :=
  ∀ (m : (ℓ : Loc Cert.SampleAttnRefIdeal.nD Cert.SampleAttnRefIdeal.τ Cert.SampleAttnRefIdeal.sig) → Buf (Elt Ideal) ℓ) (g : Dev Cert.SampleAttnRefIdeal.nD → PrngReg), Pre_SampleAttnRefIdeal m →
    θ_run (Cert.SampleAttnRefIdeal.defs (F := Ideal)) (onTc (τ := Cert.SampleAttnRefIdeal.τ) (Cert.SampleAttnRefIdeal.main (F := Ideal))) ⟨m, fun _ => 0, g⟩ (fun r => (∀ c : Dev Cert.SampleAttnRefIdeal.nD,
      r.2.mem ((c.tc : Thread Cert.SampleAttnRefIdeal.nD Cert.SampleAttnRefIdeal.τ).loc Cert.SampleAttnRefIdeal.main_arg0) = m ((c.tc : Thread Cert.SampleAttnRefIdeal.nD Cert.SampleAttnRefIdeal.τ).loc Cert.SampleAttnRefIdeal.main_arg0)
      ∧ r.2.mem ((c.tc : Thread Cert.SampleAttnRefIdeal.nD Cert.SampleAttnRefIdeal.τ).loc Cert.SampleAttnRefIdeal.main_arg1) = m ((c.tc : Thread Cert.SampleAttnRefIdeal.nD Cert.SampleAttnRefIdeal.τ).loc Cert.SampleAttnRefIdeal.main_arg1)
      ∧ r.2.mem ((c.tc : Thread Cert.SampleAttnRefIdeal.nD Cert.SampleAttnRefIdeal.τ).loc Cert.SampleAttnRefIdeal.main_arg2) = m ((c.tc : Thread Cert.SampleAttnRefIdeal.nD Cert.SampleAttnRefIdeal.τ).loc Cert.SampleAttnRefIdeal.main_arg2)
      ∧ r.2.mem ((c.tc : Thread Cert.SampleAttnRefIdeal.nD Cert.SampleAttnRefIdeal.τ).loc Cert.SampleAttnRefIdeal.main_arg3) = m ((c.tc : Thread Cert.SampleAttnRefIdeal.nD Cert.SampleAttnRefIdeal.τ).loc Cert.SampleAttnRefIdeal.main_arg3)
      ∧ r.2.mem ((c.tc : Thread Cert.SampleAttnRefIdeal.nD Cert.SampleAttnRefIdeal.τ).loc Cert.SampleAttnRefIdeal.main_arg4) = m ((c.tc : Thread Cert.SampleAttnRefIdeal.nD Cert.SampleAttnRefIdeal.τ).loc Cert.SampleAttnRefIdeal.main_arg4)
      ∧ r.2.mem ((c.tc : Thread Cert.SampleAttnRefIdeal.nD Cert.SampleAttnRefIdeal.τ).loc Cert.SampleAttnRefIdeal.main_arg5) = m ((c.tc : Thread Cert.SampleAttnRefIdeal.nD Cert.SampleAttnRefIdeal.τ).loc Cert.SampleAttnRefIdeal.main_arg5)
      ∧ r.2.mem ((c.tc : Thread Cert.SampleAttnRefIdeal.nD Cert.SampleAttnRefIdeal.τ).loc Cert.SampleAttnRefIdeal.main_arg6) = m ((c.tc : Thread Cert.SampleAttnRefIdeal.nD Cert.SampleAttnRefIdeal.τ).loc Cert.SampleAttnRefIdeal.main_arg6))
      ∧ r.2.sem = fun _ => 0)

def quiescent_SampleAttnRefIdeal_pre_softmax_defined [hSampleAttnRefIdeal : Cert.SampleAttnRefIdeal.Facts] [hPre_softmax_defined : Cert.Pre_softmax_defined.Facts] : Prop :=
  ∀ (m : (ℓ : Loc Cert.SampleAttnRefIdeal.nD Cert.SampleAttnRefIdeal.τ Cert.SampleAttnRefIdeal.sig) → Buf (Elt Ideal) ℓ) (g : Dev Cert.SampleAttnRefIdeal.nD → PrngReg), Pre_SampleAttnRefIdeal_softmax_defined m →
    θ_run (Cert.SampleAttnRefIdeal.defs (F := Ideal)) (onTc (τ := Cert.SampleAttnRefIdeal.τ) (Cert.SampleAttnRefIdeal.main (F := Ideal))) ⟨m, fun _ => 0, g⟩ (fun r => (∀ c : Dev Cert.SampleAttnRefIdeal.nD,
      r.2.mem ((c.tc : Thread Cert.SampleAttnRefIdeal.nD Cert.SampleAttnRefIdeal.τ).loc Cert.SampleAttnRefIdeal.main_arg0) = m ((c.tc : Thread Cert.SampleAttnRefIdeal.nD Cert.SampleAttnRefIdeal.τ).loc Cert.SampleAttnRefIdeal.main_arg0)
      ∧ r.2.mem ((c.tc : Thread Cert.SampleAttnRefIdeal.nD Cert.SampleAttnRefIdeal.τ).loc Cert.SampleAttnRefIdeal.main_arg1) = m ((c.tc : Thread Cert.SampleAttnRefIdeal.nD Cert.SampleAttnRefIdeal.τ).loc Cert.SampleAttnRefIdeal.main_arg1)
      ∧ r.2.mem ((c.tc : Thread Cert.SampleAttnRefIdeal.nD Cert.SampleAttnRefIdeal.τ).loc Cert.SampleAttnRefIdeal.main_arg2) = m ((c.tc : Thread Cert.SampleAttnRefIdeal.nD Cert.SampleAttnRefIdeal.τ).loc Cert.SampleAttnRefIdeal.main_arg2)
      ∧ r.2.mem ((c.tc : Thread Cert.SampleAttnRefIdeal.nD Cert.SampleAttnRefIdeal.τ).loc Cert.SampleAttnRefIdeal.main_arg3) = m ((c.tc : Thread Cert.SampleAttnRefIdeal.nD Cert.SampleAttnRefIdeal.τ).loc Cert.SampleAttnRefIdeal.main_arg3)
      ∧ r.2.mem ((c.tc : Thread Cert.SampleAttnRefIdeal.nD Cert.SampleAttnRefIdeal.τ).loc Cert.SampleAttnRefIdeal.main_arg4) = m ((c.tc : Thread Cert.SampleAttnRefIdeal.nD Cert.SampleAttnRefIdeal.τ).loc Cert.SampleAttnRefIdeal.main_arg4)
      ∧ r.2.mem ((c.tc : Thread Cert.SampleAttnRefIdeal.nD Cert.SampleAttnRefIdeal.τ).loc Cert.SampleAttnRefIdeal.main_arg5) = m ((c.tc : Thread Cert.SampleAttnRefIdeal.nD Cert.SampleAttnRefIdeal.τ).loc Cert.SampleAttnRefIdeal.main_arg5)
      ∧ r.2.mem ((c.tc : Thread Cert.SampleAttnRefIdeal.nD Cert.SampleAttnRefIdeal.τ).loc Cert.SampleAttnRefIdeal.main_arg6) = m ((c.tc : Thread Cert.SampleAttnRefIdeal.nD Cert.SampleAttnRefIdeal.τ).loc Cert.SampleAttnRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2))
      ∧ r.2.sem = fun _ => 0)

def quiescent_InprojSampleRefIdeal [hInprojSampleRefIdeal : Cert.InprojSampleRefIdeal.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1)
      ∧ r.2.mem ((c.tc : Thread Cert.InprojSampleRefIdeal.nD Cert.InprojSampleRefIdeal.τ).loc Cert.InprojSampleRefIdeal.main_arg2) = m ((c.tc : Thread Cert.InprojSampleRefIdeal.nD Cert.InprojSampleRefIdeal.τ).loc Cert.InprojSampleRefIdeal.main_arg2))
      ∧ r.2.sem = fun _ => 0)

def quiescent_MixoutSample [hMixoutSample : Cert.MixoutSample.Facts] : Prop :=
  ∀ (m : (ℓ : Loc Cert.MixoutSample.nD Cert.MixoutSample.τ Cert.MixoutSample.sig) → Buf (Elt Bits) ℓ) (g : Dev Cert.MixoutSample.nD → PrngReg), Pre_MixoutSample m →
    θ_run (Cert.MixoutSample.defs (F := Bits)) (onTc (τ := Cert.MixoutSample.τ) (Cert.MixoutSample.main (F := Bits))) ⟨m, fun _ => 0, g⟩ (fun r => (∀ c : Dev Cert.MixoutSample.nD,
      r.2.mem ((c.tc : Thread Cert.MixoutSample.nD Cert.MixoutSample.τ).loc Cert.MixoutSample.main_arg0) = m ((c.tc : Thread Cert.MixoutSample.nD Cert.MixoutSample.τ).loc Cert.MixoutSample.main_arg0)
      ∧ r.2.mem ((c.tc : Thread Cert.MixoutSample.nD Cert.MixoutSample.τ).loc Cert.MixoutSample.main_arg1) = m ((c.tc : Thread Cert.MixoutSample.nD Cert.MixoutSample.τ).loc Cert.MixoutSample.main_arg1)
      ∧ r.2.mem ((c.tc : Thread Cert.MixoutSample.nD Cert.MixoutSample.τ).loc Cert.MixoutSample.main_arg2) = m ((c.tc : Thread Cert.MixoutSample.nD Cert.MixoutSample.τ).loc Cert.MixoutSample.main_arg2)
      ∧ r.2.mem ((c.tc : Thread Cert.MixoutSample.nD Cert.MixoutSample.τ).loc Cert.MixoutSample.main_arg3) = m ((c.tc : Thread Cert.MixoutSample.nD Cert.MixoutSample.τ).loc Cert.MixoutSample.main_arg3)
      ∧ r.2.mem ((c.tc : Thread Cert.MixoutSample.nD Cert.MixoutSample.τ).loc Cert.MixoutSample.main_arg4) = m ((c.tc : Thread Cert.MixoutSample.nD Cert.MixoutSample.τ).loc Cert.MixoutSample.main_arg4)
      ∧ r.2.mem ((c.tc : Thread Cert.MixoutSample.nD Cert.MixoutSample.τ).loc Cert.MixoutSample.main_arg5) = m ((c.tc : Thread Cert.MixoutSample.nD Cert.MixoutSample.τ).loc Cert.MixoutSample.main_arg5)
      ∧ r.2.mem ((c.tc : Thread Cert.MixoutSample.nD Cert.MixoutSample.τ).loc Cert.MixoutSample.main_arg6) = m ((c.tc : Thread Cert.MixoutSample.nD Cert.MixoutSample.τ).loc Cert.MixoutSample.main_arg6)
      ∧ r.2.mem ((c.tc : Thread Cert.MixoutSample.nD Cert.MixoutSample.τ).loc Cert.MixoutSample.main_arg7) = m ((c.tc : Thread Cert.MixoutSample.nD Cert.MixoutSample.τ).loc Cert.MixoutSample.main_arg7)
      ∧ r.2.mem ((c.tc : Thread Cert.MixoutSample.nD Cert.MixoutSample.τ).loc Cert.MixoutSample.main_arg8) = m ((c.tc : Thread Cert.MixoutSample.nD Cert.MixoutSample.τ).loc Cert.MixoutSample.main_arg8)
      ∧ r.2.mem ((c.tc : Thread Cert.MixoutSample.nD Cert.MixoutSample.τ).loc Cert.MixoutSample.main_arg9) = m ((c.tc : Thread Cert.MixoutSample.nD Cert.MixoutSample.τ).loc Cert.MixoutSample.main_arg9)
      ∧ r.2.mem ((c.tc : Thread Cert.MixoutSample.nD Cert.MixoutSample.τ).loc Cert.MixoutSample.main_arg10) = m ((c.tc : Thread Cert.MixoutSample.nD Cert.MixoutSample.τ).loc Cert.MixoutSample.main_arg10)
      ∧ r.2.mem ((c.tc : Thread Cert.MixoutSample.nD Cert.MixoutSample.τ).loc Cert.MixoutSample.main_arg11) = m ((c.tc : Thread Cert.MixoutSample.nD Cert.MixoutSample.τ).loc Cert.MixoutSample.main_arg11)
      ∧ r.2.mem ((c.tc : Thread Cert.MixoutSample.nD Cert.MixoutSample.τ).loc Cert.MixoutSample.main_arg12) = m ((c.tc : Thread Cert.MixoutSample.nD Cert.MixoutSample.τ).loc Cert.MixoutSample.main_arg12)
      ∧ r.2.mem ((c.tc : Thread Cert.MixoutSample.nD Cert.MixoutSample.τ).loc Cert.MixoutSample.main_arg13) = m ((c.tc : Thread Cert.MixoutSample.nD Cert.MixoutSample.τ).loc Cert.MixoutSample.main_arg13)
      ∧ r.2.mem ((c.tc : Thread Cert.MixoutSample.nD Cert.MixoutSample.τ).loc Cert.MixoutSample.main_arg14) = m ((c.tc : Thread Cert.MixoutSample.nD Cert.MixoutSample.τ).loc Cert.MixoutSample.main_arg14)
      ∧ r.2.mem ((c.tc : Thread Cert.MixoutSample.nD Cert.MixoutSample.τ).loc Cert.MixoutSample.main_arg15) = m ((c.tc : Thread Cert.MixoutSample.nD Cert.MixoutSample.τ).loc Cert.MixoutSample.main_arg15))
      ∧ r.2.sem = fun _ => 0)

def quiescent_MixoutSampleIdeal [hMixoutSampleIdeal : Cert.MixoutSampleIdeal.Facts] : Prop :=
  ∀ (m : (ℓ : Loc Cert.MixoutSampleIdeal.nD Cert.MixoutSampleIdeal.τ Cert.MixoutSampleIdeal.sig) → Buf (Elt Ideal) ℓ) (g : Dev Cert.MixoutSampleIdeal.nD → PrngReg), Pre_MixoutSampleIdeal m →
    θ_run (Cert.MixoutSampleIdeal.defs (F := Ideal)) (onTc (τ := Cert.MixoutSampleIdeal.τ) (Cert.MixoutSampleIdeal.main (F := Ideal))) ⟨m, fun _ => 0, g⟩ (fun r => (∀ c : Dev Cert.MixoutSampleIdeal.nD,
      r.2.mem ((c.tc : Thread Cert.MixoutSampleIdeal.nD Cert.MixoutSampleIdeal.τ).loc Cert.MixoutSampleIdeal.main_arg0) = m ((c.tc : Thread Cert.MixoutSampleIdeal.nD Cert.MixoutSampleIdeal.τ).loc Cert.MixoutSampleIdeal.main_arg0)
      ∧ r.2.mem ((c.tc : Thread Cert.MixoutSampleIdeal.nD Cert.MixoutSampleIdeal.τ).loc Cert.MixoutSampleIdeal.main_arg1) = m ((c.tc : Thread Cert.MixoutSampleIdeal.nD Cert.MixoutSampleIdeal.τ).loc Cert.MixoutSampleIdeal.main_arg1)
      ∧ r.2.mem ((c.tc : Thread Cert.MixoutSampleIdeal.nD Cert.MixoutSampleIdeal.τ).loc Cert.MixoutSampleIdeal.main_arg2) = m ((c.tc : Thread Cert.MixoutSampleIdeal.nD Cert.MixoutSampleIdeal.τ).loc Cert.MixoutSampleIdeal.main_arg2)
      ∧ r.2.mem ((c.tc : Thread Cert.MixoutSampleIdeal.nD Cert.MixoutSampleIdeal.τ).loc Cert.MixoutSampleIdeal.main_arg3) = m ((c.tc : Thread Cert.MixoutSampleIdeal.nD Cert.MixoutSampleIdeal.τ).loc Cert.MixoutSampleIdeal.main_arg3)
      ∧ r.2.mem ((c.tc : Thread Cert.MixoutSampleIdeal.nD Cert.MixoutSampleIdeal.τ).loc Cert.MixoutSampleIdeal.main_arg4) = m ((c.tc : Thread Cert.MixoutSampleIdeal.nD Cert.MixoutSampleIdeal.τ).loc Cert.MixoutSampleIdeal.main_arg4)
      ∧ r.2.mem ((c.tc : Thread Cert.MixoutSampleIdeal.nD Cert.MixoutSampleIdeal.τ).loc Cert.MixoutSampleIdeal.main_arg5) = m ((c.tc : Thread Cert.MixoutSampleIdeal.nD Cert.MixoutSampleIdeal.τ).loc Cert.MixoutSampleIdeal.main_arg5)
      ∧ r.2.mem ((c.tc : Thread Cert.MixoutSampleIdeal.nD Cert.MixoutSampleIdeal.τ).loc Cert.MixoutSampleIdeal.main_arg6) = m ((c.tc : Thread Cert.MixoutSampleIdeal.nD Cert.MixoutSampleIdeal.τ).loc Cert.MixoutSampleIdeal.main_arg6)
      ∧ r.2.mem ((c.tc : Thread Cert.MixoutSampleIdeal.nD Cert.MixoutSampleIdeal.τ).loc Cert.MixoutSampleIdeal.main_arg7) = m ((c.tc : Thread Cert.MixoutSampleIdeal.nD Cert.MixoutSampleIdeal.τ).loc Cert.MixoutSampleIdeal.main_arg7)
      ∧ r.2.mem ((c.tc : Thread Cert.MixoutSampleIdeal.nD Cert.MixoutSampleIdeal.τ).loc Cert.MixoutSampleIdeal.main_arg8) = m ((c.tc : Thread Cert.MixoutSampleIdeal.nD Cert.MixoutSampleIdeal.τ).loc Cert.MixoutSampleIdeal.main_arg8)
      ∧ r.2.mem ((c.tc : Thread Cert.MixoutSampleIdeal.nD Cert.MixoutSampleIdeal.τ).loc Cert.MixoutSampleIdeal.main_arg9) = m ((c.tc : Thread Cert.MixoutSampleIdeal.nD Cert.MixoutSampleIdeal.τ).loc Cert.MixoutSampleIdeal.main_arg9)
      ∧ r.2.mem ((c.tc : Thread Cert.MixoutSampleIdeal.nD Cert.MixoutSampleIdeal.τ).loc Cert.MixoutSampleIdeal.main_arg10) = m ((c.tc : Thread Cert.MixoutSampleIdeal.nD Cert.MixoutSampleIdeal.τ).loc Cert.MixoutSampleIdeal.main_arg10)
      ∧ r.2.mem ((c.tc : Thread Cert.MixoutSampleIdeal.nD Cert.MixoutSampleIdeal.τ).loc Cert.MixoutSampleIdeal.main_arg11) = m ((c.tc : Thread Cert.MixoutSampleIdeal.nD Cert.MixoutSampleIdeal.τ).loc Cert.MixoutSampleIdeal.main_arg11)
      ∧ r.2.mem ((c.tc : Thread Cert.MixoutSampleIdeal.nD Cert.MixoutSampleIdeal.τ).loc Cert.MixoutSampleIdeal.main_arg12) = m ((c.tc : Thread Cert.MixoutSampleIdeal.nD Cert.MixoutSampleIdeal.τ).loc Cert.MixoutSampleIdeal.main_arg12)
      ∧ r.2.mem ((c.tc : Thread Cert.MixoutSampleIdeal.nD Cert.MixoutSampleIdeal.τ).loc Cert.MixoutSampleIdeal.main_arg13) = m ((c.tc : Thread Cert.MixoutSampleIdeal.nD Cert.MixoutSampleIdeal.τ).loc Cert.MixoutSampleIdeal.main_arg13)
      ∧ r.2.mem ((c.tc : Thread Cert.MixoutSampleIdeal.nD Cert.MixoutSampleIdeal.τ).loc Cert.MixoutSampleIdeal.main_arg14) = m ((c.tc : Thread Cert.MixoutSampleIdeal.nD Cert.MixoutSampleIdeal.τ).loc Cert.MixoutSampleIdeal.main_arg14)
      ∧ r.2.mem ((c.tc : Thread Cert.MixoutSampleIdeal.nD Cert.MixoutSampleIdeal.τ).loc Cert.MixoutSampleIdeal.main_arg15) = m ((c.tc : Thread Cert.MixoutSampleIdeal.nD Cert.MixoutSampleIdeal.τ).loc Cert.MixoutSampleIdeal.main_arg15))
      ∧ r.2.sem = fun _ => 0)

def quiescent_MixoutSampleIdeal_pre_pool_state_finite [hMixoutSampleIdeal : Cert.MixoutSampleIdeal.Facts] [hPre_pool_state_finite : Cert.Pre_pool_state_finite.Facts] : Prop :=
  ∀ (m : (ℓ : Loc Cert.MixoutSampleIdeal.nD Cert.MixoutSampleIdeal.τ Cert.MixoutSampleIdeal.sig) → Buf (Elt Ideal) ℓ) (g : Dev Cert.MixoutSampleIdeal.nD → PrngReg), Pre_MixoutSampleIdeal_pool_state_finite m →
    θ_run (Cert.MixoutSampleIdeal.defs (F := Ideal)) (onTc (τ := Cert.MixoutSampleIdeal.τ) (Cert.MixoutSampleIdeal.main (F := Ideal))) ⟨m, fun _ => 0, g⟩ (fun r => (∀ c : Dev Cert.MixoutSampleIdeal.nD,
      r.2.mem ((c.tc : Thread Cert.MixoutSampleIdeal.nD Cert.MixoutSampleIdeal.τ).loc Cert.MixoutSampleIdeal.main_arg0) = m ((c.tc : Thread Cert.MixoutSampleIdeal.nD Cert.MixoutSampleIdeal.τ).loc Cert.MixoutSampleIdeal.main_arg0)
      ∧ r.2.mem ((c.tc : Thread Cert.MixoutSampleIdeal.nD Cert.MixoutSampleIdeal.τ).loc Cert.MixoutSampleIdeal.main_arg1) = m ((c.tc : Thread Cert.MixoutSampleIdeal.nD Cert.MixoutSampleIdeal.τ).loc Cert.MixoutSampleIdeal.main_arg1)
      ∧ r.2.mem ((c.tc : Thread Cert.MixoutSampleIdeal.nD Cert.MixoutSampleIdeal.τ).loc Cert.MixoutSampleIdeal.main_arg2) = m ((c.tc : Thread Cert.MixoutSampleIdeal.nD Cert.MixoutSampleIdeal.τ).loc Cert.MixoutSampleIdeal.main_arg2)
      ∧ r.2.mem ((c.tc : Thread Cert.MixoutSampleIdeal.nD Cert.MixoutSampleIdeal.τ).loc Cert.MixoutSampleIdeal.main_arg3) = m ((c.tc : Thread Cert.MixoutSampleIdeal.nD Cert.MixoutSampleIdeal.τ).loc Cert.MixoutSampleIdeal.main_arg3)
      ∧ r.2.mem ((c.tc : Thread Cert.MixoutSampleIdeal.nD Cert.MixoutSampleIdeal.τ).loc Cert.MixoutSampleIdeal.main_arg4) = m ((c.tc : Thread Cert.MixoutSampleIdeal.nD Cert.MixoutSampleIdeal.τ).loc Cert.MixoutSampleIdeal.main_arg4)
      ∧ r.2.mem ((c.tc : Thread Cert.MixoutSampleIdeal.nD Cert.MixoutSampleIdeal.τ).loc Cert.MixoutSampleIdeal.main_arg5) = m ((c.tc : Thread Cert.MixoutSampleIdeal.nD Cert.MixoutSampleIdeal.τ).loc Cert.MixoutSampleIdeal.main_arg5)
      ∧ r.2.mem ((c.tc : Thread Cert.MixoutSampleIdeal.nD Cert.MixoutSampleIdeal.τ).loc Cert.MixoutSampleIdeal.main_arg6) = m ((c.tc : Thread Cert.MixoutSampleIdeal.nD Cert.MixoutSampleIdeal.τ).loc Cert.MixoutSampleIdeal.main_arg6)
      ∧ r.2.mem ((c.tc : Thread Cert.MixoutSampleIdeal.nD Cert.MixoutSampleIdeal.τ).loc Cert.MixoutSampleIdeal.main_arg7) = m ((c.tc : Thread Cert.MixoutSampleIdeal.nD Cert.MixoutSampleIdeal.τ).loc Cert.MixoutSampleIdeal.main_arg7)
      ∧ r.2.mem ((c.tc : Thread Cert.MixoutSampleIdeal.nD Cert.MixoutSampleIdeal.τ).loc Cert.MixoutSampleIdeal.main_arg8) = m ((c.tc : Thread Cert.MixoutSampleIdeal.nD Cert.MixoutSampleIdeal.τ).loc Cert.MixoutSampleIdeal.main_arg8)
      ∧ r.2.mem ((c.tc : Thread Cert.MixoutSampleIdeal.nD Cert.MixoutSampleIdeal.τ).loc Cert.MixoutSampleIdeal.main_arg9) = m ((c.tc : Thread Cert.MixoutSampleIdeal.nD Cert.MixoutSampleIdeal.τ).loc Cert.MixoutSampleIdeal.main_arg9)
      ∧ r.2.mem ((c.tc : Thread Cert.MixoutSampleIdeal.nD Cert.MixoutSampleIdeal.τ).loc Cert.MixoutSampleIdeal.main_arg10) = m ((c.tc : Thread Cert.MixoutSampleIdeal.nD Cert.MixoutSampleIdeal.τ).loc Cert.MixoutSampleIdeal.main_arg10)
      ∧ r.2.mem ((c.tc : Thread Cert.MixoutSampleIdeal.nD Cert.MixoutSampleIdeal.τ).loc Cert.MixoutSampleIdeal.main_arg11) = m ((c.tc : Thread Cert.MixoutSampleIdeal.nD Cert.MixoutSampleIdeal.τ).loc Cert.MixoutSampleIdeal.main_arg11)
      ∧ r.2.mem ((c.tc : Thread Cert.MixoutSampleIdeal.nD Cert.MixoutSampleIdeal.τ).loc Cert.MixoutSampleIdeal.main_arg12) = m ((c.tc : Thread Cert.MixoutSampleIdeal.nD Cert.MixoutSampleIdeal.τ).loc Cert.MixoutSampleIdeal.main_arg12)
      ∧ r.2.mem ((c.tc : Thread Cert.MixoutSampleIdeal.nD Cert.MixoutSampleIdeal.τ).loc Cert.MixoutSampleIdeal.main_arg13) = m ((c.tc : Thread Cert.MixoutSampleIdeal.nD Cert.MixoutSampleIdeal.τ).loc Cert.MixoutSampleIdeal.main_arg13)
      ∧ r.2.mem ((c.tc : Thread Cert.MixoutSampleIdeal.nD Cert.MixoutSampleIdeal.τ).loc Cert.MixoutSampleIdeal.main_arg14) = m ((c.tc : Thread Cert.MixoutSampleIdeal.nD Cert.MixoutSampleIdeal.τ).loc Cert.MixoutSampleIdeal.main_arg14)
      ∧ r.2.mem ((c.tc : Thread Cert.MixoutSampleIdeal.nD Cert.MixoutSampleIdeal.τ).loc Cert.MixoutSampleIdeal.main_arg15) = m ((c.tc : Thread Cert.MixoutSampleIdeal.nD Cert.MixoutSampleIdeal.τ).loc Cert.MixoutSampleIdeal.main_arg15))
      ∧ r.2.sem = fun _ => 0)

def quiescent_MixoutSampleRefIdeal [hMixoutSampleRefIdeal : Cert.MixoutSampleRefIdeal.Facts] : Prop :=
  ∀ (m : (ℓ : Loc Cert.MixoutSampleRefIdeal.nD Cert.MixoutSampleRefIdeal.τ Cert.MixoutSampleRefIdeal.sig) → Buf (Elt Ideal) ℓ) (g : Dev Cert.MixoutSampleRefIdeal.nD → PrngReg), Pre_MixoutSampleRefIdeal m →
    θ_run (Cert.MixoutSampleRefIdeal.defs (F := Ideal)) (onTc (τ := Cert.MixoutSampleRefIdeal.τ) (Cert.MixoutSampleRefIdeal.main (F := Ideal))) ⟨m, fun _ => 0, g⟩ (fun r => (∀ c : Dev Cert.MixoutSampleRefIdeal.nD,
      r.2.mem ((c.tc : Thread Cert.MixoutSampleRefIdeal.nD Cert.MixoutSampleRefIdeal.τ).loc Cert.MixoutSampleRefIdeal.main_arg0) = m ((c.tc : Thread Cert.MixoutSampleRefIdeal.nD Cert.MixoutSampleRefIdeal.τ).loc Cert.MixoutSampleRefIdeal.main_arg0)
      ∧ r.2.mem ((c.tc : Thread Cert.MixoutSampleRefIdeal.nD Cert.MixoutSampleRefIdeal.τ).loc Cert.MixoutSampleRefIdeal.main_arg1) = m ((c.tc : Thread Cert.MixoutSampleRefIdeal.nD Cert.MixoutSampleRefIdeal.τ).loc Cert.MixoutSampleRefIdeal.main_arg1)
      ∧ r.2.mem ((c.tc : Thread Cert.MixoutSampleRefIdeal.nD Cert.MixoutSampleRefIdeal.τ).loc Cert.MixoutSampleRefIdeal.main_arg2) = m ((c.tc : Thread Cert.MixoutSampleRefIdeal.nD Cert.MixoutSampleRefIdeal.τ).loc Cert.MixoutSampleRefIdeal.main_arg2)
      ∧ r.2.mem ((c.tc : Thread Cert.MixoutSampleRefIdeal.nD Cert.MixoutSampleRefIdeal.τ).loc Cert.MixoutSampleRefIdeal.main_arg3) = m ((c.tc : Thread Cert.MixoutSampleRefIdeal.nD Cert.MixoutSampleRefIdeal.τ).loc Cert.MixoutSampleRefIdeal.main_arg3)
      ∧ r.2.mem ((c.tc : Thread Cert.MixoutSampleRefIdeal.nD Cert.MixoutSampleRefIdeal.τ).loc Cert.MixoutSampleRefIdeal.main_arg4) = m ((c.tc : Thread Cert.MixoutSampleRefIdeal.nD Cert.MixoutSampleRefIdeal.τ).loc Cert.MixoutSampleRefIdeal.main_arg4)
      ∧ r.2.mem ((c.tc : Thread Cert.MixoutSampleRefIdeal.nD Cert.MixoutSampleRefIdeal.τ).loc Cert.MixoutSampleRefIdeal.main_arg5) = m ((c.tc : Thread Cert.MixoutSampleRefIdeal.nD Cert.MixoutSampleRefIdeal.τ).loc Cert.MixoutSampleRefIdeal.main_arg5)
      ∧ r.2.mem ((c.tc : Thread Cert.MixoutSampleRefIdeal.nD Cert.MixoutSampleRefIdeal.τ).loc Cert.MixoutSampleRefIdeal.main_arg6) = m ((c.tc : Thread Cert.MixoutSampleRefIdeal.nD Cert.MixoutSampleRefIdeal.τ).loc Cert.MixoutSampleRefIdeal.main_arg6)
      ∧ r.2.mem ((c.tc : Thread Cert.MixoutSampleRefIdeal.nD Cert.MixoutSampleRefIdeal.τ).loc Cert.MixoutSampleRefIdeal.main_arg7) = m ((c.tc : Thread Cert.MixoutSampleRefIdeal.nD Cert.MixoutSampleRefIdeal.τ).loc Cert.MixoutSampleRefIdeal.main_arg7)
      ∧ r.2.mem ((c.tc : Thread Cert.MixoutSampleRefIdeal.nD Cert.MixoutSampleRefIdeal.τ).loc Cert.MixoutSampleRefIdeal.main_arg8) = m ((c.tc : Thread Cert.MixoutSampleRefIdeal.nD Cert.MixoutSampleRefIdeal.τ).loc Cert.MixoutSampleRefIdeal.main_arg8)
      ∧ r.2.mem ((c.tc : Thread Cert.MixoutSampleRefIdeal.nD Cert.MixoutSampleRefIdeal.τ).loc Cert.MixoutSampleRefIdeal.main_arg9) = m ((c.tc : Thread Cert.MixoutSampleRefIdeal.nD Cert.MixoutSampleRefIdeal.τ).loc Cert.MixoutSampleRefIdeal.main_arg9)
      ∧ r.2.mem ((c.tc : Thread Cert.MixoutSampleRefIdeal.nD Cert.MixoutSampleRefIdeal.τ).loc Cert.MixoutSampleRefIdeal.main_arg10) = m ((c.tc : Thread Cert.MixoutSampleRefIdeal.nD Cert.MixoutSampleRefIdeal.τ).loc Cert.MixoutSampleRefIdeal.main_arg10)
      ∧ r.2.mem ((c.tc : Thread Cert.MixoutSampleRefIdeal.nD Cert.MixoutSampleRefIdeal.τ).loc Cert.MixoutSampleRefIdeal.main_arg11) = m ((c.tc : Thread Cert.MixoutSampleRefIdeal.nD Cert.MixoutSampleRefIdeal.τ).loc Cert.MixoutSampleRefIdeal.main_arg11)
      ∧ r.2.mem ((c.tc : Thread Cert.MixoutSampleRefIdeal.nD Cert.MixoutSampleRefIdeal.τ).loc Cert.MixoutSampleRefIdeal.main_arg12) = m ((c.tc : Thread Cert.MixoutSampleRefIdeal.nD Cert.MixoutSampleRefIdeal.τ).loc Cert.MixoutSampleRefIdeal.main_arg12)
      ∧ r.2.mem ((c.tc : Thread Cert.MixoutSampleRefIdeal.nD Cert.MixoutSampleRefIdeal.τ).loc Cert.MixoutSampleRefIdeal.main_arg13) = m ((c.tc : Thread Cert.MixoutSampleRefIdeal.nD Cert.MixoutSampleRefIdeal.τ).loc Cert.MixoutSampleRefIdeal.main_arg13)
      ∧ r.2.mem ((c.tc : Thread Cert.MixoutSampleRefIdeal.nD Cert.MixoutSampleRefIdeal.τ).loc Cert.MixoutSampleRefIdeal.main_arg14) = m ((c.tc : Thread Cert.MixoutSampleRefIdeal.nD Cert.MixoutSampleRefIdeal.τ).loc Cert.MixoutSampleRefIdeal.main_arg14)
      ∧ r.2.mem ((c.tc : Thread Cert.MixoutSampleRefIdeal.nD Cert.MixoutSampleRefIdeal.τ).loc Cert.MixoutSampleRefIdeal.main_arg15) = m ((c.tc : Thread Cert.MixoutSampleRefIdeal.nD Cert.MixoutSampleRefIdeal.τ).loc Cert.MixoutSampleRefIdeal.main_arg15))
      ∧ r.2.sem = fun _ => 0)

def quiescent_MixoutSampleRefIdeal_pre_pool_state_finite [hMixoutSampleRefIdeal : Cert.MixoutSampleRefIdeal.Facts] [hPre_pool_state_finite : Cert.Pre_pool_state_finite.Facts] : Prop :=
  ∀ (m : (ℓ : Loc Cert.MixoutSampleRefIdeal.nD Cert.MixoutSampleRefIdeal.τ Cert.MixoutSampleRefIdeal.sig) → Buf (Elt Ideal) ℓ) (g : Dev Cert.MixoutSampleRefIdeal.nD → PrngReg), Pre_MixoutSampleRefIdeal_pool_state_finite m →
    θ_run (Cert.MixoutSampleRefIdeal.defs (F := Ideal)) (onTc (τ := Cert.MixoutSampleRefIdeal.τ) (Cert.MixoutSampleRefIdeal.main (F := Ideal))) ⟨m, fun _ => 0, g⟩ (fun r => (∀ c : Dev Cert.MixoutSampleRefIdeal.nD,
      r.2.mem ((c.tc : Thread Cert.MixoutSampleRefIdeal.nD Cert.MixoutSampleRefIdeal.τ).loc Cert.MixoutSampleRefIdeal.main_arg0) = m ((c.tc : Thread Cert.MixoutSampleRefIdeal.nD Cert.MixoutSampleRefIdeal.τ).loc Cert.MixoutSampleRefIdeal.main_arg0)
      ∧ r.2.mem ((c.tc : Thread Cert.MixoutSampleRefIdeal.nD Cert.MixoutSampleRefIdeal.τ).loc Cert.MixoutSampleRefIdeal.main_arg1) = m ((c.tc : Thread Cert.MixoutSampleRefIdeal.nD Cert.MixoutSampleRefIdeal.τ).loc Cert.MixoutSampleRefIdeal.main_arg1)
      ∧ r.2.mem ((c.tc : Thread Cert.MixoutSampleRefIdeal.nD Cert.MixoutSampleRefIdeal.τ).loc Cert.MixoutSampleRefIdeal.main_arg2) = m ((c.tc : Thread Cert.MixoutSampleRefIdeal.nD Cert.MixoutSampleRefIdeal.τ).loc Cert.MixoutSampleRefIdeal.main_arg2)
      ∧ r.2.mem ((c.tc : Thread Cert.MixoutSampleRefIdeal.nD Cert.MixoutSampleRefIdeal.τ).loc Cert.MixoutSampleRefIdeal.main_arg3) = m ((c.tc : Thread Cert.MixoutSampleRefIdeal.nD Cert.MixoutSampleRefIdeal.τ).loc Cert.MixoutSampleRefIdeal.main_arg3)
      ∧ r.2.mem ((c.tc : Thread Cert.MixoutSampleRefIdeal.nD Cert.MixoutSampleRefIdeal.τ).loc Cert.MixoutSampleRefIdeal.main_arg4) = m ((c.tc : Thread Cert.MixoutSampleRefIdeal.nD Cert.MixoutSampleRefIdeal.τ).loc Cert.MixoutSampleRefIdeal.main_arg4)
      ∧ r.2.mem ((c.tc : Thread Cert.MixoutSampleRefIdeal.nD Cert.MixoutSampleRefIdeal.τ).loc Cert.MixoutSampleRefIdeal.main_arg5) = m ((c.tc : Thread Cert.MixoutSampleRefIdeal.nD Cert.MixoutSampleRefIdeal.τ).loc Cert.MixoutSampleRefIdeal.main_arg5)
      ∧ r.2.mem ((c.tc : Thread Cert.MixoutSampleRefIdeal.nD Cert.MixoutSampleRefIdeal.τ).loc Cert.MixoutSampleRefIdeal.main_arg6) = m ((c.tc : Thread Cert.MixoutSampleRefIdeal.nD Cert.MixoutSampleRefIdeal.τ).loc Cert.MixoutSampleRefIdeal.main_arg6)
      ∧ r.2.mem ((c.tc : Thread Cert.MixoutSampleRefIdeal.nD Cert.MixoutSampleRefIdeal.τ).loc Cert.MixoutSampleRefIdeal.main_arg7) = m ((c.tc : Thread Cert.MixoutSampleRefIdeal.nD Cert.MixoutSampleRefIdeal.τ).loc Cert.MixoutSampleRefIdeal.main_arg7)
      ∧ r.2.mem ((c.tc : Thread Cert.MixoutSampleRefIdeal.nD Cert.MixoutSampleRefIdeal.τ).loc Cert.MixoutSampleRefIdeal.main_arg8) = m ((c.tc : Thread Cert.MixoutSampleRefIdeal.nD Cert.MixoutSampleRefIdeal.τ).loc Cert.MixoutSampleRefIdeal.main_arg8)
      ∧ r.2.mem ((c.tc : Thread Cert.MixoutSampleRefIdeal.nD Cert.MixoutSampleRefIdeal.τ).loc Cert.MixoutSampleRefIdeal.main_arg9) = m ((c.tc : Thread Cert.MixoutSampleRefIdeal.nD Cert.MixoutSampleRefIdeal.τ).loc Cert.MixoutSampleRefIdeal.main_arg9)
      ∧ r.2.mem ((c.tc : Thread Cert.MixoutSampleRefIdeal.nD Cert.MixoutSampleRefIdeal.τ).loc Cert.MixoutSampleRefIdeal.main_arg10) = m ((c.tc : Thread Cert.MixoutSampleRefIdeal.nD Cert.MixoutSampleRefIdeal.τ).loc Cert.MixoutSampleRefIdeal.main_arg10)
      ∧ r.2.mem ((c.tc : Thread Cert.MixoutSampleRefIdeal.nD Cert.MixoutSampleRefIdeal.τ).loc Cert.MixoutSampleRefIdeal.main_arg11) = m ((c.tc : Thread Cert.MixoutSampleRefIdeal.nD Cert.MixoutSampleRefIdeal.τ).loc Cert.MixoutSampleRefIdeal.main_arg11)
      ∧ r.2.mem ((c.tc : Thread Cert.MixoutSampleRefIdeal.nD Cert.MixoutSampleRefIdeal.τ).loc Cert.MixoutSampleRefIdeal.main_arg12) = m ((c.tc : Thread Cert.MixoutSampleRefIdeal.nD Cert.MixoutSampleRefIdeal.τ).loc Cert.MixoutSampleRefIdeal.main_arg12)
      ∧ r.2.mem ((c.tc : Thread Cert.MixoutSampleRefIdeal.nD Cert.MixoutSampleRefIdeal.τ).loc Cert.MixoutSampleRefIdeal.main_arg13) = m ((c.tc : Thread Cert.MixoutSampleRefIdeal.nD Cert.MixoutSampleRefIdeal.τ).loc Cert.MixoutSampleRefIdeal.main_arg13)
      ∧ r.2.mem ((c.tc : Thread Cert.MixoutSampleRefIdeal.nD Cert.MixoutSampleRefIdeal.τ).loc Cert.MixoutSampleRefIdeal.main_arg14) = m ((c.tc : Thread Cert.MixoutSampleRefIdeal.nD Cert.MixoutSampleRefIdeal.τ).loc Cert.MixoutSampleRefIdeal.main_arg14)
      ∧ r.2.mem ((c.tc : Thread Cert.MixoutSampleRefIdeal.nD Cert.MixoutSampleRefIdeal.τ).loc Cert.MixoutSampleRefIdeal.main_arg15) = m ((c.tc : Thread Cert.MixoutSampleRefIdeal.nD Cert.MixoutSampleRefIdeal.τ).loc Cert.MixoutSampleRefIdeal.main_arg15))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_MixoutPrompt [hMixoutPrompt : Cert.MixoutPrompt.Facts] : Prop :=
  ∀ (m : (ℓ : Loc Cert.MixoutPrompt.nD Cert.MixoutPrompt.τ Cert.MixoutPrompt.sig) → Buf (Elt Bits) ℓ) (g : Dev Cert.MixoutPrompt.nD → PrngReg), Pre_MixoutPrompt m →
    θ_run (Cert.MixoutPrompt.defs (F := Bits)) (onTc (τ := Cert.MixoutPrompt.τ) (Cert.MixoutPrompt.main (F := Bits))) ⟨m, fun _ => 0, g⟩ (fun r => (∀ c : Dev Cert.MixoutPrompt.nD,
      r.2.mem ((c.tc : Thread Cert.MixoutPrompt.nD Cert.MixoutPrompt.τ).loc Cert.MixoutPrompt.main_arg0) = m ((c.tc : Thread Cert.MixoutPrompt.nD Cert.MixoutPrompt.τ).loc Cert.MixoutPrompt.main_arg0)
      ∧ r.2.mem ((c.tc : Thread Cert.MixoutPrompt.nD Cert.MixoutPrompt.τ).loc Cert.MixoutPrompt.main_arg1) = m ((c.tc : Thread Cert.MixoutPrompt.nD Cert.MixoutPrompt.τ).loc Cert.MixoutPrompt.main_arg1)
      ∧ r.2.mem ((c.tc : Thread Cert.MixoutPrompt.nD Cert.MixoutPrompt.τ).loc Cert.MixoutPrompt.main_arg2) = m ((c.tc : Thread Cert.MixoutPrompt.nD Cert.MixoutPrompt.τ).loc Cert.MixoutPrompt.main_arg2)
      ∧ r.2.mem ((c.tc : Thread Cert.MixoutPrompt.nD Cert.MixoutPrompt.τ).loc Cert.MixoutPrompt.main_arg3) = m ((c.tc : Thread Cert.MixoutPrompt.nD Cert.MixoutPrompt.τ).loc Cert.MixoutPrompt.main_arg3)
      ∧ r.2.mem ((c.tc : Thread Cert.MixoutPrompt.nD Cert.MixoutPrompt.τ).loc Cert.MixoutPrompt.main_arg4) = m ((c.tc : Thread Cert.MixoutPrompt.nD Cert.MixoutPrompt.τ).loc Cert.MixoutPrompt.main_arg4)
      ∧ r.2.mem ((c.tc : Thread Cert.MixoutPrompt.nD Cert.MixoutPrompt.τ).loc Cert.MixoutPrompt.main_arg5) = m ((c.tc : Thread Cert.MixoutPrompt.nD Cert.MixoutPrompt.τ).loc Cert.MixoutPrompt.main_arg5)
      ∧ r.2.mem ((c.tc : Thread Cert.MixoutPrompt.nD Cert.MixoutPrompt.τ).loc Cert.MixoutPrompt.main_arg6) = m ((c.tc : Thread Cert.MixoutPrompt.nD Cert.MixoutPrompt.τ).loc Cert.MixoutPrompt.main_arg6)
      ∧ r.2.mem ((c.tc : Thread Cert.MixoutPrompt.nD Cert.MixoutPrompt.τ).loc Cert.MixoutPrompt.main_arg7) = m ((c.tc : Thread Cert.MixoutPrompt.nD Cert.MixoutPrompt.τ).loc Cert.MixoutPrompt.main_arg7)
      ∧ r.2.mem ((c.tc : Thread Cert.MixoutPrompt.nD Cert.MixoutPrompt.τ).loc Cert.MixoutPrompt.main_arg8) = m ((c.tc : Thread Cert.MixoutPrompt.nD Cert.MixoutPrompt.τ).loc Cert.MixoutPrompt.main_arg8)
      ∧ r.2.mem ((c.tc : Thread Cert.MixoutPrompt.nD Cert.MixoutPrompt.τ).loc Cert.MixoutPrompt.main_arg9) = m ((c.tc : Thread Cert.MixoutPrompt.nD Cert.MixoutPrompt.τ).loc Cert.MixoutPrompt.main_arg9)
      ∧ r.2.mem ((c.tc : Thread Cert.MixoutPrompt.nD Cert.MixoutPrompt.τ).loc Cert.MixoutPrompt.main_arg10) = m ((c.tc : Thread Cert.MixoutPrompt.nD Cert.MixoutPrompt.τ).loc Cert.MixoutPrompt.main_arg10)
      ∧ r.2.mem ((c.tc : Thread Cert.MixoutPrompt.nD Cert.MixoutPrompt.τ).loc Cert.MixoutPrompt.main_arg11) = m ((c.tc : Thread Cert.MixoutPrompt.nD Cert.MixoutPrompt.τ).loc Cert.MixoutPrompt.main_arg11)
      ∧ r.2.mem ((c.tc : Thread Cert.MixoutPrompt.nD Cert.MixoutPrompt.τ).loc Cert.MixoutPrompt.main_arg12) = m ((c.tc : Thread Cert.MixoutPrompt.nD Cert.MixoutPrompt.τ).loc Cert.MixoutPrompt.main_arg12)
      ∧ r.2.mem ((c.tc : Thread Cert.MixoutPrompt.nD Cert.MixoutPrompt.τ).loc Cert.MixoutPrompt.main_arg13) = m ((c.tc : Thread Cert.MixoutPrompt.nD Cert.MixoutPrompt.τ).loc Cert.MixoutPrompt.main_arg13))
      ∧ r.2.sem = fun _ => 0)

def quiescent_MixoutPromptIdeal [hMixoutPromptIdeal : Cert.MixoutPromptIdeal.Facts] : Prop :=
  ∀ (m : (ℓ : Loc Cert.MixoutPromptIdeal.nD Cert.MixoutPromptIdeal.τ Cert.MixoutPromptIdeal.sig) → Buf (Elt Ideal) ℓ) (g : Dev Cert.MixoutPromptIdeal.nD → PrngReg), Pre_MixoutPromptIdeal m →
    θ_run (Cert.MixoutPromptIdeal.defs (F := Ideal)) (onTc (τ := Cert.MixoutPromptIdeal.τ) (Cert.MixoutPromptIdeal.main (F := Ideal))) ⟨m, fun _ => 0, g⟩ (fun r => (∀ c : Dev Cert.MixoutPromptIdeal.nD,
      r.2.mem ((c.tc : Thread Cert.MixoutPromptIdeal.nD Cert.MixoutPromptIdeal.τ).loc Cert.MixoutPromptIdeal.main_arg0) = m ((c.tc : Thread Cert.MixoutPromptIdeal.nD Cert.MixoutPromptIdeal.τ).loc Cert.MixoutPromptIdeal.main_arg0)
      ∧ r.2.mem ((c.tc : Thread Cert.MixoutPromptIdeal.nD Cert.MixoutPromptIdeal.τ).loc Cert.MixoutPromptIdeal.main_arg1) = m ((c.tc : Thread Cert.MixoutPromptIdeal.nD Cert.MixoutPromptIdeal.τ).loc Cert.MixoutPromptIdeal.main_arg1)
      ∧ r.2.mem ((c.tc : Thread Cert.MixoutPromptIdeal.nD Cert.MixoutPromptIdeal.τ).loc Cert.MixoutPromptIdeal.main_arg2) = m ((c.tc : Thread Cert.MixoutPromptIdeal.nD Cert.MixoutPromptIdeal.τ).loc Cert.MixoutPromptIdeal.main_arg2)
      ∧ r.2.mem ((c.tc : Thread Cert.MixoutPromptIdeal.nD Cert.MixoutPromptIdeal.τ).loc Cert.MixoutPromptIdeal.main_arg3) = m ((c.tc : Thread Cert.MixoutPromptIdeal.nD Cert.MixoutPromptIdeal.τ).loc Cert.MixoutPromptIdeal.main_arg3)
      ∧ r.2.mem ((c.tc : Thread Cert.MixoutPromptIdeal.nD Cert.MixoutPromptIdeal.τ).loc Cert.MixoutPromptIdeal.main_arg4) = m ((c.tc : Thread Cert.MixoutPromptIdeal.nD Cert.MixoutPromptIdeal.τ).loc Cert.MixoutPromptIdeal.main_arg4)
      ∧ r.2.mem ((c.tc : Thread Cert.MixoutPromptIdeal.nD Cert.MixoutPromptIdeal.τ).loc Cert.MixoutPromptIdeal.main_arg5) = m ((c.tc : Thread Cert.MixoutPromptIdeal.nD Cert.MixoutPromptIdeal.τ).loc Cert.MixoutPromptIdeal.main_arg5)
      ∧ r.2.mem ((c.tc : Thread Cert.MixoutPromptIdeal.nD Cert.MixoutPromptIdeal.τ).loc Cert.MixoutPromptIdeal.main_arg6) = m ((c.tc : Thread Cert.MixoutPromptIdeal.nD Cert.MixoutPromptIdeal.τ).loc Cert.MixoutPromptIdeal.main_arg6)
      ∧ r.2.mem ((c.tc : Thread Cert.MixoutPromptIdeal.nD Cert.MixoutPromptIdeal.τ).loc Cert.MixoutPromptIdeal.main_arg7) = m ((c.tc : Thread Cert.MixoutPromptIdeal.nD Cert.MixoutPromptIdeal.τ).loc Cert.MixoutPromptIdeal.main_arg7)
      ∧ r.2.mem ((c.tc : Thread Cert.MixoutPromptIdeal.nD Cert.MixoutPromptIdeal.τ).loc Cert.MixoutPromptIdeal.main_arg8) = m ((c.tc : Thread Cert.MixoutPromptIdeal.nD Cert.MixoutPromptIdeal.τ).loc Cert.MixoutPromptIdeal.main_arg8)
      ∧ r.2.mem ((c.tc : Thread Cert.MixoutPromptIdeal.nD Cert.MixoutPromptIdeal.τ).loc Cert.MixoutPromptIdeal.main_arg9) = m ((c.tc : Thread Cert.MixoutPromptIdeal.nD Cert.MixoutPromptIdeal.τ).loc Cert.MixoutPromptIdeal.main_arg9)
      ∧ r.2.mem ((c.tc : Thread Cert.MixoutPromptIdeal.nD Cert.MixoutPromptIdeal.τ).loc Cert.MixoutPromptIdeal.main_arg10) = m ((c.tc : Thread Cert.MixoutPromptIdeal.nD Cert.MixoutPromptIdeal.τ).loc Cert.MixoutPromptIdeal.main_arg10)
      ∧ r.2.mem ((c.tc : Thread Cert.MixoutPromptIdeal.nD Cert.MixoutPromptIdeal.τ).loc Cert.MixoutPromptIdeal.main_arg11) = m ((c.tc : Thread Cert.MixoutPromptIdeal.nD Cert.MixoutPromptIdeal.τ).loc Cert.MixoutPromptIdeal.main_arg11)
      ∧ r.2.mem ((c.tc : Thread Cert.MixoutPromptIdeal.nD Cert.MixoutPromptIdeal.τ).loc Cert.MixoutPromptIdeal.main_arg12) = m ((c.tc : Thread Cert.MixoutPromptIdeal.nD Cert.MixoutPromptIdeal.τ).loc Cert.MixoutPromptIdeal.main_arg12)
      ∧ r.2.mem ((c.tc : Thread Cert.MixoutPromptIdeal.nD Cert.MixoutPromptIdeal.τ).loc Cert.MixoutPromptIdeal.main_arg13) = m ((c.tc : Thread Cert.MixoutPromptIdeal.nD Cert.MixoutPromptIdeal.τ).loc Cert.MixoutPromptIdeal.main_arg13))
      ∧ r.2.sem = fun _ => 0)

def quiescent_MixoutPromptIdeal_pre_pool_input_finite [hMixoutPromptIdeal : Cert.MixoutPromptIdeal.Facts] [hPre_pool_input_finite : Cert.Pre_pool_input_finite.Facts] : Prop :=
  ∀ (m : (ℓ : Loc Cert.MixoutPromptIdeal.nD Cert.MixoutPromptIdeal.τ Cert.MixoutPromptIdeal.sig) → Buf (Elt Ideal) ℓ) (g : Dev Cert.MixoutPromptIdeal.nD → PrngReg), Pre_MixoutPromptIdeal_pool_input_finite m →
    θ_run (Cert.MixoutPromptIdeal.defs (F := Ideal)) (onTc (τ := Cert.MixoutPromptIdeal.τ) (Cert.MixoutPromptIdeal.main (F := Ideal))) ⟨m, fun _ => 0, g⟩ (fun r => (∀ c : Dev Cert.MixoutPromptIdeal.nD,
      r.2.mem ((c.tc : Thread Cert.MixoutPromptIdeal.nD Cert.MixoutPromptIdeal.τ).loc Cert.MixoutPromptIdeal.main_arg0) = m ((c.tc : Thread Cert.MixoutPromptIdeal.nD Cert.MixoutPromptIdeal.τ).loc Cert.MixoutPromptIdeal.main_arg0)
      ∧ r.2.mem ((c.tc : Thread Cert.MixoutPromptIdeal.nD Cert.MixoutPromptIdeal.τ).loc Cert.MixoutPromptIdeal.main_arg1) = m ((c.tc : Thread Cert.MixoutPromptIdeal.nD Cert.MixoutPromptIdeal.τ).loc Cert.MixoutPromptIdeal.main_arg1)
      ∧ r.2.mem ((c.tc : Thread Cert.MixoutPromptIdeal.nD Cert.MixoutPromptIdeal.τ).loc Cert.MixoutPromptIdeal.main_arg2) = m ((c.tc : Thread Cert.MixoutPromptIdeal.nD Cert.MixoutPromptIdeal.τ).loc Cert.MixoutPromptIdeal.main_arg2)
      ∧ r.2.mem ((c.tc : Thread Cert.MixoutPromptIdeal.nD Cert.MixoutPromptIdeal.τ).loc Cert.MixoutPromptIdeal.main_arg3) = m ((c.tc : Thread Cert.MixoutPromptIdeal.nD Cert.MixoutPromptIdeal.τ).loc Cert.MixoutPromptIdeal.main_arg3)
      ∧ r.2.mem ((c.tc : Thread Cert.MixoutPromptIdeal.nD Cert.MixoutPromptIdeal.τ).loc Cert.MixoutPromptIdeal.main_arg4) = m ((c.tc : Thread Cert.MixoutPromptIdeal.nD Cert.MixoutPromptIdeal.τ).loc Cert.MixoutPromptIdeal.main_arg4)
      ∧ r.2.mem ((c.tc : Thread Cert.MixoutPromptIdeal.nD Cert.MixoutPromptIdeal.τ).loc Cert.MixoutPromptIdeal.main_arg5) = m ((c.tc : Thread Cert.MixoutPromptIdeal.nD Cert.MixoutPromptIdeal.τ).loc Cert.MixoutPromptIdeal.main_arg5)
      ∧ r.2.mem ((c.tc : Thread Cert.MixoutPromptIdeal.nD Cert.MixoutPromptIdeal.τ).loc Cert.MixoutPromptIdeal.main_arg6) = m ((c.tc : Thread Cert.MixoutPromptIdeal.nD Cert.MixoutPromptIdeal.τ).loc Cert.MixoutPromptIdeal.main_arg6)
      ∧ r.2.mem ((c.tc : Thread Cert.MixoutPromptIdeal.nD Cert.MixoutPromptIdeal.τ).loc Cert.MixoutPromptIdeal.main_arg7) = m ((c.tc : Thread Cert.MixoutPromptIdeal.nD Cert.MixoutPromptIdeal.τ).loc Cert.MixoutPromptIdeal.main_arg7)
      ∧ r.2.mem ((c.tc : Thread Cert.MixoutPromptIdeal.nD Cert.MixoutPromptIdeal.τ).loc Cert.MixoutPromptIdeal.main_arg8) = m ((c.tc : Thread Cert.MixoutPromptIdeal.nD Cert.MixoutPromptIdeal.τ).loc Cert.MixoutPromptIdeal.main_arg8)
      ∧ r.2.mem ((c.tc : Thread Cert.MixoutPromptIdeal.nD Cert.MixoutPromptIdeal.τ).loc Cert.MixoutPromptIdeal.main_arg9) = m ((c.tc : Thread Cert.MixoutPromptIdeal.nD Cert.MixoutPromptIdeal.τ).loc Cert.MixoutPromptIdeal.main_arg9)
      ∧ r.2.mem ((c.tc : Thread Cert.MixoutPromptIdeal.nD Cert.MixoutPromptIdeal.τ).loc Cert.MixoutPromptIdeal.main_arg10) = m ((c.tc : Thread Cert.MixoutPromptIdeal.nD Cert.MixoutPromptIdeal.τ).loc Cert.MixoutPromptIdeal.main_arg10)
      ∧ r.2.mem ((c.tc : Thread Cert.MixoutPromptIdeal.nD Cert.MixoutPromptIdeal.τ).loc Cert.MixoutPromptIdeal.main_arg11) = m ((c.tc : Thread Cert.MixoutPromptIdeal.nD Cert.MixoutPromptIdeal.τ).loc Cert.MixoutPromptIdeal.main_arg11)
      ∧ r.2.mem ((c.tc : Thread Cert.MixoutPromptIdeal.nD Cert.MixoutPromptIdeal.τ).loc Cert.MixoutPromptIdeal.main_arg12) = m ((c.tc : Thread Cert.MixoutPromptIdeal.nD Cert.MixoutPromptIdeal.τ).loc Cert.MixoutPromptIdeal.main_arg12)
      ∧ r.2.mem ((c.tc : Thread Cert.MixoutPromptIdeal.nD Cert.MixoutPromptIdeal.τ).loc Cert.MixoutPromptIdeal.main_arg13) = m ((c.tc : Thread Cert.MixoutPromptIdeal.nD Cert.MixoutPromptIdeal.τ).loc Cert.MixoutPromptIdeal.main_arg13))
      ∧ r.2.sem = fun _ => 0)

def quiescent_MixoutPromptRefIdeal [hMixoutPromptRefIdeal : Cert.MixoutPromptRefIdeal.Facts] : Prop :=
  ∀ (m : (ℓ : Loc Cert.MixoutPromptRefIdeal.nD Cert.MixoutPromptRefIdeal.τ Cert.MixoutPromptRefIdeal.sig) → Buf (Elt Ideal) ℓ) (g : Dev Cert.MixoutPromptRefIdeal.nD → PrngReg), Pre_MixoutPromptRefIdeal m →
    θ_run (Cert.MixoutPromptRefIdeal.defs (F := Ideal)) (onTc (τ := Cert.MixoutPromptRefIdeal.τ) (Cert.MixoutPromptRefIdeal.main (F := Ideal))) ⟨m, fun _ => 0, g⟩ (fun r => (∀ c : Dev Cert.MixoutPromptRefIdeal.nD,
      r.2.mem ((c.tc : Thread Cert.MixoutPromptRefIdeal.nD Cert.MixoutPromptRefIdeal.τ).loc Cert.MixoutPromptRefIdeal.main_arg0) = m ((c.tc : Thread Cert.MixoutPromptRefIdeal.nD Cert.MixoutPromptRefIdeal.τ).loc Cert.MixoutPromptRefIdeal.main_arg0)
      ∧ r.2.mem ((c.tc : Thread Cert.MixoutPromptRefIdeal.nD Cert.MixoutPromptRefIdeal.τ).loc Cert.MixoutPromptRefIdeal.main_arg1) = m ((c.tc : Thread Cert.MixoutPromptRefIdeal.nD Cert.MixoutPromptRefIdeal.τ).loc Cert.MixoutPromptRefIdeal.main_arg1)
      ∧ r.2.mem ((c.tc : Thread Cert.MixoutPromptRefIdeal.nD Cert.MixoutPromptRefIdeal.τ).loc Cert.MixoutPromptRefIdeal.main_arg2) = m ((c.tc : Thread Cert.MixoutPromptRefIdeal.nD Cert.MixoutPromptRefIdeal.τ).loc Cert.MixoutPromptRefIdeal.main_arg2)
      ∧ r.2.mem ((c.tc : Thread Cert.MixoutPromptRefIdeal.nD Cert.MixoutPromptRefIdeal.τ).loc Cert.MixoutPromptRefIdeal.main_arg3) = m ((c.tc : Thread Cert.MixoutPromptRefIdeal.nD Cert.MixoutPromptRefIdeal.τ).loc Cert.MixoutPromptRefIdeal.main_arg3)
      ∧ r.2.mem ((c.tc : Thread Cert.MixoutPromptRefIdeal.nD Cert.MixoutPromptRefIdeal.τ).loc Cert.MixoutPromptRefIdeal.main_arg4) = m ((c.tc : Thread Cert.MixoutPromptRefIdeal.nD Cert.MixoutPromptRefIdeal.τ).loc Cert.MixoutPromptRefIdeal.main_arg4)
      ∧ r.2.mem ((c.tc : Thread Cert.MixoutPromptRefIdeal.nD Cert.MixoutPromptRefIdeal.τ).loc Cert.MixoutPromptRefIdeal.main_arg5) = m ((c.tc : Thread Cert.MixoutPromptRefIdeal.nD Cert.MixoutPromptRefIdeal.τ).loc Cert.MixoutPromptRefIdeal.main_arg5)
      ∧ r.2.mem ((c.tc : Thread Cert.MixoutPromptRefIdeal.nD Cert.MixoutPromptRefIdeal.τ).loc Cert.MixoutPromptRefIdeal.main_arg6) = m ((c.tc : Thread Cert.MixoutPromptRefIdeal.nD Cert.MixoutPromptRefIdeal.τ).loc Cert.MixoutPromptRefIdeal.main_arg6)
      ∧ r.2.mem ((c.tc : Thread Cert.MixoutPromptRefIdeal.nD Cert.MixoutPromptRefIdeal.τ).loc Cert.MixoutPromptRefIdeal.main_arg7) = m ((c.tc : Thread Cert.MixoutPromptRefIdeal.nD Cert.MixoutPromptRefIdeal.τ).loc Cert.MixoutPromptRefIdeal.main_arg7)
      ∧ r.2.mem ((c.tc : Thread Cert.MixoutPromptRefIdeal.nD Cert.MixoutPromptRefIdeal.τ).loc Cert.MixoutPromptRefIdeal.main_arg8) = m ((c.tc : Thread Cert.MixoutPromptRefIdeal.nD Cert.MixoutPromptRefIdeal.τ).loc Cert.MixoutPromptRefIdeal.main_arg8)
      ∧ r.2.mem ((c.tc : Thread Cert.MixoutPromptRefIdeal.nD Cert.MixoutPromptRefIdeal.τ).loc Cert.MixoutPromptRefIdeal.main_arg9) = m ((c.tc : Thread Cert.MixoutPromptRefIdeal.nD Cert.MixoutPromptRefIdeal.τ).loc Cert.MixoutPromptRefIdeal.main_arg9)
      ∧ r.2.mem ((c.tc : Thread Cert.MixoutPromptRefIdeal.nD Cert.MixoutPromptRefIdeal.τ).loc Cert.MixoutPromptRefIdeal.main_arg10) = m ((c.tc : Thread Cert.MixoutPromptRefIdeal.nD Cert.MixoutPromptRefIdeal.τ).loc Cert.MixoutPromptRefIdeal.main_arg10)
      ∧ r.2.mem ((c.tc : Thread Cert.MixoutPromptRefIdeal.nD Cert.MixoutPromptRefIdeal.τ).loc Cert.MixoutPromptRefIdeal.main_arg11) = m ((c.tc : Thread Cert.MixoutPromptRefIdeal.nD Cert.MixoutPromptRefIdeal.τ).loc Cert.MixoutPromptRefIdeal.main_arg11)
      ∧ r.2.mem ((c.tc : Thread Cert.MixoutPromptRefIdeal.nD Cert.MixoutPromptRefIdeal.τ).loc Cert.MixoutPromptRefIdeal.main_arg12) = m ((c.tc : Thread Cert.MixoutPromptRefIdeal.nD Cert.MixoutPromptRefIdeal.τ).loc Cert.MixoutPromptRefIdeal.main_arg12)
      ∧ r.2.mem ((c.tc : Thread Cert.MixoutPromptRefIdeal.nD Cert.MixoutPromptRefIdeal.τ).loc Cert.MixoutPromptRefIdeal.main_arg13) = m ((c.tc : Thread Cert.MixoutPromptRefIdeal.nD Cert.MixoutPromptRefIdeal.τ).loc Cert.MixoutPromptRefIdeal.main_arg13))
      ∧ r.2.sem = fun _ => 0)

def quiescent_MixoutPromptRefIdeal_pre_pool_input_finite [hMixoutPromptRefIdeal : Cert.MixoutPromptRefIdeal.Facts] [hPre_pool_input_finite : Cert.Pre_pool_input_finite.Facts] : Prop :=
  ∀ (m : (ℓ : Loc Cert.MixoutPromptRefIdeal.nD Cert.MixoutPromptRefIdeal.τ Cert.MixoutPromptRefIdeal.sig) → Buf (Elt Ideal) ℓ) (g : Dev Cert.MixoutPromptRefIdeal.nD → PrngReg), Pre_MixoutPromptRefIdeal_pool_input_finite m →
    θ_run (Cert.MixoutPromptRefIdeal.defs (F := Ideal)) (onTc (τ := Cert.MixoutPromptRefIdeal.τ) (Cert.MixoutPromptRefIdeal.main (F := Ideal))) ⟨m, fun _ => 0, g⟩ (fun r => (∀ c : Dev Cert.MixoutPromptRefIdeal.nD,
      r.2.mem ((c.tc : Thread Cert.MixoutPromptRefIdeal.nD Cert.MixoutPromptRefIdeal.τ).loc Cert.MixoutPromptRefIdeal.main_arg0) = m ((c.tc : Thread Cert.MixoutPromptRefIdeal.nD Cert.MixoutPromptRefIdeal.τ).loc Cert.MixoutPromptRefIdeal.main_arg0)
      ∧ r.2.mem ((c.tc : Thread Cert.MixoutPromptRefIdeal.nD Cert.MixoutPromptRefIdeal.τ).loc Cert.MixoutPromptRefIdeal.main_arg1) = m ((c.tc : Thread Cert.MixoutPromptRefIdeal.nD Cert.MixoutPromptRefIdeal.τ).loc Cert.MixoutPromptRefIdeal.main_arg1)
      ∧ r.2.mem ((c.tc : Thread Cert.MixoutPromptRefIdeal.nD Cert.MixoutPromptRefIdeal.τ).loc Cert.MixoutPromptRefIdeal.main_arg2) = m ((c.tc : Thread Cert.MixoutPromptRefIdeal.nD Cert.MixoutPromptRefIdeal.τ).loc Cert.MixoutPromptRefIdeal.main_arg2)
      ∧ r.2.mem ((c.tc : Thread Cert.MixoutPromptRefIdeal.nD Cert.MixoutPromptRefIdeal.τ).loc Cert.MixoutPromptRefIdeal.main_arg3) = m ((c.tc : Thread Cert.MixoutPromptRefIdeal.nD Cert.MixoutPromptRefIdeal.τ).loc Cert.MixoutPromptRefIdeal.main_arg3)
      ∧ r.2.mem ((c.tc : Thread Cert.MixoutPromptRefIdeal.nD Cert.MixoutPromptRefIdeal.τ).loc Cert.MixoutPromptRefIdeal.main_arg4) = m ((c.tc : Thread Cert.MixoutPromptRefIdeal.nD Cert.MixoutPromptRefIdeal.τ).loc Cert.MixoutPromptRefIdeal.main_arg4)
      ∧ r.2.mem ((c.tc : Thread Cert.MixoutPromptRefIdeal.nD Cert.MixoutPromptRefIdeal.τ).loc Cert.MixoutPromptRefIdeal.main_arg5) = m ((c.tc : Thread Cert.MixoutPromptRefIdeal.nD Cert.MixoutPromptRefIdeal.τ).loc Cert.MixoutPromptRefIdeal.main_arg5)
      ∧ r.2.mem ((c.tc : Thread Cert.MixoutPromptRefIdeal.nD Cert.MixoutPromptRefIdeal.τ).loc Cert.MixoutPromptRefIdeal.main_arg6) = m ((c.tc : Thread Cert.MixoutPromptRefIdeal.nD Cert.MixoutPromptRefIdeal.τ).loc Cert.MixoutPromptRefIdeal.main_arg6)
      ∧ r.2.mem ((c.tc : Thread Cert.MixoutPromptRefIdeal.nD Cert.MixoutPromptRefIdeal.τ).loc Cert.MixoutPromptRefIdeal.main_arg7) = m ((c.tc : Thread Cert.MixoutPromptRefIdeal.nD Cert.MixoutPromptRefIdeal.τ).loc Cert.MixoutPromptRefIdeal.main_arg7)
      ∧ r.2.mem ((c.tc : Thread Cert.MixoutPromptRefIdeal.nD Cert.MixoutPromptRefIdeal.τ).loc Cert.MixoutPromptRefIdeal.main_arg8) = m ((c.tc : Thread Cert.MixoutPromptRefIdeal.nD Cert.MixoutPromptRefIdeal.τ).loc Cert.MixoutPromptRefIdeal.main_arg8)
      ∧ r.2.mem ((c.tc : Thread Cert.MixoutPromptRefIdeal.nD Cert.MixoutPromptRefIdeal.τ).loc Cert.MixoutPromptRefIdeal.main_arg9) = m ((c.tc : Thread Cert.MixoutPromptRefIdeal.nD Cert.MixoutPromptRefIdeal.τ).loc Cert.MixoutPromptRefIdeal.main_arg9)
      ∧ r.2.mem ((c.tc : Thread Cert.MixoutPromptRefIdeal.nD Cert.MixoutPromptRefIdeal.τ).loc Cert.MixoutPromptRefIdeal.main_arg10) = m ((c.tc : Thread Cert.MixoutPromptRefIdeal.nD Cert.MixoutPromptRefIdeal.τ).loc Cert.MixoutPromptRefIdeal.main_arg10)
      ∧ r.2.mem ((c.tc : Thread Cert.MixoutPromptRefIdeal.nD Cert.MixoutPromptRefIdeal.τ).loc Cert.MixoutPromptRefIdeal.main_arg11) = m ((c.tc : Thread Cert.MixoutPromptRefIdeal.nD Cert.MixoutPromptRefIdeal.τ).loc Cert.MixoutPromptRefIdeal.main_arg11)
      ∧ r.2.mem ((c.tc : Thread Cert.MixoutPromptRefIdeal.nD Cert.MixoutPromptRefIdeal.τ).loc Cert.MixoutPromptRefIdeal.main_arg12) = m ((c.tc : Thread Cert.MixoutPromptRefIdeal.nD Cert.MixoutPromptRefIdeal.τ).loc Cert.MixoutPromptRefIdeal.main_arg12)
      ∧ r.2.mem ((c.tc : Thread Cert.MixoutPromptRefIdeal.nD Cert.MixoutPromptRefIdeal.τ).loc Cert.MixoutPromptRefIdeal.main_arg13) = m ((c.tc : Thread Cert.MixoutPromptRefIdeal.nD Cert.MixoutPromptRefIdeal.τ).loc Cert.MixoutPromptRefIdeal.main_arg13))
      ∧ r.2.sem = fun _ => 0)

def preserves_SampleAttn_SampleAttnIdeal : Prop :=
  IdealRules.named_const.Statement Cert.SampleAttnIdeal.κ "q_scale" .f32 0x3E38AA3B#32 (((1 / 8) * (Real.log 2)⁻¹ : ℝ) : EReal)
  ∧ IdealRules.named_const.Statement Cert.SampleAttnIdeal.κ "log2e" .f32 0x3FB8AA3B#32 (((Real.log 2)⁻¹ : ℝ) : EReal)

def algebraic_SampleAttnIdeal_SampleAttnRefIdeal_pre_softmax_defined [hSampleAttnIdeal : Cert.SampleAttnIdeal.Facts] [hSampleAttnRefIdeal : Cert.SampleAttnRefIdeal.Facts] [hPre_softmax_defined : Cert.Pre_softmax_defined.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg)
    (m' : (ℓ : Loc Cert.SampleAttnRefIdeal.nD Cert.SampleAttnRefIdeal.τ Cert.SampleAttnRefIdeal.sig) → Buf (Elt Ideal) ℓ) (g' : Dev Cert.SampleAttnRefIdeal.nD → PrngReg), Pre_SampleAttnIdeal_softmax_defined m →
    (∀ c : Dev Cert.SampleAttnIdeal.nD,
      m' ((c.tc : Thread Cert.SampleAttnRefIdeal.nD Cert.SampleAttnRefIdeal.τ).loc Cert.SampleAttnRefIdeal.main_arg0) = m ((c.tc : Thread Cert.SampleAttnIdeal.nD Cert.SampleAttnIdeal.τ).loc Cert.SampleAttnIdeal.main_arg0)
      ∧ m' ((c.tc : Thread Cert.SampleAttnRefIdeal.nD Cert.SampleAttnRefIdeal.τ).loc Cert.SampleAttnRefIdeal.main_arg1) = m ((c.tc : Thread Cert.SampleAttnIdeal.nD Cert.SampleAttnIdeal.τ).loc Cert.SampleAttnIdeal.main_arg1)
      ∧ m' ((c.tc : Thread Cert.SampleAttnRefIdeal.nD Cert.SampleAttnRefIdeal.τ).loc Cert.SampleAttnRefIdeal.main_arg2) = m ((c.tc : Thread Cert.SampleAttnIdeal.nD Cert.SampleAttnIdeal.τ).loc Cert.SampleAttnIdeal.main_arg2)
      ∧ m' ((c.tc : Thread Cert.SampleAttnRefIdeal.nD Cert.SampleAttnRefIdeal.τ).loc Cert.SampleAttnRefIdeal.main_arg3) = m ((c.tc : Thread Cert.SampleAttnIdeal.nD Cert.SampleAttnIdeal.τ).loc Cert.SampleAttnIdeal.main_arg3)
      ∧ m' ((c.tc : Thread Cert.SampleAttnRefIdeal.nD Cert.SampleAttnRefIdeal.τ).loc Cert.SampleAttnRefIdeal.main_arg4) = m ((c.tc : Thread Cert.SampleAttnIdeal.nD Cert.SampleAttnIdeal.τ).loc Cert.SampleAttnIdeal.main_arg4)
      ∧ m' ((c.tc : Thread Cert.SampleAttnRefIdeal.nD Cert.SampleAttnRefIdeal.τ).loc Cert.SampleAttnRefIdeal.main_arg5) = m ((c.tc : Thread Cert.SampleAttnIdeal.nD Cert.SampleAttnIdeal.τ).loc Cert.SampleAttnIdeal.main_arg5)
      ∧ m' ((c.tc : Thread Cert.SampleAttnRefIdeal.nD Cert.SampleAttnRefIdeal.τ).loc Cert.SampleAttnRefIdeal.main_arg6) = m ((c.tc : Thread Cert.SampleAttnIdeal.nD Cert.SampleAttnIdeal.τ).loc Cert.SampleAttnIdeal.main_arg6)) →
    ∃ (v0 : (c : Dev Cert.SampleAttnIdeal.nD) → Buf (Elt Ideal) ((c.tc : Thread Cert.SampleAttnIdeal.nD Cert.SampleAttnIdeal.τ).loc Cert.SampleAttnIdeal.main_v12)),
      θ_run (Cert.SampleAttnIdeal.defs (F := Ideal)) (onTc (τ := Cert.SampleAttnIdeal.τ) (Cert.SampleAttnIdeal.main (F := Ideal))) ⟨m, fun _ => 0, g⟩ (fun r => ∀ c : Dev Cert.SampleAttnIdeal.nD,
          r.2.mem ((c.tc : Thread Cert.SampleAttnIdeal.nD Cert.SampleAttnIdeal.τ).loc Cert.SampleAttnIdeal.main_v12) = v0 c
          ∧ r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
          ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
          ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
          ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
          ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4)
          ∧ r.2.mem ((c.tc : Thread Cert.SampleAttnIdeal.nD Cert.SampleAttnIdeal.τ).loc Cert.SampleAttnIdeal.main_arg5) = m ((c.tc : Thread Cert.SampleAttnIdeal.nD Cert.SampleAttnIdeal.τ).loc Cert.SampleAttnIdeal.main_arg5)
          ∧ r.2.mem ((c.tc : Thread Cert.SampleAttnIdeal.nD Cert.SampleAttnIdeal.τ).loc Cert.SampleAttnIdeal.main_arg6) = m ((c.tc : Thread Cert.SampleAttnIdeal.nD Cert.SampleAttnIdeal.τ).loc Cert.SampleAttnIdeal.main_arg6))
      ∧ θ_run (Cert.SampleAttnRefIdeal.defs (F := Ideal)) (onTc (τ := Cert.SampleAttnRefIdeal.τ) (Cert.SampleAttnRefIdeal.main (F := Ideal))) ⟨m', fun _ => 0, g'⟩ (fun r => ∀ c : Dev Cert.SampleAttnRefIdeal.nD,
          r.2.mem ((c.tc : Thread Cert.SampleAttnRefIdeal.nD Cert.SampleAttnRefIdeal.τ).loc Cert.SampleAttnRefIdeal.main_v68) = v0 c
          ∧ r.2.mem ((c.tc : Thread Cert.SampleAttnRefIdeal.nD Cert.SampleAttnRefIdeal.τ).loc Cert.SampleAttnRefIdeal.main_arg0) = m' ((c.tc : Thread Cert.SampleAttnRefIdeal.nD Cert.SampleAttnRefIdeal.τ).loc Cert.SampleAttnRefIdeal.main_arg0)
          ∧ r.2.mem ((c.tc : Thread Cert.SampleAttnRefIdeal.nD Cert.SampleAttnRefIdeal.τ).loc Cert.SampleAttnRefIdeal.main_arg1) = m' ((c.tc : Thread Cert.SampleAttnRefIdeal.nD Cert.SampleAttnRefIdeal.τ).loc Cert.SampleAttnRefIdeal.main_arg1)
          ∧ r.2.mem ((c.tc : Thread Cert.SampleAttnRefIdeal.nD Cert.SampleAttnRefIdeal.τ).loc Cert.SampleAttnRefIdeal.main_arg2) = m' ((c.tc : Thread Cert.SampleAttnRefIdeal.nD Cert.SampleAttnRefIdeal.τ).loc Cert.SampleAttnRefIdeal.main_arg2)
          ∧ r.2.mem ((c.tc : Thread Cert.SampleAttnRefIdeal.nD Cert.SampleAttnRefIdeal.τ).loc Cert.SampleAttnRefIdeal.main_arg3) = m' ((c.tc : Thread Cert.SampleAttnRefIdeal.nD Cert.SampleAttnRefIdeal.τ).loc Cert.SampleAttnRefIdeal.main_arg3)
          ∧ r.2.mem ((c.tc : Thread Cert.SampleAttnRefIdeal.nD Cert.SampleAttnRefIdeal.τ).loc Cert.SampleAttnRefIdeal.main_arg4) = m' ((c.tc : Thread Cert.SampleAttnRefIdeal.nD Cert.SampleAttnRefIdeal.τ).loc Cert.SampleAttnRefIdeal.main_arg4)
          ∧ r.2.mem ((c.tc : Thread Cert.SampleAttnRefIdeal.nD Cert.SampleAttnRefIdeal.τ).loc Cert.SampleAttnRefIdeal.main_arg5) = m' ((c.tc : Thread Cert.SampleAttnRefIdeal.nD Cert.SampleAttnRefIdeal.τ).loc Cert.SampleAttnRefIdeal.main_arg5)
          ∧ r.2.mem ((c.tc : Thread Cert.SampleAttnRefIdeal.nD Cert.SampleAttnRefIdeal.τ).loc Cert.SampleAttnRefIdeal.main_arg6) = m' ((c.tc : Thread Cert.SampleAttnRefIdeal.nD Cert.SampleAttnRefIdeal.τ).loc Cert.SampleAttnRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v61) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v10)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v10) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v58) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_Inproj_InprojIdeal : Prop :=
  IdealRules.named_const.Statement Cert.InprojIdeal.κ "q_scale" .f32 0x3E38AA3B#32 (((1 / 8) * (Real.log 2)⁻¹ : ℝ) : EReal)

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_1)) (v2 : (c : Dev Cert.InprojIdeal.nD) → Buf (Elt Ideal) ((c.tc : Thread Cert.InprojIdeal.nD Cert.InprojIdeal.τ).loc Cert.InprojIdeal.main_v5_2)) (v3 : (c : Dev Cert.InprojIdeal.nD) → Buf (Elt Ideal) ((c.tc : Thread Cert.InprojIdeal.nD Cert.InprojIdeal.τ).loc Cert.InprojIdeal.main_v5_3)) (v4 : (c : Dev Cert.InprojIdeal.nD) → Buf (Elt Ideal) ((c.tc : Thread Cert.InprojIdeal.nD Cert.InprojIdeal.τ).loc Cert.InprojIdeal.main_v5_4)) (v5 : (c : Dev Cert.InprojIdeal.nD) → Buf (Elt Ideal) ((c.tc : Thread Cert.InprojIdeal.nD Cert.InprojIdeal.τ).loc Cert.InprojIdeal.main_v5_5)) (v6 : (c : Dev Cert.InprojIdeal.nD) → Buf (Elt Ideal) ((c.tc : Thread Cert.InprojIdeal.nD Cert.InprojIdeal.τ).loc Cert.InprojIdeal.main_v5_6)) (v7 : (c : Dev Cert.InprojIdeal.nD) → Buf (Elt Ideal) ((c.tc : Thread Cert.InprojIdeal.nD Cert.InprojIdeal.τ).loc Cert.InprojIdeal.main_v5_7)) (v8 : (c : Dev Cert.InprojIdeal.nD) → Buf (Elt Ideal) ((c.tc : Thread Cert.InprojIdeal.nD Cert.InprojIdeal.τ).loc Cert.InprojIdeal.main_v5_8)) (v9 : (c : Dev Cert.InprojIdeal.nD) → Buf (Elt Ideal) ((c.tc : Thread Cert.InprojIdeal.nD Cert.InprojIdeal.τ).loc Cert.InprojIdeal.main_v5_9)) (v10 : (c : Dev Cert.InprojIdeal.nD) → Buf (Elt Ideal) ((c.tc : Thread Cert.InprojIdeal.nD Cert.InprojIdeal.τ).loc Cert.InprojIdeal.main_v5_10)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5_0) = v0 c
          ∧ r.2.mem ((c.tc : Thread Cert.InprojIdeal.nD Cert.InprojIdeal.τ).loc Cert.InprojIdeal.main_v5_1) = v1 c
          ∧ r.2.mem ((c.tc : Thread Cert.InprojIdeal.nD Cert.InprojIdeal.τ).loc Cert.InprojIdeal.main_v5_2) = v2 c
          ∧ r.2.mem ((c.tc : Thread Cert.InprojIdeal.nD Cert.InprojIdeal.τ).loc Cert.InprojIdeal.main_v5_3) = v3 c
          ∧ r.2.mem ((c.tc : Thread Cert.InprojIdeal.nD Cert.InprojIdeal.τ).loc Cert.InprojIdeal.main_v5_4) = v4 c
          ∧ r.2.mem ((c.tc : Thread Cert.InprojIdeal.nD Cert.InprojIdeal.τ).loc Cert.InprojIdeal.main_v5_5) = v5 c
          ∧ r.2.mem ((c.tc : Thread Cert.InprojIdeal.nD Cert.InprojIdeal.τ).loc Cert.InprojIdeal.main_v5_6) = v6 c
          ∧ r.2.mem ((c.tc : Thread Cert.InprojIdeal.nD Cert.InprojIdeal.τ).loc Cert.InprojIdeal.main_v5_7) = v7 c
          ∧ r.2.mem ((c.tc : Thread Cert.InprojIdeal.nD Cert.InprojIdeal.τ).loc Cert.InprojIdeal.main_v5_8) = v8 c
          ∧ r.2.mem ((c.tc : Thread Cert.InprojIdeal.nD Cert.InprojIdeal.τ).loc Cert.InprojIdeal.main_v5_9) = v9 c
          ∧ r.2.mem ((c.tc : Thread Cert.InprojIdeal.nD Cert.InprojIdeal.τ).loc Cert.InprojIdeal.main_v5_10) = v10 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v47) = v0 c
          ∧ r.2.mem ((c.tc : Thread Cert.InprojRefIdeal.nD Cert.InprojRefIdeal.τ).loc Cert.InprojRefIdeal.main_v48) = v1 c
          ∧ r.2.mem ((c.tc : Thread Cert.InprojRefIdeal.nD Cert.InprojRefIdeal.τ).loc Cert.InprojRefIdeal.main_v50) = v2 c
          ∧ r.2.mem ((c.tc : Thread Cert.InprojRefIdeal.nD Cert.InprojRefIdeal.τ).loc Cert.InprojRefIdeal.main_v52) = v3 c
          ∧ r.2.mem ((c.tc : Thread Cert.InprojRefIdeal.nD Cert.InprojRefIdeal.τ).loc Cert.InprojRefIdeal.main_v54) = v4 c
          ∧ r.2.mem ((c.tc : Thread Cert.InprojRefIdeal.nD Cert.InprojRefIdeal.τ).loc Cert.InprojRefIdeal.main_v56) = v5 c
          ∧ r.2.mem ((c.tc : Thread Cert.InprojRefIdeal.nD Cert.InprojRefIdeal.τ).loc Cert.InprojRefIdeal.main_v57) = v6 c
          ∧ r.2.mem ((c.tc : Thread Cert.InprojRefIdeal.nD Cert.InprojRefIdeal.τ).loc Cert.InprojRefIdeal.main_v58) = v7 c
          ∧ r.2.mem ((c.tc : Thread Cert.InprojRefIdeal.nD Cert.InprojRefIdeal.τ).loc Cert.InprojRefIdeal.main_v59) = v8 c
          ∧ r.2.mem ((c.tc : Thread Cert.InprojRefIdeal.nD Cert.InprojRefIdeal.τ).loc Cert.InprojRefIdeal.main_v61) = v9 c
          ∧ r.2.mem ((c.tc : Thread Cert.InprojRefIdeal.nD Cert.InprojRefIdeal.τ).loc Cert.InprojRefIdeal.main_v62) = v10 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_InprojSample_InprojSampleIdeal : Prop :=
  IdealRules.named_const.Statement Cert.InprojSampleIdeal.κ "q_scale" .f32 0x3E38AA3B#32 (((1 / 8) * (Real.log 2)⁻¹ : ℝ) : EReal)

def algebraic_InprojSampleIdeal_InprojSampleRefIdeal [hInprojSampleIdeal : Cert.InprojSampleIdeal.Facts] [hInprojSampleRefIdeal : Cert.InprojSampleRefIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleRefIdeal.nD Cert.InprojSampleRefIdeal.τ Cert.InprojSampleRefIdeal.sig) → Buf (Elt Ideal) ℓ) (g' : Dev Cert.InprojSampleRefIdeal.nD → PrngReg), Pre_InprojSampleIdeal m →
    (∀ c : Dev Cert.InprojSampleIdeal.nD,
      m' ((c.tc : Thread Cert.InprojSampleRefIdeal.nD Cert.InprojSampleRefIdeal.τ).loc Cert.InprojSampleRefIdeal.main_arg0) = m ((c.tc : Thread Cert.InprojSampleIdeal.nD Cert.InprojSampleIdeal.τ).loc Cert.InprojSampleIdeal.main_arg0)
      ∧ m' ((c.tc : Thread Cert.InprojSampleRefIdeal.nD Cert.InprojSampleRefIdeal.τ).loc Cert.InprojSampleRefIdeal.main_arg1) = m ((c.tc : Thread Cert.InprojSampleIdeal.nD Cert.InprojSampleIdeal.τ).loc Cert.InprojSampleIdeal.main_arg1)
      ∧ m' ((c.tc : Thread Cert.InprojSampleRefIdeal.nD Cert.InprojSampleRefIdeal.τ).loc Cert.InprojSampleRefIdeal.main_arg2) = m ((c.tc : Thread Cert.InprojSampleIdeal.nD Cert.InprojSampleIdeal.τ).loc Cert.InprojSampleIdeal.main_arg2)) →
    ∃ (v0 : (c : Dev Cert.InprojSampleIdeal.nD) → Buf (Elt Ideal) ((c.tc : Thread Cert.InprojSampleIdeal.nD Cert.InprojSampleIdeal.τ).loc Cert.InprojSampleIdeal.main_v5_0)) (v1 : (c : Dev Cert.InprojSampleIdeal.nD) → Buf (Elt Ideal) ((c.tc : Thread Cert.InprojSampleIdeal.nD Cert.InprojSampleIdeal.τ).loc Cert.InprojSampleIdeal.main_v5_1)) (v2 : (c : Dev Cert.InprojSampleIdeal.nD) → Buf (Elt Ideal) ((c.tc : Thread Cert.InprojSampleIdeal.nD Cert.InprojSampleIdeal.τ).loc Cert.InprojSampleIdeal.main_v5_2)) (v3 : (c : Dev Cert.InprojSampleIdeal.nD) → Buf (Elt Ideal) ((c.tc : Thread Cert.InprojSampleIdeal.nD Cert.InprojSampleIdeal.τ).loc Cert.InprojSampleIdeal.main_v5_3)) (v4 : (c : Dev Cert.InprojSampleIdeal.nD) → Buf (Elt Ideal) ((c.tc : Thread Cert.InprojSampleIdeal.nD Cert.InprojSampleIdeal.τ).loc Cert.InprojSampleIdeal.main_v5_4)) (v5 : (c : Dev Cert.InprojSampleIdeal.nD) → Buf (Elt Ideal) ((c.tc : Thread Cert.InprojSampleIdeal.nD Cert.InprojSampleIdeal.τ).loc Cert.InprojSampleIdeal.main_v5_5)) (v6 : (c : Dev Cert.InprojSampleIdeal.nD) → Buf (Elt Ideal) ((c.tc : Thread Cert.InprojSampleIdeal.nD Cert.InprojSampleIdeal.τ).loc Cert.InprojSampleIdeal.main_v5_6)) (v7 : (c : Dev Cert.InprojSampleIdeal.nD) → Buf (Elt Ideal) ((c.tc : Thread Cert.InprojSampleIdeal.nD Cert.InprojSampleIdeal.τ).loc Cert.InprojSampleIdeal.main_v5_7)) (v8 : (c : Dev Cert.InprojSampleIdeal.nD) → Buf (Elt Ideal) ((c.tc : Thread Cert.InprojSampleIdeal.nD Cert.InprojSampleIdeal.τ).loc Cert.InprojSampleIdeal.main_v5_8)) (v9 : (c : Dev Cert.InprojSampleIdeal.nD) → Buf (Elt Ideal) ((c.tc : Thread Cert.InprojSampleIdeal.nD Cert.InprojSampleIdeal.τ).loc Cert.InprojSampleIdeal.main_v5_9)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v5_0) = v0 c
          ∧ r.2.mem ((c.tc : Thread Cert.InprojSampleIdeal.nD Cert.InprojSampleIdeal.τ).loc Cert.InprojSampleIdeal.main_v5_1) = v1 c
          ∧ r.2.mem ((c.tc : Thread Cert.InprojSampleIdeal.nD Cert.InprojSampleIdeal.τ).loc Cert.InprojSampleIdeal.main_v5_2) = v2 c
          ∧ r.2.mem ((c.tc : Thread Cert.InprojSampleIdeal.nD Cert.InprojSampleIdeal.τ).loc Cert.InprojSampleIdeal.main_v5_3) = v3 c
          ∧ r.2.mem ((c.tc : Thread Cert.InprojSampleIdeal.nD Cert.InprojSampleIdeal.τ).loc Cert.InprojSampleIdeal.main_v5_4) = v4 c
          ∧ r.2.mem ((c.tc : Thread Cert.InprojSampleIdeal.nD Cert.InprojSampleIdeal.τ).loc Cert.InprojSampleIdeal.main_v5_5) = v5 c
          ∧ r.2.mem ((c.tc : Thread Cert.InprojSampleIdeal.nD Cert.InprojSampleIdeal.τ).loc Cert.InprojSampleIdeal.main_v5_6) = v6 c
          ∧ r.2.mem ((c.tc : Thread Cert.InprojSampleIdeal.nD Cert.InprojSampleIdeal.τ).loc Cert.InprojSampleIdeal.main_v5_7) = v7 c
          ∧ r.2.mem ((c.tc : Thread Cert.InprojSampleIdeal.nD Cert.InprojSampleIdeal.τ).loc Cert.InprojSampleIdeal.main_v5_8) = v8 c
          ∧ r.2.mem ((c.tc : Thread Cert.InprojSampleIdeal.nD Cert.InprojSampleIdeal.τ).loc Cert.InprojSampleIdeal.main_v5_9) = v9 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2))
      ∧ θ_run (Cert.InprojSampleRefIdeal.defs (F := Ideal)) (onTc (τ := Cert.InprojSampleRefIdeal.τ) (Cert.InprojSampleRefIdeal.main (F := Ideal))) ⟨m', fun _ => 0, g'⟩ (fun r => ∀ c : Dev Cert.InprojSampleRefIdeal.nD,
          r.2.mem ((c.tc : Thread Cert.InprojSampleRefIdeal.nD Cert.InprojSampleRefIdeal.τ).loc Cert.InprojSampleRefIdeal.main_v41) = v0 c
          ∧ r.2.mem ((c.tc : Thread Cert.InprojSampleRefIdeal.nD Cert.InprojSampleRefIdeal.τ).loc Cert.InprojSampleRefIdeal.main_v42) = v1 c
          ∧ r.2.mem ((c.tc : Thread Cert.InprojSampleRefIdeal.nD Cert.InprojSampleRefIdeal.τ).loc Cert.InprojSampleRefIdeal.main_v44) = v2 c
          ∧ r.2.mem ((c.tc : Thread Cert.InprojSampleRefIdeal.nD Cert.InprojSampleRefIdeal.τ).loc Cert.InprojSampleRefIdeal.main_v46) = v3 c
          ∧ r.2.mem ((c.tc : Thread Cert.InprojSampleRefIdeal.nD Cert.InprojSampleRefIdeal.τ).loc Cert.InprojSampleRefIdeal.main_v47) = v4 c
          ∧ r.2.mem ((c.tc : Thread Cert.InprojSampleRefIdeal.nD Cert.InprojSampleRefIdeal.τ).loc Cert.InprojSampleRefIdeal.main_v48) = v5 c
          ∧ r.2.mem ((c.tc : Thread Cert.InprojSampleRefIdeal.nD Cert.InprojSampleRefIdeal.τ).loc Cert.InprojSampleRefIdeal.main_v49) = v6 c
          ∧ r.2.mem ((c.tc : Thread Cert.InprojSampleRefIdeal.nD Cert.InprojSampleRefIdeal.τ).loc Cert.InprojSampleRefIdeal.main_v50) = v7 c
          ∧ r.2.mem ((c.tc : Thread Cert.InprojSampleRefIdeal.nD Cert.InprojSampleRefIdeal.τ).loc Cert.InprojSampleRefIdeal.main_v51) = v8 c
          ∧ r.2.mem ((c.tc : Thread Cert.InprojSampleRefIdeal.nD Cert.InprojSampleRefIdeal.τ).loc Cert.InprojSampleRefIdeal.main_v52) = v9 c
          ∧ r.2.mem ((c.tc : Thread Cert.InprojSampleRefIdeal.nD Cert.InprojSampleRefIdeal.τ).loc Cert.InprojSampleRefIdeal.main_arg0) = m' ((c.tc : Thread Cert.InprojSampleRefIdeal.nD Cert.InprojSampleRefIdeal.τ).loc Cert.InprojSampleRefIdeal.main_arg0)
          ∧ r.2.mem ((c.tc : Thread Cert.InprojSampleRefIdeal.nD Cert.InprojSampleRefIdeal.τ).loc Cert.InprojSampleRefIdeal.main_arg1) = m' ((c.tc : Thread Cert.InprojSampleRefIdeal.nD Cert.InprojSampleRefIdeal.τ).loc Cert.InprojSampleRefIdeal.main_arg1)
          ∧ r.2.mem ((c.tc : Thread Cert.InprojSampleRefIdeal.nD Cert.InprojSampleRefIdeal.τ).loc Cert.InprojSampleRefIdeal.main_arg2) = m' ((c.tc : Thread Cert.InprojSampleRefIdeal.nD Cert.InprojSampleRefIdeal.τ).loc Cert.InprojSampleRefIdeal.main_arg2))

def preserves_MixoutSample_MixoutSampleIdeal : Prop :=
  True

def algebraic_MixoutSampleIdeal_MixoutSampleRefIdeal_pre_pool_state_finite [hMixoutSampleIdeal : Cert.MixoutSampleIdeal.Facts] [hMixoutSampleRefIdeal : Cert.MixoutSampleRefIdeal.Facts] [hPre_pool_state_finite : Cert.Pre_pool_state_finite.Facts] : Prop :=
  ∀ (m : (ℓ : Loc Cert.MixoutSampleIdeal.nD Cert.MixoutSampleIdeal.τ Cert.MixoutSampleIdeal.sig) → Buf (Elt Ideal) ℓ) (g : Dev Cert.MixoutSampleIdeal.nD → PrngReg)
    (m' : (ℓ : Loc Cert.MixoutSampleRefIdeal.nD Cert.MixoutSampleRefIdeal.τ Cert.MixoutSampleRefIdeal.sig) → Buf (Elt Ideal) ℓ) (g' : Dev Cert.MixoutSampleRefIdeal.nD → PrngReg), Pre_MixoutSampleIdeal_pool_state_finite m →
    (∀ c : Dev Cert.MixoutSampleIdeal.nD,
      m' ((c.tc : Thread Cert.MixoutSampleRefIdeal.nD Cert.MixoutSampleRefIdeal.τ).loc Cert.MixoutSampleRefIdeal.main_arg0) = m ((c.tc : Thread Cert.MixoutSampleIdeal.nD Cert.MixoutSampleIdeal.τ).loc Cert.MixoutSampleIdeal.main_arg0)
      ∧ m' ((c.tc : Thread Cert.MixoutSampleRefIdeal.nD Cert.MixoutSampleRefIdeal.τ).loc Cert.MixoutSampleRefIdeal.main_arg1) = m ((c.tc : Thread Cert.MixoutSampleIdeal.nD Cert.MixoutSampleIdeal.τ).loc Cert.MixoutSampleIdeal.main_arg1)
      ∧ m' ((c.tc : Thread Cert.MixoutSampleRefIdeal.nD Cert.MixoutSampleRefIdeal.τ).loc Cert.MixoutSampleRefIdeal.main_arg2) = m ((c.tc : Thread Cert.MixoutSampleIdeal.nD Cert.MixoutSampleIdeal.τ).loc Cert.MixoutSampleIdeal.main_arg2)
      ∧ m' ((c.tc : Thread Cert.MixoutSampleRefIdeal.nD Cert.MixoutSampleRefIdeal.τ).loc Cert.MixoutSampleRefIdeal.main_arg3) = m ((c.tc : Thread Cert.MixoutSampleIdeal.nD Cert.MixoutSampleIdeal.τ).loc Cert.MixoutSampleIdeal.main_arg3)
      ∧ m' ((c.tc : Thread Cert.MixoutSampleRefIdeal.nD Cert.MixoutSampleRefIdeal.τ).loc Cert.MixoutSampleRefIdeal.main_arg4) = m ((c.tc : Thread Cert.MixoutSampleIdeal.nD Cert.MixoutSampleIdeal.τ).loc Cert.MixoutSampleIdeal.main_arg4)
      ∧ m' ((c.tc : Thread Cert.MixoutSampleRefIdeal.nD Cert.MixoutSampleRefIdeal.τ).loc Cert.MixoutSampleRefIdeal.main_arg5) = m ((c.tc : Thread Cert.MixoutSampleIdeal.nD Cert.MixoutSampleIdeal.τ).loc Cert.MixoutSampleIdeal.main_arg5)
      ∧ m' ((c.tc : Thread Cert.MixoutSampleRefIdeal.nD Cert.MixoutSampleRefIdeal.τ).loc Cert.MixoutSampleRefIdeal.main_arg6) = m ((c.tc : Thread Cert.MixoutSampleIdeal.nD Cert.MixoutSampleIdeal.τ).loc Cert.MixoutSampleIdeal.main_arg6)
      ∧ m' ((c.tc : Thread Cert.MixoutSampleRefIdeal.nD Cert.MixoutSampleRefIdeal.τ).loc Cert.MixoutSampleRefIdeal.main_arg7) = m ((c.tc : Thread Cert.MixoutSampleIdeal.nD Cert.MixoutSampleIdeal.τ).loc Cert.MixoutSampleIdeal.main_arg7)
      ∧ m' ((c.tc : Thread Cert.MixoutSampleRefIdeal.nD Cert.MixoutSampleRefIdeal.τ).loc Cert.MixoutSampleRefIdeal.main_arg8) = m ((c.tc : Thread Cert.MixoutSampleIdeal.nD Cert.MixoutSampleIdeal.τ).loc Cert.MixoutSampleIdeal.main_arg8)
      ∧ m' ((c.tc : Thread Cert.MixoutSampleRefIdeal.nD Cert.MixoutSampleRefIdeal.τ).loc Cert.MixoutSampleRefIdeal.main_arg9) = m ((c.tc : Thread Cert.MixoutSampleIdeal.nD Cert.MixoutSampleIdeal.τ).loc Cert.MixoutSampleIdeal.main_arg9)
      ∧ m' ((c.tc : Thread Cert.MixoutSampleRefIdeal.nD Cert.MixoutSampleRefIdeal.τ).loc Cert.MixoutSampleRefIdeal.main_arg10) = m ((c.tc : Thread Cert.MixoutSampleIdeal.nD Cert.MixoutSampleIdeal.τ).loc Cert.MixoutSampleIdeal.main_arg10)
      ∧ m' ((c.tc : Thread Cert.MixoutSampleRefIdeal.nD Cert.MixoutSampleRefIdeal.τ).loc Cert.MixoutSampleRefIdeal.main_arg11) = m ((c.tc : Thread Cert.MixoutSampleIdeal.nD Cert.MixoutSampleIdeal.τ).loc Cert.MixoutSampleIdeal.main_arg11)
      ∧ m' ((c.tc : Thread Cert.MixoutSampleRefIdeal.nD Cert.MixoutSampleRefIdeal.τ).loc Cert.MixoutSampleRefIdeal.main_arg12) = m ((c.tc : Thread Cert.MixoutSampleIdeal.nD Cert.MixoutSampleIdeal.τ).loc Cert.MixoutSampleIdeal.main_arg12)
      ∧ m' ((c.tc : Thread Cert.MixoutSampleRefIdeal.nD Cert.MixoutSampleRefIdeal.τ).loc Cert.MixoutSampleRefIdeal.main_arg13) = m ((c.tc : Thread Cert.MixoutSampleIdeal.nD Cert.MixoutSampleIdeal.τ).loc Cert.MixoutSampleIdeal.main_arg13)
      ∧ m' ((c.tc : Thread Cert.MixoutSampleRefIdeal.nD Cert.MixoutSampleRefIdeal.τ).loc Cert.MixoutSampleRefIdeal.main_arg14) = m ((c.tc : Thread Cert.MixoutSampleIdeal.nD Cert.MixoutSampleIdeal.τ).loc Cert.MixoutSampleIdeal.main_arg14)
      ∧ m' ((c.tc : Thread Cert.MixoutSampleRefIdeal.nD Cert.MixoutSampleRefIdeal.τ).loc Cert.MixoutSampleRefIdeal.main_arg15) = m ((c.tc : Thread Cert.MixoutSampleIdeal.nD Cert.MixoutSampleIdeal.τ).loc Cert.MixoutSampleIdeal.main_arg15)) →
    ∃ (v0 : (c : Dev Cert.MixoutSampleIdeal.nD) → Buf (Elt Ideal) ((c.tc : Thread Cert.MixoutSampleIdeal.nD Cert.MixoutSampleIdeal.τ).loc Cert.MixoutSampleIdeal.main_v65)) (v1 : (c : Dev Cert.MixoutSampleIdeal.nD) → Buf (Elt Ideal) ((c.tc : Thread Cert.MixoutSampleIdeal.nD Cert.MixoutSampleIdeal.τ).loc Cert.MixoutSampleIdeal.main_v7)) (v2 : (c : Dev Cert.MixoutSampleIdeal.nD) → Buf (Elt Ideal) ((c.tc : Thread Cert.MixoutSampleIdeal.nD Cert.MixoutSampleIdeal.τ).loc Cert.MixoutSampleIdeal.main_v11)),
      θ_run (Cert.MixoutSampleIdeal.defs (F := Ideal)) (onTc (τ := Cert.MixoutSampleIdeal.τ) (Cert.MixoutSampleIdeal.main (F := Ideal))) ⟨m, fun _ => 0, g⟩ (fun r => ∀ c : Dev Cert.MixoutSampleIdeal.nD,
          r.2.mem ((c.tc : Thread Cert.MixoutSampleIdeal.nD Cert.MixoutSampleIdeal.τ).loc Cert.MixoutSampleIdeal.main_v65) = v0 c
          ∧ r.2.mem ((c.tc : Thread Cert.MixoutSampleIdeal.nD Cert.MixoutSampleIdeal.τ).loc Cert.MixoutSampleIdeal.main_v7) = v1 c
          ∧ r.2.mem ((c.tc : Thread Cert.MixoutSampleIdeal.nD Cert.MixoutSampleIdeal.τ).loc Cert.MixoutSampleIdeal.main_v11) = v2 c
          ∧ r.2.mem ((c.tc : Thread Cert.MixoutSampleIdeal.nD Cert.MixoutSampleIdeal.τ).loc Cert.MixoutSampleIdeal.main_arg0) = m ((c.tc : Thread Cert.MixoutSampleIdeal.nD Cert.MixoutSampleIdeal.τ).loc Cert.MixoutSampleIdeal.main_arg0)
          ∧ r.2.mem ((c.tc : Thread Cert.MixoutSampleIdeal.nD Cert.MixoutSampleIdeal.τ).loc Cert.MixoutSampleIdeal.main_arg1) = m ((c.tc : Thread Cert.MixoutSampleIdeal.nD Cert.MixoutSampleIdeal.τ).loc Cert.MixoutSampleIdeal.main_arg1)
          ∧ r.2.mem ((c.tc : Thread Cert.MixoutSampleIdeal.nD Cert.MixoutSampleIdeal.τ).loc Cert.MixoutSampleIdeal.main_arg2) = m ((c.tc : Thread Cert.MixoutSampleIdeal.nD Cert.MixoutSampleIdeal.τ).loc Cert.MixoutSampleIdeal.main_arg2)
          ∧ r.2.mem ((c.tc : Thread Cert.MixoutSampleIdeal.nD Cert.MixoutSampleIdeal.τ).loc Cert.MixoutSampleIdeal.main_arg3) = m ((c.tc : Thread Cert.MixoutSampleIdeal.nD Cert.MixoutSampleIdeal.τ).loc Cert.MixoutSampleIdeal.main_arg3)
          ∧ r.2.mem ((c.tc : Thread Cert.MixoutSampleIdeal.nD Cert.MixoutSampleIdeal.τ).loc Cert.MixoutSampleIdeal.main_arg4) = m ((c.tc : Thread Cert.MixoutSampleIdeal.nD Cert.MixoutSampleIdeal.τ).loc Cert.MixoutSampleIdeal.main_arg4)
          ∧ r.2.mem ((c.tc : Thread Cert.MixoutSampleIdeal.nD Cert.MixoutSampleIdeal.τ).loc Cert.MixoutSampleIdeal.main_arg5) = m ((c.tc : Thread Cert.MixoutSampleIdeal.nD Cert.MixoutSampleIdeal.τ).loc Cert.MixoutSampleIdeal.main_arg5)
          ∧ r.2.mem ((c.tc : Thread Cert.MixoutSampleIdeal.nD Cert.MixoutSampleIdeal.τ).loc Cert.MixoutSampleIdeal.main_arg6) = m ((c.tc : Thread Cert.MixoutSampleIdeal.nD Cert.MixoutSampleIdeal.τ).loc Cert.MixoutSampleIdeal.main_arg6)
          ∧ r.2.mem ((c.tc : Thread Cert.MixoutSampleIdeal.nD Cert.MixoutSampleIdeal.τ).loc Cert.MixoutSampleIdeal.main_arg7) = m ((c.tc : Thread Cert.MixoutSampleIdeal.nD Cert.MixoutSampleIdeal.τ).loc Cert.MixoutSampleIdeal.main_arg7)
          ∧ r.2.mem ((c.tc : Thread Cert.MixoutSampleIdeal.nD Cert.MixoutSampleIdeal.τ).loc Cert.MixoutSampleIdeal.main_arg8) = m ((c.tc : Thread Cert.MixoutSampleIdeal.nD Cert.MixoutSampleIdeal.τ).loc Cert.MixoutSampleIdeal.main_arg8)
          ∧ r.2.mem ((c.tc : Thread Cert.MixoutSampleIdeal.nD Cert.MixoutSampleIdeal.τ).loc Cert.MixoutSampleIdeal.main_arg9) = m ((c.tc : Thread Cert.MixoutSampleIdeal.nD Cert.MixoutSampleIdeal.τ).loc Cert.MixoutSampleIdeal.main_arg9)
          ∧ r.2.mem ((c.tc : Thread Cert.MixoutSampleIdeal.nD Cert.MixoutSampleIdeal.τ).loc Cert.MixoutSampleIdeal.main_arg10) = m ((c.tc : Thread Cert.MixoutSampleIdeal.nD Cert.MixoutSampleIdeal.τ).loc Cert.MixoutSampleIdeal.main_arg10)
          ∧ r.2.mem ((c.tc : Thread Cert.MixoutSampleIdeal.nD Cert.MixoutSampleIdeal.τ).loc Cert.MixoutSampleIdeal.main_arg11) = m ((c.tc : Thread Cert.MixoutSampleIdeal.nD Cert.MixoutSampleIdeal.τ).loc Cert.MixoutSampleIdeal.main_arg11)
          ∧ r.2.mem ((c.tc : Thread Cert.MixoutSampleIdeal.nD Cert.MixoutSampleIdeal.τ).loc Cert.MixoutSampleIdeal.main_arg12) = m ((c.tc : Thread Cert.MixoutSampleIdeal.nD Cert.MixoutSampleIdeal.τ).loc Cert.MixoutSampleIdeal.main_arg12)
          ∧ r.2.mem ((c.tc : Thread Cert.MixoutSampleIdeal.nD Cert.MixoutSampleIdeal.τ).loc Cert.MixoutSampleIdeal.main_arg13) = m ((c.tc : Thread Cert.MixoutSampleIdeal.nD Cert.MixoutSampleIdeal.τ).loc Cert.MixoutSampleIdeal.main_arg13)
          ∧ r.2.mem ((c.tc : Thread Cert.MixoutSampleIdeal.nD Cert.MixoutSampleIdeal.τ).loc Cert.MixoutSampleIdeal.main_arg14) = m ((c.tc : Thread Cert.MixoutSampleIdeal.nD Cert.MixoutSampleIdeal.τ).loc Cert.MixoutSampleIdeal.main_arg14)
          ∧ r.2.mem ((c.tc : Thread Cert.MixoutSampleIdeal.nD Cert.MixoutSampleIdeal.τ).loc Cert.MixoutSampleIdeal.main_arg15) = m ((c.tc : Thread Cert.MixoutSampleIdeal.nD Cert.MixoutSampleIdeal.τ).loc Cert.MixoutSampleIdeal.main_arg15))
      ∧ θ_run (Cert.MixoutSampleRefIdeal.defs (F := Ideal)) (onTc (τ := Cert.MixoutSampleRefIdeal.τ) (Cert.MixoutSampleRefIdeal.main (F := Ideal))) ⟨m', fun _ => 0, g'⟩ (fun r => ∀ c : Dev Cert.MixoutSampleRefIdeal.nD,
          r.2.mem ((c.tc : Thread Cert.MixoutSampleRefIdeal.nD Cert.MixoutSampleRefIdeal.τ).loc Cert.MixoutSampleRefIdeal.main_v171) = v0 c
          ∧ r.2.mem ((c.tc : Thread Cert.MixoutSampleRefIdeal.nD Cert.MixoutSampleRefIdeal.τ).loc Cert.MixoutSampleRefIdeal.main_v173) = v1 c
          ∧ r.2.mem ((c.tc : Thread Cert.MixoutSampleRefIdeal.nD Cert.MixoutSampleRefIdeal.τ).loc Cert.MixoutSampleRefIdeal.main_v175) = v2 c
          ∧ r.2.mem ((c.tc : Thread Cert.MixoutSampleRefIdeal.nD Cert.MixoutSampleRefIdeal.τ).loc Cert.MixoutSampleRefIdeal.main_arg0) = m' ((c.tc : Thread Cert.MixoutSampleRefIdeal.nD Cert.MixoutSampleRefIdeal.τ).loc Cert.MixoutSampleRefIdeal.main_arg0)
          ∧ r.2.mem ((c.tc : Thread Cert.MixoutSampleRefIdeal.nD Cert.MixoutSampleRefIdeal.τ).loc Cert.MixoutSampleRefIdeal.main_arg1) = m' ((c.tc : Thread Cert.MixoutSampleRefIdeal.nD Cert.MixoutSampleRefIdeal.τ).loc Cert.MixoutSampleRefIdeal.main_arg1)
          ∧ r.2.mem ((c.tc : Thread Cert.MixoutSampleRefIdeal.nD Cert.MixoutSampleRefIdeal.τ).loc Cert.MixoutSampleRefIdeal.main_arg2) = m' ((c.tc : Thread Cert.MixoutSampleRefIdeal.nD Cert.MixoutSampleRefIdeal.τ).loc Cert.MixoutSampleRefIdeal.main_arg2)
          ∧ r.2.mem ((c.tc : Thread Cert.MixoutSampleRefIdeal.nD Cert.MixoutSampleRefIdeal.τ).loc Cert.MixoutSampleRefIdeal.main_arg3) = m' ((c.tc : Thread Cert.MixoutSampleRefIdeal.nD Cert.MixoutSampleRefIdeal.τ).loc Cert.MixoutSampleRefIdeal.main_arg3)
          ∧ r.2.mem ((c.tc : Thread Cert.MixoutSampleRefIdeal.nD Cert.MixoutSampleRefIdeal.τ).loc Cert.MixoutSampleRefIdeal.main_arg4) = m' ((c.tc : Thread Cert.MixoutSampleRefIdeal.nD Cert.MixoutSampleRefIdeal.τ).loc Cert.MixoutSampleRefIdeal.main_arg4)
          ∧ r.2.mem ((c.tc : Thread Cert.MixoutSampleRefIdeal.nD Cert.MixoutSampleRefIdeal.τ).loc Cert.MixoutSampleRefIdeal.main_arg5) = m' ((c.tc : Thread Cert.MixoutSampleRefIdeal.nD Cert.MixoutSampleRefIdeal.τ).loc Cert.MixoutSampleRefIdeal.main_arg5)
          ∧ r.2.mem ((c.tc : Thread Cert.MixoutSampleRefIdeal.nD Cert.MixoutSampleRefIdeal.τ).loc Cert.MixoutSampleRefIdeal.main_arg6) = m' ((c.tc : Thread Cert.MixoutSampleRefIdeal.nD Cert.MixoutSampleRefIdeal.τ).loc Cert.MixoutSampleRefIdeal.main_arg6)
          ∧ r.2.mem ((c.tc : Thread Cert.MixoutSampleRefIdeal.nD Cert.MixoutSampleRefIdeal.τ).loc Cert.MixoutSampleRefIdeal.main_arg7) = m' ((c.tc : Thread Cert.MixoutSampleRefIdeal.nD Cert.MixoutSampleRefIdeal.τ).loc Cert.MixoutSampleRefIdeal.main_arg7)
          ∧ r.2.mem ((c.tc : Thread Cert.MixoutSampleRefIdeal.nD Cert.MixoutSampleRefIdeal.τ).loc Cert.MixoutSampleRefIdeal.main_arg8) = m' ((c.tc : Thread Cert.MixoutSampleRefIdeal.nD Cert.MixoutSampleRefIdeal.τ).loc Cert.MixoutSampleRefIdeal.main_arg8)
          ∧ r.2.mem ((c.tc : Thread Cert.MixoutSampleRefIdeal.nD Cert.MixoutSampleRefIdeal.τ).loc Cert.MixoutSampleRefIdeal.main_arg9) = m' ((c.tc : Thread Cert.MixoutSampleRefIdeal.nD Cert.MixoutSampleRefIdeal.τ).loc Cert.MixoutSampleRefIdeal.main_arg9)
          ∧ r.2.mem ((c.tc : Thread Cert.MixoutSampleRefIdeal.nD Cert.MixoutSampleRefIdeal.τ).loc Cert.MixoutSampleRefIdeal.main_arg10) = m' ((c.tc : Thread Cert.MixoutSampleRefIdeal.nD Cert.MixoutSampleRefIdeal.τ).loc Cert.MixoutSampleRefIdeal.main_arg10)
          ∧ r.2.mem ((c.tc : Thread Cert.MixoutSampleRefIdeal.nD Cert.MixoutSampleRefIdeal.τ).loc Cert.MixoutSampleRefIdeal.main_arg11) = m' ((c.tc : Thread Cert.MixoutSampleRefIdeal.nD Cert.MixoutSampleRefIdeal.τ).loc Cert.MixoutSampleRefIdeal.main_arg11)
          ∧ r.2.mem ((c.tc : Thread Cert.MixoutSampleRefIdeal.nD Cert.MixoutSampleRefIdeal.τ).loc Cert.MixoutSampleRefIdeal.main_arg12) = m' ((c.tc : Thread Cert.MixoutSampleRefIdeal.nD Cert.MixoutSampleRefIdeal.τ).loc Cert.MixoutSampleRefIdeal.main_arg12)
          ∧ r.2.mem ((c.tc : Thread Cert.MixoutSampleRefIdeal.nD Cert.MixoutSampleRefIdeal.τ).loc Cert.MixoutSampleRefIdeal.main_arg13) = m' ((c.tc : Thread Cert.MixoutSampleRefIdeal.nD Cert.MixoutSampleRefIdeal.τ).loc Cert.MixoutSampleRefIdeal.main_arg13)
          ∧ r.2.mem ((c.tc : Thread Cert.MixoutSampleRefIdeal.nD Cert.MixoutSampleRefIdeal.τ).loc Cert.MixoutSampleRefIdeal.main_arg14) = m' ((c.tc : Thread Cert.MixoutSampleRefIdeal.nD Cert.MixoutSampleRefIdeal.τ).loc Cert.MixoutSampleRefIdeal.main_arg14)
          ∧ r.2.mem ((c.tc : Thread Cert.MixoutSampleRefIdeal.nD Cert.MixoutSampleRefIdeal.τ).loc Cert.MixoutSampleRefIdeal.main_arg15) = m' ((c.tc : Thread Cert.MixoutSampleRefIdeal.nD Cert.MixoutSampleRefIdeal.τ).loc Cert.MixoutSampleRefIdeal.main_arg15))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_MixoutPrompt_MixoutPromptIdeal : Prop :=
  True

def algebraic_MixoutPromptIdeal_MixoutPromptRefIdeal_pre_pool_input_finite [hMixoutPromptIdeal : Cert.MixoutPromptIdeal.Facts] [hMixoutPromptRefIdeal : Cert.MixoutPromptRefIdeal.Facts] [hPre_pool_input_finite : Cert.Pre_pool_input_finite.Facts] : Prop :=
  ∀ (m : (ℓ : Loc Cert.MixoutPromptIdeal.nD Cert.MixoutPromptIdeal.τ Cert.MixoutPromptIdeal.sig) → Buf (Elt Ideal) ℓ) (g : Dev Cert.MixoutPromptIdeal.nD → PrngReg)
    (m' : (ℓ : Loc Cert.MixoutPromptRefIdeal.nD Cert.MixoutPromptRefIdeal.τ Cert.MixoutPromptRefIdeal.sig) → Buf (Elt Ideal) ℓ) (g' : Dev Cert.MixoutPromptRefIdeal.nD → PrngReg), Pre_MixoutPromptIdeal_pool_input_finite m →
    (∀ c : Dev Cert.MixoutPromptIdeal.nD,
      m' ((c.tc : Thread Cert.MixoutPromptRefIdeal.nD Cert.MixoutPromptRefIdeal.τ).loc Cert.MixoutPromptRefIdeal.main_arg0) = m ((c.tc : Thread Cert.MixoutPromptIdeal.nD Cert.MixoutPromptIdeal.τ).loc Cert.MixoutPromptIdeal.main_arg0)
      ∧ m' ((c.tc : Thread Cert.MixoutPromptRefIdeal.nD Cert.MixoutPromptRefIdeal.τ).loc Cert.MixoutPromptRefIdeal.main_arg1) = m ((c.tc : Thread Cert.MixoutPromptIdeal.nD Cert.MixoutPromptIdeal.τ).loc Cert.MixoutPromptIdeal.main_arg1)
      ∧ m' ((c.tc : Thread Cert.MixoutPromptRefIdeal.nD Cert.MixoutPromptRefIdeal.τ).loc Cert.MixoutPromptRefIdeal.main_arg2) = m ((c.tc : Thread Cert.MixoutPromptIdeal.nD Cert.MixoutPromptIdeal.τ).loc Cert.MixoutPromptIdeal.main_arg2)
      ∧ m' ((c.tc : Thread Cert.MixoutPromptRefIdeal.nD Cert.MixoutPromptRefIdeal.τ).loc Cert.MixoutPromptRefIdeal.main_arg3) = m ((c.tc : Thread Cert.MixoutPromptIdeal.nD Cert.MixoutPromptIdeal.τ).loc Cert.MixoutPromptIdeal.main_arg3)
      ∧ m' ((c.tc : Thread Cert.MixoutPromptRefIdeal.nD Cert.MixoutPromptRefIdeal.τ).loc Cert.MixoutPromptRefIdeal.main_arg4) = m ((c.tc : Thread Cert.MixoutPromptIdeal.nD Cert.MixoutPromptIdeal.τ).loc Cert.MixoutPromptIdeal.main_arg4)
      ∧ m' ((c.tc : Thread Cert.MixoutPromptRefIdeal.nD Cert.MixoutPromptRefIdeal.τ).loc Cert.MixoutPromptRefIdeal.main_arg5) = m ((c.tc : Thread Cert.MixoutPromptIdeal.nD Cert.MixoutPromptIdeal.τ).loc Cert.MixoutPromptIdeal.main_arg5)
      ∧ m' ((c.tc : Thread Cert.MixoutPromptRefIdeal.nD Cert.MixoutPromptRefIdeal.τ).loc Cert.MixoutPromptRefIdeal.main_arg6) = m ((c.tc : Thread Cert.MixoutPromptIdeal.nD Cert.MixoutPromptIdeal.τ).loc Cert.MixoutPromptIdeal.main_arg6)
      ∧ m' ((c.tc : Thread Cert.MixoutPromptRefIdeal.nD Cert.MixoutPromptRefIdeal.τ).loc Cert.MixoutPromptRefIdeal.main_arg7) = m ((c.tc : Thread Cert.MixoutPromptIdeal.nD Cert.MixoutPromptIdeal.τ).loc Cert.MixoutPromptIdeal.main_arg7)
      ∧ m' ((c.tc : Thread Cert.MixoutPromptRefIdeal.nD Cert.MixoutPromptRefIdeal.τ).loc Cert.MixoutPromptRefIdeal.main_arg8) = m ((c.tc : Thread Cert.MixoutPromptIdeal.nD Cert.MixoutPromptIdeal.τ).loc Cert.MixoutPromptIdeal.main_arg8)
      ∧ m' ((c.tc : Thread Cert.MixoutPromptRefIdeal.nD Cert.MixoutPromptRefIdeal.τ).loc Cert.MixoutPromptRefIdeal.main_arg9) = m ((c.tc : Thread Cert.MixoutPromptIdeal.nD Cert.MixoutPromptIdeal.τ).loc Cert.MixoutPromptIdeal.main_arg9)
      ∧ m' ((c.tc : Thread Cert.MixoutPromptRefIdeal.nD Cert.MixoutPromptRefIdeal.τ).loc Cert.MixoutPromptRefIdeal.main_arg10) = m ((c.tc : Thread Cert.MixoutPromptIdeal.nD Cert.MixoutPromptIdeal.τ).loc Cert.MixoutPromptIdeal.main_arg10)
      ∧ m' ((c.tc : Thread Cert.MixoutPromptRefIdeal.nD Cert.MixoutPromptRefIdeal.τ).loc Cert.MixoutPromptRefIdeal.main_arg11) = m ((c.tc : Thread Cert.MixoutPromptIdeal.nD Cert.MixoutPromptIdeal.τ).loc Cert.MixoutPromptIdeal.main_arg11)
      ∧ m' ((c.tc : Thread Cert.MixoutPromptRefIdeal.nD Cert.MixoutPromptRefIdeal.τ).loc Cert.MixoutPromptRefIdeal.main_arg12) = m ((c.tc : Thread Cert.MixoutPromptIdeal.nD Cert.MixoutPromptIdeal.τ).loc Cert.MixoutPromptIdeal.main_arg12)
      ∧ m' ((c.tc : Thread Cert.MixoutPromptRefIdeal.nD Cert.MixoutPromptRefIdeal.τ).loc Cert.MixoutPromptRefIdeal.main_arg13) = m ((c.tc : Thread Cert.MixoutPromptIdeal.nD Cert.MixoutPromptIdeal.τ).loc Cert.MixoutPromptIdeal.main_arg13)) →
    ∃ (v0 : (c : Dev Cert.MixoutPromptIdeal.nD) → Buf (Elt Ideal) ((c.tc : Thread Cert.MixoutPromptIdeal.nD Cert.MixoutPromptIdeal.τ).loc Cert.MixoutPromptIdeal.main_v51)),
      θ_run (Cert.MixoutPromptIdeal.defs (F := Ideal)) (onTc (τ := Cert.MixoutPromptIdeal.τ) (Cert.MixoutPromptIdeal.main (F := Ideal))) ⟨m, fun _ => 0, g⟩ (fun r => ∀ c : Dev Cert.MixoutPromptIdeal.nD,
          r.2.mem ((c.tc : Thread Cert.MixoutPromptIdeal.nD Cert.MixoutPromptIdeal.τ).loc Cert.MixoutPromptIdeal.main_v51) = v0 c
          ∧ r.2.mem ((c.tc : Thread Cert.MixoutPromptIdeal.nD Cert.MixoutPromptIdeal.τ).loc Cert.MixoutPromptIdeal.main_arg0) = m ((c.tc : Thread Cert.MixoutPromptIdeal.nD Cert.MixoutPromptIdeal.τ).loc Cert.MixoutPromptIdeal.main_arg0)
          ∧ r.2.mem ((c.tc : Thread Cert.MixoutPromptIdeal.nD Cert.MixoutPromptIdeal.τ).loc Cert.MixoutPromptIdeal.main_arg1) = m ((c.tc : Thread Cert.MixoutPromptIdeal.nD Cert.MixoutPromptIdeal.τ).loc Cert.MixoutPromptIdeal.main_arg1)
          ∧ r.2.mem ((c.tc : Thread Cert.MixoutPromptIdeal.nD Cert.MixoutPromptIdeal.τ).loc Cert.MixoutPromptIdeal.main_arg2) = m ((c.tc : Thread Cert.MixoutPromptIdeal.nD Cert.MixoutPromptIdeal.τ).loc Cert.MixoutPromptIdeal.main_arg2)
          ∧ r.2.mem ((c.tc : Thread Cert.MixoutPromptIdeal.nD Cert.MixoutPromptIdeal.τ).loc Cert.MixoutPromptIdeal.main_arg3) = m ((c.tc : Thread Cert.MixoutPromptIdeal.nD Cert.MixoutPromptIdeal.τ).loc Cert.MixoutPromptIdeal.main_arg3)
          ∧ r.2.mem ((c.tc : Thread Cert.MixoutPromptIdeal.nD Cert.MixoutPromptIdeal.τ).loc Cert.MixoutPromptIdeal.main_arg4) = m ((c.tc : Thread Cert.MixoutPromptIdeal.nD Cert.MixoutPromptIdeal.τ).loc Cert.MixoutPromptIdeal.main_arg4)
          ∧ r.2.mem ((c.tc : Thread Cert.MixoutPromptIdeal.nD Cert.MixoutPromptIdeal.τ).loc Cert.MixoutPromptIdeal.main_arg5) = m ((c.tc : Thread Cert.MixoutPromptIdeal.nD Cert.MixoutPromptIdeal.τ).loc Cert.MixoutPromptIdeal.main_arg5)
          ∧ r.2.mem ((c.tc : Thread Cert.MixoutPromptIdeal.nD Cert.MixoutPromptIdeal.τ).loc Cert.MixoutPromptIdeal.main_arg6) = m ((c.tc : Thread Cert.MixoutPromptIdeal.nD Cert.MixoutPromptIdeal.τ).loc Cert.MixoutPromptIdeal.main_arg6)
          ∧ r.2.mem ((c.tc : Thread Cert.MixoutPromptIdeal.nD Cert.MixoutPromptIdeal.τ).loc Cert.MixoutPromptIdeal.main_arg7) = m ((c.tc : Thread Cert.MixoutPromptIdeal.nD Cert.MixoutPromptIdeal.τ).loc Cert.MixoutPromptIdeal.main_arg7)
          ∧ r.2.mem ((c.tc : Thread Cert.MixoutPromptIdeal.nD Cert.MixoutPromptIdeal.τ).loc Cert.MixoutPromptIdeal.main_arg8) = m ((c.tc : Thread Cert.MixoutPromptIdeal.nD Cert.MixoutPromptIdeal.τ).loc Cert.MixoutPromptIdeal.main_arg8)
          ∧ r.2.mem ((c.tc : Thread Cert.MixoutPromptIdeal.nD Cert.MixoutPromptIdeal.τ).loc Cert.MixoutPromptIdeal.main_arg9) = m ((c.tc : Thread Cert.MixoutPromptIdeal.nD Cert.MixoutPromptIdeal.τ).loc Cert.MixoutPromptIdeal.main_arg9)
          ∧ r.2.mem ((c.tc : Thread Cert.MixoutPromptIdeal.nD Cert.MixoutPromptIdeal.τ).loc Cert.MixoutPromptIdeal.main_arg10) = m ((c.tc : Thread Cert.MixoutPromptIdeal.nD Cert.MixoutPromptIdeal.τ).loc Cert.MixoutPromptIdeal.main_arg10)
          ∧ r.2.mem ((c.tc : Thread Cert.MixoutPromptIdeal.nD Cert.MixoutPromptIdeal.τ).loc Cert.MixoutPromptIdeal.main_arg11) = m ((c.tc : Thread Cert.MixoutPromptIdeal.nD Cert.MixoutPromptIdeal.τ).loc Cert.MixoutPromptIdeal.main_arg11)
          ∧ r.2.mem ((c.tc : Thread Cert.MixoutPromptIdeal.nD Cert.MixoutPromptIdeal.τ).loc Cert.MixoutPromptIdeal.main_arg12) = m ((c.tc : Thread Cert.MixoutPromptIdeal.nD Cert.MixoutPromptIdeal.τ).loc Cert.MixoutPromptIdeal.main_arg12)
          ∧ r.2.mem ((c.tc : Thread Cert.MixoutPromptIdeal.nD Cert.MixoutPromptIdeal.τ).loc Cert.MixoutPromptIdeal.main_arg13) = m ((c.tc : Thread Cert.MixoutPromptIdeal.nD Cert.MixoutPromptIdeal.τ).loc Cert.MixoutPromptIdeal.main_arg13))
      ∧ θ_run (Cert.MixoutPromptRefIdeal.defs (F := Ideal)) (onTc (τ := Cert.MixoutPromptRefIdeal.τ) (Cert.MixoutPromptRefIdeal.main (F := Ideal))) ⟨m', fun _ => 0, g'⟩ (fun r => ∀ c : Dev Cert.MixoutPromptRefIdeal.nD,
          r.2.mem ((c.tc : Thread Cert.MixoutPromptRefIdeal.nD Cert.MixoutPromptRefIdeal.τ).loc Cert.MixoutPromptRefIdeal.main_v378) = v0 c
          ∧ r.2.mem ((c.tc : Thread Cert.MixoutPromptRefIdeal.nD Cert.MixoutPromptRefIdeal.τ).loc Cert.MixoutPromptRefIdeal.main_arg0) = m' ((c.tc : Thread Cert.MixoutPromptRefIdeal.nD Cert.MixoutPromptRefIdeal.τ).loc Cert.MixoutPromptRefIdeal.main_arg0)
          ∧ r.2.mem ((c.tc : Thread Cert.MixoutPromptRefIdeal.nD Cert.MixoutPromptRefIdeal.τ).loc Cert.MixoutPromptRefIdeal.main_arg1) = m' ((c.tc : Thread Cert.MixoutPromptRefIdeal.nD Cert.MixoutPromptRefIdeal.τ).loc Cert.MixoutPromptRefIdeal.main_arg1)
          ∧ r.2.mem ((c.tc : Thread Cert.MixoutPromptRefIdeal.nD Cert.MixoutPromptRefIdeal.τ).loc Cert.MixoutPromptRefIdeal.main_arg2) = m' ((c.tc : Thread Cert.MixoutPromptRefIdeal.nD Cert.MixoutPromptRefIdeal.τ).loc Cert.MixoutPromptRefIdeal.main_arg2)
          ∧ r.2.mem ((c.tc : Thread Cert.MixoutPromptRefIdeal.nD Cert.MixoutPromptRefIdeal.τ).loc Cert.MixoutPromptRefIdeal.main_arg3) = m' ((c.tc : Thread Cert.MixoutPromptRefIdeal.nD Cert.MixoutPromptRefIdeal.τ).loc Cert.MixoutPromptRefIdeal.main_arg3)
          ∧ r.2.mem ((c.tc : Thread Cert.MixoutPromptRefIdeal.nD Cert.MixoutPromptRefIdeal.τ).loc Cert.MixoutPromptRefIdeal.main_arg4) = m' ((c.tc : Thread Cert.MixoutPromptRefIdeal.nD Cert.MixoutPromptRefIdeal.τ).loc Cert.MixoutPromptRefIdeal.main_arg4)
          ∧ r.2.mem ((c.tc : Thread Cert.MixoutPromptRefIdeal.nD Cert.MixoutPromptRefIdeal.τ).loc Cert.MixoutPromptRefIdeal.main_arg5) = m' ((c.tc : Thread Cert.MixoutPromptRefIdeal.nD Cert.MixoutPromptRefIdeal.τ).loc Cert.MixoutPromptRefIdeal.main_arg5)
          ∧ r.2.mem ((c.tc : Thread Cert.MixoutPromptRefIdeal.nD Cert.MixoutPromptRefIdeal.τ).loc Cert.MixoutPromptRefIdeal.main_arg6) = m' ((c.tc : Thread Cert.MixoutPromptRefIdeal.nD Cert.MixoutPromptRefIdeal.τ).loc Cert.MixoutPromptRefIdeal.main_arg6)
          ∧ r.2.mem ((c.tc : Thread Cert.MixoutPromptRefIdeal.nD Cert.MixoutPromptRefIdeal.τ).loc Cert.MixoutPromptRefIdeal.main_arg7) = m' ((c.tc : Thread Cert.MixoutPromptRefIdeal.nD Cert.MixoutPromptRefIdeal.τ).loc Cert.MixoutPromptRefIdeal.main_arg7)
          ∧ r.2.mem ((c.tc : Thread Cert.MixoutPromptRefIdeal.nD Cert.MixoutPromptRefIdeal.τ).loc Cert.MixoutPromptRefIdeal.main_arg8) = m' ((c.tc : Thread Cert.MixoutPromptRefIdeal.nD Cert.MixoutPromptRefIdeal.τ).loc Cert.MixoutPromptRefIdeal.main_arg8)
          ∧ r.2.mem ((c.tc : Thread Cert.MixoutPromptRefIdeal.nD Cert.MixoutPromptRefIdeal.τ).loc Cert.MixoutPromptRefIdeal.main_arg9) = m' ((c.tc : Thread Cert.MixoutPromptRefIdeal.nD Cert.MixoutPromptRefIdeal.τ).loc Cert.MixoutPromptRefIdeal.main_arg9)
          ∧ r.2.mem ((c.tc : Thread Cert.MixoutPromptRefIdeal.nD Cert.MixoutPromptRefIdeal.τ).loc Cert.MixoutPromptRefIdeal.main_arg10) = m' ((c.tc : Thread Cert.MixoutPromptRefIdeal.nD Cert.MixoutPromptRefIdeal.τ).loc Cert.MixoutPromptRefIdeal.main_arg10)
          ∧ r.2.mem ((c.tc : Thread Cert.MixoutPromptRefIdeal.nD Cert.MixoutPromptRefIdeal.τ).loc Cert.MixoutPromptRefIdeal.main_arg11) = m' ((c.tc : Thread Cert.MixoutPromptRefIdeal.nD Cert.MixoutPromptRefIdeal.τ).loc Cert.MixoutPromptRefIdeal.main_arg11)
          ∧ r.2.mem ((c.tc : Thread Cert.MixoutPromptRefIdeal.nD Cert.MixoutPromptRefIdeal.τ).loc Cert.MixoutPromptRefIdeal.main_arg12) = m' ((c.tc : Thread Cert.MixoutPromptRefIdeal.nD Cert.MixoutPromptRefIdeal.τ).loc Cert.MixoutPromptRefIdeal.main_arg12)
          ∧ r.2.mem ((c.tc : Thread Cert.MixoutPromptRefIdeal.nD Cert.MixoutPromptRefIdeal.τ).loc Cert.MixoutPromptRefIdeal.main_arg13) = m' ((c.tc : Thread Cert.MixoutPromptRefIdeal.nD Cert.MixoutPromptRefIdeal.τ).loc Cert.MixoutPromptRefIdeal.main_arg13))

def Claim : Prop :=
  ∃ (hSampleAttn : Cert.SampleAttn.Facts) (hSampleAttnIdeal : Cert.SampleAttnIdeal.Facts) (hSampleAttnRefIdeal : Cert.SampleAttnRefIdeal.Facts) (hFfn : Cert.Ffn.Facts) (hFfnIdeal : Cert.FfnIdeal.Facts) (hFfnRefIdeal : Cert.FfnRefIdeal.Facts) (hFfnSample : Cert.FfnSample.Facts) (hFfnSampleIdeal : Cert.FfnSampleIdeal.Facts) (hFfnSampleRefIdeal : Cert.FfnSampleRefIdeal.Facts) (hInproj : Cert.Inproj.Facts) (hInprojIdeal : Cert.InprojIdeal.Facts) (hInprojRefIdeal : Cert.InprojRefIdeal.Facts) (hInprojSample : Cert.InprojSample.Facts) (hInprojSampleIdeal : Cert.InprojSampleIdeal.Facts) (hInprojSampleRefIdeal : Cert.InprojSampleRefIdeal.Facts) (hMixoutSample : Cert.MixoutSample.Facts) (hMixoutSampleIdeal : Cert.MixoutSampleIdeal.Facts) (hMixoutSampleRefIdeal : Cert.MixoutSampleRefIdeal.Facts) (hAda : Cert.Ada.Facts) (hAdaIdeal : Cert.AdaIdeal.Facts) (hAdaRefIdeal : Cert.AdaRefIdeal.Facts) (hMixoutPrompt : Cert.MixoutPrompt.Facts) (hMixoutPromptIdeal : Cert.MixoutPromptIdeal.Facts) (hMixoutPromptRefIdeal : Cert.MixoutPromptRefIdeal.Facts) (hPre_pages_in_range : Cert.Pre_pages_in_range.Facts) (hPre_softmax_defined : Cert.Pre_softmax_defined.Facts) (hPre_pool_state_finite : Cert.Pre_pool_state_finite.Facts) (hPre_pool_input_finite : Cert.Pre_pool_input_finite.Facts),
    quiescent_SampleAttn (hSampleAttn := hSampleAttn) (hPre_pages_in_range := hPre_pages_in_range)
    ∧ quiescent_SampleAttnIdeal (hSampleAttnIdeal := hSampleAttnIdeal) (hPre_pages_in_range := hPre_pages_in_range)
    ∧ quiescent_SampleAttnIdeal_pre_softmax_defined (hSampleAttnIdeal := hSampleAttnIdeal) (hPre_softmax_defined := hPre_softmax_defined)
    ∧ quiescent_SampleAttnRefIdeal (hSampleAttnRefIdeal := hSampleAttnRefIdeal)
    ∧ quiescent_SampleAttnRefIdeal_pre_softmax_defined (hSampleAttnRefIdeal := hSampleAttnRefIdeal) (hPre_softmax_defined := hPre_softmax_defined)
    ∧ quiescent_Ffn (hFfn := hFfn)
    ∧ quiescent_FfnIdeal (hFfnIdeal := hFfnIdeal)
    ∧ quiescent_FfnRefIdeal (hFfnRefIdeal := hFfnRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_Inproj (hInproj := hInproj)
    ∧ quiescent_InprojIdeal (hInprojIdeal := hInprojIdeal)
    ∧ quiescent_InprojRefIdeal (hInprojRefIdeal := hInprojRefIdeal)
    ∧ quiescent_InprojSample (hInprojSample := hInprojSample)
    ∧ quiescent_InprojSampleIdeal (hInprojSampleIdeal := hInprojSampleIdeal)
    ∧ quiescent_InprojSampleRefIdeal (hInprojSampleRefIdeal := hInprojSampleRefIdeal)
    ∧ quiescent_MixoutSample (hMixoutSample := hMixoutSample)
    ∧ quiescent_MixoutSampleIdeal (hMixoutSampleIdeal := hMixoutSampleIdeal)
    ∧ quiescent_MixoutSampleIdeal_pre_pool_state_finite (hMixoutSampleIdeal := hMixoutSampleIdeal) (hPre_pool_state_finite := hPre_pool_state_finite)
    ∧ quiescent_MixoutSampleRefIdeal (hMixoutSampleRefIdeal := hMixoutSampleRefIdeal)
    ∧ quiescent_MixoutSampleRefIdeal_pre_pool_state_finite (hMixoutSampleRefIdeal := hMixoutSampleRefIdeal) (hPre_pool_state_finite := hPre_pool_state_finite)
    ∧ quiescent_Ada (hAda := hAda)
    ∧ quiescent_AdaIdeal (hAdaIdeal := hAdaIdeal)
    ∧ quiescent_AdaRefIdeal (hAdaRefIdeal := hAdaRefIdeal)
    ∧ quiescent_MixoutPrompt (hMixoutPrompt := hMixoutPrompt)
    ∧ quiescent_MixoutPromptIdeal (hMixoutPromptIdeal := hMixoutPromptIdeal)
    ∧ quiescent_MixoutPromptIdeal_pre_pool_input_finite (hMixoutPromptIdeal := hMixoutPromptIdeal) (hPre_pool_input_finite := hPre_pool_input_finite)
    ∧ quiescent_MixoutPromptRefIdeal (hMixoutPromptRefIdeal := hMixoutPromptRefIdeal)
    ∧ quiescent_MixoutPromptRefIdeal_pre_pool_input_finite (hMixoutPromptRefIdeal := hMixoutPromptRefIdeal) (hPre_pool_input_finite := hPre_pool_input_finite)
    ∧ preserves_SampleAttn_SampleAttnIdeal
    ∧ algebraic_SampleAttnIdeal_SampleAttnRefIdeal_pre_softmax_defined (hSampleAttnIdeal := hSampleAttnIdeal) (hSampleAttnRefIdeal := hSampleAttnRefIdeal) (hPre_softmax_defined := hPre_softmax_defined)
    ∧ preserves_Ffn_FfnIdeal
    ∧ algebraic_FfnIdeal_FfnRefIdeal (hFfnIdeal := hFfnIdeal) (hFfnRefIdeal := hFfnRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_Inproj_InprojIdeal
    ∧ algebraic_InprojIdeal_InprojRefIdeal (hInprojIdeal := hInprojIdeal) (hInprojRefIdeal := hInprojRefIdeal)
    ∧ preserves_InprojSample_InprojSampleIdeal
    ∧ algebraic_InprojSampleIdeal_InprojSampleRefIdeal (hInprojSampleIdeal := hInprojSampleIdeal) (hInprojSampleRefIdeal := hInprojSampleRefIdeal)
    ∧ preserves_MixoutSample_MixoutSampleIdeal
    ∧ algebraic_MixoutSampleIdeal_MixoutSampleRefIdeal_pre_pool_state_finite (hMixoutSampleIdeal := hMixoutSampleIdeal) (hMixoutSampleRefIdeal := hMixoutSampleRefIdeal) (hPre_pool_state_finite := hPre_pool_state_finite)
    ∧ preserves_Ada_AdaIdeal
    ∧ algebraic_AdaIdeal_AdaRefIdeal (hAdaIdeal := hAdaIdeal) (hAdaRefIdeal := hAdaRefIdeal)
    ∧ preserves_MixoutPrompt_MixoutPromptIdeal
    ∧ algebraic_MixoutPromptIdeal_MixoutPromptRefIdeal_pre_pool_input_finite (hMixoutPromptIdeal := hMixoutPromptIdeal) (hMixoutPromptRefIdeal := hMixoutPromptRefIdeal) (hPre_pool_input_finite := hPre_pool_input_finite)
-- ==== Pre_pages_in_range.lean ====
abbrev S128x16 : Shape := ⟨2, ![128, 16]⟩
abbrev S128x512 : Shape := ⟨2, ![128, 512]⟩
abbrev S128x2049 : Shape := ⟨2, ![128, 2049]⟩
abbrev S4x2560x128x8x64 : Shape := ⟨5, ![4, 2560, 128, 8, 64]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : IVec S128x16 32) (main_arg1 : FVec F S128x512 .f32) (main_arg2 : FVec F S128x512 .f32) (main_arg3 : FVec F S128x512 .f32) (main_arg4 : IVec S128x2049 32) (main_arg5 : FVec F S4x2560x128x8x64 .f32) (main_arg6 : FVec F S4x2560x128x8x64 .f32) : IVec S128x16 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  main_v4
-- ==== Pre_pool_input_finite.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S4x9216 : Shape := ⟨2, ![4, 9216]⟩
abbrev S4x31x256 : Shape := ⟨3, ![4, 31, 256]⟩
abbrev S4x256 : Shape := ⟨2, ![4, 256]⟩
abbrev S4x4x64x64 : Shape := ⟨4, ![4, 4, 64, 64]⟩
abbrev S4x1024x1024 : Shape := ⟨3, ![4, 1024, 1024]⟩
abbrev S4x3x1024 : Shape := ⟨3, ![4, 3, 1024]⟩
abbrev S_ : Shape := ⟨0, ![]⟩

class Facts : Prop where
  bcast_S_S4x4096x256 : S_.BroadcastsInDim S4x4096x256 (![] : Fin 0 → Fin S4x4096x256.rank)

variable [Facts]

def fn {F : FTy → Type} [FloatOps F] (main_arg0 : FVec F S4x4096x1024 .f32) (main_arg1 : FVec F S4x4096x256 .f32) (main_arg2 : FVec F S4x4096x256 .f32) (main_arg3 : FVec F S4x4096x512 .bf16) (main_arg4 : FVec F S4x9216 .f32) (main_arg5 : FVec F S4x31x256 .f32) (main_arg6 : FVec F S4x256 .f32) (main_arg7 : FVec F S4x256 .f32) (main_arg8 : FVec F S4x256 .f32) (main_arg9 : FVec F S4x4x64x64 .f32) (main_arg10 : FVec F S4x256 .f32) (main_arg11 : FVec F S4x1024x1024 .f32) (main_arg12 : FVec F S4x3x1024 .f32) (main_arg13 : FVec F S4x3x1024 .f32) : IVec S4x4096x256 1 :=
  let main_v0 : FVec F S4x4096x256 .f32 := Host.absf main_arg2
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  main_v2
-- ==== Pre_pool_state_finite.lean ====
abbrev S128x1x1024 : Shape := ⟨3, ![128, 1, 1024]⟩
abbrev S128x1x256 : Shape := ⟨3, ![128, 1, 256]⟩
abbrev S128x1x512 : Shape := ⟨3, ![128, 1, 512]⟩
abbrev S128x9216 : Shape := ⟨2, ![128, 9216]⟩
abbrev S4x128x30x256 : Shape := ⟨4, ![4, 128, 30, 256]⟩
abbrev S4x128x15x256 : Shape := ⟨4, ![4, 128, 15, 256]⟩
abbrev S4x31x256 : Shape := ⟨3, ![4, 31, 256]⟩
abbrev S4x256 : Shape := ⟨2, ![4, 256]⟩
abbrev S4x4x64x64 : Shape := ⟨4, ![4, 4, 64, 64]⟩
abbrev S4x1024x1024 : Shape := ⟨3, ![4, 1024, 1024]⟩
abbrev S4x3x1024 : Shape := ⟨3, ![4, 3, 1024]⟩
abbrev S_ : Shape := ⟨0, ![]⟩

class Facts : Prop where
  bcast_S_S4x128x15x256 : S_.BroadcastsInDim S4x128x15x256 (![] : Fin 0 → Fin S4x128x15x256.rank)

variable [Facts]

def fn {F : FTy → Type} [FloatOps F] (main_arg0 : FVec F S128x1x1024 .f32) (main_arg1 : FVec F S128x1x256 .f32) (main_arg2 : FVec F S128x1x256 .f32) (main_arg3 : FVec F S128x1x512 .bf16) (main_arg4 : FVec F S128x9216 .f32) (main_arg5 : FVec F S4x128x30x256 .f32) (main_arg6 : FVec F S4x128x15x256 .f32) (main_arg7 : FVec F S4x31x256 .f32) (main_arg8 : FVec F S4x256 .f32) (main_arg9 : FVec F S4x256 .f32) (main_arg10 : FVec F S4x256 .f32) (main_arg11 : FVec F S4x4x64x64 .f32) (main_arg12 : FVec F S4x256 .f32) (main_arg13 : FVec F S4x1024x1024 .f32) (main_arg14 : FVec F S4x3x1024 .f32) (main_arg15 : FVec F S4x3x1024 .f32) : IVec S4x128x15x256 1 :=
  let main_v0 : FVec F S4x128x15x256 .f32 := Host.absf main_arg6
  let main_cst : FVec F S_ .f32 := constant S_ .f32 0x7F800000#32
  let main_v1 : FVec F S4x128x15x256 .f32 := broadcastInDim S4x128x15x256 ![] bcast_S_S4x128x15x256 main_cst
  let main_v2 : IVec S4x128x15x256 1 := cmpf .olt main_v0 main_v1
  main_v2
-- ==== Pre_softmax_defined.lean ====
abbrev S128x16 : Shape := ⟨2, ![128, 16]⟩
abbrev S128x512 : Shape := ⟨2, ![128, 512]⟩
abbrev S128x2049 : Shape := ⟨2, ![128, 2049]⟩
abbrev S4x2560x128x8x64 : Shape := ⟨5, ![4, 2560, 128, 8, 64]⟩
abbrev S_ : Shape := ⟨0, ![]⟩
abbrev S128 : Shape := ⟨1, ![128]⟩

class Facts : Prop where
  bcast_S_S128x16 : S_.BroadcastsInDim S128x16 (![] : Fin 0 → Fin S128x16.rank)
  bcast_S_S128x512 : S_.BroadcastsInDim S128x512 (![] : Fin 0 → Fin S128x512.rank)
  bcast_S_S4x2560x128x8x64 : S_.BroadcastsInDim S4x2560x128x8x64 (![] : Fin 0 → Fin S4x2560x128x8x64.rank)
  bcast_S_S128x2049 : S_.BroadcastsInDim S128x2049 (![] : Fin 0 → Fin S128x2049.rank)
  reducesTo_S128x2049_S128_d1 : S128x2049.ReducesTo [1] S128
  h_S_ : 0 < S_.numel

variable [Facts]

def fn {F : FTy → Type} [FloatOps F] (main_arg0 : IVec S128x16 32) (main_arg1 : FVec F S128x512 .f32) (main_arg2 : FVec F S128x512 .f32) (main_arg3 : FVec F S128x512 .f32) (main_arg4 : IVec S128x2049 32) (main_arg5 : FVec F S4x2560x128x8x64 .f32) (main_arg6 : FVec F S4x2560x128x8x64 .f32) : IVec S128x16 1 × IVec S128x512 1 × IVec S128x512 1 × IVec S4x2560x128x8x64 1 × IVec S128 1 :=
  let main_c : IVec S_ 32 := constantI S_ 32 0#32
  let main_v0 : IVec S128x16 32 := broadcastInDim S128x16 ![] bcast_S_S128x16 main_c
  let main_v1 : IVec S128x16 1 := cmpi .sge main_arg0 main_v0
  let main_c_0 : IVec S_ 32 := constantI S_ 32 2560#32
  let main_v2 : IVec S128x16 32 := broadcastInDim S128x16 ![] bcast_S_S128x16 main_c_0
  let main_v3 : IVec S128x16 1 := cmpi .slt main_arg0 main_v2
  let main_v4 : IVec S128x16 1 := andi main_v1 main_v3
  let main_v5 : FVec F S128x512 .f32 := Host.absf main_arg1
  let main_cst : FVec F S_ .f32 := constant S_ .f32 0x7F800000#32
  let main_v6 : FVec F S128x512 .f32 := broadcastInDim S128x512 ![] bcast_S_S128x512 main_cst
  let main_v7 : IVec S128x512 1 := cmpf .olt main_v5 main_v6
  let main_v8 : FVec F S128x512 .f32 := Host.absf main_arg2
  let main_cst_1 : FVec F S_ .f32 := constant S_ .f32 0x7F800000#32
  let main_v9 : FVec F S128x512 .f32 := broadcastInDim S128x512 ![] bcast_S_S128x512 main_cst_1
  let main_v10 : IVec S128x512 1 := cmpf .olt main_v8 main_v9
  let main_v11 : FVec F S4x2560x128x8x64 .f32 := Host.absf main_arg5
  let main_cst_2 : FVec F S_ .f32 := constant S_ .f32 0x7F800000#32
  let main_v12 : FVec F S4x2560x128x8x64 .f32 := broadcastInDim S4x2560x128x8x64 ![] bcast_S_S4x2560x128x8x64 main_cst_2
  let main_v13 : IVec S4x2560x128x8x64 1 := cmpf .olt main_v11 main_v12
  let main_c_3 : IVec S_ 32 := constantI S_ 32 0#32
  let main_v14 : IVec S128x2049 32 := broadcastInDim S128x2049 ![] bcast_S_S128x2049 main_c_3
  let main_v15 : IVec S128x2049 1 := cmpi .sgt main_arg4 main_v14
  let main_c_4 : IVec S_ 1 := constantI S_ 1 0#1
  let main_v16 : IVec S128 1 := (fun x v => Host.reduce IntOp.ori x v reducesTo_S128x2049_S128_d1 h_S_) main_v15 main_c_4
  (main_v4, main_v7, main_v10, main_v13, main_v16)
-- ==== SampleAttn.lean ====
abbrev S128x16 : Shape := ⟨2, ![128, 16]⟩
abbrev S128x512 : Shape := ⟨2, ![128, 512]⟩
abbrev S128x2049 : Shape := ⟨2, ![128, 2049]⟩
abbrev S4x2560x128x8x64 : Shape := ⟨5, ![4, 2560, 128, 8, 64]⟩
abbrev S4x2560x8x64x128 : Shape := ⟨5, ![4, 2560, 8, 64, 128]⟩
abbrev S4x2560x512x128 : Shape := ⟨4, ![4, 2560, 512, 128]⟩
abbrev S_ : Shape := ⟨0, ![]⟩
abbrev S128x2176 : Shape := ⟨2, ![128, 2176]⟩
abbrev S128x1x512 : Shape := ⟨3, ![128, 1, 512]⟩
abbrev S128x1x2176 : Shape := ⟨3, ![128, 1, 2176]⟩
abbrev S1x1x512 : Shape := ⟨3, ![1, 1, 512]⟩
abbrev S1x1x2176 : Shape := ⟨3, ![1, 1, 2176]⟩
abbrev S1x1x512x128 : Shape := ⟨4, ![1, 1, 512, 128]⟩
abbrev S1x1 : Shape := ⟨2, ![1, 1]⟩
abbrev S8x512 : Shape := ⟨2, ![8, 512]⟩
abbrev S1x512 : Shape := ⟨2, ![1, 512]⟩
abbrev S8x1 : Shape := ⟨2, ![8, 1]⟩
abbrev S512x128 : Shape := ⟨2, ![512, 128]⟩
abbrev S8x128 : Shape := ⟨2, ![8, 128]⟩
abbrev S8x2048 : Shape := ⟨2, ![8, 2048]⟩
abbrev S1x2048 : Shape := ⟨2, ![1, 2048]⟩
abbrev S1x1x2048 : Shape := ⟨3, ![1, 1, 2048]⟩
abbrev S8 : Shape := ⟨1, ![8]⟩
abbrev S1x1x1 : Shape := ⟨3, ![1, 1, 1]⟩
abbrev S512 : Shape := ⟨1, ![512]⟩

abbrev nBuf : Space → Nat
  | .hbm => 26
  | .vmem => 74
  | .smem => 1
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x2049, .i32⟩
  | .hbm, ⟨4, _⟩ => ⟨S4x2560x128x8x64, .f32⟩
  | .hbm, ⟨5, _⟩ => ⟨S4x2560x128x8x64, .f32⟩
  | .hbm, ⟨6, _⟩ => ⟨S4x2560x8x64x128, .f32⟩
  | .hbm, ⟨7, _⟩ => ⟨S4x2560x512x128, .f32⟩
  | .hbm, ⟨8, _⟩ => ⟨S4x2560x8x64x128, .f32⟩
  | .hbm, ⟨9, _⟩ => ⟨S4x2560x512x128, .f32⟩
  | .hbm, ⟨10, _⟩ => ⟨S_, .i32⟩
  | .hbm, ⟨11, _⟩ => ⟨S_, .i32⟩
  | .hbm, ⟨12, _⟩ => ⟨S128x2176, .i32⟩
  | .hbm, ⟨13, _⟩ => ⟨S_, .i32⟩
  | .hbm, ⟨14, _⟩ => ⟨S128x2176, .i32⟩
  | .hbm, ⟨15, _⟩ => ⟨S128x2176, .i1⟩
  | .hbm, ⟨16, _⟩ => ⟨S_, .f32⟩
  | .hbm, ⟨17, _⟩ => ⟨S_, .f32⟩
  | .hbm, ⟨18, _⟩ => ⟨S128x2176, .f32⟩
  | .hbm, ⟨19, _⟩ => ⟨S128x2176, .f32⟩
  | .hbm, ⟨20, _⟩ => ⟨S128x2176, .f32⟩
  | .hbm, ⟨21, _⟩ => ⟨S128x1x512, .f32⟩
  | .hbm, ⟨22, _⟩ => ⟨S128x1x512, .f32⟩
  | .hbm, ⟨23, _⟩ => ⟨S128x1x512, .f32⟩
  | .hbm, ⟨24, _⟩ => ⟨S128x1x2176, .f32⟩
  | .hbm, ⟨25, _⟩ => ⟨S128x1x512, .bf16⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x2176, .f32⟩
  | .local _ .vmem, ⟨7, _⟩ => ⟨S1x1x2176, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x1x512x128, .f32⟩
  | .local _ .vmem, ⟨13, _⟩ => ⟨S1x1x512x128, .f32⟩
  | .local _ .vmem, ⟨14, _⟩ => ⟨S1x1x512x128, .f32⟩
  | .local _ .vmem, ⟨15, _⟩ => ⟨S1x1x512x128, .f32⟩
  | .local _ .vmem, ⟨16, _⟩ => ⟨S1x1x512x128, .f32⟩
  | .local _ .vmem, ⟨17, _⟩ => ⟨S1x1x512x128, .f32⟩
  | .local _ .vmem, ⟨18, _⟩ => ⟨S1x1x512x128, .f32⟩
  | .local _ .vmem, ⟨19, _⟩ => ⟨S1x1x512x128, .f32⟩
  | .local _ .vmem, ⟨20, _⟩ => ⟨S1x1x512x128, .f32⟩
  | .local _ .vmem, ⟨21, _⟩ => ⟨S1x1x512x128, .f32⟩
  | .local _ .vmem, ⟨22, _⟩ => ⟨S1x1x512x128, .f32⟩
  | .local _ .vmem, ⟨23, _⟩ => ⟨S1x1x512x128, .f32⟩
  | .local _ .vmem, ⟨24, _⟩ => ⟨S1x1x512x128, .f32⟩
  | .local _ .vmem, ⟨25, _⟩ => ⟨S1x1x512x128, .f32⟩
  | .local _ .vmem, ⟨26, _⟩ => ⟨S1x1x512x128, .f32⟩
  | .local _ .vmem, ⟨27, _⟩ => ⟨S1x1x512x128, .f32⟩
  | .local _ .vmem, ⟨28, _⟩ => ⟨S1x1x512x128, .f32⟩
  | .local _ .vmem, ⟨29, _⟩ => ⟨S1x1x512x128, .f32⟩
  | .local _ .vmem, ⟨30, _⟩ => ⟨S1x1x512x128, .f32⟩
  | .local _ .vmem, ⟨31, _⟩ => ⟨S1x1x512x128, .f32⟩
  | .local _ .vmem, ⟨32, _⟩ => ⟨S1x1x512x128, .f32⟩
  | .local _ .vmem, ⟨33, _⟩ => ⟨S1x1x512x128, .f32⟩
  | .local _ .vmem, ⟨34, _⟩ => ⟨S1x1x512x128, .f32⟩
  | .local _ .vmem, ⟨35, _⟩ => ⟨S1x1x512x128, .f32⟩
  | .local _ .vmem, ⟨36, _⟩ => ⟨S1x1x512x128, .f32⟩
  | .local _ .vmem, ⟨37, _⟩ => ⟨S1x1x512x128, .f32⟩
  | .local _ .vmem, ⟨38, _⟩ => ⟨S1x1x512x128, .f32⟩
  | .local _ .vmem, ⟨39, _⟩ => ⟨S1x1x512x128, .f32⟩
  | .local _ .vmem, ⟨40, _⟩ => ⟨S1x1x512x128, .f32⟩
  | .local _ .vmem, ⟨41, _⟩ => ⟨S1x1x512x128, .f32⟩
  | .local _ .vmem, ⟨42, _⟩ => ⟨S1x1x512x128, .f32⟩
  | .local _ .vmem, ⟨43, _⟩ => ⟨S1x1x512x128, .f32⟩
  | .local _ .vmem, ⟨44, _⟩ => ⟨S1x1x512x128, .f32⟩
  | .local _ .vmem, ⟨45, _⟩ => ⟨S1x1x512x128, .f32⟩
  | .local _ .vmem, ⟨46, _⟩ => ⟨S1x1x512x128, .f32⟩
  | .local _ .vmem, ⟨47, _⟩ => ⟨S1x1x512x128, .f32⟩
  | .local _ .vmem, ⟨48, _⟩ => ⟨S1x1x512x128, .f32⟩
  | .local _ .vmem, ⟨49, _⟩ => ⟨S1x1x512x128, .f32⟩
  | .local _ .vmem, ⟨50, _⟩ => ⟨S1x1x512x128, .f32⟩
  | .local _ .vmem, ⟨51, _⟩ => ⟨S1x1x512x128, .f32⟩
  | .local _ .vmem, ⟨52, _⟩ => ⟨S1x1x512x128, .f32⟩
  | .local _ .vmem, ⟨53, _⟩ => ⟨S1x1x512x128, .f32⟩
  | .local _ .vmem, ⟨54, _⟩ => ⟨S1x1x512x128, .f32⟩
  | .local _ .vmem, ⟨55, _⟩ => ⟨S1x1x512x128, .f32⟩
  | .local _ .vmem, ⟨56, _⟩ => ⟨S1x1x512x128, .f32⟩
  | .local _ .vmem, ⟨57, _⟩ => ⟨S1x1x512x128, .f32⟩
  | .local _ .vmem, ⟨58, _⟩ => ⟨S1x1x512x128, .f32⟩
  | .local _ .vmem, ⟨59, _⟩ => ⟨S1x1x512x128, .f32⟩
  | .local _ .vmem, ⟨60, _⟩ => ⟨S1x1x512x128, .f32⟩
  | .local _ .vmem, ⟨61, _⟩ => ⟨S1x1x512x128, .f32⟩
  | .local _ .vmem, ⟨62, _⟩ => ⟨S1x1x512x128, .f32⟩
  | .local _ .vmem, ⟨63, _⟩ => ⟨S1x1x512x128, .f32⟩
  | .local _ .vmem, ⟨64, _⟩ => ⟨S1x1x512x128, .f32⟩
  | .local _ .vmem, ⟨65, _⟩ => ⟨S1x1x512x128, .f32⟩
  | .local _ .vmem, ⟨66, _⟩ => ⟨S1x1x512x128, .f32⟩
  | .local _ .vmem, ⟨67, _⟩ => ⟨S1x1x512x128, .f32⟩
  | .local _ .vmem, ⟨68, _⟩ => ⟨S1x1x512x128, .f32⟩
  | .local _ .vmem, ⟨69, _⟩ => ⟨S1x1x512x128, .f32⟩
  | .local _ .vmem, ⟨70, _⟩ => ⟨S1x1x512x128, .f32⟩
  | .local _ .vmem, ⟨71, _⟩ => ⟨S1x1x512x128, .f32⟩
  | .local _ .vmem, ⟨72, _⟩ => ⟨S1x1x512, .bf16⟩
  | .local _ .vmem, ⟨73, _⟩ => ⟨S1x1x512, .bf16⟩
  | .local _ .smem, ⟨0, _⟩ => ⟨S128x16, .i32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (k0_off1_inb : ∀ i : grid0.Coords, ∀ a, (k0_off1 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off2_inb : ∀ i : grid0.Coords, ∀ a, (k0_off2 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off3_inb : ∀ i : grid0.Coords, ∀ a, (k0_off3 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off4_inb : ∀ i : grid0.Coords, ∀ a, (k0_off4 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (k0_off5_inb : ∀ i : grid0.Coords, ∀ a, (k0_off5 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_9 (k0_off6_inb : ∀ i : grid0.Coords, ∀ a, (k0_off6 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_10 (k0_off7_inb : ∀ i : grid0.Coords, ∀ a, (k0_off7 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_11 (k0_off8_inb : ∀ i : grid0.Coords, ∀ a, (k0_off8 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_12 (k0_off9_inb : ∀ i : grid0.Coords, ∀ a, (k0_off9 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_13 (k0_off10_inb : ∀ i : grid0.Coords, ∀ a, (k0_off10 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_14 (k0_off11_inb : ∀ i : grid0.Coords, ∀ a, (k0_off11 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_15 (k0_off12_inb : ∀ i : grid0.Coords, ∀ a, (k0_off12 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_16 (k0_off13_inb : ∀ i : grid0.Coords, ∀ a, (k0_off13 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_17 (k0_off14_inb : ∀ i : grid0.Coords, ∀ a, (k0_off14 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_18 (k0_off15_inb : ∀ i : grid0.Coords, ∀ a, (k0_off15 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_19 (k0_off16_inb : ∀ i : grid0.Coords, ∀ a, (k0_off16 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_20 (k0_off1_inb : ∀ i : grid0.Coords, ∀ a, (k0_off1 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_21 (k0_off2_inb : ∀ i : grid0.Coords, ∀ a, (k0_off2 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_22 (k0_off3_inb : ∀ i : grid0.Coords, ∀ a, (k0_off3 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_23 (k0_off4_inb : ∀ i : grid0.Coords, ∀ a, (k0_off4 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_24 (k0_off5_inb : ∀ i : grid0.Coords, ∀ a, (k0_off5 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_25 (k0_off6_inb : ∀ i : grid0.Coords, ∀ a, (k0_off6 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_26 (k0_off7_inb : ∀ i : grid0.Coords, ∀ a, (k0_off7 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_27 (k0_off8_inb : ∀ i : grid0.Coords, ∀ a, (k0_off8 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_28 (k0_off9_inb : ∀ i : grid0.Coords, ∀ a, (k0_off9 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_29 (k0_off10_inb : ∀ i : grid0.Coords, ∀ a, (k0_off10 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_30 (k0_off11_inb : ∀ i : grid0.Coords, ∀ a, (k0_off11 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_31 (k0_off12_inb : ∀ i : grid0.Coords, ∀ a, (k0_off12 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_32 (k0_off13_inb : ∀ i : grid0.Coords, ∀ a, (k0_off13 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_33 (k0_off14_inb : ∀ i : grid0.Coords, ∀ a, (k0_off14 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_34 (k0_off15_inb : ∀ i : grid0.Coords, ∀ a, (k0_off15 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_35 (k0_off16_inb : ∀ i : grid0.Coords, ∀ a, (k0_off16 i) a + S1x1.size a ≤ S128x16.size a) (numel1_S1x1 : S1x1.numel = 1) (pf : pre0.Contents (Elt F)) (i : grid0.Coords) : Fin 4 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_36 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x512x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x512x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x512x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x512x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x512x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x512x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x512 .bf16 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]
-- ==== SampleAttnIdeal.lean ====
variable {F : FTy → Type} [FloatOps F] [Named F]
def κ : String → Option EReal := fun
  | "log2e" => some (((Real.log 2)⁻¹ : ℝ) : EReal)
  | "q_scale" => some (((1 / 8) * (Real.log 2)⁻¹ : ℝ) : EReal)
  | _ => none
-- ==== SampleAttnRefIdeal.lean ====
abbrev S128x16 : Shape := ⟨2, ![128, 16]⟩
abbrev S128x512 : Shape := ⟨2, ![128, 512]⟩
abbrev S128x2049 : Shape := ⟨2, ![128, 2049]⟩
abbrev S4x2560x128x8x64 : Shape := ⟨5, ![4, 2560, 128, 8, 64]⟩
abbrev S128x8x64 : Shape := ⟨3, ![128, 8, 64]⟩
abbrev S1x2560x128x8x64 : Shape := ⟨5, ![1, 2560, 128, 8, 64]⟩
abbrev S2560x128x8x64 : Shape := ⟨4, ![2560, 128, 8, 64]⟩
abbrev S_ : Shape := ⟨0, ![]⟩
abbrev S128x16x1 : Shape := ⟨3, ![128, 16, 1]⟩
abbrev S128x16x128x8x64 : Shape := ⟨5, ![128, 16, 128, 8, 64]⟩
abbrev S128x2048x8x64 : Shape := ⟨4, ![128, 2048, 8, 64]⟩
abbrev S128x1x8x64 : Shape := ⟨4, ![128, 1, 8, 64]⟩
abbrev S128x2049x8x64 : Shape := ⟨4, ![128, 2049, 8, 64]⟩
abbrev S128x8x2049 : Shape := ⟨3, ![128, 8, 2049]⟩
abbrev S8 : Shape := ⟨1, ![8]⟩
abbrev S2049 : Shape := ⟨1, ![2049]⟩
abbrev S1x8x1 : Shape := ⟨3, ![1, 8, 1]⟩
abbrev S1x1x2049 : Shape := ⟨3, ![1, 1, 2049]⟩
abbrev S1x8x2049 : Shape := ⟨3, ![1, 8, 2049]⟩
abbrev S128x1x2049 : Shape := ⟨3, ![128, 1, 2049]⟩
abbrev S128x8 : Shape := ⟨2, ![128, 8]⟩
abbrev S128x8x1 : Shape := ⟨3, ![128, 8, 1]⟩
abbrev S128x1x512 : Shape := ⟨3, ![128, 1, 512]⟩

abbrev nBuf : Space → Nat
  | .hbm => 94
  | .vmem => 0
  | .smem => 0
  | _ => 0

abbrev bufTy : (tb : Table) → Fin (tcTables nBuf tb) → BufTy
  | .hbm, ⟨0, _⟩ => ⟨S128x16, .i32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x2049, .i32⟩
  | .hbm, ⟨5, _⟩ => ⟨S4x2560x128x8x64, .f32⟩
  | .hbm, ⟨6, _⟩ => ⟨S4x2560x128x8x64, .f32⟩
  | .hbm, ⟨7, _⟩ => ⟨S128x8x64, .f32⟩
  | .hbm, ⟨8, _⟩ => ⟨S1x2560x128x8x64, .f32⟩
  | .hbm, ⟨9, _⟩ => ⟨S2560x128x8x64, .f32⟩
  | .hbm, ⟨10, _⟩ => ⟨S_, .i32⟩
  | .hbm, ⟨11, _⟩ => ⟨S128x16, .i32⟩
  | .hbm, ⟨12, _⟩ => ⟨S128x16, .i1⟩
  | .hbm, ⟨13, _⟩ => ⟨S_, .i32⟩
  | .hbm, ⟨14, _⟩ => ⟨S128x16, .i32⟩
  | .hbm, ⟨15, _⟩ => ⟨S128x16, .i32⟩
  | .hbm, ⟨16, _⟩ => ⟨S128x16, .i32⟩
  | .hbm, ⟨17, _⟩ => ⟨S128x16x1, .i32⟩
  | .hbm, ⟨18, _⟩ => ⟨S128x16x128x8x64, .f32⟩
  | .hbm, ⟨19, _⟩ => ⟨S128x2048x8x64, .f32⟩
  | .hbm, ⟨20, _⟩ => ⟨S128x1x8x64, .f32⟩
  | .hbm, ⟨21, _⟩ => ⟨S128x2049x8x64, .f32⟩
  | .hbm, ⟨22, _⟩ => ⟨S1x2560x128x8x64, .f32⟩
  | .hbm, ⟨23, _⟩ => ⟨S2560x128x8x64, .f32⟩
  | .hbm, ⟨24, _⟩ => ⟨S_, .i32⟩
  | .hbm, ⟨25, _⟩ => ⟨S128x16, .i32⟩
  | .hbm, ⟨26, _⟩ => ⟨S128x16, .i1⟩
  | .hbm, ⟨27, _⟩ => ⟨S_, .i32⟩
  | .hbm, ⟨28, _⟩ => ⟨S128x16, .i32⟩
  | .hbm, ⟨29, _⟩ => ⟨S128x16, .i32⟩
  | .hbm, ⟨30, _⟩ => ⟨S128x16, .i32⟩
  | .hbm, ⟨31, _⟩ => ⟨S128x16x1, .i32⟩
  | .hbm, ⟨32, _⟩ => ⟨S128x16x128x8x64, .f32⟩
  | .hbm, ⟨33, _⟩ => ⟨S128x2048x8x64, .f32⟩
  | .hbm, ⟨34, _⟩ => ⟨S128x1x8x64, .f32⟩
  | .hbm, ⟨35, _⟩ => ⟨S128x2049x8x64, .f32⟩
  | .hbm, ⟨36, _⟩ => ⟨S128x8x2049, .f32⟩
  | .hbm, ⟨37, _⟩ => ⟨S_, .f32⟩
  | .hbm, ⟨38, _⟩ => ⟨S128x8x2049, .f32⟩
  | .hbm, ⟨39, _⟩ => ⟨S128x8x2049, .f32⟩
  | .hbm, ⟨40, _⟩ => ⟨S_, .f32⟩
  | .hbm, ⟨41, _⟩ => ⟨S_, .f32⟩
  | .hbm, ⟨42, _⟩ => ⟨S8, .i32⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S2049, .i32⟩
  | .hbm, ⟨57, _⟩ => ⟨S_, .i32⟩
  | .hbm, ⟨58, _⟩ => ⟨S2049, .i32⟩
  | .hbm, ⟨59, _⟩ => ⟨S2049, .i32⟩
  | .hbm, ⟨60, _⟩ => ⟨S2049, .f32⟩
  | .hbm, ⟨61, _⟩ => ⟨S1x8x1, .f32⟩
  | .hbm, ⟨62, _⟩ => ⟨S1x1x2049, .f32⟩
  | .hbm, ⟨63, _⟩ => ⟨S1x8x2049, .f32⟩
  | .hbm, ⟨64, _⟩ => ⟨S1x8x2049, .f32⟩
  | .hbm, ⟨65, _⟩ => ⟨S1x8x2049, .f32⟩
  | .hbm, ⟨66, _⟩ => ⟨S128x8x2049, .f32⟩
  | .hbm, ⟨67, _⟩ => ⟨S128x8x2049, .f32⟩
  | .hbm, ⟨68, _⟩ => ⟨S128x1x2049, .i32⟩
  | .hbm, ⟨69, _⟩ => ⟨S_, .i32⟩
  | .hbm, ⟨70, _⟩ => ⟨S128x1x2049, .i32⟩
  | .hbm, ⟨71, _⟩ => ⟨S128x1x2049, .i1⟩
  | .hbm, ⟨72, _⟩ => ⟨S_, .f32⟩
  | .hbm, ⟨73, _⟩ => ⟨S_, .f32⟩
  | .hbm, ⟨74, _⟩ => ⟨S128x8x2049, .i1⟩
  | .hbm, ⟨75, _⟩ => ⟨S128x8x2049, .f32⟩
  | .hbm, ⟨76, _⟩ => ⟨S128x8x2049, .f32⟩
  | .hbm, ⟨77, _⟩ => ⟨S_, .f32⟩
  | .hbm, ⟨78, _⟩ => ⟨S128x8, .f32⟩
  | .hbm, ⟨79, _⟩ => ⟨S_, .f32⟩
  | .hbm, ⟨80, _⟩ => ⟨S128x8, .f32⟩
  | .hbm, ⟨81, _⟩ => ⟨S128x8, .f32⟩
  | .hbm, ⟨82, _⟩ => ⟨S128x8x1, .f32⟩
  | .hbm, ⟨83, _⟩ => ⟨S128x8x2049, .f32⟩
  | .hbm, ⟨84, _⟩ => ⟨S128x8x2049, .f32⟩
  | .hbm, ⟨85, _⟩ => ⟨S128x8x2049, .f32⟩
  | .hbm, ⟨86, _⟩ => ⟨S_, .f32⟩
  | .hbm, ⟨87, _⟩ => ⟨S128x8, .f32⟩
  | .hbm, ⟨88, _⟩ => ⟨S128x8x1, .f32⟩
  | .hbm, ⟨89, _⟩ => ⟨S128x8x2049, .f32⟩
  | .hbm, ⟨90, _⟩ => ⟨S128x8x2049, .f32⟩
  | .hbm, ⟨91, _⟩ => ⟨S128x8x64, .f32⟩
  | .hbm, ⟨92, _⟩ => ⟨S128x1x512, .f32⟩
  | .hbm, ⟨93, _⟩ => ⟨S128x1x512, .bf16⟩
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Ffn.lean ====
abbrev S4x4096x1024 : Shape := ⟨3, ![4, 4096, 1024]⟩
abbrev S4x9216 : Shape := ⟨2, ![4, 9216]⟩
abbrev S4x2x1024x5632 : Shape := ⟨4, ![4, 2, 1024, 5632]⟩
abbrev S4x2x2816x1024 : Shape := ⟨4, ![4, 2, 2816, 1024]⟩
abbrev S4x3x1024 : Shape := ⟨3, ![4, 3, 1024]⟩
abbrev S16384x1024 : Shape := ⟨2, ![16384, 1024]⟩
abbrev S4x1x9216 : Shape := ⟨3, ![4, 1, 9216]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S256x1024 : Shape := ⟨2, ![256, 1024]⟩
abbrev S1024x2816 : Shape := ⟨2, ![1024, 2816]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x9216, .f32⟩
  | .hbm, ⟨2, _⟩ => ⟨S4x2x1024x5632, .f32⟩
  | .hbm, ⟨3, _⟩ => ⟨S4x2x2816x1024, .f32⟩
  | .hbm, ⟨4, _⟩ => ⟨S4x3x1024, .f32⟩
  | .hbm, ⟨5, _⟩ => ⟨S4x3x1024, .f32⟩
  | .hbm, ⟨6, _⟩ => ⟨S16384x1024, .f32⟩
  | .hbm, ⟨7, _⟩ => ⟨S4x1x9216, .f32⟩
  | .hbm, ⟨8, _⟩ => ⟨S4x2x1024x5632, .bf16⟩
  | .hbm, ⟨9, _⟩ => ⟨S4x2x2816x1024, .bf16⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024x2816, .bf16⟩
  | .local _ .vmem, ⟨9, _⟩ => ⟨S1x1x1024x2816, .bf16⟩
  | .local _ .vmem, ⟨10, _⟩ => ⟨S1x1x2816x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c6_i32 : BitVec 32 := 6#32
  let c0_i32_5 : BitVec 32 := 0#32
  ![v17.toNat, c0_i32_4.toNat, c6_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c7_i32 : BitVec 32 := 7#32
  let c0_i32_5 : BitVec 32 := 0#32
  ![v17.toNat, c0_i32_4.toNat, c7_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c8_i32 : BitVec 32 := 8#32
  let c0_i32_5 : BitVec 32 := 0#32
  ![v17.toNat, c0_i32_4.toNat, c8_i32.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c1_i32_0 : BitVec 32 := 1#32
  let c0_i32_1 : BitVec 32 := 0#32
  ![c3_i32.toNat, c1_i32.toNat, c0_i32.toNat, c1_i32_0.toNat]

def cc0_transform_6 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S4x4096x1024 : Shape := ⟨3, ![4, 4096, 1024]⟩
abbrev S4x9216 : Shape := ⟨2, ![4, 9216]⟩
abbrev S4x2x1024x5632 : Shape := ⟨4, ![4, 2, 1024, 5632]⟩
abbrev S4x2x2816x1024 : Shape := ⟨4, ![4, 2, 2816, 1024]⟩
abbrev S4x3x1024 : Shape := ⟨3, ![4, 3, 1024]⟩
abbrev S4x1x9216 : Shape := ⟨3, ![4, 1, 9216]⟩
abbrev S4x1x1024 : Shape := ⟨3, ![4, 1, 1024]⟩
abbrev S_ : Shape := ⟨0, ![]⟩
abbrev S1x1x1024x5632 : Shape := ⟨4, ![1, 1, 1024, 5632]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S1x1x2816x1024 : Shape := ⟨4, ![1, 1, 2816, 1024]⟩
abbrev S2816x1024 : Shape := ⟨2, ![2816, 1024]⟩
abbrev S4x4096 : Shape := ⟨2, ![4, 4096]⟩
abbrev S4x4096x1 : Shape := ⟨3, ![4, 4096, 1]⟩
abbrev S1x1x1024 : Shape := ⟨3, ![1, 1, 1024]⟩
abbrev S1024 : Shape := ⟨1, ![1024]⟩
abbrev S16384x1024 : Shape := ⟨2, ![16384, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x9216, .f32⟩
  | .hbm, ⟨2, _⟩ => ⟨S4x2x1024x5632, .f32⟩
  | .hbm, ⟨3, _⟩ => ⟨S4x2x2816x1024, .f32⟩
  | .hbm, ⟨4, _⟩ => ⟨S4x3x1024, .f32⟩
  | .hbm, ⟨5, _⟩ => ⟨S4x3x1024, .f32⟩
  | .hbm, ⟨6, _⟩ => ⟨S4x1x9216, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S_, .f32⟩
  | .hbm, ⟨17, _⟩ => ⟨S4x1x1024, .f32⟩
  | .hbm, ⟨18, _⟩ => ⟨S4x1x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S1x1x1024x5632, .f32⟩
  | .hbm, ⟨24, _⟩ => ⟨S1024x5632, .f32⟩
  | .hbm, ⟨25, _⟩ => ⟨S4x4096x5632, .f32⟩
  | .hbm, ⟨26, _⟩ => ⟨S4x4096x2816, .f32⟩
  | .hbm, ⟨27, _⟩ => ⟨S4x4096x2816, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x2816, .f32⟩
  | .hbm, ⟨35, _⟩ => ⟨S4x4096x2816, .f32⟩
  | .hbm, ⟨36, _⟩ => ⟨S_, .f32⟩
  | .hbm, ⟨37, _⟩ => ⟨S4x4096x2816, .f32⟩
  | .hbm, ⟨38, _⟩ => ⟨S4x4096x2816, .f32⟩
  | .hbm, ⟨39, _⟩ => ⟨S_, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S1x1x2816x1024, .f32⟩
  | .hbm, ⟨45, _⟩ => ⟨S2816x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S1024, .f32⟩
  | .hbm, ⟨75, _⟩ => ⟨S1x1x1024, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S1024, .f32⟩
  | .hbm, ⟨80, _⟩ => ⟨S1x1x1024, .f32⟩
  | .hbm, ⟨81, _⟩ => ⟨S4x4096x1024, .f32⟩
  | .hbm, ⟨82, _⟩ => ⟨S4x4096x1024, .f32⟩
  | .hbm, ⟨83, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== FfnSample.lean ====
abbrev S128x1x1024 : Shape := ⟨3, ![128, 1, 1024]⟩
abbrev S128x9216 : Shape := ⟨2, ![128, 9216]⟩
abbrev S4x2x1024x5632 : Shape := ⟨4, ![4, 2, 1024, 5632]⟩
abbrev S4x2x2816x1024 : Shape := ⟨4, ![4, 2, 2816, 1024]⟩
abbrev S4x3x1024 : Shape := ⟨3, ![4, 3, 1024]⟩
abbrev S128x1024 : Shape := ⟨2, ![128, 1024]⟩
abbrev S1x128x9216 : Shape := ⟨3, ![1, 128, 9216]⟩
abbrev S1x1x1024 : Shape := ⟨3, ![1, 1, 1024]⟩
abbrev S1024 : Shape := ⟨1, ![1024]⟩
abbrev S1x1024 : Shape := ⟨2, ![1, 1024]⟩
abbrev S1x128x1024 : Shape := ⟨3, ![1, 128, 1024]⟩
abbrev S1x1x1024x2816 : Shape := ⟨4, ![1, 1, 1024, 2816]⟩
abbrev S1x1x2816x1024 : Shape := ⟨4, ![1, 1, 2816, 1024]⟩
abbrev S1024x2816 : Shape := ⟨2, ![1024, 2816]⟩
abbrev S128x2816 : Shape := ⟨2, ![128, 2816]⟩
abbrev S2816x1024 : Shape := ⟨2, ![2816, 1024]⟩
abbrev S128 : Shape := ⟨1, ![128]⟩
abbrev S128x1 : Shape := ⟨2, ![128, 1]⟩

abbrev nBuf : Space → Nat
  | .hbm => 17
  | .vmem => 10
  | .smem => 0
  | _ => 0

abbrev bufTy : (tb : Table) → Fin (tcTables nBuf tb) → BufTy
  | .hbm, ⟨0, _⟩ => ⟨S128x1x1024, .f32⟩
  | .hbm, ⟨1, _⟩ => ⟨S128x9216, .f32⟩
  | .hbm, ⟨2, _⟩ => ⟨S4x2x1024x5632, .f32⟩
  | .hbm, ⟨3, _⟩ => ⟨S4x2x2816x1024, .f32⟩
  | .hbm, ⟨4, _⟩ => ⟨S4x3x1024, .f32⟩
  | .hbm, ⟨5, _⟩ => ⟨S4x3x1024, .f32⟩
  | .hbm, ⟨6, _⟩ => ⟨S128x1024, .f32⟩
  | .hbm, ⟨7, _⟩ => ⟨S1x128x9216, .f32⟩
  | .hbm, ⟨8, _⟩ => ⟨S4x2x1024x5632, .bf16⟩
  | .hbm, ⟨9, _⟩ => ⟨S4x2x2816x1024, .bf16⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S128x1024, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1x1x2816x1024, .bf16⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![c0_i32.toNat, arg0.toNat, c6_i32.toNat]

def cc0_transform_2 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![c0_i32.toNat, arg0.toNat, c7_i32.toNat]

def cc0_transform_3 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![c0_i32.toNat, arg0.toNat, c8_i32.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c1_i32_0 : BitVec 32 := 1#32
  let c0_i32_1 : BitVec 32 := 0#32
  ![c3_i32.toNat, c1_i32.toNat, c0_i32.toNat, c1_i32_0.toNat]

def cc0_transform_6 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnSampleRefIdeal.lean ====
abbrev S128x1x1024 : Shape := ⟨3, ![128, 1, 1024]⟩
abbrev S128x9216 : Shape := ⟨2, ![128, 9216]⟩
abbrev S4x2x1024x5632 : Shape := ⟨4, ![4, 2, 1024, 5632]⟩
abbrev S4x2x2816x1024 : Shape := ⟨4, ![4, 2, 2816, 1024]⟩
abbrev S4x3x1024 : Shape := ⟨3, ![4, 3, 1024]⟩
abbrev S128x1x9216 : Shape := ⟨3, ![128, 1, 9216]⟩
abbrev S_ : Shape := ⟨0, ![]⟩
abbrev S1x1x1024x5632 : Shape := ⟨4, ![1, 1, 1024, 5632]⟩
abbrev S1024x5632 : Shape := ⟨2, ![1024, 5632]⟩
abbrev S128x1x5632 : Shape := ⟨3, ![128, 1, 5632]⟩
abbrev S128x1x2816 : Shape := ⟨3, ![128, 1, 2816]⟩
abbrev S1x1x2816x1024 : Shape := ⟨4, ![1, 1, 2816, 1024]⟩
abbrev S2816x1024 : Shape := ⟨2, ![2816, 1024]⟩
abbrev S128x1 : Shape := ⟨2, ![128, 1]⟩
abbrev S128x1x1 : Shape := ⟨3, ![128, 1, 1]⟩
abbrev S1x1x1024 : Shape := ⟨3, ![1, 1, 1024]⟩
abbrev S1024 : Shape := ⟨1, ![1024]⟩
abbrev S128x1024 : Shape := ⟨2, ![128, 1024]⟩

abbrev nBuf : Space → Nat
  | .hbm => 81
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x9216, .f32⟩
  | .hbm, ⟨2, _⟩ => ⟨S4x2x1024x5632, .f32⟩
  | .hbm, ⟨3, _⟩ => ⟨S4x2x2816x1024, .f32⟩
  | .hbm, ⟨4, _⟩ => ⟨S4x3x1024, .f32⟩
  | .hbm, ⟨5, _⟩ => ⟨S4x3x1024, .f32⟩
  | .hbm, ⟨6, _⟩ => ⟨S128x1x9216, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S_, .f32⟩
  | .hbm, ⟨17, _⟩ => ⟨S128x1x1024, .f32⟩
  | .hbm, ⟨18, _⟩ => ⟨S128x1x1024, .f32⟩
  | .hbm, ⟨19, _⟩ => ⟨S128x1x1024, .f32⟩
  | .hbm, ⟨20, _⟩ => ⟨S128x1x1024, .f32⟩
  | .hbm, ⟨21, _⟩ => ⟨S1x1x1024x5632, .f32⟩
  | .hbm, ⟨22, _⟩ => ⟨S1024x5632, .f32⟩
  | .hbm, ⟨23, _⟩ => ⟨S128x1x5632, .f32⟩
  | .hbm, ⟨24, _⟩ => ⟨S128x1x2816, .f32⟩
  | .hbm, ⟨25, _⟩ => ⟨S128x1x2816, .f32⟩
  | .hbm, ⟨26, _⟩ => ⟨S_, .f32⟩
  | .hbm, ⟨27, _⟩ => ⟨S128x1x1024, .f32⟩
  | .hbm, ⟨28, _⟩ => ⟨S128x1x1024, .f32⟩
  | .hbm, ⟨29, _⟩ => ⟨S_, .f32⟩
  | .hbm, ⟨30, _⟩ => ⟨S128x1x1024, .f32⟩
  | .hbm, ⟨31, _⟩ => ⟨S128x1x1024, .f32⟩
  | .hbm, ⟨32, _⟩ => ⟨S128x1x2816, .f32⟩
  | .hbm, ⟨33, _⟩ => ⟨S128x1x2816, .f32⟩
  | .hbm, ⟨34, _⟩ => ⟨S_, .f32⟩
  | .hbm, ⟨35, _⟩ => ⟨S128x1x2816, .f32⟩
  | .hbm, ⟨36, _⟩ => ⟨S128x1x2816, .f32⟩
  | .hbm, ⟨37, _⟩ => ⟨S_, .f32⟩
  | .hbm, ⟨38, _⟩ => ⟨S128x1x2816, .f32⟩
  | .hbm, ⟨39, _⟩ => ⟨S128x1x2816, .f32⟩
  | .hbm, ⟨40, _⟩ => ⟨S128x1x2816, .f32⟩
  | .hbm, ⟨41, _⟩ => ⟨S128x1x2816, .f32⟩
  | .hbm, ⟨42, _⟩ => ⟨S1x1x2816x1024, .f32⟩
  | .hbm, ⟨43, _⟩ => ⟨S2816x1024, .f32⟩
  | .hbm, ⟨44, _⟩ => ⟨S128x1x1024, .f32⟩
  | .hbm, ⟨45, _⟩ => ⟨S128x1x1024, .f32⟩
  | .hbm, ⟨46, _⟩ => ⟨S128x1x1024, .f32⟩
  | .hbm, ⟨47, _⟩ => ⟨S_, .f32⟩
  | .hbm, ⟨48, _⟩ => ⟨S128x1, .f32⟩
  | .hbm, ⟨49, _⟩ => ⟨S128x1x1, .f32⟩
  | .hbm, ⟨50, _⟩ => ⟨S_, .f32⟩
  | .hbm, ⟨51, _⟩ => ⟨S128x1x1, .f32⟩
  | .hbm, ⟨52, _⟩ => ⟨S128x1x1, .f32⟩
  | .hbm, ⟨53, _⟩ => ⟨S128x1x1024, .f32⟩
  | .hbm, ⟨54, _⟩ => ⟨S128x1x1024, .f32⟩
  | .hbm, ⟨55, _⟩ => ⟨S128x1x1024, .f32⟩
  | .hbm, ⟨56, _⟩ => ⟨S_, .f32⟩
  | .hbm, ⟨57, _⟩ => ⟨S128x1, .f32⟩
  | .hbm, ⟨58, _⟩ => ⟨S128x1x1, .f32⟩
  | .hbm, ⟨59, _⟩ => ⟨S_, .f32⟩
  | .hbm, ⟨60, _⟩ => ⟨S128x1x1, .f32⟩
  | .hbm, ⟨61, _⟩ => ⟨S128x1x1, .f32⟩
  | .hbm, ⟨62, _⟩ => ⟨S128x1x1024, .f32⟩
  | .hbm, ⟨63, _⟩ => ⟨S128x1x1024, .f32⟩
  | .hbm, ⟨64, _⟩ => ⟨S_, .f32⟩
  | .hbm, ⟨65, _⟩ => ⟨S128x1x1, .f32⟩
  | .hbm, ⟨66, _⟩ => ⟨S128x1x1, .f32⟩
  | .hbm, ⟨67, _⟩ => ⟨S128x1x1, .f32⟩
  | .hbm, ⟨68, _⟩ => ⟨S128x1x1024, .f32⟩
  | .hbm, ⟨69, _⟩ => ⟨S128x1x1024, .f32⟩
  | .hbm, ⟨70, _⟩ => ⟨S1x1x1024, .f32⟩
  | .hbm, ⟨71, _⟩ => ⟨S1024, .f32⟩
  | .hbm, ⟨72, _⟩ => ⟨S1x1x1024, .f32⟩
  | .hbm, ⟨73, _⟩ => ⟨S128x1x1024, .f32⟩
  | .hbm, ⟨74, _⟩ => ⟨S128x1x1024, .f32⟩
  | .hbm, ⟨75, _⟩ => ⟨S1x1x1024, .f32⟩
  | .hbm, ⟨76, _⟩ => ⟨S1024, .f32⟩
  | .hbm, ⟨77, _⟩ => ⟨S1x1x1024, .f32⟩
  | .hbm, ⟨78, _⟩ => ⟨S128x1x1024, .f32⟩
  | .hbm, ⟨79, _⟩ => ⟨S128x1x1024, .f32⟩
  | .hbm, ⟨80, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Inproj.lean ====
abbrev S4x4096x1024 : Shape := ⟨3, ![4, 4096, 1024]⟩
abbrev S4x9216 : Shape := ⟨2, ![4, 9216]⟩
abbrev S4x1024x2888 : Shape := ⟨3, ![4, 1024, 2888]⟩
abbrev S4x2888x1024 : Shape := ⟨3, ![4, 2888, 1024]⟩
abbrev S_ : Shape := ⟨0, ![]⟩
abbrev S4x2944x1024 : Shape := ⟨3, ![4, 2944, 1024]⟩
abbrev S16384x1024 : Shape := ⟨2, ![16384, 1024]⟩
abbrev S4x1x9216 : Shape := ⟨3, ![4, 1, 9216]⟩
abbrev S16384x256 : Shape := ⟨2, ![16384, 256]⟩
abbrev S16384x128 : Shape := ⟨2, ![16384, 128]⟩
abbrev S16384x512 : Shape := ⟨2, ![16384, 512]⟩
abbrev S4x512x4096 : Shape := ⟨3, ![4, 512, 4096]⟩
abbrev S4x8x4096 : Shape := ⟨3, ![4, 8, 4096]⟩
abbrev S4x64x4096 : Shape := ⟨3, ![4, 64, 4096]⟩
abbrev S512x1024 : Shape := ⟨2, ![512, 1024]⟩
abbrev S1x1x1024 : Shape := ⟨3, ![1, 1, 1024]⟩
abbrev S1x2944x1024 : Shape := ⟨3, ![1, 2944, 1024]⟩
abbrev S512x256 : Shape := ⟨2, ![512, 256]⟩
abbrev S512x128 : Shape := ⟨2, ![512, 128]⟩
abbrev S512x512 : Shape := ⟨2, ![512, 512]⟩
abbrev S1x512x512 : Shape := ⟨3, ![1, 512, 512]⟩
abbrev S1x8x512 : Shape := ⟨3, ![1, 8, 512]⟩
abbrev S1x64x512 : Shape := ⟨3, ![1, 64, 512]⟩
abbrev S1x1024 : Shape := ⟨2, ![1, 1024]⟩
abbrev S1x768x1024 : Shape := ⟨3, ![1, 768, 1024]⟩
abbrev S768x1024 : Shape := ⟨2, ![768, 1024]⟩
abbrev S512x768 : Shape := ⟨2, ![512, 768]⟩
abbrev S1x512x1024 : Shape := ⟨3, ![1, 512, 1024]⟩
abbrev S1x64x1024 : Shape := ⟨3, ![1, 64, 1024]⟩
abbrev S64x1024 : Shape := ⟨2, ![64, 1024]⟩
abbrev S64x512 : Shape := ⟨2, ![64, 512]⟩
abbrev S1x128x1024 : Shape := ⟨3, ![1, 128, 1024]⟩
abbrev S128x1024 : Shape := ⟨2, ![128, 1024]⟩
abbrev S1x16x1024 : Shape := ⟨3, ![1, 16, 1024]⟩
abbrev S16x1024 : Shape := ⟨2, ![16, 1024]⟩
abbrev S16x512 : Shape := ⟨2, ![16, 512]⟩
abbrev S8x512 : Shape := ⟨2, ![8, 512]⟩

abbrev nBuf : Space → Nat
  | .hbm => 21
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S4x9216, .f32⟩
  | .hbm, ⟨2, _⟩ => ⟨S4x1024x2888, .f32⟩
  | .hbm, ⟨3, _⟩ => ⟨S4x2888x1024, .f32⟩
  | .hbm, ⟨4, _⟩ => ⟨S_, .i32⟩
  | .hbm, ⟨5, _⟩ => ⟨S_, .f32⟩
  | .hbm, ⟨6, _⟩ => ⟨S4x2944x1024, .f32⟩
  | .hbm, ⟨7, _⟩ => ⟨S4x2944x1024, .bf16⟩
  | .hbm, ⟨8, _⟩ => ⟨S16384x1024, .f32⟩
  | .hbm, ⟨9, _⟩ => ⟨S4x1x9216, .f32⟩
  | .hbm, ⟨10, _⟩ => ⟨S16384x256, .f32⟩
  | .hbm, ⟨11, _⟩ => ⟨S16384x256, .f32⟩
  | .hbm, ⟨12, _⟩ => ⟨S16384x128, .bf16⟩
  | .hbm, ⟨13, _⟩ => ⟨S16384x512, .bf16⟩
  | .hbm, ⟨14, _⟩ => ⟨S4x512x4096, .bf16⟩
  | .hbm, ⟨15, _⟩ => ⟨S4x512x4096, .bf16⟩
  | .hbm, ⟨16, _⟩ => ⟨S4x8x4096, .f32⟩
  | .hbm, ⟨17, _⟩ => ⟨S4x512x4096, .f32⟩
  | .hbm, ⟨18, _⟩ => ⟨S4x512x4096, .f32⟩
  | .hbm, ⟨19, _⟩ => ⟨S4x512x4096, .bf16⟩
  | .hbm, ⟨20, _⟩ => ⟨S4x64x4096, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x2944x1024, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x128, .bf16⟩
  | .local _ .vmem, ⟨12, _⟩ => ⟨S512x128, .bf16⟩
  | .local _ .vmem, ⟨13, _⟩ => ⟨S512x512, .bf16⟩
  | .local _ .vmem, ⟨14, _⟩ => ⟨S512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x8x512, .f32⟩
  | .local _ .vmem, ⟨20, _⟩ => ⟨S1x8x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .bf16⟩
  | .local _ .vmem, ⟨26, _⟩ => ⟨S1x512x512, .bf16⟩
  | .local _ .vmem, ⟨27, _⟩ => ⟨S1x64x512, .f32⟩
  | .local _ .vmem, ⟨28, _⟩ => ⟨S1x64x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_v5_7 : Ref sig .tc := ⟨.hbm, 17, rfl⟩
abbrev main_v5_8 : Ref sig .tc := ⟨.hbm, 18, rfl⟩
abbrev main_v5_9 : Ref sig .tc := ⟨.hbm, 19, rfl⟩
abbrev main_v5_10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2944x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InprojIdeal.lean ====
variable {F : FTy → Type} [FloatOps F] [Named F]
def κ : String → Option EReal := fun
  | "q_scale" => some (((1 / 8) * (Real.log 2)⁻¹ : ℝ) : EReal)
  | _ => none
-- ==== InprojRefIdeal.lean ====
abbrev S4x4096x1024 : Shape := ⟨3, ![4, 4096, 1024]⟩
abbrev S4x9216 : Shape := ⟨2, ![4, 9216]⟩
abbrev S4x1024x2888 : Shape := ⟨3, ![4, 1024, 2888]⟩
abbrev S4x1x9216 : Shape := ⟨3, ![4, 1, 9216]⟩
abbrev S4x1x1024 : Shape := ⟨3, ![4, 1, 1024]⟩
abbrev S_ : Shape := ⟨0, ![]⟩
abbrev S1x1024x2888 : Shape := ⟨3, ![1, 1024, 2888]⟩
abbrev S1024x2888 : Shape := ⟨2, ![1024, 2888]⟩
abbrev S4x4096x2888 : Shape := ⟨3, ![4, 4096, 2888]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x8 : Shape := ⟨3, ![4, 4096, 8]⟩
abbrev S4x4096x72 : Shape := ⟨3, ![4, 4096, 72]⟩
abbrev S4x4096x128 : Shape := ⟨3, ![4, 4096, 128]⟩
abbrev S16384x256 : Shape := ⟨2, ![16384, 256]⟩
abbrev S16384x128 : Shape := ⟨2, ![16384, 128]⟩
abbrev S16384x512 : Shape := ⟨2, ![16384, 512]⟩
abbrev S4x512x4096 : Shape := ⟨3, ![4, 512, 4096]⟩
abbrev S4x8x4096 : Shape := ⟨3, ![4, 8, 4096]⟩
abbrev S4x64x4096 : Shape := ⟨3, ![4, 64, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x9216, .f32⟩
  | .hbm, ⟨2, _⟩ => ⟨S4x1024x2888, .f32⟩
  | .hbm, ⟨3, _⟩ => ⟨S4x1x9216, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S_, .f32⟩
  | .hbm, ⟨14, _⟩ => ⟨S4x1x1024, .f32⟩
  | .hbm, ⟨15, _⟩ => ⟨S4x1x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S1x1024x2888, .f32⟩
  | .hbm, ⟨21, _⟩ => ⟨S1024x2888, .f32⟩
  | .hbm, ⟨22, _⟩ => ⟨S4x4096x2888, .f32⟩
  | .hbm, ⟨23, _⟩ => ⟨S4x4096x512, .f32⟩
  | .hbm, ⟨24, _⟩ => ⟨S4x4096x256, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x64, .f32⟩
  | .hbm, ⟨30, _⟩ => ⟨S4x4096x8, .f32⟩
  | .hbm, ⟨31, _⟩ => ⟨S4x4096x256, .f32⟩
  | .hbm, ⟨32, _⟩ => ⟨S4x4096x256, .f32⟩
  | .hbm, ⟨33, _⟩ => ⟨S4x4096x256, .f32⟩
  | .hbm, ⟨34, _⟩ => ⟨S4x4096x256, .f32⟩
  | .hbm, ⟨35, _⟩ => ⟨S_, .f32⟩
  | .hbm, ⟨36, _⟩ => ⟨S4x4096x256, .f32⟩
  | .hbm, ⟨37, _⟩ => ⟨S4x4096x256, .f32⟩
  | .hbm, ⟨38, _⟩ => ⟨S_, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096x512, .f32⟩
  | .hbm, ⟨44, _⟩ => ⟨S4x4096x512, .f32⟩
  | .hbm, ⟨45, _⟩ => ⟨S_, .f32⟩
  | .hbm, ⟨46, _⟩ => ⟨S_, .f32⟩
  | .hbm, ⟨47, _⟩ => ⟨S4x4096x512, .f32⟩
  | .hbm, ⟨48, _⟩ => ⟨S4x4096x512, .f32⟩
  | .hbm, ⟨49, _⟩ => ⟨S_, .f32⟩
  | .hbm, ⟨50, _⟩ => ⟨S4x4096x8, .f32⟩
  | .hbm, ⟨51, _⟩ => ⟨S4x4096x8, .f32⟩
  | .hbm, ⟨52, _⟩ => ⟨S_, .f32⟩
  | .hbm, ⟨53, _⟩ => ⟨S4x4096x8, .f32⟩
  | .hbm, ⟨54, _⟩ => ⟨S4x4096x8, .f32⟩
  | .hbm, ⟨55, _⟩ => ⟨S4x4096x72, .f32⟩
  | .hbm, ⟨56, _⟩ => ⟨S_, .i32⟩
  | .hbm, ⟨57, _⟩ => ⟨S_, .f32⟩
  | .hbm, ⟨58, _⟩ => ⟨S4x4096x128, .f32⟩
  | .hbm, ⟨59, _⟩ => ⟨S16384x256, .f32⟩
  | .hbm, ⟨60, _⟩ => ⟨S16384x256, .f32⟩
  | .hbm, ⟨61, _⟩ => ⟨S16384x128, .f32⟩
  | .hbm, ⟨62, _⟩ => ⟨S16384x128, .bf16⟩
  | .hbm, ⟨63, _⟩ => ⟨S16384x512, .f32⟩
  | .hbm, ⟨64, _⟩ => ⟨S16384x512, .bf16⟩
  | .hbm, ⟨65, _⟩ => ⟨S4x512x4096, .f32⟩
  | .hbm, ⟨66, _⟩ => ⟨S4x512x4096, .bf16⟩
  | .hbm, ⟨67, _⟩ => ⟨S4x512x4096, .f32⟩
  | .hbm, ⟨68, _⟩ => ⟨S4x512x4096, .bf16⟩
  | .hbm, ⟨69, _⟩ => ⟨S4x8x4096, .f32⟩
  | .hbm, ⟨70, _⟩ => ⟨S4x512x4096, .f32⟩
  | .hbm, ⟨71, _⟩ => ⟨S4x512x4096, .f32⟩
  | .hbm, ⟨72, _⟩ => ⟨S4x512x4096, .f32⟩
  | .hbm, ⟨73, _⟩ => ⟨S4x512x4096, .bf16⟩
  | .hbm, ⟨74, _⟩ => ⟨S4x64x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c : Ref sig .tc := ⟨.hbm, 56, rfl⟩
abbrev main_call0_v0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== InprojSample.lean ====
abbrev S128x1x1024 : Shape := ⟨3, ![128, 1, 1024]⟩
abbrev S128x9216 : Shape := ⟨2, ![128, 9216]⟩
abbrev S4x1024x2888 : Shape := ⟨3, ![4, 1024, 2888]⟩
abbrev S4x2888x1024 : Shape := ⟨3, ![4, 2888, 1024]⟩
abbrev S_ : Shape := ⟨0, ![]⟩
abbrev S4x2944x1024 : Shape := ⟨3, ![4, 2944, 1024]⟩
abbrev S128x1024 : Shape := ⟨2, ![128, 1024]⟩
abbrev S1x128x9216 : Shape := ⟨3, ![1, 128, 9216]⟩
abbrev S128x256 : Shape := ⟨2, ![128, 256]⟩
abbrev S128x512 : Shape := ⟨2, ![128, 512]⟩
abbrev S128x128 : Shape := ⟨2, ![128, 128]⟩
abbrev S1x512x128 : Shape := ⟨3, ![1, 512, 128]⟩
abbrev S1x64x128 : Shape := ⟨3, ![1, 64, 128]⟩
abbrev S1x128x1024 : Shape := ⟨3, ![1, 128, 1024]⟩
abbrev S1x2944x1024 : Shape := ⟨3, ![1, 2944, 1024]⟩
abbrev S1x768x1024 : Shape := ⟨3, ![1, 768, 1024]⟩
abbrev S768x1024 : Shape := ⟨2, ![768, 1024]⟩
abbrev S128x768 : Shape := ⟨2, ![128, 768]⟩
abbrev S1x512x1024 : Shape := ⟨3, ![1, 512, 1024]⟩
abbrev S512x1024 : Shape := ⟨2, ![512, 1024]⟩
abbrev S512x128 : Shape := ⟨2, ![512, 128]⟩
abbrev S1x64x1024 : Shape := ⟨3, ![1, 64, 1024]⟩
abbrev S64x1024 : Shape := ⟨2, ![64, 1024]⟩
abbrev S64x128 : Shape := ⟨2, ![64, 128]⟩

abbrev nBuf : Space → Nat
  | .hbm => 20
  | .vmem => 14
  | .smem => 0
  | _ => 0

abbrev bufTy : (tb : Table) → Fin (tcTables nBuf tb) → BufTy
  | .hbm, ⟨0, _⟩ => ⟨S128x1x1024, .f32⟩
  | .hbm, ⟨1, _⟩ => ⟨S128x9216, .f32⟩
  | .hbm, ⟨2, _⟩ => ⟨S4x1024x2888, .f32⟩
  | .hbm, ⟨3, _⟩ => ⟨S4x2888x1024, .f32⟩
  | .hbm, ⟨4, _⟩ => ⟨S_, .i32⟩
  | .hbm, ⟨5, _⟩ => ⟨S_, .f32⟩
  | .hbm, ⟨6, _⟩ => ⟨S4x2944x1024, .f32⟩
  | .hbm, ⟨7, _⟩ => ⟨S4x2944x1024, .bf16⟩
  | .hbm, ⟨8, _⟩ => ⟨S128x1024, .f32⟩
  | .hbm, ⟨9, _⟩ => ⟨S1x128x9216, .f32⟩
  | .hbm, ⟨10, _⟩ => ⟨S128x256, .f32⟩
  | .hbm, ⟨11, _⟩ => ⟨S128x256, .f32⟩
  | .hbm, ⟨12, _⟩ => ⟨S128x512, .bf16⟩
  | .hbm, ⟨13, _⟩ => ⟨S128x512, .bf16⟩
  | .hbm, ⟨14, _⟩ => ⟨S128x128, .f32⟩
  | .hbm, ⟨15, _⟩ => ⟨S1x512x128, .f32⟩
  | .hbm, ⟨16, _⟩ => ⟨S1x512x128, .f32⟩
  | .hbm, ⟨17, _⟩ => ⟨S1x64x128, .f32⟩
  | .hbm, ⟨18, _⟩ => ⟨S128x512, .f32⟩
  | .hbm, ⟨19, _⟩ => ⟨S128x512, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x2944x1024, .bf16⟩
  | .local _ .vmem, ⟨4, _⟩ => ⟨S128x256, .f32⟩
  | .local _ .vmem, ⟨5, _⟩ => ⟨S128x256, .f32⟩
  | .local _ .vmem, ⟨6, _⟩ => ⟨S128x512, .bf16⟩
  | .local _ .vmem, ⟨7, _⟩ => ⟨S128x512, .bf16⟩
  | .local _ .vmem, ⟨8, _⟩ => ⟨S128x128, .f32⟩
  | .local _ .vmem, ⟨9, _⟩ => ⟨S1x512x128, .f32⟩
  | .local _ .vmem, ⟨10, _⟩ => ⟨S1x512x128, .f32⟩
  | .local _ .vmem, ⟨11, _⟩ => ⟨S1x64x128, .f32⟩
  | .local _ .vmem, ⟨12, _⟩ => ⟨S128x512, .f32⟩
  | .local _ .vmem, ⟨13, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_v5_7 : Ref sig .tc := ⟨.hbm, 17, rfl⟩
abbrev main_v5_8 : Ref sig .tc := ⟨.hbm, 18, rfl⟩
abbrev main_v5_9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2944x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== InprojSampleIdeal.lean ====
variable {F : FTy → Type} [FloatOps F] [Named F]
def κ : String → Option EReal := fun
  | "q_scale" => some (((1 / 8) * (Real.log 2)⁻¹ : ℝ) : EReal)
  | _ => none
-- ==== InprojSampleRefIdeal.lean ====
abbrev S128x1x1024 : Shape := ⟨3, ![128, 1, 1024]⟩
abbrev S128x9216 : Shape := ⟨2, ![128, 9216]⟩
abbrev S4x1024x2888 : Shape := ⟨3, ![4, 1024, 2888]⟩
abbrev S128x1x9216 : Shape := ⟨3, ![128, 1, 9216]⟩
abbrev S_ : Shape := ⟨0, ![]⟩
abbrev S1x1024x2888 : Shape := ⟨3, ![1, 1024, 2888]⟩
abbrev S1024x2888 : Shape := ⟨2, ![1024, 2888]⟩
abbrev S128x1x2888 : Shape := ⟨3, ![128, 1, 2888]⟩
abbrev S128x1x512 : Shape := ⟨3, ![128, 1, 512]⟩
abbrev S128x1x256 : Shape := ⟨3, ![128, 1, 256]⟩
abbrev S128x1x64 : Shape := ⟨3, ![128, 1, 64]⟩
abbrev S128x1x8 : Shape := ⟨3, ![128, 1, 8]⟩
abbrev S128x1x72 : Shape := ⟨3, ![128, 1, 72]⟩
abbrev S128x1x128 : Shape := ⟨3, ![128, 1, 128]⟩
abbrev S128x256 : Shape := ⟨2, ![128, 256]⟩
abbrev S128x512 : Shape := ⟨2, ![128, 512]⟩
abbrev S128x128 : Shape := ⟨2, ![128, 128]⟩
abbrev S1x512x128 : Shape := ⟨3, ![1, 512, 128]⟩
abbrev S1x64x128 : Shape := ⟨3, ![1, 64, 128]⟩

abbrev nBuf : Space → Nat
  | .hbm => 63
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x9216, .f32⟩
  | .hbm, ⟨2, _⟩ => ⟨S4x1024x2888, .f32⟩
  | .hbm, ⟨3, _⟩ => ⟨S128x1x9216, .f32⟩
  | .hbm, ⟨4, _⟩ => ⟨S128x1x1024, .f32⟩
  | .hbm, ⟨5, _⟩ => ⟨S128x1x1024, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S_, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S1x1024x2888, .f32⟩
  | .hbm, ⟨19, _⟩ => ⟨S1024x2888, .f32⟩
  | .hbm, ⟨20, _⟩ => ⟨S128x1x2888, .f32⟩
  | .hbm, ⟨21, _⟩ => ⟨S128x1x512, .f32⟩
  | .hbm, ⟨22, _⟩ => ⟨S128x1x256, .f32⟩
  | .hbm, ⟨23, _⟩ => ⟨S128x1x512, .f32⟩
  | .hbm, ⟨24, _⟩ => ⟨S128x1x512, .f32⟩
  | .hbm, ⟨25, _⟩ => ⟨S128x1x512, .f32⟩
  | .hbm, ⟨26, _⟩ => ⟨S128x1x512, .f32⟩
  | .hbm, ⟨27, _⟩ => ⟨S128x1x64, .f32⟩
  | .hbm, ⟨28, _⟩ => ⟨S128x1x8, .f32⟩
  | .hbm, ⟨29, _⟩ => ⟨S128x1x256, .f32⟩
  | .hbm, ⟨30, _⟩ => ⟨S128x1x256, .f32⟩
  | .hbm, ⟨31, _⟩ => ⟨S128x1x256, .f32⟩
  | .hbm, ⟨32, _⟩ => ⟨S128x1x256, .f32⟩
  | .hbm, ⟨33, _⟩ => ⟨S_, .f32⟩
  | .hbm, ⟨34, _⟩ => ⟨S128x1x256, .f32⟩
  | .hbm, ⟨35, _⟩ => ⟨S128x1x256, .f32⟩
  | .hbm, ⟨36, _⟩ => ⟨S_, .f32⟩
  | .hbm, ⟨37, _⟩ => ⟨S128x1x256, .f32⟩
  | .hbm, ⟨38, _⟩ => ⟨S128x1x256, .f32⟩
  | .hbm, ⟨39, _⟩ => ⟨S128x1x256, .f32⟩
  | .hbm, ⟨40, _⟩ => ⟨S_, .f32⟩
  | .hbm, ⟨41, _⟩ => ⟨S128x1x512, .f32⟩
  | .hbm, ⟨42, _⟩ => ⟨S128x1x512, .f32⟩
  | .hbm, ⟨43, _⟩ => ⟨S_, .f32⟩
  | .hbm, ⟨44, _⟩ => ⟨S_, .f32⟩
  | .hbm, ⟨45, _⟩ => ⟨S128x1x512, .f32⟩
  | .hbm, ⟨46, _⟩ => ⟨S128x1x512, .f32⟩
  | .hbm, ⟨47, _⟩ => ⟨S128x1x72, .f32⟩
  | .hbm, ⟨48, _⟩ => ⟨S_, .i32⟩
  | .hbm, ⟨49, _⟩ => ⟨S_, .f32⟩
  | .hbm, ⟨50, _⟩ => ⟨S128x1x128, .f32⟩
  | .hbm, ⟨51, _⟩ => ⟨S128x256, .f32⟩
  | .hbm, ⟨52, _⟩ => ⟨S128x256, .f32⟩
  | .hbm, ⟨53, _⟩ => ⟨S128x512, .f32⟩
  | .hbm, ⟨54, _⟩ => ⟨S128x512, .bf16⟩
  | .hbm, ⟨55, _⟩ => ⟨S128x512, .f32⟩
  | .hbm, ⟨56, _⟩ => ⟨S128x512, .bf16⟩
  | .hbm, ⟨57, _⟩ => ⟨S128x128, .f32⟩
  | .hbm, ⟨58, _⟩ => ⟨S1x512x128, .f32⟩
  | .hbm, ⟨59, _⟩ => ⟨S1x512x128, .f32⟩
  | .hbm, ⟨60, _⟩ => ⟨S1x64x128, .f32⟩
  | .hbm, ⟨61, _⟩ => ⟨S128x512, .f32⟩
  | .hbm, ⟨62, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c : Ref sig .tc := ⟨.hbm, 48, rfl⟩
abbrev main_call0_v0 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== MixoutSample.lean ====
abbrev S128x1x1024 : Shape := ⟨3, ![128, 1, 1024]⟩
abbrev S128x1x256 : Shape := ⟨3, ![128, 1, 256]⟩
abbrev S128x1x512 : Shape := ⟨3, ![128, 1, 512]⟩
abbrev S128x9216 : Shape := ⟨2, ![128, 9216]⟩
abbrev S4x128x30x256 : Shape := ⟨4, ![4, 128, 30, 256]⟩
abbrev S4x128x15x256 : Shape := ⟨4, ![4, 128, 15, 256]⟩
abbrev S4x31x256 : Shape := ⟨3, ![4, 31, 256]⟩
abbrev S4x256 : Shape := ⟨2, ![4, 256]⟩
abbrev S4x4x64x64 : Shape := ⟨4, ![4, 4, 64, 64]⟩
abbrev S4x1024x1024 : Shape := ⟨3, ![4, 1024, 1024]⟩
abbrev S4x3x1024 : Shape := ⟨3, ![4, 3, 1024]⟩
abbrev S128x256 : Shape := ⟨2, ![128, 256]⟩
abbrev S4x30x128x256 : Shape := ⟨4, ![4, 30, 128, 256]⟩
abbrev S4x15x128x256 : Shape := ⟨4, ![4, 15, 128, 256]⟩
abbrev S1x29x128x256 : Shape := ⟨4, ![1, 29, 128, 256]⟩
abbrev S29x128x256 : Shape := ⟨3, ![29, 128, 256]⟩
abbrev S1x128x256 : Shape := ⟨3, ![1, 128, 256]⟩
abbrev S30x128x256 : Shape := ⟨3, ![30, 128, 256]⟩
abbrev S1x14x128x256 : Shape := ⟨4, ![1, 14, 128, 256]⟩
abbrev S14x128x256 : Shape := ⟨3, ![14, 128, 256]⟩
abbrev S15x128x256 : Shape := ⟨3, ![15, 128, 256]⟩
abbrev S128x1024 : Shape := ⟨2, ![128, 1024]⟩
abbrev S128x512 : Shape := ⟨2, ![128, 512]⟩
abbrev S1x128x9216 : Shape := ⟨3, ![1, 128, 9216]⟩
abbrev S_ : Shape := ⟨0, ![]⟩
abbrev S4x32x256 : Shape := ⟨3, ![4, 32, 256]⟩
abbrev S1x32x256 : Shape := ⟨3, ![1, 32, 256]⟩
abbrev S32x256 : Shape := ⟨2, ![32, 256]⟩
abbrev S1x256 : Shape := ⟨2, ![1, 256]⟩
abbrev S256 : Shape := ⟨1, ![256]⟩
abbrev S1x4x64x64 : Shape := ⟨4, ![1, 4, 64, 64]⟩
abbrev S4x64x64 : Shape := ⟨3, ![4, 64, 64]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x1x1024 : Shape := ⟨3, ![1, 1, 1024]⟩
abbrev S1024 : Shape := ⟨1, ![1024]⟩
abbrev S1x1024 : Shape := ⟨2, ![1, 1024]⟩
abbrev S1x30x128x256 : Shape := ⟨4, ![1, 30, 128, 256]⟩
abbrev S1x15x128x256 : Shape := ⟨4, ![1, 15, 128, 256]⟩
abbrev S1x1024x1024 : Shape := ⟨3, ![1, 1024, 1024]⟩
abbrev S1x128x1024 : Shape := ⟨3, ![1, 128, 1024]⟩
abbrev S1x1x128x256 : Shape := ⟨4, ![1, 1, 128, 256]⟩
abbrev S128 : Shape := ⟨1, ![128]⟩
abbrev S128x1 : Shape := ⟨2, ![128, 1]⟩
abbrev S1024x1024 : Shape := ⟨2, ![1024, 1024]⟩

abbrev nBuf : Space → Nat
  | .hbm => 93
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S128x1x256, .f32⟩
  | .hbm, ⟨2, _⟩ => ⟨S128x1x256, .f32⟩
  | .hbm, ⟨3, _⟩ => ⟨S128x1x512, .bf16⟩
  | .hbm, ⟨4, _⟩ => ⟨S128x9216, .f32⟩
  | .hbm, ⟨5, _⟩ => ⟨S4x128x30x256, .f32⟩
  | .hbm, ⟨6, _⟩ => ⟨S4x128x15x256, .f32⟩
  | .hbm, ⟨7, _⟩ => ⟨S4x31x256, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S4x4x64x64, .f32⟩
  | .hbm, ⟨12, _⟩ => ⟨S4x256, .f32⟩
  | .hbm, ⟨13, _⟩ => ⟨S4x1024x1024, .f32⟩
  | .hbm, ⟨14, _⟩ => ⟨S4x3x1024, .f32⟩
  | .hbm, ⟨15, _⟩ => ⟨S4x3x1024, .f32⟩
  | .hbm, ⟨16, _⟩ => ⟨S128x256, .f32⟩
  | .hbm, ⟨17, _⟩ => ⟨S128x256, .f32⟩
  | .hbm, ⟨18, _⟩ => ⟨S4x30x128x256, .f32⟩
  | .hbm, ⟨19, _⟩ => ⟨S4x15x128x256, .f32⟩
  | .hbm, ⟨20, _⟩ => ⟨S1x29x128x256, .f32⟩
  | .hbm, ⟨21, _⟩ => ⟨S29x128x256, .f32⟩
  | .hbm, ⟨22, _⟩ => ⟨S1x128x256, .f32⟩
  | .hbm, ⟨23, _⟩ => ⟨S30x128x256, .f32⟩
  | .hbm, ⟨24, _⟩ => ⟨S1x14x128x256, .f32⟩
  | .hbm, ⟨25, _⟩ => ⟨S14x128x256, .f32⟩
  | .hbm, ⟨26, _⟩ => ⟨S1x128x256, .f32⟩
  | .hbm, ⟨27, _⟩ => ⟨S15x128x256, .f32⟩
  | .hbm, ⟨28, _⟩ => ⟨S128x1024, .f32⟩
  | .hbm, ⟨29, _⟩ => ⟨S128x512, .bf16⟩
  | .hbm, ⟨30, _⟩ => ⟨S1x128x9216, .f32⟩
  | .hbm, ⟨31, _⟩ => ⟨S_, .i32⟩
  | .hbm, ⟨32, _⟩ => ⟨S_, .f32⟩
  | .hbm, ⟨33, _⟩ => ⟨S4x32x256, .f32⟩
  | .hbm, ⟨34, _⟩ => ⟨S1x32x256, .f32⟩
  | .hbm, ⟨35, _⟩ => ⟨S32x256, .f32⟩
  | .hbm, ⟨36, _⟩ => ⟨S1x256, .f32⟩
  | .hbm, ⟨37, _⟩ => ⟨S256, .f32⟩
  | .hbm, ⟨38, _⟩ => ⟨S1x256, .f32⟩
  | .hbm, ⟨39, _⟩ => ⟨S1x256, .f32⟩
  | .hbm, ⟨40, _⟩ => ⟨S256, .f32⟩
  | .hbm, ⟨41, _⟩ => ⟨S1x256, .f32⟩
  | .hbm, ⟨42, _⟩ => ⟨S1x256, .f32⟩
  | .hbm, ⟨43, _⟩ => ⟨S256, .f32⟩
  | .hbm, ⟨44, _⟩ => ⟨S1x256, .f32⟩
  | .hbm, ⟨45, _⟩ => ⟨S1x4x64x64, .f32⟩
  | .hbm, ⟨46, _⟩ => ⟨S4x64x64, .f32⟩
  | .hbm, ⟨47, _⟩ => ⟨S_, .f32⟩
  | .hbm, ⟨48, _⟩ => ⟨S256x256, .f32⟩
  | .hbm, ⟨49, _⟩ => ⟨S1x64x64, .f32⟩
  | .hbm, ⟨50, _⟩ => ⟨S64x64, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S256x256, .f32⟩
  | .hbm, ⟨57, _⟩ => ⟨S1x64x64, .f32⟩
  | .hbm, ⟨58, _⟩ => ⟨S64x64, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S256x256, .f32⟩
  | .hbm, ⟨65, _⟩ => ⟨S1x64x64, .f32⟩
  | .hbm, ⟨66, _⟩ => ⟨S64x64, .f32⟩
  | .hbm, ⟨67, _⟩ => ⟨S_, .i32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S2, .i32⟩
  | .hbm, ⟨72, _⟩ => ⟨S256x256, .f32⟩
  | .hbm, ⟨73, _⟩ => ⟨S1x64x64, .f32⟩
  | .hbm, ⟨74, _⟩ => ⟨S64x64, .f32⟩
  | .hbm, ⟨75, _⟩ => ⟨S_, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S2, .i32⟩
  | .hbm, ⟨80, _⟩ => ⟨S256x256, .f32⟩
  | .hbm, ⟨81, _⟩ => ⟨S256x256, .bf16⟩
  | .hbm, ⟨82, _⟩ => ⟨S1x256, .f32⟩
  | .hbm, ⟨83, _⟩ => ⟨S256, .f32⟩
  | .hbm, ⟨84, _⟩ => ⟨S1x256, .f32⟩
  | .hbm, ⟨85, _⟩ => ⟨S4x1024x1024, .bf16⟩
  | .hbm, ⟨86, _⟩ => ⟨S1x1x1024, .f32⟩
  | .hbm, ⟨87, _⟩ => ⟨S1024, .f32⟩
  | .hbm, ⟨88, _⟩ => ⟨S1x1024, .f32⟩
  | .hbm, ⟨89, _⟩ => ⟨S1x1x1024, .f32⟩
  | .hbm, ⟨90, _⟩ => ⟨S1024, .f32⟩
  | .hbm, ⟨91, _⟩ => ⟨S1x1024, .f32⟩
  | .hbm, ⟨92, _⟩ => ⟨S128x1024, .f32⟩
  | .local _ .vmem, ⟨0, _⟩ => ⟨S128x1024, .f32⟩
  | .local _ .vmem, ⟨1, _⟩ => ⟨S128x256, .f32⟩
  | .local _ .vmem, ⟨2, _⟩ => ⟨S128x256, .f32⟩
  | .local _ .vmem, ⟨3, _⟩ => ⟨S128x512, .bf16⟩
  | .local _ .vmem, ⟨4, _⟩ => ⟨S1x30x128x256, .f32⟩
  | .local _ .vmem, ⟨5, _⟩ => ⟨S1x15x128x256, .f32⟩
  | .local _ .vmem, ⟨6, _⟩ => ⟨S32x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S1x1024x1024, .bf16⟩
  | .local _ .vmem, ⟨13, _⟩ => ⟨S1x128x1024, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_call0_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_0 : Ref sig .tc := ⟨.hbm, 51, rfl⟩
abbrev main_v32 : Ref sig .tc := ⟨.hbm, 52, rfl⟩
abbrev main_c_1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_2 : Ref sig .tc := ⟨.hbm, 59, rfl⟩
abbrev main_v38 : Ref sig .tc := ⟨.hbm, 60, rfl⟩
abbrev main_c_3 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_4 : Ref sig .tc := ⟨.hbm, 67, rfl⟩
abbrev main_v44 : Ref sig .tc := ⟨.hbm, 68, rfl⟩
abbrev main_c_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_6 : Ref sig .tc := ⟨.hbm, 75, rfl⟩
abbrev main_v50 : Ref sig .tc := ⟨.hbm, 76, rfl⟩
abbrev main_c_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_5 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x30x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x15x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixoutSampleRefIdeal.lean ====
abbrev S128x1x1024 : Shape := ⟨3, ![128, 1, 1024]⟩
abbrev S128x1x256 : Shape := ⟨3, ![128, 1, 256]⟩
abbrev S128x1x512 : Shape := ⟨3, ![128, 1, 512]⟩
abbrev S128x9216 : Shape := ⟨2, ![128, 9216]⟩
abbrev S4x128x30x256 : Shape := ⟨4, ![4, 128, 30, 256]⟩
abbrev S4x128x15x256 : Shape := ⟨4, ![4, 128, 15, 256]⟩
abbrev S4x31x256 : Shape := ⟨3, ![4, 31, 256]⟩
abbrev S4x256 : Shape := ⟨2, ![4, 256]⟩
abbrev S4x4x64x64 : Shape := ⟨4, ![4, 4, 64, 64]⟩
abbrev S4x1024x1024 : Shape := ⟨3, ![4, 1024, 1024]⟩
abbrev S4x3x1024 : Shape := ⟨3, ![4, 3, 1024]⟩
abbrev S128x1x9216 : Shape := ⟨3, ![128, 1, 9216]⟩
abbrev S1x128x30x256 : Shape := ⟨4, ![1, 128, 30, 256]⟩
abbrev S128x30x256 : Shape := ⟨3, ![128, 30, 256]⟩
abbrev S128x31x256 : Shape := ⟨3, ![128, 31, 256]⟩
abbrev S1x31x256 : Shape := ⟨3, ![1, 31, 256]⟩
abbrev S31x256 : Shape := ⟨2, ![31, 256]⟩
abbrev S_ : Shape := ⟨0, ![]⟩
abbrev S128x256 : Shape := ⟨2, ![128, 256]⟩
abbrev S1x256 : Shape := ⟨2, ![1, 256]⟩
abbrev S256 : Shape := ⟨1, ![256]⟩
abbrev S1x1x256 : Shape := ⟨3, ![1, 1, 256]⟩
abbrev S128x1 : Shape := ⟨2, ![128, 1]⟩
abbrev S128x1x1 : Shape := ⟨3, ![128, 1, 1]⟩
abbrev S1x128x15x256 : Shape := ⟨4, ![1, 128, 15, 256]⟩
abbrev S128x15x256 : Shape := ⟨3, ![128, 15, 256]⟩
abbrev S128x16x256 : Shape := ⟨3, ![128, 16, 256]⟩
abbrev S128x17x256 : Shape := ⟨3, ![128, 17, 256]⟩
abbrev S1 : Shape := ⟨1, ![1]⟩
abbrev S128x1x64 : Shape := ⟨3, ![128, 1, 64]⟩
abbrev S1x1x1 : Shape := ⟨3, ![1, 1, 1]⟩
abbrev S1x1x64x64 : Shape := ⟨4, ![1, 1, 64, 64]⟩
abbrev S64x64 : Shape := ⟨2, ![64, 64]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S128x1024 : Shape := ⟨2, ![128, 1024]⟩
abbrev S30x128x256 : Shape := ⟨3, ![30, 128, 256]⟩
abbrev S15x128x256 : Shape := ⟨3, ![15, 128, 256]⟩

abbrev nBuf : Space → Nat
  | .hbm => 224
  | .vmem => 0
  | .smem => 0
  | _ => 0

abbrev hbmTy0_0 (i : Nat) : BufTy := match i % 128 with
  | 0 => ⟨S128x1x1024, .f32⟩
  | 1 => ⟨S128x1x256, .f32⟩
  | 2 => ⟨S128x1x256, .f32⟩
  | 3 => ⟨S128x1x512, .bf16⟩
  | 4 => ⟨S128x9216, .f32⟩
  | 5 => ⟨S4x128x30x256, .f32⟩
  | 6 => ⟨S4x128x15x256, .f32⟩
  | 7 => ⟨S4x31x256, .f32⟩
  | 8 => ⟨S4x256, .f32⟩
  | 9 => ⟨S4x256, .f32⟩
  | 10 => ⟨S4x256, .f32⟩
  | 11 => ⟨S4x4x64x64, .f32⟩
  | 12 => ⟨S4x256, .f32⟩
  | 13 => ⟨S4x1024x1024, .f32⟩
  | 14 => ⟨S4x3x1024, .f32⟩
  | 15 => ⟨S4x3x1024, .f32⟩
  | 16 => ⟨S128x1x9216, .f32⟩
  | 17 => ⟨S128x1x1024, .f32⟩
  | 18 => ⟨S128x1x1024, .f32⟩
  | 19 => ⟨S128x1x1024, .f32⟩
  | 20 => ⟨S128x1x1024, .f32⟩
  | 21 => ⟨S128x1x1024, .f32⟩
  | 22 => ⟨S128x1x1024, .f32⟩
  | 23 => ⟨S128x1x1024, .f32⟩
  | 24 => ⟨S128x1x1024, .f32⟩
  | 25 => ⟨S128x1x1024, .f32⟩
  | 26 => ⟨S1x128x30x256, .f32⟩
  | 27 => ⟨S128x30x256, .f32⟩
  | 28 => ⟨S128x31x256, .f32⟩
  | 29 => ⟨S1x31x256, .f32⟩
  | 30 => ⟨S31x256, .f32⟩
  | 31 => ⟨S1x31x256, .f32⟩
  | 32 => ⟨S128x31x256, .f32⟩
  | 33 => ⟨S128x31x256, .f32⟩
  | 34 => ⟨S_, .f32⟩
  | 35 => ⟨S128x256, .f32⟩
  | 36 => ⟨S128x1x256, .f32⟩
  | 37 => ⟨S1x256, .f32⟩
  | 38 => ⟨S256, .f32⟩
  | 39 => ⟨S1x1x256, .f32⟩
  | 40 => ⟨S128x1x256, .f32⟩
  | 41 => ⟨S128x1x256, .f32⟩
  | 42 => ⟨S1x256, .f32⟩
  | 43 => ⟨S256, .f32⟩
  | 44 => ⟨S1x256, .f32⟩
  | 45 => ⟨S256, .f32⟩
  | 46 => ⟨S_, .f32⟩
  | 47 => ⟨S128x1, .f32⟩
  | 48 => ⟨S128x1x1, .f32⟩
  | 49 => ⟨S_, .f32⟩
  | 50 => ⟨S128x1x1, .f32⟩
  | 51 => ⟨S128x1x1, .f32⟩
  | 52 => ⟨S128x1x256, .f32⟩
  | 53 => ⟨S128x1x256, .f32⟩
  | 54 => ⟨S128x1x256, .f32⟩
  | 55 => ⟨S_, .f32⟩
  | 56 => ⟨S128x1, .f32⟩
  | 57 => ⟨S128x1x1, .f32⟩
  | 58 => ⟨S_, .f32⟩
  | 59 => ⟨S128x1x1, .f32⟩
  | 60 => ⟨S128x1x1, .f32⟩
  | 61 => ⟨S128x1x256, .f32⟩
  | 62 => ⟨S128x1x256, .f32⟩
  | 63 => ⟨S_, .f32⟩
  | 64 => ⟨S128x1x1, .f32⟩
  | 65 => ⟨S128x1x1, .f32⟩
  | 66 => ⟨S128x1x1, .f32⟩
  | 67 => ⟨S128x1x256, .f32⟩
  | 68 => ⟨S128x1x256, .f32⟩
  | 69 => ⟨S1x1x256, .f32⟩
  | 70 => ⟨S128x1x256, .f32⟩
  | 71 => ⟨S128x1x256, .f32⟩
  | 72 => ⟨S1x1x256, .f32⟩
  | 73 => ⟨S128x1x256, .f32⟩
  | 74 => ⟨S128x1x256, .f32⟩
  | 75 => ⟨S128x1x256, .f32⟩
  | 76 => ⟨S128x1x256, .f32⟩
  | 77 => ⟨S_, .f32⟩
  | 78 => ⟨S128x1x256, .f32⟩
  | 79 => ⟨S128x1x256, .f32⟩
  | 80 => ⟨S_, .f32⟩
  | 81 => ⟨S128x1x256, .f32⟩
  | 82 => ⟨S128x1x256, .f32⟩
  | 83 => ⟨S128x1x256, .f32⟩
  | 84 => ⟨S1x128x15x256, .f32⟩
  | 85 => ⟨S128x15x256, .f32⟩
  | 86 => ⟨S128x16x256, .f32⟩
  | 87 => ⟨S_, .f32⟩
  | 88 => ⟨S_, .f32⟩
  | 89 => ⟨S128x16x256, .f32⟩
  | 90 => ⟨S128x1x256, .f32⟩
  | 91 => ⟨S_, .f32⟩
  | 92 => ⟨S128x1x256, .f32⟩
  | 93 => ⟨S128x17x256, .f32⟩
  | 94 => ⟨S1, .i32⟩
  | 95 => ⟨S_, .i32⟩
  | 96 => ⟨S1, .i32⟩
  | 97 => ⟨S1, .i32⟩
  | 98 => ⟨S128x1x64, .f32⟩
  | 99 => ⟨S128x1x64, .f32⟩
  | 100 => ⟨S128x1x64, .f32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .f32⟩
  | 108 => ⟨S1x1x1, .f32⟩
  | 109 => ⟨S128x1x64, .f32⟩
  | 110 => ⟨S128x1x64, .f32⟩
  | 111 => ⟨S128x1x64, .f32⟩
  | 112 => ⟨S128x1x64, .f32⟩
  | 113 => ⟨S1x1x64x64, .f32⟩
  | 114 => ⟨S64x64, .f32⟩
  | 115 => ⟨S128x1x64, .f32⟩
  | 116 => ⟨S128x1x64, .f32⟩
  | 117 => ⟨S128x1x64, .f32⟩
  | 118 => ⟨S128x1x64, .f32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .f32⟩
  | 126 => ⟨S1x1x1, .f32⟩
  | 127 => ⟨S128x1x64, .f32⟩
  | _ => ⟨S128x1x1024, .f32⟩

abbrev hbmTy0_1 (i : Nat) : BufTy := match i % 128 with
  | 0 => ⟨S128x1x64, .f32⟩
  | 1 => ⟨S128x1x64, .f32⟩
  | 2 => ⟨S128x1x64, .f32⟩
  | 3 => ⟨S1x1x64x64, .f32⟩
  | 4 => ⟨S64x64, .f32⟩
  | 5 => ⟨S128x1x64, .f32⟩
  | 6 => ⟨S128x1x64, .f32⟩
  | 7 => ⟨S128x1x64, .f32⟩
  | 8 => ⟨S128x1x64, .f32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .f32⟩
  | 16 => ⟨S1x1x1, .f32⟩
  | 17 => ⟨S128x1x64, .f32⟩
  | 18 => ⟨S128x1x64, .f32⟩
  | 19 => ⟨S128x1x64, .f32⟩
  | 20 => ⟨S128x1x64, .f32⟩
  | 21 => ⟨S1x1x64x64, .f32⟩
  | 22 => ⟨S64x64, .f32⟩
  | 23 => ⟨S128x1x64, .f32⟩
  | 24 => ⟨S128x1x64, .f32⟩
  | 25 => ⟨S128x1x64, .f32⟩
  | 26 => ⟨S128x1x64, .f32⟩
  | 27 => ⟨S_, .i32⟩
  | 28 => ⟨S1, .i32⟩
  | 29 => ⟨S1, .i32⟩
  | 30 => ⟨S_, .i32⟩
  | 31 => ⟨S1, .i32⟩
  | 32 => ⟨S1, .i32⟩
  | 33 => ⟨S1, .f32⟩
  | 34 => ⟨S1x1x1, .f32⟩
  | 35 => ⟨S128x1x64, .f32⟩
  | 36 => ⟨S128x1x64, .f32⟩
  | 37 => ⟨S128x1x64, .f32⟩
  | 38 => ⟨S128x1x64, .f32⟩
  | 39 => ⟨S1x1x64x64, .f32⟩
  | 40 => ⟨S64x64, .f32⟩
  | 41 => ⟨S128x1x64, .f32⟩
  | 42 => ⟨S128x1x256, .f32⟩
  | 43 => ⟨S1x256, .f32⟩
  | 44 => ⟨S256, .f32⟩
  | 45 => ⟨S1x1x256, .f32⟩
  | 46 => ⟨S128x1x256, .f32⟩
  | 47 => ⟨S128x1x256, .f32⟩
  | 48 => ⟨S128x1x512, .f32⟩
  | 49 => ⟨S128x1x1024, .f32⟩
  | 50 => ⟨S1x1024x1024, .f32⟩
  | 51 => ⟨S1024x1024, .f32⟩
  | 52 => ⟨S128x1x1024, .f32⟩
  | 53 => ⟨S_, .f32⟩
  | 54 => ⟨S128x1x1024, .f32⟩
  | 55 => ⟨S128x1x1024, .f32⟩
  | 56 => ⟨S128x1x1024, .f32⟩
  | 57 => ⟨S128x1x1024, .f32⟩
  | 58 => ⟨S1x1x1024, .f32⟩
  | 59 => ⟨S1024, .f32⟩
  | 60 => ⟨S1x1x1024, .f32⟩
  | 61 => ⟨S1024, .f32⟩
  | 62 => ⟨S_, .f32⟩
  | 63 => ⟨S128x1, .f32⟩
  | 64 => ⟨S128x1x1, .f32⟩
  | 65 => ⟨S_, .f32⟩
  | 66 => ⟨S128x1x1, .f32⟩
  | 67 => ⟨S128x1x1, .f32⟩
  | 68 => ⟨S128x1x1024, .f32⟩
  | 69 => ⟨S128x1x1024, .f32⟩
  | 70 => ⟨S128x1x1024, .f32⟩
  | 71 => ⟨S_, .f32⟩
  | 72 => ⟨S128x1, .f32⟩
  | 73 => ⟨S128x1x1, .f32⟩
  | 74 => ⟨S_, .f32⟩
  | 75 => ⟨S128x1x1, .f32⟩
  | 76 => ⟨S128x1x1, .f32⟩
  | 77 => ⟨S128x1x1024, .f32⟩
  | 78 => ⟨S128x1x1024, .f32⟩
  | 79 => ⟨S_, .f32⟩
  | 80 => ⟨S128x1x1, .f32⟩
  | 81 => ⟨S128x1x1, .f32⟩
  | 82 => ⟨S128x1x1, .f32⟩
  | 83 => ⟨S128x1x1024, .f32⟩
  | 84 => ⟨S128x1x1024, .f32⟩
  | 85 => ⟨S1x1x1024, .f32⟩
  | 86 => ⟨S128x1x1024, .f32⟩
  | 87 => ⟨S128x1x1024, .f32⟩
  | 88 => ⟨S1x1x1024, .f32⟩
  | 89 => ⟨S128x1x1024, .f32⟩
  | 90 => ⟨S128x1x1024, .f32⟩
  | 91 => ⟨S128x1024, .f32⟩
  | 92 => ⟨S128x30x256, .f32⟩
  | 93 => ⟨S30x128x256, .f32⟩
  | 94 => ⟨S128x15x256, .f32⟩
  | 95 => ⟨S15x128x256, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_0 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_2 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_4 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call1_call0_cst : Ref sig .tc := ⟨.hbm, 87, rfl⟩
abbrev main_call1_call0_v0 : Ref sig .tc := ⟨.hbm, 88, rfl⟩
abbrev main_v57 : Ref sig .tc := ⟨.hbm, 89, rfl⟩
abbrev main_v58 : Ref sig .tc := ⟨.hbm, 90, rfl⟩
abbrev main_cst_5 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_6 : Ref sig .tc := ⟨.hbm, 101, rfl⟩
abbrev main_v67 : Ref sig .tc := ⟨.hbm, 102, rfl⟩
abbrev main_v68 : Ref sig .tc := ⟨.hbm, 103, rfl⟩
abbrev main_c_7 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_8 : Ref sig .tc := ⟨.hbm, 119, rfl⟩
abbrev main_v83 : Ref sig .tc := ⟨.hbm, 120, rfl⟩
abbrev main_v84 : Ref sig .tc := ⟨.hbm, 121, rfl⟩
abbrev main_c_9 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_10 : Ref sig .tc := ⟨.hbm, 137, rfl⟩
abbrev main_v99 : Ref sig .tc := ⟨.hbm, 138, rfl⟩
abbrev main_v100 : Ref sig .tc := ⟨.hbm, 139, rfl⟩
abbrev main_c_11 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_c_12 : Ref sig .tc := ⟨.hbm, 155, rfl⟩
abbrev main_v115 : Ref sig .tc := ⟨.hbm, 156, rfl⟩
abbrev main_v116 : Ref sig .tc := ⟨.hbm, 157, rfl⟩
abbrev main_c_13 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_14 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_15 : Ref sig .tc := ⟨.hbm, 190, rfl⟩
abbrev main_v147 : Ref sig .tc := ⟨.hbm, 191, rfl⟩
abbrev main_v148 : Ref sig .tc := ⟨.hbm, 192, rfl⟩
abbrev main_cst_16 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_cst_17 : Ref sig .tc := ⟨.hbm, 199, rfl⟩
abbrev main_v154 : Ref sig .tc := ⟨.hbm, 200, rfl⟩
abbrev main_v155 : Ref sig .tc := ⟨.hbm, 201, rfl⟩
abbrev main_cst_18 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_19 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩

abbrev nD : Nat := 1
abbrev τ : Topo := Topo.v7x

variable {F : FTy → Type} [FloatOps F]
-- ==== Ada.lean ====
abbrev S4x1024 : Shape := ⟨2, ![4, 1024]⟩
abbrev S128x1024 : Shape := ⟨2, ![128, 1024]⟩
abbrev S4x1024x9216 : Shape := ⟨3, ![4, 1024, 9216]⟩
abbrev S4x9216 : Shape := ⟨2, ![4, 9216]⟩
abbrev S_ : Shape := ⟨0, ![]⟩
abbrev S136x1024 : Shape := ⟨2, ![136, 1024]⟩
abbrev S4x1x9216 : Shape := ⟨3, ![4, 1, 9216]⟩
abbrev S4x136x9216 : Shape := ⟨3, ![4, 136, 9216]⟩
abbrev S1x1024x1024 : Shape := ⟨3, ![1, 1024, 1024]⟩
abbrev S1x1x1024 : Shape := ⟨3, ![1, 1, 1024]⟩
abbrev S1x136x1024 : Shape := ⟨3, ![1, 136, 1024]⟩
abbrev S1024x1024 : Shape := ⟨2, ![1024, 1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S4x1024x9216, .f32⟩
  | .hbm, ⟨3, _⟩ => ⟨S4x9216, .f32⟩
  | .hbm, ⟨4, _⟩ => ⟨S_, .f32⟩
  | .hbm, ⟨5, _⟩ => ⟨S4x1024, .f32⟩
  | .hbm, ⟨6, _⟩ => ⟨S136x1024, .f32⟩
  | .hbm, ⟨7, _⟩ => ⟨S4x1x9216, .f32⟩
  | .hbm, ⟨8, _⟩ => ⟨S4x136x9216, .f32⟩
  | .local _ .vmem, ⟨0, _⟩ => ⟨S136x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x136x1024, .f32⟩
  | .local _ .vmem, ⟨6, _⟩ => ⟨S1x136x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x1024 : Shape := ⟨2, ![4, 1024]⟩
abbrev S128x1024 : Shape := ⟨2, ![128, 1024]⟩
abbrev S4x1024x9216 : Shape := ⟨3, ![4, 1024, 9216]⟩
abbrev S4x9216 : Shape := ⟨2, ![4, 9216]⟩
abbrev S_ : Shape := ⟨0, ![]⟩
abbrev S136x1024 : Shape := ⟨2, ![136, 1024]⟩
abbrev S136x4x9216 : Shape := ⟨3, ![136, 4, 9216]⟩
abbrev S4x136x9216 : Shape := ⟨3, ![4, 136, 9216]⟩
abbrev S4x1x9216 : Shape := ⟨3, ![4, 1, 9216]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S4x1024x9216, .f32⟩
  | .hbm, ⟨3, _⟩ => ⟨S4x9216, .f32⟩
  | .hbm, ⟨4, _⟩ => ⟨S_, .f32⟩
  | .hbm, ⟨5, _⟩ => ⟨S4x1024, .f32⟩
  | .hbm, ⟨6, _⟩ => ⟨S136x1024, .f32⟩
  | .hbm, ⟨7, _⟩ => ⟨S136x1024, .f32⟩
  | .hbm, ⟨8, _⟩ => ⟨S136x1024, .f32⟩
  | .hbm, ⟨9, _⟩ => ⟨S_, .f32⟩
  | .hbm, ⟨10, _⟩ => ⟨S136x1024, .f32⟩
  | .hbm, ⟨11, _⟩ => ⟨S136x1024, .f32⟩
  | .hbm, ⟨12, _⟩ => ⟨S_, .f32⟩
  | .hbm, ⟨13, _⟩ => ⟨S136x1024, .f32⟩
  | .hbm, ⟨14, _⟩ => ⟨S136x1024, .f32⟩
  | .hbm, ⟨15, _⟩ => ⟨S136x1024, .f32⟩
  | .hbm, ⟨16, _⟩ => ⟨S136x4x9216, .f32⟩
  | .hbm, ⟨17, _⟩ => ⟨S4x136x9216, .f32⟩
  | .hbm, ⟨18, _⟩ => ⟨S4x1x9216, .f32⟩
  | .hbm, ⟨19, _⟩ => ⟨S4x136x9216, .f32⟩
  | .hbm, ⟨20, _⟩ => ⟨S4x136x9216, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== MixoutPrompt.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S4x9216 : Shape := ⟨2, ![4, 9216]⟩
abbrev S4x31x256 : Shape := ⟨3, ![4, 31, 256]⟩
abbrev S4x256 : Shape := ⟨2, ![4, 256]⟩
abbrev S4x4x64x64 : Shape := ⟨4, ![4, 4, 64, 64]⟩
abbrev S4x1024x1024 : Shape := ⟨3, ![4, 1024, 1024]⟩
abbrev S4x3x1024 : Shape := ⟨3, ![4, 3, 1024]⟩
abbrev S4x1x9216 : Shape := ⟨3, ![4, 1, 9216]⟩
abbrev S_ : Shape := ⟨0, ![]⟩
abbrev S4x32x256 : Shape := ⟨3, ![4, 32, 256]⟩
abbrev S1x32x256 : Shape := ⟨3, ![1, 32, 256]⟩
abbrev S32x256 : Shape := ⟨2, ![32, 256]⟩
abbrev S1x256 : Shape := ⟨2, ![1, 256]⟩
abbrev S256 : Shape := ⟨1, ![256]⟩
abbrev S1x4x64x64 : Shape := ⟨4, ![1, 4, 64, 64]⟩
abbrev S4x64x64 : Shape := ⟨3, ![4, 64, 64]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S1x4096x256 : Shape := ⟨3, ![1, 4096, 256]⟩
abbrev S1x512x512 : Shape := ⟨3, ![1, 512, 512]⟩
abbrev S1x1024x1024 : Shape := ⟨3, ![1, 1024, 1024]⟩
abbrev S544x256 : Shape := ⟨2, ![544, 256]⟩
abbrev S8x544x256 : Shape := ⟨3, ![8, 544, 256]⟩
abbrev S1x512x256 : Shape := ⟨3, ![1, 512, 256]⟩
abbrev S512x256 : Shape := ⟨2, ![512, 256]⟩
abbrev S536x256 : Shape := ⟨2, ![536, 256]⟩
abbrev S1x536x256 : Shape := ⟨3, ![1, 536, 256]⟩
abbrev S1x544x256 : Shape := ⟨3, ![1, 544, 256]⟩
abbrev S512x1 : Shape := ⟨2, ![512, 1]⟩
abbrev S512x1024 : Shape := ⟨2, ![512, 1024]⟩
abbrev S512x512 : Shape := ⟨2, ![512, 512]⟩
abbrev S512 : Shape := ⟨1, ![512]⟩
abbrev S1024x1024 : Shape := ⟨2, ![1024, 1024]⟩

abbrev nBuf : Space → Nat
  | .hbm => 77
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x512, .bf16⟩
  | .hbm, ⟨4, _⟩ => ⟨S4x9216, .f32⟩
  | .hbm, ⟨5, _⟩ => ⟨S4x31x256, .f32⟩
  | .hbm, ⟨6, _⟩ => ⟨S4x256, .f32⟩
  | .hbm, ⟨7, _⟩ => ⟨S4x256, .f32⟩
  | .hbm, ⟨8, _⟩ => ⟨S4x256, .f32⟩
  | .hbm, ⟨9, _⟩ => ⟨S4x4x64x64, .f32⟩
  | .hbm, ⟨10, _⟩ => ⟨S4x256, .f32⟩
  | .hbm, ⟨11, _⟩ => ⟨S4x1024x1024, .f32⟩
  | .hbm, ⟨12, _⟩ => ⟨S4x3x1024, .f32⟩
  | .hbm, ⟨13, _⟩ => ⟨S4x3x1024, .f32⟩
  | .hbm, ⟨14, _⟩ => ⟨S4x1x9216, .f32⟩
  | .hbm, ⟨15, _⟩ => ⟨S_, .i32⟩
  | .hbm, ⟨16, _⟩ => ⟨S_, .f32⟩
  | .hbm, ⟨17, _⟩ => ⟨S4x32x256, .f32⟩
  | .hbm, ⟨18, _⟩ => ⟨S1x32x256, .f32⟩
  | .hbm, ⟨19, _⟩ => ⟨S32x256, .f32⟩
  | .hbm, ⟨20, _⟩ => ⟨S1x256, .f32⟩
  | .hbm, ⟨21, _⟩ => ⟨S256, .f32⟩
  | .hbm, ⟨22, _⟩ => ⟨S1x256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S1x256, .f32⟩
  | .hbm, ⟨27, _⟩ => ⟨S256, .f32⟩
  | .hbm, ⟨28, _⟩ => ⟨S1x256, .f32⟩
  | .hbm, ⟨29, _⟩ => ⟨S1x4x64x64, .f32⟩
  | .hbm, ⟨30, _⟩ => ⟨S4x64x64, .f32⟩
  | .hbm, ⟨31, _⟩ => ⟨S_, .f32⟩
  | .hbm, ⟨32, _⟩ => ⟨S256x256, .f32⟩
  | .hbm, ⟨33, _⟩ => ⟨S1x64x64, .f32⟩
  | .hbm, ⟨34, _⟩ => ⟨S64x64, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S256x256, .f32⟩
  | .hbm, ⟨41, _⟩ => ⟨S1x64x64, .f32⟩
  | .hbm, ⟨42, _⟩ => ⟨S64x64, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S256x256, .f32⟩
  | .hbm, ⟨49, _⟩ => ⟨S1x64x64, .f32⟩
  | .hbm, ⟨50, _⟩ => ⟨S64x64, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S256x256, .f32⟩
  | .hbm, ⟨57, _⟩ => ⟨S1x64x64, .f32⟩
  | .hbm, ⟨58, _⟩ => ⟨S64x64, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S256x256, .f32⟩
  | .hbm, ⟨65, _⟩ => ⟨S256x256, .bf16⟩
  | .hbm, ⟨66, _⟩ => ⟨S1x256, .f32⟩
  | .hbm, ⟨67, _⟩ => ⟨S256, .f32⟩
  | .hbm, ⟨68, _⟩ => ⟨S1x256, .f32⟩
  | .hbm, ⟨69, _⟩ => ⟨S4x1024x1024, .bf16⟩
  | .hbm, ⟨70, _⟩ => ⟨S1x1x1024, .f32⟩
  | .hbm, ⟨71, _⟩ => ⟨S1024, .f32⟩
  | .hbm, ⟨72, _⟩ => ⟨S1x1024, .f32⟩
  | .hbm, ⟨73, _⟩ => ⟨S1x1x1024, .f32⟩
  | .hbm, ⟨74, _⟩ => ⟨S1024, .f32⟩
  | .hbm, ⟨75, _⟩ => ⟨S1x1024, .f32⟩
  | .hbm, ⟨76, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x512x512, .bf16⟩
  | .local _ .vmem, ⟨7, _⟩ => ⟨S1x512x512, .bf16⟩
  | .local _ .vmem, ⟨8, _⟩ => ⟨S32x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S1x1024x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S544x256, .f32⟩
  | .local _ .vmem, ⟨22, _⟩ => ⟨S544x256, .f32⟩
  | .local _ .vmem, ⟨23, _⟩ => ⟨S8x544x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_c_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_mult2 (i : grid0.Coords) : BitVec 32 :=
  let arg1 : BitVec 32 := BitVec.ofNat 32 (i 1).val
  let c512_i32 : BitVec 32 := 512#32
  let v0 : BitVec 32 := Scalar.muli arg1 c512_i32
  let v1 : BitVec 32 := v0
  let c32_i32 : BitVec 32 := 32#32
  let v2 : BitVec 32 := Scalar.subi v1 c32_i32
  let c0_i32 : BitVec 32 := 0#32
  let v3 : BitVec 32 := Scalar.maxsi v2 c0_i32
  v3
def k0_off1 (i : grid0.Coords) : Fin 3 → Nat :=
  let c0 : Index := 0#32
  let arg1 : BitVec 32 := BitVec.ofNat 32 (i 1).val
  let c512_i32 : BitVec 32 := 512#32
  let v0 : BitVec 32 := Scalar.muli arg1 c512_i32
  let v1 : BitVec 32 := v0
  let c32_i32 : BitVec 32 := 32#32
  let v2 : BitVec 32 := Scalar.subi v1 c32_i32
  let c0_i32 : BitVec 32 := 0#32
  let v3 : BitVec 32 := Scalar.maxsi v2 c0_i32
  let v4 : BitVec 32 := v3
  let v6 : Index := Scalar.indexCast v4
  let c0_1 : Index := 0#32
  ![0, v6.toNat, 0]
def k0_off2 (i : grid0.Coords) : Fin 3 → Nat :=
  let c0_4 : Index := 0#32
  let arg1 : BitVec 32 := BitVec.ofNat 32 (i 1).val
  let c512_i32 : BitVec 32 := 512#32
  let v0 : BitVec 32 := Scalar.muli arg1 c512_i32
  let v1 : BitVec 32 := v0
  let v14 : Index := Scalar.indexCast v1
  let c0_5 : Index := 0#32
  ![0, v14.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixoutPromptRefIdeal.lean ====
abbrev S4x4096x1024 : Shape := ⟨3, ![4, 4096, 1024]⟩
abbrev S4x4096x256 : Shape := ⟨3, ![4, 4096, 256]⟩
abbrev S4x4096x512 : Shape := ⟨3, ![4, 4096, 512]⟩
abbrev S4x9216 : Shape := ⟨2, ![4, 9216]⟩
abbrev S4x31x256 : Shape := ⟨3, ![4, 31, 256]⟩
abbrev S4x256 : Shape := ⟨2, ![4, 256]⟩
abbrev S4x4x64x64 : Shape := ⟨4, ![4, 4, 64, 64]⟩
abbrev S4x1024x1024 : Shape := ⟨3, ![4, 1024, 1024]⟩
abbrev S4x3x1024 : Shape := ⟨3, ![4, 3, 1024]⟩
abbrev S4x1x9216 : Shape := ⟨3, ![4, 1, 9216]⟩
abbrev S4x1x1024 : Shape := ⟨3, ![4, 1, 1024]⟩
abbrev S_ : Shape := ⟨0, ![]⟩
abbrev S4x30x256 : Shape := ⟨3, ![4, 30, 256]⟩
abbrev S4x4126x256 : Shape := ⟨3, ![4, 4126, 256]⟩
abbrev S1x1x256 : Shape := ⟨3, ![1, 1, 256]⟩
abbrev S256 : Shape := ⟨1, ![256]⟩
abbrev S1x256 : Shape := ⟨2, ![1, 256]⟩
abbrev S4x4096 : Shape := ⟨2, ![4, 4096]⟩
abbrev S4x4096x1 : Shape := ⟨3, ![4, 4096, 1]⟩
abbrev S4x15x256 : Shape := ⟨3, ![4, 15, 256]⟩
abbrev S4x4111x256 : Shape := ⟨3, ![4, 4111, 256]⟩
abbrev S4x1x256 : Shape := ⟨3, ![4, 1, 256]⟩
abbrev S4x4112x256 : Shape := ⟨3, ![4, 4112, 256]⟩
abbrev S4096 : Shape := ⟨1, ![4096]⟩
abbrev S4x4096x64 : Shape := ⟨3, ![4, 4096, 64]⟩
abbrev S1x4096x1 : Shape := ⟨3, ![1, 4096, 1]⟩
abbrev S1x1x64x64 : Shape := ⟨4, ![1, 1, 64, 64]⟩
abbrev S64x64 : Shape := ⟨2, ![64, 64]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩

abbrev nBuf : Space → Nat
  | .hbm => 426
  | .vmem => 0
  | .smem => 0
  | _ => 0

abbrev hbmTy0_0 (i : Nat) : BufTy := match i % 128 with
  | 0 => ⟨S4x4096x1024, .f32⟩
  | 1 => ⟨S4x4096x256, .f32⟩
  | 2 => ⟨S4x4096x256, .f32⟩
  | 3 => ⟨S4x4096x512, .bf16⟩
  | 4 => ⟨S4x9216, .f32⟩
  | 5 => ⟨S4x31x256, .f32⟩
  | 6 => ⟨S4x256, .f32⟩
  | 7 => ⟨S4x256, .f32⟩
  | 8 => ⟨S4x256, .f32⟩
  | 9 => ⟨S4x4x64x64, .f32⟩
  | 10 => ⟨S4x256, .f32⟩
  | 11 => ⟨S4x1024x1024, .f32⟩
  | 12 => ⟨S4x3x1024, .f32⟩
  | 13 => ⟨S4x3x1024, .f32⟩
  | 14 => ⟨S4x1x9216, .f32⟩
  | 15 => ⟨S4x1x1024, .f32⟩
  | 16 => ⟨S4x1x1024, .f32⟩
  | 17 => ⟨S4x1x1024, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S4x1x1024, .f32⟩
  | 24 => ⟨S_, .f32⟩
  | 25 => ⟨S4x30x256, .f32⟩
  | 26 => ⟨S4x4126x256, .f32⟩
  | 27 => ⟨S4x4096x256, .f32⟩
  | 28 => ⟨S1x1x256, .f32⟩
  | 29 => ⟨S256, .f32⟩
  | 30 => ⟨S1x1x256, .f32⟩
  | 31 => ⟨S4x4096x256, .f32⟩
  | 32 => ⟨S4x4096x256, .f32⟩
  | 33 => ⟨S_, .f32⟩
  | 34 => ⟨S4x4096x256, .f32⟩
  | 35 => ⟨S4x4096x256, .f32⟩
  | 36 => ⟨S4x4096x256, .f32⟩
  | 37 => ⟨S1x1x256, .f32⟩
  | 38 => ⟨S256, .f32⟩
  | 39 => ⟨S1x1x256, .f32⟩
  | 40 => ⟨S4x4096x256, .f32⟩
  | 41 => ⟨S4x4096x256, .f32⟩
  | 42 => ⟨S4x4096x256, .f32⟩
  | 43 => ⟨S4x4096x256, .f32⟩
  | 44 => ⟨S1x1x256, .f32⟩
  | 45 => ⟨S256, .f32⟩
  | 46 => ⟨S1x1x256, .f32⟩
  | 47 => ⟨S4x4096x256, .f32⟩
  | 48 => ⟨S4x4096x256, .f32⟩
  | 49 => ⟨S4x4096x256, .f32⟩
  | 50 => ⟨S4x4096x256, .f32⟩
  | 51 => ⟨S1x1x256, .f32⟩
  | 52 => ⟨S256, .f32⟩
  | 53 => ⟨S1x1x256, .f32⟩
  | 54 => ⟨S4x4096x256, .f32⟩
  | 55 => ⟨S4x4096x256, .f32⟩
  | 56 => ⟨S4x4096x256, .f32⟩
  | 57 => ⟨S4x4096x256, .f32⟩
  | 58 => ⟨S1x1x256, .f32⟩
  | 59 => ⟨S256, .f32⟩
  | 60 => ⟨S1x1x256, .f32⟩
  | 61 => ⟨S4x4096x256, .f32⟩
  | 62 => ⟨S4x4096x256, .f32⟩
  | 63 => ⟨S4x4096x256, .f32⟩
  | 64 => ⟨S4x4096x256, .f32⟩
  | 65 => ⟨S1x1x256, .f32⟩
  | 66 => ⟨S256, .f32⟩
  | 67 => ⟨S1x1x256, .f32⟩
  | 68 => ⟨S4x4096x256, .f32⟩
  | 69 => ⟨S4x4096x256, .f32⟩
  | 70 => ⟨S4x4096x256, .f32⟩
  | 71 => ⟨S4x4096x256, .f32⟩
  | 72 => ⟨S1x1x256, .f32⟩
  | 73 => ⟨S256, .f32⟩
  | 74 => ⟨S1x1x256, .f32⟩
  | 75 => ⟨S4x4096x256, .f32⟩
  | 76 => ⟨S4x4096x256, .f32⟩
  | 77 => ⟨S4x4096x256, .f32⟩
  | 78 => ⟨S4x4096x256, .f32⟩
  | 79 => ⟨S1x1x256, .f32⟩
  | 80 => ⟨S256, .f32⟩
  | 81 => ⟨S1x1x256, .f32⟩
  | 82 => ⟨S4x4096x256, .f32⟩
  | 83 => ⟨S4x4096x256, .f32⟩
  | 84 => ⟨S4x4096x256, .f32⟩
  | 85 => ⟨S4x4096x256, .f32⟩
  | 86 => ⟨S1x1x256, .f32⟩
  | 87 => ⟨S256, .f32⟩
  | 88 => ⟨S1x1x256, .f32⟩
  | 89 => ⟨S4x4096x256, .f32⟩
  | 90 => ⟨S4x4096x256, .f32⟩
  | 91 => ⟨S4x4096x256, .f32⟩
  | 92 => ⟨S4x4096x256, .f32⟩
  | 93 => ⟨S1x1x256, .f32⟩
  | 94 => ⟨S256, .f32⟩
  | 95 => ⟨S1x1x256, .f32⟩
  | 96 => ⟨S4x4096x256, .f32⟩
  | 97 => ⟨S4x4096x256, .f32⟩
  | 98 => ⟨S4x4096x256, .f32⟩
  | 99 => ⟨S4x4096x256, .f32⟩
  | 100 => ⟨S1x1x256, .f32⟩
  | 101 => ⟨S256, .f32⟩
  | 102 => ⟨S1x1x256, .f32⟩
  | 103 => ⟨S4x4096x256, .f32⟩
  | 104 => ⟨S4x4096x256, .f32⟩
  | 105 => ⟨S4x4096x256, .f32⟩
  | 106 => ⟨S4x4096x256, .f32⟩
  | 107 => ⟨S1x1x256, .f32⟩
  | 108 => ⟨S256, .f32⟩
  | 109 => ⟨S1x1x256, .f32⟩
  | 110 => ⟨S4x4096x256, .f32⟩
  | 111 => ⟨S4x4096x256, .f32⟩
  | 112 => ⟨S4x4096x256, .f32⟩
  | 113 => ⟨S4x4096x256, .f32⟩
  | 114 => ⟨S1x1x256, .f32⟩
  | 115 => ⟨S256, .f32⟩
  | 116 => ⟨S1x1x256, .f32⟩
  | 117 => ⟨S4x4096x256, .f32⟩
  | 118 => ⟨S4x4096x256, .f32⟩
  | 119 => ⟨S4x4096x256, .f32⟩
  | 120 => ⟨S4x4096x256, .f32⟩
  | 121 => ⟨S1x1x256, .f32⟩
  | 122 => ⟨S256, .f32⟩
  | 123 => ⟨S1x1x256, .f32⟩
  | 124 => ⟨S4x4096x256, .f32⟩
  | 125 => ⟨S4x4096x256, .f32⟩
  | 126 => ⟨S4x4096x256, .f32⟩
  | 127 => ⟨S4x4096x256, .f32⟩
  | _ => ⟨S4x4096x1024, .f32⟩

abbrev hbmTy0_1 (i : Nat) : BufTy := match i % 128 with
  | 0 => ⟨S1x1x256, .f32⟩
  | 1 => ⟨S256, .f32⟩
  | 2 => ⟨S1x1x256, .f32⟩
  | 3 => ⟨S4x4096x256, .f32⟩
  | 4 => ⟨S4x4096x256, .f32⟩
  | 5 => ⟨S4x4096x256, .f32⟩
  | 6 => ⟨S4x4096x256, .f32⟩
  | 7 => ⟨S1x1x256, .f32⟩
  | 8 => ⟨S256, .f32⟩
  | 9 => ⟨S1x1x256, .f32⟩
  | 10 => ⟨S4x4096x256, .f32⟩
  | 11 => ⟨S4x4096x256, .f32⟩
  | 12 => ⟨S4x4096x256, .f32⟩
  | 13 => ⟨S4x4096x256, .f32⟩
  | 14 => ⟨S1x1x256, .f32⟩
  | 15 => ⟨S256, .f32⟩
  | 16 => ⟨S1x1x256, .f32⟩
  | 17 => ⟨S4x4096x256, .f32⟩
  | 18 => ⟨S4x4096x256, .f32⟩
  | 19 => ⟨S4x4096x256, .f32⟩
  | 20 => ⟨S4x4096x256, .f32⟩
  | 21 => ⟨S1x1x256, .f32⟩
  | 22 => ⟨S256, .f32⟩
  | 23 => ⟨S1x1x256, .f32⟩
  | 24 => ⟨S4x4096x256, .f32⟩
  | 25 => ⟨S4x4096x256, .f32⟩
  | 26 => ⟨S4x4096x256, .f32⟩
  | 27 => ⟨S4x4096x256, .f32⟩
  | 28 => ⟨S1x1x256, .f32⟩
  | 29 => ⟨S256, .f32⟩
  | 30 => ⟨S1x1x256, .f32⟩
  | 31 => ⟨S4x4096x256, .f32⟩
  | 32 => ⟨S4x4096x256, .f32⟩
  | 33 => ⟨S4x4096x256, .f32⟩
  | 34 => ⟨S4x4096x256, .f32⟩
  | 35 => ⟨S1x1x256, .f32⟩
  | 36 => ⟨S256, .f32⟩
  | 37 => ⟨S1x1x256, .f32⟩
  | 38 => ⟨S4x4096x256, .f32⟩
  | 39 => ⟨S4x4096x256, .f32⟩
  | 40 => ⟨S4x4096x256, .f32⟩
  | 41 => ⟨S4x4096x256, .f32⟩
  | 42 => ⟨S1x1x256, .f32⟩
  | 43 => ⟨S256, .f32⟩
  | 44 => ⟨S1x1x256, .f32⟩
  | 45 => ⟨S4x4096x256, .f32⟩
  | 46 => ⟨S4x4096x256, .f32⟩
  | 47 => ⟨S4x4096x256, .f32⟩
  | 48 => ⟨S4x4096x256, .f32⟩
  | 49 => ⟨S1x1x256, .f32⟩
  | 50 => ⟨S256, .f32⟩
  | 51 => ⟨S1x1x256, .f32⟩
  | 52 => ⟨S4x4096x256, .f32⟩
  | 53 => ⟨S4x4096x256, .f32⟩
  | 54 => ⟨S4x4096x256, .f32⟩
  | 55 => ⟨S4x4096x256, .f32⟩
  | 56 => ⟨S1x1x256, .f32⟩
  | 57 => ⟨S256, .f32⟩
  | 58 => ⟨S1x1x256, .f32⟩
  | 59 => ⟨S4x4096x256, .f32⟩
  | 60 => ⟨S4x4096x256, .f32⟩
  | 61 => ⟨S4x4096x256, .f32⟩
  | 62 => ⟨S4x4096x256, .f32⟩
  | 63 => ⟨S1x1x256, .f32⟩
  | 64 => ⟨S256, .f32⟩
  | 65 => ⟨S1x1x256, .f32⟩
  | 66 => ⟨S4x4096x256, .f32⟩
  | 67 => ⟨S4x4096x256, .f32⟩
  | 68 => ⟨S4x4096x256, .f32⟩
  | 69 => ⟨S4x4096x256, .f32⟩
  | 70 => ⟨S1x1x256, .f32⟩
  | 71 => ⟨S256, .f32⟩
  | 72 => ⟨S1x1x256, .f32⟩
  | 73 => ⟨S4x4096x256, .f32⟩
  | 74 => ⟨S4x4096x256, .f32⟩
  | 75 => ⟨S4x4096x256, .f32⟩
  | 76 => ⟨S4x4096x256, .f32⟩
  | 77 => ⟨S1x1x256, .f32⟩
  | 78 => ⟨S256, .f32⟩
  | 79 => ⟨S1x1x256, .f32⟩
  | 80 => ⟨S4x4096x256, .f32⟩
  | 81 => ⟨S4x4096x256, .f32⟩
  | 82 => ⟨S4x4096x256, .f32⟩
  | 83 => ⟨S4x4096x256, .f32⟩
  | 84 => ⟨S1x1x256, .f32⟩
  | 85 => ⟨S256, .f32⟩
  | 86 => ⟨S1x1x256, .f32⟩
  | 87 => ⟨S4x4096x256, .f32⟩
  | 88 => ⟨S4x4096x256, .f32⟩
  | 89 => ⟨S4x4096x256, .f32⟩
  | 90 => ⟨S4x4096x256, .f32⟩
  | 91 => ⟨S1x1x256, .f32⟩
  | 92 => ⟨S256, .f32⟩
  | 93 => ⟨S1x1x256, .f32⟩
  | 94 => ⟨S4x4096x256, .f32⟩
  | 95 => ⟨S4x4096x256, .f32⟩
  | 96 => ⟨S4x4096x256, .f32⟩
  | 97 => ⟨S4x4096x256, .f32⟩
  | 98 => ⟨S1x1x256, .f32⟩
  | 99 => ⟨S256, .f32⟩
  | 100 => ⟨S1x1x256, .f32⟩
  | 101 => ⟨S4x4096x256, .f32⟩
  | 102 => ⟨S4x4096x256, .f32⟩
  | 103 => ⟨S4x4096x256, .f32⟩
  | 104 => ⟨S4x4096x256, .f32⟩
  | 105 => ⟨S1x1x256, .f32⟩
  | 106 => ⟨S256, .f32⟩
  | 107 => ⟨S1x1x256, .f32⟩
  | 108 => ⟨S4x4096x256, .f32⟩
  | 109 => ⟨S4x4096x256, .f32⟩
  | 110 => ⟨S4x4096x256, .f32⟩
  | 111 => ⟨S4x4096x256, .f32⟩
  | 112 => ⟨S1x1x256, .f32⟩
  | 113 => ⟨S256, .f32⟩
  | 114 => ⟨S1x1x256, .f32⟩
  | 115 => ⟨S4x4096x256, .f32⟩
  | 116 => ⟨S4x4096x256, .f32⟩
  | 117 => ⟨S4x4096x256, .f32⟩
  | 118 => ⟨S1x256, .f32⟩
  | 119 => ⟨S256, .f32⟩
  | 120 => ⟨S1x1x256, .f32⟩
  | 121 => ⟨S4x4096x256, .f32⟩
  | 122 => ⟨S4x4096x256, .f32⟩
  | 123 => ⟨S1x256, .f32⟩
  | 124 => ⟨S256, .f32⟩
  | 125 => ⟨S1x256, .f32⟩
  | 126 => ⟨S256, .f32⟩
  | 127 => ⟨S_, .f32⟩
  | _ => ⟨S4x4096x1024, .f32⟩

abbrev hbmTy0_2 (i : Nat) : BufTy := match i % 128 with
  | 0 => ⟨S4x4096, .f32⟩
  | 1 => ⟨S4x4096x1, .f32⟩
  | 2 => ⟨S_, .f32⟩
  | 3 => ⟨S4x4096x1, .f32⟩
  | 4 => ⟨S4x4096x1, .f32⟩
  | 5 => ⟨S4x4096x256, .f32⟩
  | 6 => ⟨S4x4096x256, .f32⟩
  | 7 => ⟨S4x4096x256, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S4x4096x256, .f32⟩
  | 15 => ⟨S4x4096x256, .f32⟩
  | 16 => ⟨S_, .f32⟩
  | 17 => ⟨S4x4096x1, .f32⟩
  | 18 => ⟨S4x4096x1, .f32⟩
  | 19 => ⟨S4x4096x1, .f32⟩
  | 20 => ⟨S4x4096x256, .f32⟩
  | 21 => ⟨S4x4096x256, .f32⟩
  | 22 => ⟨S1x1x256, .f32⟩
  | 23 => ⟨S4x4096x256, .f32⟩
  | 24 => ⟨S4x4096x256, .f32⟩
  | 25 => ⟨S1x1x256, .f32⟩
  | 26 => ⟨S4x4096x256, .f32⟩
  | 27 => ⟨S4x4096x256, .f32⟩
  | 28 => ⟨S4x4096x256, .f32⟩
  | 29 => ⟨S4x4096x256, .f32⟩
  | 30 => ⟨S_, .f32⟩
  | 31 => ⟨S4x4096x256, .f32⟩
  | 32 => ⟨S4x4096x256, .f32⟩
  | 33 => ⟨S_, .f32⟩
  | 34 => ⟨S4x4096x256, .f32⟩
  | 35 => ⟨S4x4096x256, .f32⟩
  | 36 => ⟨S4x4096x256, .f32⟩
  | 37 => ⟨S_, .f32⟩
  | 38 => ⟨S4x15x256, .f32⟩
  | 39 => ⟨S4x4111x256, .f32⟩
  | 40 => ⟨S_, .f32⟩
  | 41 => ⟨S_, .f32⟩
  | 42 => ⟨S4x4111x256, .f32⟩
  | 43 => ⟨S4x1x256, .f32⟩
  | 44 => ⟨S_, .f32⟩
  | 45 => ⟨S4x1x256, .f32⟩
  | 46 => ⟨S4x4112x256, .f32⟩
  | 47 => ⟨S4096, .i32⟩
  | 48 => ⟨S4x4096x64, .f32⟩
  | 49 => ⟨S4x4096x64, .f32⟩
  | 50 => ⟨S4x4096x64, .f32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S4096, .f32⟩
  | 58 => ⟨S1x4096x1, .f32⟩
  | 59 => ⟨S4x4096x64, .f32⟩
  | 60 => ⟨S4x4096x64, .f32⟩
  | 61 => ⟨S4x4096x64, .f32⟩
  | 62 => ⟨S4x4096x64, .f32⟩
  | 63 => ⟨S1x1x64x64, .f32⟩
  | 64 => ⟨S64x64, .f32⟩
  | 65 => ⟨S4x4096x64, .f32⟩
  | 66 => ⟨S4x4096x64, .f32⟩
  | 67 => ⟨S4x4096x64, .f32⟩
  | 68 => ⟨S4x4096x64, .f32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096, .f32⟩
  | 76 => ⟨S1x4096x1, .f32⟩
  | 77 => ⟨S4x4096x64, .f32⟩
  | 78 => ⟨S4x4096x64, .f32⟩
  | 79 => ⟨S4x4096x64, .f32⟩
  | 80 => ⟨S4x4096x64, .f32⟩
  | 81 => ⟨S1x1x64x64, .f32⟩
  | 82 => ⟨S64x64, .f32⟩
  | 83 => ⟨S4x4096x64, .f32⟩
  | 84 => ⟨S4x4096x64, .f32⟩
  | 85 => ⟨S4x4096x64, .f32⟩
  | 86 => ⟨S4x4096x64, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .f32⟩
  | 94 => ⟨S1x4096x1, .f32⟩
  | 95 => ⟨S4x4096x64, .f32⟩
  | 96 => ⟨S4x4096x64, .f32⟩
  | 97 => ⟨S4x4096x64, .f32⟩
  | 98 => ⟨S4x4096x64, .f32⟩
  | 99 => ⟨S1x1x64x64, .f32⟩
  | 100 => ⟨S64x64, .f32⟩
  | 101 => ⟨S4x4096x64, .f32⟩
  | 102 => ⟨S4x4096x64, .f32⟩
  | 103 => ⟨S4x4096x64, .f32⟩
  | 104 => ⟨S4x4096x64, .f32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S4096, .f32⟩
  | 112 => ⟨S1x4096x1, .f32⟩
  | 113 => ⟨S4x4096x64, .f32⟩
  | 114 => ⟨S4x4096x64, .f32⟩
  | 115 => ⟨S4x4096x64, .f32⟩
  | 116 => ⟨S4x4096x64, .f32⟩
  | 117 => ⟨S1x1x64x64, .f32⟩
  | 118 => ⟨S64x64, .f32⟩
  | 119 => ⟨S4x4096x64, .f32⟩
  | 120 => ⟨S4x4096x256, .f32⟩
  | 121 => ⟨S1x256, .f32⟩
  | 122 => ⟨S256, .f32⟩
  | 123 => ⟨S1x1x256, .f32⟩
  | 124 => ⟨S4x4096x256, .f32⟩
  | 125 => ⟨S4x4096x256, .f32⟩
  | 126 => ⟨S4x4096x512, .f32⟩
  | 127 => ⟨S4x4096x1024, .f32⟩
  | _ => ⟨S4x4096x1024, .f32⟩

abbrev hbmTy0_3 (i : Nat) : BufTy := match i % 128 with
  | 0 => ⟨S1x1024x1024, .f32⟩
  | 1 => ⟨S1024x1024, .f32⟩
  | 2 => ⟨S4x4096x1024, .f32⟩
  | 3 => ⟨S_, .f32⟩
  | 4 => ⟨S4x4096x1024, .f32⟩
  | 5 => ⟨S4x4096x1024, .f32⟩
  | 6 => ⟨S4x4096x1024, .f32⟩
  | 7 => ⟨S4x4096x1024, .f32⟩
  | 8 => ⟨S4x4096x1024, .f32⟩
  | 9 => ⟨S1x1x1024, .f32⟩
  | 10 => ⟨S1024, .f32⟩
  | 11 => ⟨S1x1x1024, .f32⟩
  | 12 => ⟨S1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S4x4096x1024, .f32⟩
  | 20 => ⟨S4x4096x1024, .f32⟩
  | 21 => ⟨S4x4096x1024, .f32⟩
  | 22 => ⟨S_, .f32⟩
  | 23 => ⟨S4x4096, .f32⟩
  | 24 => ⟨S4x4096x1, .f32⟩
  | 25 => ⟨S_, .f32⟩
  | 26 => ⟨S4x4096x1, .f32⟩
  | 27 => ⟨S4x4096x1, .f32⟩
  | 28 => ⟨S4x4096x1024, .f32⟩
  | 29 => ⟨S4x4096x1024, .f32⟩
  | 30 => ⟨S_, .f32⟩
  | 31 => ⟨S4x4096x1, .f32⟩
  | 32 => ⟨S4x4096x1, .f32⟩
  | 33 => ⟨S4x4096x1, .f32⟩
  | 34 => ⟨S4x4096x1024, .f32⟩
  | 35 => ⟨S4x4096x1024, .f32⟩
  | 36 => ⟨S1x1x1024, .f32⟩
  | 37 => ⟨S4x4096x1024, .f32⟩
  | 38 => ⟨S4x4096x1024, .f32⟩
  | 39 => ⟨S1x1x1024, .f32⟩
  | 40 => ⟨S4x4096x1024, .f32⟩
  | 41 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_cst_1 : Ref sig .tc := ⟨.hbm, 255, rfl⟩
abbrev main_v239 : Ref sig .tc := ⟨.hbm, 256, rfl⟩
abbrev main_v240 : Ref sig .tc := ⟨.hbm, 257, rfl⟩
abbrev main_cst_2 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_cst_3 : Ref sig .tc := ⟨.hbm, 264, rfl⟩
abbrev main_v246 : Ref sig .tc := ⟨.hbm, 265, rfl⟩
abbrev main_v247 : Ref sig .tc := ⟨.hbm, 266, rfl⟩
abbrev main_cst_4 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_cst_5 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_call0_v0 : Ref sig .tc := ⟨.hbm, 284, rfl⟩
abbrev main_call0_v1 : Ref sig .tc := ⟨.hbm, 285, rfl⟩
abbrev main_call0_cst : Ref sig .tc := ⟨.hbm, 286, rfl⟩
abbrev main_call0_v2 : Ref sig .tc := ⟨.hbm, 287, rfl⟩
abbrev main_call0_v3 : Ref sig .tc := ⟨.hbm, 288, rfl⟩
abbrev main_call0_cst_0 : Ref sig .tc := ⟨.hbm, 289, rfl⟩
abbrev main_call0_v4 : Ref sig .tc := ⟨.hbm, 290, rfl⟩
abbrev main_call0_v5 : Ref sig .tc := ⟨.hbm, 291, rfl⟩
abbrev main_v263 : Ref sig .tc := ⟨.hbm, 292, rfl⟩
abbrev main_cst_6 : Ref sig .tc := ⟨.hbm, 293, rfl⟩
abbrev main_v264 : Ref sig .tc := ⟨.hbm, 294, rfl⟩
abbrev main_v265 : Ref sig .tc := ⟨.hbm, 295, rfl⟩
abbrev main_call1_call0_cst : Ref sig .tc := ⟨.hbm, 296, rfl⟩
abbrev main_call1_call0_v0 : Ref sig .tc := ⟨.hbm, 297, rfl⟩
abbrev main_v266 : Ref sig .tc := ⟨.hbm, 298, rfl⟩
abbrev main_v267 : Ref sig .tc := ⟨.hbm, 299, rfl⟩
abbrev main_cst_7 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_c : Ref sig .tc := ⟨.hbm, 307, rfl⟩
abbrev main_v274 : Ref sig .tc := ⟨.hbm, 308, rfl⟩
abbrev main_v275 : Ref sig .tc := ⟨.hbm, 309, rfl⟩
abbrev main_c_8 : Ref sig .tc := ⟨.hbm, 310, rfl⟩
abbrev main_v276 : Ref sig .tc := ⟨.hbm, 311, rfl⟩
abbrev main_v277 : Ref sig .tc := ⟨.hbm, 312, rfl⟩
abbrev main_v278 : Ref sig .tc := ⟨.hbm, 313, rfl⟩
abbrev main_v279 : Ref sig .tc := ⟨.hbm, 314, rfl⟩
abbrev main_v280 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_c_9 : Ref sig .tc := ⟨.hbm, 325, rfl⟩
abbrev main_v290 : Ref sig .tc := ⟨.hbm, 326, rfl⟩
abbrev main_v291 : Ref sig .tc := ⟨.hbm, 327, rfl⟩
abbrev main_c_10 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_c_11 : Ref sig .tc := ⟨.hbm, 343, rfl⟩
abbrev main_v306 : Ref sig .tc := ⟨.hbm, 344, rfl⟩
abbrev main_v307 : Ref sig .tc := ⟨.hbm, 345, rfl⟩
abbrev main_c_12 : Ref sig .tc := ⟨.hbm, 346, rfl⟩
abbrev main_v308 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩
abbrev main_v320 : Ref sig .tc := ⟨.hbm, 359, rfl⟩
abbrev main_v321 : Ref sig .tc := ⟨.hbm, 360, rfl⟩
abbrev main_c_13 : Ref sig .tc := ⟨.hbm, 361, rfl⟩
abbrev main_v322 : Ref sig .tc := ⟨.hbm, 362, rfl⟩
abbrev main_v323 : Ref sig .tc := ⟨.hbm, 363, rfl⟩
abbrev main_c_14 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_cst_15 : Ref sig .tc := ⟨.hbm, 387, rfl⟩
abbrev main_v346 : Ref sig .tc := ⟨.hbm, 388, rfl⟩
abbrev main_v347 : Ref sig .tc := ⟨.hbm, 389, rfl⟩
abbrev main_v348 : Ref sig .tc := ⟨.hbm, 390, rfl⟩
abbrev main_v349 : Ref sig .tc := ⟨.hbm, 391, rfl⟩
abbrev main_v350 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_cst_16 : Ref sig .tc := ⟨.hbm, 397, rfl⟩
abbrev main_v355 : Ref sig .tc := ⟨.hbm, 398, rfl⟩
abbrev main_v356 : Ref sig .tc := ⟨.hbm, 399, rfl⟩
abbrev main_cst_17 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_cst_18 : Ref sig .tc := ⟨.hbm, 406, rfl⟩
abbrev main_v362 : Ref sig .tc := ⟨.hbm, 407, rfl⟩
abbrev main_v363 : Ref sig .tc := ⟨.hbm, 408, rfl⟩
abbrev main_cst_19 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_cst_20 : Ref sig .tc := ⟨.hbm, 414, rfl⟩
abbrev main_v368 : Ref sig .tc := ⟨.hbm, 415, rfl⟩
abbrev main_v369 : Ref sig .tc := ⟨.hbm, 416, rfl⟩
abbrev main_v370 : Ref sig .tc := ⟨.hbm, 417, rfl⟩
abbrev main_v371 : Ref sig .tc := ⟨.hbm, 418, rfl⟩
abbrev main_v372 : Ref sig .tc := ⟨.hbm, 419, rfl⟩
abbrev main_v373 : Ref sig .tc := ⟨.hbm, 420, rfl⟩
abbrev main_v374 : Ref sig .tc := ⟨.hbm, 421, rfl⟩
abbrev main_v375 : Ref sig .tc := ⟨.hbm, 422, rfl⟩
abbrev main_v376 : Ref sig .tc := ⟨.hbm, 423, rfl⟩
abbrev main_v377 : Ref sig .tc := ⟨.hbm, 424, rfl⟩
abbrev main_v378 : Ref sig .tc := ⟨.hbm, 425, rfl⟩

abbrev nD : Nat := 1
abbrev τ : Topo := Topo.v7x

variable {F : FTy → Type} [FloatOps F]
-- ==== Proof.SampleAttnIdealRun.lean ====
/- The run of SampleAttnIdeal's kernel body over its staging buffers: the pieces its output ends with, given a larger budget. -/
module

public import proofs.«01_k».proof.Proof.Gen.SampleAttnIdeal.Frame.Runs

@[expose] public section

set_option maxRecDepth 16384

noncomputable section

namespace Cert.SampleAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x2176 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512 .bf16) (harg38 : arg38.IsWhole)
    (x0 : Vec F S1x1x512 .f32) (x1 : Vec F S1x1x512 .f32) (x2 : Vec F S1x1x512 .f32) (x3 : Vec F S1x1x2176 .f32) (x4 : Vec F S1x1x512x128 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (xt0 : TbBuf0 (F := F) c tbM0_0) :
    { L36 : List (View.Piece (Elt F) S1x1x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ (∃ d, owns (c : Thread nD τ) arg38 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ (∃ f, arg38.view.loc (c : Thread nD τ) ↦[arg38.view.set]{fullShare} arg38.view.writes (Elt F) f L36) ∗ tbPt0 c tbM0_0 xt0) -∗ K ⟨⟩))
          ⊢ wp frame (wpE (defs₀ (F := F)) Variants.none c none) E (cc0_sample_attn i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, fun E K => ?run⟩
  case run =>
    simp only [cc0_sample_attn_eq_skeleton]; unfold cc0_sample_attn_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%d36, %f36, -, H36⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    isplitl [H36]; · iexists _; iexact H36
    iexact HT0

end Cert.SampleAttnIdeal.Gen

end
-- ==== Proof.SampleAttnIdealFrame.lean ====
/- The frame of SampleAttnIdeal: what the output holds after each grid point, the run of the whole program and its frame. -/
module

public import proofs.«01_k».proof.Proof.SampleAttnIdealRun
public import Idealize.ShloMosaic.Lib.Claim

@[expose] public section

set_option maxRecDepth 16384

noncomputable section

namespace Cert.SampleAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 36 tile its block (1 store of `S1x1x512`), so they cover it. -/
theorem cover0_A_36 (c : Dev nD) (i : grid0.Coords) (arg2 : Memref sig .tc .vmem S1x1x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x2176 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512 .bf16) (harg38 : arg38.IsWhole)
    (x0 : Vec F S1x1x512 .f32) (x1 : Vec F S1x1x512 .f32) (x2 : Vec F S1x1x512 .f32) (x3 : Vec F S1x1x2176 .f32) (x4 : Vec F S1x1x512x128 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (xt0 : TbBuf0 (F := F) c tbM0_0) (y : S1x1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34 x35 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34 x35 xt0).1 S1x1x512.size (by sl_kernel_rfl) y

/-- What the run leaves in output 36's staging buffer: its pieces read back over junk. -/
def out0_A_36 (c : Dev nD) (i : grid0.Coords) (arg2 : Memref sig .tc .vmem S1x1x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x1x2176 .f32) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x512x128 .f32) (harg8 : arg8.IsWhole) (arg9 : Memref sig .tc .vmem S1x1x512x128 .f32) (harg9 : arg9.IsWhole) (arg10 : Memref sig .tc .vmem S1x1x512x128 .f32) (harg10 : arg10.IsWhole) (arg11 : Memref sig .tc .vmem S1x1x512x128 .f32) (harg11 : arg11.IsWhole) (arg12 : Memref sig .tc .vmem S1x1x512x128 .f32) (harg12 : arg12.IsWhole) (arg13 : Memref sig .tc .vmem S1x1x512x128 .f32) (harg13 : arg13.IsWhole) (arg14 : Memref sig .tc .vmem S1x1x512x128 .f32) (harg14 : arg14.IsWhole) (arg15 : Memref sig .tc .vmem S1x1x512x128 .f32) (harg15 : arg15.IsWhole) (arg16 : Memref sig .tc .vmem S1x1x512x128 .f32) (harg16 : arg16.IsWhole) (arg17 : Memref sig .tc .vmem S1x1x512x128 .f32) (harg17 : arg17.IsWhole) (arg18 : Memref sig .tc .vmem S1x1x512x128 .f32) (harg18 : arg18.IsWhole) (arg19 : Memref sig .tc .vmem S1x1x512x128 .f32) (harg19 : arg19.IsWhole) (arg20 : Memref sig .tc .vmem S1x1x512x128 .f32) (harg20 : arg20.IsWhole) (arg21 : Memref sig .tc .vmem S1x1x512x128 .f32) (harg21 : arg21.IsWhole) (arg22 : Memref sig .tc .vmem S1x1x512x128 .f32) (harg22 : arg22.IsWhole) (arg23 : Memref sig .tc .vmem S1x1x512x128 .f32) (harg23 : arg23.IsWhole) (arg24 : Memref sig .tc .vmem S1x1x512x128 .f32) (harg24 : arg24.IsWhole) (arg25 : Memref sig .tc .vmem S1x1x512x128 .f32) (harg25 : arg25.IsWhole) (arg26 : Memref sig .tc .vmem S1x1x512x128 .f32) (harg26 : arg26.IsWhole) (arg27 : Memref sig .tc .vmem S1x1x512x128 .f32) (harg27 : arg27.IsWhole) (arg28 : Memref sig .tc .vmem S1x1x512x128 .f32) (harg28 : arg28.IsWhole) (arg29 : Memref sig .tc .vmem S1x1x512x128 .f32) (harg29 : arg29.IsWhole) (arg30 : Memref sig .tc .vmem S1x1x512x128 .f32) (harg30 : arg30.IsWhole) (arg31 : Memref sig .tc .vmem S1x1x512x128 .f32) (harg31 : arg31.IsWhole) (arg32 : Memref sig .tc .vmem S1x1x512x128 .f32) (harg32 : arg32.IsWhole) (arg33 : Memref sig .tc .vmem S1x1x512x128 .f32) (harg33 : arg33.IsWhole) (arg34 : Memref sig .tc .vmem S1x1x512x128 .f32) (harg34 : arg34.IsWhole) (arg35 : Memref sig .tc .vmem S1x1x512x128 .f32) (harg35 : arg35.IsWhole) (arg36 : Memref sig .tc .vmem S1x1x512x128 .f32) (harg36 : arg36.IsWhole) (arg37 : Memref sig .tc .vmem S1x1x512x128 .f32) (harg37 : arg37.IsWhole) (arg38 : Memref sig .tc .vmem S1x1x512 .bf16) (harg38 : arg38.IsWhole)
    (x0 : Vec F S1x1x512 .f32) (x1 : Vec F S1x1x512 .f32) (x2 : Vec F S1x1x512 .f32) (x3 : Vec F S1x1x2176 .f32) (x4 : Vec F S1x1x512x128 .f32) (x5 : Vec F S1x1x512x128 .f32) (x6 : Vec F S1x1x512x128 .f32) (x7 : Vec F S1x1x512x128 .f32) (x8 : Vec F S1x1x512x128 .f32) (x9 : Vec F S1x1x512x128 .f32) (x10 : Vec F S1x1x512x128 .f32) (x11 : Vec F S1x1x512x128 .f32) (x12 : Vec F S1x1x512x128 .f32) (x13 : Vec F S1x1x512x128 .f32) (x14 : Vec F S1x1x512x128 .f32) (x15 : Vec F S1x1x512x128 .f32) (x16 : Vec F S1x1x512x128 .f32) (x17 : Vec F S1x1x512x128 .f32) (x18 : Vec F S1x1x512x128 .f32) (x19 : Vec F S1x1x512x128 .f32) (x20 : Vec F S1x1x512x128 .f32) (x21 : Vec F S1x1x512x128 .f32) (x22 : Vec F S1x1x512x128 .f32) (x23 : Vec F S1x1x512x128 .f32) (x24 : Vec F S1x1x512x128 .f32) (x25 : Vec F S1x1x512x128 .f32) (x26 : Vec F S1x1x512x128 .f32) (x27 : Vec F S1x1x512x128 .f32) (x28 : Vec F S1x1x512x128 .f32) (x29 : Vec F S1x1x512x128 .f32) (x30 : Vec F S1x1x512x128 .f32) (x31 : Vec F S1x1x512x128 .f32) (x32 : Vec F S1x1x512x128 .f32) (x33 : Vec F S1x1x512x128 .f32) (x34 : Vec F S1x1x512x128 .f32) (x35 : Vec F S1x1x512x128 .f32) (xt0 : TbBuf0 (F := F) c tbM0_0) : Vec F S1x1x512 .bf16 :=
  VO0_36.read (Elt F) (VO0_36.writes (Elt F) VO0_36.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24 x25 x26 x27 x28 x29 x30 x31 x32 x33 x34 x35 xt0).1)

/-! ## What the outputs hold after each point -/

/-- What the outputs' staging buffers hold after the body at point `t`: the run's contents at
    the point's memrefs and input blocks. -/
def outsAt0 (hO : Ok m) (c : Dev nD) (t : Fin (cfgM m hO).N) : Vec F S1x1x512 .bf16 :=
  out0_A_36 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => (outsAt0 m hO c t)
    | ⟨_ + 37, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t))

set_option maxHeartbeats 3600000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  rw [show (dats m hO 0 c).Φ t.castSucc = iprop(Pipeline.ΦA spec0 c ∗ Pipeline.ΦT pre0 (tbl m) c) from rfl, PhiT0_eq]
  unfold outsAt0
  unfold out0_A_36
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexists _; iexact H36
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, ⟨%e36, H36⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  unfold owns; iexists _; isplitr
  swap; · iexact H36
  ipureintro; exact View.read_writes_of_cover _ _ _ _ _ (cover0_A_36 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 40000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option maxHeartbeats 40000000 in
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_SampleAttnIdeal`'s statement (Defs.lean) at any `F` — Proof.lean cites it at `Bits`:
    `theorem Cert.Proof.claim : Cert.Claim := ⟨Cert.SampleAttnIdeal.Gen.facts, fun m ρ _ => Cert.SampleAttnIdeal.Gen.frame m ρ⟩`; here for every contents of the PREFETCHED TABLES, UNDER `Gen.Ok m` (the pipeline's side condition of
    them), which Proof.lean proves from the precondition: `⟨…, fun m ρ h => Cert.SampleAttnIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.SampleAttnIdeal.Gen

end
-- ==== Proof.Pages.lean ====
module

public import Idealize.ShloMosaic.PureOps.BitExact
public import proofs.«01_k».proof.Proof.Gen.SampleAttn.Frame.Runs
public import proofs.«01_k».proof.Proof.Gen.SampleAttnIdeal.Frame.Runs

@[expose] public section

set_option maxRecDepth 16384

noncomputable section

namespace Cert.Proof

open Idealize Idealize.ShloMosaic Idealize.SL.Sem Cert.SampleAttn

/-- A page whose number is below the pool's size is a block inside the pool. -/
theorem bits_page_inside (n : Nat) (hn : n < 2560) (a : Fin 4) :
    ((![0, n, 0, 0] : Fin 4 → Nat) a + 1) * S1x1x512x128.size a ≤ S4x2560x512x128.size a := by
  match a with
  | ⟨0, _⟩ => exact (by decide : (0 + 1) * 1 ≤ 4)
  | ⟨1, _⟩ =>
    show (n + 1) * 1 ≤ 2560
    omega
  | ⟨2, _⟩ => exact (by decide : (0 + 1) * 512 ≤ 512)
  | ⟨3, _⟩ => exact (by decide : (0 + 1) * 128 ≤ 128)

/-- The page numbers being in range, every page window is inside the pool. -/
theorem bits_ok (m : (ℓ : Loc nD τ sig) → Buf (Elt Bits) ℓ)
    (h : ∀ i : S128x16.Idx, (m ((0 : Dev nD).tc.loc main_arg0) i : BitVec 32).toNat < 2560) : Gen.Ok (F := Bits) m := by
  have hV : ∀ (r : Rect S128x16) (hn : r.shape.numel = 1), ((Gen.tbl m).at 0 r hn : BitVec 32).toNat < 2560 := by
    intro r hn
    have : ∃ j, ((Gen.tbl m).at 0 r hn : BitVec 32) = Gen.V m 0 main_arg0 j := ⟨_, rfl⟩
    obtain ⟨j, hj⟩ := this
    rw [hj, Gen.V_main_arg0]
    exact h j
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact fun i => ⟨bits_page_inside _ (hV _ _), .inl rfl⟩

end Cert.Proof

namespace Cert.Proof

open Idealize Idealize.ShloMosaic Idealize.SL.Sem Cert.SampleAttnIdeal

/-- A page whose number is below the pool's size is a block inside the pool. -/
theorem ideal_page_inside (n : Nat) (hn : n < 2560) (a : Fin 4) :
    ((![0, n, 0, 0] : Fin 4 → Nat) a + 1) * S1x1x512x128.size a ≤ S4x2560x512x128.size a := by
  match a with
  | ⟨0, _⟩ => exact (by decide : (0 + 1) * 1 ≤ 4)
  | ⟨1, _⟩ =>
    show (n + 1) * 1 ≤ 2560
    omega
  | ⟨2, _⟩ => exact (by decide : (0 + 1) * 512 ≤ 512)
  | ⟨3, _⟩ => exact (by decide : (0 + 1) * 128 ≤ 128)

/-- The page numbers being in range, every page window is inside the pool. -/
theorem ideal_ok (m : (ℓ : Loc nD τ sig) → Buf (Elt Ideal) ℓ)
    (h : ∀ i : S128x16.Idx, (m ((0 : Dev nD).tc.loc main_arg0) i : BitVec 32).toNat < 2560) : Gen.Ok (F := Ideal) m := by
  have hV : ∀ (r : Rect S128x16) (hn : r.shape.numel = 1), ((Gen.tbl m).at 0 r hn : BitVec 32).toNat < 2560 := by
    intro r hn
    have : ∃ j, ((Gen.tbl m).at 0 r hn : BitVec 32) = Gen.V m 0 main_arg0 j := ⟨_, rfl⟩
    obtain ⟨j, hj⟩ := this
    rw [hj, Gen.V_main_arg0]
    exact h j
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact fun i => ⟨ideal_page_inside _ (hV _ _), .inl rfl⟩

end Cert.Proof

end
-- ==== Proof.SaPre.lean ====
module

public import proofs.«01_k».proof.Defs
public import Idealize.ShloMosaic.Lib.Pointwise

@[expose] public section

set_option maxRecDepth 16384

noncomputable section

/-! # What the preconditions say of the arrays -/

namespace Cert.Proof

open Idealize Idealize.ShloMosaic

/-- A word compared at least zero and below 2560 is a number below 2560. -/
theorem word_range (w : BitVec 32) (e : IntOp.andi (IntOp.cmpi .sge w 0#32) (IntOp.cmpi .slt w 2560#32) = 1#1) : w.toNat < 2560 := by
  have h0 : (2560#32 : BitVec 32).toInt = 2560 := by decide
  have h : 0 ≤ w.toInt ∧ w.toInt < 2560 := by
    by_cases h1 : 0 ≤ w.toInt <;> by_cases h2 : w.toInt < 2560
    · exact ⟨h1, h2⟩
    all_goals exfalso; revert e; simp [IntOp.andi, IntOp.cmpi, BitVec.sle_eq_decide, BitVec.slt_eq_decide, h0, h1, h2]
  rw [BitVec.toInt_eq_toNat_cond] at h
  have := w.isLt
  split at h <;> omega

/-- A float whose magnitude is below infinity is a real number. -/
theorem float_real (x : EReal) (e : Ideal.cmp .olt (max x (-x)) (Ideal.ofBits .f32 0x7F800000#32) = 1#1) :
    ∃ r : ℝ, x = (r : EReal) := by
  have hb : Ideal.ofBits .f32 0x7F800000#32 = ⊤ := by simp [Ideal.ofBits, Ideal.ieee]
  rw [hb] at e
  induction x with
  | bot => exfalso; revert e; simp [Ideal.cmp]
  | top => exfalso; revert e; simp [Ideal.cmp]
  | coe r => exact ⟨r, rfl⟩

instance : Std.Commutative (IntOp.ori : BitVec 1 → BitVec 1 → BitVec 1) := ⟨BitVec.or_comm⟩
instance : Std.Associative (IntOp.ori : BitVec 1 → BitVec 1 → BitVec 1) := ⟨BitVec.or_assoc⟩

/-- An `or` over a row that is one has a one in the row. -/
theorem any_one {n : ℕ} (f : Fin n → BitVec 1) (h : (Finset.univ : Finset (Fin n)).fold IntOp.ori 0#1 f = 1#1) : ∃ k, f k = 1#1 := by
  classical
  by_contra hn
  have h0 : ∀ k, f k = 0#1 := fun k => by
    have hk : f k ≠ 1#1 := fun e => hn ⟨k, e⟩
    generalize f k = w at hk
    revert hk; revert w; decide
  have : ∀ s : Finset (Fin n), s.fold IntOp.ori 0#1 f = 0#1 := by
    intro s
    induction s using Finset.induction_on with
    | empty => rfl
    | insert a s ha ih => rw [Finset.fold_insert ha, ih, h0]; rfl
  rw [this] at h
  exact absurd h (by decide)

section
open Cert.Pre_pages_in_range
/-- Every page number is inside the pool. -/
theorem table_of_pages [Facts] {F : FTy → Type} [FloatOps F] (a0 : IVec S128x16 32) (a1 a2 a3 : FVec F S128x512 .f32) (a4 : IVec S128x2049 32)
    (a5 a6 : FVec F S4x2560x128x8x64 .f32) (h : fn a0 a1 a2 a3 a4 a5 a6 = fun _ => 1#1) (i : S128x16.Idx) : (a0 i).toNat < 2560 :=
  word_range _ (congrFun h i)
end

section
open Cert.Pre_softmax_defined
variable [Facts] (a0 : IVec S128x16 32) (a1 a2 a3 : FVec Ideal S128x512 .f32) (a4 : IVec S128x2049 32) (a5 a6 : FVec Ideal S4x2560x128x8x64 .f32)

theorem table_of_defined (h : (fn a0 a1 a2 a3 a4 a5 a6).1 = fun _ => 1#1) (i : S128x16.Idx) : (a0 i).toNat < 2560 :=
  word_range _ (congrFun h i)

theorem q_of_defined (h : (fn a0 a1 a2 a3 a4 a5 a6).2.1 = fun _ => 1#1) (i : S128x512.Idx) : ∃ r : ℝ, a1 i = (r : EReal) :=
  float_real _ (congrFun h i)

theorem k_of_defined (h : (fn a0 a1 a2 a3 a4 a5 a6).2.2.1 = fun _ => 1#1) (i : S128x512.Idx) : ∃ r : ℝ, a2 i = (r : EReal) :=
  float_real _ (congrFun h i)

theorem pool_of_defined (h : (fn a0 a1 a2 a3 a4 a5 a6).2.2.2.1 = fun _ => 1#1) (i : S4x2560x128x8x64.Idx) : ∃ r : ℝ, a5 i = (r : EReal) :=
  float_real _ (congrFun h i)

theorem sel_of_defined (h : (fn a0 a1 a2 a3 a4 a5 a6).2.2.2.2 = fun _ => 1#1) (b : Fin 128) : ∃ t : Fin 2049, 0 < (a4 (ix2 b t)).toInt := by
  unfold fn at h
  dsimp only at h
  have e := congrFun h (ix1 b)
  rw [Host.reduce_eq_fold, Shape.ReducesTo.fold_fiber_r2_a1] at e
  obtain ⟨t, ht⟩ := any_one _ e
  refine ⟨t, ?_⟩
  by_contra hn
  have h1 : IntOp.cmpi .sgt (a4 (ix2 b t)) 0#32 = 1#1 := ht
  revert h1
  simp [IntOp.cmpi, BitVec.slt_eq_decide, hn]
end

end Cert.Proof

end
-- ==== Proof.SaBody.lean ====
module

public import proofs.«01_k».proof.Proof.Gen.SampleAttnIdeal.Skeleton
public import Idealize.ShloMosaic.Lib.Pipeline.Value
public import Idealize.ShloMosaic.Lib.Pointwise
public import Idealize.ShloMosaic.PureOps.Ideal.Laws

@[expose] public section

set_option maxRecDepth 16384

noncomputable section

namespace Cert.Proof

open Idealize.ShloMosaic Idealize.ShloMosaic.TcCoe Cert.SampleAttnIdeal Cert.SampleAttnIdeal.Gen
open Idealize.ShloMosaic.Pointwise

set_option maxHeartbeats 2000000 in
/-- A column of the block-diagonal query belongs to head `column / 64`. -/
theorem own_apply (h : Fin 8) (c : Fin 512) :
    k0_pay2 (ix2 h c) = if c.val / 64 = h.val then 1#1 else 0#1 := by
  revert h c
  decide +kernel

/-- The block-diagonal query: the query on the head's own columns, zero elsewhere. -/
theorem qbd_apply (q : Vec Ideal S1x1x512 .f32) (h : Fin 8) (c : Fin 512) :
    k0_pay3 q (ix2 h c) = if c.val / 64 = h.val then q (ix3 0 0 c) * (((1 / 8) * (Real.log 2)⁻¹ : ℝ) : EReal) else 0 := by
  unfold k0_pay3
  pointwise
  rw [own_apply]
  split <;> rfl

/-- One page's scores. -/
theorem page_apply (A : FVec Ideal S8x512 .bf16) (K : Vec Ideal S1x1x512x128 .f32) (h : Fin 8) (l : Fin 128) :
    k0_pay7 A K (ix2 h l) = ∑ c : Fin 512, A (ix2 h c) * K (ix4 0 0 c l) := by
  unfold k0_pay7
  pointwise

/-- The scores of the cached positions, of the block-diagonal query, the slopes, the sixteen pages and the mask. -/
def scoresOf (A : FVec Ideal S8x512 .bf16) (s : FVec Ideal S8x1 .f32) (K : Fin 16 → Vec Ideal S1x1x512x128 .f32)
    (b : Vec Ideal S1x1x2048 .f32) : FVec Ideal S8x2048 .f32 :=
  k0_pay20 A s (k0_pay7 A (K 0)) (k0_pay8 A (K 1)) (k0_pay9 A (K 2)) (k0_pay10 A (K 3)) (k0_pay11 A (K 4))
    (k0_pay12 A (K 5)) (k0_pay13 A (K 6)) (k0_pay14 A (K 7)) (k0_pay15 A (K 8)) (k0_pay16 A (K 9)) (k0_pay17 A (K 10))
    (k0_pay18 A (K 11)) (k0_pay19 (K 12)) (K 13) (K 14) (K 15) b

/-- One score: the page's product, less the slope times the distance, plus the mask. -/
theorem scoresOf_apply (A : FVec Ideal S8x512 .bf16) (s : FVec Ideal S8x1 .f32) (K : Fin 16 → Vec Ideal S1x1x512x128 .f32)
    (b : Vec Ideal S1x1x2048 .f32) (h : Fin 8) (n : Fin 16) (l : Fin 128) :
    scoresOf A s K b (ix2 h ⟨128 * n.val + l.val, by omega⟩)
      = (∑ c : Fin 512, A (ix2 h c) * K n (ix4 0 0 c l))
        - s (ix2 h 0) * (((2048 - (128 * n.val + l.val) : ℤ) : ℝ) : EReal) + b (ix3 0 0 ⟨128 * n.val + l.val, by omega⟩) := by
  have hl : scoresOf A s K b = addf (subf (concatenate S8x2048 1 (List.ofFn fun n : Fin 16 => ⟨S8x128, k0_pay7 A (K n)⟩) concatenates_S8x128_S8x128_S8x128_S8x128_S8x128_S8x128_S8x128_S8x128_S8x128_S8x128_S8x128_S8x128_S8x128_S8x128_S8x128_S8x128_S8x2048_d1)
      (mulf (broadcastTo S8x2048 s broadcasts_S8x1_S8x2048) (broadcastTo S8x2048 (sitofp .f32 (subi (broadcast S1x2048 2048#32) (iota .tc S1x2048 32 [1] iota_S1x2048_d1_w32))) broadcasts_S1x2048_S8x2048)))
      (broadcastTo S8x2048 (shapeCast S1x2048 b shapeCasts_S1x1x2048_S1x2048) broadcasts_S1x2048_S8x2048) := rfl
  rw [hl, ← page_apply]
  have hc := concatenate_ofFn_apply (t := S8x2048) (s₁ := S8x128) 1 (fun n : Fin 16 => k0_pay7 A (K n)) concatenates_S8x128_S8x128_S8x128_S8x128_S8x128_S8x128_S8x128_S8x128_S8x128_S8x128_S8x128_S8x128_S8x128_S8x128_S8x128_S8x128_S8x2048_d1
    rfl 128 rfl (ix2 h ⟨128 * n.val + l.val, by omega⟩) n (by show (128 * n.val + l.val) / 128 = n.val; omega) (ix2 h l)
    (by show l.val = (128 * n.val + l.val) % 128; omega)
    (by intro b hb; match b with | ⟨0, _⟩ => rfl | ⟨1, _⟩ => exact absurd rfl hb)
  rw [← hc]
  generalize concatenate S8x2048 1 (List.ofFn fun n : Fin 16 => ⟨S8x128, k0_pay7 A (K n)⟩) concatenates_S8x128_S8x128_S8x128_S8x128_S8x128_S8x128_S8x128_S8x128_S8x128_S8x128_S8x128_S8x128_S8x128_S8x128_S8x128_S8x128_S8x2048_d1 = C
  pointwise
  have hd : (IntOp.subi 2048#32 (BitVec.ofNat 32 (128 * n.val + l.val))).toInt = 2048 - (128 * (n.val : ℤ) + l.val) := by
    unfold IntOp.subi
    have h1 : (BitVec.ofNat 32 (128 * n.val + l.val)).toNat = 128 * n.val + l.val := by
      rw [BitVec.toNat_ofNat]; omega
    rw [BitVec.toInt_eq_toNat_cond, BitVec.toNat_sub, h1]
    simp only [BitVec.toNat_ofNat]
    split <;> omega
  show _ - _ * ((((IntOp.subi 2048#32 (BitVec.ofNat 32 (128 * n.val + l.val))).toInt : ℤ) : ℝ) : EReal) + _ = _
  rw [hd]

/-- The new position's score. -/
theorem newScore_apply (A : FVec Ideal S8x512 .f32) (kn : Vec Ideal S1x1x512 .f32) (b : Vec Ideal S1x1x1 .f32) (h : Fin 8) :
    k0_pay22 (k0_pay21 A kn) b (ix2 h 0) = (∑ c : Fin 512, A (ix2 h c) * kn (ix3 0 0 c)) + b (ix3 0 0 0) := by
  unfold k0_pay22 k0_pay21
  pointwise

/-- The row's maximum. -/
theorem rowMax_apply (S : FVec Ideal S8x2048 .f32) (R : FVec Ideal S8x1 .f32) (b : Vec Ideal S1x1x1 .f32) (h : Fin 8) :
    k0_pay23 S R b (ix2 h 0) = max ((Finset.univ : Finset (Fin 2048)).fold max ⊥ fun t => S (ix2 h t)) (k0_pay22 R b (ix2 h 0)) := by
  have hb : Ideal.ofBits .f32 4286578688#32 = ⊥ := by simp [Ideal.ofBits, Ideal.ieee]
  unfold k0_pay23
  generalize k0_pay22 R b = N
  pointwise
  rw [hb]

/-- A cached position's weight. -/
theorem weight_apply (S : FVec Ideal S8x2048 .f32) (R : FVec Ideal S8x1 .f32) (b : Vec Ideal S1x1x1 .f32) (h : Fin 8) (t : Fin 2048) :
    k0_pay24 S R b (ix2 h t) = Ideal.exp2 (S (ix2 h t) - k0_pay23 S R b (ix2 h 0)) := by
  unfold k0_pay24
  generalize k0_pay23 S R b = M
  pointwise
  rfl

/-- The new position's weight. -/
theorem newWeight_apply (S : FVec Ideal S8x2048 .f32) (R : FVec Ideal S8x1 .f32) (b : Vec Ideal S1x1x1 .f32) (h : Fin 8) :
    k0_pay25 S R b (ix2 h 0) = Ideal.exp2 (k0_pay22 R b (ix2 h 0) - k0_pay23 S R b (ix2 h 0)) := by
  unfold k0_pay25
  generalize k0_pay22 R b = N
  generalize k0_pay23 S R b = M
  pointwise
  rfl

/-- The weights' sum. -/
theorem total_apply (S : FVec Ideal S8x2048 .f32) (R : FVec Ideal S8x1 .f32) (b : Vec Ideal S1x1x1 .f32) (h : Fin 8) :
    k0_pay26 S R b (ix2 h 0) = (∑ t : Fin 2048, k0_pay24 S R b (ix2 h t)) + k0_pay25 S R b (ix2 h 0) := by
  unfold k0_pay26
  generalize k0_pay24 S R b = P
  generalize k0_pay25 S R b = Q
  pointwise

/-- The slopes, in powers of two and in the units of the scores. -/
theorem slope_apply (h : Fin 8) :
    k0_pay6 (F := Ideal) k0_pay5 (Scalar.ofBits .f32 0x41000000#32) (ix2 h 0)
      = (((Real.log 2)⁻¹ : ℝ) : EReal) * ((Real.rpow 2 (-8 * (h.val + 1) / 8) : ℝ) : EReal) := by
  have h8 : Ideal.ofBits .f32 3238002688#32 = ((-8 : ℝ) : EReal) := by
    simp [Ideal.ofBits, Ideal.ieee, -EReal.coe_mul]; norm_num
  have h8' : Ideal.ofBits .f32 1090519040#32 = ((8 : ℝ) : EReal) := by
    simp [Ideal.ofBits, Ideal.ieee, -EReal.coe_mul]; norm_num
  have hk : ∀ h : Fin 8, (IntOp.addi (BitVec.ofNat 32 h.val) 1#32).toInt = (h.val : ℤ) + 1 := by decide
  have hs : (FloatOps.sitofp (F := Ideal) FTy.f32 (IntOp.addi (BitVec.ofNat 32 h.val) 1#32)) = (((h.val : ℝ) + 1 : ℝ) : EReal) := by
    show ((((IntOp.addi (BitVec.ofNat 32 h.val) 1#32).toInt : ℤ) : ℝ) : EReal) = _
    rw [hk]; push_cast; rfl
  unfold k0_pay6 k0_pay5
  pointwise
  rw [h8, h8', hs]
  show (((Real.log 2)⁻¹ : ℝ) : EReal) * Ideal.exp2 _ = _
  rw [Ideal.div_coe (by norm_num), ← EReal.coe_mul, ← EReal.coe_mul, Ideal.exp2_coe]
  congr 3
  ring

/-- Sixteen addends, added one after another to a first one. -/
theorem sum16 (a : EReal) (f : Fin 16 → EReal) :
    a + f 0 + f 1 + f 2 + f 3 + f 4 + f 5 + f 6 + f 7 + f 8 + f 9 + f 10 + f 11 + f 12 + f 13 + f 14 + f 15 = a + ∑ n, f n := by
  simp only [Fin.sum_univ_succ, Fin.sum_univ_zero, add_assoc, add_zero]
  rfl

/-- The body's last word, of the scores and the values. -/
def outOf (S : FVec Ideal S8x2048 .f32) (R : FVec Ideal S8x1 .f32) (b : Vec Ideal S1x1x1 .f32) (vn : Vec Ideal S1x1x512 .f32)
    (V : Fin 16 → Vec Ideal S1x1x512x128 .f32) : FVec Ideal S1x1x512 .bf16 :=
  k0_pay1 k0_pay2 (k0_pay26 S R b) (k0_pay27 S R b)
    (k0_pay32 (k0_pay27 S R b)
      (k0_pay30 (k0_pay27 S R b) (k0_pay28 S R b vn (V 0) (V 1) (V 2)) (k0_pay29 S R b) (V 3) (V 4) (V 5) (V 6) (V 7))
      (k0_pay31 (k0_pay27 S R b)) (V 8) (V 9) (V 10) (V 11) (V 12) (V 13))
    (V 14) (V 15)

/-- The head's weighted values. -/
theorem outOf_apply (S : FVec Ideal S8x2048 .f32) (R : FVec Ideal S8x1 .f32) (b : Vec Ideal S1x1x1 .f32) (vn : Vec Ideal S1x1x512 .f32)
    (V : Fin 16 → Vec Ideal S1x1x512x128 .f32) (c : Fin 512) :
    outOf S R b vn V (ix3 0 0 c) = ∑ h : Fin 8, if c.val / 64 = h.val then
      Ideal.div (k0_pay25 S R b (ix2 h 0) * vn (ix3 0 0 c)
        + ∑ n : Fin 16, ∑ l : Fin 128, k0_pay24 S R b (ix2 h ⟨128 * n.val + l.val, by omega⟩) * V n (ix4 0 0 c l))
        (k0_pay26 S R b (ix2 h 0)) else 0 := by
  unfold outOf k0_pay1 k0_pay31 k0_pay30 k0_pay28 k0_pay29 k0_pay32 k0_pay27
  generalize k0_pay24 S R b = P
  generalize k0_pay25 S R b = Q
  generalize k0_pay26 S R b = L
  pointwise
  refine Finset.sum_congr rfl fun h _ => ?_
  rw [own_apply, ← sum16]
  have hi : ∀ l : Fin 128, (⟨128 * (0 : Fin 16).val + l.val, by omega⟩ : Fin 2048) = ⟨l.val, by omega⟩ :=
    fun l => Fin.ext (by show 128 * 0 + l.val = l.val; omega)
  simp only [hi]
  split <;> rfl

end Cert.Proof
-- ==== Proof.SaRun.lean ====
module

public import proofs.«01_k».proof.Proof.SampleAttnIdealRun
public import proofs.«01_k».proof.Proof.SaBody
public import Idealize.ShloMosaic.Lib.Pipeline.Value
public import Idealize.ShloMosaic.Lib.Pipeline.ValueKit.Tiles

@[expose] public section

set_option maxRecDepth 16384

noncomputable section

/-! # What one grid point stores, as the payloads of its blocks -/

namespace Cert.Proof

open Idealize Idealize.ShloMosaic Idealize.SL.Sem Cert.SampleAttnIdeal Cert.SampleAttnIdeal.Gen

theorem hz3 : (![0, 0, 0] : Fin 3 → Nat) = fun _ => 0 := funext fun a => by fin_cases a <;> rfl
theorem hz4 : (![0, 0, 0, 0] : Fin 4 → Nat) = fun _ => 0 := funext fun a => by fin_cases a <;> rfl

set_option maxHeartbeats 40000000 in
/-- The one store of a grid point is the output block of the composed payloads. -/
theorem run_eq (c : Dev nD) (i : grid0.Coords)
    (a0 : Memref sig .tc .vmem S1x1x512 .f32) (h0 : a0.IsWhole)
    (a1 : Memref sig .tc .vmem S1x1x512 .f32) (h1 : a1.IsWhole)
    (a2 : Memref sig .tc .vmem S1x1x512 .f32) (h2 : a2.IsWhole)
    (a3 : Memref sig .tc .vmem S1x1x2176 .f32) (h3 : a3.IsWhole)
    (a4 : Memref sig .tc .vmem S1x1x512x128 .f32) (h4 : a4.IsWhole)
    (a5 : Memref sig .tc .vmem S1x1x512x128 .f32) (h5 : a5.IsWhole)
    (a6 : Memref sig .tc .vmem S1x1x512x128 .f32) (h6 : a6.IsWhole)
    (a7 : Memref sig .tc .vmem S1x1x512x128 .f32) (h7 : a7.IsWhole)
    (a8 : Memref sig .tc .vmem S1x1x512x128 .f32) (h8 : a8.IsWhole)
    (a9 : Memref sig .tc .vmem S1x1x512x128 .f32) (h9 : a9.IsWhole)
    (a10 : Memref sig .tc .vmem S1x1x512x128 .f32) (h10 : a10.IsWhole)
    (a11 : Memref sig .tc .vmem S1x1x512x128 .f32) (h11 : a11.IsWhole)
    (a12 : Memref sig .tc .vmem S1x1x512x128 .f32) (h12 : a12.IsWhole)
    (a13 : Memref sig .tc .vmem S1x1x512x128 .f32) (h13 : a13.IsWhole)
    (a14 : Memref sig .tc .vmem S1x1x512x128 .f32) (h14 : a14.IsWhole)
    (a15 : Memref sig .tc .vmem S1x1x512x128 .f32) (h15 : a15.IsWhole)
    (a16 : Memref sig .tc .vmem S1x1x512x128 .f32) (h16 : a16.IsWhole)
    (a17 : Memref sig .tc .vmem S1x1x512x128 .f32) (h17 : a17.IsWhole)
    (a18 : Memref sig .tc .vmem S1x1x512x128 .f32) (h18 : a18.IsWhole)
    (a19 : Memref sig .tc .vmem S1x1x512x128 .f32) (h19 : a19.IsWhole)
    (a20 : Memref sig .tc .vmem S1x1x512x128 .f32) (h20 : a20.IsWhole)
    (a21 : Memref sig .tc .vmem S1x1x512x128 .f32) (h21 : a21.IsWhole)
    (a22 : Memref sig .tc .vmem S1x1x512x128 .f32) (h22 : a22.IsWhole)
    (a23 : Memref sig .tc .vmem S1x1x512x128 .f32) (h23 : a23.IsWhole)
    (a24 : Memref sig .tc .vmem S1x1x512x128 .f32) (h24 : a24.IsWhole)
    (a25 : Memref sig .tc .vmem S1x1x512x128 .f32) (h25 : a25.IsWhole)
    (a26 : Memref sig .tc .vmem S1x1x512x128 .f32) (h26 : a26.IsWhole)
    (a27 : Memref sig .tc .vmem S1x1x512x128 .f32) (h27 : a27.IsWhole)
    (a28 : Memref sig .tc .vmem S1x1x512x128 .f32) (h28 : a28.IsWhole)
    (a29 : Memref sig .tc .vmem S1x1x512x128 .f32) (h29 : a29.IsWhole)
    (a30 : Memref sig .tc .vmem S1x1x512x128 .f32) (h30 : a30.IsWhole)
    (a31 : Memref sig .tc .vmem S1x1x512x128 .f32) (h31 : a31.IsWhole)
    (a32 : Memref sig .tc .vmem S1x1x512x128 .f32) (h32 : a32.IsWhole)
    (a33 : Memref sig .tc .vmem S1x1x512x128 .f32) (h33 : a33.IsWhole)
    (a34 : Memref sig .tc .vmem S1x1x512x128 .f32) (h34 : a34.IsWhole)
    (a35 : Memref sig .tc .vmem S1x1x512x128 .f32) (h35 : a35.IsWhole)
    (a36 : Memref sig .tc .vmem S1x1x512 .bf16) (h36 : a36.IsWhole)
    (x0 : Vec Ideal S1x1x512 .f32)
    (x1 : Vec Ideal S1x1x512 .f32)
    (x2 : Vec Ideal S1x1x512 .f32)
    (x3 : Vec Ideal S1x1x2176 .f32)
    (x4 : Vec Ideal S1x1x512x128 .f32)
    (x5 : Vec Ideal S1x1x512x128 .f32)
    (x6 : Vec Ideal S1x1x512x128 .f32)
    (x7 : Vec Ideal S1x1x512x128 .f32)
    (x8 : Vec Ideal S1x1x512x128 .f32)
    (x9 : Vec Ideal S1x1x512x128 .f32)
    (x10 : Vec Ideal S1x1x512x128 .f32)
    (x11 : Vec Ideal S1x1x512x128 .f32)
    (x12 : Vec Ideal S1x1x512x128 .f32)
    (x13 : Vec Ideal S1x1x512x128 .f32)
    (x14 : Vec Ideal S1x1x512x128 .f32)
    (x15 : Vec Ideal S1x1x512x128 .f32)
    (x16 : Vec Ideal S1x1x512x128 .f32)
    (x17 : Vec Ideal S1x1x512x128 .f32)
    (x18 : Vec Ideal S1x1x512x128 .f32)
    (x19 : Vec Ideal S1x1x512x128 .f32)
    (x20 : Vec Ideal S1x1x512x128 .f32)
    (x21 : Vec Ideal S1x1x512x128 .f32)
    (x22 : Vec Ideal S1x1x512x128 .f32)
    (x23 : Vec Ideal S1x1x512x128 .f32)
    (x24 : Vec Ideal S1x1x512x128 .f32)
    (x25 : Vec Ideal S1x1x512x128 .f32)
    (x26 : Vec Ideal S1x1x512x128 .f32)
    (x27 : Vec Ideal S1x1x512x128 .f32)
    (x28 : Vec Ideal S1x1x512x128 .f32)
    (x29 : Vec Ideal S1x1x512x128 .f32)
    (x30 : Vec Ideal S1x1x512x128 .f32)
    (x31 : Vec Ideal S1x1x512x128 .f32)
    (x32 : Vec Ideal S1x1x512x128 .f32)
    (x33 : Vec Ideal S1x1x512x128 .f32)
    (x34 : Vec Ideal S1x1x512x128 .f32)
    (x35 : Vec Ideal S1x1x512x128 .f32)
    (xt0 : TbBuf0 (F := Ideal) c tbM0_0) :
    View.canon (kernelRun0_A (F := Ideal) c i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 x0 x1 x2 x3 x4 x5 x6 x7 x8 x9 x10 x11 x12 x13 x14 x15 x16 x17 x18 x19 x20 x21 x22 x23 x24 x25 x26 x27 x28 x29 x30 x31 x32 x33 x34 x35 xt0).1
      = outOf (scoresOf (k0_pay4 x0) (k0_pay6 k0_pay5 (Scalar.ofBits .f32 0x41000000#32)) ![x4, x5, x6, x7, x8, x9, x10, x11, x12, x13, x14, x15, x16, x17, x18, x19]
          (fun j : S1x1x2048.Idx => x3 (ix3 0 0 ⟨(j 2).val, lt_of_lt_of_le (j 2).isLt (by decide)⟩)))
        (k0_pay21 (k0_pay3 x0) x1) (fun _ => x3 (ix3 0 0 ⟨2048, by decide⟩)) x2 ![x20, x21, x22, x23, x24, x25, x26, x27, x28, x29, x30, x31, x32, x33, x34, x35] := by
  unfold kernelRun0_A
  dsimp only
  sl_unfold_run_names
  rw [View.canon_unit_zero hz3]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread, h27.read_unread, h28.read_unread, h29.read_unread, h30.read_unread, h31.read_unread, h32.read_unread, h33.read_unread, h34.read_unread, h35.read_unread]
  simp only [View.ld_unit_zero (S := S1x1x512) hz3, View.ld_unit_zero (S := S1x1x512x128) hz4]
  have e0 : ∀ inb, View.ld x3 (Rect.unit ![0, 0, 0] ![1, 1, 2048] inb)
      = fun j : S1x1x2048.Idx => x3 (ix3 0 0 ⟨(j 2).val, lt_of_lt_of_le (j 2).isLt (by decide)⟩) := fun inb => by
    funext j
    refine View.ld_unit_apply_of x3 _ _ inb j _ fun a => ?_
    match a with
    | ⟨0, _⟩ => have := (j 0).isLt; change (j 0).val < 1 at this; show 0 = 0 + (j 0).val; omega
    | ⟨1, _⟩ => have := (j 1).isLt; change (j 1).val < 1 at this; show 0 = 0 + (j 1).val; omega
    | ⟨2, _⟩ => show (j 2).val = 0 + (j 2).val; omega
  have e1 : ∀ inb, View.ld x3 (Rect.unit ![0, 0, 2048] ![1, 1, 1] inb) = fun _ => x3 (ix3 0 0 ⟨2048, by decide⟩) := fun inb => by
    funext j
    refine View.ld_unit_apply_of x3 _ _ inb j _ fun a => ?_
    match a with
    | ⟨0, _⟩ => have := (j 0).isLt; change (j 0).val < 1 at this; show 0 = 0 + (j 0).val; omega
    | ⟨1, _⟩ => have := (j 1).isLt; change (j 1).val < 1 at this; show 0 = 0 + (j 1).val; omega
    | ⟨2, _⟩ => have := (j 2).isLt; change (j 2).val < 1 at this; show 2048 = 2048 + (j 2).val; omega
  simp only [e0, e1]
  unfold outOf scoresOf
  rfl

end Cert.Proof

end
-- ==== Proof.SaEq.lean ====
module

public import Idealize.ShloMosaic.PureOps.Ideal.Laws
public import Mathlib.Analysis.SpecialFunctions.Pow.Real

@[expose] public section

noncomputable section

namespace Cert.Proof

open Idealize.ShloMosaic

/-- A nonnegative real factor goes through a finite sum of extended reals. -/
theorem mul_sum_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A finite sum of reals is a real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The masked scores' greatest value: a real one, reached at a selected position. -/
theorem masked_max {n : ℕ} (r : Fin n → ℝ) (sel : Fin n → Prop) [DecidablePred sel] (hsel : ∃ t, sel t) :
    ∃ t, sel t ∧ (∀ t', sel t' → r t' ≤ r t) := by
  have hne : (Finset.univ.filter sel).Nonempty := by
    obtain ⟨t, ht⟩ := hsel
    exact ⟨t, by simp [ht]⟩
  obtain ⟨t, ht, hm⟩ := Finset.exists_max_image (Finset.univ.filter sel) r hne
  exact ⟨t, by simpa using ht, fun t' h' => hm t' (by simp [h'])⟩

/-- The fold of the maximum over masked scores is the greatest selected one. -/
theorem fold_masked {n : ℕ} (r : Fin n → ℝ) (sel : Fin n → Prop) [DecidablePred sel] (t : Fin n) (ht : sel t)
    (hm : ∀ t', sel t' → r t' ≤ r t) :
    (Finset.univ : Finset (Fin n)).fold max ⊥ (fun t => if sel t then ((r t : ℝ) : EReal) else ⊥) = ((r t : ℝ) : EReal) := by
  apply le_antisymm
  · rw [Finset.fold_max_le]
    refine ⟨bot_le, fun t' _ => ?_⟩
    split
    · rename_i h'
      exact_mod_cast hm t' h'
    · exact bot_le
  · rw [Finset.le_fold_max]
    exact .inr ⟨t, Finset.mem_univ t, by rw [if_pos ht]⟩

/-- Powers of two of scores in units of `log 2` are the exponentials of the scores, each less its greatest one. -/
theorem weight_eq {n : ℕ} (r : Fin n → ℝ) (sel : Fin n → Prop) [DecidablePred sel] (hsel : ∃ t, sel t) :
    ∃ W : Fin n → ℝ, (∀ t, 0 ≤ W t) ∧ (0 < ∑ t, W t)
      ∧ (∀ t, Ideal.exp2 ((if sel t then (((Real.log 2)⁻¹ * r t : ℝ) : EReal) else ⊥)
          - (Finset.univ : Finset (Fin n)).fold max ⊥ fun t => if sel t then (((Real.log 2)⁻¹ * r t : ℝ) : EReal) else ⊥)
            = (W t : EReal))
      ∧ (∀ t, Ideal.exp ((if sel t then ((r t : ℝ) : EReal) else ⊥)
          - (Finset.univ : Finset (Fin n)).fold max ⊥ fun t => if sel t then ((r t : ℝ) : EReal) else ⊥)
            = (W t : EReal)) := by
  have hl : 0 < Real.log 2 := Real.log_pos (by norm_num)
  obtain ⟨t₀, h₀, hm⟩ := masked_max r sel hsel
  refine ⟨fun t => if sel t then Real.exp (r t - r t₀) else 0, fun t => ?_, ?_, fun t => ?_, fun t => ?_⟩
  · dsimp only; split
    · exact (Real.exp_pos _).le
    · exact le_rfl
  · refine Finset.sum_pos' (fun t _ => ?_) ⟨t₀, Finset.mem_univ _, ?_⟩
    · split
      · exact (Real.exp_pos _).le
      · exact le_rfl
    · rw [if_pos h₀]; exact Real.exp_pos _
  · rw [fold_masked (fun t => (Real.log 2)⁻¹ * r t) sel t₀ h₀
      (fun t' h' => mul_le_mul_of_nonneg_left (hm t' h') (inv_nonneg.mpr hl.le))]
    by_cases h : sel t
    · simp only [if_pos h]
      rw [← EReal.coe_sub, Ideal.exp2_coe]
      congr 1
      show Real.rpow 2 _ = _
      rw [Real.rpow_eq_pow, Real.rpow_def_of_pos (by norm_num)]
      congr 1
      field_simp
    · simp only [if_neg h]
      rw [EReal.bot_sub, Ideal.exp2_bot, EReal.coe_zero]
  · rw [fold_masked r sel t₀ h₀ hm]
    by_cases h : sel t
    · simp only [if_pos h]
      rw [← EReal.coe_sub, Ideal.exp_coe]
    · simp only [if_neg h]
      rw [EReal.bot_sub, Ideal.exp_bot, EReal.coe_zero]

/-- A division by a positive real after the sum is one before it. -/
theorem div_sum {ι : Type*} (s : Finset ι) (w : ι → ℝ) (v : ι → EReal) (L : ℝ) (hL : 0 < L) :
    Ideal.div (∑ t ∈ s, (w t : EReal) * v t) (L : EReal) = ∑ t ∈ s, Ideal.div (w t : EReal) (L : EReal) * v t := by
  rw [Ideal.div_coe hL.ne', mul_sum_coe _ _ _ (by positivity)]
  refine Finset.sum_congr rfl fun t _ => ?_
  rw [Ideal.div_coe hL.ne', mul_assoc, mul_assoc, mul_comm (v t)]

/-- A maximum over all positions but the last, then over the last, is the maximum over all. -/
theorem fold_castSucc {n : ℕ} (f : Fin (n + 1) → EReal) :
    max ((Finset.univ : Finset (Fin n)).fold max ⊥ fun t => f t.castSucc) (f (Fin.last n))
      = (Finset.univ : Finset (Fin (n + 1))).fold max ⊥ f := by
  apply le_antisymm
  · rw [max_le_iff, Finset.fold_max_le]
    refine ⟨⟨bot_le, fun t _ => ?_⟩, ?_⟩
    · rw [Finset.le_fold_max]; exact .inr ⟨_, Finset.mem_univ _, le_rfl⟩
    · rw [Finset.le_fold_max]; exact .inr ⟨_, Finset.mem_univ _, le_rfl⟩
  · rw [Finset.fold_max_le]
    refine ⟨bot_le, fun t _ => ?_⟩
    refine Fin.lastCases ?_ (fun t => ?_) t
    · exact le_max_right _ _
    · refine le_max_of_le_left ?_
      rw [Finset.le_fold_max]; exact .inr ⟨t, Finset.mem_univ _, le_rfl⟩

/-- One row of the softmax: powers of two of scaled scores, the new position apart, the division at the end; against
    exponentials, all positions together, the division before the values. -/
theorem softmax_row {n : ℕ} (u z : Fin (n + 1) → EReal) (v : Fin (n + 1) → EReal) (r : Fin (n + 1) → ℝ)
    (sel : Fin (n + 1) → Prop) [DecidablePred sel] (hsel : ∃ t, sel t)
    (hu : ∀ t, u t = if sel t then (((Real.log 2)⁻¹ * r t : ℝ) : EReal) else ⊥)
    (hz : ∀ t, z t = if sel t then ((r t : ℝ) : EReal) else ⊥) (M : EReal)
    (hM : M = max ((Finset.univ : Finset (Fin n)).fold max ⊥ fun t => u t.castSucc) (u (Fin.last n))) :
    Ideal.div (Ideal.exp2 (u (Fin.last n) - M) * v (Fin.last n)
        + ∑ t : Fin n, Ideal.exp2 (u t.castSucc - M) * v t.castSucc)
      ((∑ t : Fin n, Ideal.exp2 (u t.castSucc - M)) + Ideal.exp2 (u (Fin.last n) - M))
    = ∑ t, Ideal.div (Ideal.exp (z t - max ⊥ ((Finset.univ : Finset (Fin (n + 1))).fold max ⊥ z)))
        (0 + ∑ t, Ideal.exp (z t - max ⊥ ((Finset.univ : Finset (Fin (n + 1))).fold max ⊥ z))) * v t := by
  rw [fold_castSucc] at hM
  subst hM
  obtain rfl : u = _ := funext hu
  obtain rfl : z = _ := funext hz
  obtain ⟨W, h0, hp, he2, he⟩ := weight_eq r sel hsel
  rw [max_eq_right bot_le, zero_add]
  simp only [he2, he]
  rw [add_comm (((W (Fin.last n) : ℝ) : EReal) * _), ← Fin.sum_univ_castSucc (fun t => ((W t : ℝ) : EReal) * v t),
    ← Fin.sum_univ_castSucc (fun t => ((W t : ℝ) : EReal)), ← coe_sum, div_sum _ _ _ _ hp]

/-- A sum over the columns that one head owns is a sum over the head's own columns. -/
theorem own_sum (h : Fin 8) (f : Fin 512 → EReal) :
    (∑ c : Fin 512, if c.val / 64 = h.val then f c else 0) = ∑ d : Fin 64, f ⟨64 * h.val + d.val, by omega⟩ := by
  classical
  rw [← Finset.sum_filter]
  symm
  refine Finset.sum_bij (fun d _ => ⟨64 * h.val + d.val, by omega⟩) ?_ ?_ ?_ ?_
  · intro d _
    rw [Finset.mem_filter]
    exact ⟨Finset.mem_univ _, by show (64 * h.val + d.val) / 64 = h.val; omega⟩
  · intro d _ d' _ e
    have := congrArg Fin.val e
    dsimp only at this
    exact Fin.ext (by omega)
  · intro c hc
    rw [Finset.mem_filter] at hc
    exact ⟨⟨c.val % 64, by omega⟩, Finset.mem_univ _, Fin.ext (by show 64 * h.val + c.val % 64 = c.val; omega)⟩
  · intro d _; rfl

/-- A sum over the heads of which one alone is not zero. -/
theorem head_sum (c : Fin 512) (f : Fin 8 → EReal) :
    (∑ h : Fin 8, if c.val / 64 = h.val then f h else 0) = f ⟨c.val / 64, by omega⟩ := by
  rw [Finset.sum_eq_single ⟨c.val / 64, by omega⟩]
  · rw [if_pos rfl]
  · intro h _ hne
    rw [if_neg fun e => hne (Fin.ext e.symm)]
  · intro hne; exact absurd (Finset.mem_univ _) hne

/-- A sum over sixteen pages of 128 positions is a sum over the 2048 positions. -/
theorem page_sum (f : Fin 2048 → EReal) :
    (∑ n : Fin 16, ∑ l : Fin 128, f ⟨128 * n.val + l.val, by omega⟩) = ∑ t : Fin 2048, f t := by
  rw [← Finset.sum_product']
  refine Finset.sum_bij (fun p _ => ⟨128 * p.1.val + p.2.val, by omega⟩) ?_ ?_ ?_ ?_
  · intro p _; exact Finset.mem_univ _
  · intro p _ p' _ e
    have := congrArg Fin.val e
    dsimp only at this
    exact Prod.ext (Fin.ext (by omega)) (Fin.ext (by omega))
  · intro t _
    exact ⟨(⟨t.val / 128, by omega⟩, ⟨t.val % 128, by omega⟩), Finset.mem_univ _,
      Fin.ext (by show 128 * (t.val / 128) + t.val % 128 = t.val; omega)⟩
  · intro p _; rfl

/-- The head's slope. -/
def slopeR (h : Fin 8) : ℝ := Real.exp (Real.log 2 * (-8 * (h.val + 1) / 8))

/-- The plain score of a position, over the reals. -/
def scoreR (q : Fin 512 → ℝ) (k : Fin 2049 → Fin 512 → ℝ) (h : Fin 8) (t : Fin 2049) : ℝ :=
  (∑ d : Fin 64, q ⟨64 * h.val + d.val, by omega⟩ * k t ⟨64 * h.val + d.val, by omega⟩) * (1 / 8)
    - slopeR h * (2048 - (t.val : ℝ))

/-- The kernel's score of a position is the plain one in units of `log 2`, the mask on top. -/
theorem kernel_score (q : Fin 512 → EReal) (qr : Fin 512 → ℝ) (hq : ∀ c, q c = (qr c : EReal))
    (k : Fin 512 → EReal) (kr : Fin 2049 → Fin 512 → ℝ) (h : Fin 8) (t : Fin 2049) (hk : ∀ c, k c = (kr t c : EReal))
    (dist : ℝ) (hd : dist = 2048 - (t.val : ℝ)) (p : Prop) [Decidable p] :
    (∑ c : Fin 512, (if c.val / 64 = h.val then q c * (((1 / 8) * (Real.log 2)⁻¹ : ℝ) : EReal) else 0) * k c)
        - (((Real.log 2)⁻¹ : ℝ) : EReal) * ((Real.rpow 2 (-8 * (h.val + 1) / 8) : ℝ) : EReal) * (dist : EReal)
        + (if p then 0 else ⊥)
      = if p then (((Real.log 2)⁻¹ * scoreR qr kr h t : ℝ) : EReal) else ⊥ := by
  by_cases hp : p
  · rw [if_pos hp, if_pos hp, add_zero]
    have e : ∀ c : Fin 512, (if c.val / 64 = h.val then q c * (((1 / 8) * (Real.log 2)⁻¹ : ℝ) : EReal) else 0) * k c
        = if c.val / 64 = h.val then ((qr c * ((1 / 8) * (Real.log 2)⁻¹) * kr t c : ℝ) : EReal) else 0 := by
      intro c
      split
      · rw [hq, hk, ← EReal.coe_mul, ← EReal.coe_mul]
      · rw [zero_mul]
    rw [Finset.sum_congr rfl fun c _ => e c, own_sum, ← coe_sum, ← EReal.coe_mul, ← EReal.coe_mul, ← EReal.coe_sub, hd]
    congr 1
    have hs : Real.rpow 2 (-8 * (h.val + 1) / 8) = slopeR h := by
      rw [Real.rpow_eq_pow, Real.rpow_def_of_pos (by norm_num)]; rfl
    rw [hs]
    unfold scoreR
    have hsum : (∑ d : Fin 64, qr ⟨64 * h.val + d.val, by omega⟩ * ((1 / 8) * (Real.log 2)⁻¹) * kr t ⟨64 * h.val + d.val, by omega⟩)
        = (Real.log 2)⁻¹ * ((∑ d : Fin 64, qr ⟨64 * h.val + d.val, by omega⟩ * kr t ⟨64 * h.val + d.val, by omega⟩) * (1 / 8)) := by
      rw [Finset.sum_mul, Finset.mul_sum]
      exact Finset.sum_congr rfl fun d _ => by ring
    rw [hsum]
    ring
  · rw [if_neg hp, if_neg hp, EReal.add_bot]

/-- The reference's score of a position is the plain one. -/
theorem reference_score (q : Fin 512 → EReal) (qr : Fin 512 → ℝ) (hq : ∀ c, q c = (qr c : EReal))
    (k : Fin 512 → EReal) (kr : Fin 2049 → Fin 512 → ℝ) (h : Fin 8) (t : Fin 2049) (hk : ∀ c, k c = (kr t c : EReal))
    (dist : ℝ) (hd : dist = 2048 - (t.val : ℝ)) :
    (∑ d : Fin 64, q ⟨64 * h.val + d.val, by omega⟩ * k ⟨64 * h.val + d.val, by omega⟩) * ((1 / 8 : ℝ) : EReal)
        - Ideal.exp (((Real.log 2 : ℝ) : EReal) * ((-8 * (h.val + 1) / 8 : ℝ) : EReal)) * (dist : EReal)
      = ((scoreR qr kr h t : ℝ) : EReal) := by
  simp only [hq, hk, ← EReal.coe_mul]
  rw [← coe_sum, Ideal.exp_coe, ← EReal.coe_mul, ← EReal.coe_mul, ← EReal.coe_sub, hd]
  rfl

end Cert.Proof
-- ==== Proof.SaValue.lean ====
module

public import proofs.«01_k».proof.Proof.SaBody
public import proofs.«01_k».proof.Proof.SaEq

@[expose] public section

set_option maxRecDepth 16384

noncomputable section

/-! # One row: the kernel's block is the plain softmax of the row -/

namespace Cert.Proof

open Idealize Idealize.ShloMosaic Cert.SampleAttnIdeal Cert.SampleAttnIdeal.Gen

/-- The rounded queries are, over the reals, the queries. -/
theorem pay4_apply (q : Vec Ideal S1x1x512 .f32) (i : S8x512.Idx) : k0_pay4 q i = k0_pay3 q i := rfl

/-- The output block of a row, its keys and values given position by position. -/
theorem outOf_row (x0 x1 x2 : Vec Ideal S1x1x512 .f32) (x3 : Vec Ideal S1x1x2176 .f32) (K V : Fin 16 → Vec Ideal S1x1x512x128 .f32)
    (rk rv : Fin 2049 → Fin 512 → EReal) (sel : Fin 2049 → Prop) [DecidablePred sel] (hsel : ∃ t, sel t)
    (qr : Fin 512 → ℝ) (kr : Fin 2049 → Fin 512 → ℝ)
    (hq : ∀ c, x0 (ix3 0 0 c) = (qr c : EReal)) (hk : ∀ t c, rk t c = (kr t c : EReal))
    (hK : ∀ (n : Fin 16) (c : Fin 512) (l : Fin 128), K n (ix4 0 0 c l) = rk ⟨128 * n.val + l.val, by omega⟩ c)
    (hV : ∀ (n : Fin 16) (c : Fin 512) (l : Fin 128), V n (ix4 0 0 c l) = rv ⟨128 * n.val + l.val, by omega⟩ c)
    (hkn : ∀ c, x1 (ix3 0 0 c) = rk (Fin.last 2048) c) (hvn : ∀ c, x2 (ix3 0 0 c) = rv (Fin.last 2048) c)
    (hb : ∀ t : Fin 2049, x3 (ix3 0 0 ⟨t.val, by omega⟩) = (if sel t then 0 else ⊥ : EReal))
    (c : Fin 512) (z : Fin 2049 → EReal)
    (hz : ∀ t, z t = if sel t then ((scoreR qr kr ⟨c.val / 64, by omega⟩ t : ℝ) : EReal) else ⊥) :
    outOf (scoresOf (k0_pay4 x0) (k0_pay6 k0_pay5 (Scalar.ofBits .f32 0x41000000#32)) K
          (fun j : S1x1x2048.Idx => x3 (ix3 0 0 ⟨(j 2).val, lt_of_lt_of_le (j 2).isLt (by decide)⟩)))
        (k0_pay21 (k0_pay3 x0) x1) (fun _ => x3 (ix3 0 0 ⟨2048, by decide⟩)) x2 V (ix3 0 0 c)
      = ∑ t, Ideal.div (Ideal.exp (z t - max ⊥ ((Finset.univ : Finset (Fin 2049)).fold max ⊥ z)))
          (0 + ∑ t, Ideal.exp (z t - max ⊥ ((Finset.univ : Finset (Fin 2049)).fold max ⊥ z))) * rv t c := by
  rw [outOf_apply, head_sum c fun h => _]
  generalize hS : scoresOf _ _ _ _ = S
  generalize hR : k0_pay21 (k0_pay3 x0) x1 = R
  generalize hB : (fun _ => x3 (ix3 0 0 ⟨2048, by decide⟩) : Vec Ideal S1x1x1 .f32) = B
  generalize hh : (⟨c.val / 64, by omega⟩ : Fin 8) = h at *
  have hSt : ∀ t : Fin 2048, S (ix2 h t) = if sel t.castSucc then (((Real.log 2)⁻¹ * scoreR qr kr h t.castSucc : ℝ) : EReal) else ⊥ := by
    intro t
    have ht : t = ⟨128 * (t.val / 128) + t.val % 128, by omega⟩ := Fin.ext (by dsimp only; omega)
    have e := scoresOf_apply (k0_pay4 x0) (k0_pay6 k0_pay5 (Scalar.ofBits .f32 0x41000000#32)) K
      (fun j : S1x1x2048.Idx => x3 (ix3 0 0 ⟨(j 2).val, lt_of_lt_of_le (j 2).isLt (by decide)⟩)) h ⟨t.val / 128, by omega⟩ ⟨t.val % 128, by omega⟩
    rw [hS, slope_apply] at e
    have e3 := hb t.castSucc
    have hks := kernel_score (fun c => x0 (ix3 0 0 c)) qr hq (rk t.castSucc) kr h t.castSucc (hk _)
      (2048 - (t.castSucc.val : ℝ)) rfl (sel t.castSucc)
    rw [← hks, ← e3, ht, e]
    have hc : (⟨128 * (t.val / 128) + t.val % 128, by omega⟩ : Fin 2048) = t := ht.symm
    congr 1
    · congr 1
      · refine Finset.sum_congr rfl fun c _ => ?_
        rw [pay4_apply, qbd_apply, hK]
        rfl
      · congr 1
        refine congrArg (fun r : ℝ => (r : EReal)) ?_
        show ((2048 - (128 * ((t.val / 128 : ℕ) : ℤ) + ((t.val % 128 : ℕ) : ℤ)) : ℤ) : ℝ) = 2048 - ((128 * (t.val / 128) + t.val % 128 : ℕ) : ℝ)
        generalize t.val / 128 = a
        generalize t.val % 128 = b
        push_cast
        rfl
  have hN : k0_pay22 R B (ix2 h 0) = if sel (Fin.last 2048) then (((Real.log 2)⁻¹ * scoreR qr kr h (Fin.last 2048) : ℝ) : EReal) else ⊥ := by
    rw [← hR, ← hB, newScore_apply]
    have e3 := hb (Fin.last 2048)
    have hks := kernel_score (fun c => x0 (ix3 0 0 c)) qr hq (rk (Fin.last 2048)) kr h (Fin.last 2048) (hk _)
      0 (by simp) (sel (Fin.last 2048))
    rw [← hks, ← e3, EReal.coe_zero, mul_zero, sub_zero]
    congr 1
    refine Finset.sum_congr rfl fun c _ => ?_
    rw [qbd_apply, hkn]
  have hM := rowMax_apply S R B h
  rw [total_apply, newWeight_apply]
  simp only [weight_apply, hV, hvn]
  have hp : (∑ n : Fin 16, ∑ l : Fin 128, Ideal.exp2 (S (ix2 h ⟨128 * n.val + l.val, by omega⟩) - k0_pay23 S R B (ix2 h 0))
      * rv ⟨128 * n.val + l.val, by omega⟩ c) = ∑ t : Fin 2048, Ideal.exp2 (S (ix2 h t) - k0_pay23 S R B (ix2 h 0)) * rv t.castSucc c :=
    page_sum fun t => Ideal.exp2 (S (ix2 h t) - k0_pay23 S R B (ix2 h 0)) * rv t.castSucc c
  rw [hp]
  refine Eq.trans ?_ (softmax_row (n := 2048) (fun t => if sel t then (((Real.log 2)⁻¹ * scoreR qr kr h t : ℝ) : EReal) else ⊥) z
    (fun t => rv t c) (scoreR qr kr h) sel hsel (fun _ => rfl) hz (k0_pay23 S R B (ix2 h 0)) ?_)
  · simp only [hSt, hN]
  · rw [hM, hN]
    simp only [hSt]

end Cert.Proof

end
-- ==== Proof.SaHost.lean ====
module

public import proofs.«01_k».proof.Proof.Gen.SampleAttnIdeal.Frame.Runs
public import Idealize.ShloMosaic.Lib.StableHlo.ReadAt
public import Idealize.ShloMosaic.Lib.Pointwise

@[expose] public section

set_option maxRecDepth 16384

noncomputable section

/-! # What the host operations hand to the kernel, read at an index -/

namespace Cert.Proof

open Idealize.ShloMosaic Idealize.SL.Sem Cert.SampleAttnIdeal

variable (m : (ℓ : Loc nD τ sig) → Buf (Elt Ideal) ℓ) (c : Dev nD)

/-- The query rows. -/
theorem host_q (b : Fin 128) (j : Fin 512) :
    (Gen.V m c main_v8 : Vec Ideal S128x1x512 .f32) (ix3 b 0 j) = (m (c.tc.loc main_arg1) : Vec Ideal S128x512 .f32) (ix2 b j) := by
  unfold Gen.V
  after_reads_at

/-- The new key rows. -/
theorem host_k (b : Fin 128) (j : Fin 512) :
    (Gen.V m c main_v9 : Vec Ideal S128x1x512 .f32) (ix3 b 0 j) = (m (c.tc.loc main_arg2) : Vec Ideal S128x512 .f32) (ix2 b j) := by
  unfold Gen.V
  after_reads_at

/-- The new value rows. -/
theorem host_v (b : Fin 128) (j : Fin 512) :
    (Gen.V m c main_v10 : Vec Ideal S128x1x512 .f32) (ix3 b 0 j) = (m (c.tc.loc main_arg3) : Vec Ideal S128x512 .f32) (ix2 b j) := by
  unfold Gen.V
  after_reads_at

/-- The key pages. -/
theorem host_kp (p : Fin 4) (n : Fin 2560) (j : Fin 512) (l : Fin 128) :
    (Gen.V m c main_v1 : Vec Ideal S4x2560x512x128 .f32) (ix4 p n j l)
      = (m (c.tc.loc main_arg5) : Vec Ideal S4x2560x128x8x64 .f32) (ix5 p n l ⟨j.val / 64, by omega⟩ ⟨j.val % 64, by omega⟩) := by
  unfold Gen.V
  after_reads_at

/-- The value pages. -/
theorem host_vp (p : Fin 4) (n : Fin 2560) (j : Fin 512) (l : Fin 128) :
    (Gen.V m c main_v3 : Vec Ideal S4x2560x512x128 .f32) (ix4 p n j l)
      = (m (c.tc.loc main_arg6) : Vec Ideal S4x2560x128x8x64 .f32) (ix5 p n l ⟨j.val / 64, by omega⟩ ⟨j.val % 64, by omega⟩) := by
  unfold Gen.V
  after_reads_at

/-- The mask of a row: zero where the row is selected, minus infinity where not. -/
theorem host_bias (b : Fin 128) (t : Fin 2049) :
    (Gen.V m c main_v11 : Vec Ideal S128x1x2176 .f32) (ix3 b 0 ⟨t.val, by omega⟩)
      = (if 0 < ((m (c.tc.loc main_arg4) : Vec Ideal S128x2049 .i32) (ix2 b t) : BitVec 32).toInt then 0 else ⊥ : EReal) := by
  unfold Gen.V
  after_reads_at
  show Scalar.select (IntOp.cmpi CmpIPredicate.sgt ((m (c.tc.loc main_arg4) : Vec Ideal S128x2049 .i32) (ix2 b t)) 0#32) (0 : EReal)
      (Ideal.ofBits FTy.f32 4286578688#32) = _
  have hb : Ideal.ofBits FTy.f32 4286578688#32 = ⊥ := by simp [Ideal.ofBits, Ideal.ieee]
  have e1 : ∀ w : BitVec 32, 0 < w.toInt → IntOp.cmpi CmpIPredicate.sgt w 0#32 = 1#1 := fun w h => by
    simp [IntOp.cmpi, BitVec.slt, h]
  have e0 : ∀ w : BitVec 32, ¬ 0 < w.toInt → IntOp.cmpi CmpIPredicate.sgt w 0#32 = 0#1 := fun w h => by
    simp [IntOp.cmpi, BitVec.slt, h]
  rw [hb]
  by_cases h : 0 < ((m (c.tc.loc main_arg4) : Vec Ideal S128x2049 .i32) (ix2 b t) : BitVec 32).toInt
  · rw [if_pos h]
    have e : IntOp.cmpi CmpIPredicate.sgt ((m (c.tc.loc main_arg4) : Vec Ideal S128x2049 .i32) (ix2 b t)) 0#32 = 1#1 := e1 _ h
    rw [e]; rfl
  · rw [if_neg h]
    have e : IntOp.cmpi CmpIPredicate.sgt ((m (c.tc.loc main_arg4) : Vec Ideal S128x2049 .i32) (ix2 b t)) 0#32 = 0#1 := e0 _ h
    rw [e]; rfl

end Cert.Proof

end
-- ==== Proof.SaBlocks.lean ====
module

public import proofs.«01_k».proof.Proof.SaHost

@[expose] public section

set_option maxRecDepth 16384

noncomputable section

/-! # The blocks a grid point reads, as entries of the arguments -/

namespace Cert.Proof

open Idealize Idealize.ShloMosaic Idealize.SL.Sem Cert.SampleAttnIdeal

variable (m : (ℓ : Loc nD τ sig) → Buf (Elt Ideal) ℓ) (hO : Gen.Ok (F := Ideal) m) (c : Dev nD)

/-- The row of a grid point. -/
def rowAt (t : Fin grid0.N) : Fin 128 := ⟨t.val, by have := t.isLt; have h : grid0.N = 128 := Gen.N_0; omega⟩

theorem coord_eq : ∀ t : Fin grid0.N, ((grid0.coords t) 0).val = t.val := by decide +kernel

/-- The block of window 0 is a row of the argument. -/
theorem blk_q (t : Fin grid0.N) (j : Fin 512) :
    (Gen.iblk m hO c 0 t : Vec Ideal S1x1x512 .f32) (ix3 0 0 j) = (m (c.tc.loc main_arg1) : Vec Ideal S128x512 .f32) (ix2 (rowAt t) j) := by
  refine (?_ : _ = (Gen.V m c main_v8 : Vec Ideal S128x1x512 .f32) (ix3 (rowAt t) 0 j)).trans (host_q m c (rowAt t) j)
  unfold Gen.iblk
  refine congrArg (Gen.V m c main_v8 : S128x1x512.Idx → EReal) ?_
  funext a
  apply Fin.ext
  match a with
  | ⟨0, _⟩ =>
    show (BitVec.ofNat 32 ((grid0.coords t) 0).val).toNat * 1 + 1 * 0 = t.val
    rw [coord_eq t, BitVec.toNat_ofNat]
    have : t.val < 128 := (rowAt t).isLt
    omega
  | ⟨1, _⟩ => rfl
  | ⟨2, _⟩ =>
    show 0 * 512 + 1 * j.val = j.val
    omega

/-- The block of window 1 is a row of the argument. -/
theorem blk_k (t : Fin grid0.N) (j : Fin 512) :
    (Gen.iblk m hO c 1 t : Vec Ideal S1x1x512 .f32) (ix3 0 0 j) = (m (c.tc.loc main_arg2) : Vec Ideal S128x512 .f32) (ix2 (rowAt t) j) := by
  refine (?_ : _ = (Gen.V m c main_v9 : Vec Ideal S128x1x512 .f32) (ix3 (rowAt t) 0 j)).trans (host_k m c (rowAt t) j)
  unfold Gen.iblk
  refine congrArg (Gen.V m c main_v9 : S128x1x512.Idx → EReal) ?_
  funext a
  apply Fin.ext
  match a with
  | ⟨0, _⟩ =>
    show (BitVec.ofNat 32 ((grid0.coords t) 0).val).toNat * 1 + 1 * 0 = t.val
    rw [coord_eq t, BitVec.toNat_ofNat]
    have : t.val < 128 := (rowAt t).isLt
    omega
  | ⟨1, _⟩ => rfl
  | ⟨2, _⟩ =>
    show 0 * 512 + 1 * j.val = j.val
    omega

/-- The block of window 2 is a row of the argument. -/
theorem blk_v (t : Fin grid0.N) (j : Fin 512) :
    (Gen.iblk m hO c 2 t : Vec Ideal S1x1x512 .f32) (ix3 0 0 j) = (m (c.tc.loc main_arg3) : Vec Ideal S128x512 .f32) (ix2 (rowAt t) j) := by
  refine (?_ : _ = (Gen.V m c main_v10 : Vec Ideal S128x1x512 .f32) (ix3 (rowAt t) 0 j)).trans (host_v m c (rowAt t) j)
  unfold Gen.iblk
  refine congrArg (Gen.V m c main_v10 : S128x1x512.Idx → EReal) ?_
  funext a
  apply Fin.ext
  match a with
  | ⟨0, _⟩ =>
    show (BitVec.ofNat 32 ((grid0.coords t) 0).val).toNat * 1 + 1 * 0 = t.val
    rw [coord_eq t, BitVec.toNat_ofNat]
    have : t.val < 128 := (rowAt t).isLt
    omega
  | ⟨1, _⟩ => rfl
  | ⟨2, _⟩ =>
    show 0 * 512 + 1 * j.val = j.val
    omega

/-- The mask's block. -/
theorem blk_bias (t : Fin grid0.N) (j : Fin 2049) :
    (Gen.iblk m hO c 3 t : Vec Ideal S1x1x2176 .f32) (ix3 0 0 ⟨j.val, by omega⟩)
      = (if 0 < ((m (c.tc.loc main_arg4) : Vec Ideal S128x2049 .i32) (ix2 (rowAt t) j) : BitVec 32).toInt then 0 else ⊥ : EReal) := by
  refine (?_ : _ = (Gen.V m c main_v11 : Vec Ideal S128x1x2176 .f32) (ix3 (rowAt t) 0 ⟨j.val, by omega⟩)).trans (host_bias m c (rowAt t) j)
  unfold Gen.iblk
  refine congrArg (Gen.V m c main_v11 : S128x1x2176.Idx → EReal) ?_
  funext a
  apply Fin.ext
  match a with
  | ⟨0, _⟩ =>
    show (BitVec.ofNat 32 ((grid0.coords t) 0).val).toNat * 1 + 1 * 0 = t.val
    rw [coord_eq t, BitVec.toNat_ofNat]
    have : t.val < 128 := (rowAt t).isLt
    omega
  | ⟨1, _⟩ => rfl
  | ⟨2, _⟩ =>
    show 0 * 2176 + 1 * j.val = j.val
    omega

/-- The page number a point reads. -/
def pageAt (t : Fin grid0.N) (n : Fin 16) : BitVec 32 :=
  (m ((0 : Dev nD).tc.loc main_arg0) : Vec Ideal S128x16 .i32) (ix2 (rowAt t) n)

/-- The table's word that the index map of page `n` reads. -/
theorem table_at (t : Fin grid0.N) (n : Fin 16) (inb) (hn) :
    ((Gen.tbl m).at 0 (Rect.unit (s := S128x16) ![(BitVec.ofNat 32 ((grid0.coords t) 0).val).toNat, n.val] S1x1.size inb) hn : BitVec 32) = pageAt m t n := by
  have e := congrFun (Gen.V_main_arg0 m 0) (ix2 (rowAt t) n)
  unfold pageAt
  refine Eq.trans ?_ e
  refine congrArg (Gen.V m 0 main_arg0 : S128x16.Idx → BitVec 32) ?_
  funext a
  apply Fin.ext
  match a with
  | ⟨0, _⟩ =>
    show (BitVec.ofNat 32 ((grid0.coords t) 0).val).toNat + 1 * 0 = t.val
    rw [coord_eq t, BitVec.toNat_ofNat]
    have : t.val < 128 := (rowAt t).isLt
    omega
  | ⟨1, _⟩ =>
    show n.val + 1 * 0 = n.val
    omega

theorem blk_4 (t : Fin grid0.N) (hp : (pageAt m t 0).toNat < 2560) (j : Fin 512) (l : Fin 128) :
    (Gen.iblk m hO c 4 t : Vec Ideal S1x1x512x128 .f32) (ix4 0 0 j l)
      = (m (c.tc.loc main_arg5) : Vec Ideal S4x2560x128x8x64 .f32) (ix5 0 ⟨(pageAt m t 0).toNat, hp⟩ l ⟨j.val / 64, by omega⟩ ⟨j.val % 64, by omega⟩) := by
  refine (?_ : _ = (Gen.V m c main_v1 : Vec Ideal S4x2560x512x128 .f32) (ix4 0 ⟨(pageAt m t 0).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 0).toNat * 1 + 1 * 0) ?_ (show (pageAt m t 0).toNat * 1 + 1 * 0 = (pageAt m t 0).toNat by omega)
    exact congrArg (fun w : BitVec 32 => w.toNat * 1 + 1 * 0) (table_at m t 0 _ _)
  | ⟨2, _⟩ =>
    show 0 * 512 + 1 * j.val = j.val
    omega
  | ⟨3, _⟩ =>
    show 0 * 128 + 1 * l.val = l.val
    omega

theorem blk_5 (t : Fin grid0.N) (hp : (pageAt m t 1).toNat < 2560) (j : Fin 512) (l : Fin 128) :
    (Gen.iblk m hO c 5 t : Vec Ideal S1x1x512x128 .f32) (ix4 0 0 j l)
      = (m (c.tc.loc main_arg5) : Vec Ideal S4x2560x128x8x64 .f32) (ix5 0 ⟨(pageAt m t 1).toNat, hp⟩ l ⟨j.val / 64, by omega⟩ ⟨j.val % 64, by omega⟩) := by
  refine (?_ : _ = (Gen.V m c main_v1 : Vec Ideal S4x2560x512x128 .f32) (ix4 0 ⟨(pageAt m t 1).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 1).toNat * 1 + 1 * 0) ?_ (show (pageAt m t 1).toNat * 1 + 1 * 0 = (pageAt m t 1).toNat by omega)
    exact congrArg (fun w : BitVec 32 => w.toNat * 1 + 1 * 0) (table_at m t 1 _ _)
  | ⟨2, _⟩ =>
    show 0 * 512 + 1 * j.val = j.val
    omega
  | ⟨3, _⟩ =>
    show 0 * 128 + 1 * l.val = l.val
    omega

theorem blk_6 (t : Fin grid0.N) (hp : (pageAt m t 2).toNat < 2560) (j : Fin 512) (l : Fin 128) :
    (Gen.iblk m hO c 6 t : Vec Ideal S1x1x512x128 .f32) (ix4 0 0 j l)
      = (m (c.tc.loc main_arg5) : Vec Ideal S4x2560x128x8x64 .f32) (ix5 0 ⟨(pageAt m t 2).toNat, hp⟩ l ⟨j.val / 64, by omega⟩ ⟨j.val % 64, by omega⟩) := by
  refine (?_ : _ = (Gen.V m c main_v1 : Vec Ideal S4x2560x512x128 .f32) (ix4 0 ⟨(pageAt m t 2).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 2).toNat * 1 + 1 * 0) ?_ (show (pageAt m t 2).toNat * 1 + 1 * 0 = (pageAt m t 2).toNat by omega)
    exact congrArg (fun w : BitVec 32 => w.toNat * 1 + 1 * 0) (table_at m t 2 _ _)
  | ⟨2, _⟩ =>
    show 0 * 512 + 1 * j.val = j.val
    omega
  | ⟨3, _⟩ =>
    show 0 * 128 + 1 * l.val = l.val
    omega

theorem blk_7 (t : Fin grid0.N) (hp : (pageAt m t 3).toNat < 2560) (j : Fin 512) (l : Fin 128) :
    (Gen.iblk m hO c 7 t : Vec Ideal S1x1x512x128 .f32) (ix4 0 0 j l)
      = (m (c.tc.loc main_arg5) : Vec Ideal S4x2560x128x8x64 .f32) (ix5 0 ⟨(pageAt m t 3).toNat, hp⟩ l ⟨j.val / 64, by omega⟩ ⟨j.val % 64, by omega⟩) := by
  refine (?_ : _ = (Gen.V m c main_v1 : Vec Ideal S4x2560x512x128 .f32) (ix4 0 ⟨(pageAt m t 3).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 3).toNat * 1 + 1 * 0) ?_ (show (pageAt m t 3).toNat * 1 + 1 * 0 = (pageAt m t 3).toNat by omega)
    exact congrArg (fun w : BitVec 32 => w.toNat * 1 + 1 * 0) (table_at m t 3 _ _)
  | ⟨2, _⟩ =>
    show 0 * 512 + 1 * j.val = j.val
    omega
  | ⟨3, _⟩ =>
    show 0 * 128 + 1 * l.val = l.val
    omega

theorem blk_8 (t : Fin grid0.N) (hp : (pageAt m t 4).toNat < 2560) (j : Fin 512) (l : Fin 128) :
    (Gen.iblk m hO c 8 t : Vec Ideal S1x1x512x128 .f32) (ix4 0 0 j l)
      = (m (c.tc.loc main_arg5) : Vec Ideal S4x2560x128x8x64 .f32) (ix5 0 ⟨(pageAt m t 4).toNat, hp⟩ l ⟨j.val / 64, by omega⟩ ⟨j.val % 64, by omega⟩) := by
  refine (?_ : _ = (Gen.V m c main_v1 : Vec Ideal S4x2560x512x128 .f32) (ix4 0 ⟨(pageAt m t 4).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 4).toNat * 1 + 1 * 0) ?_ (show (pageAt m t 4).toNat * 1 + 1 * 0 = (pageAt m t 4).toNat by omega)
    exact congrArg (fun w : BitVec 32 => w.toNat * 1 + 1 * 0) (table_at m t 4 _ _)
  | ⟨2, _⟩ =>
    show 0 * 512 + 1 * j.val = j.val
    omega
  | ⟨3, _⟩ =>
    show 0 * 128 + 1 * l.val = l.val
    omega

theorem blk_9 (t : Fin grid0.N) (hp : (pageAt m t 5).toNat < 2560) (j : Fin 512) (l : Fin 128) :
    (Gen.iblk m hO c 9 t : Vec Ideal S1x1x512x128 .f32) (ix4 0 0 j l)
      = (m (c.tc.loc main_arg5) : Vec Ideal S4x2560x128x8x64 .f32) (ix5 0 ⟨(pageAt m t 5).toNat, hp⟩ l ⟨j.val / 64, by omega⟩ ⟨j.val % 64, by omega⟩) := by
  refine (?_ : _ = (Gen.V m c main_v1 : Vec Ideal S4x2560x512x128 .f32) (ix4 0 ⟨(pageAt m t 5).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 5).toNat * 1 + 1 * 0) ?_ (show (pageAt m t 5).toNat * 1 + 1 * 0 = (pageAt m t 5).toNat by omega)
    exact congrArg (fun w : BitVec 32 => w.toNat * 1 + 1 * 0) (table_at m t 5 _ _)
  | ⟨2, _⟩ =>
    show 0 * 512 + 1 * j.val = j.val
    omega
  | ⟨3, _⟩ =>
    show 0 * 128 + 1 * l.val = l.val
    omega

theorem blk_10 (t : Fin grid0.N) (hp : (pageAt m t 6).toNat < 2560) (j : Fin 512) (l : Fin 128) :
    (Gen.iblk m hO c 10 t : Vec Ideal S1x1x512x128 .f32) (ix4 0 0 j l)
      = (m (c.tc.loc main_arg5) : Vec Ideal S4x2560x128x8x64 .f32) (ix5 0 ⟨(pageAt m t 6).toNat, hp⟩ l ⟨j.val / 64, by omega⟩ ⟨j.val % 64, by omega⟩) := by
  refine (?_ : _ = (Gen.V m c main_v1 : Vec Ideal S4x2560x512x128 .f32) (ix4 0 ⟨(pageAt m t 6).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 6).toNat * 1 + 1 * 0) ?_ (show (pageAt m t 6).toNat * 1 + 1 * 0 = (pageAt m t 6).toNat by omega)
    exact congrArg (fun w : BitVec 32 => w.toNat * 1 + 1 * 0) (table_at m t 6 _ _)
  | ⟨2, _⟩ =>
    show 0 * 512 + 1 * j.val = j.val
    omega
  | ⟨3, _⟩ =>
    show 0 * 128 + 1 * l.val = l.val
    omega

theorem blk_11 (t : Fin grid0.N) (hp : (pageAt m t 7).toNat < 2560) (j : Fin 512) (l : Fin 128) :
    (Gen.iblk m hO c 11 t : Vec Ideal S1x1x512x128 .f32) (ix4 0 0 j l)
      = (m (c.tc.loc main_arg5) : Vec Ideal S4x2560x128x8x64 .f32) (ix5 0 ⟨(pageAt m t 7).toNat, hp⟩ l ⟨j.val / 64, by omega⟩ ⟨j.val % 64, by omega⟩) := by
  refine (?_ : _ = (Gen.V m c main_v1 : Vec Ideal S4x2560x512x128 .f32) (ix4 0 ⟨(pageAt m t 7).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 7).toNat * 1 + 1 * 0) ?_ (show (pageAt m t 7).toNat * 1 + 1 * 0 = (pageAt m t 7).toNat by omega)
    exact congrArg (fun w : BitVec 32 => w.toNat * 1 + 1 * 0) (table_at m t 7 _ _)
  | ⟨2, _⟩ =>
    show 0 * 512 + 1 * j.val = j.val
    omega
  | ⟨3, _⟩ =>
    show 0 * 128 + 1 * l.val = l.val
    omega

theorem blk_12 (t : Fin grid0.N) (hp : (pageAt m t 8).toNat < 2560) (j : Fin 512) (l : Fin 128) :
    (Gen.iblk m hO c 12 t : Vec Ideal S1x1x512x128 .f32) (ix4 0 0 j l)
      = (m (c.tc.loc main_arg5) : Vec Ideal S4x2560x128x8x64 .f32) (ix5 0 ⟨(pageAt m t 8).toNat, hp⟩ l ⟨j.val / 64, by omega⟩ ⟨j.val % 64, by omega⟩) := by
  refine (?_ : _ = (Gen.V m c main_v1 : Vec Ideal S4x2560x512x128 .f32) (ix4 0 ⟨(pageAt m t 8).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 8).toNat * 1 + 1 * 0) ?_ (show (pageAt m t 8).toNat * 1 + 1 * 0 = (pageAt m t 8).toNat by omega)
    exact congrArg (fun w : BitVec 32 => w.toNat * 1 + 1 * 0) (table_at m t 8 _ _)
  | ⟨2, _⟩ =>
    show 0 * 512 + 1 * j.val = j.val
    omega
  | ⟨3, _⟩ =>
    show 0 * 128 + 1 * l.val = l.val
    omega

theorem blk_13 (t : Fin grid0.N) (hp : (pageAt m t 9).toNat < 2560) (j : Fin 512) (l : Fin 128) :
    (Gen.iblk m hO c 13 t : Vec Ideal S1x1x512x128 .f32) (ix4 0 0 j l)
      = (m (c.tc.loc main_arg5) : Vec Ideal S4x2560x128x8x64 .f32) (ix5 0 ⟨(pageAt m t 9).toNat, hp⟩ l ⟨j.val / 64, by omega⟩ ⟨j.val % 64, by omega⟩) := by
  refine (?_ : _ = (Gen.V m c main_v1 : Vec Ideal S4x2560x512x128 .f32) (ix4 0 ⟨(pageAt m t 9).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 9).toNat * 1 + 1 * 0) ?_ (show (pageAt m t 9).toNat * 1 + 1 * 0 = (pageAt m t 9).toNat by omega)
    exact congrArg (fun w : BitVec 32 => w.toNat * 1 + 1 * 0) (table_at m t 9 _ _)
  | ⟨2, _⟩ =>
    show 0 * 512 + 1 * j.val = j.val
    omega
  | ⟨3, _⟩ =>
    show 0 * 128 + 1 * l.val = l.val
    omega

theorem blk_14 (t : Fin grid0.N) (hp : (pageAt m t 10).toNat < 2560) (j : Fin 512) (l : Fin 128) :
    (Gen.iblk m hO c 14 t : Vec Ideal S1x1x512x128 .f32) (ix4 0 0 j l)
      = (m (c.tc.loc main_arg5) : Vec Ideal S4x2560x128x8x64 .f32) (ix5 0 ⟨(pageAt m t 10).toNat, hp⟩ l ⟨j.val / 64, by omega⟩ ⟨j.val % 64, by omega⟩) := by
  refine (?_ : _ = (Gen.V m c main_v1 : Vec Ideal S4x2560x512x128 .f32) (ix4 0 ⟨(pageAt m t 10).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 10).toNat * 1 + 1 * 0) ?_ (show (pageAt m t 10).toNat * 1 + 1 * 0 = (pageAt m t 10).toNat by omega)
    exact congrArg (fun w : BitVec 32 => w.toNat * 1 + 1 * 0) (table_at m t 10 _ _)
  | ⟨2, _⟩ =>
    show 0 * 512 + 1 * j.val = j.val
    omega
  | ⟨3, _⟩ =>
    show 0 * 128 + 1 * l.val = l.val
    omega

theorem blk_15 (t : Fin grid0.N) (hp : (pageAt m t 11).toNat < 2560) (j : Fin 512) (l : Fin 128) :
    (Gen.iblk m hO c 15 t : Vec Ideal S1x1x512x128 .f32) (ix4 0 0 j l)
      = (m (c.tc.loc main_arg5) : Vec Ideal S4x2560x128x8x64 .f32) (ix5 0 ⟨(pageAt m t 11).toNat, hp⟩ l ⟨j.val / 64, by omega⟩ ⟨j.val % 64, by omega⟩) := by
  refine (?_ : _ = (Gen.V m c main_v1 : Vec Ideal S4x2560x512x128 .f32) (ix4 0 ⟨(pageAt m t 11).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 11).toNat * 1 + 1 * 0) ?_ (show (pageAt m t 11).toNat * 1 + 1 * 0 = (pageAt m t 11).toNat by omega)
    exact congrArg (fun w : BitVec 32 => w.toNat * 1 + 1 * 0) (table_at m t 11 _ _)
  | ⟨2, _⟩ =>
    show 0 * 512 + 1 * j.val = j.val
    omega
  | ⟨3, _⟩ =>
    show 0 * 128 + 1 * l.val = l.val
    omega

theorem blk_16 (t : Fin grid0.N) (hp : (pageAt m t 12).toNat < 2560) (j : Fin 512) (l : Fin 128) :
    (Gen.iblk m hO c 16 t : Vec Ideal S1x1x512x128 .f32) (ix4 0 0 j l)
      = (m (c.tc.loc main_arg5) : Vec Ideal S4x2560x128x8x64 .f32) (ix5 0 ⟨(pageAt m t 12).toNat, hp⟩ l ⟨j.val / 64, by omega⟩ ⟨j.val % 64, by omega⟩) := by
  refine (?_ : _ = (Gen.V m c main_v1 : Vec Ideal S4x2560x512x128 .f32) (ix4 0 ⟨(pageAt m t 12).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 12).toNat * 1 + 1 * 0) ?_ (show (pageAt m t 12).toNat * 1 + 1 * 0 = (pageAt m t 12).toNat by omega)
    exact congrArg (fun w : BitVec 32 => w.toNat * 1 + 1 * 0) (table_at m t 12 _ _)
  | ⟨2, _⟩ =>
    show 0 * 512 + 1 * j.val = j.val
    omega
  | ⟨3, _⟩ =>
    show 0 * 128 + 1 * l.val = l.val
    omega

theorem blk_17 (t : Fin grid0.N) (hp : (pageAt m t 13).toNat < 2560) (j : Fin 512) (l : Fin 128) :
    (Gen.iblk m hO c 17 t : Vec Ideal S1x1x512x128 .f32) (ix4 0 0 j l)
      = (m (c.tc.loc main_arg5) : Vec Ideal S4x2560x128x8x64 .f32) (ix5 0 ⟨(pageAt m t 13).toNat, hp⟩ l ⟨j.val / 64, by omega⟩ ⟨j.val % 64, by omega⟩) := by
  refine (?_ : _ = (Gen.V m c main_v1 : Vec Ideal S4x2560x512x128 .f32) (ix4 0 ⟨(pageAt m t 13).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 13).toNat * 1 + 1 * 0) ?_ (show (pageAt m t 13).toNat * 1 + 1 * 0 = (pageAt m t 13).toNat by omega)
    exact congrArg (fun w : BitVec 32 => w.toNat * 1 + 1 * 0) (table_at m t 13 _ _)
  | ⟨2, _⟩ =>
    show 0 * 512 + 1 * j.val = j.val
    omega
  | ⟨3, _⟩ =>
    show 0 * 128 + 1 * l.val = l.val
    omega

theorem blk_18 (t : Fin grid0.N) (hp : (pageAt m t 14).toNat < 2560) (j : Fin 512) (l : Fin 128) :
    (Gen.iblk m hO c 18 t : Vec Ideal S1x1x512x128 .f32) (ix4 0 0 j l)
      = (m (c.tc.loc main_arg5) : Vec Ideal S4x2560x128x8x64 .f32) (ix5 0 ⟨(pageAt m t 14).toNat, hp⟩ l ⟨j.val / 64, by omega⟩ ⟨j.val % 64, by omega⟩) := by
  refine (?_ : _ = (Gen.V m c main_v1 : Vec Ideal S4x2560x512x128 .f32) (ix4 0 ⟨(pageAt m t 14).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 14).toNat * 1 + 1 * 0) ?_ (show (pageAt m t 14).toNat * 1 + 1 * 0 = (pageAt m t 14).toNat by omega)
    exact congrArg (fun w : BitVec 32 => w.toNat * 1 + 1 * 0) (table_at m t 14 _ _)
  | ⟨2, _⟩ =>
    show 0 * 512 + 1 * j.val = j.val
    omega
  | ⟨3, _⟩ =>
    show 0 * 128 + 1 * l.val = l.val
    omega

theorem blk_19 (t : Fin grid0.N) (hp : (pageAt m t 15).toNat < 2560) (j : Fin 512) (l : Fin 128) :
    (Gen.iblk m hO c 19 t : Vec Ideal S1x1x512x128 .f32) (ix4 0 0 j l)
      = (m (c.tc.loc main_arg5) : Vec Ideal S4x2560x128x8x64 .f32) (ix5 0 ⟨(pageAt m t 15).toNat, hp⟩ l ⟨j.val / 64, by omega⟩ ⟨j.val % 64, by omega⟩) := by
  refine (?_ : _ = (Gen.V m c main_v1 : Vec Ideal S4x2560x512x128 .f32) (ix4 0 ⟨(pageAt m t 15).toNat, hp⟩ j l)).trans (host_kp m c 0 _ j l)
  unfold Gen.iblk
  refine congrArg (Gen.V m c main_v1 : S4x2560x512x128.Idx → EReal) ?_
  funext a
  apply Fin.ext
  match a with
  | ⟨0, _⟩ => rfl
  | ⟨1, _⟩ =>
    refine Eq.trans (b := (pageAt m t 15).toNat * 1 + 1 * 0) ?_ (show (pageAt m t 15).toNat * 1 + 1 * 0 = (pageAt m t 15).toNat by omega)
    exact congrArg (fun w : BitVec 32 => w.toNat * 1 + 1 * 0) (table_at m t 15 _ _)
  | ⟨2, _⟩ =>
    show 0 * 512 + 1 * j.val = j.val
    omega
  | ⟨3, _⟩ =>
    show 0 * 128 + 1 * l.val = l.val
    omega

theorem blk_20 (t : Fin grid0.N) (hp : (pageAt m t 0).toNat < 2560) (j : Fin 512) (l : Fin 128) :
    (Gen.iblk m hO c 20 t : Vec Ideal S1x1x512x128 .f32) (ix4 0 0 j l)
      = (m (c.tc.loc main_arg6) : Vec Ideal S4x2560x128x8x64 .f32) (ix5 0 ⟨(pageAt m t 0).toNat, hp⟩ l ⟨j.val / 64, by omega⟩ ⟨j.val % 64, by omega⟩) := by
  refine (?_ : _ = (Gen.V m c main_v3 : Vec Ideal S4x2560x512x128 .f32) (ix4 0 ⟨(pageAt m t 0).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 0).toNat * 1 + 1 * 0) ?_ (show (pageAt m t 0).toNat * 1 + 1 * 0 = (pageAt m t 0).toNat by omega)
    exact congrArg (fun w : BitVec 32 => w.toNat * 1 + 1 * 0) (table_at m t 0 _ _)
  | ⟨2, _⟩ =>
    show 0 * 512 + 1 * j.val = j.val
    omega
  | ⟨3, _⟩ =>
    show 0 * 128 + 1 * l.val = l.val
    omega

theorem blk_21 (t : Fin grid0.N) (hp : (pageAt m t 1).toNat < 2560) (j : Fin 512) (l : Fin 128) :
    (Gen.iblk m hO c 21 t : Vec Ideal S1x1x512x128 .f32) (ix4 0 0 j l)
      = (m (c.tc.loc main_arg6) : Vec Ideal S4x2560x128x8x64 .f32) (ix5 0 ⟨(pageAt m t 1).toNat, hp⟩ l ⟨j.val / 64, by omega⟩ ⟨j.val % 64, by omega⟩) := by
  refine (?_ : _ = (Gen.V m c main_v3 : Vec Ideal S4x2560x512x128 .f32) (ix4 0 ⟨(pageAt m t 1).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 1).toNat * 1 + 1 * 0) ?_ (show (pageAt m t 1).toNat * 1 + 1 * 0 = (pageAt m t 1).toNat by omega)
    exact congrArg (fun w : BitVec 32 => w.toNat * 1 + 1 * 0) (table_at m t 1 _ _)
  | ⟨2, _⟩ =>
    show 0 * 512 + 1 * j.val = j.val
    omega
  | ⟨3, _⟩ =>
    show 0 * 128 + 1 * l.val = l.val
    omega

theorem blk_22 (t : Fin grid0.N) (hp : (pageAt m t 2).toNat < 2560) (j : Fin 512) (l : Fin 128) :
    (Gen.iblk m hO c 22 t : Vec Ideal S1x1x512x128 .f32) (ix4 0 0 j l)
      = (m (c.tc.loc main_arg6) : Vec Ideal S4x2560x128x8x64 .f32) (ix5 0 ⟨(pageAt m t 2).toNat, hp⟩ l ⟨j.val / 64, by omega⟩ ⟨j.val % 64, by omega⟩) := by
  refine (?_ : _ = (Gen.V m c main_v3 : Vec Ideal S4x2560x512x128 .f32) (ix4 0 ⟨(pageAt m t 2).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 2).toNat * 1 + 1 * 0) ?_ (show (pageAt m t 2).toNat * 1 + 1 * 0 = (pageAt m t 2).toNat by omega)
    exact congrArg (fun w : BitVec 32 => w.toNat * 1 + 1 * 0) (table_at m t 2 _ _)
  | ⟨2, _⟩ =>
    show 0 * 512 + 1 * j.val = j.val
    omega
  | ⟨3, _⟩ =>
    show 0 * 128 + 1 * l.val = l.val
    omega

theorem blk_23 (t : Fin grid0.N) (hp : (pageAt m t 3).toNat < 2560) (j : Fin 512) (l : Fin 128) :
    (Gen.iblk m hO c 23 t : Vec Ideal S1x1x512x128 .f32) (ix4 0 0 j l)
      = (m (c.tc.loc main_arg6) : Vec Ideal S4x2560x128x8x64 .f32) (ix5 0 ⟨(pageAt m t 3).toNat, hp⟩ l ⟨j.val / 64, by omega⟩ ⟨j.val % 64, by omega⟩) := by
  refine (?_ : _ = (Gen.V m c main_v3 : Vec Ideal S4x2560x512x128 .f32) (ix4 0 ⟨(pageAt m t 3).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 3).toNat * 1 + 1 * 0) ?_ (show (pageAt m t 3).toNat * 1 + 1 * 0 = (pageAt m t 3).toNat by omega)
    exact congrArg (fun w : BitVec 32 => w.toNat * 1 + 1 * 0) (table_at m t 3 _ _)
  | ⟨2, _⟩ =>
    show 0 * 512 + 1 * j.val = j.val
    omega
  | ⟨3, _⟩ =>
    show 0 * 128 + 1 * l.val = l.val
    omega

theorem blk_24 (t : Fin grid0.N) (hp : (pageAt m t 4).toNat < 2560) (j : Fin 512) (l : Fin 128) :
    (Gen.iblk m hO c 24 t : Vec Ideal S1x1x512x128 .f32) (ix4 0 0 j l)
      = (m (c.tc.loc main_arg6) : Vec Ideal S4x2560x128x8x64 .f32) (ix5 0 ⟨(pageAt m t 4).toNat, hp⟩ l ⟨j.val / 64, by omega⟩ ⟨j.val % 64, by omega⟩) := by
  refine (?_ : _ = (Gen.V m c main_v3 : Vec Ideal S4x2560x512x128 .f32) (ix4 0 ⟨(pageAt m t 4).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 4).toNat * 1 + 1 * 0) ?_ (show (pageAt m t 4).toNat * 1 + 1 * 0 = (pageAt m t 4).toNat by omega)
    exact congrArg (fun w : BitVec 32 => w.toNat * 1 + 1 * 0) (table_at m t 4 _ _)
  | ⟨2, _⟩ =>
    show 0 * 512 + 1 * j.val = j.val
    omega
  | ⟨3, _⟩ =>
    show 0 * 128 + 1 * l.val = l.val
    omega

theorem blk_25 (t : Fin grid0.N) (hp : (pageAt m t 5).toNat < 2560) (j : Fin 512) (l : Fin 128) :
    (Gen.iblk m hO c 25 t : Vec Ideal S1x1x512x128 .f32) (ix4 0 0 j l)
      = (m (c.tc.loc main_arg6) : Vec Ideal S4x2560x128x8x64 .f32) (ix5 0 ⟨(pageAt m t 5).toNat, hp⟩ l ⟨j.val / 64, by omega⟩ ⟨j.val % 64, by omega⟩) := by
  refine (?_ : _ = (Gen.V m c main_v3 : Vec Ideal S4x2560x512x128 .f32) (ix4 0 ⟨(pageAt m t 5).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 5).toNat * 1 + 1 * 0) ?_ (show (pageAt m t 5).toNat * 1 + 1 * 0 = (pageAt m t 5).toNat by omega)
    exact congrArg (fun w : BitVec 32 => w.toNat * 1 + 1 * 0) (table_at m t 5 _ _)
  | ⟨2, _⟩ =>
    show 0 * 512 + 1 * j.val = j.val
    omega
  | ⟨3, _⟩ =>
    show 0 * 128 + 1 * l.val = l.val
    omega

theorem blk_26 (t : Fin grid0.N) (hp : (pageAt m t 6).toNat < 2560) (j : Fin 512) (l : Fin 128) :
    (Gen.iblk m hO c 26 t : Vec Ideal S1x1x512x128 .f32) (ix4 0 0 j l)
      = (m (c.tc.loc main_arg6) : Vec Ideal S4x2560x128x8x64 .f32) (ix5 0 ⟨(pageAt m t 6).toNat, hp⟩ l ⟨j.val / 64, by omega⟩ ⟨j.val % 64, by omega⟩) := by
  refine (?_ : _ = (Gen.V m c main_v3 : Vec Ideal S4x2560x512x128 .f32) (ix4 0 ⟨(pageAt m t 6).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 6).toNat * 1 + 1 * 0) ?_ (show (pageAt m t 6).toNat * 1 + 1 * 0 = (pageAt m t 6).toNat by omega)
    exact congrArg (fun w : BitVec 32 => w.toNat * 1 + 1 * 0) (table_at m t 6 _ _)
  | ⟨2, _⟩ =>
    show 0 * 512 + 1 * j.val = j.val
    omega
  | ⟨3, _⟩ =>
    show 0 * 128 + 1 * l.val = l.val
    omega

theorem blk_27 (t : Fin grid0.N) (hp : (pageAt m t 7).toNat < 2560) (j : Fin 512) (l : Fin 128) :
    (Gen.iblk m hO c 27 t : Vec Ideal S1x1x512x128 .f32) (ix4 0 0 j l)
      = (m (c.tc.loc main_arg6) : Vec Ideal S4x2560x128x8x64 .f32) (ix5 0 ⟨(pageAt m t 7).toNat, hp⟩ l ⟨j.val / 64, by omega⟩ ⟨j.val % 64, by omega⟩) := by
  refine (?_ : _ = (Gen.V m c main_v3 : Vec Ideal S4x2560x512x128 .f32) (ix4 0 ⟨(pageAt m t 7).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 7).toNat * 1 + 1 * 0) ?_ (show (pageAt m t 7).toNat * 1 + 1 * 0 = (pageAt m t 7).toNat by omega)
    exact congrArg (fun w : BitVec 32 => w.toNat * 1 + 1 * 0) (table_at m t 7 _ _)
  | ⟨2, _⟩ =>
    show 0 * 512 + 1 * j.val = j.val
    omega
  | ⟨3, _⟩ =>
    show 0 * 128 + 1 * l.val = l.val
    omega

theorem blk_28 (t : Fin grid0.N) (hp : (pageAt m t 8).toNat < 2560) (j : Fin 512) (l : Fin 128) :
    (Gen.iblk m hO c 28 t : Vec Ideal S1x1x512x128 .f32) (ix4 0 0 j l)
      = (m (c.tc.loc main_arg6) : Vec Ideal S4x2560x128x8x64 .f32) (ix5 0 ⟨(pageAt m t 8).toNat, hp⟩ l ⟨j.val / 64, by omega⟩ ⟨j.val % 64, by omega⟩) := by
  refine (?_ : _ = (Gen.V m c main_v3 : Vec Ideal S4x2560x512x128 .f32) (ix4 0 ⟨(pageAt m t 8).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 8).toNat * 1 + 1 * 0) ?_ (show (pageAt m t 8).toNat * 1 + 1 * 0 = (pageAt m t 8).toNat by omega)
    exact congrArg (fun w : BitVec 32 => w.toNat * 1 + 1 * 0) (table_at m t 8 _ _)
  | ⟨2, _⟩ =>
    show 0 * 512 + 1 * j.val = j.val
    omega
  | ⟨3, _⟩ =>
    show 0 * 128 + 1 * l.val = l.val
    omega

theorem blk_29 (t : Fin grid0.N) (hp : (pageAt m t 9).toNat < 2560) (j : Fin 512) (l : Fin 128) :
    (Gen.iblk m hO c 29 t : Vec Ideal S1x1x512x128 .f32) (ix4 0 0 j l)
      = (m (c.tc.loc main_arg6) : Vec Ideal S4x2560x128x8x64 .f32) (ix5 0 ⟨(pageAt m t 9).toNat, hp⟩ l ⟨j.val / 64, by omega⟩ ⟨j.val % 64, by omega⟩) := by
  refine (?_ : _ = (Gen.V m c main_v3 : Vec Ideal S4x2560x512x128 .f32) (ix4 0 ⟨(pageAt m t 9).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 9).toNat * 1 + 1 * 0) ?_ (show (pageAt m t 9).toNat * 1 + 1 * 0 = (pageAt m t 9).toNat by omega)
    exact congrArg (fun w : BitVec 32 => w.toNat * 1 + 1 * 0) (table_at m t 9 _ _)
  | ⟨2, _⟩ =>
    show 0 * 512 + 1 * j.val = j.val
    omega
  | ⟨3, _⟩ =>
    show 0 * 128 + 1 * l.val = l.val
    omega

theorem blk_30 (t : Fin grid0.N) (hp : (pageAt m t 10).toNat < 2560) (j : Fin 512) (l : Fin 128) :
    (Gen.iblk m hO c 30 t : Vec Ideal S1x1x512x128 .f32) (ix4 0 0 j l)
      = (m (c.tc.loc main_arg6) : Vec Ideal S4x2560x128x8x64 .f32) (ix5 0 ⟨(pageAt m t 10).toNat, hp⟩ l ⟨j.val / 64, by omega⟩ ⟨j.val % 64, by omega⟩) := by
  refine (?_ : _ = (Gen.V m c main_v3 : Vec Ideal S4x2560x512x128 .f32) (ix4 0 ⟨(pageAt m t 10).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 10).toNat * 1 + 1 * 0) ?_ (show (pageAt m t 10).toNat * 1 + 1 * 0 = (pageAt m t 10).toNat by omega)
    exact congrArg (fun w : BitVec 32 => w.toNat * 1 + 1 * 0) (table_at m t 10 _ _)
  | ⟨2, _⟩ =>
    show 0 * 512 + 1 * j.val = j.val
    omega
  | ⟨3, _⟩ =>
    show 0 * 128 + 1 * l.val = l.val
    omega

theorem blk_31 (t : Fin grid0.N) (hp : (pageAt m t 11).toNat < 2560) (j : Fin 512) (l : Fin 128) :
    (Gen.iblk m hO c 31 t : Vec Ideal S1x1x512x128 .f32) (ix4 0 0 j l)
      = (m (c.tc.loc main_arg6) : Vec Ideal S4x2560x128x8x64 .f32) (ix5 0 ⟨(pageAt m t 11).toNat, hp⟩ l ⟨j.val / 64, by omega⟩ ⟨j.val % 64, by omega⟩) := by
  refine (?_ : _ = (Gen.V m c main_v3 : Vec Ideal S4x2560x512x128 .f32) (ix4 0 ⟨(pageAt m t 11).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 11).toNat * 1 + 1 * 0) ?_ (show (pageAt m t 11).toNat * 1 + 1 * 0 = (pageAt m t 11).toNat by omega)
    exact congrArg (fun w : BitVec 32 => w.toNat * 1 + 1 * 0) (table_at m t 11 _ _)
  | ⟨2, _⟩ =>
    show 0 * 512 + 1 * j.val = j.val
    omega
  | ⟨3, _⟩ =>
    show 0 * 128 + 1 * l.val = l.val
    omega

theorem blk_32 (t : Fin grid0.N) (hp : (pageAt m t 12).toNat < 2560) (j : Fin 512) (l : Fin 128) :
    (Gen.iblk m hO c 32 t : Vec Ideal S1x1x512x128 .f32) (ix4 0 0 j l)
      = (m (c.tc.loc main_arg6) : Vec Ideal S4x2560x128x8x64 .f32) (ix5 0 ⟨(pageAt m t 12).toNat, hp⟩ l ⟨j.val / 64, by omega⟩ ⟨j.val % 64, by omega⟩) := by
  refine (?_ : _ = (Gen.V m c main_v3 : Vec Ideal S4x2560x512x128 .f32) (ix4 0 ⟨(pageAt m t 12).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 12).toNat * 1 + 1 * 0) ?_ (show (pageAt m t 12).toNat * 1 + 1 * 0 = (pageAt m t 12).toNat by omega)
    exact congrArg (fun w : BitVec 32 => w.toNat * 1 + 1 * 0) (table_at m t 12 _ _)
  | ⟨2, _⟩ =>
    show 0 * 512 + 1 * j.val = j.val
    omega
  | ⟨3, _⟩ =>
    show 0 * 128 + 1 * l.val = l.val
    omega

theorem blk_33 (t : Fin grid0.N) (hp : (pageAt m t 13).toNat < 2560) (j : Fin 512) (l : Fin 128) :
    (Gen.iblk m hO c 33 t : Vec Ideal S1x1x512x128 .f32) (ix4 0 0 j l)
      = (m (c.tc.loc main_arg6) : Vec Ideal S4x2560x128x8x64 .f32) (ix5 0 ⟨(pageAt m t 13).toNat, hp⟩ l ⟨j.val / 64, by omega⟩ ⟨j.val % 64, by omega⟩) := by
  refine (?_ : _ = (Gen.V m c main_v3 : Vec Ideal S4x2560x512x128 .f32) (ix4 0 ⟨(pageAt m t 13).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 13).toNat * 1 + 1 * 0) ?_ (show (pageAt m t 13).toNat * 1 + 1 * 0 = (pageAt m t 13).toNat by omega)
    exact congrArg (fun w : BitVec 32 => w.toNat * 1 + 1 * 0) (table_at m t 13 _ _)
  | ⟨2, _⟩ =>
    show 0 * 512 + 1 * j.val = j.val
    omega
  | ⟨3, _⟩ =>
    show 0 * 128 + 1 * l.val = l.val
    omega

theorem blk_34 (t : Fin grid0.N) (hp : (pageAt m t 14).toNat < 2560) (j : Fin 512) (l : Fin 128) :
    (Gen.iblk m hO c 34 t : Vec Ideal S1x1x512x128 .f32) (ix4 0 0 j l)
      = (m (c.tc.loc main_arg6) : Vec Ideal S4x2560x128x8x64 .f32) (ix5 0 ⟨(pageAt m t 14).toNat, hp⟩ l ⟨j.val / 64, by omega⟩ ⟨j.val % 64, by omega⟩) := by
  refine (?_ : _ = (Gen.V m c main_v3 : Vec Ideal S4x2560x512x128 .f32) (ix4 0 ⟨(pageAt m t 14).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 14).toNat * 1 + 1 * 0) ?_ (show (pageAt m t 14).toNat * 1 + 1 * 0 = (pageAt m t 14).toNat by omega)
    exact congrArg (fun w : BitVec 32 => w.toNat * 1 + 1 * 0) (table_at m t 14 _ _)
  | ⟨2, _⟩ =>
    show 0 * 512 + 1 * j.val = j.val
    omega
  | ⟨3, _⟩ =>
    show 0 * 128 + 1 * l.val = l.val
    omega

theorem blk_35 (t : Fin grid0.N) (hp : (pageAt m t 15).toNat < 2560) (j : Fin 512) (l : Fin 128) :
    (Gen.iblk m hO c 35 t : Vec Ideal S1x1x512x128 .f32) (ix4 0 0 j l)
      = (m (c.tc.loc main_arg6) : Vec Ideal S4x2560x128x8x64 .f32) (ix5 0 ⟨(pageAt m t 15).toNat, hp⟩ l ⟨j.val / 64, by omega⟩ ⟨j.val % 64, by omega⟩) := by
  refine (?_ : _ = (Gen.V m c main_v3 : Vec Ideal S4x2560x512x128 .f32) (ix4 0 ⟨(pageAt m t 15).toNat, hp⟩ j l)).trans (host_vp m c 0 _ j l)
  unfold Gen.iblk
  refine congrArg (Gen.V m c main_v3 : S4x2560x512x128.Idx → EReal) ?_
  funext a
  apply Fin.ext
  match a with
  | ⟨0, _⟩ => rfl
  | ⟨1, _⟩ =>
    refine Eq.trans (b := (pageAt m t 15).toNat * 1 + 1 * 0) ?_ (show (pageAt m t 15).toNat * 1 + 1 * 0 = (pageAt m t 15).toNat by omega)
    exact congrArg (fun w : BitVec 32 => w.toNat * 1 + 1 * 0) (table_at m t 15 _ _)
  | ⟨2, _⟩ =>
    show 0 * 512 + 1 * j.val = j.val
    omega
  | ⟨3, _⟩ =>
    show 0 * 128 + 1 * l.val = l.val
    omega

end Cert.Proof

end
-- ==== Proof.SaRef.lean ====
module

public import proofs.«01_k».proof.Proof.Gen.SampleAttnRefIdeal.Read
public import proofs.«01_k».proof.Proof.SaEq
public import Idealize.ShloMosaic.Lib.Pointwise

@[expose] public section

set_option maxRecDepth 16384

noncomputable section

namespace Cert.Proof

open Idealize.ShloMosaic Idealize.ShloMosaic.TcCoe Idealize.ShloMosaic.Pointwise Idealize.ShloMosaic.StableHlo
open Cert.SampleAttnRefIdeal Cert.SampleAttnRefIdeal.Read

/-- The gather of whole pages: page `table[b, n]`, its number read signed and clamped into the pool. -/
theorem gather_pages (x : S2560x128x8x64.Idx → EReal) (i : IVec S128x16x1 32) (b : Fin 128) (n : Fin 16) (l : Fin 128)
    (h : Fin 8) (d : Fin 64) :
    Host.gather gather_S2560x128x8x64_S128x16x1_S128x16x128x8x64_234_0_n_n_0_2_1128864 x i (ix5 b n l h d)
      = x (ix4 ⟨min (i (ix3 b n 0)).toInt.toNat 2559, by omega⟩ l h d) := by
  unfold Host.gather
  congr 1
  funext a
  refine Fin.ext ?_
  generalize hG : gather_S2560x128x8x64_S128x16x1_S128x16x128x8x64_234_0_n_n_0_2_1128864 = G
  show G.start (ix5 b n l h d) i a + G.batchCoord (ix5 b n l h d) a + G.offCoord (ix5 b n l h d) a = _
  subst hG
  rw [GatherDims.batchCoord_eq_zero _ _ _ (fun h => by cases h)]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S2560x128x8x64.rank) ∈ gather_S2560x128x8x64_S128x16x1_S128x16x128x8x64_234_0_n_n_0_2_1128864.startIndexMap from List.mem_singleton.mpr rfl)]
    have hsi : ∀ k, (gather_S2560x128x8x64_S128x16x1_S128x16x128x8x64_234_0_n_n_0_2_1128864).siIdx (ix5 b n l h d) k = ix3 b n 0 := by
      intro k
      funext c; refine Fin.ext ?_
      match c with
      | ⟨0, _⟩ => rfl
      | ⟨1, _⟩ => rfl
      | ⟨2, _⟩ => show k.val = 0; have := k.isLt; exact Nat.lt_one_iff.mp this
    rw [hsi]
    rfl
  | ⟨1, _⟩ =>
    unfold GatherDims.start GatherDims.offCoord
    rw [dif_neg (show ¬ (⟨1, by decide⟩ : Fin S2560x128x8x64.rank) ∈ gather_S2560x128x8x64_S128x16x1_S128x16x128x8x64_234_0_n_n_0_2_1128864.startIndexMap from (by decide : ¬ (1 : Fin 4) ∈ [(0 : Fin 4)]))]
    rw [dif_pos ((GatherDims.mem_sKept _ _).mpr ⟨(by decide : ¬ (1 : Fin 4) ∈ [(0 : Fin 4)]), (by decide : ¬ (1 : Fin 4) ∈ ([] : List (Fin 4)))⟩)]
    simp only [Nat.zero_add]
    rfl
  | ⟨2, _⟩ =>
    unfold GatherDims.start GatherDims.offCoord
    rw [dif_neg (show ¬ (⟨2, by decide⟩ : Fin S2560x128x8x64.rank) ∈ gather_S2560x128x8x64_S128x16x1_S128x16x128x8x64_234_0_n_n_0_2_1128864.startIndexMap from (by decide : ¬ (2 : Fin 4) ∈ [(0 : Fin 4)]))]
    rw [dif_pos ((GatherDims.mem_sKept _ _).mpr ⟨(by decide : ¬ (2 : Fin 4) ∈ [(0 : Fin 4)]), (by decide : ¬ (2 : Fin 4) ∈ ([] : List (Fin 4)))⟩)]
    simp only [Nat.zero_add]
    rfl
  | ⟨3, _⟩ =>
    unfold GatherDims.start GatherDims.offCoord
    rw [dif_neg (show ¬ (⟨3, by decide⟩ : Fin S2560x128x8x64.rank) ∈ gather_S2560x128x8x64_S128x16x1_S128x16x128x8x64_234_0_n_n_0_2_1128864.startIndexMap from (by decide : ¬ (3 : Fin 4) ∈ [(0 : Fin 4)]))]
    rw [dif_pos ((GatherDims.mem_sKept _ _).mpr ⟨(by decide : ¬ (3 : Fin 4) ∈ [(0 : Fin 4)]), (by decide : ¬ (3 : Fin 4) ∈ ([] : List (Fin 4)))⟩)]
    simp only [Nat.zero_add]
    rfl

/-- A page number in range is not wrapped. -/
theorem wrap_page (w : BitVec 32) (hw : w.toNat < 2560) :
    Scalar.select (IntOp.cmpi .slt w 0#32) (IntOp.addi w 2560#32) w = w := by
  have : IntOp.cmpi .slt w 0#32 = 0#1 := by
    have h : ¬ w.toInt < 0 := by rw [BitVec.toInt_eq_toNat_cond]; split <;> omega
    simp [IntOp.cmpi, BitVec.slt_eq_decide, h]
  rw [this]
  rfl

/-- A page number in range, read signed and clamped, is itself. -/
theorem clamp_page (w : BitVec 32) (hw : w.toNat < 2560) : min w.toInt.toNat 2559 = w.toNat := by
  rw [BitVec.toInt_eq_toNat_cond, if_pos (by omega)]
  simp only [Int.toNat_natCast]
  omega

/-- The key of a position: of the cache's page that the table names, or the new one. -/
def rowOf (x0 : S128x16.Idx → BitVec 32) (x2 : S128x512.Idx → EReal) (x5 : S4x2560x128x8x64.Idx → EReal)
    (hx : ∀ i, (x0 i).toNat < 2560) (b : Fin 128) (t : Fin 2049) (c : Fin 512) : EReal :=
  if h : t.val < 2048 then
    x5 (ix5 0 ⟨(x0 (ix2 b ⟨t.val / 128, by omega⟩)).toNat, hx _⟩ ⟨t.val % 128, by omega⟩ ⟨c.val / 64, by omega⟩ ⟨c.val % 64, by omega⟩)
  else x2 (ix2 b c)

theorem v2_at (x5 : S4x2560x128x8x64.Idx → EReal) (p : Fin 2560) (l : Fin 128) (h : Fin 8) (d : Fin 64) :
    val_main_v2 (F := Ideal) x5 (ix4 p l h d) = x5 (ix5 0 p l h d) := by
  unfold val_main_v2 val_main_v1
  pointwise

theorem v8_at (x0 : S128x16.Idx → BitVec 32) (hx : ∀ i, (x0 i).toNat < 2560) (b : Fin 128) (n : Fin 16) :
    val_main_v8 (F := Ideal) x0 (ix3 b n 0) = x0 (ix2 b n) := by
  refine Eq.trans ?_ (wrap_page _ (hx (ix2 b n)))
  unfold val_main_v8 val_main_v7 val_main_v6 val_main_v5 val_main_v4 val_main_v3 val_main_c val_main_c_0
  pointwise

theorem v10_at (x0 : S128x16.Idx → BitVec 32) (x5 : S4x2560x128x8x64.Idx → EReal) (b : Fin 128) (t : Fin 2048) (h : Fin 8) (d : Fin 64) :
    val_main_v10 (F := Ideal) x0 x5 (ix4 b t h d) = val_main_v9 (F := Ideal) x0 x5 (ix5 b ⟨t.val / 128, by omega⟩ ⟨t.val % 128, by omega⟩ h d) := by
  unfold val_main_v10
  generalize val_main_v9 (F := Ideal) x0 x5 = y
  pointwise

theorem v9_at (x0 : S128x16.Idx → BitVec 32) (x5 : S4x2560x128x8x64.Idx → EReal) (hx : ∀ i, (x0 i).toNat < 2560) (b : Fin 128) (n : Fin 16) (l : Fin 128) (h : Fin 8) (d : Fin 64) :
    val_main_v9 (F := Ideal) x0 x5 (ix5 b n l h d) = x5 (ix5 0 ⟨(x0 (ix2 b n)).toNat, hx _⟩ l h d) := by
  unfold val_main_v9
  rw [gather_pages, v2_at]
  congr 2
  refine Fin.ext ?_
  show min (val_main_v8 (F := Ideal) x0 (ix3 b n 0)).toInt.toNat 2559 = _
  rw [v8_at x0 hx, clamp_page _ (hx _)]

theorem v11_at (x2 : S128x512.Idx → EReal) (b : Fin 128) (h : Fin 8) (d : Fin 64) :
    val_main_v11 (F := Ideal) x2 (ix4 b 0 h d) = x2 (ix2 b ⟨64 * h.val + d.val, by omega⟩) := by
  unfold val_main_v11
  pointwise
  congr 2
  refine Fin.ext ?_
  show h.val * 64 + d.val = 64 * h.val + d.val
  omega

/-- The reference's keys of a sequence: the rows of its pages, then the new one. -/
theorem v12_at (x0 : S128x16.Idx → BitVec 32) (x2 : S128x512.Idx → EReal) (x5 : S4x2560x128x8x64.Idx → EReal) (hx : ∀ i, (x0 i).toNat < 2560) (b : Fin 128) (t : Fin 2049) (h : Fin 8) (d : Fin 64) :
    val_main_v12 (F := Ideal) x0 x2 x5 (ix4 b t h d) = rowOf x0 x2 x5 hx b t ⟨64 * h.val + d.val, by omega⟩ := by
  unfold rowOf val_main_v12
  by_cases ht : t.val < 2048
  · rw [dif_pos ht]
    refine (concatenate_pair_apply_left (t := S128x2049x8x64) (s₁ := S128x2048x8x64) (s₂ := S128x1x8x64) 1 _ _ _ (ix4 b t h d) rfl (ix4 b (⟨t.val, ht⟩ : Fin 2048) h d)
      (fun a => match a with | ⟨0, _⟩ => rfl | ⟨1, _⟩ => rfl | ⟨2, _⟩ => rfl | ⟨3, _⟩ => rfl)).trans ?_
    rw [v10_at, v9_at x0 x5 hx]
    congr 2
    · exact Fin.ext (by show h.val = (64 * h.val + d.val) / 64; omega)
    · exact Fin.ext (by show d.val = (64 * h.val + d.val) % 64; omega)
  · rw [dif_neg ht]
    refine (concatenate_pair_apply_right (t := S128x2049x8x64) (s₁ := S128x2048x8x64) (s₂ := S128x1x8x64) 1 _ _ _ (ix4 b t h d) rfl rfl (ix4 b (0 : Fin 1) h d)
      (fun a => match a with | ⟨0, _⟩ => fun _ => rfl | ⟨1, _⟩ => fun hn => absurd rfl hn | ⟨2, _⟩ => fun _ => rfl | ⟨3, _⟩ => fun _ => rfl)
      (by show 0 + 2048 = t.val; omega)).trans ?_
    rw [v11_at]

/-- The values' array is the keys' function of the values' arguments. -/
theorem v24_at (x0 : S128x16.Idx → BitVec 32) (x3 : S128x512.Idx → EReal) (x6 : S4x2560x128x8x64.Idx → EReal) (hx : ∀ i, (x0 i).toNat < 2560) (b : Fin 128) (t : Fin 2049) (h : Fin 8) (d : Fin 64) :
    val_main_v24 (F := Ideal) x0 x3 x6 (ix4 b t h d) = rowOf x0 x3 x6 hx b t ⟨64 * h.val + d.val, by omega⟩ :=
  (show _ = val_main_v12 (F := Ideal) x0 x3 x6 (ix4 b t h d) from rfl).trans (v12_at x0 x3 x6 hx b t h d)

/-- One logit. -/
theorem v50_at (x0 : S128x16.Idx → BitVec 32) (x1 x2 : S128x512.Idx → EReal) (x5 : S4x2560x128x8x64.Idx → EReal) (hx : ∀ i, (x0 i).toNat < 2560) (b : Fin 128) (h : Fin 8) (t : Fin 2049) :
    val_main_v50 (F := Ideal) x0 x1 x2 x5 (ix3 b h t)
      = (∑ d : Fin 64, x1 (ix2 b ⟨64 * h.val + d.val, by omega⟩) * rowOf x0 x2 x5 hx b t ⟨64 * h.val + d.val, by omega⟩) * ((1 / 8 : ℝ) : EReal)
        - Ideal.exp (((Real.log 2 : ℝ) : EReal) * ((-8 * (h.val + 1) / 8 : ℝ) : EReal)) * (((2048 - t.val : ℤ) : ℝ) : EReal) := by
  have h8 : Ideal.ofBits .f32 3238002688#32 = ((-8 : ℝ) : EReal) := by
    simp [Ideal.ofBits, Ideal.ieee, -EReal.coe_mul]; norm_num
  have h8' : Ideal.ofBits .f32 1090519040#32 = ((8 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; norm_num
  have hq : Ideal.ofBits .f32 1040187392#32 = ((1 / 8 : ℝ) : EReal) := by
    simp [Ideal.ofBits, Ideal.ieee, -EReal.coe_mul]; norm_num
  have hk : ∀ h : Fin 8, (IntOp.addi 1#32 (BitVec.ofNat 32 h.val)).toInt = (h.val : ℤ) + 1 := by decide
  have hs : (FloatOps.sitofp (F := Ideal) FTy.f32 (IntOp.addi 1#32 (BitVec.ofNat 32 h.val))) = (((h.val : ℝ) + 1 : ℝ) : EReal) := by
    show ((((IntOp.addi 1#32 (BitVec.ofNat 32 h.val)).toInt : ℤ) : ℝ) : EReal) = _
    rw [hk]; push_cast; rfl
  have hd : (IntOp.subi 2048#32 (BitVec.ofNat 32 t.val)).toInt = 2048 - (t.val : ℤ) := by
    unfold IntOp.subi
    have h1 : (BitVec.ofNat 32 t.val).toNat = t.val := by
      rw [BitVec.toNat_ofNat]; omega
    rw [BitVec.toInt_eq_toNat_cond, BitVec.toNat_sub, h1]
    simp only [BitVec.toNat_ofNat]
    split <;> omega
  have ht : (FloatOps.sitofp (F := Ideal) FTy.f32 (IntOp.subi 2048#32 (BitVec.ofNat 32 t.val))) = (((2048 - t.val : ℤ) : ℝ) : EReal) := by
    show ((((IntOp.subi 2048#32 (BitVec.ofNat 32 t.val)).toInt : ℤ) : ℝ) : EReal) = _
    rw [hd]
  have hy : ∀ d, val_main_v12 (F := Ideal) x0 x2 x5 (ix4 b t h d) = rowOf x0 x2 x5 hx b t ⟨64 * h.val + d.val, by omega⟩ :=
    fun d => v12_at x0 x2 x5 hx b t h d
  unfold val_main_v50 val_main_v49 val_main_v27 val_main_v25 val_main_v0 val_main_v26 val_main_cst val_main_v48 val_main_v47 val_main_v45 val_main_v46 val_main_v43 val_main_v44 val_main_v42 val_main_v41 val_main_v40 val_main_c_7 val_main_v39
    val_main_v38 val_main_v37 val_main_v36 val_main_v35 val_main_v34 val_main_cst_6 val_main_v33 val_main_cst_5 val_main_v32 val_main_v31 val_main_v30 val_main_c_4 val_main_v29 val_main_v28 val_main_cst_3
  generalize val_main_v12 (F := Ideal) x0 x2 x5 = y at hy
  pointwise
  rw [hq, ht, hs, h8, h8', h2, Ideal.log_coe, if_neg (by norm_num), Ideal.div_coe (by norm_num), ← EReal.coe_mul, ← EReal.coe_mul]
  have hc : (-8 * ((h.val : ℝ) + 1)) * (1 / 8) = -8 * ((h.val : ℝ) + 1) / 8 := by ring
  rw [hc]
  congr 2
  refine Finset.sum_congr rfl fun d _ => ?_
  rw [hy]
  congr 2
  exact congrArg (ix2 b) (Fin.ext (Nat.add_right_cancel_iff.mpr (Nat.mul_comm _ _)))

/-- The masked logits. -/
theorem v54_at (x0 : S128x16.Idx → BitVec 32) (x1 x2 : S128x512.Idx → EReal) (x4 : S128x2049.Idx → BitVec 32) (x5 : S4x2560x128x8x64.Idx → EReal) (b : Fin 128) (h : Fin 8) (t : Fin 2049) :
    val_main_v54 (F := Ideal) x0 x1 x2 x4 x5 (ix3 b h t)
      = if 0 < (x4 (ix2 b t)).toInt then val_main_v50 (F := Ideal) x0 x1 x2 x5 (ix3 b h t) else ⊥ := by
  have hb : Ideal.ofBits .f32 4286578688#32 = ⊥ := by simp [Ideal.ofBits, Ideal.ieee]
  have hc : ∀ w : BitVec 32, IntOp.cmpi .sgt w 0#32 = if 0 < w.toInt then 1#1 else 0#1 := by
    intro w
    by_cases hw : 0 < w.toInt <;> simp [IntOp.cmpi, BitVec.slt_eq_decide, hw]
  unfold val_main_v54
  generalize val_main_v50 (F := Ideal) x0 x1 x2 x5 = y
  unfold val_main_call0_v1 val_main_call0_v2 val_main_call0_v0 val_main_cst_9 val_main_v53 val_main_v52 val_main_c_8 val_main_v51
  pointwise
  rw [hc]
  show Scalar.select _ _ (Ideal.ofBits FTy.f32 4286578688#32) = _
  rw [hb]
  split <;> rfl

/-- The greatest entry of a row. -/
theorem rowMax_at (y : S128x8x2049.Idx → EReal) (i : S_.Idx → EReal) (H : S128x8x2049.ReducesTo [2] S128x8) (hS : 0 < S_.numel) (b : Fin 128) (h : Fin 8) :
    Host.reduce max y i H hS (ix2 b h) = (Finset.univ : Finset (Fin 2049)).fold max (i (Shape.Idx.first hS)) fun t => y (ix3 b h t) := by
  rw [Host.reduce_eq_fold, Shape.ReducesTo.fold_fiber_r3_a2]
  rfl

/-- The row's maximum. -/
theorem v57_at (x0 : S128x16.Idx → BitVec 32) (x1 x2 : S128x512.Idx → EReal) (x4 : S128x2049.Idx → BitVec 32) (x5 : S4x2560x128x8x64.Idx → EReal) (b : Fin 128) (h : Fin 8) :
    val_main_v57 (F := Ideal) x0 x1 x2 x4 x5 (ix2 b h)
      = max ⊥ ((Finset.univ : Finset (Fin 2049)).fold max ⊥ fun t => val_main_v54 (F := Ideal) x0 x1 x2 x4 x5 (ix3 b h t)) := by
  have hb : Ideal.ofBits .f32 4286578688#32 = ⊥ := by simp [Ideal.ofBits, Ideal.ieee]
  have hm : (FloatOps.maximumf : Ideal .f32 → Ideal .f32 → Ideal .f32) = (max : EReal → EReal → EReal) :=
    Ideal.maximumf_eq_max
  rw [val_main_v57_apply]
  unfold val_main_v55
  rw [hm]
  refine congrArg₂ max ?_ ?_
  · rw [val_main_v56_apply, val_main_cst_11_apply]; exact hb
  · refine (rowMax_at _ _ _ _ b h).trans ?_
    rw [val_main_cst_10_apply]
    rw [show (FloatOps.ofBits .f32 0xFF800000#32 : Ideal .f32) = (⊥ : EReal) from hb]

/-- The result. -/
theorem v68_at (x0 : S128x16.Idx → BitVec 32) (x1 x2 x3 : S128x512.Idx → EReal) (x4 : S128x2049.Idx → BitVec 32) (x5 x6 : S4x2560x128x8x64.Idx → EReal) (hx : ∀ i, (x0 i).toNat < 2560) (b : Fin 128) (c : Fin 512) (z : Fin 2049 → EReal)
    (hz : ∀ t, z t = val_main_v54 (F := Ideal) x0 x1 x2 x4 x5 (ix3 b ⟨c.val / 64, by omega⟩ t)) :
    val_main_v68 (F := Ideal) x0 x1 x2 x3 x4 x5 x6 (ix3 b 0 c)
      = ∑ t, Ideal.div (Ideal.exp (z t - max ⊥ ((Finset.univ : Finset (Fin 2049)).fold max ⊥ z)))
          (0 + ∑ t, Ideal.exp (z t - max ⊥ ((Finset.univ : Finset (Fin 2049)).fold max ⊥ z))) * rowOf x0 x3 x6 hx b t c := by
  obtain rfl : z = _ := funext hz
  rw [← v57_at, zero_add]
  have hy : ∀ t h d, val_main_v24 (F := Ideal) x0 x3 x6 (ix4 b t h d) = rowOf x0 x3 x6 hx b t ⟨64 * h.val + d.val, by omega⟩ :=
    fun t h d => v24_at x0 x3 x6 hx b t h d
  unfold val_main_v68 val_main_v67 val_main_v66 val_main_v65 val_main_v64 val_main_v63 val_main_v62 val_main_v61 val_main_v60 val_main_v59 val_main_v58 val_main_cst_12
  generalize val_main_v54 (F := Ideal) x0 x1 x2 x4 x5 = y
  generalize val_main_v57 (F := Ideal) x0 x1 x2 x4 x5 = z
  generalize val_main_v24 (F := Ideal) x0 x3 x6 = w at hy
  pointwise
  refine Finset.sum_congr rfl fun t _ => ?_
  rw [hy]
  congr 2
  exact Fin.ext (by show 64 * (c.val / 64) + c.val % 64 = c.val; omega)

end Cert.Proof
-- ==== Proof.SaArray.lean ====
module

public import proofs.«01_k».proof.Proof.SampleAttnIdealFrame
public import proofs.«01_k».proof.Proof.SaRun
public import proofs.«01_k».proof.Proof.SaValue
public import proofs.«01_k».proof.Proof.SaBlocks
public import proofs.«01_k».proof.Proof.SaRef

@[expose] public section

set_option maxRecDepth 16384

noncomputable section

/-! # The result array of the kernel is the reference's -/

namespace Cert.Proof

open Idealize Idealize.ShloMosaic Idealize.SL.Sem Cert.SampleAttnIdeal
open Idealize.ShloMosaic.Pipeline (Dat Cfg Window)

section
variable (x0 : S128x16.Idx → BitVec 32) (x2 : S128x512.Idx → EReal) (x5 : S4x2560x128x8x64.Idx → EReal)
  (hx : ∀ i, (x0 i).toNat < 2560) (b : Fin 128)

/-- A cached row is a row of its page. -/
theorem rowOf_page (n : Fin 16) (l : Fin 128) (c : Fin 512) :
    rowOf x0 x2 x5 hx b ⟨128 * n.val + l.val, by omega⟩ c
      = x5 (ix5 0 ⟨(x0 (ix2 b n)).toNat, hx _⟩ l ⟨c.val / 64, by omega⟩ ⟨c.val % 64, by omega⟩) := by
  unfold rowOf
  rw [dif_pos (show 128 * n.val + l.val < 2048 by omega)]
  have hn : (⟨(128 * n.val + l.val) / 128, by omega⟩ : Fin 16) = n := Fin.ext (by dsimp only; omega)
  have hl : (⟨(128 * n.val + l.val) % 128, by omega⟩ : Fin 128) = l := Fin.ext (by dsimp only; omega)
  simp only [hn, hl]

/-- The new row. -/
theorem rowOf_last (c : Fin 512) : rowOf x0 x2 x5 hx b (Fin.last 2048) c = x2 (ix2 b c) := by
  unfold rowOf
  rw [dif_neg (show ¬ (Fin.last 2048).val < 2048 by simp)]

/-- Rows of real arrays are real. -/
theorem rowOf_real (h2 : ∀ i, ∃ r : ℝ, x2 i = (r : EReal)) (h5 : ∀ i, ∃ r : ℝ, x5 i = (r : EReal)) (t : Fin 2049) (c : Fin 512) :
    ∃ r : ℝ, rowOf x0 x2 x5 hx b t c = (r : EReal) := by
  unfold rowOf
  split
  · exact h5 _
  · exact h2 _
end

variable (m : (ℓ : Loc nD τ sig) → Buf (Elt Ideal) ℓ) (hO : Gen.Ok (F := Ideal) m)

/-- The reference's result of the kernel's arguments. -/
def resultOf : Vec Ideal S128x1x512 .bf16 :=
  Cert.SampleAttnRefIdeal.Read.val_main_v68 (F := Ideal) (m ((0 : Dev nD).tc.loc main_arg0)) (m ((0 : Dev nD).tc.loc main_arg1))
    (m ((0 : Dev nD).tc.loc main_arg2)) (m ((0 : Dev nD).tc.loc main_arg3)) (m ((0 : Dev nD).tc.loc main_arg4))
    (m ((0 : Dev nD).tc.loc main_arg5)) (m ((0 : Dev nD).tc.loc main_arg6))

set_option maxHeartbeats 4000000 in
/-- What a grid point leaves in the output block: the payloads of its blocks. -/
theorem outs_eq (t : Fin grid0.N) :
    Gen.outsAt0 m hO 0 t = outOf (scoresOf (Gen.k0_pay4 (Gen.iblk m hO 0 0 t)) (Gen.k0_pay6 Gen.k0_pay5 (Scalar.ofBits .f32 0x41000000#32)) ![Gen.iblk m hO 0 4 t, Gen.iblk m hO 0 5 t, Gen.iblk m hO 0 6 t, Gen.iblk m hO 0 7 t, Gen.iblk m hO 0 8 t, Gen.iblk m hO 0 9 t, Gen.iblk m hO 0 10 t, Gen.iblk m hO 0 11 t, Gen.iblk m hO 0 12 t, Gen.iblk m hO 0 13 t, Gen.iblk m hO 0 14 t, Gen.iblk m hO 0 15 t, Gen.iblk m hO 0 16 t, Gen.iblk m hO 0 17 t, Gen.iblk m hO 0 18 t, Gen.iblk m hO 0 19 t]
          (fun j : S1x1x2048.Idx => (Gen.iblk m hO 0 3 t : Vec Ideal S1x1x2176 .f32) (ix3 0 0 ⟨(j 2).val, lt_of_lt_of_le (j 2).isLt (by decide)⟩)))
        (Gen.k0_pay21 (Gen.k0_pay3 (Gen.iblk m hO 0 0 t)) (Gen.iblk m hO 0 1 t))
        (fun _ => (Gen.iblk m hO 0 3 t : Vec Ideal S1x1x2176 .f32) (ix3 0 0 ⟨2048, by decide⟩)) (Gen.iblk m hO 0 2 t) ![Gen.iblk m hO 0 20 t, Gen.iblk m hO 0 21 t, Gen.iblk m hO 0 22 t, Gen.iblk m hO 0 23 t, Gen.iblk m hO 0 24 t, Gen.iblk m hO 0 25 t, Gen.iblk m hO 0 26 t, Gen.iblk m hO 0 27 t, Gen.iblk m hO 0 28 t, Gen.iblk m hO 0 29 t, Gen.iblk m hO 0 30 t, Gen.iblk m hO 0 31 t, Gen.iblk m hO 0 32 t, Gen.iblk m hO 0 33 t, Gen.iblk m hO 0 34 t, Gen.iblk m hO 0 35 t] := by
  unfold Gen.outsAt0 Gen.out0_A_36
  exact (View.read_writes_eq_canon _ _ _ (Gen.cover0_A_36 0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans
    (run_eq 0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

variable (hx : ∀ i : S128x16.Idx, ((m ((0 : Dev nD).tc.loc main_arg0) : S128x16.Idx → BitVec 32) i).toNat < 2560)
  (h1 : ∀ i : S128x512.Idx, ∃ r : ℝ, (m ((0 : Dev nD).tc.loc main_arg1) : S128x512.Idx → EReal) i = (r : EReal))
  (h2 : ∀ i : S128x512.Idx, ∃ r : ℝ, (m ((0 : Dev nD).tc.loc main_arg2) : S128x512.Idx → EReal) i = (r : EReal))
  (h5 : ∀ i : S4x2560x128x8x64.Idx, ∃ r : ℝ, (m ((0 : Dev nD).tc.loc main_arg5) : S4x2560x128x8x64.Idx → EReal) i = (r : EReal))
  (h4 : ∀ b : Fin 128, ∃ t : Fin 2049, 0 < ((m ((0 : Dev nD).tc.loc main_arg4) : S128x2049.Idx → BitVec 32) (ix2 b t)).toInt)

set_option maxHeartbeats 8000000 in
include hx h1 h2 h5 h4 in
/-- A grid point's output block is its row of the reference's result. -/
theorem outs_row (t : Fin grid0.N) (c : Fin 512) :
    (Gen.outsAt0 m hO 0 t : Vec Ideal S1x1x512 .bf16) (ix3 0 0 c) = resultOf m (ix3 (rowAt t) 0 c) := by
  rw [outs_eq]
  choose qr hqr using fun c : Fin 512 => h1 (ix2 (rowAt t) c)
  choose kr hkr using fun (t' : Fin 2049) (c : Fin 512) => rowOf_real (m ((0 : Dev nD).tc.loc main_arg0)) (m ((0 : Dev nD).tc.loc main_arg2))
    (m ((0 : Dev nD).tc.loc main_arg5)) hx (rowAt t) h2 h5 t' c
  unfold resultOf
  refine Eq.trans ?_ (v68_at _ _ _ _ _ _ _ hx (rowAt t) c _ fun _ => rfl).symm
  refine outOf_row _ _ _ _ _ _ (rowOf (m ((0 : Dev nD).tc.loc main_arg0)) (m ((0 : Dev nD).tc.loc main_arg2)) (m ((0 : Dev nD).tc.loc main_arg5)) hx (rowAt t))
    (rowOf (m ((0 : Dev nD).tc.loc main_arg0)) (m ((0 : Dev nD).tc.loc main_arg3)) (m ((0 : Dev nD).tc.loc main_arg6)) hx (rowAt t))
    (fun t' => 0 < ((m ((0 : Dev nD).tc.loc main_arg4) : S128x2049.Idx → BitVec 32) (ix2 (rowAt t) t')).toInt) (h4 (rowAt t)) qr kr ?_ hkr ?_ ?_ ?_ ?_ ?_ c _ ?_
  · intro c
    exact (blk_q m hO 0 t c).trans (hqr c)
  · intro n j l
    rw [rowOf_page]
    match n with
    | ⟨0, _⟩ => exact blk_4 m hO 0 t (hx _) j l
    | ⟨1, _⟩ => exact blk_5 m hO 0 t (hx _) j l
    | ⟨2, _⟩ => exact blk_6 m hO 0 t (hx _) j l
    | ⟨3, _⟩ => exact blk_7 m hO 0 t (hx _) j l
    | ⟨4, _⟩ => exact blk_8 m hO 0 t (hx _) j l
    | ⟨5, _⟩ => exact blk_9 m hO 0 t (hx _) j l
    | ⟨6, _⟩ => exact blk_10 m hO 0 t (hx _) j l
    | ⟨7, _⟩ => exact blk_11 m hO 0 t (hx _) j l
    | ⟨8, _⟩ => exact blk_12 m hO 0 t (hx _) j l
    | ⟨9, _⟩ => exact blk_13 m hO 0 t (hx _) j l
    | ⟨10, _⟩ => exact blk_14 m hO 0 t (hx _) j l
    | ⟨11, _⟩ => exact blk_15 m hO 0 t (hx _) j l
    | ⟨12, _⟩ => exact blk_16 m hO 0 t (hx _) j l
    | ⟨13, _⟩ => exact blk_17 m hO 0 t (hx _) j l
    | ⟨14, _⟩ => exact blk_18 m hO 0 t (hx _) j l
    | ⟨15, _⟩ => exact blk_19 m hO 0 t (hx _) j l
    | ⟨n + 16, h⟩ => exact absurd h (by omega)
  · intro n j l
    rw [rowOf_page]
    match n with
    | ⟨0, _⟩ => exact blk_20 m hO 0 t (hx _) j l
    | ⟨1, _⟩ => exact blk_21 m hO 0 t (hx _) j l
    | ⟨2, _⟩ => exact blk_22 m hO 0 t (hx _) j l
    | ⟨3, _⟩ => exact blk_23 m hO 0 t (hx _) j l
    | ⟨4, _⟩ => exact blk_24 m hO 0 t (hx _) j l
    | ⟨5, _⟩ => exact blk_25 m hO 0 t (hx _) j l
    | ⟨6, _⟩ => exact blk_26 m hO 0 t (hx _) j l
    | ⟨7, _⟩ => exact blk_27 m hO 0 t (hx _) j l
    | ⟨8, _⟩ => exact blk_28 m hO 0 t (hx _) j l
    | ⟨9, _⟩ => exact blk_29 m hO 0 t (hx _) j l
    | ⟨10, _⟩ => exact blk_30 m hO 0 t (hx _) j l
    | ⟨11, _⟩ => exact blk_31 m hO 0 t (hx _) j l
    | ⟨12, _⟩ => exact blk_32 m hO 0 t (hx _) j l
    | ⟨13, _⟩ => exact blk_33 m hO 0 t (hx _) j l
    | ⟨14, _⟩ => exact blk_34 m hO 0 t (hx _) j l
    | ⟨15, _⟩ => exact blk_35 m hO 0 t (hx _) j l
    | ⟨n + 16, h⟩ => exact absurd h (by omega)
  · intro j
    rw [rowOf_last]
    exact blk_k m hO 0 t j
  · intro j
    rw [rowOf_last]
    exact blk_v m hO 0 t j
  · intro t'
    exact blk_bias m hO 0 t t'
  · intro t'
    rw [v54_at, v50_at (hx := hx)]
    refine if_congr Iff.rfl ?_ rfl
    exact reference_score (fun c => (m ((0 : Dev nD).tc.loc main_arg1) : S128x512.Idx → EReal) (ix2 (rowAt t) c)) qr hqr _ kr _ t' (hkr t') _ (by push_cast; rfl)

end Cert.Proof

end
-- ==== Proof.SaFinal.lean ====
module

public import proofs.«01_k».proof.Proof.SaArray

@[expose] public section

set_option maxRecDepth 16384

noncomputable section

/-! # The kernel's run ends with the reference's result -/

namespace Cert.Proof

open Idealize Idealize.ShloMosaic Idealize.ShloMosaic.TcCoe Idealize.SL.Sem Cert.SampleAttnIdeal
open Idealize.ShloMosaic.Pipeline (Dat Cfg Window)

variable (m : (ℓ : Loc nD τ sig) → Buf (Elt Ideal) ℓ) (ρ : Dev nD → PrngReg) (hO : Gen.Ok (F := Ideal) m)

theorem out_index : ∀ (t : Fin grid0.N), cc0_transform_36 (grid0.coords t) = ![t.val, 0, 0] := by decide +kernel

variable (hx : ∀ i : S128x16.Idx, ((m ((0 : Dev nD).tc.loc main_arg0) : S128x16.Idx → BitVec 32) i).toNat < 2560)
  (h1 : ∀ i : S128x512.Idx, ∃ r : ℝ, (m ((0 : Dev nD).tc.loc main_arg1) : S128x512.Idx → EReal) i = (r : EReal))
  (h2 : ∀ i : S128x512.Idx, ∃ r : ℝ, (m ((0 : Dev nD).tc.loc main_arg2) : S128x512.Idx → EReal) i = (r : EReal))
  (h5 : ∀ i : S4x2560x128x8x64.Idx, ∃ r : ℝ, (m ((0 : Dev nD).tc.loc main_arg5) : S4x2560x128x8x64.Idx → EReal) i = (r : EReal))
  (h4 : ∀ b : Fin 128, ∃ t : Fin 2049, 0 < ((m ((0 : Dev nD).tc.loc main_arg4) : S128x2049.Idx → BitVec 32) (ix2 b t)).toInt)

include hx h1 h2 h5 h4 in
/-- The write-back of a grid point writes its row of the result. -/
theorem flushed_eq (t : Fin (Gen.cfgM m hO).N) :
    (Gen.dats m hO 0 0).flushed 36 t = (((Gen.cfgM m hO).win 36).blk t).view.read (Elt Ideal) (resultOf m) := by
  show ((Gen.cfgM m hO).win 36).cut ((Gen.cfgM m hO).grid.coords t) ((Gen.dats m hO 0 0).after 36 t) = _
  rw [Gen.after0_36]
  refine funext fun (j : S1x1x512.Idx) => ?_
  have hj0 : (j 0).val < 1 := (j 0).isLt
  have hj1 : (j 1).val < 1 := (j 1).isLt
  have hj2 : (j 2).val < 512 := (j 2).isLt
  refine Eq.trans (b := (Gen.outsAt0 m hO 0 t : S1x1x512.Idx → EReal) (ix3 0 0 ⟨(j 2).val, hj2⟩)) ?_
    ((outs_row m hO hx h1 h2 h5 h4 t ⟨(j 2).val, hj2⟩).trans ?_)
  · refine congrArg (Gen.outsAt0 m hO 0 t : S1x1x512.Idx → EReal) ?_
    funext a
    apply Fin.ext
    match a with
    | ⟨0, _⟩ => show (j 0).val = 0; omega
    | ⟨1, _⟩ => show (j 1).val = 0; omega
    | ⟨2, _⟩ => rfl
  · refine congrArg (resultOf m : S128x1x512.Idx → EReal) ?_
    funext a
    apply Fin.ext
    match a with
    | ⟨0, _⟩ =>
      show t.val = cc0_transform_36 (grid0.coords t) 0 * 1 + 1 * (j 0).val
      rw [show cc0_transform_36 (grid0.coords t) 0 = t.val from congrFun (out_index t) 0]; omega
    | ⟨1, _⟩ =>
      show 0 = cc0_transform_36 (grid0.coords t) 1 * 1 + 1 * (j 1).val
      rw [show cc0_transform_36 (grid0.coords t) 1 = 0 from congrFun (out_index t) 1]; omega
    | ⟨2, _⟩ =>
      show (j 2).val = cc0_transform_36 (grid0.coords t) 2 * 512 + 1 * (j 2).val
      rw [show cc0_transform_36 (grid0.coords t) 2 = 0 from congrFun (out_index t) 2]; omega

/-- Every cell of the result is written at the grid point of its row. -/
theorem covered (i : S128x1x512.Idx) : ∃ t : Fin (Gen.cfgM m hO).N, ((Gen.cfgM m hO).win 36).flush t = true
    ∧ (i : (((Gen.cfgM m hO).win 36).blk t).view.ty.Idx) ∈ (((Gen.cfgM m hO).win 36).blk t).view.set := by
  have i0 : (i 0 : Nat) < 128 := (i 0).isLt
  have i1 : (i 1 : Nat) < 1 := (i 1).isLt
  have i2 : (i 2 : Nat) < 512 := (i 2).isLt
  have hN : grid0.N = 128 := Gen.N_0
  obtain ⟨t, hv⟩ : ∃ t : Fin grid0.N, t.val = (i 0 : Nat) := ⟨⟨(i 0 : Nat), by omega⟩, rfl⟩
  refine ⟨t, Gen.flush0_36 _ _, ?_⟩
  have e : (((Gen.cfgM m hO).win 36).blk t).view.emb (ix3 0 0 ⟨(i 2 : Nat), i2⟩ : S1x1x512.Idx) = i := by
    funext a
    apply Fin.ext
    match a with
    | ⟨0, _⟩ =>
      show cc0_transform_36 (grid0.coords t) 0 * 1 + 1 * 0 = (i 0 : Nat)
      rw [show cc0_transform_36 (grid0.coords t) 0 = t.val from congrFun (out_index t) 0]; omega
    | ⟨1, _⟩ =>
      show cc0_transform_36 (grid0.coords t) 1 * 1 + 1 * 0 = (i 1 : Nat)
      rw [show cc0_transform_36 (grid0.coords t) 1 = 0 from congrFun (out_index t) 1]; omega
    | ⟨2, _⟩ =>
      show cc0_transform_36 (grid0.coords t) 2 * 512 + 1 * (i 2 : Nat) = (i 2 : Nat)
      rw [show cc0_transform_36 (grid0.coords t) 2 = 0 from congrFun (out_index t) 2]; omega
  exact e ▸ View.emb_mem_set (((Gen.cfgM m hO).win 36).blk t).view (ix3 0 0 ⟨(i 2 : Nat), i2⟩ : S1x1x512.Idx)

include hx h1 h2 h5 h4 in
/-- The result array ends holding the reference's result. -/
theorem final_eq : (Gen.dats m hO 0 0).arrAt 36 (Gen.cfgM m hO).N = (resultOf m : Buf (Elt Ideal) (((Gen.cfgM m hO).win 36).arr.view.loc ((0 : Dev nD).tc))) :=
  (Gen.dats m hO 0 0).arrAt_eq_of_cover 36 (resultOf m) (fun t _ => flushed_eq m hO hx h1 h2 h5 h4 t) (covered m hO)

include hO hx h1 h2 h5 h4 in
/-- The kernel's run: its result is the reference's, its arguments are unchanged. -/
theorem kernel_run : θ_run defs (onTc (τ := τ) (main (F := Ideal))) ⟨m, fun _ => 0, ρ⟩ (fun r => ∀ c : Dev nD,
      r.2.mem ((c.tc : Thread nD τ).loc main_v12) = (fun _ : Dev nD => (resultOf m : Buf (Elt Ideal) ((c.tc : Thread nD τ).loc main_v12))) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain rfl : c = 0 := Subsingleton.elim _ _
    refine ⟨(((h.1 0).1 36).trans (final_eq m hO hx h1 h2 h5 h4) : _), ?_⟩
    exact h.2 0) (θ_run_and (Gen.run_main m ρ hO) (Gen.unchanged m ρ hO))

end Cert.Proof

end
-- ==== Proof.SaClaims.lean ====
/- The claims about the sample attention: the two kernels' frames, the reference's, the named constants, and the equality
   of the idealized kernel and the reference. -/
module

public import proofs.«01_k».proof.Defs
public import proofs.«01_k».proof.Proof.Gen.Pre_pages_in_range
public import proofs.«01_k».proof.Proof.Gen.Pre_softmax_defined
public import proofs.«01_k».proof.Proof.SampleAttnFrame
public import proofs.«01_k».proof.Proof.SampleAttnIdealFrame
public import proofs.«01_k».proof.Proof.Pages
public import proofs.«01_k».proof.Proof.SaPre
public import proofs.«01_k».proof.Proof.SaFinal
public import proofs.«01_k».proof.Proof.Gen.SampleAttnRefIdeal.Run
public import proofs.«01_k».proof.Proof.Gen.SampleAttnRefIdeal.Read
public import Idealize.ShloMosaic.Lib.Claim
public import Idealize.ShloMosaic.Adequacy
public import Idealize.ShloMosaic.Init

@[expose] public section

set_option maxRecDepth 16384

noncomputable section

namespace Cert.Proof

open Idealize Idealize.ShloMosaic Idealize.SL.Sem

theorem frame_bits : Cert.quiescent_SampleAttn := fun m g h =>
  Cert.SampleAttn.Gen.frame m g (bits_ok m (table_of_pages _ _ _ _ _ _ _ (h 0)))

theorem frame_ideal : Cert.quiescent_SampleAttnIdeal := fun m g h =>
  Cert.SampleAttnIdeal.Gen.frame m g (ideal_ok m (table_of_pages _ _ _ _ _ _ _ (h 0)))

theorem frame_ideal_pre : Cert.quiescent_SampleAttnIdeal_pre_softmax_defined := fun m g h =>
  Cert.SampleAttnIdeal.Gen.frame m g (ideal_ok m (table_of_defined _ _ _ _ _ _ _ (h 0).1))

theorem frame_ref : Cert.quiescent_SampleAttnRefIdeal := fun m g _ =>
  (θ_run Cert.SampleAttnRefIdeal.defs _ _).mono (fun r h => ⟨fun c => (h c).2, sem_eq_zero_of_no_sems (by decide) r.2⟩)
    (Cert.SampleAttnRefIdeal.Value.run (F := Ideal) m g)

theorem frame_ref_pre : Cert.quiescent_SampleAttnRefIdeal_pre_softmax_defined := fun m g _ => frame_ref m g trivial

/-- Both named constants are declared at the values the kernel's table gives them. -/
theorem preserves : Cert.preserves_SampleAttn_SampleAttnIdeal :=
  ⟨IdealRules.named_const.statement Cert.SampleAttnIdeal.κ "q_scale" .f32 0x3E38AA3B#32 (((1 / 8) * (Real.log 2)⁻¹ : ℝ) : EReal) rfl,
    IdealRules.named_const.statement Cert.SampleAttnIdeal.κ "log2e" .f32 0x3FB8AA3B#32 (((Real.log 2)⁻¹ : ℝ) : EReal) rfl⟩

/-- The reference's result of equal arguments. -/
theorem ref_result (m : (ℓ : Loc Cert.SampleAttnIdeal.nD Cert.SampleAttnIdeal.τ Cert.SampleAttnIdeal.sig) → Buf (Elt Ideal) ℓ)
    (a0 : IVec Cert.SampleAttnIdeal.S128x16 32) (a1 a2 a3 : FVec Ideal Cert.SampleAttnIdeal.S128x512 .f32)
    (a4 : IVec Cert.SampleAttnIdeal.S128x2049 32) (a5 a6 : FVec Ideal Cert.SampleAttnIdeal.S4x2560x128x8x64 .f32)
    (e0 : a0 = m ((0 : Dev Cert.SampleAttnIdeal.nD).tc.loc Cert.SampleAttnIdeal.main_arg0))
    (e1 : a1 = m ((0 : Dev Cert.SampleAttnIdeal.nD).tc.loc Cert.SampleAttnIdeal.main_arg1))
    (e2 : a2 = m ((0 : Dev Cert.SampleAttnIdeal.nD).tc.loc Cert.SampleAttnIdeal.main_arg2))
    (e3 : a3 = m ((0 : Dev Cert.SampleAttnIdeal.nD).tc.loc Cert.SampleAttnIdeal.main_arg3))
    (e4 : a4 = m ((0 : Dev Cert.SampleAttnIdeal.nD).tc.loc Cert.SampleAttnIdeal.main_arg4))
    (e5 : a5 = m ((0 : Dev Cert.SampleAttnIdeal.nD).tc.loc Cert.SampleAttnIdeal.main_arg5))
    (e6 : a6 = m ((0 : Dev Cert.SampleAttnIdeal.nD).tc.loc Cert.SampleAttnIdeal.main_arg6)) :
    Cert.SampleAttnRefIdeal.Read.val_main_v68 (F := Ideal) a0 a1 a2 a3 a4 a5 a6 = resultOf m := by
  subst e0 e1 e2 e3 e4 e5 e6
  rfl

theorem algebraic : Cert.algebraic_SampleAttnIdeal_SampleAttnRefIdeal_pre_softmax_defined := fun m g m' g' h e =>
  have hx := table_of_defined _ _ _ _ _ _ _ (h 0).1
  ⟨fun _ => resultOf m,
    kernel_run m g (ideal_ok m hx) hx (q_of_defined _ _ _ _ _ _ _ (h 0).2.1) (k_of_defined _ _ _ _ _ _ _ (h 0).2.2.1)
      (pool_of_defined _ _ _ _ _ _ _ (h 0).2.2.2.1) (sel_of_defined _ _ _ _ _ _ _ (h 0).2.2.2.2),
    (θ_run Cert.SampleAttnRefIdeal.defs _ _).mono (fun r hr c => by
      obtain rfl : c = 0 := Subsingleton.elim _ _
      refine ⟨((hr 0).1.trans (Cert.SampleAttnRefIdeal.Read.val_main_v68_eq m' 0)).trans ?_, (hr 0).2⟩
      exact ref_result m _ _ _ _ _ _ _ (e 0).1 (e 0).2.1 (e 0).2.2.1 (e 0).2.2.2.1 (e 0).2.2.2.2.1 (e 0).2.2.2.2.2.1 (e 0).2.2.2.2.2.2)
      (Cert.SampleAttnRefIdeal.Value.run (F := Ideal) m' g')⟩

end Cert.Proof

end
-- ==== Proof.FfHost.lean ====
module

public import proofs.«01_k».proof.Proof.Gen.FfnIdeal.Frame
public import Idealize.ShloMosaic.Lib.StableHlo.ReadAt
public import Idealize.ShloMosaic.Lib.Pointwise

@[expose] public section

set_option maxRecDepth 16384

noncomputable section

/-! # What the host operations hand to the feed-forward kernel, read at an index -/

namespace Cert.Proof.Ff

open Idealize.ShloMosaic Idealize.SL.Sem Cert.FfnIdeal

variable (m : (ℓ : Loc nD τ sig) → Buf (Elt Ideal) ℓ) (c : Dev nD)

/-- The rows of the input. -/
theorem host_x (r : Fin 16384) (k : Fin 1024) :
    (Gen.V m c main_v0 : Vec Ideal S16384x1024 .f32) (ix2 r k)
      = (m (c.tc.loc main_arg0) : Vec Ideal S4x4096x1024 .f32) (ix3 ⟨r.val / 4096, by omega⟩ ⟨r.val % 4096, by omega⟩ k) := by
  unfold Gen.V
  after_reads_at

/-- The modulation rows. -/
theorem host_mod (b : Fin 4) (k : Fin 9216) :
    (Gen.V m c main_v1 : Vec Ideal S4x1x9216 .f32) (ix3 b 0 k) = (m (c.tc.loc main_arg1) : Vec Ideal S4x9216 .f32) (ix2 b k) := by
  unfold Gen.V
  after_reads_at

/-- The first weights. -/
theorem host_w (a : Fin 4) (b : Fin 2) (k : Fin 1024) (f : Fin 5632) :
    (Gen.V m c main_v2 : Vec Ideal S4x2x1024x5632 .bf16) (ix4 a b k f)
      = (m (c.tc.loc main_arg2) : Vec Ideal S4x2x1024x5632 .f32) (ix4 a b k f) := by
  unfold Gen.V
  after_reads_at

/-- The second weights. -/
theorem host_wo (a : Fin 4) (b : Fin 2) (f : Fin 2816) (k : Fin 1024) :
    (Gen.V m c main_v3 : Vec Ideal S4x2x2816x1024 .bf16) (ix4 a b f k)
      = (m (c.tc.loc main_arg3) : Vec Ideal S4x2x2816x1024 .f32) (ix4 a b f k) := by
  unfold Gen.V
  after_reads_at

/-- The scale of the normalisation. -/
theorem host_lng (k : Fin 1024) :
    (Gen.V m c main_v6 : Vec Ideal S1x1024 .f32) (ix2 0 k) = (m (c.tc.loc main_arg4) : Vec Ideal S4x3x1024 .f32) (ix3 3 2 k) := by
  unfold Gen.V
  after_reads_at

/-- The offset of the normalisation. -/
theorem host_lnb (k : Fin 1024) :
    (Gen.V m c main_v9 : Vec Ideal S1x1024 .f32) (ix2 0 k) = (m (c.tc.loc main_arg5) : Vec Ideal S4x3x1024 .f32) (ix3 3 2 k) := by
  unfold Gen.V
  after_reads_at

end Cert.Proof.Ff

end
-- ==== Proof.FfBlocks.lean ====
module

public import proofs.«01_k».proof.Proof.FfHost

@[expose] public section

set_option maxRecDepth 16384

noncomputable section

/-! # The blocks a grid point of the feed-forward kernel reads, as entries of the arguments -/

namespace Cert.Proof.Ff

open Idealize Idealize.ShloMosaic Idealize.SL.Sem Cert.FfnIdeal

variable (m : (ℓ : Loc nD τ sig) → Buf (Elt Ideal) ℓ) (c : Dev nD)

theorem point_lt (t : Fin grid0.N) : t.val < 32 := by
  have := t.isLt
  have h : grid0.N = 32 := Gen.N_0
  omega

/-- The row of the result that a grid point's block holds at a row. -/
def rowAt (t : Fin grid0.N) (r : Fin 512) : Fin 16384 := ⟨t.val * 512 + r.val, by have := point_lt t; omega⟩

/-- The sequence a grid point works on. -/
def seqAt (t : Fin grid0.N) : Fin 4 := ⟨t.val / 8, by have := point_lt t; omega⟩

theorem index0 : ∀ (t : Fin grid0.N), cc0_transform_0 (grid0.coords t) = ![t.val, 0] := by decide +kernel
theorem index1 : ∀ (t : Fin grid0.N), cc0_transform_1 (grid0.coords t) = ![t.val / 8, 0, 6] := by decide +kernel
theorem index2 : ∀ (t : Fin grid0.N), cc0_transform_2 (grid0.coords t) = ![t.val / 8, 0, 7] := by decide +kernel
theorem index3 : ∀ (t : Fin grid0.N), cc0_transform_3 (grid0.coords t) = ![t.val / 8, 0, 8] := by decide +kernel
theorem index4 : ∀ (t : Fin grid0.N), cc0_transform_4 (grid0.coords t) = ![3, 1, 0, 0] := by decide +kernel
theorem index5 : ∀ (t : Fin grid0.N), cc0_transform_5 (grid0.coords t) = ![3, 1, 0, 1] := by decide +kernel
theorem index6 : ∀ (t : Fin grid0.N), cc0_transform_6 (grid0.coords t) = ![3, 1, 0, 0] := by decide +kernel
theorem index7 : ∀ (t : Fin grid0.N), cc0_transform_7 (grid0.coords t) = ![0, 0] := by decide +kernel
theorem index8 : ∀ (t : Fin grid0.N), cc0_transform_8 (grid0.coords t) = ![0, 0] := by decide +kernel
theorem index9 : ∀ (t : Fin grid0.N), cc0_transform_9 (grid0.coords t) = ![t.val, 0] := by decide +kernel

/-- The rows of the input. -/
theorem blk_x (t : Fin grid0.N) (r : Fin 512) (k : Fin 1024) :
    (Gen.iblk m c 0 t : Vec Ideal S512x1024 .f32) (ix2 r k) = (m (c.tc.loc main_arg0) : Vec Ideal S4x4096x1024 .f32) (ix3 ⟨(rowAt t r).val / 4096, by omega⟩ ⟨(rowAt t r).val % 4096, by omega⟩ k) := by
  refine (?_ : _ = (Gen.V m c main_v0 : Vec Ideal S16384x1024 .f32) (ix2 (rowAt t r) k)).trans ((host_x m c (rowAt t r) k))
  unfold Gen.iblk
  refine congrArg (Gen.V m c main_v0 : S16384x1024.Idx → EReal) ?_
  funext a
  apply Fin.ext
  match a with
  | ⟨0, _⟩ =>
    show cc0_transform_0 (grid0.coords t) 0 * 512 + 1 * r.val = t.val * 512 + r.val
    rw [show cc0_transform_0 (grid0.coords t) 0 = t.val from congrFun (index0 t) 0]; omega
  | ⟨1, _⟩ =>
    show cc0_transform_0 (grid0.coords t) 1 * 1024 + 1 * k.val = k.val
    rw [show cc0_transform_0 (grid0.coords t) 1 = 0 from congrFun (index0 t) 1]; omega

/-- The shift. -/
theorem blk_sh (t : Fin grid0.N) (k : Fin 1024) :
    (Gen.iblk m c 1 t : Vec Ideal S1x1x1024 .f32) (ix3 0 0 k) = (m (c.tc.loc main_arg1) : Vec Ideal S4x9216 .f32) (ix2 (seqAt t) ⟨6144 + k.val, by omega⟩) := by
  refine (?_ : _ = (Gen.V m c main_v1 : Vec Ideal S4x1x9216 .f32) (ix3 (seqAt t) 0 ⟨6144 + k.val, by omega⟩)).trans ((host_mod m c (seqAt t) ⟨6144 + k.val, by omega⟩))
  unfold Gen.iblk
  refine congrArg (Gen.V m c main_v1 : S4x1x9216.Idx → EReal) ?_
  funext a
  apply Fin.ext
  match a with
  | ⟨0, _⟩ =>
    show cc0_transform_1 (grid0.coords t) 0 * 1 + 1 * 0 = t.val / 8
    rw [show cc0_transform_1 (grid0.coords t) 0 = t.val / 8 from congrFun (index1 t) 0]; omega
  | ⟨1, _⟩ =>
    show cc0_transform_1 (grid0.coords t) 1 * 1 + 1 * 0 = 0
    rw [show cc0_transform_1 (grid0.coords t) 1 = 0 from congrFun (index1 t) 1]
  | ⟨2, _⟩ =>
    show cc0_transform_1 (grid0.coords t) 2 * 1024 + 1 * k.val = 6144 + k.val
    rw [show cc0_transform_1 (grid0.coords t) 2 = 6 from congrFun (index1 t) 2]; omega

/-- The scale. -/
theorem blk_sc (t : Fin grid0.N) (k : Fin 1024) :
    (Gen.iblk m c 2 t : Vec Ideal S1x1x1024 .f32) (ix3 0 0 k) = (m (c.tc.loc main_arg1) : Vec Ideal S4x9216 .f32) (ix2 (seqAt t) ⟨7168 + k.val, by omega⟩) := by
  refine (?_ : _ = (Gen.V m c main_v1 : Vec Ideal S4x1x9216 .f32) (ix3 (seqAt t) 0 ⟨7168 + k.val, by omega⟩)).trans ((host_mod m c (seqAt t) ⟨7168 + k.val, by omega⟩))
  unfold Gen.iblk
  refine congrArg (Gen.V m c main_v1 : S4x1x9216.Idx → EReal) ?_
  funext a
  apply Fin.ext
  match a with
  | ⟨0, _⟩ =>
    show cc0_transform_2 (grid0.coords t) 0 * 1 + 1 * 0 = t.val / 8
    rw [show cc0_transform_2 (grid0.coords t) 0 = t.val / 8 from congrFun (index2 t) 0]; omega
  | ⟨1, _⟩ =>
    show cc0_transform_2 (grid0.coords t) 1 * 1 + 1 * 0 = 0
    rw [show cc0_transform_2 (grid0.coords t) 1 = 0 from congrFun (index2 t) 1]
  | ⟨2, _⟩ =>
    show cc0_transform_2 (grid0.coords t) 2 * 1024 + 1 * k.val = 7168 + k.val
    rw [show cc0_transform_2 (grid0.coords t) 2 = 7 from congrFun (index2 t) 2]; omega

/-- The gate. -/
theorem blk_g (t : Fin grid0.N) (k : Fin 1024) :
    (Gen.iblk m c 3 t : Vec Ideal S1x1x1024 .f32) (ix3 0 0 k) = (m (c.tc.loc main_arg1) : Vec Ideal S4x9216 .f32) (ix2 (seqAt t) ⟨8192 + k.val, by omega⟩) := by
  refine (?_ : _ = (Gen.V m c main_v1 : Vec Ideal S4x1x9216 .f32) (ix3 (seqAt t) 0 ⟨8192 + k.val, by omega⟩)).trans ((host_mod m c (seqAt t) ⟨8192 + k.val, by omega⟩))
  unfold Gen.iblk
  refine congrArg (Gen.V m c main_v1 : S4x1x9216.Idx → EReal) ?_
  funext a
  apply Fin.ext
  match a with
  | ⟨0, _⟩ =>
    show cc0_transform_3 (grid0.coords t) 0 * 1 + 1 * 0 = t.val / 8
    rw [show cc0_transform_3 (grid0.coords t) 0 = t.val / 8 from congrFun (index3 t) 0]; omega
  | ⟨1, _⟩ =>
    show cc0_transform_3 (grid0.coords t) 1 * 1 + 1 * 0 = 0
    rw [show cc0_transform_3 (grid0.coords t) 1 = 0 from congrFun (index3 t) 1]
  | ⟨2, _⟩ =>
    show cc0_transform_3 (grid0.coords t) 2 * 1024 + 1 * k.val = 8192 + k.val
    rw [show cc0_transform_3 (grid0.coords t) 2 = 8 from congrFun (index3 t) 2]; omega

/-- The first half of the first weights. -/
theorem blk_wa (t : Fin grid0.N) (k : Fin 1024) (f : Fin 2816) :
    (Gen.iblk m c 4 t : Vec Ideal S1x1x1024x2816 .bf16) (ix4 0 0 k f) = (m (c.tc.loc main_arg2) : Vec Ideal S4x2x1024x5632 .f32) (ix4 3 1 k ⟨f.val, by omega⟩) := by
  refine (?_ : _ = (Gen.V m c main_v2 : Vec Ideal S4x2x1024x5632 .bf16) (ix4 3 1 k ⟨f.val, by omega⟩)).trans ((host_w m c 3 1 k ⟨f.val, by omega⟩))
  unfold Gen.iblk
  refine congrArg (Gen.V m c main_v2 : S4x2x1024x5632.Idx → EReal) ?_
  funext a
  apply Fin.ext
  match a with
  | ⟨0, _⟩ =>
    show cc0_transform_4 (grid0.coords t) 0 * 1 + 1 * 0 = 3
    rw [show cc0_transform_4 (grid0.coords t) 0 = 3 from congrFun (index4 t) 0]
  | ⟨1, _⟩ =>
    show cc0_transform_4 (grid0.coords t) 1 * 1 + 1 * 0 = 1
    rw [show cc0_transform_4 (grid0.coords t) 1 = 1 from congrFun (index4 t) 1]
  | ⟨2, _⟩ =>
    show cc0_transform_4 (grid0.coords t) 2 * 1024 + 1 * k.val = k.val
    rw [show cc0_transform_4 (grid0.coords t) 2 = 0 from congrFun (index4 t) 2]; omega
  | ⟨3, _⟩ =>
    show cc0_transform_4 (grid0.coords t) 3 * 2816 + 1 * f.val = f.val
    rw [show cc0_transform_4 (grid0.coords t) 3 = 0 from congrFun (index4 t) 3]; omega

/-- The second half of the first weights. -/
theorem blk_wg (t : Fin grid0.N) (k : Fin 1024) (f : Fin 2816) :
    (Gen.iblk m c 5 t : Vec Ideal S1x1x1024x2816 .bf16) (ix4 0 0 k f) = (m (c.tc.loc main_arg2) : Vec Ideal S4x2x1024x5632 .f32) (ix4 3 1 k ⟨2816 + f.val, by omega⟩) := by
  refine (?_ : _ = (Gen.V m c main_v2 : Vec Ideal S4x2x1024x5632 .bf16) (ix4 3 1 k ⟨2816 + f.val, by omega⟩)).trans ((host_w m c 3 1 k ⟨2816 + f.val, by omega⟩))
  unfold Gen.iblk
  refine congrArg (Gen.V m c main_v2 : S4x2x1024x5632.Idx → EReal) ?_
  funext a
  apply Fin.ext
  match a with
  | ⟨0, _⟩ =>
    show cc0_transform_5 (grid0.coords t) 0 * 1 + 1 * 0 = 3
    rw [show cc0_transform_5 (grid0.coords t) 0 = 3 from congrFun (index5 t) 0]
  | ⟨1, _⟩ =>
    show cc0_transform_5 (grid0.coords t) 1 * 1 + 1 * 0 = 1
    rw [show cc0_transform_5 (grid0.coords t) 1 = 1 from congrFun (index5 t) 1]
  | ⟨2, _⟩ =>
    show cc0_transform_5 (grid0.coords t) 2 * 1024 + 1 * k.val = k.val
    rw [show cc0_transform_5 (grid0.coords t) 2 = 0 from congrFun (index5 t) 2]; omega
  | ⟨3, _⟩ =>
    show cc0_transform_5 (grid0.coords t) 3 * 2816 + 1 * f.val = 2816 + f.val
    rw [show cc0_transform_5 (grid0.coords t) 3 = 1 from congrFun (index5 t) 3]; omega

/-- The second weights. -/
theorem blk_wo (t : Fin grid0.N) (f : Fin 2816) (k : Fin 1024) :
    (Gen.iblk m c 6 t : Vec Ideal S1x1x2816x1024 .bf16) (ix4 0 0 f k) = (m (c.tc.loc main_arg3) : Vec Ideal S4x2x2816x1024 .f32) (ix4 3 1 f k) := by
  refine (?_ : _ = (Gen.V m c main_v3 : Vec Ideal S4x2x2816x1024 .bf16) (ix4 3 1 f k)).trans ((host_wo m c 3 1 f k))
  unfold Gen.iblk
  refine congrArg (Gen.V m c main_v3 : S4x2x2816x1024.Idx → EReal) ?_
  funext a
  apply Fin.ext
  match a with
  | ⟨0, _⟩ =>
    show cc0_transform_6 (grid0.coords t) 0 * 1 + 1 * 0 = 3
    rw [show cc0_transform_6 (grid0.coords t) 0 = 3 from congrFun (index6 t) 0]
  | ⟨1, _⟩ =>
    show cc0_transform_6 (grid0.coords t) 1 * 1 + 1 * 0 = 1
    rw [show cc0_transform_6 (grid0.coords t) 1 = 1 from congrFun (index6 t) 1]
  | ⟨2, _⟩ =>
    show cc0_transform_6 (grid0.coords t) 2 * 2816 + 1 * f.val = f.val
    rw [show cc0_transform_6 (grid0.coords t) 2 = 0 from congrFun (index6 t) 2]; omega
  | ⟨3, _⟩ =>
    show cc0_transform_6 (grid0.coords t) 3 * 1024 + 1 * k.val = k.val
    rw [show cc0_transform_6 (grid0.coords t) 3 = 0 from congrFun (index6 t) 3]; omega

/-- The scale of the normalisation. -/
theorem blk_lng (t : Fin grid0.N) (k : Fin 1024) :
    (Gen.iblk m c 7 t : Vec Ideal S1x1024 .f32) (ix2 0 k) = (m (c.tc.loc main_arg4) : Vec Ideal S4x3x1024 .f32) (ix3 3 2 k) := by
  refine (?_ : _ = (Gen.V m c main_v6 : Vec Ideal S1x1024 .f32) (ix2 0 k)).trans ((host_lng m c k))
  unfold Gen.iblk
  refine congrArg (Gen.V m c main_v6 : S1x1024.Idx → EReal) ?_
  funext a
  apply Fin.ext
  match a with
  | ⟨0, _⟩ =>
    show cc0_transform_7 (grid0.coords t) 0 * 1 + 1 * 0 = 0
    rw [show cc0_transform_7 (grid0.coords t) 0 = 0 from congrFun (index7 t) 0]
  | ⟨1, _⟩ =>
    show cc0_transform_7 (grid0.coords t) 1 * 1024 + 1 * k.val = k.val
    rw [show cc0_transform_7 (grid0.coords t) 1 = 0 from congrFun (index7 t) 1]; omega

/-- The offset of the normalisation. -/
theorem blk_lnb (t : Fin grid0.N) (k : Fin 1024) :
    (Gen.iblk m c 8 t : Vec Ideal S1x1024 .f32) (ix2 0 k) = (m (c.tc.loc main_arg5) : Vec Ideal S4x3x1024 .f32) (ix3 3 2 k) := by
  refine (?_ : _ = (Gen.V m c main_v9 : Vec Ideal S1x1024 .f32) (ix2 0 k)).trans ((host_lnb m c k))
  unfold Gen.iblk
  refine congrArg (Gen.V m c main_v9 : S1x1024.Idx → EReal) ?_
  funext a
  apply Fin.ext
  match a with
  | ⟨0, _⟩ =>
    show cc0_transform_8 (grid0.coords t) 0 * 1 + 1 * 0 = 0
    rw [show cc0_transform_8 (grid0.coords t) 0 = 0 from congrFun (index8 t) 0]
  | ⟨1, _⟩ =>
    show cc0_transform_8 (grid0.coords t) 1 * 1024 + 1 * k.val = k.val
    rw [show cc0_transform_8 (grid0.coords t) 1 = 0 from congrFun (index8 t) 1]; omega

end Cert.Proof.Ff

end
-- ==== Proof.FfBody.lean ====
module

public import proofs.«01_k».proof.Proof.Gen.FfnIdeal.Frame
public import Idealize.ShloMosaic.Lib.Pipeline.Value
public import Idealize.ShloMosaic.Lib.Pipeline.CanonAppend
public import Idealize.ShloMosaic.Lib.Pointwise
public import Idealize.ShloMosaic.PureOps.Ideal.Laws

@[expose] public section

set_option maxRecDepth 16384

noncomputable section

/-! # One row of the feed-forward layer, as the kernel computes it -/

namespace Cert.Proof.Ff

open Idealize.ShloMosaic Idealize.ShloMosaic.TcCoe Cert.FfnIdeal Cert.FfnIdeal.Gen
open Idealize.ShloMosaic.Pointwise

/-- The modulated input row. -/
def hRow (x sc sh : Fin 1024 → EReal) (k : Fin 1024) : EReal := x k * (1 + sc k) + sh k

/-- One half of the first product. -/
def linRow (h : Fin 1024 → EReal) (w : Fin 1024 → Fin 2816 → EReal) (f : Fin 2816) : EReal := ∑ k, h k * w k f

/-- The gated hidden row. -/
def gateRow (h : Fin 1024 → EReal) (wa wg : Fin 1024 → Fin 2816 → EReal) (f : Fin 2816) : EReal :=
  linRow h wg f * Ideal.logistic (linRow h wg f) * linRow h wa f

/-- The scaled residual plus the gated second product. -/
def resRow (x g : Fin 1024 → EReal) (u : Fin 2816 → EReal) (wo : Fin 2816 → Fin 1024 → EReal) (c : Fin 1024) : EReal :=
  Ideal.ofBits FTy.f32 0x3FD744FD#32 * x c + Ideal.ofBits FTy.f32 0x3F000000#32 * g c * ∑ f, u f * wo f c

/-- The mean of a row. -/
def meanRow (y : Fin 1024 → EReal) : EReal := Ideal.div (∑ k, y k) (Ideal.ofBits FTy.f32 0x44800000#32)

/-- The normalised row. -/
def normRow (y lng lnb : Fin 1024 → EReal) (c : Fin 1024) : EReal :=
  (y c - meanRow y) * Ideal.rsqrt (Ideal.div (∑ k, (y k - meanRow y) * (y k - meanRow y)) (Ideal.ofBits FTy.f32 0x44800000#32)
    + Ideal.ofBits FTy.f32 925353388#32) * lng c + lnb c

/-- The whole layer on one row. -/
def ffRow (x sh sc g : Fin 1024 → EReal) (wa wg : Fin 1024 → Fin 2816 → EReal) (wo : Fin 2816 → Fin 1024 → EReal)
    (lng lnb : Fin 1024 → EReal) (c : Fin 1024) : EReal :=
  normRow (resRow x g (gateRow (hRow x sc sh) wa wg) wo) lng lnb c

theorem gate_apply (x : Vec Ideal S256x1024 .f32) (sc sh : Vec Ideal S1x1x1024 .f32) (wa wg : Vec Ideal S1x1x1024x2816 .bf16)
    (r : Fin 256) (f : Fin 2816) :
    k0_pay3 x sc sh wa wg (ix2 r f) = gateRow (hRow (fun k => x (ix2 r k)) (fun k => sc (ix3 0 0 k)) (fun k => sh (ix3 0 0 k)))
      (fun k f => wa (ix4 0 0 k f)) (fun k f => wg (ix4 0 0 k f)) f := by
  unfold k0_pay3 k0_pay2 gateRow linRow hRow
  pointwise

theorem scaled_apply (x : Vec Ideal S256x1024 .f32) (r : Fin 256) (c : Fin 1024) :
    k0_pay4 x (ix2 r c) = Ideal.ofBits FTy.f32 0x3FD744FD#32 * x (ix2 r c) := by
  unfold k0_pay4 k0_pay2
  pointwise

theorem half_apply (g : Vec Ideal S1x1x1024 .f32) (c : Fin 1024) :
    k0_pay5 g (ix2 0 c) = Ideal.ofBits FTy.f32 0x3F000000#32 * g (ix3 0 0 c) := by
  unfold k0_pay5
  pointwise

theorem second_apply (wo : Vec Ideal S1x1x2816x1024 .bf16) (f : Fin 2816) (c : Fin 1024) :
    k0_pay6 wo (ix2 f c) = wo (ix4 0 0 f c) := by
  unfold k0_pay6
  pointwise

theorem norm_apply (u : FVec Ideal S256x2816 .bf16) (ax : FVec Ideal S256x1024 .f32) (g : FVec Ideal S1x1024 .f32)
   (wo : FVec Ideal S2816x1024 .bf16) (lng lnb : Vec Ideal S1x1024 .f32)
    (r : Fin 256) (c : Fin 1024) :
    k0_pay7 u ax g wo lng lnb (ix2 r c) = normRow (fun c => ax (ix2 r c) + g (ix2 0 c) * ∑ f, u (ix2 r f) * wo (ix2 f c))
      (fun c => lng (ix2 0 c)) (fun c => lnb (ix2 0 c)) c := by
  unfold k0_pay7 normRow meanRow
  pointwise

/-- The first half block, row by row. -/
theorem half0_apply (x : Vec Ideal S256x1024 .f32) (sh sc g : Vec Ideal S1x1x1024 .f32) (wa wg : Vec Ideal S1x1x1024x2816 .bf16)
    (wo : Vec Ideal S1x1x2816x1024 .bf16) (lng lnb : Vec Ideal S1x1024 .f32) (r : Fin 256) (c : Fin 1024) :
    k0_pay7 (k0_pay3 x sc sh wa wg) (k0_pay4 x) (k0_pay5 g) (k0_pay6 wo) lng lnb (ix2 r c)
      = ffRow (fun k => x (ix2 r k)) (fun k => sh (ix3 0 0 k)) (fun k => sc (ix3 0 0 k)) (fun k => g (ix3 0 0 k))
        (fun k f => wa (ix4 0 0 k f)) (fun k f => wg (ix4 0 0 k f)) (fun f k => wo (ix4 0 0 f k))
        (fun k => lng (ix2 0 k)) (fun k => lnb (ix2 0 k)) c := by
  rw [norm_apply]
  unfold ffRow
  refine congrArg (fun y => normRow y _ _ c) (funext fun c => ?_)
  unfold resRow
  rw [scaled_apply, half_apply]
  refine congrArg _ (congrArg _ (Finset.sum_congr rfl fun f _ => ?_))
  rw [gate_apply, second_apply]

/-- The second half block applies the same operations. -/
theorem half1_eq (x : Vec Ideal S256x1024 .f32) (sh sc g : Vec Ideal S1x1x1024 .f32) (wa wg : Vec Ideal S1x1x1024x2816 .bf16)
    (wo : Vec Ideal S1x1x2816x1024 .bf16) (lng lnb : Vec Ideal S1x1024 .f32) :
    k0_pay1 (k0_pay10 (k0_pay8 x) (k0_pay9 x sc) sh wa wg g wo) (k0_pay11 lng) (k0_pay12 lnb)
        (k0_pay13 (k0_pay8 x) (k0_pay9 x sc) sh wa wg g wo)
      = k0_pay7 (k0_pay3 x sc sh wa wg) (k0_pay4 x) (k0_pay5 g) (k0_pay6 wo) lng lnb := rfl

/-- The block a grid point leaves, row by row. -/
theorem block_apply (x0 : Vec Ideal S512x1024 .f32) (x1 x2 x3 : Vec Ideal S1x1x1024 .f32) (x4 x5 : Vec Ideal S1x1x1024x2816 .bf16)
    (x6 : Vec Ideal S1x1x2816x1024 .bf16) (x7 x8 : Vec Ideal S1x1024 .f32) (r : Fin 512) (c : Fin 1024) :
    out0_9 x0 x1 x2 x3 x4 x5 x6 x7 x8 (ix2 r c)
      = ffRow (fun k => x0 (ix2 r k)) (fun k => x1 (ix3 0 0 k)) (fun k => x2 (ix3 0 0 k)) (fun k => x3 (ix3 0 0 k))
        (fun k f => x4 (ix4 0 0 k f)) (fun k f => x5 (ix4 0 0 k f)) (fun f k => x6 (ix4 0 0 f k))
        (fun k => x7 (ix2 0 k)) (fun k => x8 (ix2 0 k)) c := by
  have e1 : ∀ y : Vec Ideal S1x1x1024 .f32, View.ld y r0_1 = y := fun y =>
    View.ld_unit_zero (by funext a; fin_cases a <;> rfl) inb_S1x1x1024_S1x1x1024_0_0_0 y
  have e2 : ∀ y : Vec Ideal S1x1x1024x2816 .bf16, View.ld y r0_2 = y := fun y =>
    View.ld_unit_zero (by funext a; fin_cases a <;> rfl) inb_S1x1x1024x2816_S1x1x1024x2816_0_0_0_0 y
  have e3 : View.ld x6 r0_3 = x6 :=
    View.ld_unit_zero (by funext a; fin_cases a <;> rfl) inb_S1x1x2816x1024_S1x1x2816x1024_0_0_0_0 x6
  have e4 : ∀ y : Vec Ideal S1x1024 .f32, View.ld y r0_4 = y := fun y =>
    View.ld_unit_zero (by funext a; fin_cases a <;> rfl) inb_S1x1024_S1x1024_0_0 y
  unfold out0_9 k0_pay14 k0_pay15
  simp only [e1, e2, e3, e4]
  rw [half1_eq]
  let G : S512x1024.Idx → EReal := fun i => ffRow (fun k => x0 (ix2 (i 0) k)) (fun k => x1 (ix3 0 0 k)) (fun k => x2 (ix3 0 0 k))
        (fun k => x3 (ix3 0 0 k)) (fun k f => x4 (ix4 0 0 k f)) (fun k f => x5 (ix4 0 0 k f)) (fun f k => x6 (ix4 0 0 f k))
        (fun k => x7 (ix2 0 k)) (fun k => x8 (ix2 0 k)) (i 1)
  have l5 : ∀ (a : Fin 256) (k : Fin 1024), r0_5.emb (ix2 a k) = (ix2 ⟨256 + a.val, by omega⟩ k : S512x1024.Idx) := fun a k => by
    funext b
    apply Fin.ext
    match b with
    | ⟨0, _⟩ => show 256 + 1 * a.val = 256 + a.val; omega
    | ⟨1, _⟩ => show 0 + 1 * k.val = k.val; omega
  have l0 : ∀ (a : Fin 256) (k : Fin 1024), r0_0.emb (ix2 a k) = (ix2 ⟨a.val, by omega⟩ k : S512x1024.Idx) := fun a k => by
    funext b
    apply Fin.ext
    match b with
    | ⟨0, _⟩ => show 0 + 1 * a.val = a.val; omega
    | ⟨1, _⟩ => show 0 + 1 * k.val = k.val; omega
  refine View.canon_append_of_pieces (Val := Elt Ideal) (e := .f32) G [] [⟨r0_5, _⟩, ⟨r0_0, _⟩] ?_ (ix2 r c) (cover0_9 _ _ _)
  intro p hp
  rcases List.mem_cons.mp hp with rfl | hp
  · intro (i : S256x1024.Idx)
    obtain ⟨a, k, rfl⟩ : ∃ (a : Fin 256) (k : Fin 1024), i = ix2 a k := ⟨i 0, i 1, eq_ix2 i⟩
    refine (half0_apply _ _ _ _ _ _ _ _ _ a k).trans (Eq.trans ?_ (congrArg G (l5 a k)).symm)
    exact congrArg (fun x => ffRow x _ _ _ _ _ _ _ _ k) (funext fun q => congrArg x0 (l5 a q))
  · obtain rfl := List.mem_singleton.mp hp
    intro (i : S256x1024.Idx)
    obtain ⟨a, k, rfl⟩ : ∃ (a : Fin 256) (k : Fin 1024), i = ix2 a k := ⟨i 0, i 1, eq_ix2 i⟩
    refine (half0_apply _ _ _ _ _ _ _ _ _ a k).trans (Eq.trans ?_ (congrArg G (l0 a k)).symm)
    exact congrArg (fun x => ffRow x _ _ _ _ _ _ _ _ k) (funext fun q => congrArg x0 (l0 a q))

end Cert.Proof.Ff

end
-- ==== Proof.FfRef.lean ====
module

public import proofs.«01_k».proof.Proof.FfBody
public import proofs.«01_k».proof.Proof.Gen.FfnRefIdeal.Read

@[expose] public section

set_option maxRecDepth 16384

noncomputable section

/-! # One row of the feed-forward layer, as the reference computes it -/

namespace Cert.Proof.Ff

open Idealize.ShloMosaic Idealize.ShloMosaic.TcCoe Cert.FfnRefIdeal Cert.FfnRefIdeal.Read
open Idealize.ShloMosaic.Pointwise

variable (x : FVec Ideal S4x4096x1024 .f32) (md : FVec Ideal S4x9216 .f32) (w : FVec Ideal S4x2x1024x5632 .f32)
  (wo : FVec Ideal S4x2x2816x1024 .f32) (lg lb : FVec Ideal S4x3x1024 .f32)

/-- The modulated input. -/
theorem ref_h (b : Fin 4) (s : Fin 4096) (k : Fin 1024) :
    val_main_v15 (F := Ideal) x md (ix3 b s k) = hRow (fun k => x (ix3 b s k)) (fun k => md (ix2 b ⟨7168 + k.val, by omega⟩))
      (fun k => md (ix2 b ⟨6144 + k.val, by omega⟩)) k := by
  unfold val_main_v15 val_main_v14 val_main_v13 val_main_v12 val_main_v11 val_main_v10 val_main_v8 val_main_v7 val_main_v0
    val_main_cst hRow
  pointwise

/-- The first product. -/
theorem ref_lin (b : Fin 4) (s : Fin 4096) (f : Fin 5632) :
    val_main_v18 (F := Ideal) x md w (ix3 b s f) = ∑ k : Fin 1024, val_main_v15 (F := Ideal) x md (ix3 b s k) * w (ix4 3 1 k f) := by
  unfold val_main_v18 val_main_v17 val_main_v16
  generalize val_main_v15 (F := Ideal) x md = h
  pointwise

/-- The gated hidden values. -/
theorem ref_gate (b : Fin 4) (s : Fin 4096) (f : Fin 2816) :
    val_main_v26 (F := Ideal) x md w (ix3 b s f)
      = val_main_v18 (F := Ideal) x md w (ix3 b s ⟨2816 + f.val, by omega⟩)
        * Ideal.logistic (val_main_v18 (F := Ideal) x md w (ix3 b s ⟨2816 + f.val, by omega⟩))
        * val_main_v18 (F := Ideal) x md w (ix3 b s ⟨f.val, by omega⟩) := by
  unfold val_main_v26 val_main_v25 val_main_call0_v5 val_main_call0_v4 val_main_call0_v3 val_main_call0_v2 val_main_call0_v1
    val_main_call0_v0 val_main_call0_cst val_main_call0_cst_0 val_main_v20 val_main_v19
  generalize val_main_v18 (F := Ideal) x md w = h
  pointwise
  rfl

/-- The residual sum. -/
theorem ref_res (b : Fin 4) (s : Fin 4096) (c : Fin 1024) :
    val_main_v32 (F := Ideal) x md w wo (ix3 b s c)
      = resRow (fun k => x (ix3 b s k)) (fun k => md (ix2 b ⟨8192 + k.val, by omega⟩))
        (fun f => val_main_v26 (F := Ideal) x md w (ix3 b s f)) (fun f k => wo (ix4 3 1 f k)) c := by
  unfold val_main_v32 val_main_v31 val_main_v30 val_main_v29 val_main_v28 val_main_v27 val_main_v24 val_main_v23 val_main_v22
    val_main_v21 val_main_v9 val_main_v0 val_main_cst_0 val_main_cst_1 resRow
  generalize val_main_v26 (F := Ideal) x md w = h
  pointwise

/-- The normalised result. -/
theorem ref_norm (b : Fin 4) (s : Fin 4096) (c : Fin 1024) :
    val_main_v60 (F := Ideal) x md w wo lg lb (ix3 b s c)
      = normRow (fun k => val_main_v32 (F := Ideal) x md w wo (ix3 b s k)) (fun k => lg (ix3 3 2 k)) (fun k => lb (ix3 3 2 k)) c := by
  unfold val_main_v60 val_main_v59 val_main_v58 val_main_v57 val_main_v56 val_main_v55 val_main_v54 val_main_v53 val_main_v52
    val_main_v51 val_main_v50 val_main_v49 val_main_v48 val_main_v47 val_main_v46 val_main_v45 val_main_v44 val_main_v43
    val_main_v42 val_main_v41 val_main_v40 val_main_v39 val_main_v38 val_main_v37 val_main_v36 val_main_v35 val_main_v34
    val_main_v33 val_main_cst_2 val_main_cst_3 val_main_cst_4 val_main_cst_5 val_main_cst_6 normRow meanRow
  generalize val_main_v32 (F := Ideal) x md w wo = y
  pointwise

/-- The reference's result, row by row. -/
theorem ref_row (r : Fin 16384) (c : Fin 1024) :
    val_main_v61 (F := Ideal) x md w wo lg lb (ix2 r c)
      = val_main_v60 (F := Ideal) x md w wo lg lb (ix3 ⟨r.val / 4096, by omega⟩ ⟨r.val % 4096, by omega⟩ c) := by
  unfold val_main_v61
  generalize val_main_v60 (F := Ideal) x md w wo lg lb = y
  pointwise

/-- The reference's result is the layer applied row by row. -/
theorem ref_apply (r : Fin 16384) (c : Fin 1024) :
    val_main_v61 (F := Ideal) x md w wo lg lb (ix2 r c)
      = ffRow (fun k => x (ix3 ⟨r.val / 4096, by omega⟩ ⟨r.val % 4096, by omega⟩ k))
        (fun k => md (ix2 ⟨r.val / 4096, by omega⟩ ⟨6144 + k.val, by omega⟩))
        (fun k => md (ix2 ⟨r.val / 4096, by omega⟩ ⟨7168 + k.val, by omega⟩))
        (fun k => md (ix2 ⟨r.val / 4096, by omega⟩ ⟨8192 + k.val, by omega⟩))
        (fun k f => w (ix4 3 1 k ⟨f.val, by omega⟩)) (fun k f => w (ix4 3 1 k ⟨2816 + f.val, by omega⟩))
        (fun f k => wo (ix4 3 1 f k)) (fun k => lg (ix3 3 2 k)) (fun k => lb (ix3 3 2 k)) c := by
  rw [ref_row, ref_norm]
  unfold ffRow
  refine congrArg (fun y => normRow y _ _ c) (funext fun q => ?_)
  rw [ref_res]
  refine congrArg (fun u => resRow _ _ u _ q) (funext fun f => ?_)
  rw [ref_gate]
  unfold gateRow linRow
  simp only [ref_lin, ref_h]

end Cert.Proof.Ff

end
-- ==== Proof.FfFinal.lean ====
module

public import proofs.«01_k».proof.Proof.FfBlocks
public import proofs.«01_k».proof.Proof.FfRef

@[expose] public section

set_option maxRecDepth 16384

noncomputable section

/-! # The feed-forward kernel's run ends with the reference's result -/

namespace Cert.Proof.Ff

open Idealize Idealize.ShloMosaic Idealize.ShloMosaic.TcCoe Idealize.SL.Sem Cert.FfnIdeal
open Idealize.ShloMosaic.Pipeline (Dat Cfg Window)

variable (m : (ℓ : Loc nD τ sig) → Buf (Elt Ideal) ℓ) (ρ : Dev nD → PrngReg)

/-- The reference's result of the kernel's arguments. -/
def resultOf : S16384x1024.Idx → EReal :=
  Cert.FfnRefIdeal.Read.val_main_v61 (F := Ideal) (m ((0 : Dev nD).tc.loc main_arg0)) (m ((0 : Dev nD).tc.loc main_arg1))
    (m ((0 : Dev nD).tc.loc main_arg2)) (m ((0 : Dev nD).tc.loc main_arg3)) (m ((0 : Dev nD).tc.loc main_arg4))
    (m ((0 : Dev nD).tc.loc main_arg5))

/-- A row of a grid point's block is the row of the result. -/
theorem block_row (t : Fin grid0.N) (r : Fin 512) (k : Fin 1024) :
    Gen.out0_9 (Gen.iblk m 0 0 t) (Gen.iblk m 0 1 t) (Gen.iblk m 0 2 t) (Gen.iblk m 0 3 t) (Gen.iblk m 0 4 t) (Gen.iblk m 0 5 t)
      (Gen.iblk m 0 6 t) (Gen.iblk m 0 7 t) (Gen.iblk m 0 8 t) (ix2 r k) = resultOf m (ix2 (rowAt t r) k) := by
  have hb : (⟨(rowAt t r).val / 4096, by omega⟩ : Fin 4) = seqAt t := by
    apply Fin.ext
    show (t.val * 512 + r.val) / 4096 = t.val / 8
    omega
  refine (block_apply _ _ _ _ _ _ _ _ _ r k).trans (Eq.trans ?_ (ref_apply _ _ _ _ _ _ (rowAt t r) k).symm)
  rw [hb]
  simp only [blk_x, blk_sh, blk_sc, blk_g, blk_wa, blk_wg, blk_wo, blk_lng, blk_lnb, hb]

/-- The write-back of a grid point writes its rows of the result. -/
theorem flushed_eq (t : Fin cfg0.N) :
    (Gen.dats m 0 0).flushed 9 t = ((cfg0.win 9).blk t).view.read (Elt Ideal) (resultOf m) := by
  show (cfg0.win 9).cut (cfg0.grid.coords t) ((Gen.dats m 0 0).after 9 t) = _
  rw [Gen.after0_9]
  refine funext fun (j : S512x1024.Idx) => ?_
  have hj0 : (j 0).val < 512 := (j 0).isLt
  have hj1 : (j 1).val < 1024 := (j 1).isLt
  refine Eq.trans (b := Gen.out0_9 (Gen.iblk m 0 0 t) (Gen.iblk m 0 1 t) (Gen.iblk m 0 2 t) (Gen.iblk m 0 3 t) (Gen.iblk m 0 4 t)
      (Gen.iblk m 0 5 t) (Gen.iblk m 0 6 t) (Gen.iblk m 0 7 t) (Gen.iblk m 0 8 t) (ix2 ⟨(j 0).val, hj0⟩ ⟨(j 1).val, hj1⟩)) ?_
    ((block_row m t ⟨(j 0).val, hj0⟩ ⟨(j 1).val, hj1⟩).trans ?_)
  · refine congrArg (Gen.out0_9 (Gen.iblk m 0 0 t) (Gen.iblk m 0 1 t) (Gen.iblk m 0 2 t) (Gen.iblk m 0 3 t) (Gen.iblk m 0 4 t)
      (Gen.iblk m 0 5 t) (Gen.iblk m 0 6 t) (Gen.iblk m 0 7 t) (Gen.iblk m 0 8 t)) ?_
    funext a
    apply Fin.ext
    match a with
    | ⟨0, _⟩ => rfl
    | ⟨1, _⟩ => rfl
  · refine congrArg (resultOf m : S16384x1024.Idx → EReal) ?_
    funext a
    apply Fin.ext
    match a with
    | ⟨0, _⟩ =>
      show t.val * 512 + (j 0).val = cc0_transform_9 (grid0.coords t) 0 * 512 + 1 * (j 0).val
      rw [show cc0_transform_9 (grid0.coords t) 0 = t.val from congrFun (index9 t) 0]; omega
    | ⟨1, _⟩ =>
      show (j 1).val = cc0_transform_9 (grid0.coords t) 1 * 1024 + 1 * (j 1).val
      rw [show cc0_transform_9 (grid0.coords t) 1 = 0 from congrFun (index9 t) 1]; omega

/-- Every cell of the result is written at the grid point of its row. -/
theorem covered (i : S16384x1024.Idx) : ∃ t : Fin cfg0.N, (cfg0.win 9).flush t = true
    ∧ (i : ((cfg0.win 9).blk t).view.ty.Idx) ∈ ((cfg0.win 9).blk t).view.set := by
  have i0 : (i 0 : Nat) < 16384 := (i 0).isLt
  have i1 : (i 1 : Nat) < 1024 := (i 1).isLt
  have hN : grid0.N = 32 := Gen.N_0
  have hr : (i 0 : Nat) % 512 < 512 := by omega
  obtain ⟨t, hv⟩ : ∃ t : Fin grid0.N, t.val = (i 0 : Nat) / 512 := ⟨⟨(i 0 : Nat) / 512, by omega⟩, rfl⟩
  refine ⟨t, Gen.flush0_9 _, ?_⟩
  have e : ((cfg0.win 9).blk t).view.emb (ix2 ⟨(i 0 : Nat) % 512, hr⟩ ⟨(i 1 : Nat), i1⟩ : S512x1024.Idx) = i := by
    funext a
    apply Fin.ext
    match a with
    | ⟨0, _⟩ =>
      show cc0_transform_9 (grid0.coords t) 0 * 512 + 1 * ((i 0 : Nat) % 512) = (i 0 : Nat)
      rw [show cc0_transform_9 (grid0.coords t) 0 = t.val from congrFun (index9 t) 0]; omega
    | ⟨1, _⟩ =>
      show cc0_transform_9 (grid0.coords t) 1 * 1024 + 1 * (i 1 : Nat) = (i 1 : Nat)
      rw [show cc0_transform_9 (grid0.coords t) 1 = 0 from congrFun (index9 t) 1]; omega
  exact e ▸ View.emb_mem_set ((cfg0.win 9).blk t).view (ix2 ⟨(i 0 : Nat) % 512, hr⟩ ⟨(i 1 : Nat), i1⟩ : S512x1024.Idx)

/-- The result array ends holding the reference's result. -/
theorem final_eq : (Gen.dats m 0 0).arrAt 9 cfg0.N = (resultOf m : Buf (Elt Ideal) ((cfg0.win 9).arr.view.loc ((0 : Dev nD).tc))) :=
  (Gen.dats m 0 0).arrAt_eq_of_cover 9 (resultOf m) (fun t _ => flushed_eq m t) covered

/-- The kernel's run: its result is the reference's, its arguments are unchanged. -/
theorem kernel_run : θ_run defs (onTc (τ := τ) (main (F := Ideal))) ⟨m, fun _ => 0, ρ⟩ (fun r => ∀ c : Dev nD,
      r.2.mem ((c.tc : Thread nD τ).loc main_v10) = (fun _ : Dev nD => (resultOf m : Buf (Elt Ideal) ((c.tc : Thread nD τ).loc main_v10))) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain rfl : c = 0 := Subsingleton.elim _ _
    refine ⟨(((h.1 0).1 9).trans (final_eq m) : _), ?_⟩
    exact h.2 0) (θ_run_and (Gen.run_main m ρ) (Gen.unchanged m ρ))

end Cert.Proof.Ff

end
-- ==== Proof.FfClaims.lean ====
/- The claims about the feed-forward layer: the two kernels' frames, the reference's, and the equality of the idealized
   kernel and the reference. -/
module

public import proofs.«01_k».proof.Defs
public import proofs.«01_k».proof.Proof.Gen.Ffn.Frame
public import proofs.«01_k».proof.Proof.FfFinal
public import proofs.«01_k».proof.Proof.Gen.FfnRefIdeal.Run
public import Idealize.ShloMosaic.Lib.Claim
public import Idealize.ShloMosaic.Adequacy
public import Idealize.ShloMosaic.Init

@[expose] public section

set_option maxRecDepth 16384

noncomputable section

namespace Cert.Proof.Ff

open Idealize Idealize.ShloMosaic Idealize.SL.Sem

theorem frame_bits : Cert.quiescent_Ffn := fun m g _ => Cert.Ffn.Gen.frame m g

theorem frame_ideal : Cert.quiescent_FfnIdeal := fun m g _ => Cert.FfnIdeal.Gen.frame m g

theorem frame_ref : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

/-- The idealized kernel names no constant and replaces no operation. -/
theorem preserves : Cert.preserves_Ffn_FfnIdeal := trivial

/-- The reference's result of equal arguments. -/
theorem ref_result (m : (ℓ : Loc Cert.FfnIdeal.nD Cert.FfnIdeal.τ Cert.FfnIdeal.sig) → Buf (Elt Ideal) ℓ)
    (a0 : FVec Ideal Cert.FfnIdeal.S4x4096x1024 .f32) (a1 : FVec Ideal Cert.FfnIdeal.S4x9216 .f32)
    (a2 : FVec Ideal Cert.FfnIdeal.S4x2x1024x5632 .f32) (a3 : FVec Ideal Cert.FfnIdeal.S4x2x2816x1024 .f32)
    (a4 a5 : FVec Ideal Cert.FfnIdeal.S4x3x1024 .f32)
    (e0 : a0 = m ((0 : Dev Cert.FfnIdeal.nD).tc.loc Cert.FfnIdeal.main_arg0))
    (e1 : a1 = m ((0 : Dev Cert.FfnIdeal.nD).tc.loc Cert.FfnIdeal.main_arg1))
    (e2 : a2 = m ((0 : Dev Cert.FfnIdeal.nD).tc.loc Cert.FfnIdeal.main_arg2))
    (e3 : a3 = m ((0 : Dev Cert.FfnIdeal.nD).tc.loc Cert.FfnIdeal.main_arg3))
    (e4 : a4 = m ((0 : Dev Cert.FfnIdeal.nD).tc.loc Cert.FfnIdeal.main_arg4))
    (e5 : a5 = m ((0 : Dev Cert.FfnIdeal.nD).tc.loc Cert.FfnIdeal.main_arg5)) :
    Cert.FfnRefIdeal.Read.val_main_v61 (F := Ideal) a0 a1 a2 a3 a4 a5 = resultOf m := by
  subst e0 e1 e2 e3 e4 e5
  rfl

theorem algebraic : Cert.algebraic_FfnIdeal_FfnRefIdeal := fun m g m' g' _ e =>
  ⟨fun _ => resultOf m, kernel_run m g,
    (θ_run Cert.FfnRefIdeal.defs _ _).mono (fun r hr c => by
      obtain rfl : c = 0 := Subsingleton.elim _ _
      refine ⟨((hr 0).1.trans (Cert.FfnRefIdeal.Read.val_main_v61_eq m' 0)).trans ?_, (hr 0).2⟩
      exact ref_result m _ _ _ _ _ _ (e 0).1 (e 0).2.1 (e 0).2.2.1 (e 0).2.2.2.1 (e 0).2.2.2.2.1 (e 0).2.2.2.2.2)
      (Cert.FfnRefIdeal.Value.run (F := Ideal) m' g')⟩

end Cert.Proof.Ff

end
-- ==== Proof.FfsHost.lean ====
module

public import proofs.«01_k».proof.Proof.Gen.FfnSampleIdeal.Frame
public import Idealize.ShloMosaic.Lib.StableHlo.ReadAt
public import Idealize.ShloMosaic.Lib.Pointwise

@[expose] public section

set_option maxRecDepth 16384

noncomputable section

/-! # What the host operations hand to the feed-forward kernel of the sample batch, read at an index -/

namespace Cert.Proof.Ffs

open Idealize.ShloMosaic Idealize.SL.Sem Cert.FfnSampleIdeal

variable (m : (ℓ : Loc nD τ sig) → Buf (Elt Ideal) ℓ) (c : Dev nD)

/-- The rows of the input. -/
theorem host_x (r : Fin 128) (k : Fin 1024) :
    (Gen.V m c main_v0 : Vec Ideal S128x1024 .f32) (ix2 r k)
      = (m (c.tc.loc main_arg0) : Vec Ideal S128x1x1024 .f32) (ix3 r 0 k) := by
  unfold Gen.V
  after_reads_at

/-- The modulation rows. -/
theorem host_mod (b : Fin 128) (k : Fin 9216) :
    (Gen.V m c main_v1 : Vec Ideal S1x128x9216 .f32) (ix3 0 b k) = (m (c.tc.loc main_arg1) : Vec Ideal S128x9216 .f32) (ix2 b k) := by
  unfold Gen.V
  after_reads_at

/-- The first weights. -/
theorem host_w (a : Fin 4) (b : Fin 2) (k : Fin 1024) (f : Fin 5632) :
    (Gen.V m c main_v2 : Vec Ideal S4x2x1024x5632 .bf16) (ix4 a b k f)
      = (m (c.tc.loc main_arg2) : Vec Ideal S4x2x1024x5632 .f32) (ix4 a b k f) := by
  unfold Gen.V
  after_reads_at

/-- The second weights. -/
theorem host_wo (a : Fin 4) (b : Fin 2) (f : Fin 2816) (k : Fin 1024) :
    (Gen.V m c main_v3 : Vec Ideal S4x2x2816x1024 .bf16) (ix4 a b f k)
      = (m (c.tc.loc main_arg3) : Vec Ideal S4x2x2816x1024 .f32) (ix4 a b f k) := by
  unfold Gen.V
  after_reads_at

/-- The scale of the normalisation. -/
theorem host_lng (k : Fin 1024) :
    (Gen.V m c main_v6 : Vec Ideal S1x1024 .f32) (ix2 0 k) = (m (c.tc.loc main_arg4) : Vec Ideal S4x3x1024 .f32) (ix3 3 2 k) := by
  unfold Gen.V
  after_reads_at

/-- The offset of the normalisation. -/
theorem host_lnb (k : Fin 1024) :
    (Gen.V m c main_v9 : Vec Ideal S1x1024 .f32) (ix2 0 k) = (m (c.tc.loc main_arg5) : Vec Ideal S4x3x1024 .f32) (ix3 3 2 k) := by
  unfold Gen.V
  after_reads_at

end Cert.Proof.Ffs

end
-- ==== Proof.FfsBlocks.lean ====
module

public import proofs.«01_k».proof.Proof.FfsHost

@[expose] public section

set_option maxRecDepth 16384

noncomputable section

/-! # The blocks a grid point of the feed-forward kernel of the sample batch reads, as entries of the arguments -/

namespace Cert.Proof.Ffs

open Idealize Idealize.ShloMosaic Idealize.SL.Sem Cert.FfnSampleIdeal

variable (m : (ℓ : Loc nD τ sig) → Buf (Elt Ideal) ℓ) (c : Dev nD)

theorem index0 : ∀ (t : Fin grid0.N), cc0_transform_0 (grid0.coords t) = ![0, 0] := by decide +kernel
theorem index1 : ∀ (t : Fin grid0.N), cc0_transform_1 (grid0.coords t) = ![0, 0, 6] := by decide +kernel
theorem index2 : ∀ (t : Fin grid0.N), cc0_transform_2 (grid0.coords t) = ![0, 0, 7] := by decide +kernel
theorem index3 : ∀ (t : Fin grid0.N), cc0_transform_3 (grid0.coords t) = ![0, 0, 8] := by decide +kernel
theorem index4 : ∀ (t : Fin grid0.N), cc0_transform_4 (grid0.coords t) = ![3, 1, 0, 0] := by decide +kernel
theorem index5 : ∀ (t : Fin grid0.N), cc0_transform_5 (grid0.coords t) = ![3, 1, 0, 1] := by decide +kernel
theorem index6 : ∀ (t : Fin grid0.N), cc0_transform_6 (grid0.coords t) = ![3, 1, 0, 0] := by decide +kernel
theorem index7 : ∀ (t : Fin grid0.N), cc0_transform_7 (grid0.coords t) = ![0, 0] := by decide +kernel
theorem index8 : ∀ (t : Fin grid0.N), cc0_transform_8 (grid0.coords t) = ![0, 0] := by decide +kernel
theorem index9 : ∀ (t : Fin grid0.N), cc0_transform_9 (grid0.coords t) = ![0, 0] := by decide +kernel

/-- The rows of the input. -/
theorem blk_x (t : Fin grid0.N) (r : Fin 128) (k : Fin 1024) :
    (Gen.iblk m c 0 t : Vec Ideal S128x1024 .f32) (ix2 r k) = (m (c.tc.loc main_arg0) : Vec Ideal S128x1x1024 .f32) (ix3 r 0 k) := by
  refine (?_ : _ = (Gen.V m c main_v0 : Vec Ideal S128x1024 .f32) (ix2 r k)).trans ((host_x m c r k))
  unfold Gen.iblk
  refine congrArg (Gen.V m c main_v0 : S128x1024.Idx → EReal) ?_
  funext a
  apply Fin.ext
  match a with
  | ⟨0, _⟩ =>
    show cc0_transform_0 (grid0.coords t) 0 * 128 + 1 * r.val = r.val
    rw [show cc0_transform_0 (grid0.coords t) 0 = 0 from congrFun (index0 t) 0]; omega
  | ⟨1, _⟩ =>
    show cc0_transform_0 (grid0.coords t) 1 * 1024 + 1 * k.val = k.val
    rw [show cc0_transform_0 (grid0.coords t) 1 = 0 from congrFun (index0 t) 1]; omega

/-- The shift. -/
theorem blk_sh (t : Fin grid0.N) (r : Fin 128) (k : Fin 1024) :
    (Gen.iblk m c 1 t : Vec Ideal S1x128x1024 .f32) (ix3 0 r k) = (m (c.tc.loc main_arg1) : Vec Ideal S128x9216 .f32) (ix2 r ⟨6144 + k.val, by omega⟩) := by
  refine (?_ : _ = (Gen.V m c main_v1 : Vec Ideal S1x128x9216 .f32) (ix3 0 r ⟨6144 + k.val, by omega⟩)).trans ((host_mod m c r ⟨6144 + k.val, by omega⟩))
  unfold Gen.iblk
  refine congrArg (Gen.V m c main_v1 : S1x128x9216.Idx → EReal) ?_
  funext a
  apply Fin.ext
  match a with
  | ⟨0, _⟩ =>
    show cc0_transform_1 (grid0.coords t) 0 * 1 + 1 * 0 = 0
    rw [show cc0_transform_1 (grid0.coords t) 0 = 0 from congrFun (index1 t) 0]
  | ⟨1, _⟩ =>
    show cc0_transform_1 (grid0.coords t) 1 * 128 + 1 * r.val = r.val
    rw [show cc0_transform_1 (grid0.coords t) 1 = 0 from congrFun (index1 t) 1]; omega
  | ⟨2, _⟩ =>
    show cc0_transform_1 (grid0.coords t) 2 * 1024 + 1 * k.val = 6144 + k.val
    rw [show cc0_transform_1 (grid0.coords t) 2 = 6 from congrFun (index1 t) 2]; omega

/-- The scale. -/
theorem blk_sc (t : Fin grid0.N) (r : Fin 128) (k : Fin 1024) :
    (Gen.iblk m c 2 t : Vec Ideal S1x128x1024 .f32) (ix3 0 r k) = (m (c.tc.loc main_arg1) : Vec Ideal S128x9216 .f32) (ix2 r ⟨7168 + k.val, by omega⟩) := by
  refine (?_ : _ = (Gen.V m c main_v1 : Vec Ideal S1x128x9216 .f32) (ix3 0 r ⟨7168 + k.val, by omega⟩)).trans ((host_mod m c r ⟨7168 + k.val, by omega⟩))
  unfold Gen.iblk
  refine congrArg (Gen.V m c main_v1 : S1x128x9216.Idx → EReal) ?_
  funext a
  apply Fin.ext
  match a with
  | ⟨0, _⟩ =>
    show cc0_transform_2 (grid0.coords t) 0 * 1 + 1 * 0 = 0
    rw [show cc0_transform_2 (grid0.coords t) 0 = 0 from congrFun (index2 t) 0]
  | ⟨1, _⟩ =>
    show cc0_transform_2 (grid0.coords t) 1 * 128 + 1 * r.val = r.val
    rw [show cc0_transform_2 (grid0.coords t) 1 = 0 from congrFun (index2 t) 1]; omega
  | ⟨2, _⟩ =>
    show cc0_transform_2 (grid0.coords t) 2 * 1024 + 1 * k.val = 7168 + k.val
    rw [show cc0_transform_2 (grid0.coords t) 2 = 7 from congrFun (index2 t) 2]; omega

/-- The gate. -/
theorem blk_g (t : Fin grid0.N) (r : Fin 128) (k : Fin 1024) :
    (Gen.iblk m c 3 t : Vec Ideal S1x128x1024 .f32) (ix3 0 r k) = (m (c.tc.loc main_arg1) : Vec Ideal S128x9216 .f32) (ix2 r ⟨8192 + k.val, by omega⟩) := by
  refine (?_ : _ = (Gen.V m c main_v1 : Vec Ideal S1x128x9216 .f32) (ix3 0 r ⟨8192 + k.val, by omega⟩)).trans ((host_mod m c r ⟨8192 + k.val, by omega⟩))
  unfold Gen.iblk
  refine congrArg (Gen.V m c main_v1 : S1x128x9216.Idx → EReal) ?_
  funext a
  apply Fin.ext
  match a with
  | ⟨0, _⟩ =>
    show cc0_transform_3 (grid0.coords t) 0 * 1 + 1 * 0 = 0
    rw [show cc0_transform_3 (grid0.coords t) 0 = 0 from congrFun (index3 t) 0]
  | ⟨1, _⟩ =>
    show cc0_transform_3 (grid0.coords t) 1 * 128 + 1 * r.val = r.val
    rw [show cc0_transform_3 (grid0.coords t) 1 = 0 from congrFun (index3 t) 1]; omega
  | ⟨2, _⟩ =>
    show cc0_transform_3 (grid0.coords t) 2 * 1024 + 1 * k.val = 8192 + k.val
    rw [show cc0_transform_3 (grid0.coords t) 2 = 8 from congrFun (index3 t) 2]; omega

/-- The first half of the first weights. -/
theorem blk_wa (t : Fin grid0.N) (k : Fin 1024) (f : Fin 2816) :
    (Gen.iblk m c 4 t : Vec Ideal S1x1x1024x2816 .bf16) (ix4 0 0 k f) = (m (c.tc.loc main_arg2) : Vec Ideal S4x2x1024x5632 .f32) (ix4 3 1 k ⟨f.val, by omega⟩) := by
  refine (?_ : _ = (Gen.V m c main_v2 : Vec Ideal S4x2x1024x5632 .bf16) (ix4 3 1 k ⟨f.val, by omega⟩)).trans ((host_w m c 3 1 k ⟨f.val, by omega⟩))
  unfold Gen.iblk
  refine congrArg (Gen.V m c main_v2 : S4x2x1024x5632.Idx → EReal) ?_
  funext a
  apply Fin.ext
  match a with
  | ⟨0, _⟩ =>
    show cc0_transform_4 (grid0.coords t) 0 * 1 + 1 * 0 = 3
    rw [show cc0_transform_4 (grid0.coords t) 0 = 3 from congrFun (index4 t) 0]
  | ⟨1, _⟩ =>
    show cc0_transform_4 (grid0.coords t) 1 * 1 + 1 * 0 = 1
    rw [show cc0_transform_4 (grid0.coords t) 1 = 1 from congrFun (index4 t) 1]
  | ⟨2, _⟩ =>
    show cc0_transform_4 (grid0.coords t) 2 * 1024 + 1 * k.val = k.val
    rw [show cc0_transform_4 (grid0.coords t) 2 = 0 from congrFun (index4 t) 2]; omega
  | ⟨3, _⟩ =>
    show cc0_transform_4 (grid0.coords t) 3 * 2816 + 1 * f.val = f.val
    rw [show cc0_transform_4 (grid0.coords t) 3 = 0 from congrFun (index4 t) 3]; omega

/-- The second half of the first weights. -/
theorem blk_wg (t : Fin grid0.N) (k : Fin 1024) (f : Fin 2816) :
    (Gen.iblk m c 5 t : Vec Ideal S1x1x1024x2816 .bf16) (ix4 0 0 k f) = (m (c.tc.loc main_arg2) : Vec Ideal S4x2x1024x5632 .f32) (ix4 3 1 k ⟨2816 + f.val, by omega⟩) := by
  refine (?_ : _ = (Gen.V m c main_v2 : Vec Ideal S4x2x1024x5632 .bf16) (ix4 3 1 k ⟨2816 + f.val, by omega⟩)).trans ((host_w m c 3 1 k ⟨2816 + f.val, by omega⟩))
  unfold Gen.iblk
  refine congrArg (Gen.V m c main_v2 : S4x2x1024x5632.Idx → EReal) ?_
  funext a
  apply Fin.ext
  match a with
  | ⟨0, _⟩ =>
    show cc0_transform_5 (grid0.coords t) 0 * 1 + 1 * 0 = 3
    rw [show cc0_transform_5 (grid0.coords t) 0 = 3 from congrFun (index5 t) 0]
  | ⟨1, _⟩ =>
    show cc0_transform_5 (grid0.coords t) 1 * 1 + 1 * 0 = 1
    rw [show cc0_transform_5 (grid0.coords t) 1 = 1 from congrFun (index5 t) 1]
  | ⟨2, _⟩ =>
    show cc0_transform_5 (grid0.coords t) 2 * 1024 + 1 * k.val = k.val
    rw [show cc0_transform_5 (grid0.coords t) 2 = 0 from congrFun (index5 t) 2]; omega
  | ⟨3, _⟩ =>
    show cc0_transform_5 (grid0.coords t) 3 * 2816 + 1 * f.val = 2816 + f.val
    rw [show cc0_transform_5 (grid0.coords t) 3 = 1 from congrFun (index5 t) 3]; omega

/-- The second weights. -/
theorem blk_wo (t : Fin grid0.N) (f : Fin 2816) (k : Fin 1024) :
    (Gen.iblk m c 6 t : Vec Ideal S1x1x2816x1024 .bf16) (ix4 0 0 f k) = (m (c.tc.loc main_arg3) : Vec Ideal S4x2x2816x1024 .f32) (ix4 3 1 f k) := by
  refine (?_ : _ = (Gen.V m c main_v3 : Vec Ideal S4x2x2816x1024 .bf16) (ix4 3 1 f k)).trans ((host_wo m c 3 1 f k))
  unfold Gen.iblk
  refine congrArg (Gen.V m c main_v3 : S4x2x2816x1024.Idx → EReal) ?_
  funext a
  apply Fin.ext
  match a with
  | ⟨0, _⟩ =>
    show cc0_transform_6 (grid0.coords t) 0 * 1 + 1 * 0 = 3
    rw [show cc0_transform_6 (grid0.coords t) 0 = 3 from congrFun (index6 t) 0]
  | ⟨1, _⟩ =>
    show cc0_transform_6 (grid0.coords t) 1 * 1 + 1 * 0 = 1
    rw [show cc0_transform_6 (grid0.coords t) 1 = 1 from congrFun (index6 t) 1]
  | ⟨2, _⟩ =>
    show cc0_transform_6 (grid0.coords t) 2 * 2816 + 1 * f.val = f.val
    rw [show cc0_transform_6 (grid0.coords t) 2 = 0 from congrFun (index6 t) 2]; omega
  | ⟨3, _⟩ =>
    show cc0_transform_6 (grid0.coords t) 3 * 1024 + 1 * k.val = k.val
    rw [show cc0_transform_6 (grid0.coords t) 3 = 0 from congrFun (index6 t) 3]; omega

/-- The scale of the normalisation. -/
theorem blk_lng (t : Fin grid0.N) (k : Fin 1024) :
    (Gen.iblk m c 7 t : Vec Ideal S1x1024 .f32) (ix2 0 k) = (m (c.tc.loc main_arg4) : Vec Ideal S4x3x1024 .f32) (ix3 3 2 k) := by
  refine (?_ : _ = (Gen.V m c main_v6 : Vec Ideal S1x1024 .f32) (ix2 0 k)).trans ((host_lng m c k))
  unfold Gen.iblk
  refine congrArg (Gen.V m c main_v6 : S1x1024.Idx → EReal) ?_
  funext a
  apply Fin.ext
  match a with
  | ⟨0, _⟩ =>
    show cc0_transform_7 (grid0.coords t) 0 * 1 + 1 * 0 = 0
    rw [show cc0_transform_7 (grid0.coords t) 0 = 0 from congrFun (index7 t) 0]
  | ⟨1, _⟩ =>
    show cc0_transform_7 (grid0.coords t) 1 * 1024 + 1 * k.val = k.val
    rw [show cc0_transform_7 (grid0.coords t) 1 = 0 from congrFun (index7 t) 1]; omega

/-- The offset of the normalisation. -/
theorem blk_lnb (t : Fin grid0.N) (k : Fin 1024) :
    (Gen.iblk m c 8 t : Vec Ideal S1x1024 .f32) (ix2 0 k) = (m (c.tc.loc main_arg5) : Vec Ideal S4x3x1024 .f32) (ix3 3 2 k) := by
  refine (?_ : _ = (Gen.V m c main_v9 : Vec Ideal S1x1024 .f32) (ix2 0 k)).trans ((host_lnb m c k))
  unfold Gen.iblk
  refine congrArg (Gen.V m c main_v9 : S1x1024.Idx → EReal) ?_
  funext a
  apply Fin.ext
  match a with
  | ⟨0, _⟩ =>
    show cc0_transform_8 (grid0.coords t) 0 * 1 + 1 * 0 = 0
    rw [show cc0_transform_8 (grid0.coords t) 0 = 0 from congrFun (index8 t) 0]
  | ⟨1, _⟩ =>
    show cc0_transform_8 (grid0.coords t) 1 * 1024 + 1 * k.val = k.val
    rw [show cc0_transform_8 (grid0.coords t) 1 = 0 from congrFun (index8 t) 1]; omega

end Cert.Proof.Ffs

end
-- ==== Proof.FfsBody.lean ====
module

public import proofs.«01_k».proof.Proof.FfBody
public import proofs.«01_k».proof.Proof.Gen.FfnSampleIdeal.Frame
public import Idealize.ShloMosaic.Lib.Pipeline.Value
public import Idealize.ShloMosaic.Lib.Pointwise
public import Idealize.ShloMosaic.PureOps.Ideal.Laws

@[expose] public section

set_option maxRecDepth 16384

noncomputable section

/-! # One row of the feed-forward layer of the sample batch, as the kernel computes it -/

namespace Cert.Proof.Ffs

open Idealize.ShloMosaic Idealize.ShloMosaic.TcCoe Cert.FfnSampleIdeal Cert.FfnSampleIdeal.Gen
open Idealize.ShloMosaic.Pointwise Cert.Proof.Ff

theorem second_apply (x : Vec Ideal S128x1024 .f32) (sc sh : Vec Ideal S1x128x1024 .f32) (wa wg : Vec Ideal S1x1x1024x2816 .bf16)
    (wo : Vec Ideal S1x1x2816x1024 .bf16) (r : Fin 128) (c : Fin 1024) :
    k0_pay5 x sc sh wa wg wo (ix2 r c)
      = ∑ f, gateRow (hRow (fun k => x (ix2 r k)) (fun k => sc (ix3 0 r k)) (fun k => sh (ix3 0 r k)))
        (fun k f => wa (ix4 0 0 k f)) (fun k f => wg (ix4 0 0 k f)) f * wo (ix4 0 0 f c) := by
  unfold k0_pay5 k0_pay2 gateRow linRow hRow
  pointwise

theorem scaled_apply (x : Vec Ideal S128x1024 .f32) (r : Fin 128) (c : Fin 1024) :
    k0_pay3 x (ix2 r c) = Ideal.ofBits FTy.f32 0x3FD744FD#32 * x (ix2 r c) := by
  unfold k0_pay3 k0_pay2
  pointwise

theorem half_apply (g : Vec Ideal S1x128x1024 .f32) (r : Fin 128) (c : Fin 1024) :
    k0_pay4 g (ix2 r c) = Ideal.ofBits FTy.f32 0x3F000000#32 * g (ix3 0 r c) := by
  unfold k0_pay4
  pointwise

theorem norm_apply (ax g u : FVec Ideal S128x1024 .f32) (lng lnb : Vec Ideal S1x1024 .f32) (r : Fin 128) (c : Fin 1024) :
    k0_pay1 ax g u lng lnb (ix2 r c) = normRow (fun c => ax (ix2 r c) + g (ix2 r c) * u (ix2 r c))
      (fun c => lng (ix2 0 c)) (fun c => lnb (ix2 0 c)) c := by
  unfold k0_pay1 normRow meanRow
  pointwise

/-- The block the kernel leaves, row by row. -/
theorem block_apply (x0 : Vec Ideal S128x1024 .f32) (x1 x2 x3 : Vec Ideal S1x128x1024 .f32) (x4 x5 : Vec Ideal S1x1x1024x2816 .bf16)
    (x6 : Vec Ideal S1x1x2816x1024 .bf16) (x7 x8 : Vec Ideal S1x1024 .f32) (r : Fin 128) (c : Fin 1024) :
    out0_9 x0 x1 x2 x3 x4 x5 x6 x7 x8 (ix2 r c)
      = ffRow (fun k => x0 (ix2 r k)) (fun k => x1 (ix3 0 r k)) (fun k => x2 (ix3 0 r k)) (fun k => x3 (ix3 0 r k))
        (fun k f => x4 (ix4 0 0 k f)) (fun k f => x5 (ix4 0 0 k f)) (fun f k => x6 (ix4 0 0 f k))
        (fun k => x7 (ix2 0 k)) (fun k => x8 (ix2 0 k)) c := by
  have e0 : View.ld x0 r0_0 = x0 :=
    View.ld_unit_zero (by funext a; fin_cases a <;> rfl) inb_S128x1024_S128x1024_0_0 x0
  have e1 : ∀ y : Vec Ideal S1x128x1024 .f32, View.ld y r0_1 = y := fun y =>
    View.ld_unit_zero (by funext a; fin_cases a <;> rfl) inb_S1x128x1024_S1x128x1024_0_0_0 y
  have e2 : ∀ y : Vec Ideal S1x1x1024x2816 .bf16, View.ld y r0_2 = y := fun y =>
    View.ld_unit_zero (by funext a; fin_cases a <;> rfl) inb_S1x1x1024x2816_S1x1x1024x2816_0_0_0_0 y
  have e3 : View.ld x6 r0_3 = x6 :=
    View.ld_unit_zero (by funext a; fin_cases a <;> rfl) inb_S1x1x2816x1024_S1x1x2816x1024_0_0_0_0 x6
  have e4 : ∀ y : Vec Ideal S1x1024 .f32, View.ld y r0_4 = y := fun y =>
    View.ld_unit_zero (by funext a; fin_cases a <;> rfl) inb_S1x1024_S1x1024_0_0 y
  unfold out0_9
  simp only [e0, e1, e2, e3, e4]
  rw [View.canon_unit_zero (by funext a; fin_cases a <;> rfl) inb_S128x1024_S128x1024_0_0, norm_apply]
  unfold ffRow
  refine congrArg (fun y => normRow y _ _ c) (funext fun c => ?_)
  unfold resRow
  rw [scaled_apply, half_apply, second_apply]

end Cert.Proof.Ffs

end
-- ==== Proof.FfsRef.lean ====
module

public import proofs.«01_k».proof.Proof.FfBody
public import proofs.«01_k».proof.Proof.Gen.FfnSampleRefIdeal.Read

@[expose] public section

set_option maxRecDepth 16384

noncomputable section

/-! # One row of the feed-forward layer of the sample batch, as the reference computes it -/

namespace Cert.Proof.Ffs

open Idealize.ShloMosaic Idealize.ShloMosaic.TcCoe Cert.FfnSampleRefIdeal Cert.FfnSampleRefIdeal.Read
open Idealize.ShloMosaic.Pointwise Cert.Proof.Ff

variable (x : FVec Ideal S128x1x1024 .f32) (md : FVec Ideal S128x9216 .f32) (w : FVec Ideal S4x2x1024x5632 .f32)
  (wo : FVec Ideal S4x2x2816x1024 .f32) (lg lb : FVec Ideal S4x3x1024 .f32)

/-- The modulated input. -/
theorem ref_h (b : Fin 128) (k : Fin 1024) :
   val_main_v13 (F := Ideal) x md (ix3 b 0 k) = hRow (fun k => x (ix3 b 0 k)) (fun k => md (ix2 b ⟨7168 + k.val, by omega⟩))
      (fun k => md (ix2 b ⟨6144 + k.val, by omega⟩)) k := by
  unfold val_main_v13 val_main_v12 val_main_v11 val_main_v10 val_main_v8 val_main_v7 val_main_v0
   val_main_cst hRow
  pointwise

/-- The first product. -/
theorem ref_lin (b : Fin 128) (f : Fin 5632) :
   val_main_v16 (F := Ideal) x md w (ix3 b 0 f) = ∑ k : Fin 1024, val_main_v13 (F := Ideal) x md (ix3 b 0 k) * w (ix4 3 1 k f) := by
  unfold val_main_v16 val_main_v15 val_main_v14
  generalize val_main_v13 (F := Ideal) x md = h
  pointwise

/-- The gated hidden values. -/
theorem ref_gate (b : Fin 128) (f : Fin 2816) :
   val_main_v24 (F := Ideal) x md w (ix3 b 0 f)
      = val_main_v16 (F := Ideal) x md w (ix3 b 0 ⟨2816 + f.val, by omega⟩)
        * Ideal.logistic (val_main_v16 (F := Ideal) x md w (ix3 b 0 ⟨2816 + f.val, by omega⟩))
        * val_main_v16 (F := Ideal) x md w (ix3 b 0 ⟨f.val, by omega⟩) := by
  unfold val_main_v24 val_main_v23 val_main_call0_v5 val_main_call0_v4 val_main_call0_v3 val_main_call0_v2 val_main_call0_v1
   val_main_call0_v0 val_main_call0_cst val_main_call0_cst_0 val_main_v18 val_main_v17
  generalize val_main_v16 (F := Ideal) x md w = h
  pointwise
  rfl

/-- The residual sum. -/
theorem ref_res (b : Fin 128) (c : Fin 1024) :
   val_main_v29 (F := Ideal) x md w wo (ix3 b 0 c)
      = resRow (fun k => x (ix3 b 0 k)) (fun k => md (ix2 b ⟨8192 + k.val, by omega⟩))
        (fun f => val_main_v24 (F := Ideal) x md w (ix3 b 0 f)) (fun f k => wo (ix4 3 1 f k)) c := by
  unfold val_main_v29 val_main_v28 val_main_v27 val_main_v26 val_main_v25 val_main_v22 val_main_v21 val_main_v20
   val_main_v19 val_main_v9 val_main_v0 val_main_cst_0 val_main_cst_1 resRow
  generalize val_main_v24 (F := Ideal) x md w = h
  pointwise

/-- The normalised result. -/
theorem ref_norm (b : Fin 128) (c : Fin 1024) :
   val_main_v57 (F := Ideal) x md w wo lg lb (ix3 b 0 c)
      = normRow (fun k => val_main_v29 (F := Ideal) x md w wo (ix3 b 0 k)) (fun k => lg (ix3 3 2 k)) (fun k => lb (ix3 3 2 k)) c := by
  unfold val_main_v57 val_main_v56 val_main_v55 val_main_v54 val_main_v53 val_main_v52 val_main_v51 val_main_v50 val_main_v49
   val_main_v48 val_main_v47 val_main_v46 val_main_v45 val_main_v44 val_main_v43 val_main_v42 val_main_v41 val_main_v40
   val_main_v39 val_main_v38 val_main_v37 val_main_v36 val_main_v35 val_main_v34 val_main_v33 val_main_v32 val_main_v31
   val_main_v30 val_main_cst_2 val_main_cst_3 val_main_cst_4 val_main_cst_5 val_main_cst_6 normRow meanRow
  generalize val_main_v29 (F := Ideal) x md w wo = y
  pointwise

/-- The reference's result, row by row. -/
theorem ref_row (r : Fin 128) (c : Fin 1024) :
   val_main_v58 (F := Ideal) x md w wo lg lb (ix2 r c)
      = val_main_v57 (F := Ideal) x md w wo lg lb (ix3 r 0 c) := by
  unfold val_main_v58
  generalize val_main_v57 (F := Ideal) x md w wo lg lb = y
  pointwise

/-- The reference's result is the layer applied row by row. -/
theorem ref_apply (r : Fin 128) (c : Fin 1024) :
   val_main_v58 (F := Ideal) x md w wo lg lb (ix2 r c)
      = ffRow (fun k => x (ix3 r 0 k))
        (fun k => md (ix2 r ⟨6144 + k.val, by omega⟩))
        (fun k => md (ix2 r ⟨7168 + k.val, by omega⟩))
        (fun k => md (ix2 r ⟨8192 + k.val, by omega⟩))
        (fun k f => w (ix4 3 1 k ⟨f.val, by omega⟩)) (fun k f => w (ix4 3 1 k ⟨2816 + f.val, by omega⟩))
        (fun f k => wo (ix4 3 1 f k)) (fun k => lg (ix3 3 2 k)) (fun k => lb (ix3 3 2 k)) c := by
  rw [ref_row, ref_norm]
  unfold ffRow
  refine congrArg (fun y => normRow y _ _ c) (funext fun q => ?_)
  rw [ref_res]
  refine congrArg (fun u => resRow _ _ u _ q) (funext fun f => ?_)
  rw [ref_gate]
  unfold gateRow linRow
  simp only [ref_lin, ref_h]

end Cert.Proof.Ffs

end
-- ==== Proof.FfsFinal.lean ====
module

public import proofs.«01_k».proof.Proof.FfsBlocks
public import proofs.«01_k».proof.Proof.FfsBody
public import proofs.«01_k».proof.Proof.FfsRef

@[expose] public section

set_option maxRecDepth 16384

noncomputable section

/-! # The run of the sample batch's feed-forward kernel ends with the reference's result -/

namespace Cert.Proof.Ffs

open Idealize Idealize.ShloMosaic Idealize.ShloMosaic.TcCoe Idealize.SL.Sem Cert.FfnSampleIdeal
open Idealize.ShloMosaic.Pipeline (Dat Cfg Window)

variable (m : (ℓ : Loc nD τ sig) → Buf (Elt Ideal) ℓ) (ρ : Dev nD → PrngReg)

/-- The reference's result of the kernel's arguments. -/
def resultOf : S128x1024.Idx → EReal :=
  Cert.FfnSampleRefIdeal.Read.val_main_v58 (F := Ideal) (m ((0 : Dev nD).tc.loc main_arg0)) (m ((0 : Dev nD).tc.loc main_arg1))
    (m ((0 : Dev nD).tc.loc main_arg2)) (m ((0 : Dev nD).tc.loc main_arg3)) (m ((0 : Dev nD).tc.loc main_arg4))
    (m ((0 : Dev nD).tc.loc main_arg5))

/-- A row of a grid point's block is the row of the result. -/
theorem block_row (t : Fin grid0.N) (r : Fin 128) (k : Fin 1024) :
    Gen.out0_9 (Gen.iblk m 0 0 t) (Gen.iblk m 0 1 t) (Gen.iblk m 0 2 t) (Gen.iblk m 0 3 t) (Gen.iblk m 0 4 t) (Gen.iblk m 0 5 t)
      (Gen.iblk m 0 6 t) (Gen.iblk m 0 7 t) (Gen.iblk m 0 8 t) (ix2 r k) = resultOf m (ix2 r k) := by
  refine (block_apply _ _ _ _ _ _ _ _ _ r k).trans (Eq.trans ?_ (ref_apply _ _ _ _ _ _ r k).symm)
  simp only [blk_x, blk_sh, blk_sc, blk_g, blk_wa, blk_wg, blk_wo, blk_lng, blk_lnb]

/-- The write-back of a grid point writes its rows of the result. -/
theorem flushed_eq (t : Fin cfg0.N) :
    (Gen.dats m 0 0).flushed 9 t = ((cfg0.win 9).blk t).view.read (Elt Ideal) (resultOf m) := by
  show (cfg0.win 9).cut (cfg0.grid.coords t) ((Gen.dats m 0 0).after 9 t) = _
  rw [Gen.after0_9]
  refine funext fun (j : S128x1024.Idx) => ?_
  have hj0 : (j 0).val < 128 := (j 0).isLt
  have hj1 : (j 1).val < 1024 := (j 1).isLt
  refine Eq.trans (b := Gen.out0_9 (Gen.iblk m 0 0 t) (Gen.iblk m 0 1 t) (Gen.iblk m 0 2 t) (Gen.iblk m 0 3 t) (Gen.iblk m 0 4 t)
      (Gen.iblk m 0 5 t) (Gen.iblk m 0 6 t) (Gen.iblk m 0 7 t) (Gen.iblk m 0 8 t) (ix2 ⟨(j 0).val, hj0⟩ ⟨(j 1).val, hj1⟩)) ?_
    ((block_row m t ⟨(j 0).val, hj0⟩ ⟨(j 1).val, hj1⟩).trans ?_)
  · refine congrArg (Gen.out0_9 (Gen.iblk m 0 0 t) (Gen.iblk m 0 1 t) (Gen.iblk m 0 2 t) (Gen.iblk m 0 3 t) (Gen.iblk m 0 4 t)
      (Gen.iblk m 0 5 t) (Gen.iblk m 0 6 t) (Gen.iblk m 0 7 t) (Gen.iblk m 0 8 t)) ?_
    funext a
    apply Fin.ext
    match a with
    | ⟨0, _⟩ => rfl
    | ⟨1, _⟩ => rfl
  · refine congrArg (resultOf m : S128x1024.Idx → EReal) ?_
    funext a
    apply Fin.ext
    match a with
    | ⟨0, _⟩ =>
      show (j 0).val = cc0_transform_9 (grid0.coords t) 0 * 128 + 1 * (j 0).val
      rw [show cc0_transform_9 (grid0.coords t) 0 = 0 from congrFun (index9 t) 0]; omega
    | ⟨1, _⟩ =>
      show (j 1).val = cc0_transform_9 (grid0.coords t) 1 * 1024 + 1 * (j 1).val
      rw [show cc0_transform_9 (grid0.coords t) 1 = 0 from congrFun (index9 t) 1]; omega

/-- Every cell of the result is written at the grid point of its row. -/
theorem covered (i : S128x1024.Idx) : ∃ t : Fin cfg0.N, (cfg0.win 9).flush t = true
    ∧ (i : ((cfg0.win 9).blk t).view.ty.Idx) ∈ ((cfg0.win 9).blk t).view.set := by
  have i0 : (i 0 : Nat) < 128 := (i 0).isLt
  have i1 : (i 1 : Nat) < 1024 := (i 1).isLt
  have hN : grid0.N = 1 := Gen.N_0
  obtain ⟨t, hv⟩ : ∃ t : Fin grid0.N, t.val = 0 := ⟨⟨0, by omega⟩, rfl⟩
  refine ⟨t, Gen.flush0_9 _, ?_⟩
  have e : ((cfg0.win 9).blk t).view.emb (ix2 ⟨(i 0 : Nat), i0⟩ ⟨(i 1 : Nat), i1⟩ : S128x1024.Idx) = i := by
    funext a
    apply Fin.ext
    match a with
    | ⟨0, _⟩ =>
      show cc0_transform_9 (grid0.coords t) 0 * 128 + 1 * (i 0 : Nat) = (i 0 : Nat)
      rw [show cc0_transform_9 (grid0.coords t) 0 = 0 from congrFun (index9 t) 0]; omega
    | ⟨1, _⟩ =>
      show cc0_transform_9 (grid0.coords t) 1 * 1024 + 1 * (i 1 : Nat) = (i 1 : Nat)
      rw [show cc0_transform_9 (grid0.coords t) 1 = 0 from congrFun (index9 t) 1]; omega
  exact e ▸ View.emb_mem_set ((cfg0.win 9).blk t).view (ix2 ⟨(i 0 : Nat), i0⟩ ⟨(i 1 : Nat), i1⟩ : S128x1024.Idx)

/-- The result array ends holding the reference's result. -/
theorem final_eq : (Gen.dats m 0 0).arrAt 9 cfg0.N = (resultOf m : Buf (Elt Ideal) ((cfg0.win 9).arr.view.loc ((0 : Dev nD).tc))) :=
  (Gen.dats m 0 0).arrAt_eq_of_cover 9 (resultOf m) (fun t _ => flushed_eq m t) covered

/-- The kernel's run: its result is the reference's, its arguments are unchanged. -/
theorem kernel_run : θ_run defs (onTc (τ := τ) (main (F := Ideal))) ⟨m, fun _ => 0, ρ⟩ (fun r => ∀ c : Dev nD,
      r.2.mem ((c.tc : Thread nD τ).loc main_v10) = (fun _ : Dev nD => (resultOf m : Buf (Elt Ideal) ((c.tc : Thread nD τ).loc main_v10))) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain rfl : c = 0 := Subsingleton.elim _ _
    refine ⟨(((h.1 0).1 9).trans (final_eq m) : _), ?_⟩
    exact h.2 0) (θ_run_and (Gen.run_main m ρ) (Gen.unchanged m ρ))

end Cert.Proof.Ffs

end
-- ==== Proof.FfsClaims.lean ====
/- The claims about the feed-forward layer of the sample batch: the two kernels' frames, the reference's, and the equality of the idealized
   kernel and the reference. -/
module

public import proofs.«01_k».proof.Defs
public import proofs.«01_k».proof.Proof.Gen.FfnSample.Frame
public import proofs.«01_k».proof.Proof.FfsFinal
public import proofs.«01_k».proof.Proof.Gen.FfnSampleRefIdeal.Run
public import Idealize.ShloMosaic.Lib.Claim
public import Idealize.ShloMosaic.Adequacy
public import Idealize.ShloMosaic.Init

@[expose] public section

set_option maxRecDepth 16384

noncomputable section

namespace Cert.Proof.Ffs

open Idealize Idealize.ShloMosaic Idealize.SL.Sem

theorem frame_bits : Cert.quiescent_FfnSample := fun m g _ => Cert.FfnSample.Gen.frame m g

theorem frame_ideal : Cert.quiescent_FfnSampleIdeal := fun m g _ => Cert.FfnSampleIdeal.Gen.frame m g

theorem frame_ref : Cert.quiescent_FfnSampleRefIdeal := fun m g _ =>
  (θ_run Cert.FfnSampleRefIdeal.defs _ _).mono (fun r h => ⟨fun c => (h c).2, sem_eq_zero_of_no_sems (by decide) r.2⟩)
    (Cert.FfnSampleRefIdeal.Value.run (F := Ideal) m g)

/-- The idealized kernel names no constant and replaces no operation. -/
theorem preserves : Cert.preserves_FfnSample_FfnSampleIdeal := trivial

/-- The reference's result of equal arguments. -/
theorem ref_result (m : (ℓ : Loc Cert.FfnSampleIdeal.nD Cert.FfnSampleIdeal.τ Cert.FfnSampleIdeal.sig) → Buf (Elt Ideal) ℓ)
    (a0 : FVec Ideal Cert.FfnSampleIdeal.S128x1x1024 .f32) (a1 : FVec Ideal Cert.FfnSampleIdeal.S128x9216 .f32)
    (a2 : FVec Ideal Cert.FfnSampleIdeal.S4x2x1024x5632 .f32) (a3 : FVec Ideal Cert.FfnSampleIdeal.S4x2x2816x1024 .f32)
    (a4 a5 : FVec Ideal Cert.FfnSampleIdeal.S4x3x1024 .f32)
    (e0 : a0 = m ((0 : Dev Cert.FfnSampleIdeal.nD).tc.loc Cert.FfnSampleIdeal.main_arg0))
    (e1 : a1 = m ((0 : Dev Cert.FfnSampleIdeal.nD).tc.loc Cert.FfnSampleIdeal.main_arg1))
    (e2 : a2 = m ((0 : Dev Cert.FfnSampleIdeal.nD).tc.loc Cert.FfnSampleIdeal.main_arg2))
    (e3 : a3 = m ((0 : Dev Cert.FfnSampleIdeal.nD).tc.loc Cert.FfnSampleIdeal.main_arg3))
    (e4 : a4 = m ((0 : Dev Cert.FfnSampleIdeal.nD).tc.loc Cert.FfnSampleIdeal.main_arg4))
    (e5 : a5 = m ((0 : Dev Cert.FfnSampleIdeal.nD).tc.loc Cert.FfnSampleIdeal.main_arg5)) :
    Cert.FfnSampleRefIdeal.Read.val_main_v58 (F := Ideal) a0 a1 a2 a3 a4 a5 = resultOf m := by
  subst e0 e1 e2 e3 e4 e5
  rfl

theorem algebraic : Cert.algebraic_FfnSampleIdeal_FfnSampleRefIdeal := fun m g m' g' _ e =>
  ⟨fun _ => resultOf m, kernel_run m g,
    (θ_run Cert.FfnSampleRefIdeal.defs _ _).mono (fun r hr c => by
      obtain rfl : c = 0 := Subsingleton.elim _ _
      refine ⟨((hr 0).1.trans (Cert.FfnSampleRefIdeal.Read.val_main_v58_eq m' 0)).trans ?_, (hr 0).2⟩
      exact ref_result m _ _ _ _ _ _ (e 0).1 (e 0).2.1 (e 0).2.2.1 (e 0).2.2.2.1 (e 0).2.2.2.2.1 (e 0).2.2.2.2.2)
      (Cert.FfnSampleRefIdeal.Value.run (F := Ideal) m' g')⟩

end Cert.Proof.Ffs

end
-- ==== Proof.IpHost.lean ====
module

public import proofs.«01_k».proof.Proof.Gen.InprojIdeal.Frame
public import Idealize.ShloMosaic.Lib.StableHlo.ReadAt
public import Idealize.ShloMosaic.Lib.Pointwise

@[expose] public section

set_option maxRecDepth 16384

noncomputable section

/-! # What the host operations hand to the input projection's kernel, read at an index -/

namespace Cert.Proof.Ip

open Idealize.ShloMosaic Idealize.SL.Sem Cert.InprojIdeal

variable (m : (ℓ : Loc nD τ sig) → Buf (Elt Ideal) ℓ) (c : Dev nD)

/-- The rows of the input. -/
theorem host_x (r : Fin 16384) (k : Fin 1024) :
    (Gen.V m c main_v3 : Vec Ideal S16384x1024 .f32) (ix2 r k)
      = (m (c.tc.loc main_arg0) : Vec Ideal S4x4096x1024 .f32) (ix3 ⟨r.val / 4096, by omega⟩ ⟨r.val % 4096, by omega⟩ k) := by
  unfold Gen.V
  after_reads_at

/-- The modulation rows. -/
theorem host_mod (b : Fin 4) (k : Fin 9216) :
    (Gen.V m c main_v4 : Vec Ideal S4x1x9216 .f32) (ix3 b 0 k) = (m (c.tc.loc main_arg1) : Vec Ideal S4x9216 .f32) (ix2 b k) := by
  unfold Gen.V
  after_reads_at

/-- The weights, a feature to a row: the features of the reference, and zero rows after them. -/
theorem host_w (a : Fin 4) (j : Fin 2944) (k : Fin 1024) :
    (Gen.V m c main_v2 : Vec Ideal S4x2944x1024 .bf16) (ix3 a j k)
      = if h : j.val < 2888 then (m (c.tc.loc main_arg2) : Vec Ideal S4x1024x2888 .f32) (ix3 a k ⟨j.val, h⟩) else (0 : EReal) := by
  have e : (FloatOps.sitofp (F := Ideal) FTy.f32 (0#32 : BitVec 32) : EReal) = 0 := by
    show (((0#32 : BitVec 32).toInt : ℝ) : EReal) = 0
    simp
  refine Eq.trans (b := if h : j.val < 2888 then (m (c.tc.loc main_arg2) : Vec Ideal S4x1024x2888 .f32) (ix3 a k ⟨j.val, h⟩) else (FloatOps.sitofp (F := Ideal) FTy.f32 (0#32 : BitVec 32) : EReal)) ?_ (by rw [e])
  unfold Gen.V
  after_reads_at

end Cert.Proof.Ip

end
-- ==== Proof.IpBody.lean ====
module

public import proofs.«01_k».proof.Proof.FfBody
public import proofs.«01_k».proof.Proof.Gen.InprojIdeal.Frame
public import Idealize.ShloMosaic.Lib.Pipeline.Value
public import Idealize.ShloMosaic.Lib.Pointwise
public import Idealize.ShloMosaic.PureOps.Ideal.Laws

@[expose] public section

set_option maxRecDepth 16384

noncomputable section

/-! # The blocks of the input projection, as the kernel computes them -/

namespace Cert.Proof.Ip

open Idealize.ShloMosaic Idealize.ShloMosaic.TcCoe Cert.InprojIdeal Cert.InprojIdeal.Gen
open Idealize.ShloMosaic.Pointwise Cert.Proof.Ff

/-- A row against a weight row. -/
def proj (h w : Fin 1024 → EReal) : EReal := ∑ k, h k * w k

theorem proj_comm (h w : Fin 1024 → EReal) : ∑ k, w k * h k = proj h w :=
  Finset.sum_congr rfl fun k _ => mul_comm _ _

/-- The scale of the query: one eighth of the logarithm of e to base 2. -/
def qScale : EReal := (((1 / 8) * (Real.log 2)⁻¹ : ℝ) : EReal)

/-- One eighth and a division by log 2 are the scale of the query. -/
theorem qScale_eq (a : EReal) :
    Ideal.div (a * Ideal.ofBits FTy.f32 0x3E000000#32) (Ideal.log (Ideal.ofBits FTy.f32 0x40000000#32)) = a * qScale := by
  have h2 : Ideal.ofBits .f32 0x40000000#32 = ((2 : ℝ) : EReal) := by
    simp [Ideal.ofBits, Ideal.ieee, -EReal.coe_mul]; norm_num
  have hq : Ideal.ofBits .f32 0x3E000000#32 = ((1 / 8 : ℝ) : EReal) := by
    simp [Ideal.ofBits, Ideal.ieee, -EReal.coe_mul]; norm_num
  have hl : Real.log 2 ≠ 0 := (Real.log_pos (by norm_num)).ne'
  have hl' : ((Real.log 2 : ℝ) : EReal) ≠ 0 := fun e => hl (EReal.coe_eq_zero.mp e)
  rw [h2, hq, Ideal.log_coe, if_neg (by norm_num)]
  unfold Ideal.div qScale
  rw [if_neg hl', ← EReal.coe_inv, mul_assoc, ← EReal.coe_mul]

/-- The two scales of the scores, one after the other, are the scale of the head weights. -/
theorem idxScale_eq (a : EReal) :
    a * Ideal.ofBits FTy.f32 0x3E000000#32 * Ideal.ofBits FTy.f32 0x3EB504F3#32 = a * Ideal.ofBits FTy.f32 0x3D3504F3#32 := by
  have h1 : Ideal.ofBits .f32 0x3E000000#32 = ((1 / 8 : ℝ) : EReal) := by
    simp [Ideal.ofBits, Ideal.ieee, -EReal.coe_mul]; norm_num
  have h2 : Ideal.ofBits .f32 0x3EB504F3#32 = ((11863283 / 33554432 : ℝ) : EReal) := by
    simp [Ideal.ofBits, Ideal.ieee, -EReal.coe_mul]; norm_num
  have h3 : Ideal.ofBits .f32 0x3D3504F3#32 = ((11863283 / 268435456 : ℝ) : EReal) := by
    simp [Ideal.ofBits, Ideal.ieee, -EReal.coe_mul]; norm_num
  rw [h1, h2, h3, mul_assoc, ← EReal.coe_mul]
  norm_num

theorem pay4_apply (x : Vec Ideal S512x1024 .f32) (sc sh : Vec Ideal S1x1x1024 .f32) (r : Fin 512) (k : Fin 1024) :
    k0_pay4 x sc sh (ix2 r k) = hRow (fun k => x (ix2 r k)) (fun k => sc (ix3 0 0 k)) (fun k => sh (ix3 0 0 k)) k := by
  unfold k0_pay4 hRow
  pointwise

theorem pay6_apply (x : Vec Ideal S512x1024 .f32) (sc sh : Vec Ideal S1x1x1024 .f32) (w : Vec Ideal S1x768x1024 .bf16)
    (r : Fin 512) (c : Fin 256) :
    k0_pay6 x sc sh w (ix2 r c) = proj (fun k => k0_pay4 x sc sh (ix2 r k)) (fun k => w (ix3 0 ⟨c.val, by omega⟩ k))
      * Ideal.logistic (proj (fun k => k0_pay4 x sc sh (ix2 r k)) (fun k => w (ix3 0 ⟨256 + c.val, by omega⟩ k))) := by
  unfold k0_pay6 k0_pay5 proj
  generalize k0_pay4 x sc sh = h
  pointwise

theorem pay7_apply (x : Vec Ideal S512x1024 .f32) (sc sh : Vec Ideal S1x1x1024 .f32) (w : Vec Ideal S1x768x1024 .bf16)
    (r : Fin 512) (c : Fin 256) :
    k0_pay7 x sc sh w (ix2 r c) = proj (fun k => k0_pay4 x sc sh (ix2 r k)) (fun k => w (ix3 0 ⟨512 + c.val, by omega⟩ k)) := by
  unfold k0_pay7 k0_pay5 proj
  generalize k0_pay4 x sc sh = h
  pointwise

theorem pay8_apply (x : Vec Ideal S512x1024 .f32) (sc sh : Vec Ideal S1x1x1024 .f32) (w : Vec Ideal S1x512x1024 .bf16)
    (c r : Fin 512) :
    k0_pay8 x sc sh w (ix3 0 c r) = proj (fun k => k0_pay4 x sc sh (ix2 r k)) (fun k => w (ix3 0 c k)) := by
  rw [← proj_comm]
  unfold k0_pay8
  generalize k0_pay4 x sc sh = h
  pointwise

theorem pay13_apply (h : FVec Ideal S512x1024 .bf16) (w : Vec Ideal S1x128x1024 .bf16) (r : Fin 512) (c : Fin 128) :
    k0_pay13 h w (ix2 r c) = proj (fun k => h (ix2 r k)) (fun k => w (ix3 0 c k)) := by
  unfold k0_pay13 proj
  pointwise

theorem pay14_apply (h : FVec Ideal S512x1024 .bf16) (w : Vec Ideal S1x512x1024 .bf16) (r c : Fin 512) :
    k0_pay14 h w (ix2 r c) = proj (fun k => h (ix2 r k)) (fun k => w (ix3 0 c k)) := by
  unfold k0_pay14 proj
  pointwise

theorem pay1_apply (h : FVec Ideal S512x1024 .bf16) (w : Vec Ideal S1x512x1024 .bf16) (c r : Fin 512) :
    k0_pay1 h w (ix3 0 c r) = proj (fun k => h (ix2 r k)) (fun k => w (ix3 0 c k)) * qScale := by
  rw [← proj_comm]
  unfold k0_pay1
  pointwise
  rfl

theorem pay2_apply (h : FVec Ideal S512x1024 .bf16) (w : Vec Ideal S1x512x1024 .bf16) (c r : Fin 512) :
    k0_pay2 h w (ix3 0 c r) = proj (fun k => h (ix2 r k)) (fun k => w (ix3 0 c k)) := by
  rw [← proj_comm]
  unfold k0_pay2
  pointwise

theorem pay3_apply (h : FVec Ideal S512x1024 .bf16) (w : Vec Ideal S1x16x1024 .bf16) (c : Fin 8) (r : Fin 512) :
    k0_pay3 h w (ix3 0 c r) = proj (fun k => h (ix2 r k)) (fun k => w (ix3 0 ⟨c.val, by omega⟩ k))
      * Ideal.ofBits FTy.f32 0x3D3504F3#32 := by
  rw [← proj_comm]
  unfold k0_pay3
  pointwise

theorem pay10_apply (h : FVec Ideal S512x1024 .bf16) (w : Vec Ideal S1x512x1024 .bf16) (c r : Fin 512) :
    k0_pay10 h w (ix3 0 c r) = proj (fun k => h (ix2 r k)) (fun k => w (ix3 0 c k)) := by
  rw [← proj_comm]
  unfold k0_pay10 k0_pay9
  pointwise

theorem pay12_apply (h : FVec Ideal S512x1024 .bf16) (w : Vec Ideal S1x512x1024 .bf16) (c r : Fin 512) :
    k0_pay12 h w (ix3 0 c r) = proj (fun k => h (ix2 r k)) (fun k => w (ix3 0 c k)) := by
  rw [← proj_comm]
  unfold k0_pay12 k0_pay9
  pointwise

theorem pay11_apply (h : FVec Ideal S512x1024 .bf16) (w : Vec Ideal S1x64x1024 .bf16) (c : Fin 64) (r : Fin 512) :
    k0_pay11 h w (ix3 0 c r) = proj (fun k => h (ix2 r k)) (fun k => w (ix3 0 c k)) := by
  rw [← proj_comm]
  unfold k0_pay11
  pointwise

/-- The modulated row of a block. -/
def hblk (x0 : Vec Ideal S512x1024 .f32) (x1 x2 : Vec Ideal S1x1x1024 .f32) (r : Fin 512) : Fin 1024 → EReal :=
  hRow (fun k => x0 (ix2 r k)) (fun k => x2 (ix3 0 0 k)) (fun k => x1 (ix3 0 0 k))

/-- A projected entry of a block. -/
def blkP (x0 : Vec Ideal S512x1024 .f32) (x1 x2 : Vec Ideal S1x1x1024 .f32) (x3 : Vec Ideal S1x2944x1024 .bf16) (r : Fin 512)
    (j : Fin 2944) : EReal := proj (hblk x0 x1 x2 r) (fun k => x3 (ix3 0 j k))

variable (x0 : Vec Ideal S512x1024 .f32) (x1 x2 : Vec Ideal S1x1x1024 .f32) (x3 : Vec Ideal S1x2944x1024 .bf16)

theorem ld0 : View.ld x0 r0_0 = x0 := View.ld_unit_zero (by funext a; fin_cases a <;> rfl) inb_S512x1024_S512x1024_0_0 x0

theorem ld1 (y : Vec Ideal S1x1x1024 .f32) : View.ld y r0_1 = y :=
  View.ld_unit_zero (by funext a; fin_cases a <;> rfl) inb_S1x1x1024_S1x1x1024_0_0_0 y

theorem h_apply (r : Fin 512) (k : Fin 1024) : k0_pay4 x0 x2 x1 (ix2 r k) = hblk x0 x1 x2 r k := pay4_apply x0 x2 x1 r k

theorem pay15_eq : k0_pay15 x0 x1 x2 x3 = k0_pay4 x0 x2 x1 := by
  unfold k0_pay15
  rw [ld0, ld1, ld1]

theorem ldw2 (j : Fin 768) (k : Fin 1024) :
    (View.ld x3 r0_2 : Vec Ideal S1x768x1024 .bf16) (ix3 0 j k) = x3 (ix3 0 ⟨j.val, by omega⟩ k) := by
  refine congrArg (x3 : S1x2944x1024.Idx → EReal) ?_
  funext a
  apply Fin.ext
  match a with
  | ⟨0, _⟩ => rfl
  | ⟨1, _⟩ => show 0 + 1 * j.val = j.val; omega
  | ⟨2, _⟩ => show 0 + 1 * k.val = k.val; omega

theorem ldw12 (j : Fin 512) (k : Fin 1024) :
    (View.ld x3 r0_12 : Vec Ideal S1x512x1024 .bf16) (ix3 0 j k) = x3 (ix3 0 ⟨768 + j.val, by omega⟩ k) := by
  refine congrArg (x3 : S1x2944x1024.Idx → EReal) ?_
  funext a
  apply Fin.ext
  match a with
  | ⟨0, _⟩ => rfl
  | ⟨1, _⟩ => show 768 + 1 * j.val = 768 + j.val; omega
  | ⟨2, _⟩ => show 0 + 1 * k.val = k.val; omega

theorem ldw4 (j : Fin 512) (k : Fin 1024) :
    (View.ld x3 r0_4 : Vec Ideal S1x512x1024 .bf16) (ix3 0 j k) = x3 (ix3 0 ⟨1280 + j.val, by omega⟩ k) := by
  refine congrArg (x3 : S1x2944x1024.Idx → EReal) ?_
  funext a
  apply Fin.ext
  match a with
  | ⟨0, _⟩ => rfl
  | ⟨1, _⟩ => show 1280 + 1 * j.val = 1280 + j.val; omega
  | ⟨2, _⟩ => show 0 + 1 * k.val = k.val; omega

theorem ldw6 (j : Fin 512) (k : Fin 1024) :
    (View.ld x3 r0_6 : Vec Ideal S1x512x1024 .bf16) (ix3 0 j k) = x3 (ix3 0 ⟨1792 + j.val, by omega⟩ k) := by
  refine congrArg (x3 : S1x2944x1024.Idx → EReal) ?_
  funext a
  apply Fin.ext
  match a with
  | ⟨0, _⟩ => rfl
  | ⟨1, _⟩ => show 1792 + 1 * j.val = 1792 + j.val; omega
  | ⟨2, _⟩ => show 0 + 1 * k.val = k.val; omega

theorem ldw13 (j : Fin 512) (k : Fin 1024) :
    (View.ld x3 r0_13 : Vec Ideal S1x512x1024 .bf16) (ix3 0 j k) = x3 (ix3 0 ⟨2304 + j.val, by omega⟩ k) := by
  refine congrArg (x3 : S1x2944x1024.Idx → EReal) ?_
  funext a
  apply Fin.ext
  match a with
  | ⟨0, _⟩ => rfl
  | ⟨1, _⟩ => show 2304 + 1 * j.val = 2304 + j.val; omega
  | ⟨2, _⟩ => show 0 + 1 * k.val = k.val; omega

theorem ldw7 (j : Fin 64) (k : Fin 1024) :
    (View.ld x3 r0_7 : Vec Ideal S1x64x1024 .bf16) (ix3 0 j k) = x3 (ix3 0 ⟨2816 + j.val, by omega⟩ k) := by
  refine congrArg (x3 : S1x2944x1024.Idx → EReal) ?_
  funext a
  apply Fin.ext
  match a with
  | ⟨0, _⟩ => rfl
  | ⟨1, _⟩ => show 2816 + 1 * j.val = 2816 + j.val; omega
  | ⟨2, _⟩ => show 0 + 1 * k.val = k.val; omega

theorem ldw9 (j : Fin 128) (k : Fin 1024) :
    (View.ld x3 r0_9 : Vec Ideal S1x128x1024 .bf16) (ix3 0 j k) = x3 (ix3 0 ⟨2816 + j.val, by omega⟩ k) := by
  refine congrArg (x3 : S1x2944x1024.Idx → EReal) ?_
  funext a
  apply Fin.ext
  match a with
  | ⟨0, _⟩ => rfl
  | ⟨1, _⟩ => show 2816 + 1 * j.val = 2816 + j.val; omega
  | ⟨2, _⟩ => show 0 + 1 * k.val = k.val; omega

theorem ldw14 (j : Fin 16) (k : Fin 1024) :
    (View.ld x3 r0_14 : Vec Ideal S1x16x1024 .bf16) (ix3 0 j k) = x3 (ix3 0 ⟨2880 + j.val, by omega⟩ k) := by
  refine congrArg (x3 : S1x2944x1024.Idx → EReal) ?_
  funext a
  apply Fin.ext
  match a with
  | ⟨0, _⟩ => rfl
  | ⟨1, _⟩ => show 2880 + 1 * j.val = 2880 + j.val; omega
  | ⟨2, _⟩ => show 0 + 1 * k.val = k.val; omega

theorem out4_apply (r : Fin 512) (c : Fin 256) : out0_4 x0 x1 x2 x3 (ix2 r c)
    = blkP x0 x1 x2 x3 r ⟨c.val, by omega⟩ * Ideal.logistic (blkP x0 x1 x2 x3 r ⟨256 + c.val, by omega⟩) := by
  unfold out0_4
  rw [View.canon_unit_zero (by funext a; fin_cases a <;> rfl) inb_S512x256_S512x256_0_0]
  simp only [pay15_eq, ld0, ld1]
  exact (pay6_apply _ _ _ _ r c).trans (congrArg₂ (fun a b => a * Ideal.logistic b) (congrArg₂ proj (funext fun k => h_apply x0 x1 x2 r k) (funext fun k => ldw2 x3 ⟨c.val, by omega⟩ k))
    (congrArg₂ proj (funext fun k => h_apply x0 x1 x2 r k) (funext fun k => ldw2 x3 ⟨256 + c.val, by omega⟩ k)))

theorem out5_apply (r : Fin 512) (c : Fin 256) : out0_5 x0 x1 x2 x3 (ix2 r c)
    = blkP x0 x1 x2 x3 r ⟨512 + c.val, by omega⟩ := by
  unfold out0_5
  rw [View.canon_unit_zero (by funext a; fin_cases a <;> rfl) inb_S512x256_S512x256_0_0]
  simp only [pay15_eq, ld0, ld1]
  exact (pay7_apply _ _ _ _ r c).trans (congrArg₂ proj (funext fun k => h_apply x0 x1 x2 r k) (funext fun k => ldw2 x3 ⟨512 + c.val, by omega⟩ k))

theorem out6_apply (r : Fin 512) (c : Fin 128) : out0_6 x0 x1 x2 x3 (ix2 r c)
    = blkP x0 x1 x2 x3 r ⟨2816 + c.val, by omega⟩ := by
  unfold out0_6
  rw [View.canon_unit_zero (by funext a; fin_cases a <;> rfl) inb_S512x128_S512x128_0_0]
  simp only [pay15_eq, ld0, ld1]
  exact (pay13_apply _ _ r c).trans (congrArg₂ proj (funext fun k => h_apply x0 x1 x2 r k) (funext fun k => ldw9 x3 c k))

theorem out7_apply (r : Fin 512) (c : Fin 512) : out0_7 x0 x1 x2 x3 (ix2 r c)
    = blkP x0 x1 x2 x3 r ⟨1280 + c.val, by omega⟩ := by
  unfold out0_7
  rw [View.canon_unit_zero (by funext a; fin_cases a <;> rfl) inb_S512x512_S512x512_0_0]
  simp only [pay15_eq, ld0, ld1]
  exact (pay14_apply _ _ r c).trans (congrArg₂ proj (funext fun k => h_apply x0 x1 x2 r k) (funext fun k => ldw4 x3 c k))

theorem out8_apply (r : Fin 512) (c : Fin 512) : out0_8 x0 x1 x2 x3 (ix3 0 c r)
    = blkP x0 x1 x2 x3 r ⟨768 + c.val, by omega⟩ * qScale := by
  unfold out0_8
  rw [View.canon_unit_zero (by funext a; fin_cases a <;> rfl) inb_S1x512x512_S1x512x512_0_0_0]
  simp only [pay15_eq, ld0, ld1]
  exact (pay1_apply _ _ c r).trans (congrArg (fun a => a * _) (congrArg₂ proj (funext fun k => h_apply x0 x1 x2 r k) (funext fun k => ldw12 x3 c k)))

theorem out9_apply (r : Fin 512) (c : Fin 512) : out0_9 x0 x1 x2 x3 (ix3 0 c r)
    = blkP x0 x1 x2 x3 r ⟨2304 + c.val, by omega⟩ := by
  unfold out0_9
  rw [View.canon_unit_zero (by funext a; fin_cases a <;> rfl) inb_S1x512x512_S1x512x512_0_0_0]
  simp only [pay15_eq, ld0, ld1]
  exact (pay2_apply _ _ c r).trans (congrArg₂ proj (funext fun k => h_apply x0 x1 x2 r k) (funext fun k => ldw13 x3 c k))

theorem out10_apply (r : Fin 512) (c : Fin 8) : out0_10 x0 x1 x2 x3 (ix3 0 c r)
    = blkP x0 x1 x2 x3 r ⟨2880 + c.val, by omega⟩ * Ideal.ofBits FTy.f32 0x3D3504F3#32 := by
  unfold out0_10
  rw [View.canon_unit_zero (by funext a; fin_cases a <;> rfl) inb_S1x8x512_S1x8x512_0_0_0]
  simp only [pay15_eq, ld0, ld1]
  exact (pay3_apply _ _ c r).trans (congrArg (fun a => a * _) (congrArg₂ proj (funext fun k => h_apply x0 x1 x2 r k) (funext fun k => ldw14 x3 ⟨c.val, by omega⟩ k)))

theorem out11_apply (r : Fin 512) (c : Fin 512) : out0_11 x0 x1 x2 x3 (ix3 0 c r)
    = blkP x0 x1 x2 x3 r ⟨1280 + c.val, by omega⟩ := by
  unfold out0_11
  rw [View.canon_unit_zero (by funext a; fin_cases a <;> rfl) inb_S1x512x512_S1x512x512_0_0_0]
  simp only [pay15_eq, ld0, ld1]
  exact (pay8_apply _ _ _ _ c r).trans (congrArg₂ proj (funext fun k => h_apply x0 x1 x2 r k) (funext fun k => ldw4 x3 c k))

theorem out12_apply (r : Fin 512) (c : Fin 512) : out0_12 x0 x1 x2 x3 (ix3 0 c r)
    = blkP x0 x1 x2 x3 r ⟨1792 + c.val, by omega⟩ := by
  unfold out0_12
  rw [View.canon_unit_zero (by funext a; fin_cases a <;> rfl) inb_S1x512x512_S1x512x512_0_0_0]
  simp only [pay15_eq, ld0, ld1]
  exact (pay10_apply _ _ c r).trans (congrArg₂ proj (funext fun k => h_apply x0 x1 x2 r k) (funext fun k => ldw6 x3 c k))

theorem out13_apply (r : Fin 512) (c : Fin 512) : out0_13 x0 x1 x2 x3 (ix3 0 c r)
    = blkP x0 x1 x2 x3 r ⟨1792 + c.val, by omega⟩ := by
  unfold out0_13
  rw [View.canon_unit_zero (by funext a; fin_cases a <;> rfl) inb_S1x512x512_S1x512x512_0_0_0]
  simp only [pay15_eq, ld0, ld1]
  exact (pay12_apply _ _ c r).trans (congrArg₂ proj (funext fun k => h_apply x0 x1 x2 r k) (funext fun k => ldw6 x3 c k))

theorem out14_apply (r : Fin 512) (c : Fin 64) : out0_14 x0 x1 x2 x3 (ix3 0 c r)
    = blkP x0 x1 x2 x3 r ⟨2816 + c.val, by omega⟩ := by
  unfold out0_14
  rw [View.canon_unit_zero (by funext a; fin_cases a <;> rfl) inb_S1x64x512_S1x64x512_0_0_0]
  simp only [pay15_eq, ld0, ld1]
  exact (pay11_apply _ _ c r).trans (congrArg₂ proj (funext fun k => h_apply x0 x1 x2 r k) (funext fun k => ldw7 x3 c k))

end Cert.Proof.Ip

end
-- ==== Proof.IpRef.lean ====
module

public import proofs.«01_k».proof.Proof.IpBody
public import proofs.«01_k».proof.Proof.Gen.InprojRefIdeal.Read

@[expose] public section

set_option maxRecDepth 16384

noncomputable section

/-! # The input projection, entry by entry, as the reference computes it -/

namespace Cert.Proof.Ip

open Idealize.ShloMosaic Idealize.ShloMosaic.TcCoe Cert.InprojRefIdeal Cert.InprojRefIdeal.Read
open Idealize.ShloMosaic.Pointwise Cert.Proof.Ff

/-- The modulated row of a token. -/
def htok (x : FVec Ideal S4x4096x1024 .f32) (md : FVec Ideal S4x9216 .f32) (b : Fin 4) (s : Fin 4096) : Fin 1024 → EReal :=
  hRow (fun k => x (ix3 b s k)) (fun k => md (ix2 b ⟨4096 + k.val, by omega⟩)) (fun k => md (ix2 b ⟨3072 + k.val, by omega⟩))

/-- A projected entry of a token. -/
def refP (x : FVec Ideal S4x4096x1024 .f32) (md : FVec Ideal S4x9216 .f32) (w : FVec Ideal S4x1024x2888 .f32) (b : Fin 4)
    (s : Fin 4096) (j : Fin 2888) : EReal := proj (htok x md b s) (fun k => w (ix3 0 k j))

variable (x : FVec Ideal S4x4096x1024 .f32) (md : FVec Ideal S4x9216 .f32) (w : FVec Ideal S4x1024x2888 .f32)

theorem ref_h (b : Fin 4) (s : Fin 4096) (k : Fin 1024) : val_main_v15 (F := Ideal) x md (ix3 b s k) = htok x md b s k := by
  unfold val_main_v15 val_main_v14 val_main_v13 val_main_v12 val_main_v11 val_main_v10 val_main_v5 val_main_v4 val_main_v0
    val_main_cst htok hRow
  pointwise

theorem ref_lin (b : Fin 4) (s : Fin 4096) (j : Fin 2888) :
    val_main_v18 (F := Ideal) x md w (ix3 b s j) = refP x md w b s j := by
  refine Eq.trans (b := ∑ k : Fin 1024, val_main_v15 (F := Ideal) x md (ix3 b s k) * w (ix3 0 k j)) ?_ ?_
  · unfold val_main_v18 val_main_v17 val_main_v16
    generalize val_main_v15 (F := Ideal) x md = h
    pointwise
  · simp only [ref_h]
    rfl

/-- The scores' keys and head weights side by side, filled up with zeros. -/
theorem ref_kiwi (b : Fin 4) (s : Fin 4096) (c : Fin 128) :
    val_main_v46 (F := Ideal) x md w (ix3 b s c)
      = if h : c.val < 72 then refP x md w b s ⟨2816 + c.val, by omega⟩ else (0 : EReal) := by
  have e : (FloatOps.sitofp (F := Ideal) FTy.f32 (0#32 : BitVec 32) : EReal) = 0 := by
    show (((0#32 : BitVec 32).toInt : ℝ) : EReal) = 0
    simp
  refine Eq.trans (b := if h : c.val < 72 then val_main_v18 (F := Ideal) x md w (ix3 b s ⟨2816 + c.val, by omega⟩)
    else (FloatOps.sitofp (F := Ideal) FTy.f32 (0#32 : BitVec 32) : EReal)) ?_ (by rw [e]; simp only [ref_lin])
  unfold val_main_v46 val_main_v45 val_main_v26 val_main_v25 val_main_call0_v0 val_main_c
  generalize val_main_v18 (F := Ideal) x md w = h
  pointwise
  refine dite_congr rfl (fun h1 => ?_) (fun _ => rfl)
  split
  · rfl
  · exact congrArg (fun j => h (ix3 b s j)) (Fin.ext (by show 2880 + (c.val - 64) = 2816 + c.val; omega))

theorem ref4 (i : Fin 16384) (c : Fin 256) : val_main_v47 (F := Ideal) x md w (ix2 i c)
    = refP x md w ⟨i.val / 4096, by omega⟩ ⟨i.val % 4096, by omega⟩ ⟨c.val, by omega⟩
      * Ideal.logistic (refP x md w ⟨i.val / 4096, by omega⟩ ⟨i.val % 4096, by omega⟩ ⟨256 + c.val, by omega⟩) := by
  refine Eq.trans (b := val_main_v18 (F := Ideal) x md w (ix3 ⟨i.val / 4096, by omega⟩ ⟨i.val % 4096, by omega⟩ ⟨c.val, by omega⟩)
      * Ideal.logistic (val_main_v18 (F := Ideal) x md w (ix3 ⟨i.val / 4096, by omega⟩ ⟨i.val % 4096, by omega⟩ ⟨256 + c.val, by omega⟩))) ?_ (by simp only [ref_lin])
  unfold val_main_v47 val_main_v35 val_main_v34 val_main_v33 val_main_v32 val_main_v31 val_main_v30 val_main_v29 val_main_v28 val_main_v27 val_main_v19 val_main_cst_0 val_main_cst_1
  generalize val_main_v18 (F := Ideal) x md w = h
  pointwise
  rfl

theorem ref5 (i : Fin 16384) (c : Fin 256) : val_main_v48 (F := Ideal) x md w (ix2 i c)
    = refP x md w ⟨i.val / 4096, by omega⟩ ⟨i.val % 4096, by omega⟩ ⟨512 + c.val, by omega⟩ := by
  refine Eq.trans (b := val_main_v18 (F := Ideal) x md w (ix3 ⟨i.val / 4096, by omega⟩ ⟨i.val % 4096, by omega⟩ ⟨512 + c.val, by omega⟩)) ?_ (by simp only [ref_lin])
  unfold val_main_v48 val_main_v20
  generalize val_main_v18 (F := Ideal) x md w = h
  pointwise

theorem ref6 (i : Fin 16384) (c : Fin 128) : val_main_v50 (F := Ideal) x md w (ix2 i c)
    = if h : c.val < 72 then refP x md w ⟨i.val / 4096, by omega⟩ ⟨i.val % 4096, by omega⟩ ⟨2816 + c.val, by omega⟩ else (0 : EReal) := by
  refine Eq.trans ?_ (ref_kiwi x md w ⟨i.val / 4096, by omega⟩ ⟨i.val % 4096, by omega⟩ c)
  unfold val_main_v50 val_main_v49
  generalize val_main_v46 (F := Ideal) x md w = h
  pointwise

theorem ref7 (i : Fin 16384) (c : Fin 512) : val_main_v52 (F := Ideal) x md w (ix2 i c)
    = refP x md w ⟨i.val / 4096, by omega⟩ ⟨i.val % 4096, by omega⟩ ⟨1280 + c.val, by omega⟩ := by
  refine Eq.trans (b := val_main_v18 (F := Ideal) x md w (ix3 ⟨i.val / 4096, by omega⟩ ⟨i.val % 4096, by omega⟩ ⟨1280 + c.val, by omega⟩)) ?_ (by simp only [ref_lin])
  unfold val_main_v52 val_main_v51 val_main_v22
  generalize val_main_v18 (F := Ideal) x md w = h
  pointwise

theorem ref8 (b : Fin 4) (c : Fin 512) (s : Fin 4096) : val_main_v54 (F := Ideal) x md w (ix3 b c s)
    = refP x md w b s ⟨768 + c.val, by omega⟩
      * qScale := by
  refine Eq.trans (b := val_main_v18 (F := Ideal) x md w (ix3 b s ⟨768 + c.val, by omega⟩)
      * qScale) ?_ (by simp only [ref_lin])
  unfold val_main_v54 val_main_v53 val_main_v40 val_main_v39 val_main_v38 val_main_v37 val_main_v36 val_main_v21 val_main_cst_2 val_main_cst_3
  generalize val_main_v18 (F := Ideal) x md w = h
  pointwise
  exact qScale_eq _

theorem ref9 (b : Fin 4) (c : Fin 512) (s : Fin 4096) : val_main_v56 (F := Ideal) x md w (ix3 b c s)
    = refP x md w b s ⟨2304 + c.val, by omega⟩ := by
  refine Eq.trans (b := val_main_v18 (F := Ideal) x md w (ix3 b s ⟨2304 + c.val, by omega⟩)) ?_ (by simp only [ref_lin])
  unfold val_main_v56 val_main_v55 val_main_v24
  generalize val_main_v18 (F := Ideal) x md w = h
  pointwise

theorem ref10 (b : Fin 4) (c : Fin 8) (s : Fin 4096) : val_main_v57 (F := Ideal) x md w (ix3 b c s)
    = refP x md w b s ⟨2880 + c.val, by omega⟩
      * Ideal.ofBits FTy.f32 0x3D3504F3#32 := by
  refine Eq.trans (b := val_main_v18 (F := Ideal) x md w (ix3 b s ⟨2880 + c.val, by omega⟩)
      * Ideal.ofBits FTy.f32 0x3D3504F3#32) ?_ (by simp only [ref_lin])
  unfold val_main_v57 val_main_v44 val_main_v43 val_main_v42 val_main_v41 val_main_v26 val_main_cst_4 val_main_cst_5
  generalize val_main_v18 (F := Ideal) x md w = h
  pointwise
  exact idxScale_eq _

theorem ref11 (b : Fin 4) (c : Fin 512) (s : Fin 4096) : val_main_v58 (F := Ideal) x md w (ix3 b c s)
    = refP x md w b s ⟨1280 + c.val, by omega⟩ := by
  refine Eq.trans (b := val_main_v18 (F := Ideal) x md w (ix3 b s ⟨1280 + c.val, by omega⟩)) ?_ (by simp only [ref_lin])
  unfold val_main_v58 val_main_v22
  generalize val_main_v18 (F := Ideal) x md w = h
  pointwise

theorem ref12 (b : Fin 4) (c : Fin 512) (s : Fin 4096) : val_main_v59 (F := Ideal) x md w (ix3 b c s)
    = refP x md w b s ⟨1792 + c.val, by omega⟩ := by
  refine Eq.trans (b := val_main_v18 (F := Ideal) x md w (ix3 b s ⟨1792 + c.val, by omega⟩)) ?_ (by simp only [ref_lin])
  unfold val_main_v59 val_main_v23
  generalize val_main_v18 (F := Ideal) x md w = h
  pointwise

theorem ref13 (b : Fin 4) (c : Fin 512) (s : Fin 4096) : val_main_v61 (F := Ideal) x md w (ix3 b c s)
    = refP x md w b s ⟨1792 + c.val, by omega⟩ := by
  refine Eq.trans (b := val_main_v18 (F := Ideal) x md w (ix3 b s ⟨1792 + c.val, by omega⟩)) ?_ (by simp only [ref_lin])
  unfold val_main_v61 val_main_v60 val_main_v23
  generalize val_main_v18 (F := Ideal) x md w = h
  pointwise

theorem ref14 (b : Fin 4) (c : Fin 64) (s : Fin 4096) : val_main_v62 (F := Ideal) x md w (ix3 b c s)
    = refP x md w b s ⟨2816 + c.val, by omega⟩ := by
  refine Eq.trans (b := val_main_v18 (F := Ideal) x md w (ix3 b s ⟨2816 + c.val, by omega⟩)) ?_ (by simp only [ref_lin])
  unfold val_main_v62 val_main_v25
  generalize val_main_v18 (F := Ideal) x md w = h
  pointwise

end Cert.Proof.Ip

end
-- ==== Proof.IpBlocks.lean ====
module

public import proofs.«01_k».proof.Proof.IpHost
public import proofs.«01_k».proof.Proof.IpBody
public import proofs.«01_k».proof.Proof.IpRef

@[expose] public section

set_option maxRecDepth 16384

noncomputable section

/-! # The blocks a grid point of the input projection's kernel reads, as entries of the arguments -/

namespace Cert.Proof.Ip

open Idealize Idealize.ShloMosaic Idealize.SL.Sem Cert.InprojIdeal Cert.Proof.Ff

variable (m : (ℓ : Loc nD τ sig) → Buf (Elt Ideal) ℓ) (c : Dev nD)

theorem point_lt (t : Fin grid0.N) : t.val < 32 := by
  have := t.isLt
  have h : grid0.N = 32 := Gen.N_0
  omega

/-- The sequence a grid point works on. -/
def seqAt (t : Fin grid0.N) : Fin 4 := ⟨t.val / 8, by have := point_lt t; omega⟩

/-- The token of the sequence that a row of a grid point's block is. -/
def posAt (t : Fin grid0.N) (r : Fin 512) : Fin 4096 := ⟨t.val % 8 * 512 + r.val, by omega⟩

/-- The row of the flat arrays that a row of a grid point's block is. -/
def rowAt (t : Fin grid0.N) (r : Fin 512) : Fin 16384 := ⟨t.val * 512 + r.val, by have := point_lt t; omega⟩

theorem rowAt_div (t : Fin grid0.N) (r : Fin 512) : (⟨(rowAt t r).val / 4096, by omega⟩ : Fin 4) = seqAt t := by
  apply Fin.ext
  show (t.val * 512 + r.val) / 4096 = t.val / 8
  omega

theorem rowAt_mod (t : Fin grid0.N) (r : Fin 512) : (⟨(rowAt t r).val % 4096, by omega⟩ : Fin 4096) = posAt t r := by
  apply Fin.ext
  show (t.val * 512 + r.val) % 4096 = t.val % 8 * 512 + r.val
  omega

theorem index0 : ∀ (t : Fin grid0.N), cc0_transform_0 (grid0.coords t) = ![t.val, 0] := by decide +kernel
theorem index1 : ∀ (t : Fin grid0.N), cc0_transform_1 (grid0.coords t) = ![t.val / 8, 0, 3] := by decide +kernel
theorem index2 : ∀ (t : Fin grid0.N), cc0_transform_2 (grid0.coords t) = ![t.val / 8, 0, 4] := by decide +kernel
theorem index3 : ∀ (t : Fin grid0.N), cc0_transform_3 (grid0.coords t) = ![0, 0, 0] := by decide +kernel
theorem index4 : ∀ (t : Fin grid0.N), cc0_transform_4 (grid0.coords t) = ![t.val, 0] := by decide +kernel
theorem index5 : ∀ (t : Fin grid0.N), cc0_transform_5 (grid0.coords t) = ![t.val, 0] := by decide +kernel
theorem index6 : ∀ (t : Fin grid0.N), cc0_transform_6 (grid0.coords t) = ![t.val, 0] := by decide +kernel
theorem index7 : ∀ (t : Fin grid0.N), cc0_transform_7 (grid0.coords t) = ![t.val, 0] := by decide +kernel
theorem index8 : ∀ (t : Fin grid0.N), cc0_transform_8 (grid0.coords t) = ![t.val / 8, 0, t.val % 8] := by decide +kernel
theorem index9 : ∀ (t : Fin grid0.N), cc0_transform_9 (grid0.coords t) = ![t.val / 8, 0, t.val % 8] := by decide +kernel
theorem index10 : ∀ (t : Fin grid0.N), cc0_transform_10 (grid0.coords t) = ![t.val / 8, 0, t.val % 8] := by decide +kernel
theorem index11 : ∀ (t : Fin grid0.N), cc0_transform_11 (grid0.coords t) = ![t.val / 8, 0, t.val % 8] := by decide +kernel
theorem index12 : ∀ (t : Fin grid0.N), cc0_transform_12 (grid0.coords t) = ![t.val / 8, 0, t.val % 8] := by decide +kernel
theorem index13 : ∀ (t : Fin grid0.N), cc0_transform_13 (grid0.coords t) = ![t.val / 8, 0, t.val % 8] := by decide +kernel
theorem index14 : ∀ (t : Fin grid0.N), cc0_transform_14 (grid0.coords t) = ![t.val / 8, 0, t.val % 8] := by decide +kernel

/-- The rows of the input. -/
theorem blk_x (t : Fin grid0.N) (r : Fin 512) (k : Fin 1024) :
    (Gen.iblk m c 0 t : Vec Ideal S512x1024 .f32) (ix2 r k) = (m (c.tc.loc main_arg0) : Vec Ideal S4x4096x1024 .f32) (ix3 (seqAt t) (posAt t r) k) := by
  rw [← rowAt_div t r, ← rowAt_mod t r]
  refine (?_ : _ = (Gen.V m c main_v3 : Vec Ideal S16384x1024 .f32) (ix2 (rowAt t r) k)).trans ((host_x m c (rowAt t r) k))
  unfold Gen.iblk
  refine congrArg (Gen.V m c main_v3 : S16384x1024.Idx → EReal) ?_
  funext a
  apply Fin.ext
  match a with
  | ⟨0, _⟩ =>
    show cc0_transform_0 (grid0.coords t) 0 * 512 + 1 * r.val = t.val * 512 + r.val
    rw [show cc0_transform_0 (grid0.coords t) 0 = t.val from congrFun (index0 t) 0]; omega
  | ⟨1, _⟩ =>
    show cc0_transform_0 (grid0.coords t) 1 * 1024 + 1 * k.val = k.val
    rw [show cc0_transform_0 (grid0.coords t) 1 = 0 from congrFun (index0 t) 1]; omega

/-- The shift. -/
theorem blk_sh (t : Fin grid0.N) (k : Fin 1024) :
    (Gen.iblk m c 1 t : Vec Ideal S1x1x1024 .f32) (ix3 0 0 k) = (m (c.tc.loc main_arg1) : Vec Ideal S4x9216 .f32) (ix2 (seqAt t) ⟨3072 + k.val, by omega⟩) := by
  refine (?_ : _ = (Gen.V m c main_v4 : Vec Ideal S4x1x9216 .f32) (ix3 (seqAt t) 0 ⟨3072 + k.val, by omega⟩)).trans ((host_mod m c (seqAt t) ⟨3072 + k.val, by omega⟩))
  unfold Gen.iblk
  refine congrArg (Gen.V m c main_v4 : S4x1x9216.Idx → EReal) ?_
  funext a
  apply Fin.ext
  match a with
  | ⟨0, _⟩ =>
    show cc0_transform_1 (grid0.coords t) 0 * 1 + 1 * 0 = t.val / 8
    rw [show cc0_transform_1 (grid0.coords t) 0 = t.val / 8 from congrFun (index1 t) 0]; omega
  | ⟨1, _⟩ =>
    show cc0_transform_1 (grid0.coords t) 1 * 1 + 1 * 0 = 0
    rw [show cc0_transform_1 (grid0.coords t) 1 = 0 from congrFun (index1 t) 1]
  | ⟨2, _⟩ =>
    show cc0_transform_1 (grid0.coords t) 2 * 1024 + 1 * k.val = 3072 + k.val
    rw [show cc0_transform_1 (grid0.coords t) 2 = 3 from congrFun (index1 t) 2]; omega

/-- The scale. -/
theorem blk_sc (t : Fin grid0.N) (k : Fin 1024) :
    (Gen.iblk m c 2 t : Vec Ideal S1x1x1024 .f32) (ix3 0 0 k) = (m (c.tc.loc main_arg1) : Vec Ideal S4x9216 .f32) (ix2 (seqAt t) ⟨4096 + k.val, by omega⟩) := by
  refine (?_ : _ = (Gen.V m c main_v4 : Vec Ideal S4x1x9216 .f32) (ix3 (seqAt t) 0 ⟨4096 + k.val, by omega⟩)).trans ((host_mod m c (seqAt t) ⟨4096 + k.val, by omega⟩))
  unfold Gen.iblk
  refine congrArg (Gen.V m c main_v4 : S4x1x9216.Idx → EReal) ?_
  funext a
  apply Fin.ext
  match a with
  | ⟨0, _⟩ =>
    show cc0_transform_2 (grid0.coords t) 0 * 1 + 1 * 0 = t.val / 8
    rw [show cc0_transform_2 (grid0.coords t) 0 = t.val / 8 from congrFun (index2 t) 0]; omega
  | ⟨1, _⟩ =>
    show cc0_transform_2 (grid0.coords t) 1 * 1 + 1 * 0 = 0
    rw [show cc0_transform_2 (grid0.coords t) 1 = 0 from congrFun (index2 t) 1]
  | ⟨2, _⟩ =>
    show cc0_transform_2 (grid0.coords t) 2 * 1024 + 1 * k.val = 4096 + k.val
    rw [show cc0_transform_2 (grid0.coords t) 2 = 4 from congrFun (index2 t) 2]; omega

/-- The weights. -/
theorem blk_w (t : Fin grid0.N) (j : Fin 2944) (k : Fin 1024) :
    (Gen.iblk m c 3 t : Vec Ideal S1x2944x1024 .bf16) (ix3 0 j k)
      = if h : j.val < 2888 then (m (c.tc.loc main_arg2) : Vec Ideal S4x1024x2888 .f32) (ix3 0 k ⟨j.val, h⟩) else (0 : EReal) := by
  refine (?_ : _ = (Gen.V m c main_v2 : Vec Ideal S4x2944x1024 .bf16) (ix3 0 j k)).trans (host_w m c 0 j k)
  unfold Gen.iblk
  refine congrArg (Gen.V m c main_v2 : S4x2944x1024.Idx → EReal) ?_
  funext a
  apply Fin.ext
  match a with
  | ⟨0, _⟩ =>
    show cc0_transform_3 (grid0.coords t) 0 * 1 + 1 * 0 = 0
    rw [show cc0_transform_3 (grid0.coords t) 0 = 0 from congrFun (index3 t) 0]
  | ⟨1, _⟩ =>
    show cc0_transform_3 (grid0.coords t) 1 * 2944 + 1 * j.val = j.val
    rw [show cc0_transform_3 (grid0.coords t) 1 = 0 from congrFun (index3 t) 1]; omega
  | ⟨2, _⟩ =>
    show cc0_transform_3 (grid0.coords t) 2 * 1024 + 1 * k.val = k.val
    rw [show cc0_transform_3 (grid0.coords t) 2 = 0 from congrFun (index3 t) 2]; omega

/-- The modulated row of a block is that of its token. -/
theorem hblk_eq (t : Fin grid0.N) (r : Fin 512) :
    hblk (Gen.iblk m c 0 t) (Gen.iblk m c 1 t) (Gen.iblk m c 2 t) r
      = htok (m (c.tc.loc main_arg0)) (m (c.tc.loc main_arg1)) (seqAt t) (posAt t r) := by
  unfold hblk htok
  simp only [blk_x, blk_sh, blk_sc]

/-- A projected entry of a block is that of its token. -/
theorem blkP_eq (t : Fin grid0.N) (r : Fin 512) (j : Fin 2944) (h : j.val < 2888) :
    blkP (Gen.iblk m c 0 t) (Gen.iblk m c 1 t) (Gen.iblk m c 2 t) (Gen.iblk m c 3 t) r j
      = refP (m (c.tc.loc main_arg0)) (m (c.tc.loc main_arg1)) (m (c.tc.loc main_arg2)) (seqAt t) (posAt t r) ⟨j.val, h⟩ :=
  congrArg₂ proj (hblk_eq m c t r) (funext fun k => (blk_w m c t j k).trans (dif_pos h))

/-- The projected entries after the reference's features are zero. -/
theorem blkP_zero (t : Fin grid0.N) (r : Fin 512) (j : Fin 2944) (h : ¬ j.val < 2888) :
    blkP (Gen.iblk m c 0 t) (Gen.iblk m c 1 t) (Gen.iblk m c 2 t) (Gen.iblk m c 3 t) r j = 0 := by
  refine (congrArg (proj _) (funext fun k => (blk_w m c t j k).trans (dif_neg h))).trans ?_
  unfold proj
  simp

end Cert.Proof.Ip

end
-- ==== Proof.IpFinal.lean ====
module

public import proofs.«01_k».proof.Proof.IpBlocks

@[expose] public section

set_option maxRecDepth 16384

noncomputable section

/-! # The run of the input projection's kernel ends with the reference's results -/

namespace Cert.Proof.Ip

open Idealize Idealize.ShloMosaic Idealize.ShloMosaic.TcCoe Idealize.SL.Sem Cert.InprojIdeal
open Idealize.ShloMosaic.Pipeline (Dat Cfg Window)

variable (m : (ℓ : Loc nD τ sig) → Buf (Elt Ideal) ℓ) (ρ : Dev nD → PrngReg)

/-- The reference's result 0 of the kernel's arguments. -/
def res4 : S16384x256.Idx → EReal :=
  Cert.InprojRefIdeal.Read.val_main_v47 (F := Ideal) (m ((0 : Dev nD).tc.loc main_arg0)) (m ((0 : Dev nD).tc.loc main_arg1))
    (m ((0 : Dev nD).tc.loc main_arg2))

/-- An entry of a grid point's block is the entry of the result. -/
theorem block4 (t : Fin grid0.N) (r : Fin 512) (c : Fin 256) :
    Gen.out0_4 (Gen.iblk m 0 0 t) (Gen.iblk m 0 1 t) (Gen.iblk m 0 2 t) (Gen.iblk m 0 3 t) (ix2 r c) = res4 m (ix2 (rowAt t r) c) := by
  refine (out4_apply _ _ _ _ r c).trans (Eq.trans ?_ (ref4 _ _ _ (rowAt t r) c).symm)
  simp only [rowAt_div, rowAt_mod]
  exact congrArg₂ (fun a b => a * Ideal.logistic b) (blkP_eq m 0 t r ⟨c.val, by omega⟩ (by show c.val < 2888; omega)) (blkP_eq m 0 t r ⟨256 + c.val, by omega⟩ (by show 256 + c.val < 2888; omega))

/-- The write-back of a grid point writes its rows of the result. -/
theorem flushed4 (t : Fin cfg0.N) :
    (Gen.dats m 0 0).flushed 4 t = ((cfg0.win 4).blk t).view.read (Elt Ideal) (res4 m) := by
  show (cfg0.win 4).cut (cfg0.grid.coords t) ((Gen.dats m 0 0).after 4 t) = _
  rw [Gen.after0_4]
  refine funext fun (j : S512x256.Idx) => ?_
  have hj0 : (j 0).val < 512 := (j 0).isLt
  have hj1 : (j 1).val < 256 := (j 1).isLt
  refine Eq.trans (b := Gen.out0_4 (Gen.iblk m 0 0 t) (Gen.iblk m 0 1 t) (Gen.iblk m 0 2 t) (Gen.iblk m 0 3 t)
      (ix2 ⟨(j 0).val, hj0⟩ ⟨(j 1).val, hj1⟩)) ?_ ((block4 m t ⟨(j 0).val, hj0⟩ ⟨(j 1).val, hj1⟩).trans ?_)
  · refine congrArg (Gen.out0_4 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res4 m : S16384x256.Idx → EReal) ?_
    funext a
    apply Fin.ext
    match a with
    | ⟨0, _⟩ =>
      show t.val * 512 + (j 0).val = cc0_transform_4 (grid0.coords t) 0 * 512 + 1 * (j 0).val
      rw [show cc0_transform_4 (grid0.coords t) 0 = t.val from congrFun (index4 t) 0]; omega
    | ⟨1, _⟩ =>
      show (j 1).val = cc0_transform_4 (grid0.coords t) 1 * 256 + 1 * (j 1).val
      rw [show cc0_transform_4 (grid0.coords t) 1 = 0 from congrFun (index4 t) 1]; omega

/-- Every cell of the result is written at the grid point of its row. -/
theorem covered4 (i : S16384x256.Idx) : ∃ t : Fin cfg0.N, (cfg0.win 4).flush t = true
    ∧ (i : ((cfg0.win 4).blk t).view.ty.Idx) ∈ ((cfg0.win 4).blk t).view.set := by
  have i0 : (i 0 : Nat) < 16384 := (i 0).isLt
  have i1 : (i 1 : Nat) < 256 := (i 1).isLt
  have hN : grid0.N = 32 := Gen.N_0
  have hr : (i 0 : Nat) % 512 < 512 := by omega
  obtain ⟨t, hv⟩ : ∃ t : Fin grid0.N, t.val = (i 0 : Nat) / 512 := ⟨⟨(i 0 : Nat) / 512, by omega⟩, rfl⟩
  refine ⟨t, Gen.flush0_4 _, ?_⟩
  have e : ((cfg0.win 4).blk t).view.emb (ix2 ⟨(i 0 : Nat) % 512, hr⟩ ⟨(i 1 : Nat), i1⟩ : S512x256.Idx) = i := by
    funext a
    apply Fin.ext
    match a with
    | ⟨0, _⟩ =>
      show cc0_transform_4 (grid0.coords t) 0 * 512 + 1 * ((i 0 : Nat) % 512) = (i 0 : Nat)
      rw [show cc0_transform_4 (grid0.coords t) 0 = t.val from congrFun (index4 t) 0]; omega
    | ⟨1, _⟩ =>
      show cc0_transform_4 (grid0.coords t) 1 * 256 + 1 * (i 1 : Nat) = (i 1 : Nat)
      rw [show cc0_transform_4 (grid0.coords t) 1 = 0 from congrFun (index4 t) 1]; omega
  exact e ▸ View.emb_mem_set ((cfg0.win 4).blk t).view (ix2 ⟨(i 0 : Nat) % 512, hr⟩ ⟨(i 1 : Nat), i1⟩ : S512x256.Idx)

/-- The array ends holding the reference's result 0. -/
theorem final4 : (Gen.dats m 0 0).arrAt 4 cfg0.N = (res4 m : Buf (Elt Ideal) ((cfg0.win 4).arr.view.loc ((0 : Dev nD).tc))) :=
  (Gen.dats m 0 0).arrAt_eq_of_cover 4 (res4 m) (fun t _ => flushed4 m t) covered4

/-- The reference's result 1 of the kernel's arguments. -/
def res5 : S16384x256.Idx → EReal :=
  Cert.InprojRefIdeal.Read.val_main_v48 (F := Ideal) (m ((0 : Dev nD).tc.loc main_arg0)) (m ((0 : Dev nD).tc.loc main_arg1))
    (m ((0 : Dev nD).tc.loc main_arg2))

/-- An entry of a grid point's block is the entry of the result. -/
theorem block5 (t : Fin grid0.N) (r : Fin 512) (c : Fin 256) :
    Gen.out0_5 (Gen.iblk m 0 0 t) (Gen.iblk m 0 1 t) (Gen.iblk m 0 2 t) (Gen.iblk m 0 3 t) (ix2 r c) = res5 m (ix2 (rowAt t r) c) := by
  refine (out5_apply _ _ _ _ r c).trans (Eq.trans ?_ (ref5 _ _ _ (rowAt t r) c).symm)
  simp only [rowAt_div, rowAt_mod]
  exact blkP_eq m 0 t r ⟨512 + c.val, by omega⟩ (by show 512 + c.val < 2888; omega)

/-- The write-back of a grid point writes its rows of the result. -/
theorem flushed5 (t : Fin cfg0.N) :
    (Gen.dats m 0 0).flushed 5 t = ((cfg0.win 5).blk t).view.read (Elt Ideal) (res5 m) := by
  show (cfg0.win 5).cut (cfg0.grid.coords t) ((Gen.dats m 0 0).after 5 t) = _
  rw [Gen.after0_5]
  refine funext fun (j : S512x256.Idx) => ?_
  have hj0 : (j 0).val < 512 := (j 0).isLt
  have hj1 : (j 1).val < 256 := (j 1).isLt
  refine Eq.trans (b := Gen.out0_5 (Gen.iblk m 0 0 t) (Gen.iblk m 0 1 t) (Gen.iblk m 0 2 t) (Gen.iblk m 0 3 t)
      (ix2 ⟨(j 0).val, hj0⟩ ⟨(j 1).val, hj1⟩)) ?_ ((block5 m t ⟨(j 0).val, hj0⟩ ⟨(j 1).val, hj1⟩).trans ?_)
  · refine congrArg (Gen.out0_5 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res5 m : S16384x256.Idx → EReal) ?_
    funext a
    apply Fin.ext
    match a with
    | ⟨0, _⟩ =>
      show t.val * 512 + (j 0).val = cc0_transform_5 (grid0.coords t) 0 * 512 + 1 * (j 0).val
      rw [show cc0_transform_5 (grid0.coords t) 0 = t.val from congrFun (index5 t) 0]; omega
    | ⟨1, _⟩ =>
      show (j 1).val = cc0_transform_5 (grid0.coords t) 1 * 256 + 1 * (j 1).val
      rw [show cc0_transform_5 (grid0.coords t) 1 = 0 from congrFun (index5 t) 1]; omega

/-- Every cell of the result is written at the grid point of its row. -/
theorem covered5 (i : S16384x256.Idx) : ∃ t : Fin cfg0.N, (cfg0.win 5).flush t = true
    ∧ (i : ((cfg0.win 5).blk t).view.ty.Idx) ∈ ((cfg0.win 5).blk t).view.set := by
  have i0 : (i 0 : Nat) < 16384 := (i 0).isLt
  have i1 : (i 1 : Nat) < 256 := (i 1).isLt
  have hN : grid0.N = 32 := Gen.N_0
  have hr : (i 0 : Nat) % 512 < 512 := by omega
  obtain ⟨t, hv⟩ : ∃ t : Fin grid0.N, t.val = (i 0 : Nat) / 512 := ⟨⟨(i 0 : Nat) / 512, by omega⟩, rfl⟩
  refine ⟨t, Gen.flush0_5 _, ?_⟩
  have e : ((cfg0.win 5).blk t).view.emb (ix2 ⟨(i 0 : Nat) % 512, hr⟩ ⟨(i 1 : Nat), i1⟩ : S512x256.Idx) = i := by
    funext a
    apply Fin.ext
    match a with
    | ⟨0, _⟩ =>
      show cc0_transform_5 (grid0.coords t) 0 * 512 + 1 * ((i 0 : Nat) % 512) = (i 0 : Nat)
      rw [show cc0_transform_5 (grid0.coords t) 0 = t.val from congrFun (index5 t) 0]; omega
    | ⟨1, _⟩ =>
      show cc0_transform_5 (grid0.coords t) 1 * 256 + 1 * (i 1 : Nat) = (i 1 : Nat)
      rw [show cc0_transform_5 (grid0.coords t) 1 = 0 from congrFun (index5 t) 1]; omega
  exact e ▸ View.emb_mem_set ((cfg0.win 5).blk t).view (ix2 ⟨(i 0 : Nat) % 512, hr⟩ ⟨(i 1 : Nat), i1⟩ : S512x256.Idx)

/-- The array ends holding the reference's result 1. -/
theorem final5 : (Gen.dats m 0 0).arrAt 5 cfg0.N = (res5 m : Buf (Elt Ideal) ((cfg0.win 5).arr.view.loc ((0 : Dev nD).tc))) :=
  (Gen.dats m 0 0).arrAt_eq_of_cover 5 (res5 m) (fun t _ => flushed5 m t) covered5

/-- The reference's result 2 of the kernel's arguments. -/
def res6 : S16384x128.Idx → EReal :=
  Cert.InprojRefIdeal.Read.val_main_v50 (F := Ideal) (m ((0 : Dev nD).tc.loc main_arg0)) (m ((0 : Dev nD).tc.loc main_arg1))
    (m ((0 : Dev nD).tc.loc main_arg2))

/-- An entry of a grid point's block is the entry of the result. -/
theorem block6 (t : Fin grid0.N) (r : Fin 512) (c : Fin 128) :
    Gen.out0_6 (Gen.iblk m 0 0 t) (Gen.iblk m 0 1 t) (Gen.iblk m 0 2 t) (Gen.iblk m 0 3 t) (ix2 r c) = res6 m (ix2 (rowAt t r) c) := by
  refine (out6_apply _ _ _ _ r c).trans (Eq.trans ?_ (ref6 _ _ _ (rowAt t r) c).symm)
  simp only [rowAt_div, rowAt_mod]
  by_cases h : c.val < 72
  · rw [dif_pos h]
    exact blkP_eq m 0 t r ⟨2816 + c.val, by omega⟩ (by show 2816 + c.val < 2888; omega)
  · rw [dif_neg h]
    exact blkP_zero m 0 t r ⟨2816 + c.val, by omega⟩ (by show ¬ 2816 + c.val < 2888; omega)

/-- The write-back of a grid point writes its rows of the result. -/
theorem flushed6 (t : Fin cfg0.N) :
    (Gen.dats m 0 0).flushed 6 t = ((cfg0.win 6).blk t).view.read (Elt Ideal) (res6 m) := by
  show (cfg0.win 6).cut (cfg0.grid.coords t) ((Gen.dats m 0 0).after 6 t) = _
  rw [Gen.after0_6]
  refine funext fun (j : S512x128.Idx) => ?_
  have hj0 : (j 0).val < 512 := (j 0).isLt
  have hj1 : (j 1).val < 128 := (j 1).isLt
  refine Eq.trans (b := Gen.out0_6 (Gen.iblk m 0 0 t) (Gen.iblk m 0 1 t) (Gen.iblk m 0 2 t) (Gen.iblk m 0 3 t)
      (ix2 ⟨(j 0).val, hj0⟩ ⟨(j 1).val, hj1⟩)) ?_ ((block6 m t ⟨(j 0).val, hj0⟩ ⟨(j 1).val, hj1⟩).trans ?_)
  · refine congrArg (Gen.out0_6 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res6 m : S16384x128.Idx → EReal) ?_
    funext a
    apply Fin.ext
    match a with
    | ⟨0, _⟩ =>
      show t.val * 512 + (j 0).val = cc0_transform_6 (grid0.coords t) 0 * 512 + 1 * (j 0).val
      rw [show cc0_transform_6 (grid0.coords t) 0 = t.val from congrFun (index6 t) 0]; omega
    | ⟨1, _⟩ =>
      show (j 1).val = cc0_transform_6 (grid0.coords t) 1 * 128 + 1 * (j 1).val
      rw [show cc0_transform_6 (grid0.coords t) 1 = 0 from congrFun (index6 t) 1]; omega

/-- Every cell of the result is written at the grid point of its row. -/
theorem covered6 (i : S16384x128.Idx) : ∃ t : Fin cfg0.N, (cfg0.win 6).flush t = true
    ∧ (i : ((cfg0.win 6).blk t).view.ty.Idx) ∈ ((cfg0.win 6).blk t).view.set := by
  have i0 : (i 0 : Nat) < 16384 := (i 0).isLt
  have i1 : (i 1 : Nat) < 128 := (i 1).isLt
  have hN : grid0.N = 32 := Gen.N_0
  have hr : (i 0 : Nat) % 512 < 512 := by omega
  obtain ⟨t, hv⟩ : ∃ t : Fin grid0.N, t.val = (i 0 : Nat) / 512 := ⟨⟨(i 0 : Nat) / 512, by omega⟩, rfl⟩
  refine ⟨t, Gen.flush0_6 _, ?_⟩
  have e : ((cfg0.win 6).blk t).view.emb (ix2 ⟨(i 0 : Nat) % 512, hr⟩ ⟨(i 1 : Nat), i1⟩ : S512x128.Idx) = i := by
    funext a
    apply Fin.ext
    match a with
    | ⟨0, _⟩ =>
      show cc0_transform_6 (grid0.coords t) 0 * 512 + 1 * ((i 0 : Nat) % 512) = (i 0 : Nat)
      rw [show cc0_transform_6 (grid0.coords t) 0 = t.val from congrFun (index6 t) 0]; omega
    | ⟨1, _⟩ =>
      show cc0_transform_6 (grid0.coords t) 1 * 128 + 1 * (i 1 : Nat) = (i 1 : Nat)
      rw [show cc0_transform_6 (grid0.coords t) 1 = 0 from congrFun (index6 t) 1]; omega
  exact e ▸ View.emb_mem_set ((cfg0.win 6).blk t).view (ix2 ⟨(i 0 : Nat) % 512, hr⟩ ⟨(i 1 : Nat), i1⟩ : S512x128.Idx)

/-- The array ends holding the reference's result 2. -/
theorem final6 : (Gen.dats m 0 0).arrAt 6 cfg0.N = (res6 m : Buf (Elt Ideal) ((cfg0.win 6).arr.view.loc ((0 : Dev nD).tc))) :=
  (Gen.dats m 0 0).arrAt_eq_of_cover 6 (res6 m) (fun t _ => flushed6 m t) covered6

/-- The reference's result 3 of the kernel's arguments. -/
def res7 : S16384x512.Idx → EReal :=
  Cert.InprojRefIdeal.Read.val_main_v52 (F := Ideal) (m ((0 : Dev nD).tc.loc main_arg0)) (m ((0 : Dev nD).tc.loc main_arg1))
    (m ((0 : Dev nD).tc.loc main_arg2))

/-- An entry of a grid point's block is the entry of the result. -/
theorem block7 (t : Fin grid0.N) (r : Fin 512) (c : Fin 512) :
    Gen.out0_7 (Gen.iblk m 0 0 t) (Gen.iblk m 0 1 t) (Gen.iblk m 0 2 t) (Gen.iblk m 0 3 t) (ix2 r c) = res7 m (ix2 (rowAt t r) c) := by
  refine (out7_apply _ _ _ _ r c).trans (Eq.trans ?_ (ref7 _ _ _ (rowAt t r) c).symm)
  simp only [rowAt_div, rowAt_mod]
  exact blkP_eq m 0 t r ⟨1280 + c.val, by omega⟩ (by show 1280 + c.val < 2888; omega)

/-- The write-back of a grid point writes its rows of the result. -/
theorem flushed7 (t : Fin cfg0.N) :
    (Gen.dats m 0 0).flushed 7 t = ((cfg0.win 7).blk t).view.read (Elt Ideal) (res7 m) := by
  show (cfg0.win 7).cut (cfg0.grid.coords t) ((Gen.dats m 0 0).after 7 t) = _
  rw [Gen.after0_7]
  refine funext fun (j : S512x512.Idx) => ?_
  have hj0 : (j 0).val < 512 := (j 0).isLt
  have hj1 : (j 1).val < 512 := (j 1).isLt
  refine Eq.trans (b := Gen.out0_7 (Gen.iblk m 0 0 t) (Gen.iblk m 0 1 t) (Gen.iblk m 0 2 t) (Gen.iblk m 0 3 t)
      (ix2 ⟨(j 0).val, hj0⟩ ⟨(j 1).val, hj1⟩)) ?_ ((block7 m t ⟨(j 0).val, hj0⟩ ⟨(j 1).val, hj1⟩).trans ?_)
  · refine congrArg (Gen.out0_7 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res7 m : S16384x512.Idx → EReal) ?_
    funext a
    apply Fin.ext
    match a with
    | ⟨0, _⟩ =>
      show t.val * 512 + (j 0).val = cc0_transform_7 (grid0.coords t) 0 * 512 + 1 * (j 0).val
      rw [show cc0_transform_7 (grid0.coords t) 0 = t.val from congrFun (index7 t) 0]; omega
    | ⟨1, _⟩ =>
      show (j 1).val = cc0_transform_7 (grid0.coords t) 1 * 512 + 1 * (j 1).val
      rw [show cc0_transform_7 (grid0.coords t) 1 = 0 from congrFun (index7 t) 1]; omega

/-- Every cell of the result is written at the grid point of its row. -/
theorem covered7 (i : S16384x512.Idx) : ∃ t : Fin cfg0.N, (cfg0.win 7).flush t = true
    ∧ (i : ((cfg0.win 7).blk t).view.ty.Idx) ∈ ((cfg0.win 7).blk t).view.set := by
  have i0 : (i 0 : Nat) < 16384 := (i 0).isLt
  have i1 : (i 1 : Nat) < 512 := (i 1).isLt
  have hN : grid0.N = 32 := Gen.N_0
  have hr : (i 0 : Nat) % 512 < 512 := by omega
  obtain ⟨t, hv⟩ : ∃ t : Fin grid0.N, t.val = (i 0 : Nat) / 512 := ⟨⟨(i 0 : Nat) / 512, by omega⟩, rfl⟩
  refine ⟨t, Gen.flush0_7 _, ?_⟩
  have e : ((cfg0.win 7).blk t).view.emb (ix2 ⟨(i 0 : Nat) % 512, hr⟩ ⟨(i 1 : Nat), i1⟩ : S512x512.Idx) = i := by
    funext a
    apply Fin.ext
    match a with
    | ⟨0, _⟩ =>
      show cc0_transform_7 (grid0.coords t) 0 * 512 + 1 * ((i 0 : Nat) % 512) = (i 0 : Nat)
      rw [show cc0_transform_7 (grid0.coords t) 0 = t.val from congrFun (index7 t) 0]; omega
    | ⟨1, _⟩ =>
      show cc0_transform_7 (grid0.coords t) 1 * 512 + 1 * (i 1 : Nat) = (i 1 : Nat)
      rw [show cc0_transform_7 (grid0.coords t) 1 = 0 from congrFun (index7 t) 1]; omega
  exact e ▸ View.emb_mem_set ((cfg0.win 7).blk t).view (ix2 ⟨(i 0 : Nat) % 512, hr⟩ ⟨(i 1 : Nat), i1⟩ : S512x512.Idx)

/-- The array ends holding the reference's result 3. -/
theorem final7 : (Gen.dats m 0 0).arrAt 7 cfg0.N = (res7 m : Buf (Elt Ideal) ((cfg0.win 7).arr.view.loc ((0 : Dev nD).tc))) :=
  (Gen.dats m 0 0).arrAt_eq_of_cover 7 (res7 m) (fun t _ => flushed7 m t) covered7

/-- The reference's result 4 of the kernel's arguments. -/
def res8 : S4x512x4096.Idx → EReal :=
  Cert.InprojRefIdeal.Read.val_main_v54 (F := Ideal) (m ((0 : Dev nD).tc.loc main_arg0)) (m ((0 : Dev nD).tc.loc main_arg1))
    (m ((0 : Dev nD).tc.loc main_arg2))

/-- An entry of a grid point's block is the entry of the result. -/
theorem block8 (t : Fin grid0.N) (r : Fin 512) (c : Fin 512) :
    Gen.out0_8 (Gen.iblk m 0 0 t) (Gen.iblk m 0 1 t) (Gen.iblk m 0 2 t) (Gen.iblk m 0 3 t) (ix3 0 c r) = res8 m (ix3 (seqAt t) c (posAt t r)) := by
  refine (out8_apply _ _ _ _ r c).trans (Eq.trans ?_ (ref8 _ _ _ (seqAt t) c (posAt t r)).symm)
  exact congrArg (fun a => a * _) (blkP_eq m 0 t r ⟨768 + c.val, by omega⟩ (by show 768 + c.val < 2888; omega))

/-- The write-back of a grid point writes its columns of the result. -/
theorem flushed8 (t : Fin cfg0.N) :
    (Gen.dats m 0 0).flushed 8 t = ((cfg0.win 8).blk t).view.read (Elt Ideal) (res8 m) := by
  show (cfg0.win 8).cut (cfg0.grid.coords t) ((Gen.dats m 0 0).after 8 t) = _
  rw [Gen.after0_8]
  refine funext fun (j : S1x512x512.Idx) => ?_
  have hj0 : (j 0).val < 1 := (j 0).isLt
  have hj1 : (j 1).val < 512 := (j 1).isLt
  have hj2 : (j 2).val < 512 := (j 2).isLt
  refine Eq.trans (b := Gen.out0_8 (Gen.iblk m 0 0 t) (Gen.iblk m 0 1 t) (Gen.iblk m 0 2 t) (Gen.iblk m 0 3 t)
      (ix3 0 ⟨(j 1).val, hj1⟩ ⟨(j 2).val, hj2⟩)) ?_ ((block8 m t ⟨(j 2).val, hj2⟩ ⟨(j 1).val, hj1⟩).trans ?_)
  · refine congrArg (Gen.out0_8 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res8 m : S4x512x4096.Idx → EReal) ?_
    funext a
    apply Fin.ext
    match a with
    | ⟨0, _⟩ =>
      show t.val / 8 = cc0_transform_8 (grid0.coords t) 0 * 1 + 1 * (j 0).val
      rw [show cc0_transform_8 (grid0.coords t) 0 = t.val / 8 from congrFun (index8 t) 0]; omega
    | ⟨1, _⟩ =>
      show (j 1).val = cc0_transform_8 (grid0.coords t) 1 * 512 + 1 * (j 1).val
      rw [show cc0_transform_8 (grid0.coords t) 1 = 0 from congrFun (index8 t) 1]; omega
    | ⟨2, _⟩ =>
      show t.val % 8 * 512 + (j 2).val = cc0_transform_8 (grid0.coords t) 2 * 512 + 1 * (j 2).val
      rw [show cc0_transform_8 (grid0.coords t) 2 = t.val % 8 from congrFun (index8 t) 2]; omega

/-- Every cell of the result is written at the grid point of its column. -/
theorem covered8 (i : S4x512x4096.Idx) : ∃ t : Fin cfg0.N, (cfg0.win 8).flush t = true
    ∧ (i : ((cfg0.win 8).blk t).view.ty.Idx) ∈ ((cfg0.win 8).blk t).view.set := by
  have i0 : (i 0 : Nat) < 4 := (i 0).isLt
  have i1 : (i 1 : Nat) < 512 := (i 1).isLt
  have i2 : (i 2 : Nat) < 4096 := (i 2).isLt
  have hN : grid0.N = 32 := Gen.N_0
  have hr : (i 2 : Nat) % 512 < 512 := by omega
  obtain ⟨t, hv⟩ : ∃ t : Fin grid0.N, t.val = (i 0 : Nat) * 8 + (i 2 : Nat) / 512 :=
    ⟨⟨(i 0 : Nat) * 8 + (i 2 : Nat) / 512, by omega⟩, rfl⟩
  refine ⟨t, Gen.flush0_8 _, ?_⟩
  have e : ((cfg0.win 8).blk t).view.emb (ix3 0 ⟨(i 1 : Nat), i1⟩ ⟨(i 2 : Nat) % 512, hr⟩ : S1x512x512.Idx) = i := by
    funext a
    apply Fin.ext
    match a with
    | ⟨0, _⟩ =>
      show cc0_transform_8 (grid0.coords t) 0 * 1 + 1 * 0 = (i 0 : Nat)
      rw [show cc0_transform_8 (grid0.coords t) 0 = t.val / 8 from congrFun (index8 t) 0]; omega
    | ⟨1, _⟩ =>
      show cc0_transform_8 (grid0.coords t) 1 * 512 + 1 * (i 1 : Nat) = (i 1 : Nat)
      rw [show cc0_transform_8 (grid0.coords t) 1 = 0 from congrFun (index8 t) 1]; omega
    | ⟨2, _⟩ =>
      show cc0_transform_8 (grid0.coords t) 2 * 512 + 1 * ((i 2 : Nat) % 512) = (i 2 : Nat)
      rw [show cc0_transform_8 (grid0.coords t) 2 = t.val % 8 from congrFun (index8 t) 2]; omega
  exact e ▸ View.emb_mem_set ((cfg0.win 8).blk t).view (ix3 0 ⟨(i 1 : Nat), i1⟩ ⟨(i 2 : Nat) % 512, hr⟩ : S1x512x512.Idx)

/-- The array ends holding the reference's result 4. -/
theorem final8 : (Gen.dats m 0 0).arrAt 8 cfg0.N = (res8 m : Buf (Elt Ideal) ((cfg0.win 8).arr.view.loc ((0 : Dev nD).tc))) :=
  (Gen.dats m 0 0).arrAt_eq_of_cover 8 (res8 m) (fun t _ => flushed8 m t) covered8

/-- The reference's result 5 of the kernel's arguments. -/
def res9 : S4x512x4096.Idx → EReal :=
  Cert.InprojRefIdeal.Read.val_main_v56 (F := Ideal) (m ((0 : Dev nD).tc.loc main_arg0)) (m ((0 : Dev nD).tc.loc main_arg1))
    (m ((0 : Dev nD).tc.loc main_arg2))

/-- An entry of a grid point's block is the entry of the result. -/
theorem block9 (t : Fin grid0.N) (r : Fin 512) (c : Fin 512) :
    Gen.out0_9 (Gen.iblk m 0 0 t) (Gen.iblk m 0 1 t) (Gen.iblk m 0 2 t) (Gen.iblk m 0 3 t) (ix3 0 c r) = res9 m (ix3 (seqAt t) c (posAt t r)) := by
  refine (out9_apply _ _ _ _ r c).trans (Eq.trans ?_ (ref9 _ _ _ (seqAt t) c (posAt t r)).symm)
  exact blkP_eq m 0 t r ⟨2304 + c.val, by omega⟩ (by show 2304 + c.val < 2888; omega)

/-- The write-back of a grid point writes its columns of the result. -/
theorem flushed9 (t : Fin cfg0.N) :
    (Gen.dats m 0 0).flushed 9 t = ((cfg0.win 9).blk t).view.read (Elt Ideal) (res9 m) := by
  show (cfg0.win 9).cut (cfg0.grid.coords t) ((Gen.dats m 0 0).after 9 t) = _
  rw [Gen.after0_9]
  refine funext fun (j : S1x512x512.Idx) => ?_
  have hj0 : (j 0).val < 1 := (j 0).isLt
  have hj1 : (j 1).val < 512 := (j 1).isLt
  have hj2 : (j 2).val < 512 := (j 2).isLt
  refine Eq.trans (b := Gen.out0_9 (Gen.iblk m 0 0 t) (Gen.iblk m 0 1 t) (Gen.iblk m 0 2 t) (Gen.iblk m 0 3 t)
      (ix3 0 ⟨(j 1).val, hj1⟩ ⟨(j 2).val, hj2⟩)) ?_ ((block9 m t ⟨(j 2).val, hj2⟩ ⟨(j 1).val, hj1⟩).trans ?_)
  · refine congrArg (Gen.out0_9 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res9 m : S4x512x4096.Idx → EReal) ?_
    funext a
    apply Fin.ext
    match a with
    | ⟨0, _⟩ =>
      show t.val / 8 = cc0_transform_9 (grid0.coords t) 0 * 1 + 1 * (j 0).val
      rw [show cc0_transform_9 (grid0.coords t) 0 = t.val / 8 from congrFun (index9 t) 0]; omega
    | ⟨1, _⟩ =>
      show (j 1).val = cc0_transform_9 (grid0.coords t) 1 * 512 + 1 * (j 1).val
      rw [show cc0_transform_9 (grid0.coords t) 1 = 0 from congrFun (index9 t) 1]; omega
    | ⟨2, _⟩ =>
      show t.val % 8 * 512 + (j 2).val = cc0_transform_9 (grid0.coords t) 2 * 512 + 1 * (j 2).val
      rw [show cc0_transform_9 (grid0.coords t) 2 = t.val % 8 from congrFun (index9 t) 2]; omega

/-- Every cell of the result is written at the grid point of its column. -/
theorem covered9 (i : S4x512x4096.Idx) : ∃ t : Fin cfg0.N, (cfg0.win 9).flush t = true
    ∧ (i : ((cfg0.win 9).blk t).view.ty.Idx) ∈ ((cfg0.win 9).blk t).view.set := by
  have i0 : (i 0 : Nat) < 4 := (i 0).isLt
  have i1 : (i 1 : Nat) < 512 := (i 1).isLt
  have i2 : (i 2 : Nat) < 4096 := (i 2).isLt
  have hN : grid0.N = 32 := Gen.N_0
  have hr : (i 2 : Nat) % 512 < 512 := by omega
  obtain ⟨t, hv⟩ : ∃ t : Fin grid0.N, t.val = (i 0 : Nat) * 8 + (i 2 : Nat) / 512 :=
    ⟨⟨(i 0 : Nat) * 8 + (i 2 : Nat) / 512, by omega⟩, rfl⟩
  refine ⟨t, Gen.flush0_9 _, ?_⟩
  have e : ((cfg0.win 9).blk t).view.emb (ix3 0 ⟨(i 1 : Nat), i1⟩ ⟨(i 2 : Nat) % 512, hr⟩ : S1x512x512.Idx) = i := by
    funext a
    apply Fin.ext
    match a with
    | ⟨0, _⟩ =>
      show cc0_transform_9 (grid0.coords t) 0 * 1 + 1 * 0 = (i 0 : Nat)
      rw [show cc0_transform_9 (grid0.coords t) 0 = t.val / 8 from congrFun (index9 t) 0]; omega
    | ⟨1, _⟩ =>
      show cc0_transform_9 (grid0.coords t) 1 * 512 + 1 * (i 1 : Nat) = (i 1 : Nat)
      rw [show cc0_transform_9 (grid0.coords t) 1 = 0 from congrFun (index9 t) 1]; omega
    | ⟨2, _⟩ =>
      show cc0_transform_9 (grid0.coords t) 2 * 512 + 1 * ((i 2 : Nat) % 512) = (i 2 : Nat)
      rw [show cc0_transform_9 (grid0.coords t) 2 = t.val % 8 from congrFun (index9 t) 2]; omega
  exact e ▸ View.emb_mem_set ((cfg0.win 9).blk t).view (ix3 0 ⟨(i 1 : Nat), i1⟩ ⟨(i 2 : Nat) % 512, hr⟩ : S1x512x512.Idx)

/-- The array ends holding the reference's result 5. -/
theorem final9 : (Gen.dats m 0 0).arrAt 9 cfg0.N = (res9 m : Buf (Elt Ideal) ((cfg0.win 9).arr.view.loc ((0 : Dev nD).tc))) :=
  (Gen.dats m 0 0).arrAt_eq_of_cover 9 (res9 m) (fun t _ => flushed9 m t) covered9

/-- The reference's result 6 of the kernel's arguments. -/
def res10 : S4x8x4096.Idx → EReal :=
  Cert.InprojRefIdeal.Read.val_main_v57 (F := Ideal) (m ((0 : Dev nD).tc.loc main_arg0)) (m ((0 : Dev nD).tc.loc main_arg1))
    (m ((0 : Dev nD).tc.loc main_arg2))

/-- An entry of a grid point's block is the entry of the result. -/
theorem block10 (t : Fin grid0.N) (r : Fin 512) (c : Fin 8) :
    Gen.out0_10 (Gen.iblk m 0 0 t) (Gen.iblk m 0 1 t) (Gen.iblk m 0 2 t) (Gen.iblk m 0 3 t) (ix3 0 c r) = res10 m (ix3 (seqAt t) c (posAt t r)) := by
  refine (out10_apply _ _ _ _ r c).trans (Eq.trans ?_ (ref10 _ _ _ (seqAt t) c (posAt t r)).symm)
  exact congrArg (fun a => a * _) (blkP_eq m 0 t r ⟨2880 + c.val, by omega⟩ (by show 2880 + c.val < 2888; omega))

/-- The write-back of a grid point writes its columns of the result. -/
theorem flushed10 (t : Fin cfg0.N) :
    (Gen.dats m 0 0).flushed 10 t = ((cfg0.win 10).blk t).view.read (Elt Ideal) (res10 m) := by
  show (cfg0.win 10).cut (cfg0.grid.coords t) ((Gen.dats m 0 0).after 10 t) = _
  rw [Gen.after0_10]
  refine funext fun (j : S1x8x512.Idx) => ?_
  have hj0 : (j 0).val < 1 := (j 0).isLt
  have hj1 : (j 1).val < 8 := (j 1).isLt
  have hj2 : (j 2).val < 512 := (j 2).isLt
  refine Eq.trans (b := Gen.out0_10 (Gen.iblk m 0 0 t) (Gen.iblk m 0 1 t) (Gen.iblk m 0 2 t) (Gen.iblk m 0 3 t)
      (ix3 0 ⟨(j 1).val, hj1⟩ ⟨(j 2).val, hj2⟩)) ?_ ((block10 m t ⟨(j 2).val, hj2⟩ ⟨(j 1).val, hj1⟩).trans ?_)
  · refine congrArg (Gen.out0_10 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res10 m : S4x8x4096.Idx → EReal) ?_
    funext a
    apply Fin.ext
    match a with
    | ⟨0, _⟩ =>
      show t.val / 8 = cc0_transform_10 (grid0.coords t) 0 * 1 + 1 * (j 0).val
      rw [show cc0_transform_10 (grid0.coords t) 0 = t.val / 8 from congrFun (index10 t) 0]; omega
    | ⟨1, _⟩ =>
      show (j 1).val = cc0_transform_10 (grid0.coords t) 1 * 8 + 1 * (j 1).val
      rw [show cc0_transform_10 (grid0.coords t) 1 = 0 from congrFun (index10 t) 1]; omega
    | ⟨2, _⟩ =>
      show t.val % 8 * 512 + (j 2).val = cc0_transform_10 (grid0.coords t) 2 * 512 + 1 * (j 2).val
      rw [show cc0_transform_10 (grid0.coords t) 2 = t.val % 8 from congrFun (index10 t) 2]; omega

/-- Every cell of the result is written at the grid point of its column. -/
theorem covered10 (i : S4x8x4096.Idx) : ∃ t : Fin cfg0.N, (cfg0.win 10).flush t = true
    ∧ (i : ((cfg0.win 10).blk t).view.ty.Idx) ∈ ((cfg0.win 10).blk t).view.set := by
  have i0 : (i 0 : Nat) < 4 := (i 0).isLt
  have i1 : (i 1 : Nat) < 8 := (i 1).isLt
  have i2 : (i 2 : Nat) < 4096 := (i 2).isLt
  have hN : grid0.N = 32 := Gen.N_0
  have hr : (i 2 : Nat) % 512 < 512 := by omega
  obtain ⟨t, hv⟩ : ∃ t : Fin grid0.N, t.val = (i 0 : Nat) * 8 + (i 2 : Nat) / 512 :=
    ⟨⟨(i 0 : Nat) * 8 + (i 2 : Nat) / 512, by omega⟩, rfl⟩
  refine ⟨t, Gen.flush0_10 _, ?_⟩
  have e : ((cfg0.win 10).blk t).view.emb (ix3 0 ⟨(i 1 : Nat), i1⟩ ⟨(i 2 : Nat) % 512, hr⟩ : S1x8x512.Idx) = i := by
    funext a
    apply Fin.ext
    match a with
    | ⟨0, _⟩ =>
      show cc0_transform_10 (grid0.coords t) 0 * 1 + 1 * 0 = (i 0 : Nat)
      rw [show cc0_transform_10 (grid0.coords t) 0 = t.val / 8 from congrFun (index10 t) 0]; omega
    | ⟨1, _⟩ =>
      show cc0_transform_10 (grid0.coords t) 1 * 8 + 1 * (i 1 : Nat) = (i 1 : Nat)
      rw [show cc0_transform_10 (grid0.coords t) 1 = 0 from congrFun (index10 t) 1]; omega
    | ⟨2, _⟩ =>
      show cc0_transform_10 (grid0.coords t) 2 * 512 + 1 * ((i 2 : Nat) % 512) = (i 2 : Nat)
      rw [show cc0_transform_10 (grid0.coords t) 2 = t.val % 8 from congrFun (index10 t) 2]; omega
  exact e ▸ View.emb_mem_set ((cfg0.win 10).blk t).view (ix3 0 ⟨(i 1 : Nat), i1⟩ ⟨(i 2 : Nat) % 512, hr⟩ : S1x8x512.Idx)

/-- The array ends holding the reference's result 6. -/
theorem final10 : (Gen.dats m 0 0).arrAt 10 cfg0.N = (res10 m : Buf (Elt Ideal) ((cfg0.win 10).arr.view.loc ((0 : Dev nD).tc))) :=
  (Gen.dats m 0 0).arrAt_eq_of_cover 10 (res10 m) (fun t _ => flushed10 m t) covered10

/-- The reference's result 7 of the kernel's arguments. -/
def res11 : S4x512x4096.Idx → EReal :=
  Cert.InprojRefIdeal.Read.val_main_v58 (F := Ideal) (m ((0 : Dev nD).tc.loc main_arg0)) (m ((0 : Dev nD).tc.loc main_arg1))
    (m ((0 : Dev nD).tc.loc main_arg2))

/-- An entry of a grid point's block is the entry of the result. -/
theorem block11 (t : Fin grid0.N) (r : Fin 512) (c : Fin 512) :
    Gen.out0_11 (Gen.iblk m 0 0 t) (Gen.iblk m 0 1 t) (Gen.iblk m 0 2 t) (Gen.iblk m 0 3 t) (ix3 0 c r) = res11 m (ix3 (seqAt t) c (posAt t r)) := by
  refine (out11_apply _ _ _ _ r c).trans (Eq.trans ?_ (ref11 _ _ _ (seqAt t) c (posAt t r)).symm)
  exact blkP_eq m 0 t r ⟨1280 + c.val, by omega⟩ (by show 1280 + c.val < 2888; omega)

/-- The write-back of a grid point writes its columns of the result. -/
theorem flushed11 (t : Fin cfg0.N) :
    (Gen.dats m 0 0).flushed 11 t = ((cfg0.win 11).blk t).view.read (Elt Ideal) (res11 m) := by
  show (cfg0.win 11).cut (cfg0.grid.coords t) ((Gen.dats m 0 0).after 11 t) = _
  rw [Gen.after0_11]
  refine funext fun (j : S1x512x512.Idx) => ?_
  have hj0 : (j 0).val < 1 := (j 0).isLt
  have hj1 : (j 1).val < 512 := (j 1).isLt
  have hj2 : (j 2).val < 512 := (j 2).isLt
  refine Eq.trans (b := Gen.out0_11 (Gen.iblk m 0 0 t) (Gen.iblk m 0 1 t) (Gen.iblk m 0 2 t) (Gen.iblk m 0 3 t)
      (ix3 0 ⟨(j 1).val, hj1⟩ ⟨(j 2).val, hj2⟩)) ?_ ((block11 m t ⟨(j 2).val, hj2⟩ ⟨(j 1).val, hj1⟩).trans ?_)
  · refine congrArg (Gen.out0_11 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res11 m : S4x512x4096.Idx → EReal) ?_
    funext a
    apply Fin.ext
    match a with
    | ⟨0, _⟩ =>
      show t.val / 8 = cc0_transform_11 (grid0.coords t) 0 * 1 + 1 * (j 0).val
      rw [show cc0_transform_11 (grid0.coords t) 0 = t.val / 8 from congrFun (index11 t) 0]; omega
    | ⟨1, _⟩ =>
      show (j 1).val = cc0_transform_11 (grid0.coords t) 1 * 512 + 1 * (j 1).val
      rw [show cc0_transform_11 (grid0.coords t) 1 = 0 from congrFun (index11 t) 1]; omega
    | ⟨2, _⟩ =>
      show t.val % 8 * 512 + (j 2).val = cc0_transform_11 (grid0.coords t) 2 * 512 + 1 * (j 2).val
      rw [show cc0_transform_11 (grid0.coords t) 2 = t.val % 8 from congrFun (index11 t) 2]; omega

/-- Every cell of the result is written at the grid point of its column. -/
theorem covered11 (i : S4x512x4096.Idx) : ∃ t : Fin cfg0.N, (cfg0.win 11).flush t = true
    ∧ (i : ((cfg0.win 11).blk t).view.ty.Idx) ∈ ((cfg0.win 11).blk t).view.set := by
  have i0 : (i 0 : Nat) < 4 := (i 0).isLt
  have i1 : (i 1 : Nat) < 512 := (i 1).isLt
  have i2 : (i 2 : Nat) < 4096 := (i 2).isLt
  have hN : grid0.N = 32 := Gen.N_0
  have hr : (i 2 : Nat) % 512 < 512 := by omega
  obtain ⟨t, hv⟩ : ∃ t : Fin grid0.N, t.val = (i 0 : Nat) * 8 + (i 2 : Nat) / 512 :=
    ⟨⟨(i 0 : Nat) * 8 + (i 2 : Nat) / 512, by omega⟩, rfl⟩
  refine ⟨t, Gen.flush0_11 _, ?_⟩
  have e : ((cfg0.win 11).blk t).view.emb (ix3 0 ⟨(i 1 : Nat), i1⟩ ⟨(i 2 : Nat) % 512, hr⟩ : S1x512x512.Idx) = i := by
    funext a
    apply Fin.ext
    match a with
    | ⟨0, _⟩ =>
      show cc0_transform_11 (grid0.coords t) 0 * 1 + 1 * 0 = (i 0 : Nat)
      rw [show cc0_transform_11 (grid0.coords t) 0 = t.val / 8 from congrFun (index11 t) 0]; omega
    | ⟨1, _⟩ =>
      show cc0_transform_11 (grid0.coords t) 1 * 512 + 1 * (i 1 : Nat) = (i 1 : Nat)
      rw [show cc0_transform_11 (grid0.coords t) 1 = 0 from congrFun (index11 t) 1]; omega
    | ⟨2, _⟩ =>
      show cc0_transform_11 (grid0.coords t) 2 * 512 + 1 * ((i 2 : Nat) % 512) = (i 2 : Nat)
      rw [show cc0_transform_11 (grid0.coords t) 2 = t.val % 8 from congrFun (index11 t) 2]; omega
  exact e ▸ View.emb_mem_set ((cfg0.win 11).blk t).view (ix3 0 ⟨(i 1 : Nat), i1⟩ ⟨(i 2 : Nat) % 512, hr⟩ : S1x512x512.Idx)

/-- The array ends holding the reference's result 7. -/
theorem final11 : (Gen.dats m 0 0).arrAt 11 cfg0.N = (res11 m : Buf (Elt Ideal) ((cfg0.win 11).arr.view.loc ((0 : Dev nD).tc))) :=
  (Gen.dats m 0 0).arrAt_eq_of_cover 11 (res11 m) (fun t _ => flushed11 m t) covered11

/-- The reference's result 8 of the kernel's arguments. -/
def res12 : S4x512x4096.Idx → EReal :=
  Cert.InprojRefIdeal.Read.val_main_v59 (F := Ideal) (m ((0 : Dev nD).tc.loc main_arg0)) (m ((0 : Dev nD).tc.loc main_arg1))
    (m ((0 : Dev nD).tc.loc main_arg2))

/-- An entry of a grid point's block is the entry of the result. -/
theorem block12 (t : Fin grid0.N) (r : Fin 512) (c : Fin 512) :
    Gen.out0_12 (Gen.iblk m 0 0 t) (Gen.iblk m 0 1 t) (Gen.iblk m 0 2 t) (Gen.iblk m 0 3 t) (ix3 0 c r) = res12 m (ix3 (seqAt t) c (posAt t r)) := by
  refine (out12_apply _ _ _ _ r c).trans (Eq.trans ?_ (ref12 _ _ _ (seqAt t) c (posAt t r)).symm)
  exact blkP_eq m 0 t r ⟨1792 + c.val, by omega⟩ (by show 1792 + c.val < 2888; omega)

/-- The write-back of a grid point writes its columns of the result. -/
theorem flushed12 (t : Fin cfg0.N) :
    (Gen.dats m 0 0).flushed 12 t = ((cfg0.win 12).blk t).view.read (Elt Ideal) (res12 m) := by
  show (cfg0.win 12).cut (cfg0.grid.coords t) ((Gen.dats m 0 0).after 12 t) = _
  rw [Gen.after0_12]
  refine funext fun (j : S1x512x512.Idx) => ?_
  have hj0 : (j 0).val < 1 := (j 0).isLt
  have hj1 : (j 1).val < 512 := (j 1).isLt
  have hj2 : (j 2).val < 512 := (j 2).isLt
  refine Eq.trans (b := Gen.out0_12 (Gen.iblk m 0 0 t) (Gen.iblk m 0 1 t) (Gen.iblk m 0 2 t) (Gen.iblk m 0 3 t)
      (ix3 0 ⟨(j 1).val, hj1⟩ ⟨(j 2).val, hj2⟩)) ?_ ((block12 m t ⟨(j 2).val, hj2⟩ ⟨(j 1).val, hj1⟩).trans ?_)
  · refine congrArg (Gen.out0_12 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res12 m : S4x512x4096.Idx → EReal) ?_
    funext a
    apply Fin.ext
    match a with
    | ⟨0, _⟩ =>
      show t.val / 8 = cc0_transform_12 (grid0.coords t) 0 * 1 + 1 * (j 0).val
      rw [show cc0_transform_12 (grid0.coords t) 0 = t.val / 8 from congrFun (index12 t) 0]; omega
    | ⟨1, _⟩ =>
      show (j 1).val = cc0_transform_12 (grid0.coords t) 1 * 512 + 1 * (j 1).val
      rw [show cc0_transform_12 (grid0.coords t) 1 = 0 from congrFun (index12 t) 1]; omega
    | ⟨2, _⟩ =>
      show t.val % 8 * 512 + (j 2).val = cc0_transform_12 (grid0.coords t) 2 * 512 + 1 * (j 2).val
      rw [show cc0_transform_12 (grid0.coords t) 2 = t.val % 8 from congrFun (index12 t) 2]; omega

/-- Every cell of the result is written at the grid point of its column. -/
theorem covered12 (i : S4x512x4096.Idx) : ∃ t : Fin cfg0.N, (cfg0.win 12).flush t = true
    ∧ (i : ((cfg0.win 12).blk t).view.ty.Idx) ∈ ((cfg0.win 12).blk t).view.set := by
  have i0 : (i 0 : Nat) < 4 := (i 0).isLt
  have i1 : (i 1 : Nat) < 512 := (i 1).isLt
  have i2 : (i 2 : Nat) < 4096 := (i 2).isLt
  have hN : grid0.N = 32 := Gen.N_0
  have hr : (i 2 : Nat) % 512 < 512 := by omega
  obtain ⟨t, hv⟩ : ∃ t : Fin grid0.N, t.val = (i 0 : Nat) * 8 + (i 2 : Nat) / 512 :=
    ⟨⟨(i 0 : Nat) * 8 + (i 2 : Nat) / 512, by omega⟩, rfl⟩
  refine ⟨t, Gen.flush0_12 _, ?_⟩
  have e : ((cfg0.win 12).blk t).view.emb (ix3 0 ⟨(i 1 : Nat), i1⟩ ⟨(i 2 : Nat) % 512, hr⟩ : S1x512x512.Idx) = i := by
    funext a
    apply Fin.ext
    match a with
    | ⟨0, _⟩ =>
      show cc0_transform_12 (grid0.coords t) 0 * 1 + 1 * 0 = (i 0 : Nat)
      rw [show cc0_transform_12 (grid0.coords t) 0 = t.val / 8 from congrFun (index12 t) 0]; omega
    | ⟨1, _⟩ =>
      show cc0_transform_12 (grid0.coords t) 1 * 512 + 1 * (i 1 : Nat) = (i 1 : Nat)
      rw [show cc0_transform_12 (grid0.coords t) 1 = 0 from congrFun (index12 t) 1]; omega
    | ⟨2, _⟩ =>
      show cc0_transform_12 (grid0.coords t) 2 * 512 + 1 * ((i 2 : Nat) % 512) = (i 2 : Nat)
      rw [show cc0_transform_12 (grid0.coords t) 2 = t.val % 8 from congrFun (index12 t) 2]; omega
  exact e ▸ View.emb_mem_set ((cfg0.win 12).blk t).view (ix3 0 ⟨(i 1 : Nat), i1⟩ ⟨(i 2 : Nat) % 512, hr⟩ : S1x512x512.Idx)

/-- The array ends holding the reference's result 8. -/
theorem final12 : (Gen.dats m 0 0).arrAt 12 cfg0.N = (res12 m : Buf (Elt Ideal) ((cfg0.win 12).arr.view.loc ((0 : Dev nD).tc))) :=
  (Gen.dats m 0 0).arrAt_eq_of_cover 12 (res12 m) (fun t _ => flushed12 m t) covered12

/-- The reference's result 9 of the kernel's arguments. -/
def res13 : S4x512x4096.Idx → EReal :=
  Cert.InprojRefIdeal.Read.val_main_v61 (F := Ideal) (m ((0 : Dev nD).tc.loc main_arg0)) (m ((0 : Dev nD).tc.loc main_arg1))
    (m ((0 : Dev nD).tc.loc main_arg2))

/-- An entry of a grid point's block is the entry of the result. -/
theorem block13 (t : Fin grid0.N) (r : Fin 512) (c : Fin 512) :
    Gen.out0_13 (Gen.iblk m 0 0 t) (Gen.iblk m 0 1 t) (Gen.iblk m 0 2 t) (Gen.iblk m 0 3 t) (ix3 0 c r) = res13 m (ix3 (seqAt t) c (posAt t r)) := by
  refine (out13_apply _ _ _ _ r c).trans (Eq.trans ?_ (ref13 _ _ _ (seqAt t) c (posAt t r)).symm)
  exact blkP_eq m 0 t r ⟨1792 + c.val, by omega⟩ (by show 1792 + c.val < 2888; omega)

/-- The write-back of a grid point writes its columns of the result. -/
theorem flushed13 (t : Fin cfg0.N) :
    (Gen.dats m 0 0).flushed 13 t = ((cfg0.win 13).blk t).view.read (Elt Ideal) (res13 m) := by
  show (cfg0.win 13).cut (cfg0.grid.coords t) ((Gen.dats m 0 0).after 13 t) = _
  rw [Gen.after0_13]
  refine funext fun (j : S1x512x512.Idx) => ?_
  have hj0 : (j 0).val < 1 := (j 0).isLt
  have hj1 : (j 1).val < 512 := (j 1).isLt
  have hj2 : (j 2).val < 512 := (j 2).isLt
  refine Eq.trans (b := Gen.out0_13 (Gen.iblk m 0 0 t) (Gen.iblk m 0 1 t) (Gen.iblk m 0 2 t) (Gen.iblk m 0 3 t)
      (ix3 0 ⟨(j 1).val, hj1⟩ ⟨(j 2).val, hj2⟩)) ?_ ((block13 m t ⟨(j 2).val, hj2⟩ ⟨(j 1).val, hj1⟩).trans ?_)
  · refine congrArg (Gen.out0_13 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res13 m : S4x512x4096.Idx → EReal) ?_
    funext a
    apply Fin.ext
    match a with
    | ⟨0, _⟩ =>
      show t.val / 8 = cc0_transform_13 (grid0.coords t) 0 * 1 + 1 * (j 0).val
      rw [show cc0_transform_13 (grid0.coords t) 0 = t.val / 8 from congrFun (index13 t) 0]; omega
    | ⟨1, _⟩ =>
      show (j 1).val = cc0_transform_13 (grid0.coords t) 1 * 512 + 1 * (j 1).val
      rw [show cc0_transform_13 (grid0.coords t) 1 = 0 from congrFun (index13 t) 1]; omega
    | ⟨2, _⟩ =>
      show t.val % 8 * 512 + (j 2).val = cc0_transform_13 (grid0.coords t) 2 * 512 + 1 * (j 2).val
      rw [show cc0_transform_13 (grid0.coords t) 2 = t.val % 8 from congrFun (index13 t) 2]; omega

/-- Every cell of the result is written at the grid point of its column. -/
theorem covered13 (i : S4x512x4096.Idx) : ∃ t : Fin cfg0.N, (cfg0.win 13).flush t = true
    ∧ (i : ((cfg0.win 13).blk t).view.ty.Idx) ∈ ((cfg0.win 13).blk t).view.set := by
  have i0 : (i 0 : Nat) < 4 := (i 0).isLt
  have i1 : (i 1 : Nat) < 512 := (i 1).isLt
  have i2 : (i 2 : Nat) < 4096 := (i 2).isLt
  have hN : grid0.N = 32 := Gen.N_0
  have hr : (i 2 : Nat) % 512 < 512 := by omega
  obtain ⟨t, hv⟩ : ∃ t : Fin grid0.N, t.val = (i 0 : Nat) * 8 + (i 2 : Nat) / 512 :=
    ⟨⟨(i 0 : Nat) * 8 + (i 2 : Nat) / 512, by omega⟩, rfl⟩
  refine ⟨t, Gen.flush0_13 _, ?_⟩
  have e : ((cfg0.win 13).blk t).view.emb (ix3 0 ⟨(i 1 : Nat), i1⟩ ⟨(i 2 : Nat) % 512, hr⟩ : S1x512x512.Idx) = i := by
    funext a
    apply Fin.ext
    match a with
    | ⟨0, _⟩ =>
      show cc0_transform_13 (grid0.coords t) 0 * 1 + 1 * 0 = (i 0 : Nat)
      rw [show cc0_transform_13 (grid0.coords t) 0 = t.val / 8 from congrFun (index13 t) 0]; omega
    | ⟨1, _⟩ =>
      show cc0_transform_13 (grid0.coords t) 1 * 512 + 1 * (i 1 : Nat) = (i 1 : Nat)
      rw [show cc0_transform_13 (grid0.coords t) 1 = 0 from congrFun (index13 t) 1]; omega
    | ⟨2, _⟩ =>
      show cc0_transform_13 (grid0.coords t) 2 * 512 + 1 * ((i 2 : Nat) % 512) = (i 2 : Nat)
      rw [show cc0_transform_13 (grid0.coords t) 2 = t.val % 8 from congrFun (index13 t) 2]; omega
  exact e ▸ View.emb_mem_set ((cfg0.win 13).blk t).view (ix3 0 ⟨(i 1 : Nat), i1⟩ ⟨(i 2 : Nat) % 512, hr⟩ : S1x512x512.Idx)

/-- The array ends holding the reference's result 9. -/
theorem final13 : (Gen.dats m 0 0).arrAt 13 cfg0.N = (res13 m : Buf (Elt Ideal) ((cfg0.win 13).arr.view.loc ((0 : Dev nD).tc))) :=
  (Gen.dats m 0 0).arrAt_eq_of_cover 13 (res13 m) (fun t _ => flushed13 m t) covered13

/-- The reference's result 10 of the kernel's arguments. -/
def res14 : S4x64x4096.Idx → EReal :=
  Cert.InprojRefIdeal.Read.val_main_v62 (F := Ideal) (m ((0 : Dev nD).tc.loc main_arg0)) (m ((0 : Dev nD).tc.loc main_arg1))
    (m ((0 : Dev nD).tc.loc main_arg2))

/-- An entry of a grid point's block is the entry of the result. -/
theorem block14 (t : Fin grid0.N) (r : Fin 512) (c : Fin 64) :
    Gen.out0_14 (Gen.iblk m 0 0 t) (Gen.iblk m 0 1 t) (Gen.iblk m 0 2 t) (Gen.iblk m 0 3 t) (ix3 0 c r) = res14 m (ix3 (seqAt t) c (posAt t r)) := by
  refine (out14_apply _ _ _ _ r c).trans (Eq.trans ?_ (ref14 _ _ _ (seqAt t) c (posAt t r)).symm)
  exact blkP_eq m 0 t r ⟨2816 + c.val, by omega⟩ (by show 2816 + c.val < 2888; omega)

/-- The write-back of a grid point writes its columns of the result. -/
theorem flushed14 (t : Fin cfg0.N) :
    (Gen.dats m 0 0).flushed 14 t = ((cfg0.win 14).blk t).view.read (Elt Ideal) (res14 m) := by
  show (cfg0.win 14).cut (cfg0.grid.coords t) ((Gen.dats m 0 0).after 14 t) = _
  rw [Gen.after0_14]
  refine funext fun (j : S1x64x512.Idx) => ?_
  have hj0 : (j 0).val < 1 := (j 0).isLt
  have hj1 : (j 1).val < 64 := (j 1).isLt
  have hj2 : (j 2).val < 512 := (j 2).isLt
  refine Eq.trans (b := Gen.out0_14 (Gen.iblk m 0 0 t) (Gen.iblk m 0 1 t) (Gen.iblk m 0 2 t) (Gen.iblk m 0 3 t)
      (ix3 0 ⟨(j 1).val, hj1⟩ ⟨(j 2).val, hj2⟩)) ?_ ((block14 m t ⟨(j 2).val, hj2⟩ ⟨(j 1).val, hj1⟩).trans ?_)
  · refine congrArg (Gen.out0_14 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res14 m : S4x64x4096.Idx → EReal) ?_
    funext a
    apply Fin.ext
    match a with
    | ⟨0, _⟩ =>
      show t.val / 8 = cc0_transform_14 (grid0.coords t) 0 * 1 + 1 * (j 0).val
      rw [show cc0_transform_14 (grid0.coords t) 0 = t.val / 8 from congrFun (index14 t) 0]; omega
    | ⟨1, _⟩ =>
      show (j 1).val = cc0_transform_14 (grid0.coords t) 1 * 64 + 1 * (j 1).val
      rw [show cc0_transform_14 (grid0.coords t) 1 = 0 from congrFun (index14 t) 1]; omega
    | ⟨2, _⟩ =>
      show t.val % 8 * 512 + (j 2).val = cc0_transform_14 (grid0.coords t) 2 * 512 + 1 * (j 2).val
      rw [show cc0_transform_14 (grid0.coords t) 2 = t.val % 8 from congrFun (index14 t) 2]; omega

/-- Every cell of the result is written at the grid point of its column. -/
theorem covered14 (i : S4x64x4096.Idx) : ∃ t : Fin cfg0.N, (cfg0.win 14).flush t = true
    ∧ (i : ((cfg0.win 14).blk t).view.ty.Idx) ∈ ((cfg0.win 14).blk t).view.set := by
  have i0 : (i 0 : Nat) < 4 := (i 0).isLt
  have i1 : (i 1 : Nat) < 64 := (i 1).isLt
  have i2 : (i 2 : Nat) < 4096 := (i 2).isLt
  have hN : grid0.N = 32 := Gen.N_0
  have hr : (i 2 : Nat) % 512 < 512 := by omega
  obtain ⟨t, hv⟩ : ∃ t : Fin grid0.N, t.val = (i 0 : Nat) * 8 + (i 2 : Nat) / 512 :=
    ⟨⟨(i 0 : Nat) * 8 + (i 2 : Nat) / 512, by omega⟩, rfl⟩
  refine ⟨t, Gen.flush0_14 _, ?_⟩
  have e : ((cfg0.win 14).blk t).view.emb (ix3 0 ⟨(i 1 : Nat), i1⟩ ⟨(i 2 : Nat) % 512, hr⟩ : S1x64x512.Idx) = i := by
    funext a
    apply Fin.ext
    match a with
    | ⟨0, _⟩ =>
      show cc0_transform_14 (grid0.coords t) 0 * 1 + 1 * 0 = (i 0 : Nat)
      rw [show cc0_transform_14 (grid0.coords t) 0 = t.val / 8 from congrFun (index14 t) 0]; omega
    | ⟨1, _⟩ =>
      show cc0_transform_14 (grid0.coords t) 1 * 64 + 1 * (i 1 : Nat) = (i 1 : Nat)
      rw [show cc0_transform_14 (grid0.coords t) 1 = 0 from congrFun (index14 t) 1]; omega
    | ⟨2, _⟩ =>
      show cc0_transform_14 (grid0.coords t) 2 * 512 + 1 * ((i 2 : Nat) % 512) = (i 2 : Nat)
      rw [show cc0_transform_14 (grid0.coords t) 2 = t.val % 8 from congrFun (index14 t) 2]; omega
  exact e ▸ View.emb_mem_set ((cfg0.win 14).blk t).view (ix3 0 ⟨(i 1 : Nat), i1⟩ ⟨(i 2 : Nat) % 512, hr⟩ : S1x64x512.Idx)

/-- The array ends holding the reference's result 10. -/
theorem final14 : (Gen.dats m 0 0).arrAt 14 cfg0.N = (res14 m : Buf (Elt Ideal) ((cfg0.win 14).arr.view.loc ((0 : Dev nD).tc))) :=
  (Gen.dats m 0 0).arrAt_eq_of_cover 14 (res14 m) (fun t _ => flushed14 m t) covered14

/-- The kernel's run: its results are the reference's, its arguments are unchanged. -/
theorem kernel_run : θ_run defs (onTc (τ := τ) (main (F := Ideal))) ⟨m, fun _ => 0, ρ⟩ (fun r => ∀ c : Dev nD,
      r.2.mem ((c.tc : Thread nD τ).loc main_v5_0) = (fun _ : Dev nD => (res4 m : Buf (Elt Ideal) ((c.tc : Thread nD τ).loc main_v5_0))) c ∧
      r.2.mem ((c.tc : Thread nD τ).loc main_v5_1) = (fun _ : Dev nD => (res5 m : Buf (Elt Ideal) ((c.tc : Thread nD τ).loc main_v5_1))) c ∧
      r.2.mem ((c.tc : Thread nD τ).loc main_v5_2) = (fun _ : Dev nD => (res6 m : Buf (Elt Ideal) ((c.tc : Thread nD τ).loc main_v5_2))) c ∧
      r.2.mem ((c.tc : Thread nD τ).loc main_v5_3) = (fun _ : Dev nD => (res7 m : Buf (Elt Ideal) ((c.tc : Thread nD τ).loc main_v5_3))) c ∧
      r.2.mem ((c.tc : Thread nD τ).loc main_v5_4) = (fun _ : Dev nD => (res8 m : Buf (Elt Ideal) ((c.tc : Thread nD τ).loc main_v5_4))) c ∧
      r.2.mem ((c.tc : Thread nD τ).loc main_v5_5) = (fun _ : Dev nD => (res9 m : Buf (Elt Ideal) ((c.tc : Thread nD τ).loc main_v5_5))) c ∧
      r.2.mem ((c.tc : Thread nD τ).loc main_v5_6) = (fun _ : Dev nD => (res10 m : Buf (Elt Ideal) ((c.tc : Thread nD τ).loc main_v5_6))) c ∧
      r.2.mem ((c.tc : Thread nD τ).loc main_v5_7) = (fun _ : Dev nD => (res11 m : Buf (Elt Ideal) ((c.tc : Thread nD τ).loc main_v5_7))) c ∧
      r.2.mem ((c.tc : Thread nD τ).loc main_v5_8) = (fun _ : Dev nD => (res12 m : Buf (Elt Ideal) ((c.tc : Thread nD τ).loc main_v5_8))) c ∧
      r.2.mem ((c.tc : Thread nD τ).loc main_v5_9) = (fun _ : Dev nD => (res13 m : Buf (Elt Ideal) ((c.tc : Thread nD τ).loc main_v5_9))) c ∧
      r.2.mem ((c.tc : Thread nD τ).loc main_v5_10) = (fun _ : Dev nD => (res14 m : Buf (Elt Ideal) ((c.tc : Thread nD τ).loc main_v5_10))) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain rfl : c = 0 := Subsingleton.elim _ _
    refine ⟨(((h.1 0).1 4).trans (final4 m) : _), (((h.1 0).1 5).trans (final5 m) : _), (((h.1 0).1 6).trans (final6 m) : _), (((h.1 0).1 7).trans (final7 m) : _), (((h.1 0).1 8).trans (final8 m) : _), (((h.1 0).1 9).trans (final9 m) : _), (((h.1 0).1 10).trans (final10 m) : _), (((h.1 0).1 11).trans (final11 m) : _), (((h.1 0).1 12).trans (final12 m) : _), (((h.1 0).1 13).trans (final13 m) : _), (((h.1 0).1 14).trans (final14 m) : _), ?_⟩
    exact h.2 0) (θ_run_and (Gen.run_main m ρ) (Gen.unchanged m ρ))

end Cert.Proof.Ip

end
-- ==== Proof.IpClaims.lean ====
/- The claims about the input projection: the two kernels' frames, the reference's, and the equality of the idealized
   kernel and the reference. -/
module

public import proofs.«01_k».proof.Defs
public import proofs.«01_k».proof.Proof.Gen.Inproj.Frame
public import proofs.«01_k».proof.Proof.IpFinal
public import proofs.«01_k».proof.Proof.Gen.InprojRefIdeal.Run
public import Idealize.ShloMosaic.Lib.Claim
public import Idealize.ShloMosaic.Adequacy
public import Idealize.ShloMosaic.Init

@[expose] public section

set_option maxRecDepth 16384

noncomputable section

namespace Cert.Proof.Ip

open Idealize Idealize.ShloMosaic Idealize.SL.Sem

theorem frame_bits : Cert.quiescent_Inproj := fun m g _ => Cert.Inproj.Gen.frame m g

theorem frame_ideal : Cert.quiescent_InprojIdeal := fun m g _ => Cert.InprojIdeal.Gen.frame m g

theorem frame_ref : Cert.quiescent_InprojRefIdeal := fun m g _ =>
  (θ_run Cert.InprojRefIdeal.defs _ _).mono
    (fun r h => ⟨fun c => (h c).2.2.2.2.2.2.2.2.2.2.2, sem_eq_zero_of_no_sems (by decide) r.2⟩)
    (Cert.InprojRefIdeal.Value.run (F := Ideal) m g)

/-- The idealized kernel names the scale of the query. -/
theorem preserves : Cert.preserves_Inproj_InprojIdeal :=
  IdealRules.named_const.statement Cert.InprojIdeal.κ "q_scale" .f32 0x3E38AA3B#32 (((1 / 8) * (Real.log 2)⁻¹ : ℝ) : EReal) rfl

variable (m : (ℓ : Loc Cert.InprojIdeal.nD Cert.InprojIdeal.τ Cert.InprojIdeal.sig) → Buf (Elt Ideal) ℓ)
  (a0 : FVec Ideal Cert.InprojIdeal.S4x4096x1024 .f32) (a1 : FVec Ideal Cert.InprojIdeal.S4x9216 .f32)
  (a2 : FVec Ideal Cert.InprojIdeal.S4x1024x2888 .f32)

/-- The reference's result 0 of equal arguments. -/
theorem ref_res4 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v47 (F := Ideal) a0 a1 a2 = res4 m := by
  subst e0 e1 e2
  rfl

/-- The reference's result 1 of equal arguments. -/
theorem ref_res5 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v48 (F := Ideal) a0 a1 a2 = res5 m := by
  subst e0 e1 e2
  rfl

/-- The reference's result 2 of equal arguments. -/
theorem ref_res6 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v50 (F := Ideal) a0 a1 a2 = res6 m := by
  subst e0 e1 e2
  rfl

/-- The reference's result 3 of equal arguments. -/
theorem ref_res7 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v52 (F := Ideal) a0 a1 a2 = res7 m := by
  subst e0 e1 e2
  rfl

/-- The reference's result 4 of equal arguments. -/
theorem ref_res8 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v54 (F := Ideal) a0 a1 a2 = res8 m := by
  subst e0 e1 e2
  rfl

/-- The reference's result 5 of equal arguments. -/
theorem ref_res9 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v56 (F := Ideal) a0 a1 a2 = res9 m := by
  subst e0 e1 e2
  rfl

/-- The reference's result 6 of equal arguments. -/
theorem ref_res10 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v57 (F := Ideal) a0 a1 a2 = res10 m := by
  subst e0 e1 e2
  rfl

/-- The reference's result 7 of equal arguments. -/
theorem ref_res11 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v58 (F := Ideal) a0 a1 a2 = res11 m := by
  subst e0 e1 e2
  rfl

/-- The reference's result 8 of equal arguments. -/
theorem ref_res12 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v59 (F := Ideal) a0 a1 a2 = res12 m := by
  subst e0 e1 e2
  rfl

/-- The reference's result 9 of equal arguments. -/
theorem ref_res13 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v61 (F := Ideal) a0 a1 a2 = res13 m := by
  subst e0 e1 e2
  rfl

/-- The reference's result 10 of equal arguments. -/
theorem ref_res14 (e0 : a0 = m ((0 : Dev Cert.InprojIdeal.nD).tc.loc Cert.InprojIdeal.main_arg0)) (e1 : a1 = m ((0 : Dev Cert.InprojIdeal.nD).tc.loc Cert.InprojIdeal.main_arg1))
    (e2 : a2 = m ((0 : Dev Cert.InprojIdeal.nD).tc.loc Cert.InprojIdeal.main_arg2)) :
    Cert.InprojRefIdeal.Read.val_main_v62 (F := Ideal) a0 a1 a2 = res14 m := by
  subst e0 e1 e2
  rfl

theorem algebraic : Cert.algebraic_InprojIdeal_InprojRefIdeal := fun m g m' g' _ e =>
  ⟨fun _ => res4 m, fun _ => res5 m, fun _ => res6 m, fun _ => res7 m, fun _ => res8 m, fun _ => res9 m, fun _ => res10 m, fun _ => res11 m, fun _ => res12 m, fun _ => res13 m, fun _ => res14 m, kernel_run m g,
    (θ_run Cert.InprojRefIdeal.defs _ _).mono (fun r hr c => by
      obtain rfl : c = 0 := Subsingleton.elim _ _
      obtain ⟨h4, h5, h6, h7, h8, h9, h10, h11, h12, h13, h14, ha⟩ := hr 0
      obtain ⟨e0, e1, e2⟩ := e 0
      exact ⟨(h4.trans (Cert.InprojRefIdeal.Read.val_main_v47_eq _ _ _)).trans (ref_res4 m _ _ _ e0 e1 e2),
        (h5.trans (Cert.InprojRefIdeal.Read.val_main_v48_eq _ _ _)).trans (ref_res5 m _ _ _ e0 e1 e2),
        (h6.trans (Cert.InprojRefIdeal.Read.val_main_v50_eq _ _ _)).trans (ref_res6 m _ _ _ e0 e1 e2),
        (h7.trans (Cert.InprojRefIdeal.Read.val_main_v52_eq _ _ _)).trans (ref_res7 m _ _ _ e0 e1 e2),
        (h8.trans (Cert.InprojRefIdeal.Read.val_main_v54_eq _ _ _)).trans (ref_res8 m _ _ _ e0 e1 e2),
        (h9.trans (Cert.InprojRefIdeal.Read.val_main_v56_eq _ _ _)).trans (ref_res9 m _ _ _ e0 e1 e2),
        (h10.trans (Cert.InprojRefIdeal.Read.val_main_v57_eq _ _ _)).trans (ref_res10 m _ _ _ e0 e1 e2),
        (h11.trans (Cert.InprojRefIdeal.Read.val_main_v58_eq _ _ _)).trans (ref_res11 m _ _ _ e0 e1 e2),
        (h12.trans (Cert.InprojRefIdeal.Read.val_main_v59_eq _ _ _)).trans (ref_res12 m _ _ _ e0 e1 e2),
        (h13.trans (Cert.InprojRefIdeal.Read.val_main_v61_eq _ _ _)).trans (ref_res13 m _ _ _ e0 e1 e2),
        (h14.trans (Cert.InprojRefIdeal.Read.val_main_v62_eq _ _ _)).trans (ref_res14 m _ _ _ e0 e1 e2), ha⟩)
      (Cert.InprojRefIdeal.Value.run (F := Ideal) m' g')⟩

end Cert.Proof.Ip

end
-- ==== Proof.IpsHost.lean ====
module

public import proofs.«01_k».proof.Proof.Gen.InprojSampleIdeal.Frame
public import Idealize.ShloMosaic.Lib.StableHlo.ReadAt
public import Idealize.ShloMosaic.Lib.Pointwise

@[expose] public section

set_option maxRecDepth 16384

noncomputable section

/-! # What the host operations hand to the kernel of the sample batch's input projection, read at an index -/

namespace Cert.Proof.Ips

open Idealize.ShloMosaic Idealize.SL.Sem Cert.InprojSampleIdeal

variable (m : (ℓ : Loc nD τ sig) → Buf (Elt Ideal) ℓ) (c : Dev nD)

/-- The rows of the input. -/
theorem host_x (r : Fin 128) (k : Fin 1024) :
    (Gen.V m c main_v3 : Vec Ideal S128x1024 .f32) (ix2 r k)
      = (m (c.tc.loc main_arg0) : Vec Ideal S128x1x1024 .f32) (ix3 r 0 k) := by
  unfold Gen.V
  after_reads_at

/-- The modulation rows. -/
theorem host_mod (b : Fin 128) (k : Fin 9216) :
    (Gen.V m c main_v4 : Vec Ideal S1x128x9216 .f32) (ix3 0 b k) = (m (c.tc.loc main_arg1) : Vec Ideal S128x9216 .f32) (ix2 b k) := by
  unfold Gen.V
  after_reads_at

/-- The weights, a feature to a row: the features of the reference, and zero rows after them. -/
theorem host_w (a : Fin 4) (j : Fin 2944) (k : Fin 1024) :
    (Gen.V m c main_v2 : Vec Ideal S4x2944x1024 .bf16) (ix3 a j k)
      = if h : j.val < 2888 then (m (c.tc.loc main_arg2) : Vec Ideal S4x1024x2888 .f32) (ix3 a k ⟨j.val, h⟩) else (0 : EReal) := by
  have e : (FloatOps.sitofp (F := Ideal) FTy.f32 (0#32 : BitVec 32) : EReal) = 0 := by
    show (((0#32 : BitVec 32).toInt : ℝ) : EReal) = 0
    simp
  refine Eq.trans (b := if h : j.val < 2888 then (m (c.tc.loc main_arg2) : Vec Ideal S4x1024x2888 .f32) (ix3 a k ⟨j.val, h⟩) else (FloatOps.sitofp (F := Ideal) FTy.f32 (0#32 : BitVec 32) : EReal)) ?_ (by rw [e])
  unfold Gen.V
  after_reads_at

end Cert.Proof.Ips

end
-- ==== Proof.IpsBody.lean ====
module

public import proofs.«01_k».proof.Proof.IpBody
public import proofs.«01_k».proof.Proof.Gen.InprojSampleIdeal.Frame
public import Idealize.ShloMosaic.Lib.Pipeline.Value
public import Idealize.ShloMosaic.Lib.Pointwise
public import Idealize.ShloMosaic.PureOps.Ideal.Laws

@[expose] public section

set_option maxRecDepth 16384

noncomputable section

/-! # The blocks of the sample batch's input projection, as the kernel computes them -/

namespace Cert.Proof.Ips

open Idealize.ShloMosaic Idealize.ShloMosaic.TcCoe Cert.InprojSampleIdeal Cert.InprojSampleIdeal.Gen
open Idealize.ShloMosaic.Pointwise
open Cert.Proof.Ff (hRow)
open Cert.Proof.Ip (proj proj_comm qScale qScale_eq)

theorem pay3_apply (x : Vec Ideal S128x1024 .f32) (sc sh : Vec Ideal S1x128x1024 .f32) (r : Fin 128) (k : Fin 1024) :
    k0_pay3 x sc sh (ix2 r k) = hRow (fun k => x (ix2 r k)) (fun k => sc (ix3 0 r k)) (fun k => sh (ix3 0 r k)) k := by
  unfold k0_pay3 hRow
  pointwise

theorem pay5_apply (x : Vec Ideal S128x1024 .f32) (sc sh : Vec Ideal S1x128x1024 .f32) (w : Vec Ideal S1x768x1024 .bf16)
    (r : Fin 128) (c : Fin 256) :
    k0_pay5 x sc sh w (ix2 r c) = proj (fun k => k0_pay3 x sc sh (ix2 r k)) (fun k => w (ix3 0 ⟨c.val, by omega⟩ k))
      * Ideal.logistic (proj (fun k => k0_pay3 x sc sh (ix2 r k)) (fun k => w (ix3 0 ⟨256 + c.val, by omega⟩ k))) := by
  unfold k0_pay5 k0_pay4 proj
  generalize k0_pay3 x sc sh = h
  pointwise

theorem pay6_apply (x : Vec Ideal S128x1024 .f32) (sc sh : Vec Ideal S1x128x1024 .f32) (w : Vec Ideal S1x768x1024 .bf16)
    (r : Fin 128) (c : Fin 256) :
    k0_pay6 x sc sh w (ix2 r c) = proj (fun k => k0_pay3 x sc sh (ix2 r k)) (fun k => w (ix3 0 ⟨512 + c.val, by omega⟩ k)) := by
  unfold k0_pay6 k0_pay4 proj
  generalize k0_pay3 x sc sh = h
  pointwise

theorem pay7_apply (x : Vec Ideal S128x1024 .f32) (sc sh : Vec Ideal S1x128x1024 .f32) (w : Vec Ideal S1x512x1024 .bf16)
    (c : Fin 512) (r : Fin 128) :
    k0_pay7 x sc sh w (ix3 0 c r) = proj (fun k => k0_pay3 x sc sh (ix2 r k)) (fun k => w (ix3 0 c k)) := by
  rw [← proj_comm]
  unfold k0_pay7
  generalize k0_pay3 x sc sh = h
  pointwise

theorem pay9_apply (h : FVec Ideal S128x1024 .bf16) (w : Vec Ideal S1x512x1024 .bf16) (c : Fin 512) (r : Fin 128) :
    k0_pay9 h (k0_pay8 w) (ix3 0 c r) = proj (fun k => h (ix2 r k)) (fun k => w (ix3 0 c k)) := by
  rw [← proj_comm]
  unfold k0_pay9 k0_pay8
  pointwise

theorem pay10_apply (h : FVec Ideal S128x1024 .bf16) (w : Vec Ideal S1x64x1024 .bf16) (c : Fin 64) (r : Fin 128) :
    k0_pay10 h w (ix3 0 c r) = proj (fun k => h (ix2 r k)) (fun k => w (ix3 0 c k)) := by
  rw [← proj_comm]
  unfold k0_pay10
  pointwise

theorem pay12_apply (h : FVec Ideal S128x1024 .bf16) (w : Vec Ideal S1x512x1024 .bf16) (r : Fin 128) (c : Fin 512) :
    k0_pay12 h w (ix2 r c) = proj (fun k => h (ix2 r k)) (fun k => w (ix3 0 c k)) * qScale := by
  unfold k0_pay12 proj
  pointwise
  rfl

theorem pay11_apply (h : FVec Ideal S128x1024 .bf16) (w : Vec Ideal S1x128x1024 .bf16) (r : Fin 128) (c : Fin 128) :
    k0_pay11 h w (ix2 r c) = proj (fun k => h (ix2 r k)) (fun k => w (ix3 0 c k)) := by
  unfold k0_pay11 proj
  pointwise

theorem pay13_apply (h : FVec Ideal S128x1024 .bf16) (w : Vec Ideal S1x512x1024 .bf16) (r : Fin 128) (c : Fin 512) :
    k0_pay13 h w (ix2 r c) = proj (fun k => h (ix2 r k)) (fun k => w (ix3 0 c k)) := by
  unfold k0_pay13 proj
  pointwise

theorem pay1_apply (h : FVec Ideal S128x1024 .bf16) (w : Vec Ideal S1x512x1024 .bf16) (r : Fin 128) (c : Fin 512) :
    k0_pay1 h w (ix2 r c) = proj (fun k => h (ix2 r k)) (fun k => w (ix3 0 c k)) := by
  unfold k0_pay1 proj
  pointwise

theorem pay2_apply (h : FVec Ideal S128x1024 .bf16) (w : Vec Ideal S1x512x1024 .bf16) (r : Fin 128) (c : Fin 512) :
    k0_pay2 h w (ix2 r c) = proj (fun k => h (ix2 r k)) (fun k => w (ix3 0 c k)) := by
  unfold k0_pay2 proj
  pointwise

/-- The modulated row of a block. -/
def hblk (x0 : Vec Ideal S128x1024 .f32) (x1 x2 : Vec Ideal S1x128x1024 .f32) (r : Fin 128) : Fin 1024 → EReal :=
  hRow (fun k => x0 (ix2 r k)) (fun k => x2 (ix3 0 r k)) (fun k => x1 (ix3 0 r k))

/-- A projected entry of a block. -/
def blkP (x0 : Vec Ideal S128x1024 .f32) (x1 x2 : Vec Ideal S1x128x1024 .f32) (x3 : Vec Ideal S1x2944x1024 .bf16) (r : Fin 128)
    (j : Fin 2944) : EReal := proj (hblk x0 x1 x2 r) (fun k => x3 (ix3 0 j k))

variable (x0 : Vec Ideal S128x1024 .f32) (x1 x2 : Vec Ideal S1x128x1024 .f32) (x3 : Vec Ideal S1x2944x1024 .bf16)

theorem ld0 : View.ld x0 r0_0 = x0 := View.ld_unit_zero (by funext a; fin_cases a <;> rfl) inb_S128x1024_S128x1024_0_0 x0

theorem ld1 (y : Vec Ideal S1x128x1024 .f32) : View.ld y r0_1 = y :=
  View.ld_unit_zero (by funext a; fin_cases a <;> rfl) inb_S1x128x1024_S1x128x1024_0_0_0 y

theorem h_apply (r : Fin 128) (k : Fin 1024) : k0_pay3 x0 x2 x1 (ix2 r k) = hblk x0 x1 x2 r k := pay3_apply x0 x2 x1 r k

theorem pay14_eq : k0_pay14 x0 x1 x2 x3 = k0_pay3 x0 x2 x1 := by
  unfold k0_pay14
  rw [ld0, ld1, ld1]

theorem ldw2 (j : Fin 768) (k : Fin 1024) :
    (View.ld x3 r0_2 : Vec Ideal S1x768x1024 .bf16) (ix3 0 j k) = x3 (ix3 0 ⟨j.val, by omega⟩ k) := by
  refine congrArg (x3 : S1x2944x1024.Idx → EReal) ?_
  funext a
  apply Fin.ext
  match a with
  | ⟨0, _⟩ => rfl
  | ⟨1, _⟩ => show 0 + 1 * j.val = j.val; omega
  | ⟨2, _⟩ => show 0 + 1 * k.val = k.val; omega

theorem ldw10 (j : Fin 512) (k : Fin 1024) :
    (View.ld x3 r0_10 : Vec Ideal S1x512x1024 .bf16) (ix3 0 j k) = x3 (ix3 0 ⟨768 + j.val, by omega⟩ k) := by
  refine congrArg (x3 : S1x2944x1024.Idx → EReal) ?_
  funext a
  apply Fin.ext
  match a with
  | ⟨0, _⟩ => rfl
  | ⟨1, _⟩ => show 768 + 1 * j.val = 768 + j.val; omega
  | ⟨2, _⟩ => show 0 + 1 * k.val = k.val; omega

theorem ldw4 (j : Fin 512) (k : Fin 1024) :
    (View.ld x3 r0_4 : Vec Ideal S1x512x1024 .bf16) (ix3 0 j k) = x3 (ix3 0 ⟨1280 + j.val, by omega⟩ k) := by
  refine congrArg (x3 : S1x2944x1024.Idx → EReal) ?_
  funext a
  apply Fin.ext
  match a with
  | ⟨0, _⟩ => rfl
  | ⟨1, _⟩ => show 1280 + 1 * j.val = 1280 + j.val; omega
  | ⟨2, _⟩ => show 0 + 1 * k.val = k.val; omega

theorem ldw6 (j : Fin 512) (k : Fin 1024) :
    (View.ld x3 r0_6 : Vec Ideal S1x512x1024 .bf16) (ix3 0 j k) = x3 (ix3 0 ⟨1792 + j.val, by omega⟩ k) := by
  refine congrArg (x3 : S1x2944x1024.Idx → EReal) ?_
  funext a
  apply Fin.ext
  match a with
  | ⟨0, _⟩ => rfl
  | ⟨1, _⟩ => show 1792 + 1 * j.val = 1792 + j.val; omega
  | ⟨2, _⟩ => show 0 + 1 * k.val = k.val; omega

theorem ldw12 (j : Fin 512) (k : Fin 1024) :
    (View.ld x3 r0_12 : Vec Ideal S1x512x1024 .bf16) (ix3 0 j k) = x3 (ix3 0 ⟨2304 + j.val, by omega⟩ k) := by
  refine congrArg (x3 : S1x2944x1024.Idx → EReal) ?_
  funext a
  apply Fin.ext
  match a with
  | ⟨0, _⟩ => rfl
  | ⟨1, _⟩ => show 2304 + 1 * j.val = 2304 + j.val; omega
  | ⟨2, _⟩ => show 0 + 1 * k.val = k.val; omega

theorem ldw7 (j : Fin 64) (k : Fin 1024) :
    (View.ld x3 r0_7 : Vec Ideal S1x64x1024 .bf16) (ix3 0 j k) = x3 (ix3 0 ⟨2816 + j.val, by omega⟩ k) := by
  refine congrArg (x3 : S1x2944x1024.Idx → EReal) ?_
  funext a
  apply Fin.ext
  match a with
  | ⟨0, _⟩ => rfl
  | ⟨1, _⟩ => show 2816 + 1 * j.val = 2816 + j.val; omega
  | ⟨2, _⟩ => show 0 + 1 * k.val = k.val; omega

theorem ldw9 (j : Fin 128) (k : Fin 1024) :
    (View.ld x3 r0_9 : Vec Ideal S1x128x1024 .bf16) (ix3 0 j k) = x3 (ix3 0 ⟨2816 + j.val, by omega⟩ k) := by
  refine congrArg (x3 : S1x2944x1024.Idx → EReal) ?_
  funext a
  apply Fin.ext
  match a with
  | ⟨0, _⟩ => rfl
  | ⟨1, _⟩ => show 2816 + 1 * j.val = 2816 + j.val; omega
  | ⟨2, _⟩ => show 0 + 1 * k.val = k.val; omega

theorem out4_apply (r : Fin 128) (c : Fin 256) : out0_4 x0 x1 x2 x3 (ix2 r c)
    = blkP x0 x1 x2 x3 r ⟨c.val, by omega⟩ * Ideal.logistic (blkP x0 x1 x2 x3 r ⟨256 + c.val, by omega⟩) := by
  unfold out0_4
  rw [View.canon_unit_zero (by funext a; fin_cases a <;> rfl) inb_S128x256_S128x256_0_0]
  simp only [pay14_eq, ld0, ld1]
  exact (pay5_apply _ _ _ _ r c).trans (congrArg₂ (fun a b => a * Ideal.logistic b) (congrArg₂ proj (funext fun k => h_apply x0 x1 x2 r k) (funext fun k => ldw2 x3 ⟨c.val, by omega⟩ k))
    (congrArg₂ proj (funext fun k => h_apply x0 x1 x2 r k) (funext fun k => ldw2 x3 ⟨256 + c.val, by omega⟩ k)))

theorem out5_apply (r : Fin 128) (c : Fin 256) : out0_5 x0 x1 x2 x3 (ix2 r c)
    = blkP x0 x1 x2 x3 r ⟨512 + c.val, by omega⟩ := by
  unfold out0_5
  rw [View.canon_unit_zero (by funext a; fin_cases a <;> rfl) inb_S128x256_S128x256_0_0]
  simp only [pay14_eq, ld0, ld1]
  exact (pay6_apply _ _ _ _ r c).trans (congrArg₂ proj (funext fun k => h_apply x0 x1 x2 r k) (funext fun k => ldw2 x3 ⟨512 + c.val, by omega⟩ k))

theorem out6_apply (r : Fin 128) (c : Fin 512) : out0_6 x0 x1 x2 x3 (ix2 r c)
    = blkP x0 x1 x2 x3 r ⟨768 + c.val, by omega⟩ * qScale := by
  unfold out0_6
  rw [View.canon_unit_zero (by funext a; fin_cases a <;> rfl) inb_S128x512_S128x512_0_0]
  simp only [pay14_eq, ld0, ld1]
  exact (pay12_apply _ _ r c).trans (congrArg (fun a => a * _) (congrArg₂ proj (funext fun k => h_apply x0 x1 x2 r k) (funext fun k => ldw10 x3 c k)))

theorem out7_apply (r : Fin 128) (c : Fin 512) : out0_7 x0 x1 x2 x3 (ix2 r c)
    = blkP x0 x1 x2 x3 r ⟨2304 + c.val, by omega⟩ := by
  unfold out0_7
  rw [View.canon_unit_zero (by funext a; fin_cases a <;> rfl) inb_S128x512_S128x512_0_0]
  simp only [pay14_eq, ld0, ld1]
  exact (pay13_apply _ _ r c).trans (congrArg₂ proj (funext fun k => h_apply x0 x1 x2 r k) (funext fun k => ldw12 x3 c k))

theorem out8_apply (r : Fin 128) (c : Fin 128) : out0_8 x0 x1 x2 x3 (ix2 r c)
    = blkP x0 x1 x2 x3 r ⟨2816 + c.val, by omega⟩ := by
  unfold out0_8
  rw [View.canon_unit_zero (by funext a; fin_cases a <;> rfl) inb_S128x128_S128x128_0_0]
  simp only [pay14_eq, ld0, ld1]
  exact (pay11_apply _ _ r c).trans (congrArg₂ proj (funext fun k => h_apply x0 x1 x2 r k) (funext fun k => ldw9 x3 c k))

theorem out9_apply (r : Fin 128) (c : Fin 512) : out0_9 x0 x1 x2 x3 (ix3 0 c r)
    = blkP x0 x1 x2 x3 r ⟨1280 + c.val, by omega⟩ := by
  unfold out0_9
  rw [View.canon_unit_zero (by funext a; fin_cases a <;> rfl) inb_S1x512x128_S1x512x128_0_0_0]
  simp only [pay14_eq, ld0, ld1]
  exact (pay7_apply _ _ _ _ c r).trans (congrArg₂ proj (funext fun k => h_apply x0 x1 x2 r k) (funext fun k => ldw4 x3 c k))

theorem out10_apply (r : Fin 128) (c : Fin 512) : out0_10 x0 x1 x2 x3 (ix3 0 c r)
    = blkP x0 x1 x2 x3 r ⟨1792 + c.val, by omega⟩ := by
  unfold out0_10
  rw [View.canon_unit_zero (by funext a; fin_cases a <;> rfl) inb_S1x512x128_S1x512x128_0_0_0]
  simp only [pay14_eq, ld0, ld1]
  exact (pay9_apply _ _ c r).trans (congrArg₂ proj (funext fun k => h_apply x0 x1 x2 r k) (funext fun k => ldw6 x3 c k))

theorem out11_apply (r : Fin 128) (c : Fin 64) : out0_11 x0 x1 x2 x3 (ix3 0 c r)
    = blkP x0 x1 x2 x3 r ⟨2816 + c.val, by omega⟩ := by
  unfold out0_11
  rw [View.canon_unit_zero (by funext a; fin_cases a <;> rfl) inb_S1x64x128_S1x64x128_0_0_0]
  simp only [pay14_eq, ld0, ld1]
  exact (pay10_apply _ _ c r).trans (congrArg₂ proj (funext fun k => h_apply x0 x1 x2 r k) (funext fun k => ldw7 x3 c k))

theorem out12_apply (r : Fin 128) (c : Fin 512) : out0_12 x0 x1 x2 x3 (ix2 r c)
    = blkP x0 x1 x2 x3 r ⟨1280 + c.val, by omega⟩ := by
  unfold out0_12
  rw [View.canon_unit_zero (by funext a; fin_cases a <;> rfl) inb_S128x512_S128x512_0_0]
  simp only [pay14_eq, ld0, ld1]
  exact (pay1_apply _ _ r c).trans (congrArg₂ proj (funext fun k => h_apply x0 x1 x2 r k) (funext fun k => ldw4 x3 c k))

theorem out13_apply (r : Fin 128) (c : Fin 512) : out0_13 x0 x1 x2 x3 (ix2 r c)
    = blkP x0 x1 x2 x3 r ⟨1792 + c.val, by omega⟩ := by
  unfold out0_13
  rw [View.canon_unit_zero (by funext a; fin_cases a <;> rfl) inb_S128x512_S128x512_0_0]
  simp only [pay14_eq, ld0, ld1]
  exact (pay2_apply _ _ r c).trans (congrArg₂ proj (funext fun k => h_apply x0 x1 x2 r k) (funext fun k => ldw6 x3 c k))

end Cert.Proof.Ips

end
-- ==== Proof.IpsRef.lean ====
module

public import proofs.«01_k».proof.Proof.IpBody
public import proofs.«01_k».proof.Proof.Gen.InprojSampleRefIdeal.Read

@[expose] public section

set_option maxRecDepth 16384

noncomputable section

/-! # The sample batch's input projection, entry by entry, as the reference computes it -/

namespace Cert.Proof.Ips

open Idealize.ShloMosaic Idealize.ShloMosaic.TcCoe Cert.InprojSampleRefIdeal Cert.InprojSampleRefIdeal.Read
open Idealize.ShloMosaic.Pointwise
open Cert.Proof.Ff (hRow)
open Cert.Proof.Ip (proj qScale qScale_eq)

/-- The modulated row of a token. -/
def htok (x : FVec Ideal S128x1x1024 .f32) (md : FVec Ideal S128x9216 .f32) (r : Fin 128) : Fin 1024 → EReal :=
  hRow (fun k => x (ix3 r 0 k)) (fun k => md (ix2 r ⟨4096 + k.val, by omega⟩)) (fun k => md (ix2 r ⟨3072 + k.val, by omega⟩))

/-- A projected entry of a token. -/
def refP (x : FVec Ideal S128x1x1024 .f32) (md : FVec Ideal S128x9216 .f32) (w : FVec Ideal S4x1024x2888 .f32) (r : Fin 128)
    (j : Fin 2888) : EReal := proj (htok x md r) (fun k => w (ix3 0 k j))

variable (x : FVec Ideal S128x1x1024 .f32) (md : FVec Ideal S128x9216 .f32) (w : FVec Ideal S4x1024x2888 .f32)

theorem ref_h (r : Fin 128) (k : Fin 1024) : val_main_v13 (F := Ideal) x md (ix3 r 0 k) = htok x md r k := by
  unfold val_main_v13 val_main_v12 val_main_v11 val_main_v10 val_main_v5 val_main_v4 val_main_v0
    val_main_cst htok hRow
  pointwise

theorem ref_lin (r : Fin 128) (j : Fin 2888) :
    val_main_v16 (F := Ideal) x md w (ix3 r 0 j) = refP x md w r j := by
  refine Eq.trans (b := ∑ k : Fin 1024, val_main_v13 (F := Ideal) x md (ix3 r 0 k) * w (ix3 0 k j)) ?_ ?_
  · unfold val_main_v16 val_main_v15 val_main_v14
    generalize val_main_v13 (F := Ideal) x md = h
    pointwise
  · simp only [ref_h]
    rfl

/-- The scores' keys and head weights side by side, filled up with zeros. -/
theorem ref_kiwi (r : Fin 128) (c : Fin 128) :
    val_main_v40 (F := Ideal) x md w (ix3 r 0 c)
      = if h : c.val < 72 then refP x md w r ⟨2816 + c.val, by omega⟩ else (0 : EReal) := by
  have e : (FloatOps.sitofp (F := Ideal) FTy.f32 (0#32 : BitVec 32) : EReal) = 0 := by
    show (((0#32 : BitVec 32).toInt : ℝ) : EReal) = 0
    simp
  refine Eq.trans (b := if h : c.val < 72 then val_main_v16 (F := Ideal) x md w (ix3 r 0 ⟨2816 + c.val, by omega⟩)
    else (FloatOps.sitofp (F := Ideal) FTy.f32 (0#32 : BitVec 32) : EReal)) ?_ (by rw [e]; simp only [ref_lin])
  unfold val_main_v40 val_main_v39 val_main_v24 val_main_v23 val_main_call0_v0 val_main_c
  generalize val_main_v16 (F := Ideal) x md w = h
  pointwise
  refine dite_congr rfl (fun h1 => ?_) (fun _ => rfl)
  split
  · rfl
  · exact congrArg (fun j => h (ix3 r 0 j)) (Fin.ext (by show 2880 + (c.val - 64) = 2816 + c.val; omega))

theorem ref4 (r : Fin 128) (c : Fin 256) : val_main_v41 (F := Ideal) x md w (ix2 r c)
    = refP x md w r ⟨c.val, by omega⟩
      * Ideal.logistic (refP x md w r ⟨256 + c.val, by omega⟩) := by
  refine Eq.trans (b := val_main_v16 (F := Ideal) x md w (ix3 r 0 ⟨c.val, by omega⟩)
      * Ideal.logistic (val_main_v16 (F := Ideal) x md w (ix3 r 0 ⟨256 + c.val, by omega⟩))) ?_ (by simp only [ref_lin])
  unfold val_main_v41 val_main_v33 val_main_v32 val_main_v31 val_main_v30 val_main_v29 val_main_v28 val_main_v27 val_main_v26 val_main_v25 val_main_v17 val_main_cst_0 val_main_cst_1
  generalize val_main_v16 (F := Ideal) x md w = h
  pointwise
  rfl

theorem ref5 (r : Fin 128) (c : Fin 256) : val_main_v42 (F := Ideal) x md w (ix2 r c)
    = refP x md w r ⟨512 + c.val, by omega⟩ := by
  refine Eq.trans (b := val_main_v16 (F := Ideal) x md w (ix3 r 0 ⟨512 + c.val, by omega⟩)) ?_ (by simp only [ref_lin])
  unfold val_main_v42 val_main_v18
  generalize val_main_v16 (F := Ideal) x md w = h
  pointwise

theorem ref6 (r : Fin 128) (c : Fin 512) : val_main_v44 (F := Ideal) x md w (ix2 r c)
    = refP x md w r ⟨768 + c.val, by omega⟩
      * qScale := by
  refine Eq.trans (b := val_main_v16 (F := Ideal) x md w (ix3 r 0 ⟨768 + c.val, by omega⟩)
      * qScale) ?_ (by simp only [ref_lin])
  unfold val_main_v44 val_main_v43 val_main_v38 val_main_v37 val_main_v36 val_main_v35 val_main_v34 val_main_v19 val_main_cst_2 val_main_cst_3
  generalize val_main_v16 (F := Ideal) x md w = h
  pointwise
  exact qScale_eq _

theorem ref7 (r : Fin 128) (c : Fin 512) : val_main_v46 (F := Ideal) x md w (ix2 r c)
    = refP x md w r ⟨2304 + c.val, by omega⟩ := by
  refine Eq.trans (b := val_main_v16 (F := Ideal) x md w (ix3 r 0 ⟨2304 + c.val, by omega⟩)) ?_ (by simp only [ref_lin])
  unfold val_main_v46 val_main_v45 val_main_v22
  generalize val_main_v16 (F := Ideal) x md w = h
  pointwise

theorem ref8 (r : Fin 128) (c : Fin 128) : val_main_v47 (F := Ideal) x md w (ix2 r c)
    = if h : c.val < 72 then refP x md w r ⟨2816 + c.val, by omega⟩ else (0 : EReal) := by
  refine Eq.trans ?_ (ref_kiwi x md w r c)
  unfold val_main_v47
  generalize val_main_v40 (F := Ideal) x md w = h
  pointwise

theorem ref9 (r : Fin 128) (c : Fin 512) : val_main_v48 (F := Ideal) x md w (ix3 0 c r)
    = refP x md w r ⟨1280 + c.val, by omega⟩ := by
  refine Eq.trans (b := val_main_v16 (F := Ideal) x md w (ix3 r 0 ⟨1280 + c.val, by omega⟩)) ?_ (by simp only [ref_lin])
  unfold val_main_v48 val_main_v20
  generalize val_main_v16 (F := Ideal) x md w = h
  pointwise

theorem ref10 (r : Fin 128) (c : Fin 512) : val_main_v49 (F := Ideal) x md w (ix3 0 c r)
    = refP x md w r ⟨1792 + c.val, by omega⟩ := by
  refine Eq.trans (b := val_main_v16 (F := Ideal) x md w (ix3 r 0 ⟨1792 + c.val, by omega⟩)) ?_ (by simp only [ref_lin])
  unfold val_main_v49 val_main_v21
  generalize val_main_v16 (F := Ideal) x md w = h
  pointwise

theorem ref11 (r : Fin 128) (c : Fin 64) : val_main_v50 (F := Ideal) x md w (ix3 0 c r)
    = refP x md w r ⟨2816 + c.val, by omega⟩ := by
  refine Eq.trans (b := val_main_v16 (F := Ideal) x md w (ix3 r 0 ⟨2816 + c.val, by omega⟩)) ?_ (by simp only [ref_lin])
  unfold val_main_v50 val_main_v23
  generalize val_main_v16 (F := Ideal) x md w = h
  pointwise

theorem ref12 (r : Fin 128) (c : Fin 512) : val_main_v51 (F := Ideal) x md w (ix2 r c)
    = refP x md w r ⟨1280 + c.val, by omega⟩ := by
  refine Eq.trans (b := val_main_v16 (F := Ideal) x md w (ix3 r 0 ⟨1280 + c.val, by omega⟩)) ?_ (by simp only [ref_lin])
  unfold val_main_v51 val_main_v20
  generalize val_main_v16 (F := Ideal) x md w = h
  pointwise

theorem ref13 (r : Fin 128) (c : Fin 512) : val_main_v52 (F := Ideal) x md w (ix2 r c)
    = refP x md w r ⟨1792 + c.val, by omega⟩ := by
  refine Eq.trans (b := val_main_v16 (F := Ideal) x md w (ix3 r 0 ⟨1792 + c.val, by omega⟩)) ?_ (by simp only [ref_lin])
  unfold val_main_v52 val_main_v21
  generalize val_main_v16 (F := Ideal) x md w = h
  pointwise

end Cert.Proof.Ips

end
-- ==== Proof.IpsBlocks.lean ====
module

public import proofs.«01_k».proof.Proof.IpsHost
public import proofs.«01_k».proof.Proof.IpsBody
public import proofs.«01_k».proof.Proof.IpsRef

@[expose] public section

set_option maxRecDepth 16384

noncomputable section

/-! # The blocks the grid point of the sample batch's input projection reads, as entries of the arguments -/

namespace Cert.Proof.Ips

open Idealize Idealize.ShloMosaic Idealize.SL.Sem Cert.InprojSampleIdeal
open Cert.Proof.Ip (proj)

variable (m : (ℓ : Loc nD τ sig) → Buf (Elt Ideal) ℓ) (c : Dev nD)

theorem index0 : ∀ (t : Fin grid0.N), cc0_transform_0 (grid0.coords t) = ![0, 0] := by decide +kernel
theorem index1 : ∀ (t : Fin grid0.N), cc0_transform_1 (grid0.coords t) = ![0, 0, 3] := by decide +kernel
theorem index2 : ∀ (t : Fin grid0.N), cc0_transform_2 (grid0.coords t) = ![0, 0, 4] := by decide +kernel
theorem index3 : ∀ (t : Fin grid0.N), cc0_transform_3 (grid0.coords t) = ![0, 0, 0] := by decide +kernel
theorem index4 : ∀ (t : Fin grid0.N), cc0_transform_4 (grid0.coords t) = ![0, 0] := by decide +kernel
theorem index5 : ∀ (t : Fin grid0.N), cc0_transform_5 (grid0.coords t) = ![0, 0] := by decide +kernel
theorem index6 : ∀ (t : Fin grid0.N), cc0_transform_6 (grid0.coords t) = ![0, 0] := by decide +kernel
theorem index7 : ∀ (t : Fin grid0.N), cc0_transform_7 (grid0.coords t) = ![0, 0] := by decide +kernel
theorem index8 : ∀ (t : Fin grid0.N), cc0_transform_8 (grid0.coords t) = ![0, 0] := by decide +kernel
theorem index9 : ∀ (t : Fin grid0.N), cc0_transform_9 (grid0.coords t) = ![0, 0, 0] := by decide +kernel
theorem index10 : ∀ (t : Fin grid0.N), cc0_transform_10 (grid0.coords t) = ![0, 0, 0] := by decide +kernel
theorem index11 : ∀ (t : Fin grid0.N), cc0_transform_11 (grid0.coords t) = ![0, 0, 0] := by decide +kernel
theorem index12 : ∀ (t : Fin grid0.N), cc0_transform_12 (grid0.coords t) = ![0, 0] := by decide +kernel
theorem index13 : ∀ (t : Fin grid0.N), cc0_transform_13 (grid0.coords t) = ![0, 0] := by decide +kernel

/-- The rows of the input. -/
theorem blk_x (t : Fin grid0.N) (r : Fin 128) (k : Fin 1024) :
    (Gen.iblk m c 0 t : Vec Ideal S128x1024 .f32) (ix2 r k) = (m (c.tc.loc main_arg0) : Vec Ideal S128x1x1024 .f32) (ix3 r 0 k) := by
  refine (?_ : _ = (Gen.V m c main_v3 : Vec Ideal S128x1024 .f32) (ix2 r k)).trans ((host_x m c r k))
  unfold Gen.iblk
  refine congrArg (Gen.V m c main_v3 : S128x1024.Idx → EReal) ?_
  funext a
  apply Fin.ext
  match a with
  | ⟨0, _⟩ =>
    show cc0_transform_0 (grid0.coords t) 0 * 128 + 1 * r.val = r.val
    rw [show cc0_transform_0 (grid0.coords t) 0 = 0 from congrFun (index0 t) 0]; omega
  | ⟨1, _⟩ =>
    show cc0_transform_0 (grid0.coords t) 1 * 1024 + 1 * k.val = k.val
    rw [show cc0_transform_0 (grid0.coords t) 1 = 0 from congrFun (index0 t) 1]; omega

/-- The shift. -/
theorem blk_sh (t : Fin grid0.N) (r : Fin 128) (k : Fin 1024) :
    (Gen.iblk m c 1 t : Vec Ideal S1x128x1024 .f32) (ix3 0 r k) = (m (c.tc.loc main_arg1) : Vec Ideal S128x9216 .f32) (ix2 r ⟨3072 + k.val, by omega⟩) := by
  refine (?_ : _ = (Gen.V m c main_v4 : Vec Ideal S1x128x9216 .f32) (ix3 0 r ⟨3072 + k.val, by omega⟩)).trans ((host_mod m c r ⟨3072 + k.val, by omega⟩))
  unfold Gen.iblk
  refine congrArg (Gen.V m c main_v4 : S1x128x9216.Idx → EReal) ?_
  funext a
  apply Fin.ext
  match a with
  | ⟨0, _⟩ =>
    show cc0_transform_1 (grid0.coords t) 0 * 1 + 1 * 0 = 0
    rw [show cc0_transform_1 (grid0.coords t) 0 = 0 from congrFun (index1 t) 0]
  | ⟨1, _⟩ =>
    show cc0_transform_1 (grid0.coords t) 1 * 128 + 1 * r.val = r.val
    rw [show cc0_transform_1 (grid0.coords t) 1 = 0 from congrFun (index1 t) 1]; omega
  | ⟨2, _⟩ =>
    show cc0_transform_1 (grid0.coords t) 2 * 1024 + 1 * k.val = 3072 + k.val
    rw [show cc0_transform_1 (grid0.coords t) 2 = 3 from congrFun (index1 t) 2]; omega

/-- The scale. -/
theorem blk_sc (t : Fin grid0.N) (r : Fin 128) (k : Fin 1024) :
    (Gen.iblk m c 2 t : Vec Ideal S1x128x1024 .f32) (ix3 0 r k) = (m (c.tc.loc main_arg1) : Vec Ideal S128x9216 .f32) (ix2 r ⟨4096 + k.val, by omega⟩) := by
  refine (?_ : _ = (Gen.V m c main_v4 : Vec Ideal S1x128x9216 .f32) (ix3 0 r ⟨4096 + k.val, by omega⟩)).trans ((host_mod m c r ⟨4096 + k.val, by omega⟩))
  unfold Gen.iblk
  refine congrArg (Gen.V m c main_v4 : S1x128x9216.Idx → EReal) ?_
  funext a
  apply Fin.ext
  match a with
  | ⟨0, _⟩ =>
    show cc0_transform_2 (grid0.coords t) 0 * 1 + 1 * 0 = 0
    rw [show cc0_transform_2 (grid0.coords t) 0 = 0 from congrFun (index2 t) 0]
  | ⟨1, _⟩ =>
    show cc0_transform_2 (grid0.coords t) 1 * 128 + 1 * r.val = r.val
    rw [show cc0_transform_2 (grid0.coords t) 1 = 0 from congrFun (index2 t) 1]; omega
  | ⟨2, _⟩ =>
    show cc0_transform_2 (grid0.coords t) 2 * 1024 + 1 * k.val = 4096 + k.val
    rw [show cc0_transform_2 (grid0.coords t) 2 = 4 from congrFun (index2 t) 2]; omega

/-- The weights. -/
theorem blk_w (t : Fin grid0.N) (j : Fin 2944) (k : Fin 1024) :
    (Gen.iblk m c 3 t : Vec Ideal S1x2944x1024 .bf16) (ix3 0 j k)
      = if h : j.val < 2888 then (m (c.tc.loc main_arg2) : Vec Ideal S4x1024x2888 .f32) (ix3 0 k ⟨j.val, h⟩) else (0 : EReal) := by
  refine (?_ : _ = (Gen.V m c main_v2 : Vec Ideal S4x2944x1024 .bf16) (ix3 0 j k)).trans (host_w m c 0 j k)
  unfold Gen.iblk
  refine congrArg (Gen.V m c main_v2 : S4x2944x1024.Idx → EReal) ?_
  funext a
  apply Fin.ext
  match a with
  | ⟨0, _⟩ =>
    show cc0_transform_3 (grid0.coords t) 0 * 1 + 1 * 0 = 0
    rw [show cc0_transform_3 (grid0.coords t) 0 = 0 from congrFun (index3 t) 0]
  | ⟨1, _⟩ =>
    show cc0_transform_3 (grid0.coords t) 1 * 2944 + 1 * j.val = j.val
    rw [show cc0_transform_3 (grid0.coords t) 1 = 0 from congrFun (index3 t) 1]; omega
  | ⟨2, _⟩ =>
    show cc0_transform_3 (grid0.coords t) 2 * 1024 + 1 * k.val = k.val
    rw [show cc0_transform_3 (grid0.coords t) 2 = 0 from congrFun (index3 t) 2]; omega

/-- The modulated row of a block is that of its token. -/
theorem hblk_eq (t : Fin grid0.N) (r : Fin 128) :
    hblk (Gen.iblk m c 0 t) (Gen.iblk m c 1 t) (Gen.iblk m c 2 t) r
      = htok (m (c.tc.loc main_arg0)) (m (c.tc.loc main_arg1)) r := by
  unfold hblk htok
  simp only [blk_x, blk_sh, blk_sc]

/-- A projected entry of a block is that of its token. -/
theorem blkP_eq (t : Fin grid0.N) (r : Fin 128) (j : Fin 2944) (h : j.val < 2888) :
    blkP (Gen.iblk m c 0 t) (Gen.iblk m c 1 t) (Gen.iblk m c 2 t) (Gen.iblk m c 3 t) r j
      = refP (m (c.tc.loc main_arg0)) (m (c.tc.loc main_arg1)) (m (c.tc.loc main_arg2)) r ⟨j.val, h⟩ :=
  congrArg₂ proj (hblk_eq m c t r) (funext fun k => (blk_w m c t j k).trans (dif_pos h))

/-- The projected entries after the reference's features are zero. -/
theorem blkP_zero (t : Fin grid0.N) (r : Fin 128) (j : Fin 2944) (h : ¬ j.val < 2888) :
    blkP (Gen.iblk m c 0 t) (Gen.iblk m c 1 t) (Gen.iblk m c 2 t) (Gen.iblk m c 3 t) r j = 0 := by
  refine (congrArg (proj _) (funext fun k => (blk_w m c t j k).trans (dif_neg h))).trans ?_
  unfold proj
  simp

end Cert.Proof.Ips

end
-- ==== Proof.IpsFinal.lean ====
module

public import proofs.«01_k».proof.Proof.IpsBlocks

@[expose] public section

set_option maxRecDepth 16384

noncomputable section

/-! # The run of the sample batch's input projection ends with the reference's results -/

namespace Cert.Proof.Ips

open Idealize Idealize.ShloMosaic Idealize.ShloMosaic.TcCoe Idealize.SL.Sem Cert.InprojSampleIdeal
open Idealize.ShloMosaic.Pipeline (Dat Cfg Window)

variable (m : (ℓ : Loc nD τ sig) → Buf (Elt Ideal) ℓ) (ρ : Dev nD → PrngReg)

/-- The reference's result 0 of the kernel's arguments. -/
def res4 : S128x256.Idx → EReal :=
  Cert.InprojSampleRefIdeal.Read.val_main_v41 (F := Ideal) (m ((0 : Dev nD).tc.loc main_arg0)) (m ((0 : Dev nD).tc.loc main_arg1))
    (m ((0 : Dev nD).tc.loc main_arg2))

/-- An entry of the grid point's block is the entry of the result. -/
theorem block4 (t : Fin grid0.N) (r : Fin 128) (c : Fin 256) :
    Gen.out0_4 (Gen.iblk m 0 0 t) (Gen.iblk m 0 1 t) (Gen.iblk m 0 2 t) (Gen.iblk m 0 3 t) (ix2 r c) = res4 m (ix2 r c) := by
  refine (out4_apply _ _ _ _ r c).trans (Eq.trans ?_ (ref4 _ _ _ r c).symm)
  exact congrArg₂ (fun a b => a * Ideal.logistic b) (blkP_eq m 0 t r ⟨c.val, by omega⟩ (by show c.val < 2888; omega)) (blkP_eq m 0 t r ⟨256 + c.val, by omega⟩ (by show 256 + c.val < 2888; omega))

/-- The write-back of the grid point writes the result. -/
theorem flushed4 (t : Fin cfg0.N) :
    (Gen.dats m 0 0).flushed 4 t = ((cfg0.win 4).blk t).view.read (Elt Ideal) (res4 m) := by
  show (cfg0.win 4).cut (cfg0.grid.coords t) ((Gen.dats m 0 0).after 4 t) = _
  rw [Gen.after0_4]
  refine funext fun (j : S128x256.Idx) => ?_
  have hj0 : (j 0).val < 128 := (j 0).isLt
  have hj1 : (j 1).val < 256 := (j 1).isLt
  refine Eq.trans (b := Gen.out0_4 (Gen.iblk m 0 0 t) (Gen.iblk m 0 1 t) (Gen.iblk m 0 2 t) (Gen.iblk m 0 3 t)
      (ix2 ⟨(j 0).val, hj0⟩ ⟨(j 1).val, hj1⟩)) ?_ ((block4 m t ⟨(j 0).val, hj0⟩ ⟨(j 1).val, hj1⟩).trans ?_)
  · refine congrArg (Gen.out0_4 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res4 m : S128x256.Idx → EReal) ?_
    funext a
    apply Fin.ext
    match a with
    | ⟨0, _⟩ =>
      show (j 0).val = cc0_transform_4 (grid0.coords t) 0 * 128 + 1 * (j 0).val
      rw [show cc0_transform_4 (grid0.coords t) 0 = 0 from congrFun (index4 t) 0]; omega
    | ⟨1, _⟩ =>
      show (j 1).val = cc0_transform_4 (grid0.coords t) 1 * 256 + 1 * (j 1).val
      rw [show cc0_transform_4 (grid0.coords t) 1 = 0 from congrFun (index4 t) 1]; omega

/-- Every cell of the result is written at the grid point. -/
theorem covered4 (i : S128x256.Idx) : ∃ t : Fin cfg0.N, (cfg0.win 4).flush t = true
    ∧ (i : ((cfg0.win 4).blk t).view.ty.Idx) ∈ ((cfg0.win 4).blk t).view.set := by
  have i0 : (i 0 : Nat) < 128 := (i 0).isLt
  have i1 : (i 1 : Nat) < 256 := (i 1).isLt
  have hN : grid0.N = 1 := Gen.N_0
  obtain ⟨t, hv⟩ : ∃ t : Fin grid0.N, t.val = 0 := ⟨⟨0, by omega⟩, rfl⟩
  refine ⟨t, Gen.flush0_4 _, ?_⟩
  have e : ((cfg0.win 4).blk t).view.emb (ix2 ⟨(i 0 : Nat), i0⟩ ⟨(i 1 : Nat), i1⟩ : S128x256.Idx) = i := by
    funext a
    apply Fin.ext
    match a with
    | ⟨0, _⟩ =>
      show cc0_transform_4 (grid0.coords t) 0 * 128 + 1 * (i 0 : Nat) = (i 0 : Nat)
      rw [show cc0_transform_4 (grid0.coords t) 0 = 0 from congrFun (index4 t) 0]; omega
    | ⟨1, _⟩ =>
      show cc0_transform_4 (grid0.coords t) 1 * 256 + 1 * (i 1 : Nat) = (i 1 : Nat)
      rw [show cc0_transform_4 (grid0.coords t) 1 = 0 from congrFun (index4 t) 1]; omega
  exact e ▸ View.emb_mem_set ((cfg0.win 4).blk t).view (ix2 ⟨(i 0 : Nat), i0⟩ ⟨(i 1 : Nat), i1⟩ : S128x256.Idx)

/-- The array ends holding the reference's result 0. -/
theorem final4 : (Gen.dats m 0 0).arrAt 4 cfg0.N = (res4 m : Buf (Elt Ideal) ((cfg0.win 4).arr.view.loc ((0 : Dev nD).tc))) :=
  (Gen.dats m 0 0).arrAt_eq_of_cover 4 (res4 m) (fun t _ => flushed4 m t) covered4

/-- The reference's result 1 of the kernel's arguments. -/
def res5 : S128x256.Idx → EReal :=
  Cert.InprojSampleRefIdeal.Read.val_main_v42 (F := Ideal) (m ((0 : Dev nD).tc.loc main_arg0)) (m ((0 : Dev nD).tc.loc main_arg1))
    (m ((0 : Dev nD).tc.loc main_arg2))

/-- An entry of the grid point's block is the entry of the result. -/
theorem block5 (t : Fin grid0.N) (r : Fin 128) (c : Fin 256) :
    Gen.out0_5 (Gen.iblk m 0 0 t) (Gen.iblk m 0 1 t) (Gen.iblk m 0 2 t) (Gen.iblk m 0 3 t) (ix2 r c) = res5 m (ix2 r c) := by
  refine (out5_apply _ _ _ _ r c).trans (Eq.trans ?_ (ref5 _ _ _ r c).symm)
  exact blkP_eq m 0 t r ⟨512 + c.val, by omega⟩ (by show 512 + c.val < 2888; omega)

/-- The write-back of the grid point writes the result. -/
theorem flushed5 (t : Fin cfg0.N) :
    (Gen.dats m 0 0).flushed 5 t = ((cfg0.win 5).blk t).view.read (Elt Ideal) (res5 m) := by
  show (cfg0.win 5).cut (cfg0.grid.coords t) ((Gen.dats m 0 0).after 5 t) = _
  rw [Gen.after0_5]
  refine funext fun (j : S128x256.Idx) => ?_
  have hj0 : (j 0).val < 128 := (j 0).isLt
  have hj1 : (j 1).val < 256 := (j 1).isLt
  refine Eq.trans (b := Gen.out0_5 (Gen.iblk m 0 0 t) (Gen.iblk m 0 1 t) (Gen.iblk m 0 2 t) (Gen.iblk m 0 3 t)
      (ix2 ⟨(j 0).val, hj0⟩ ⟨(j 1).val, hj1⟩)) ?_ ((block5 m t ⟨(j 0).val, hj0⟩ ⟨(j 1).val, hj1⟩).trans ?_)
  · refine congrArg (Gen.out0_5 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res5 m : S128x256.Idx → EReal) ?_
    funext a
    apply Fin.ext
    match a with
    | ⟨0, _⟩ =>
      show (j 0).val = cc0_transform_5 (grid0.coords t) 0 * 128 + 1 * (j 0).val
      rw [show cc0_transform_5 (grid0.coords t) 0 = 0 from congrFun (index5 t) 0]; omega
    | ⟨1, _⟩ =>
      show (j 1).val = cc0_transform_5 (grid0.coords t) 1 * 256 + 1 * (j 1).val
      rw [show cc0_transform_5 (grid0.coords t) 1 = 0 from congrFun (index5 t) 1]; omega

/-- Every cell of the result is written at the grid point. -/
theorem covered5 (i : S128x256.Idx) : ∃ t : Fin cfg0.N, (cfg0.win 5).flush t = true
    ∧ (i : ((cfg0.win 5).blk t).view.ty.Idx) ∈ ((cfg0.win 5).blk t).view.set := by
  have i0 : (i 0 : Nat) < 128 := (i 0).isLt
  have i1 : (i 1 : Nat) < 256 := (i 1).isLt
  have hN : grid0.N = 1 := Gen.N_0
  obtain ⟨t, hv⟩ : ∃ t : Fin grid0.N, t.val = 0 := ⟨⟨0, by omega⟩, rfl⟩
  refine ⟨t, Gen.flush0_5 _, ?_⟩
  have e : ((cfg0.win 5).blk t).view.emb (ix2 ⟨(i 0 : Nat), i0⟩ ⟨(i 1 : Nat), i1⟩ : S128x256.Idx) = i := by
    funext a
    apply Fin.ext
    match a with
    | ⟨0, _⟩ =>
      show cc0_transform_5 (grid0.coords t) 0 * 128 + 1 * (i 0 : Nat) = (i 0 : Nat)
      rw [show cc0_transform_5 (grid0.coords t) 0 = 0 from congrFun (index5 t) 0]; omega
    | ⟨1, _⟩ =>
      show cc0_transform_5 (grid0.coords t) 1 * 256 + 1 * (i 1 : Nat) = (i 1 : Nat)
      rw [show cc0_transform_5 (grid0.coords t) 1 = 0 from congrFun (index5 t) 1]; omega
  exact e ▸ View.emb_mem_set ((cfg0.win 5).blk t).view (ix2 ⟨(i 0 : Nat), i0⟩ ⟨(i 1 : Nat), i1⟩ : S128x256.Idx)

/-- The array ends holding the reference's result 1. -/
theorem final5 : (Gen.dats m 0 0).arrAt 5 cfg0.N = (res5 m : Buf (Elt Ideal) ((cfg0.win 5).arr.view.loc ((0 : Dev nD).tc))) :=
  (Gen.dats m 0 0).arrAt_eq_of_cover 5 (res5 m) (fun t _ => flushed5 m t) covered5

/-- The reference's result 2 of the kernel's arguments. -/
def res6 : S128x512.Idx → EReal :=
  Cert.InprojSampleRefIdeal.Read.val_main_v44 (F := Ideal) (m ((0 : Dev nD).tc.loc main_arg0)) (m ((0 : Dev nD).tc.loc main_arg1))
    (m ((0 : Dev nD).tc.loc main_arg2))

/-- An entry of the grid point's block is the entry of the result. -/
theorem block6 (t : Fin grid0.N) (r : Fin 128) (c : Fin 512) :
    Gen.out0_6 (Gen.iblk m 0 0 t) (Gen.iblk m 0 1 t) (Gen.iblk m 0 2 t) (Gen.iblk m 0 3 t) (ix2 r c) = res6 m (ix2 r c) := by
  refine (out6_apply _ _ _ _ r c).trans (Eq.trans ?_ (ref6 _ _ _ r c).symm)
  exact congrArg (fun a => a * _) (blkP_eq m 0 t r ⟨768 + c.val, by omega⟩ (by show 768 + c.val < 2888; omega))

/-- The write-back of the grid point writes the result. -/
theorem flushed6 (t : Fin cfg0.N) :
    (Gen.dats m 0 0).flushed 6 t = ((cfg0.win 6).blk t).view.read (Elt Ideal) (res6 m) := by
  show (cfg0.win 6).cut (cfg0.grid.coords t) ((Gen.dats m 0 0).after 6 t) = _
  rw [Gen.after0_6]
  refine funext fun (j : S128x512.Idx) => ?_
  have hj0 : (j 0).val < 128 := (j 0).isLt
  have hj1 : (j 1).val < 512 := (j 1).isLt
  refine Eq.trans (b := Gen.out0_6 (Gen.iblk m 0 0 t) (Gen.iblk m 0 1 t) (Gen.iblk m 0 2 t) (Gen.iblk m 0 3 t)
      (ix2 ⟨(j 0).val, hj0⟩ ⟨(j 1).val, hj1⟩)) ?_ ((block6 m t ⟨(j 0).val, hj0⟩ ⟨(j 1).val, hj1⟩).trans ?_)
  · refine congrArg (Gen.out0_6 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res6 m : S128x512.Idx → EReal) ?_
    funext a
    apply Fin.ext
    match a with
    | ⟨0, _⟩ =>
      show (j 0).val = cc0_transform_6 (grid0.coords t) 0 * 128 + 1 * (j 0).val
      rw [show cc0_transform_6 (grid0.coords t) 0 = 0 from congrFun (index6 t) 0]; omega
    | ⟨1, _⟩ =>
      show (j 1).val = cc0_transform_6 (grid0.coords t) 1 * 512 + 1 * (j 1).val
      rw [show cc0_transform_6 (grid0.coords t) 1 = 0 from congrFun (index6 t) 1]; omega

/-- Every cell of the result is written at the grid point. -/
theorem covered6 (i : S128x512.Idx) : ∃ t : Fin cfg0.N, (cfg0.win 6).flush t = true
    ∧ (i : ((cfg0.win 6).blk t).view.ty.Idx) ∈ ((cfg0.win 6).blk t).view.set := by
  have i0 : (i 0 : Nat) < 128 := (i 0).isLt
  have i1 : (i 1 : Nat) < 512 := (i 1).isLt
  have hN : grid0.N = 1 := Gen.N_0
  obtain ⟨t, hv⟩ : ∃ t : Fin grid0.N, t.val = 0 := ⟨⟨0, by omega⟩, rfl⟩
  refine ⟨t, Gen.flush0_6 _, ?_⟩
  have e : ((cfg0.win 6).blk t).view.emb (ix2 ⟨(i 0 : Nat), i0⟩ ⟨(i 1 : Nat), i1⟩ : S128x512.Idx) = i := by
    funext a
    apply Fin.ext
    match a with
    | ⟨0, _⟩ =>
      show cc0_transform_6 (grid0.coords t) 0 * 128 + 1 * (i 0 : Nat) = (i 0 : Nat)
      rw [show cc0_transform_6 (grid0.coords t) 0 = 0 from congrFun (index6 t) 0]; omega
    | ⟨1, _⟩ =>
      show cc0_transform_6 (grid0.coords t) 1 * 512 + 1 * (i 1 : Nat) = (i 1 : Nat)
      rw [show cc0_transform_6 (grid0.coords t) 1 = 0 from congrFun (index6 t) 1]; omega
  exact e ▸ View.emb_mem_set ((cfg0.win 6).blk t).view (ix2 ⟨(i 0 : Nat), i0⟩ ⟨(i 1 : Nat), i1⟩ : S128x512.Idx)

/-- The array ends holding the reference's result 2. -/
theorem final6 : (Gen.dats m 0 0).arrAt 6 cfg0.N = (res6 m : Buf (Elt Ideal) ((cfg0.win 6).arr.view.loc ((0 : Dev nD).tc))) :=
  (Gen.dats m 0 0).arrAt_eq_of_cover 6 (res6 m) (fun t _ => flushed6 m t) covered6

/-- The reference's result 3 of the kernel's arguments. -/
def res7 : S128x512.Idx → EReal :=
  Cert.InprojSampleRefIdeal.Read.val_main_v46 (F := Ideal) (m ((0 : Dev nD).tc.loc main_arg0)) (m ((0 : Dev nD).tc.loc main_arg1))
    (m ((0 : Dev nD).tc.loc main_arg2))

/-- An entry of the grid point's block is the entry of the result. -/
theorem block7 (t : Fin grid0.N) (r : Fin 128) (c : Fin 512) :
    Gen.out0_7 (Gen.iblk m 0 0 t) (Gen.iblk m 0 1 t) (Gen.iblk m 0 2 t) (Gen.iblk m 0 3 t) (ix2 r c) = res7 m (ix2 r c) := by
  refine (out7_apply _ _ _ _ r c).trans (Eq.trans ?_ (ref7 _ _ _ r c).symm)
  exact blkP_eq m 0 t r ⟨2304 + c.val, by omega⟩ (by show 2304 + c.val < 2888; omega)

/-- The write-back of the grid point writes the result. -/
theorem flushed7 (t : Fin cfg0.N) :
    (Gen.dats m 0 0).flushed 7 t = ((cfg0.win 7).blk t).view.read (Elt Ideal) (res7 m) := by
  show (cfg0.win 7).cut (cfg0.grid.coords t) ((Gen.dats m 0 0).after 7 t) = _
  rw [Gen.after0_7]
  refine funext fun (j : S128x512.Idx) => ?_
  have hj0 : (j 0).val < 128 := (j 0).isLt
  have hj1 : (j 1).val < 512 := (j 1).isLt
  refine Eq.trans (b := Gen.out0_7 (Gen.iblk m 0 0 t) (Gen.iblk m 0 1 t) (Gen.iblk m 0 2 t) (Gen.iblk m 0 3 t)
      (ix2 ⟨(j 0).val, hj0⟩ ⟨(j 1).val, hj1⟩)) ?_ ((block7 m t ⟨(j 0).val, hj0⟩ ⟨(j 1).val, hj1⟩).trans ?_)
  · refine congrArg (Gen.out0_7 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res7 m : S128x512.Idx → EReal) ?_
    funext a
    apply Fin.ext
    match a with
    | ⟨0, _⟩ =>
      show (j 0).val = cc0_transform_7 (grid0.coords t) 0 * 128 + 1 * (j 0).val
      rw [show cc0_transform_7 (grid0.coords t) 0 = 0 from congrFun (index7 t) 0]; omega
    | ⟨1, _⟩ =>
      show (j 1).val = cc0_transform_7 (grid0.coords t) 1 * 512 + 1 * (j 1).val
      rw [show cc0_transform_7 (grid0.coords t) 1 = 0 from congrFun (index7 t) 1]; omega

/-- Every cell of the result is written at the grid point. -/
theorem covered7 (i : S128x512.Idx) : ∃ t : Fin cfg0.N, (cfg0.win 7).flush t = true
    ∧ (i : ((cfg0.win 7).blk t).view.ty.Idx) ∈ ((cfg0.win 7).blk t).view.set := by
  have i0 : (i 0 : Nat) < 128 := (i 0).isLt
  have i1 : (i 1 : Nat) < 512 := (i 1).isLt
  have hN : grid0.N = 1 := Gen.N_0
  obtain ⟨t, hv⟩ : ∃ t : Fin grid0.N, t.val = 0 := ⟨⟨0, by omega⟩, rfl⟩
  refine ⟨t, Gen.flush0_7 _, ?_⟩
  have e : ((cfg0.win 7).blk t).view.emb (ix2 ⟨(i 0 : Nat), i0⟩ ⟨(i 1 : Nat), i1⟩ : S128x512.Idx) = i := by
    funext a
    apply Fin.ext
    match a with
    | ⟨0, _⟩ =>
      show cc0_transform_7 (grid0.coords t) 0 * 128 + 1 * (i 0 : Nat) = (i 0 : Nat)
      rw [show cc0_transform_7 (grid0.coords t) 0 = 0 from congrFun (index7 t) 0]; omega
    | ⟨1, _⟩ =>
      show cc0_transform_7 (grid0.coords t) 1 * 512 + 1 * (i 1 : Nat) = (i 1 : Nat)
      rw [show cc0_transform_7 (grid0.coords t) 1 = 0 from congrFun (index7 t) 1]; omega
  exact e ▸ View.emb_mem_set ((cfg0.win 7).blk t).view (ix2 ⟨(i 0 : Nat), i0⟩ ⟨(i 1 : Nat), i1⟩ : S128x512.Idx)

/-- The array ends holding the reference's result 3. -/
theorem final7 : (Gen.dats m 0 0).arrAt 7 cfg0.N = (res7 m : Buf (Elt Ideal) ((cfg0.win 7).arr.view.loc ((0 : Dev nD).tc))) :=
  (Gen.dats m 0 0).arrAt_eq_of_cover 7 (res7 m) (fun t _ => flushed7 m t) covered7

/-- The reference's result 4 of the kernel's arguments. -/
def res8 : S128x128.Idx → EReal :=
  Cert.InprojSampleRefIdeal.Read.val_main_v47 (F := Ideal) (m ((0 : Dev nD).tc.loc main_arg0)) (m ((0 : Dev nD).tc.loc main_arg1))
    (m ((0 : Dev nD).tc.loc main_arg2))

/-- An entry of the grid point's block is the entry of the result. -/
theorem block8 (t : Fin grid0.N) (r : Fin 128) (c : Fin 128) :
    Gen.out0_8 (Gen.iblk m 0 0 t) (Gen.iblk m 0 1 t) (Gen.iblk m 0 2 t) (Gen.iblk m 0 3 t) (ix2 r c) = res8 m (ix2 r c) := by
  refine (out8_apply _ _ _ _ r c).trans (Eq.trans ?_ (ref8 _ _ _ r c).symm)
  by_cases h : c.val < 72
  · rw [dif_pos h]
    exact blkP_eq m 0 t r ⟨2816 + c.val, by omega⟩ (by show 2816 + c.val < 2888; omega)
  · rw [dif_neg h]
    exact blkP_zero m 0 t r ⟨2816 + c.val, by omega⟩ (by show ¬ 2816 + c.val < 2888; omega)

/-- The write-back of the grid point writes the result. -/
theorem flushed8 (t : Fin cfg0.N) :
    (Gen.dats m 0 0).flushed 8 t = ((cfg0.win 8).blk t).view.read (Elt Ideal) (res8 m) := by
  show (cfg0.win 8).cut (cfg0.grid.coords t) ((Gen.dats m 0 0).after 8 t) = _
  rw [Gen.after0_8]
  refine funext fun (j : S128x128.Idx) => ?_
  have hj0 : (j 0).val < 128 := (j 0).isLt
  have hj1 : (j 1).val < 128 := (j 1).isLt
  refine Eq.trans (b := Gen.out0_8 (Gen.iblk m 0 0 t) (Gen.iblk m 0 1 t) (Gen.iblk m 0 2 t) (Gen.iblk m 0 3 t)
      (ix2 ⟨(j 0).val, hj0⟩ ⟨(j 1).val, hj1⟩)) ?_ ((block8 m t ⟨(j 0).val, hj0⟩ ⟨(j 1).val, hj1⟩).trans ?_)
  · refine congrArg (Gen.out0_8 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res8 m : S128x128.Idx → EReal) ?_
    funext a
    apply Fin.ext
    match a with
    | ⟨0, _⟩ =>
      show (j 0).val = cc0_transform_8 (grid0.coords t) 0 * 128 + 1 * (j 0).val
      rw [show cc0_transform_8 (grid0.coords t) 0 = 0 from congrFun (index8 t) 0]; omega
    | ⟨1, _⟩ =>
      show (j 1).val = cc0_transform_8 (grid0.coords t) 1 * 128 + 1 * (j 1).val
      rw [show cc0_transform_8 (grid0.coords t) 1 = 0 from congrFun (index8 t) 1]; omega

/-- Every cell of the result is written at the grid point. -/
theorem covered8 (i : S128x128.Idx) : ∃ t : Fin cfg0.N, (cfg0.win 8).flush t = true
    ∧ (i : ((cfg0.win 8).blk t).view.ty.Idx) ∈ ((cfg0.win 8).blk t).view.set := by
  have i0 : (i 0 : Nat) < 128 := (i 0).isLt
  have i1 : (i 1 : Nat) < 128 := (i 1).isLt
  have hN : grid0.N = 1 := Gen.N_0
  obtain ⟨t, hv⟩ : ∃ t : Fin grid0.N, t.val = 0 := ⟨⟨0, by omega⟩, rfl⟩
  refine ⟨t, Gen.flush0_8 _, ?_⟩
  have e : ((cfg0.win 8).blk t).view.emb (ix2 ⟨(i 0 : Nat), i0⟩ ⟨(i 1 : Nat), i1⟩ : S128x128.Idx) = i := by
    funext a
    apply Fin.ext
    match a with
    | ⟨0, _⟩ =>
      show cc0_transform_8 (grid0.coords t) 0 * 128 + 1 * (i 0 : Nat) = (i 0 : Nat)
      rw [show cc0_transform_8 (grid0.coords t) 0 = 0 from congrFun (index8 t) 0]; omega
    | ⟨1, _⟩ =>
      show cc0_transform_8 (grid0.coords t) 1 * 128 + 1 * (i 1 : Nat) = (i 1 : Nat)
      rw [show cc0_transform_8 (grid0.coords t) 1 = 0 from congrFun (index8 t) 1]; omega
  exact e ▸ View.emb_mem_set ((cfg0.win 8).blk t).view (ix2 ⟨(i 0 : Nat), i0⟩ ⟨(i 1 : Nat), i1⟩ : S128x128.Idx)

/-- The array ends holding the reference's result 4. -/
theorem final8 : (Gen.dats m 0 0).arrAt 8 cfg0.N = (res8 m : Buf (Elt Ideal) ((cfg0.win 8).arr.view.loc ((0 : Dev nD).tc))) :=
  (Gen.dats m 0 0).arrAt_eq_of_cover 8 (res8 m) (fun t _ => flushed8 m t) covered8

/-- The reference's result 5 of the kernel's arguments. -/
def res9 : S1x512x128.Idx → EReal :=
  Cert.InprojSampleRefIdeal.Read.val_main_v48 (F := Ideal) (m ((0 : Dev nD).tc.loc main_arg0)) (m ((0 : Dev nD).tc.loc main_arg1))
    (m ((0 : Dev nD).tc.loc main_arg2))

/-- An entry of the grid point's block is the entry of the result. -/
theorem block9 (t : Fin grid0.N) (r : Fin 128) (c : Fin 512) :
    Gen.out0_9 (Gen.iblk m 0 0 t) (Gen.iblk m 0 1 t) (Gen.iblk m 0 2 t) (Gen.iblk m 0 3 t) (ix3 0 c r) = res9 m (ix3 0 c r) := by
  refine (out9_apply _ _ _ _ r c).trans (Eq.trans ?_ (ref9 _ _ _ r c).symm)
  exact blkP_eq m 0 t r ⟨1280 + c.val, by omega⟩ (by show 1280 + c.val < 2888; omega)

/-- The write-back of the grid point writes the result. -/
theorem flushed9 (t : Fin cfg0.N) :
    (Gen.dats m 0 0).flushed 9 t = ((cfg0.win 9).blk t).view.read (Elt Ideal) (res9 m) := by
  show (cfg0.win 9).cut (cfg0.grid.coords t) ((Gen.dats m 0 0).after 9 t) = _
  rw [Gen.after0_9]
  refine funext fun (j : S1x512x128.Idx) => ?_
  have hj0 : (j 0).val < 1 := (j 0).isLt
  have hj1 : (j 1).val < 512 := (j 1).isLt
  have hj2 : (j 2).val < 128 := (j 2).isLt
  refine Eq.trans (b := Gen.out0_9 (Gen.iblk m 0 0 t) (Gen.iblk m 0 1 t) (Gen.iblk m 0 2 t) (Gen.iblk m 0 3 t)
      (ix3 0 ⟨(j 1).val, hj1⟩ ⟨(j 2).val, hj2⟩)) ?_ ((block9 m t ⟨(j 2).val, hj2⟩ ⟨(j 1).val, hj1⟩).trans ?_)
  · refine congrArg (Gen.out0_9 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res9 m : S1x512x128.Idx → EReal) ?_
    funext a
    apply Fin.ext
    match a with
    | ⟨0, _⟩ =>
      show 0 = cc0_transform_9 (grid0.coords t) 0 * 1 + 1 * (j 0).val
      rw [show cc0_transform_9 (grid0.coords t) 0 = 0 from congrFun (index9 t) 0]; omega
    | ⟨1, _⟩ =>
      show (j 1).val = cc0_transform_9 (grid0.coords t) 1 * 512 + 1 * (j 1).val
      rw [show cc0_transform_9 (grid0.coords t) 1 = 0 from congrFun (index9 t) 1]; omega
    | ⟨2, _⟩ =>
      show (j 2).val = cc0_transform_9 (grid0.coords t) 2 * 128 + 1 * (j 2).val
      rw [show cc0_transform_9 (grid0.coords t) 2 = 0 from congrFun (index9 t) 2]; omega

/-- Every cell of the result is written at the grid point. -/
theorem covered9 (i : S1x512x128.Idx) : ∃ t : Fin cfg0.N, (cfg0.win 9).flush t = true
    ∧ (i : ((cfg0.win 9).blk t).view.ty.Idx) ∈ ((cfg0.win 9).blk t).view.set := by
  have i0 : (i 0 : Nat) < 1 := (i 0).isLt
  have i1 : (i 1 : Nat) < 512 := (i 1).isLt
  have i2 : (i 2 : Nat) < 128 := (i 2).isLt
  have hN : grid0.N = 1 := Gen.N_0
  obtain ⟨t, hv⟩ : ∃ t : Fin grid0.N, t.val = 0 := ⟨⟨0, by omega⟩, rfl⟩
  refine ⟨t, Gen.flush0_9 _, ?_⟩
  have e : ((cfg0.win 9).blk t).view.emb (ix3 0 ⟨(i 1 : Nat), i1⟩ ⟨(i 2 : Nat), i2⟩ : S1x512x128.Idx) = i := by
    funext a
    apply Fin.ext
    match a with
    | ⟨0, _⟩ =>
      show cc0_transform_9 (grid0.coords t) 0 * 1 + 1 * 0 = (i 0 : Nat)
      rw [show cc0_transform_9 (grid0.coords t) 0 = 0 from congrFun (index9 t) 0]; omega
    | ⟨1, _⟩ =>
      show cc0_transform_9 (grid0.coords t) 1 * 512 + 1 * (i 1 : Nat) = (i 1 : Nat)
      rw [show cc0_transform_9 (grid0.coords t) 1 = 0 from congrFun (index9 t) 1]; omega
    | ⟨2, _⟩ =>
      show cc0_transform_9 (grid0.coords t) 2 * 128 + 1 * (i 2 : Nat) = (i 2 : Nat)
      rw [show cc0_transform_9 (grid0.coords t) 2 = 0 from congrFun (index9 t) 2]; omega
  exact e ▸ View.emb_mem_set ((cfg0.win 9).blk t).view (ix3 0 ⟨(i 1 : Nat), i1⟩ ⟨(i 2 : Nat), i2⟩ : S1x512x128.Idx)

/-- The array ends holding the reference's result 5. -/
theorem final9 : (Gen.dats m 0 0).arrAt 9 cfg0.N = (res9 m : Buf (Elt Ideal) ((cfg0.win 9).arr.view.loc ((0 : Dev nD).tc))) :=
  (Gen.dats m 0 0).arrAt_eq_of_cover 9 (res9 m) (fun t _ => flushed9 m t) covered9

/-- The reference's result 6 of the kernel's arguments. -/
def res10 : S1x512x128.Idx → EReal :=
  Cert.InprojSampleRefIdeal.Read.val_main_v49 (F := Ideal) (m ((0 : Dev nD).tc.loc main_arg0)) (m ((0 : Dev nD).tc.loc main_arg1))
    (m ((0 : Dev nD).tc.loc main_arg2))

/-- An entry of the grid point's block is the entry of the result. -/
theorem block10 (t : Fin grid0.N) (r : Fin 128) (c : Fin 512) :
    Gen.out0_10 (Gen.iblk m 0 0 t) (Gen.iblk m 0 1 t) (Gen.iblk m 0 2 t) (Gen.iblk m 0 3 t) (ix3 0 c r) = res10 m (ix3 0 c r) := by
  refine (out10_apply _ _ _ _ r c).trans (Eq.trans ?_ (ref10 _ _ _ r c).symm)
  exact blkP_eq m 0 t r ⟨1792 + c.val, by omega⟩ (by show 1792 + c.val < 2888; omega)

/-- The write-back of the grid point writes the result. -/
theorem flushed10 (t : Fin cfg0.N) :
    (Gen.dats m 0 0).flushed 10 t = ((cfg0.win 10).blk t).view.read (Elt Ideal) (res10 m) := by
  show (cfg0.win 10).cut (cfg0.grid.coords t) ((Gen.dats m 0 0).after 10 t) = _
  rw [Gen.after0_10]
  refine funext fun (j : S1x512x128.Idx) => ?_
  have hj0 : (j 0).val < 1 := (j 0).isLt
  have hj1 : (j 1).val < 512 := (j 1).isLt
  have hj2 : (j 2).val < 128 := (j 2).isLt
  refine Eq.trans (b := Gen.out0_10 (Gen.iblk m 0 0 t) (Gen.iblk m 0 1 t) (Gen.iblk m 0 2 t) (Gen.iblk m 0 3 t)
      (ix3 0 ⟨(j 1).val, hj1⟩ ⟨(j 2).val, hj2⟩)) ?_ ((block10 m t ⟨(j 2).val, hj2⟩ ⟨(j 1).val, hj1⟩).trans ?_)
  · refine congrArg (Gen.out0_10 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res10 m : S1x512x128.Idx → EReal) ?_
    funext a
    apply Fin.ext
    match a with
    | ⟨0, _⟩ =>
      show 0 = cc0_transform_10 (grid0.coords t) 0 * 1 + 1 * (j 0).val
      rw [show cc0_transform_10 (grid0.coords t) 0 = 0 from congrFun (index10 t) 0]; omega
    | ⟨1, _⟩ =>
      show (j 1).val = cc0_transform_10 (grid0.coords t) 1 * 512 + 1 * (j 1).val
      rw [show cc0_transform_10 (grid0.coords t) 1 = 0 from congrFun (index10 t) 1]; omega
    | ⟨2, _⟩ =>
      show (j 2).val = cc0_transform_10 (grid0.coords t) 2 * 128 + 1 * (j 2).val
      rw [show cc0_transform_10 (grid0.coords t) 2 = 0 from congrFun (index10 t) 2]; omega

/-- Every cell of the result is written at the grid point. -/
theorem covered10 (i : S1x512x128.Idx) : ∃ t : Fin cfg0.N, (cfg0.win 10).flush t = true
    ∧ (i : ((cfg0.win 10).blk t).view.ty.Idx) ∈ ((cfg0.win 10).blk t).view.set := by
  have i0 : (i 0 : Nat) < 1 := (i 0).isLt
  have i1 : (i 1 : Nat) < 512 := (i 1).isLt
  have i2 : (i 2 : Nat) < 128 := (i 2).isLt
  have hN : grid0.N = 1 := Gen.N_0
  obtain ⟨t, hv⟩ : ∃ t : Fin grid0.N, t.val = 0 := ⟨⟨0, by omega⟩, rfl⟩
  refine ⟨t, Gen.flush0_10 _, ?_⟩
  have e : ((cfg0.win 10).blk t).view.emb (ix3 0 ⟨(i 1 : Nat), i1⟩ ⟨(i 2 : Nat), i2⟩ : S1x512x128.Idx) = i := by
    funext a
    apply Fin.ext
    match a with
    | ⟨0, _⟩ =>
      show cc0_transform_10 (grid0.coords t) 0 * 1 + 1 * 0 = (i 0 : Nat)
      rw [show cc0_transform_10 (grid0.coords t) 0 = 0 from congrFun (index10 t) 0]; omega
    | ⟨1, _⟩ =>
      show cc0_transform_10 (grid0.coords t) 1 * 512 + 1 * (i 1 : Nat) = (i 1 : Nat)
      rw [show cc0_transform_10 (grid0.coords t) 1 = 0 from congrFun (index10 t) 1]; omega
    | ⟨2, _⟩ =>
      show cc0_transform_10 (grid0.coords t) 2 * 128 + 1 * (i 2 : Nat) = (i 2 : Nat)
      rw [show cc0_transform_10 (grid0.coords t) 2 = 0 from congrFun (index10 t) 2]; omega
  exact e ▸ View.emb_mem_set ((cfg0.win 10).blk t).view (ix3 0 ⟨(i 1 : Nat), i1⟩ ⟨(i 2 : Nat), i2⟩ : S1x512x128.Idx)

/-- The array ends holding the reference's result 6. -/
theorem final10 : (Gen.dats m 0 0).arrAt 10 cfg0.N = (res10 m : Buf (Elt Ideal) ((cfg0.win 10).arr.view.loc ((0 : Dev nD).tc))) :=
  (Gen.dats m 0 0).arrAt_eq_of_cover 10 (res10 m) (fun t _ => flushed10 m t) covered10

/-- The reference's result 7 of the kernel's arguments. -/
def res11 : S1x64x128.Idx → EReal :=
  Cert.InprojSampleRefIdeal.Read.val_main_v50 (F := Ideal) (m ((0 : Dev nD).tc.loc main_arg0)) (m ((0 : Dev nD).tc.loc main_arg1))
    (m ((0 : Dev nD).tc.loc main_arg2))

/-- An entry of the grid point's block is the entry of the result. -/
theorem block11 (t : Fin grid0.N) (r : Fin 128) (c : Fin 64) :
    Gen.out0_11 (Gen.iblk m 0 0 t) (Gen.iblk m 0 1 t) (Gen.iblk m 0 2 t) (Gen.iblk m 0 3 t) (ix3 0 c r) = res11 m (ix3 0 c r) := by
  refine (out11_apply _ _ _ _ r c).trans (Eq.trans ?_ (ref11 _ _ _ r c).symm)
  exact blkP_eq m 0 t r ⟨2816 + c.val, by omega⟩ (by show 2816 + c.val < 2888; omega)

/-- The write-back of the grid point writes the result. -/
theorem flushed11 (t : Fin cfg0.N) :
    (Gen.dats m 0 0).flushed 11 t = ((cfg0.win 11).blk t).view.read (Elt Ideal) (res11 m) := by
  show (cfg0.win 11).cut (cfg0.grid.coords t) ((Gen.dats m 0 0).after 11 t) = _
  rw [Gen.after0_11]
  refine funext fun (j : S1x64x128.Idx) => ?_
  have hj0 : (j 0).val < 1 := (j 0).isLt
  have hj1 : (j 1).val < 64 := (j 1).isLt
  have hj2 : (j 2).val < 128 := (j 2).isLt
  refine Eq.trans (b := Gen.out0_11 (Gen.iblk m 0 0 t) (Gen.iblk m 0 1 t) (Gen.iblk m 0 2 t) (Gen.iblk m 0 3 t)
      (ix3 0 ⟨(j 1).val, hj1⟩ ⟨(j 2).val, hj2⟩)) ?_ ((block11 m t ⟨(j 2).val, hj2⟩ ⟨(j 1).val, hj1⟩).trans ?_)
  · refine congrArg (Gen.out0_11 (Gen.iblk m 0 0 t) (Gen.iblk m 0 1 t) (Gen.iblk m 0 2 t) (Gen.iblk m 0 3 t)) ?_
    funext a
    apply Fin.ext
    match a with
    | ⟨0, _⟩ => show (j 0).val = 0; omega
    | ⟨1, _⟩ => rfl
    | ⟨2, _⟩ => rfl
  · refine congrArg (res11 m : S1x64x128.Idx → EReal) ?_
    funext a
    apply Fin.ext
    match a with
    | ⟨0, _⟩ =>
      show 0 = cc0_transform_11 (grid0.coords t) 0 * 1 + 1 * (j 0).val
      rw [show cc0_transform_11 (grid0.coords t) 0 = 0 from congrFun (index11 t) 0]; omega
    | ⟨1, _⟩ =>
      show (j 1).val = cc0_transform_11 (grid0.coords t) 1 * 64 + 1 * (j 1).val
      rw [show cc0_transform_11 (grid0.coords t) 1 = 0 from congrFun (index11 t) 1]; omega
    | ⟨2, _⟩ =>
      show (j 2).val = cc0_transform_11 (grid0.coords t) 2 * 128 + 1 * (j 2).val
      rw [show cc0_transform_11 (grid0.coords t) 2 = 0 from congrFun (index11 t) 2]; omega

/-- Every cell of the result is written at the grid point. -/
theorem covered11 (i : S1x64x128.Idx) : ∃ t : Fin cfg0.N, (cfg0.win 11).flush t = true
    ∧ (i : ((cfg0.win 11).blk t).view.ty.Idx) ∈ ((cfg0.win 11).blk t).view.set := by
  have i0 : (i 0 : Nat) < 1 := (i 0).isLt
  have i1 : (i 1 : Nat) < 64 := (i 1).isLt
  have i2 : (i 2 : Nat) < 128 := (i 2).isLt
  have hN : grid0.N = 1 := Gen.N_0
  obtain ⟨t, hv⟩ : ∃ t : Fin grid0.N, t.val = 0 := ⟨⟨0, by omega⟩, rfl⟩
  refine ⟨t, Gen.flush0_11 _, ?_⟩
  have e : ((cfg0.win 11).blk t).view.emb (ix3 0 ⟨(i 1 : Nat), i1⟩ ⟨(i 2 : Nat), i2⟩ : S1x64x128.Idx) = i := by
    funext a
    apply Fin.ext
    match a with
    | ⟨0, _⟩ =>
      show cc0_transform_11 (grid0.coords t) 0 * 1 + 1 * 0 = (i 0 : Nat)
      rw [show cc0_transform_11 (grid0.coords t) 0 = 0 from congrFun (index11 t) 0]; omega
    | ⟨1, _⟩ =>
      show cc0_transform_11 (grid0.coords t) 1 * 64 + 1 * (i 1 : Nat) = (i 1 : Nat)
      rw [show cc0_transform_11 (grid0.coords t) 1 = 0 from congrFun (index11 t) 1]; omega
    | ⟨2, _⟩ =>
      show cc0_transform_11 (grid0.coords t) 2 * 128 + 1 * (i 2 : Nat) = (i 2 : Nat)
      rw [show cc0_transform_11 (grid0.coords t) 2 = 0 from congrFun (index11 t) 2]; omega
  exact e ▸ View.emb_mem_set ((cfg0.win 11).blk t).view (ix3 0 ⟨(i 1 : Nat), i1⟩ ⟨(i 2 : Nat), i2⟩ : S1x64x128.Idx)

/-- The array ends holding the reference's result 7. -/
theorem final11 : (Gen.dats m 0 0).arrAt 11 cfg0.N = (res11 m : Buf (Elt Ideal) ((cfg0.win 11).arr.view.loc ((0 : Dev nD).tc))) :=
  (Gen.dats m 0 0).arrAt_eq_of_cover 11 (res11 m) (fun t _ => flushed11 m t) covered11

/-- The reference's result 8 of the kernel's arguments. -/
def res12 : S128x512.Idx → EReal :=
  Cert.InprojSampleRefIdeal.Read.val_main_v51 (F := Ideal) (m ((0 : Dev nD).tc.loc main_arg0)) (m ((0 : Dev nD).tc.loc main_arg1))
    (m ((0 : Dev nD).tc.loc main_arg2))

/-- An entry of the grid point's block is the entry of the result. -/
theorem block12 (t : Fin grid0.N) (r : Fin 128) (c : Fin 512) :
    Gen.out0_12 (Gen.iblk m 0 0 t) (Gen.iblk m 0 1 t) (Gen.iblk m 0 2 t) (Gen.iblk m 0 3 t) (ix2 r c) = res12 m (ix2 r c) := by
  refine (out12_apply _ _ _ _ r c).trans (Eq.trans ?_ (ref12 _ _ _ r c).symm)
  exact blkP_eq m 0 t r ⟨1280 + c.val, by omega⟩ (by show 1280 + c.val < 2888; omega)

/-- The write-back of the grid point writes the result. -/
theorem flushed12 (t : Fin cfg0.N) :
    (Gen.dats m 0 0).flushed 12 t = ((cfg0.win 12).blk t).view.read (Elt Ideal) (res12 m) := by
  show (cfg0.win 12).cut (cfg0.grid.coords t) ((Gen.dats m 0 0).after 12 t) = _
  rw [Gen.after0_12]
  refine funext fun (j : S128x512.Idx) => ?_
  have hj0 : (j 0).val < 128 := (j 0).isLt
  have hj1 : (j 1).val < 512 := (j 1).isLt
  refine Eq.trans (b := Gen.out0_12 (Gen.iblk m 0 0 t) (Gen.iblk m 0 1 t) (Gen.iblk m 0 2 t) (Gen.iblk m 0 3 t)
      (ix2 ⟨(j 0).val, hj0⟩ ⟨(j 1).val, hj1⟩)) ?_ ((block12 m t ⟨(j 0).val, hj0⟩ ⟨(j 1).val, hj1⟩).trans ?_)
  · refine congrArg (Gen.out0_12 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res12 m : S128x512.Idx → EReal) ?_
    funext a
    apply Fin.ext
    match a with
    | ⟨0, _⟩ =>
      show (j 0).val = cc0_transform_12 (grid0.coords t) 0 * 128 + 1 * (j 0).val
      rw [show cc0_transform_12 (grid0.coords t) 0 = 0 from congrFun (index12 t) 0]; omega
    | ⟨1, _⟩ =>
      show (j 1).val = cc0_transform_12 (grid0.coords t) 1 * 512 + 1 * (j 1).val
      rw [show cc0_transform_12 (grid0.coords t) 1 = 0 from congrFun (index12 t) 1]; omega

/-- Every cell of the result is written at the grid point. -/
theorem covered12 (i : S128x512.Idx) : ∃ t : Fin cfg0.N, (cfg0.win 12).flush t = true
    ∧ (i : ((cfg0.win 12).blk t).view.ty.Idx) ∈ ((cfg0.win 12).blk t).view.set := by
  have i0 : (i 0 : Nat) < 128 := (i 0).isLt
  have i1 : (i 1 : Nat) < 512 := (i 1).isLt
  have hN : grid0.N = 1 := Gen.N_0
  obtain ⟨t, hv⟩ : ∃ t : Fin grid0.N, t.val = 0 := ⟨⟨0, by omega⟩, rfl⟩
  refine ⟨t, Gen.flush0_12 _, ?_⟩
  have e : ((cfg0.win 12).blk t).view.emb (ix2 ⟨(i 0 : Nat), i0⟩ ⟨(i 1 : Nat), i1⟩ : S128x512.Idx) = i := by
    funext a
    apply Fin.ext
    match a with
    | ⟨0, _⟩ =>
      show cc0_transform_12 (grid0.coords t) 0 * 128 + 1 * (i 0 : Nat) = (i 0 : Nat)
      rw [show cc0_transform_12 (grid0.coords t) 0 = 0 from congrFun (index12 t) 0]; omega
    | ⟨1, _⟩ =>
      show cc0_transform_12 (grid0.coords t) 1 * 512 + 1 * (i 1 : Nat) = (i 1 : Nat)
      rw [show cc0_transform_12 (grid0.coords t) 1 = 0 from congrFun (index12 t) 1]; omega
  exact e ▸ View.emb_mem_set ((cfg0.win 12).blk t).view (ix2 ⟨(i 0 : Nat), i0⟩ ⟨(i 1 : Nat), i1⟩ : S128x512.Idx)

/-- The array ends holding the reference's result 8. -/
theorem final12 : (Gen.dats m 0 0).arrAt 12 cfg0.N = (res12 m : Buf (Elt Ideal) ((cfg0.win 12).arr.view.loc ((0 : Dev nD).tc))) :=
  (Gen.dats m 0 0).arrAt_eq_of_cover 12 (res12 m) (fun t _ => flushed12 m t) covered12

/-- The reference's result 9 of the kernel's arguments. -/
def res13 : S128x512.Idx → EReal :=
  Cert.InprojSampleRefIdeal.Read.val_main_v52 (F := Ideal) (m ((0 : Dev nD).tc.loc main_arg0)) (m ((0 : Dev nD).tc.loc main_arg1))
    (m ((0 : Dev nD).tc.loc main_arg2))

/-- An entry of the grid point's block is the entry of the result. -/
theorem block13 (t : Fin grid0.N) (r : Fin 128) (c : Fin 512) :
    Gen.out0_13 (Gen.iblk m 0 0 t) (Gen.iblk m 0 1 t) (Gen.iblk m 0 2 t) (Gen.iblk m 0 3 t) (ix2 r c) = res13 m (ix2 r c) := by
  refine (out13_apply _ _ _ _ r c).trans (Eq.trans ?_ (ref13 _ _ _ r c).symm)
  exact blkP_eq m 0 t r ⟨1792 + c.val, by omega⟩ (by show 1792 + c.val < 2888; omega)

/-- The write-back of the grid point writes the result. -/
theorem flushed13 (t : Fin cfg0.N) :
    (Gen.dats m 0 0).flushed 13 t = ((cfg0.win 13).blk t).view.read (Elt Ideal) (res13 m) := by
  show (cfg0.win 13).cut (cfg0.grid.coords t) ((Gen.dats m 0 0).after 13 t) = _
  rw [Gen.after0_13]
  refine funext fun (j : S128x512.Idx) => ?_
  have hj0 : (j 0).val < 128 := (j 0).isLt
  have hj1 : (j 1).val < 512 := (j 1).isLt
  refine Eq.trans (b := Gen.out0_13 (Gen.iblk m 0 0 t) (Gen.iblk m 0 1 t) (Gen.iblk m 0 2 t) (Gen.iblk m 0 3 t)
      (ix2 ⟨(j 0).val, hj0⟩ ⟨(j 1).val, hj1⟩)) ?_ ((block13 m t ⟨(j 0).val, hj0⟩ ⟨(j 1).val, hj1⟩).trans ?_)
  · refine congrArg (Gen.out0_13 (Gen.iblk m 0 0 t) (Gen.iblk m 0 1 t) (Gen.iblk m 0 2 t) (Gen.iblk m 0 3 t)) ?_
    funext a
    apply Fin.ext
    match a with
    | ⟨0, _⟩ => rfl
    | ⟨1, _⟩ => rfl
  · refine congrArg (res13 m : S128x512.Idx → EReal) ?_
    funext a
    apply Fin.ext
    match a with
    | ⟨0, _⟩ =>
      show (j 0).val = cc0_transform_13 (grid0.coords t) 0 * 128 + 1 * (j 0).val
      rw [show cc0_transform_13 (grid0.coords t) 0 = 0 from congrFun (index13 t) 0]; omega
    | ⟨1, _⟩ =>
      show (j 1).val = cc0_transform_13 (grid0.coords t) 1 * 512 + 1 * (j 1).val
      rw [show cc0_transform_13 (grid0.coords t) 1 = 0 from congrFun (index13 t) 1]; omega

/-- Every cell of the result is written at the grid point. -/
theorem covered13 (i : S128x512.Idx) : ∃ t : Fin cfg0.N, (cfg0.win 13).flush t = true
    ∧ (i : ((cfg0.win 13).blk t).view.ty.Idx) ∈ ((cfg0.win 13).blk t).view.set := by
  have i0 : (i 0 : Nat) < 128 := (i 0).isLt
  have i1 : (i 1 : Nat) < 512 := (i 1).isLt
  have hN : grid0.N = 1 := Gen.N_0
  obtain ⟨t, hv⟩ : ∃ t : Fin grid0.N, t.val = 0 := ⟨⟨0, by omega⟩, rfl⟩
  refine ⟨t, Gen.flush0_13 _, ?_⟩
  have e : ((cfg0.win 13).blk t).view.emb (ix2 ⟨(i 0 : Nat), i0⟩ ⟨(i 1 : Nat), i1⟩ : S128x512.Idx) = i := by
    funext a
    apply Fin.ext
    match a with
    | ⟨0, _⟩ =>
      show cc0_transform_13 (grid0.coords t) 0 * 128 + 1 * (i 0 : Nat) = (i 0 : Nat)
      rw [show cc0_transform_13 (grid0.coords t) 0 = 0 from congrFun (index13 t) 0]; omega
    | ⟨1, _⟩ =>
      show cc0_transform_13 (grid0.coords t) 1 * 512 + 1 * (i 1 : Nat) = (i 1 : Nat)
      rw [show cc0_transform_13 (grid0.coords t) 1 = 0 from congrFun (index13 t) 1]; omega
  exact e ▸ View.emb_mem_set ((cfg0.win 13).blk t).view (ix2 ⟨(i 0 : Nat), i0⟩ ⟨(i 1 : Nat), i1⟩ : S128x512.Idx)

/-- The array ends holding the reference's result 9. -/
theorem final13 : (Gen.dats m 0 0).arrAt 13 cfg0.N = (res13 m : Buf (Elt Ideal) ((cfg0.win 13).arr.view.loc ((0 : Dev nD).tc))) :=
  (Gen.dats m 0 0).arrAt_eq_of_cover 13 (res13 m) (fun t _ => flushed13 m t) covered13

/-- The kernel's run: its results are the reference's, its arguments are unchanged. -/
theorem kernel_run : θ_run defs (onTc (τ := τ) (main (F := Ideal))) ⟨m, fun _ => 0, ρ⟩ (fun r => ∀ c : Dev nD,
      r.2.mem ((c.tc : Thread nD τ).loc main_v5_0) = (fun _ : Dev nD => (res4 m : Buf (Elt Ideal) ((c.tc : Thread nD τ).loc main_v5_0))) c ∧
      r.2.mem ((c.tc : Thread nD τ).loc main_v5_1) = (fun _ : Dev nD => (res5 m : Buf (Elt Ideal) ((c.tc : Thread nD τ).loc main_v5_1))) c ∧
      r.2.mem ((c.tc : Thread nD τ).loc main_v5_2) = (fun _ : Dev nD => (res6 m : Buf (Elt Ideal) ((c.tc : Thread nD τ).loc main_v5_2))) c ∧
      r.2.mem ((c.tc : Thread nD τ).loc main_v5_3) = (fun _ : Dev nD => (res7 m : Buf (Elt Ideal) ((c.tc : Thread nD τ).loc main_v5_3))) c ∧
      r.2.mem ((c.tc : Thread nD τ).loc main_v5_4) = (fun _ : Dev nD => (res8 m : Buf (Elt Ideal) ((c.tc : Thread nD τ).loc main_v5_4))) c ∧
      r.2.mem ((c.tc : Thread nD τ).loc main_v5_5) = (fun _ : Dev nD => (res9 m : Buf (Elt Ideal) ((c.tc : Thread nD τ).loc main_v5_5))) c ∧
      r.2.mem ((c.tc : Thread nD τ).loc main_v5_6) = (fun _ : Dev nD => (res10 m : Buf (Elt Ideal) ((c.tc : Thread nD τ).loc main_v5_6))) c ∧
      r.2.mem ((c.tc : Thread nD τ).loc main_v5_7) = (fun _ : Dev nD => (res11 m : Buf (Elt Ideal) ((c.tc : Thread nD τ).loc main_v5_7))) c ∧
      r.2.mem ((c.tc : Thread nD τ).loc main_v5_8) = (fun _ : Dev nD => (res12 m : Buf (Elt Ideal) ((c.tc : Thread nD τ).loc main_v5_8))) c ∧
      r.2.mem ((c.tc : Thread nD τ).loc main_v5_9) = (fun _ : Dev nD => (res13 m : Buf (Elt Ideal) ((c.tc : Thread nD τ).loc main_v5_9))) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain rfl : c = 0 := Subsingleton.elim _ _
    refine ⟨(((h.1 0).1 4).trans (final4 m) : _), (((h.1 0).1 5).trans (final5 m) : _), (((h.1 0).1 6).trans (final6 m) : _), (((h.1 0).1 7).trans (final7 m) : _), (((h.1 0).1 8).trans (final8 m) : _), (((h.1 0).1 9).trans (final9 m) : _), (((h.1 0).1 10).trans (final10 m) : _), (((h.1 0).1 11).trans (final11 m) : _), (((h.1 0).1 12).trans (final12 m) : _), (((h.1 0).1 13).trans (final13 m) : _), ?_⟩
    exact h.2 0) (θ_run_and (Gen.run_main m ρ) (Gen.unchanged m ρ))

end Cert.Proof.Ips

end
-- ==== Proof.IpsClaims.lean ====
/- The claims about the sample batch's input projection: the two kernels' frames, the reference's, and the equality of the idealized
   kernel and the reference. -/
module

public import proofs.«01_k».proof.Defs
public import proofs.«01_k».proof.Proof.Gen.InprojSample.Frame
public import proofs.«01_k».proof.Proof.IpsFinal
public import proofs.«01_k».proof.Proof.Gen.InprojSampleRefIdeal.Run
public import Idealize.ShloMosaic.Lib.Claim
public import Idealize.ShloMosaic.Adequacy
public import Idealize.ShloMosaic.Init

@[expose] public section

set_option maxRecDepth 16384

noncomputable section

namespace Cert.Proof.Ips

open Idealize Idealize.ShloMosaic Idealize.SL.Sem

theorem frame_bits : Cert.quiescent_InprojSample := fun m g _ => Cert.InprojSample.Gen.frame m g

theorem frame_ideal : Cert.quiescent_InprojSampleIdeal := fun m g _ => Cert.InprojSampleIdeal.Gen.frame m g

theorem frame_ref : Cert.quiescent_InprojSampleRefIdeal := fun m g _ =>
  (θ_run Cert.InprojSampleRefIdeal.defs _ _).mono
    (fun r h => ⟨fun c => (h c).2.2.2.2.2.2.2.2.2.2, sem_eq_zero_of_no_sems (by decide) r.2⟩)
    (Cert.InprojSampleRefIdeal.Value.run (F := Ideal) m g)

/-- The idealized kernel names the scale of the query. -/
theorem preserves : Cert.preserves_InprojSample_InprojSampleIdeal :=
  IdealRules.named_const.statement Cert.InprojSampleIdeal.κ "q_scale" .f32 0x3E38AA3B#32 (((1 / 8) * (Real.log 2)⁻¹ : ℝ) : EReal) rfl

variable (m : (ℓ : Loc Cert.InprojSampleIdeal.nD Cert.InprojSampleIdeal.τ Cert.InprojSampleIdeal.sig) → Buf (Elt Ideal) ℓ)
  (a0 : FVec Ideal Cert.InprojSampleIdeal.S128x1x1024 .f32) (a1 : FVec Ideal Cert.InprojSampleIdeal.S128x9216 .f32)
  (a2 : FVec Ideal Cert.InprojSampleIdeal.S4x1024x2888 .f32)

/-- The reference's result 0 of equal arguments. -/
theorem ref_res4 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v41 (F := Ideal) a0 a1 a2 = res4 m := by
  subst e0 e1 e2
  rfl

/-- The reference's result 1 of equal arguments. -/
theorem ref_res5 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v42 (F := Ideal) a0 a1 a2 = res5 m := by
  subst e0 e1 e2
  rfl

/-- The reference's result 2 of equal arguments. -/
theorem ref_res6 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v44 (F := Ideal) a0 a1 a2 = res6 m := by
  subst e0 e1 e2
  rfl

/-- The reference's result 3 of equal arguments. -/
theorem ref_res7 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v46 (F := Ideal) a0 a1 a2 = res7 m := by
  subst e0 e1 e2
  rfl

/-- The reference's result 4 of equal arguments. -/
theorem ref_res8 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v47 (F := Ideal) a0 a1 a2 = res8 m := by
  subst e0 e1 e2
  rfl

/-- The reference's result 5 of equal arguments. -/
theorem ref_res9 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v48 (F := Ideal) a0 a1 a2 = res9 m := by
  subst e0 e1 e2
  rfl

/-- The reference's result 6 of equal arguments. -/
theorem ref_res10 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v49 (F := Ideal) a0 a1 a2 = res10 m := by
  subst e0 e1 e2
  rfl

/-- The reference's result 7 of equal arguments. -/
theorem ref_res11 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v50 (F := Ideal) a0 a1 a2 = res11 m := by
  subst e0 e1 e2
  rfl

/-- The reference's result 8 of equal arguments. -/
theorem ref_res12 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v51 (F := Ideal) a0 a1 a2 = res12 m := by
  subst e0 e1 e2
  rfl

/-- The reference's result 9 of equal arguments. -/
theorem ref_res13 (e0 : a0 = m ((0 : Dev Cert.InprojSampleIdeal.nD).tc.loc Cert.InprojSampleIdeal.main_arg0)) (e1 : a1 = m ((0 : Dev Cert.InprojSampleIdeal.nD).tc.loc Cert.InprojSampleIdeal.main_arg1))
    (e2 : a2 = m ((0 : Dev Cert.InprojSampleIdeal.nD).tc.loc Cert.InprojSampleIdeal.main_arg2)) :
    Cert.InprojSampleRefIdeal.Read.val_main_v52 (F := Ideal) a0 a1 a2 = res13 m := by
  subst e0 e1 e2
  rfl

theorem algebraic : Cert.algebraic_InprojSampleIdeal_InprojSampleRefIdeal := fun m g m' g' _ e =>
  ⟨fun _ => res4 m, fun _ => res5 m, fun _ => res6 m, fun _ => res7 m, fun _ => res8 m, fun _ => res9 m, fun _ => res10 m, fun _ => res11 m, fun _ => res12 m, fun _ => res13 m, kernel_run m g,
    (θ_run Cert.InprojSampleRefIdeal.defs _ _).mono (fun r hr c => by
      obtain rfl : c = 0 := Subsingleton.elim _ _
      obtain ⟨h4, h5, h6, h7, h8, h9, h10, h11, h12, h13, ha⟩ := hr 0
      obtain ⟨e0, e1, e2⟩ := e 0
      exact ⟨(h4.trans (Cert.InprojSampleRefIdeal.Read.val_main_v41_eq _ _ _)).trans (ref_res4 m _ _ _ e0 e1 e2),
        (h5.trans (Cert.InprojSampleRefIdeal.Read.val_main_v42_eq _ _ _)).trans (ref_res5 m _ _ _ e0 e1 e2),
        (h6.trans (Cert.InprojSampleRefIdeal.Read.val_main_v44_eq _ _ _)).trans (ref_res6 m _ _ _ e0 e1 e2),
        (h7.trans (Cert.InprojSampleRefIdeal.Read.val_main_v46_eq _ _ _)).trans (ref_res7 m _ _ _ e0 e1 e2),
        (h8.trans (Cert.InprojSampleRefIdeal.Read.val_main_v47_eq _ _ _)).trans (ref_res8 m _ _ _ e0 e1 e2),
        (h9.trans (Cert.InprojSampleRefIdeal.Read.val_main_v48_eq _ _ _)).trans (ref_res9 m _ _ _ e0 e1 e2),
        (h10.trans (Cert.InprojSampleRefIdeal.Read.val_main_v49_eq _ _ _)).trans (ref_res10 m _ _ _ e0 e1 e2),
        (h11.trans (Cert.InprojSampleRefIdeal.Read.val_main_v50_eq _ _ _)).trans (ref_res11 m _ _ _ e0 e1 e2),
        (h12.trans (Cert.InprojSampleRefIdeal.Read.val_main_v51_eq _ _ _)).trans (ref_res12 m _ _ _ e0 e1 e2),
        (h13.trans (Cert.InprojSampleRefIdeal.Read.val_main_v52_eq _ _ _)).trans (ref_res13 m _ _ _ e0 e1 e2), ha⟩)
      (Cert.InprojSampleRefIdeal.Value.run (F := Ideal) m' g')⟩

end Cert.Proof.Ips

end
-- ==== Proof.MxHost.lean ====
module

public import proofs.«01_k».proof.Proof.Gen.MixoutSampleIdeal.Frame
public import Idealize.ShloMosaic.Lib.StableHlo.ReadAt
public import Idealize.ShloMosaic.Lib.Routing.OpsOne
public import Idealize.ShloMosaic.Lib.Pointwise

@[expose] public section

set_option maxRecDepth 16384

noncomputable section

/-! # What the host operations hand to the mixer's output kernel of the sample batch, read at an index -/

namespace Cert.Proof.Mx

open Idealize.ShloMosaic Idealize.SL.Sem Cert.MixoutSampleIdeal

variable (m : (ℓ : Loc nD τ sig) → Buf (Elt Ideal) ℓ) (c : Dev nD)

/-- The new rows of the convolution. -/
theorem host_v (r : Fin 128) (k : Fin 256) :
    (Gen.V m c main_v0 : Vec Ideal S128x256 .f32) (ix2 r k)
      = (m (c.tc.loc main_arg1) : Vec Ideal S128x1x256 .f32) (ix3 r 0 k) := by
  unfold Gen.V
  after_reads_at

/-- The new rows of the pooling. -/
theorem host_u (r : Fin 128) (k : Fin 256) :
    (Gen.V m c main_v1 : Vec Ideal S128x256 .f32) (ix2 r k)
      = (m (c.tc.loc main_arg2) : Vec Ideal S128x1x256 .f32) (ix3 r 0 k) := by
  unfold Gen.V
  after_reads_at

/-- The state of the convolution, step-major. -/
theorem host_st (a : Fin 4) (j : Fin 30) (r : Fin 128) (k : Fin 256) :
    (Gen.V m c main_v2 : Vec Ideal S4x30x128x256 .f32) (ix4 a j r k)
      = (m (c.tc.loc main_arg5) : Vec Ideal S4x128x30x256 .f32) (ix4 a r j k) := by
  unfold Gen.V
  after_reads_at

/-- The state of the pooling, step-major. -/
theorem host_p (a : Fin 4) (j : Fin 15) (r : Fin 128) (k : Fin 256) :
    (Gen.V m c main_v3 : Vec Ideal S4x15x128x256 .f32) (ix4 a j r k)
      = (m (c.tc.loc main_arg6) : Vec Ideal S4x128x15x256 .f32) (ix4 a r j k) := by
  unfold Gen.V
  after_reads_at

/-- The rows of the input. -/
theorem host_x (r : Fin 128) (k : Fin 1024) :
    (Gen.V m c main_v12 : Vec Ideal S128x1024 .f32) (ix2 r k)
      = (m (c.tc.loc main_arg0) : Vec Ideal S128x1x1024 .f32) (ix3 r 0 k) := by
  unfold Gen.V
  after_reads_at

/-- The rows of the attention. -/
theorem host_ya (r : Fin 128) (k : Fin 512) :
    (Gen.V m c main_v13 : Vec Ideal S128x512 .bf16) (ix2 r k)
      = (m (c.tc.loc main_arg3) : Vec Ideal S128x1x512 .bf16) (ix3 r 0 k) := by
  unfold Gen.V
  after_reads_at

/-- The modulation rows. -/
theorem host_mod (b : Fin 128) (k : Fin 9216) :
    (Gen.V m c main_v14 : Vec Ideal S1x128x9216 .f32) (ix3 0 b k)
      = (m (c.tc.loc main_arg4) : Vec Ideal S128x9216 .f32) (ix2 b k) := by
  unfold Gen.V
  after_reads_at

/-- The offset of the convolution. -/
theorem host_b (k : Fin 256) :
    (Gen.V m c main_v20 : Vec Ideal S1x256 .f32) (ix2 0 k)
      = (m (c.tc.loc main_arg8) : Vec Ideal S4x256 .f32) (ix2 3 k) := by
  unfold Gen.V
  after_reads_at

/-- The scale of the convolution's normalisation. -/
theorem host_gc (k : Fin 256) :
    (Gen.V m c main_v23 : Vec Ideal S1x256 .f32) (ix2 0 k)
      = (m (c.tc.loc main_arg9) : Vec Ideal S4x256 .f32) (ix2 3 k) := by
  unfold Gen.V
  after_reads_at

/-- The offset of the convolution's normalisation. -/
theorem host_bc (k : Fin 256) :
    (Gen.V m c main_v26 : Vec Ideal S1x256 .f32) (ix2 0 k)
      = (m (c.tc.loc main_arg10) : Vec Ideal S4x256 .f32) (ix2 3 k) := by
  unfold Gen.V
  after_reads_at

/-- The scale of the pooling. -/
theorem host_s (k : Fin 256) :
    (Gen.V m c main_v57 : Vec Ideal S1x256 .f32) (ix2 0 k)
      = (m (c.tc.loc main_arg12) : Vec Ideal S4x256 .f32) (ix2 3 k) := by
  unfold Gen.V
  after_reads_at

/-- The output weights. -/
theorem host_wo (a : Fin 4) (f : Fin 1024) (k : Fin 1024) :
    (Gen.V m c main_v58 : Vec Ideal S4x1024x1024 .bf16) (ix3 a f k)
      = (m (c.tc.loc main_arg13) : Vec Ideal S4x1024x1024 .f32) (ix3 a f k) := by
  unfold Gen.V
  after_reads_at

/-- The scale of the normalisation. -/
theorem host_lng (k : Fin 1024) :
    (Gen.V m c main_v61 : Vec Ideal S1x1024 .f32) (ix2 0 k)
      = (m (c.tc.loc main_arg14) : Vec Ideal S4x3x1024 .f32) (ix3 3 1 k) := by
  unfold Gen.V
  after_reads_at

/-- The offset of the normalisation. -/
theorem host_lnb (k : Fin 1024) :
    (Gen.V m c main_v64 : Vec Ideal S1x1024 .f32) (ix2 0 k)
      = (m (c.tc.loc main_arg15) : Vec Ideal S4x3x1024 .f32) (ix3 3 1 k) := by
  unfold Gen.V
  after_reads_at

/-- The weights of the convolution: the rows before the padding. -/
theorem host_w (j : Fin 31) (k : Fin 256) :
    (Gen.V m c main_v17 : Vec Ideal S32x256 .f32) (ix2 ⟨j.val, by omega⟩ k) = (m (c.tc.loc main_arg7) : Vec Ideal S4x31x256 .f32) (ix3 3 j k) := by
  unfold Gen.V
  after_reads_at

/-- Entry `(a, b)` of a block lands at the two start words plus `(a, b)`. -/
theorem lands_block (idx : IVec S2 32) (a b : Fin 64) (r c : Fin 256) :
    scatter_S256x256_S2_S64x64_01_n_01_0.resultIdx? (ix2 a b) idx = some (ix2 r c)
      ↔ (idx (ix1 (0 : Fin 2))).toInt + (a.val : Int) = r.val ∧ (idx (ix1 (1 : Fin 2))).toInt + (b.val : Int) = c.val := by
  have h0 : scatter_S256x256_S2_S64x64_01_n_01_0.window (ix2 a b) 0 = a.val := rfl
  have h1 : scatter_S256x256_S2_S64x64_01_n_01_0.window (ix2 a b) 1 = b.val := rfl
  have e := Routing.resultIdx?_ix2 scatter_S256x256_S2_S64x64_01_n_01_0 (ix2 a b) idx r c
  refine e.trans ?_
  rw [Routing.start_pair scatter_S256x256_S2_S64x64_01_n_01_0 rfl rfl, Routing.start_pair scatter_S256x256_S2_S64x64_01_n_01_0 rfl rfl, h0, h1]
  rfl

/-- A block scattered onto the diagonal, read at an entry. -/
theorem scatter_block (x0 : S256x256.Idx → EReal) (idx : IVec S2 32) (upd : S64x64.Idx → EReal) (g : Fin 4)
    (h0 : (idx (ix1 (0 : Fin 2))).toInt = 64 * g.val) (h1 : (idx (ix1 (1 : Fin 2))).toInt = 64 * g.val) (r c : Fin 256) :
    Host.scatter scatter_S256x256_S2_S64x64_01_n_01_0 (fun _ b => b) x0 idx upd (ix2 r c)
      = if r.val / 64 = g.val ∧ c.val / 64 = g.val then upd (ix2 ⟨r.val % 64, by omega⟩ ⟨c.val % 64, by omega⟩) else x0 (ix2 r c) := by
  have lands : ∀ j : S64x64.Idx, scatter_S256x256_S2_S64x64_01_n_01_0.resultIdx? j idx = some (ix2 r c)
      → 64 * g.val + (j 0).val = r.val ∧ 64 * g.val + (j 1).val = c.val := fun j hj => by
    have e : j = ix2 (j 0) (j 1) := by funext q; match q with | ⟨0, _⟩ => rfl | ⟨1, _⟩ => rfl
    have := (lands_block idx (j 0) (j 1) r c).1 ((congrArg (fun t => scatter_S256x256_S2_S64x64_01_n_01_0.resultIdx? t idx) e).symm.trans hj)
    omega
  by_cases h : r.val / 64 = g.val ∧ c.val / 64 = g.val
  · rw [if_pos h]
    refine Routing.scatter_set_hit _ x0 idx upd _ _ (fun j hj => congrArg upd ?_) (ix2 ⟨r.val % 64, by omega⟩ ⟨c.val % 64, by omega⟩)
      ((lands_block idx _ _ r c).2 ⟨by rw [h0]; show (64 * g.val : Int) + ((r.val % 64 : Nat) : Int) = r.val; omega,
        by rw [h1]; show (64 * g.val : Int) + ((c.val % 64 : Nat) : Int) = c.val; omega⟩)
    have hl := lands j hj
    have b0 : (j 0).val < 64 := (j 0).isLt
    have b1 : (j 1).val < 64 := (j 1).isLt
    funext q
    apply Fin.ext
    match q with
    | ⟨0, _⟩ => show (j 0).val = r.val % 64; omega
    | ⟨1, _⟩ => show (j 1).val = c.val % 64; omega
  · rw [if_neg h]
    refine Routing.scatter_set_miss _ x0 idx upd _ fun j hj => h ?_
    have hl := lands j hj
    have b0 : (j 0).val < 64 := (j 0).isLt
    have b1 : (j 1).val < 64 := (j 1).isLt
    omega

/-- The new state of the convolution. -/
theorem host_cs (j : Fin 30) (r : Fin 128) (k : Fin 256) :
    (Gen.V m c main_v7 : Vec Ideal S30x128x256 .f32) (ix3 j r k)
      = if h : j.val < 29 then (m (c.tc.loc main_arg5) : Vec Ideal S4x128x30x256 .f32) (ix4 3 r ⟨1 + j.val, by omega⟩ k)
        else (m (c.tc.loc main_arg1) : Vec Ideal S128x1x256 .f32) (ix3 r 0 k) := by
  unfold Gen.V
  after_reads_at

/-- The new state of the pooling. -/
theorem host_ps (j : Fin 15) (r : Fin 128) (k : Fin 256) :
    (Gen.V m c main_v11 : Vec Ideal S15x128x256 .f32) (ix3 j r k)
      = if h : j.val < 14 then (m (c.tc.loc main_arg6) : Vec Ideal S4x128x15x256 .f32) (ix4 3 r ⟨1 + j.val, by omega⟩ k)
        else (m (c.tc.loc main_arg2) : Vec Ideal S128x1x256 .f32) (ix3 r 0 k) := by
  unfold Gen.V
  after_reads_at

/-- The pooling weights lie in diagonal blocks. -/
theorem host_wp (r k : Fin 256) :
    (Gen.V m c main_v54 : Vec Ideal S256x256 .bf16) (ix2 r k)
      = if r.val / 64 = k.val / 64 then (m (c.tc.loc main_arg11) : Vec Ideal S4x4x64x64 .f32)
          (ix4 3 ⟨k.val / 64, by omega⟩ ⟨r.val % 64, by omega⟩ ⟨k.val % 64, by omega⟩) else (0 : EReal) := by
  unfold Gen.V
  after_reads_at
  have w : ∀ (x : IVec S2 32) (q : Fin 2) (g : Fin 4), x (ix1 q) = BitVec.ofNat 32 (64 * g.val) → (x (ix1 q)).toInt = 64 * g.val :=
    fun x q g h => by rw [h]; fin_cases g <;> rfl
  refine (scatter_block _ _ _ 3 (w _ 0 3 ?_) (w _ 1 3 ?_) r k).trans ?_
  · after_reads_at
  · after_reads_at
  refine Eq.trans (if_congr Iff.rfl rfl (scatter_block _ _ _ 2 (w _ 0 2 ?_) (w _ 1 2 ?_) r k)) ?_
  · after_reads_at
  · after_reads_at
  refine Eq.trans (if_congr Iff.rfl rfl (if_congr Iff.rfl rfl (scatter_block _ _ _ 1 (w _ 0 1 ?_) (w _ 1 1 ?_) r k))) ?_
  · after_reads_at
  · after_reads_at
  refine Eq.trans (if_congr Iff.rfl rfl (if_congr Iff.rfl rfl (if_congr Iff.rfl rfl (scatter_block _ _ _ 0 (w _ 0 0 ?_) (w _ 1 0 ?_) r k)))) ?_
  · after_reads_at
  · after_reads_at
  have z : (broadcastInDim S256x256 ![] Gen.bcast_S_S256x256 (constant S_ FTy.f32 0#32) : FVec Ideal S256x256 .f32) (ix2 r k) = 0 := by
    show Ideal.ofBits .f32 0#32 = 0
    simp [Ideal.ofBits, Ideal.ieee]
  have hr : r.val < 256 := r.isLt
  have hk : k.val < 256 := k.isLt
  have e0 : (r.val / 64 = (0 : Fin 4).val ∧ k.val / 64 = (0 : Fin 4).val) ↔ r.val / 64 = 0 ∧ k.val / 64 = 0 := Iff.rfl
  have e1 : (r.val / 64 = (1 : Fin 4).val ∧ k.val / 64 = (1 : Fin 4).val) ↔ r.val / 64 = 1 ∧ k.val / 64 = 1 := Iff.rfl
  have e2 : (r.val / 64 = (2 : Fin 4).val ∧ k.val / 64 = (2 : Fin 4).val) ↔ r.val / 64 = 2 ∧ k.val / 64 = 2 := Iff.rfl
  have e3 : (r.val / 64 = (3 : Fin 4).val ∧ k.val / 64 = (3 : Fin 4).val) ↔ r.val / 64 = 3 ∧ k.val / 64 = 3 := Iff.rfl
  have q : ∀ g : Fin 4, k.val / 64 = g.val → (m (c, Proc.tc.devRef main_arg11) : Vec Ideal S4x4x64x64 .f32) (ix4 3 g ⟨r.val % 64, by omega⟩ ⟨k.val % 64, by omega⟩)
      = (m (c.tc.loc main_arg11) : Vec Ideal S4x4x64x64 .f32) (ix4 3 ⟨k.val / 64, by omega⟩ ⟨r.val % 64, by omega⟩ ⟨k.val % 64, by omega⟩) := fun g h =>
    congrArg (fun g => (m (c.tc.loc main_arg11) : Vec Ideal S4x4x64x64 .f32) (ix4 3 g ⟨r.val % 64, by omega⟩ ⟨k.val % 64, by omega⟩)) (Fin.ext h.symm)
  rw [z]
  simp only [e0, e1, e2, e3]
  split_ifs with a3 h a2 h a1 h a0 h
  · exact q 3 a3.2
  · omega
  · exact q 2 a2.2
  · omega
  · exact q 1 a1.2
  · omega
  · exact q 0 a0.2
  · omega
  · omega
  · rfl

end Cert.Proof.Mx

end
-- ==== Proof.MxBlocks.lean ====
module

public import proofs.«01_k».proof.Proof.MxHost

@[expose] public section

set_option maxRecDepth 16384

noncomputable section

/-! # The blocks the mixer's output kernel of the sample batch reads, as entries of the arguments -/

namespace Cert.Proof.Mx

open Idealize Idealize.ShloMosaic Idealize.SL.Sem Cert.MixoutSampleIdeal

variable (m : (ℓ : Loc nD τ sig) → Buf (Elt Ideal) ℓ) (c : Dev nD)

theorem index0 : ∀ (t : Fin grid0.N), cc0_transform_0 (grid0.coords t) = ![0, 0] := by decide +kernel
theorem index1 : ∀ (t : Fin grid0.N), cc0_transform_1 (grid0.coords t) = ![0, 0] := by decide +kernel
theorem index2 : ∀ (t : Fin grid0.N), cc0_transform_2 (grid0.coords t) = ![0, 0] := by decide +kernel
theorem index3 : ∀ (t : Fin grid0.N), cc0_transform_3 (grid0.coords t) = ![0, 0] := by decide +kernel
theorem index4 : ∀ (t : Fin grid0.N), cc0_transform_4 (grid0.coords t) = ![3, 0, 0, 0] := by decide +kernel
theorem index5 : ∀ (t : Fin grid0.N), cc0_transform_5 (grid0.coords t) = ![3, 0, 0, 0] := by decide +kernel
theorem index6 : ∀ (t : Fin grid0.N), cc0_transform_6 (grid0.coords t) = ![0, 0] := by decide +kernel
theorem index7 : ∀ (t : Fin grid0.N), cc0_transform_7 (grid0.coords t) = ![0, 0] := by decide +kernel
theorem index8 : ∀ (t : Fin grid0.N), cc0_transform_8 (grid0.coords t) = ![0, 0] := by decide +kernel
theorem index9 : ∀ (t : Fin grid0.N), cc0_transform_9 (grid0.coords t) = ![0, 0] := by decide +kernel
theorem index10 : ∀ (t : Fin grid0.N), cc0_transform_10 (grid0.coords t) = ![0, 0] := by decide +kernel
theorem index11 : ∀ (t : Fin grid0.N), cc0_transform_11 (grid0.coords t) = ![0, 0] := by decide +kernel
theorem index12 : ∀ (t : Fin grid0.N), cc0_transform_12 (grid0.coords t) = ![3, 0, 0] := by decide +kernel
theorem index13 : ∀ (t : Fin grid0.N), cc0_transform_13 (grid0.coords t) = ![0, 0, 5] := by decide +kernel
theorem index14 : ∀ (t : Fin grid0.N), cc0_transform_14 (grid0.coords t) = ![0, 0] := by decide +kernel
theorem index15 : ∀ (t : Fin grid0.N), cc0_transform_15 (grid0.coords t) = ![0, 0] := by decide +kernel
theorem index16 : ∀ (t : Fin grid0.N), cc0_transform_16 (grid0.coords t) = ![0, 0] := by decide +kernel

/-- The rows of the input. -/
theorem blk_x (t : Fin grid0.N) (r : Fin 128) (k : Fin 1024) :
    (Gen.iblk m c 0 t : Vec Ideal S128x1024 .f32) (ix2 r k) = (m (c.tc.loc main_arg0) : Vec Ideal S128x1x1024 .f32) (ix3 r 0 k) := by
  refine (?_ : _ = (Gen.V m c main_v12 : Vec Ideal S128x1024 .f32) (ix2 r k)).trans (host_x m c r k)
  unfold Gen.iblk
  refine congrArg (Gen.V m c main_v12 : S128x1024.Idx → EReal) ?_
  funext a
  apply Fin.ext
  match a with
  | ⟨0, _⟩ =>
    show cc0_transform_0 (grid0.coords t) 0 * 128 + 1 * r.val = r.val
    rw [show cc0_transform_0 (grid0.coords t) 0 = 0 from congrFun (index0 t) 0]; omega
  | ⟨1, _⟩ =>
    show cc0_transform_0 (grid0.coords t) 1 * 1024 + 1 * k.val = k.val
    rw [show cc0_transform_0 (grid0.coords t) 1 = 0 from congrFun (index0 t) 1]; omega

/-- The new rows of the convolution. -/
theorem blk_v (t : Fin grid0.N) (r : Fin 128) (k : Fin 256) :
    (Gen.iblk m c 1 t : Vec Ideal S128x256 .f32) (ix2 r k) = (m (c.tc.loc main_arg1) : Vec Ideal S128x1x256 .f32) (ix3 r 0 k) := by
  refine (?_ : _ = (Gen.V m c main_v0 : Vec Ideal S128x256 .f32) (ix2 r k)).trans (host_v m c r k)
  unfold Gen.iblk
  refine congrArg (Gen.V m c main_v0 : S128x256.Idx → EReal) ?_
  funext a
  apply Fin.ext
  match a with
  | ⟨0, _⟩ =>
    show cc0_transform_1 (grid0.coords t) 0 * 128 + 1 * r.val = r.val
    rw [show cc0_transform_1 (grid0.coords t) 0 = 0 from congrFun (index1 t) 0]; omega
  | ⟨1, _⟩ =>
    show cc0_transform_1 (grid0.coords t) 1 * 256 + 1 * k.val = k.val
    rw [show cc0_transform_1 (grid0.coords t) 1 = 0 from congrFun (index1 t) 1]; omega

/-- The new rows of the pooling. -/
theorem blk_u (t : Fin grid0.N) (r : Fin 128) (k : Fin 256) :
    (Gen.iblk m c 2 t : Vec Ideal S128x256 .f32) (ix2 r k) = (m (c.tc.loc main_arg2) : Vec Ideal S128x1x256 .f32) (ix3 r 0 k) := by
  refine (?_ : _ = (Gen.V m c main_v1 : Vec Ideal S128x256 .f32) (ix2 r k)).trans (host_u m c r k)
  unfold Gen.iblk
  refine congrArg (Gen.V m c main_v1 : S128x256.Idx → EReal) ?_
  funext a
  apply Fin.ext
  match a with
  | ⟨0, _⟩ =>
    show cc0_transform_2 (grid0.coords t) 0 * 128 + 1 * r.val = r.val
    rw [show cc0_transform_2 (grid0.coords t) 0 = 0 from congrFun (index2 t) 0]; omega
  | ⟨1, _⟩ =>
    show cc0_transform_2 (grid0.coords t) 1 * 256 + 1 * k.val = k.val
    rw [show cc0_transform_2 (grid0.coords t) 1 = 0 from congrFun (index2 t) 1]; omega

/-- The rows of the attention. -/
theorem blk_ya (t : Fin grid0.N) (r : Fin 128) (k : Fin 512) :
    (Gen.iblk m c 3 t : Vec Ideal S128x512 .bf16) (ix2 r k) = (m (c.tc.loc main_arg3) : Vec Ideal S128x1x512 .bf16) (ix3 r 0 k) := by
  refine (?_ : _ = (Gen.V m c main_v13 : Vec Ideal S128x512 .bf16) (ix2 r k)).trans (host_ya m c r k)
  unfold Gen.iblk
  refine congrArg (Gen.V m c main_v13 : S128x512.Idx → EReal) ?_
  funext a
  apply Fin.ext
  match a with
  | ⟨0, _⟩ =>
    show cc0_transform_3 (grid0.coords t) 0 * 128 + 1 * r.val = r.val
    rw [show cc0_transform_3 (grid0.coords t) 0 = 0 from congrFun (index3 t) 0]; omega
  | ⟨1, _⟩ =>
    show cc0_transform_3 (grid0.coords t) 1 * 512 + 1 * k.val = k.val
    rw [show cc0_transform_3 (grid0.coords t) 1 = 0 from congrFun (index3 t) 1]; omega

/-- The state of the convolution. -/
theorem blk_st (t : Fin grid0.N) (j : Fin 30) (r : Fin 128) (k : Fin 256) :
    (Gen.iblk m c 4 t : Vec Ideal S1x30x128x256 .f32) (ix4 0 j r k) = (m (c.tc.loc main_arg5) : Vec Ideal S4x128x30x256 .f32) (ix4 3 r j k) := by
  refine (?_ : _ = (Gen.V m c main_v2 : Vec Ideal S4x30x128x256 .f32) (ix4 3 j r k)).trans (host_st m c 3 j r k)
  unfold Gen.iblk
  refine congrArg (Gen.V m c main_v2 : S4x30x128x256.Idx → EReal) ?_
  funext a
  apply Fin.ext
  match a with
  | ⟨0, _⟩ =>
    show cc0_transform_4 (grid0.coords t) 0 * 1 + 1 * 0 = 3
    rw [show cc0_transform_4 (grid0.coords t) 0 = 3 from congrFun (index4 t) 0]
  | ⟨1, _⟩ =>
    show cc0_transform_4 (grid0.coords t) 1 * 30 + 1 * j.val = j.val
    rw [show cc0_transform_4 (grid0.coords t) 1 = 0 from congrFun (index4 t) 1]; omega
  | ⟨2, _⟩ =>
    show cc0_transform_4 (grid0.coords t) 2 * 128 + 1 * r.val = r.val
    rw [show cc0_transform_4 (grid0.coords t) 2 = 0 from congrFun (index4 t) 2]; omega
  | ⟨3, _⟩ =>
    show cc0_transform_4 (grid0.coords t) 3 * 256 + 1 * k.val = k.val
    rw [show cc0_transform_4 (grid0.coords t) 3 = 0 from congrFun (index4 t) 3]; omega

/-- The state of the pooling. -/
theorem blk_p (t : Fin grid0.N) (j : Fin 15) (r : Fin 128) (k : Fin 256) :
    (Gen.iblk m c 5 t : Vec Ideal S1x15x128x256 .f32) (ix4 0 j r k) = (m (c.tc.loc main_arg6) : Vec Ideal S4x128x15x256 .f32) (ix4 3 r j k) := by
  refine (?_ : _ = (Gen.V m c main_v3 : Vec Ideal S4x15x128x256 .f32) (ix4 3 j r k)).trans (host_p m c 3 j r k)
  unfold Gen.iblk
  refine congrArg (Gen.V m c main_v3 : S4x15x128x256.Idx → EReal) ?_
  funext a
  apply Fin.ext
  match a with
  | ⟨0, _⟩ =>
    show cc0_transform_5 (grid0.coords t) 0 * 1 + 1 * 0 = 3
    rw [show cc0_transform_5 (grid0.coords t) 0 = 3 from congrFun (index5 t) 0]
  | ⟨1, _⟩ =>
    show cc0_transform_5 (grid0.coords t) 1 * 15 + 1 * j.val = j.val
    rw [show cc0_transform_5 (grid0.coords t) 1 = 0 from congrFun (index5 t) 1]; omega
  | ⟨2, _⟩ =>
    show cc0_transform_5 (grid0.coords t) 2 * 128 + 1 * r.val = r.val
    rw [show cc0_transform_5 (grid0.coords t) 2 = 0 from congrFun (index5 t) 2]; omega
  | ⟨3, _⟩ =>
    show cc0_transform_5 (grid0.coords t) 3 * 256 + 1 * k.val = k.val
    rw [show cc0_transform_5 (grid0.coords t) 3 = 0 from congrFun (index5 t) 3]; omega

/-- The weights of the convolution. -/
theorem blk_w (t : Fin grid0.N) (j : Fin 31) (k : Fin 256) :
    (Gen.iblk m c 6 t : Vec Ideal S32x256 .f32) (ix2 ⟨j.val, by omega⟩ k) = (m (c.tc.loc main_arg7) : Vec Ideal S4x31x256 .f32) (ix3 3 j k) := by
  refine (?_ : _ = (Gen.V m c main_v17 : Vec Ideal S32x256 .f32) (ix2 ⟨j.val, by omega⟩ k)).trans (host_w m c j k)
  unfold Gen.iblk
  refine congrArg (Gen.V m c main_v17 : S32x256.Idx → EReal) ?_
  funext a
  apply Fin.ext
  match a with
  | ⟨0, _⟩ =>
    show cc0_transform_6 (grid0.coords t) 0 * 32 + 1 * j.val = j.val
    rw [show cc0_transform_6 (grid0.coords t) 0 = 0 from congrFun (index6 t) 0]; omega
  | ⟨1, _⟩ =>
    show cc0_transform_6 (grid0.coords t) 1 * 256 + 1 * k.val = k.val
    rw [show cc0_transform_6 (grid0.coords t) 1 = 0 from congrFun (index6 t) 1]; omega

/-- The offset of the convolution. -/
theorem blk_b (t : Fin grid0.N) (k : Fin 256) :
    (Gen.iblk m c 7 t : Vec Ideal S1x256 .f32) (ix2 0 k) = (m (c.tc.loc main_arg8) : Vec Ideal S4x256 .f32) (ix2 3 k) := by
  refine (?_ : _ = (Gen.V m c main_v20 : Vec Ideal S1x256 .f32) (ix2 0 k)).trans (host_b m c k)
  unfold Gen.iblk
  refine congrArg (Gen.V m c main_v20 : S1x256.Idx → EReal) ?_
  funext a
  apply Fin.ext
  match a with
  | ⟨0, _⟩ =>
    show cc0_transform_7 (grid0.coords t) 0 * 1 + 1 * 0 = 0
    rw [show cc0_transform_7 (grid0.coords t) 0 = 0 from congrFun (index7 t) 0]
  | ⟨1, _⟩ =>
    show cc0_transform_7 (grid0.coords t) 1 * 256 + 1 * k.val = k.val
    rw [show cc0_transform_7 (grid0.coords t) 1 = 0 from congrFun (index7 t) 1]; omega

/-- The scale of the convolution's normalisation. -/
theorem blk_gc (t : Fin grid0.N) (k : Fin 256) :
    (Gen.iblk m c 8 t : Vec Ideal S1x256 .f32) (ix2 0 k) = (m (c.tc.loc main_arg9) : Vec Ideal S4x256 .f32) (ix2 3 k) := by
  refine (?_ : _ = (Gen.V m c main_v23 : Vec Ideal S1x256 .f32) (ix2 0 k)).trans (host_gc m c k)
  unfold Gen.iblk
  refine congrArg (Gen.V m c main_v23 : S1x256.Idx → EReal) ?_
  funext a
  apply Fin.ext
  match a with
  | ⟨0, _⟩ =>
    show cc0_transform_8 (grid0.coords t) 0 * 1 + 1 * 0 = 0
    rw [show cc0_transform_8 (grid0.coords t) 0 = 0 from congrFun (index8 t) 0]
  | ⟨1, _⟩ =>
    show cc0_transform_8 (grid0.coords t) 1 * 256 + 1 * k.val = k.val
    rw [show cc0_transform_8 (grid0.coords t) 1 = 0 from congrFun (index8 t) 1]; omega

/-- The offset of the convolution's normalisation. -/
theorem blk_bc (t : Fin grid0.N) (k : Fin 256) :
    (Gen.iblk m c 9 t : Vec Ideal S1x256 .f32) (ix2 0 k) = (m (c.tc.loc main_arg10) : Vec Ideal S4x256 .f32) (ix2 3 k) := by
  refine (?_ : _ = (Gen.V m c main_v26 : Vec Ideal S1x256 .f32) (ix2 0 k)).trans (host_bc m c k)
  unfold Gen.iblk
  refine congrArg (Gen.V m c main_v26 : S1x256.Idx → EReal) ?_
  funext a
  apply Fin.ext
  match a with
  | ⟨0, _⟩ =>
    show cc0_transform_9 (grid0.coords t) 0 * 1 + 1 * 0 = 0
    rw [show cc0_transform_9 (grid0.coords t) 0 = 0 from congrFun (index9 t) 0]
  | ⟨1, _⟩ =>
    show cc0_transform_9 (grid0.coords t) 1 * 256 + 1 * k.val = k.val
    rw [show cc0_transform_9 (grid0.coords t) 1 = 0 from congrFun (index9 t) 1]; omega

/-- The scale of the pooling. -/
theorem blk_s (t : Fin grid0.N) (k : Fin 256) :
    (Gen.iblk m c 11 t : Vec Ideal S1x256 .f32) (ix2 0 k) = (m (c.tc.loc main_arg12) : Vec Ideal S4x256 .f32) (ix2 3 k) := by
  refine (?_ : _ = (Gen.V m c main_v57 : Vec Ideal S1x256 .f32) (ix2 0 k)).trans (host_s m c k)
  unfold Gen.iblk
  refine congrArg (Gen.V m c main_v57 : S1x256.Idx → EReal) ?_
  funext a
  apply Fin.ext
  match a with
  | ⟨0, _⟩ =>
    show cc0_transform_11 (grid0.coords t) 0 * 1 + 1 * 0 = 0
    rw [show cc0_transform_11 (grid0.coords t) 0 = 0 from congrFun (index11 t) 0]
  | ⟨1, _⟩ =>
    show cc0_transform_11 (grid0.coords t) 1 * 256 + 1 * k.val = k.val
    rw [show cc0_transform_11 (grid0.coords t) 1 = 0 from congrFun (index11 t) 1]; omega

/-- The pooling weights in diagonal blocks. -/
theorem blk_wp (t : Fin grid0.N) (r k : Fin 256) :
    (Gen.iblk m c 10 t : Vec Ideal S256x256 .bf16) (ix2 r k) = if r.val / 64 = k.val / 64 then (m (c.tc.loc main_arg11) : Vec Ideal S4x4x64x64 .f32)
          (ix4 3 ⟨k.val / 64, by omega⟩ ⟨r.val % 64, by omega⟩ ⟨k.val % 64, by omega⟩) else (0 : EReal) := by
  refine (?_ : _ = (Gen.V m c main_v54 : Vec Ideal S256x256 .bf16) (ix2 r k)).trans (host_wp m c r k)
  unfold Gen.iblk
  refine congrArg (Gen.V m c main_v54 : S256x256.Idx → EReal) ?_
  funext a
  apply Fin.ext
  match a with
  | ⟨0, _⟩ =>
    show cc0_transform_10 (grid0.coords t) 0 * 256 + 1 * r.val = r.val
    rw [show cc0_transform_10 (grid0.coords t) 0 = 0 from congrFun (index10 t) 0]; omega
  | ⟨1, _⟩ =>
    show cc0_transform_10 (grid0.coords t) 1 * 256 + 1 * k.val = k.val
    rw [show cc0_transform_10 (grid0.coords t) 1 = 0 from congrFun (index10 t) 1]; omega

/-- The output weights. -/
theorem blk_wo (t : Fin grid0.N) (f k : Fin 1024) :
    (Gen.iblk m c 12 t : Vec Ideal S1x1024x1024 .bf16) (ix3 0 f k) = (m (c.tc.loc main_arg13) : Vec Ideal S4x1024x1024 .f32) (ix3 3 f k) := by
  refine (?_ : _ = (Gen.V m c main_v58 : Vec Ideal S4x1024x1024 .bf16) (ix3 3 f k)).trans (host_wo m c 3 f k)
  unfold Gen.iblk
  refine congrArg (Gen.V m c main_v58 : S4x1024x1024.Idx → EReal) ?_
  funext a
  apply Fin.ext
  match a with
  | ⟨0, _⟩ =>
    show cc0_transform_12 (grid0.coords t) 0 * 1 + 1 * 0 = 3
    rw [show cc0_transform_12 (grid0.coords t) 0 = 3 from congrFun (index12 t) 0]
  | ⟨1, _⟩ =>
    show cc0_transform_12 (grid0.coords t) 1 * 1024 + 1 * f.val = f.val
    rw [show cc0_transform_12 (grid0.coords t) 1 = 0 from congrFun (index12 t) 1]; omega
  | ⟨2, _⟩ =>
    show cc0_transform_12 (grid0.coords t) 2 * 1024 + 1 * k.val = k.val
    rw [show cc0_transform_12 (grid0.coords t) 2 = 0 from congrFun (index12 t) 2]; omega

/-- The gate. -/
theorem blk_g (t : Fin grid0.N) (r : Fin 128) (k : Fin 1024) :
    (Gen.iblk m c 13 t : Vec Ideal S1x128x1024 .f32) (ix3 0 r k) = (m (c.tc.loc main_arg4) : Vec Ideal S128x9216 .f32) (ix2 r ⟨5120 + k.val, by omega⟩) := by
  refine (?_ : _ = (Gen.V m c main_v14 : Vec Ideal S1x128x9216 .f32) (ix3 0 r ⟨5120 + k.val, by omega⟩)).trans (host_mod m c r ⟨5120 + k.val, by omega⟩)
  unfold Gen.iblk
  refine congrArg (Gen.V m c main_v14 : S1x128x9216.Idx → EReal) ?_
  funext a
  apply Fin.ext
  match a with
  | ⟨0, _⟩ =>
    show cc0_transform_13 (grid0.coords t) 0 * 1 + 1 * 0 = 0
    rw [show cc0_transform_13 (grid0.coords t) 0 = 0 from congrFun (index13 t) 0]
  | ⟨1, _⟩ =>
    show cc0_transform_13 (grid0.coords t) 1 * 128 + 1 * r.val = r.val
    rw [show cc0_transform_13 (grid0.coords t) 1 = 0 from congrFun (index13 t) 1]; omega
  | ⟨2, _⟩ =>
    show cc0_transform_13 (grid0.coords t) 2 * 1024 + 1 * k.val = 5120 + k.val
    rw [show cc0_transform_13 (grid0.coords t) 2 = 5 from congrFun (index13 t) 2]; omega

/-- The scale of the normalisation. -/
theorem blk_lng (t : Fin grid0.N) (k : Fin 1024) :
    (Gen.iblk m c 14 t : Vec Ideal S1x1024 .f32) (ix2 0 k) = (m (c.tc.loc main_arg14) : Vec Ideal S4x3x1024 .f32) (ix3 3 1 k) := by
  refine (?_ : _ = (Gen.V m c main_v61 : Vec Ideal S1x1024 .f32) (ix2 0 k)).trans (host_lng m c k)
  unfold Gen.iblk
  refine congrArg (Gen.V m c main_v61 : S1x1024.Idx → EReal) ?_
  funext a
  apply Fin.ext
  match a with
  | ⟨0, _⟩ =>
    show cc0_transform_14 (grid0.coords t) 0 * 1 + 1 * 0 = 0
    rw [show cc0_transform_14 (grid0.coords t) 0 = 0 from congrFun (index14 t) 0]
  | ⟨1, _⟩ =>
    show cc0_transform_14 (grid0.coords t) 1 * 1024 + 1 * k.val = k.val
    rw [show cc0_transform_14 (grid0.coords t) 1 = 0 from congrFun (index14 t) 1]; omega

/-- The offset of the normalisation. -/
theorem blk_lnb (t : Fin grid0.N) (k : Fin 1024) :
    (Gen.iblk m c 15 t : Vec Ideal S1x1024 .f32) (ix2 0 k) = (m (c.tc.loc main_arg15) : Vec Ideal S4x3x1024 .f32) (ix3 3 1 k) := by
  refine (?_ : _ = (Gen.V m c main_v64 : Vec Ideal S1x1024 .f32) (ix2 0 k)).trans (host_lnb m c k)
  unfold Gen.iblk
  refine congrArg (Gen.V m c main_v64 : S1x1024.Idx → EReal) ?_
  funext a
  apply Fin.ext
  match a with
  | ⟨0, _⟩ =>
    show cc0_transform_15 (grid0.coords t) 0 * 1 + 1 * 0 = 0
    rw [show cc0_transform_15 (grid0.coords t) 0 = 0 from congrFun (index15 t) 0]
  | ⟨1, _⟩ =>
    show cc0_transform_15 (grid0.coords t) 1 * 1024 + 1 * k.val = k.val
    rw [show cc0_transform_15 (grid0.coords t) 1 = 0 from congrFun (index15 t) 1]; omega

end Cert.Proof.Mx

end
-- ==== Proof.MxRow.lean ====
module

public import proofs.«01_k».proof.Proof.FfBody

@[expose] public section

set_option maxRecDepth 16384

noncomputable section

/-! # One row of the mixers, the output projection and the normalisation, in the words both programs meet at -/

namespace Cert.Proof.Mx

open Idealize.ShloMosaic Cert.Proof.Ff

/-- The mean of a row of 256. -/
def mean256 (y : Fin 256 → EReal) : EReal := Ideal.div (∑ k, y k) (Ideal.ofBits FTy.f32 0x43800000#32)

/-- The normalised row of 256. -/
def norm256 (y g b : Fin 256 → EReal) (c : Fin 256) : EReal :=
  (y c - mean256 y) * Ideal.rsqrt (Ideal.div (∑ k, (y k - mean256 y) * (y k - mean256 y)) (Ideal.ofBits FTy.f32 0x43800000#32)
    + Ideal.ofBits FTy.f32 925353388#32) * g c + b c

/-- The convolution of the last 30 rows and the new one. -/
def convRow (st : Fin 30 → Fin 256 → EReal) (v : Fin 256 → EReal) (w : Fin 31 → Fin 256 → EReal) (b : Fin 256 → EReal)
    (c : Fin 256) : EReal := (∑ j : Fin 30, st j c * w ⟨j.val, by omega⟩ c) + v c * w 30 c + b c

/-- The convolution mixer. -/
def convOut (y g b : Fin 256 → EReal) (c : Fin 256) : EReal := norm256 y g b c * Ideal.logistic (norm256 y g b c)

/-- The window of a lane. -/
def winN (c : Fin 256) : ℕ := 2 * 2 ^ (c.val / 64)

/-- The sum over a lane's window of the last 15 rows and the new one. -/
def winSum (p : Fin 15 → Fin 256 → EReal) (u : Fin 256 → EReal) (c : Fin 256) : EReal :=
  u c + ∑ j : Fin 15, p j c * (if 15 - j.val < winN c then (1 : EReal) else 0)

/-- The window's mean less the new row. -/
def poolRow (p : Fin 15 → Fin 256 → EReal) (u : Fin 256 → EReal) (c : Fin 256) : EReal :=
  Ideal.div (winSum p u c) (FloatOps.sitofp (F := Ideal) FTy.f32 (BitVec.ofNat 32 (winN c))) - u c

/-- The pooling mixer: each group of 64 lanes through its own weights. -/
def poolOut (d : Fin 256 → EReal) (w : Fin 4 → Fin 64 → Fin 64 → EReal) (s : Fin 256 → EReal) (c : Fin 256) : EReal :=
  (∑ k : Fin 64, d ⟨64 * (c.val / 64) + k.val, by omega⟩ * w ⟨c.val / 64, by omega⟩ k ⟨c.val % 64, by omega⟩) * s c

/-- The three mixers side by side. -/
def catRow (yc yp : Fin 256 → EReal) (ya : Fin 512 → EReal) (k : Fin 1024) : EReal :=
  if h : k.val < 256 then yc ⟨k.val, h⟩ else if h' : k.val < 512 then yp ⟨k.val - 256, by omega⟩ else ya ⟨k.val - 512, by omega⟩

/-- The residual sum. -/
def sumRow (x g : Fin 1024 → EReal) (y : Fin 1024 → EReal) (w : Fin 1024 → Fin 1024 → EReal) (c : Fin 1024) : EReal :=
  Ideal.ofBits FTy.f32 0x3FD744FD#32 * x c + g c * ∑ k, y k * w k c

/-- The whole layer step on one row. -/
def mixRow (x g : Fin 1024 → EReal) (st : Fin 30 → Fin 256 → EReal) (v : Fin 256 → EReal) (w : Fin 31 → Fin 256 → EReal)
    (b gc bc : Fin 256 → EReal) (p : Fin 15 → Fin 256 → EReal) (u : Fin 256 → EReal) (wp : Fin 4 → Fin 64 → Fin 64 → EReal)
    (s : Fin 256 → EReal) (ya : Fin 512 → EReal) (wo : Fin 1024 → Fin 1024 → EReal) (lng lnb : Fin 1024 → EReal)
    (c : Fin 1024) : EReal :=
  normRow (sumRow x g (catRow (convOut (convRow st v w b) gc bc) (poolOut (poolRow p u) wp s) ya) wo) lng lnb c

/-- A left fold of additions is the start plus the sum. -/
theorem foldl_add {ι : Type} (l : List ι) (f : ι → EReal) (a : EReal) : l.foldl (fun r i => r + f i) a = a + (l.map f).sum := by
  induction l generalizing a with
  | nil => simp
  | cons i l ih => rw [List.foldl_cons, ih, List.map_cons, List.sum_cons, add_assoc]

theorem foldl_finRange (n : ℕ) (f : Fin n → EReal) (a : EReal) :
    (List.finRange n).foldl (fun r i => r + f i) a = a + ∑ i, f i := by
  rw [foldl_add, Fin.sum_univ_def]

/-- The convolution summed in the kernel's order. -/
theorem conv_order (st : Fin 30 → Fin 256 → EReal) (v : Fin 256 → EReal) (w : Fin 31 → Fin 256 → EReal) (b : Fin 256 → EReal)
    (c : Fin 256) : (List.finRange 30).foldl (fun r j => r + st j c * w ⟨j.val, by omega⟩ c) (b c + v c * w 30 c)
      = convRow st v w b c := by
  rw [foldl_finRange]
  unfold convRow
  ac_rfl

/-- The convolution summed over the 31 rows. -/
theorem conv_all (e : Fin 31 → Fin 256 → EReal) (w : Fin 31 → Fin 256 → EReal) (b : Fin 256 → EReal) (c : Fin 256) :
    (∑ j, e j c * w j c) + b c = convRow (fun j => e ⟨j.val, by omega⟩) (e 30) w b c := by
  rw [Fin.sum_univ_castSucc]
  rfl

/-- A block diagonal product is the group's product. -/
theorem block_diag (d : Fin 256 → EReal) (w : Fin 4 → Fin 64 → Fin 64 → EReal) (W : Fin 256 → Fin 256 → EReal)
    (hW : ∀ k c : Fin 256, W k c = if k.val / 64 = c.val / 64 then w ⟨c.val / 64, by omega⟩ ⟨k.val % 64, by omega⟩ ⟨c.val % 64, by omega⟩ else 0)
    (s : Fin 256 → EReal) (c : Fin 256) : (∑ k, d k * W k c) * s c = poolOut d w s c := by
  unfold poolOut
  refine congrArg (· * s c) ?_
  rw [← (finProdFinEquiv (m := 4) (n := 64)).sum_comp (fun k : Fin 256 => d k * W k c), Fintype.sum_prod_type,
    Finset.sum_eq_single (⟨c.val / 64, by omega⟩ : Fin 4)]
  · refine Finset.sum_congr rfl fun k _ => ?_
    have hk := k.isLt
    have e1 : ((finProdFinEquiv (m := 4) (n := 64) (⟨c.val / 64, by omega⟩, k) : Fin (4 * 64)) : ℕ) = k.val + 64 * (c.val / 64) := rfl
    rw [hW, if_pos (by rw [e1]; omega)]
    refine congrArg₂ (· * ·) (congrArg d (Fin.ext (e1.trans (by show _ = 64 * (c.val / 64) + k.val; omega)))) (congrArg (fun q => w _ q _) (Fin.ext ?_))
    show ((finProdFinEquiv (m := 4) (n := 64) (⟨c.val / 64, by omega⟩, k) : Fin (4 * 64)) : ℕ) % 64 = k.val
    rw [e1]; omega
  · intro g _ hg
    refine Finset.sum_eq_zero fun k _ => ?_
    have hk := k.isLt
    have e1 : ((finProdFinEquiv (m := 4) (n := 64) (g, k) : Fin (4 * 64)) : ℕ) = k.val + 64 * g.val := rfl
    rw [hW, if_neg (by rw [e1]; intro h; exact hg (Fin.ext (by show g.val = c.val / 64; omega))), mul_zero]
  · intro h; exact absurd (Finset.mem_univ _) h

/-- A sum of reals, as extended reals. -/
theorem coe_sum {n : ℕ} (f : Fin n → ℝ) : ((∑ i, f i : ℝ) : EReal) = ∑ i, (f i : EReal) :=
  map_sum (⟨⟨fun r : ℝ => (r : EReal), EReal.coe_zero⟩, EReal.coe_add⟩ : ℝ →+ EReal) f Finset.univ

/-- A difference of running sums is the window's sum, where the rows before the window are real numbers. -/
theorem win_eq (p : Fin 15 → Fin 256 → EReal) (u : Fin 256 → EReal) (c : Fin 256) (hp : ∀ j, ∃ r : ℝ, p j c = (r : EReal))
    (e : Fin 16 → EReal) (he : ∀ j : Fin 15, e ⟨j.val, by omega⟩ = p j c) (hu : e 15 = u c) (n : ℕ) (hn : n + winN c = 16) :
    (∑ i, e i) - (∑ i : Fin 16, if i.val < n then e i else 0) = winSum p u c := by
  choose q hq using hp
  have h1 : (∑ i : Fin 16, if i.val < n then e i else 0) = ((∑ j : Fin 15, if j.val < n then q j else 0 : ℝ) : EReal) := by
    rw [Fin.sum_univ_castSucc, if_neg (by show ¬ (15 < n); have : 1 ≤ winN c := Nat.mul_pos (by decide) (Nat.pow_pos (by decide)); omega), add_zero, coe_sum]
    refine Finset.sum_congr rfl fun j _ => ?_
    show (if j.val < n then e ⟨j.val, by omega⟩ else 0) = _
    rw [he, hq]
    split <;> simp
  have h2 : (∑ i, e i) = winSum p u c + ((∑ j : Fin 15, if j.val < n then q j else 0 : ℝ) : EReal) := by
    rw [Fin.sum_univ_castSucc, coe_sum]
    unfold winSum
    rw [add_assoc, ← Finset.sum_add_distrib, add_comm]
    refine congrArg₂ (· + ·) hu (Finset.sum_congr rfl fun j _ => ?_)
    refine (he j).trans ?_
    have hj := j.isLt
    rw [hq]
    by_cases h : j.val < n
    · rw [if_neg (by omega), if_pos h, mul_zero, zero_add]
    · rw [if_pos (by omega), if_neg h, mul_one]; simp
  rw [h2, h1]
  exact EReal.add_sub_cancel_right

end Cert.Proof.Mx

end
-- ==== Proof.MxBody.lean ====
module

public import proofs.«01_k».proof.Proof.MxRow
public import proofs.«01_k».proof.Proof.Gen.MixoutSampleIdeal.Frame
public import Idealize.ShloMosaic.Lib.Pipeline.Value
public import Idealize.ShloMosaic.Lib.Pointwise
public import Idealize.ShloMosaic.PureOps.Ideal.Laws

@[expose] public section

set_option maxRecDepth 16384

noncomputable section

/-! # One row of the sample batch's mixers and output projection, as the kernel computes it -/

namespace Cert.Proof.Mx

open Idealize.ShloMosaic Idealize.ShloMosaic.TcCoe Cert.MixoutSampleIdeal Cert.MixoutSampleIdeal.Gen
open Idealize.ShloMosaic.Pointwise Cert.Proof.Ff

/-- A flag as a float. -/
def onE (w : BitVec 32) (n : BitVec 32) : EReal := FloatOps.sitofp (F := Ideal) FTy.f32 (BitVec.setWidth 32 (IntOp.cmpi .sgt w n))

theorem pay3_apply (v2 v6 v14 v21 v28 : Vec Ideal S1x256 .f32) (v4 : Vec Ideal S128x256 .f32) (v12 v19 v26 : Vec Ideal S1x1x128x256 .f32) (r : Fin 128) (c : Fin 256) :
    k0_pay3 v2 v4 v6 v12 v14 v19 v21 v26 v28 (ix2 r c) = v2 (ix2 0 c) + v4 (ix2 r c) * v6 (ix2 0 c) + v12 (ix4 0 0 r c) * v14 (ix2 0 c) + v19 (ix4 0 0 r c) * v21 (ix2 0 c) + v26 (ix4 0 0 r c) * v28 (ix2 0 c) := by
  unfold k0_pay3
  pointwise

theorem pay4_apply (v32 : FVec Ideal S128x256 .f32) (v33 v40 v47 v54 : Vec Ideal S1x1x128x256 .f32) (v35 v42 v49 v56 : Vec Ideal S1x256 .f32) (r : Fin 128) (c : Fin 256) :
    k0_pay4 v32 v33 v35 v40 v42 v47 v49 v54 v56 (ix2 r c) = v32 (ix2 r c) + v33 (ix4 0 0 r c) * v35 (ix2 0 c) + v40 (ix4 0 0 r c) * v42 (ix2 0 c) + v47 (ix4 0 0 r c) * v49 (ix2 0 c) + v54 (ix4 0 0 r c) * v56 (ix2 0 c) := by
  unfold k0_pay4
  pointwise

theorem pay6_apply (v60 v62 : FVec Ideal S128x256 .f32) (v63 v70 v77 v84 v91 : Vec Ideal S1x256 .f32) (v68 v75 v82 v89 : Vec Ideal S1x1x128x256 .f32) (r : Fin 128) (c : Fin 256) :
    k0_pay6 v60 v62 v63 v68 v70 v75 v77 v82 v84 v89 v91 (ix2 r c) = v60 (ix2 r c) + v62 (ix2 r c) * v63 (ix2 0 c) + v68 (ix4 0 0 r c) * v70 (ix2 0 c) + v75 (ix4 0 0 r c) * v77 (ix2 0 c) + v82 (ix4 0 0 r c) * v84 (ix2 0 c) + v89 (ix4 0 0 r c) * v91 (ix2 0 c) := by
  unfold k0_pay6
  pointwise

theorem pay7_apply (v95 : FVec Ideal S128x256 .f32) (v96 v103 v110 v117 : Vec Ideal S1x1x128x256 .f32) (v98 v105 v112 v119 : Vec Ideal S1x256 .f32) (r : Fin 128) (c : Fin 256) :
    k0_pay7 v95 v96 v98 v103 v105 v110 v112 v117 v119 (ix2 r c) = v95 (ix2 r c) + v96 (ix4 0 0 r c) * v98 (ix2 0 c) + v103 (ix4 0 0 r c) * v105 (ix2 0 c) + v110 (ix4 0 0 r c) * v112 (ix2 0 c) + v117 (ix4 0 0 r c) * v119 (ix2 0 c) := by
  unfold k0_pay7
  pointwise

theorem pay10_apply (v123 v125 v128 : FVec Ideal S128x256 .f32) (v131 v138 v145 v152 : Vec Ideal S1x1x128x256 .f32) (v133 v140 v147 v154 : Vec Ideal S1x256 .f32) (r : Fin 128) (c : Fin 256) :
    k0_pay10 v123 v125 v128 v131 v133 v138 v140 v145 v147 v152 v154 (ix2 r c) = v123 (ix2 r c) + v125 (ix2 r c) * v128 (ix2 r c) + v131 (ix4 0 0 r c) * v133 (ix2 0 c) + v138 (ix4 0 0 r c) * v140 (ix2 0 c) + v145 (ix4 0 0 r c) * v147 (ix2 0 c) + v152 (ix4 0 0 r c) * v154 (ix2 0 c) := by
  unfold k0_pay10
  pointwise

theorem pay12_apply (v158 v160 : FVec Ideal S128x256 .f32) (v161 v168 v175 v182 v189 : Vec Ideal S1x256 .f32) (v166 v173 v180 v187 : Vec Ideal S1x1x128x256 .f32) (r : Fin 128) (c : Fin 256) :
    k0_pay12 v158 v160 v161 v166 v168 v173 v175 v180 v182 v187 v189 (ix2 r c) = v158 (ix2 r c) + v160 (ix2 r c) * v161 (ix2 0 c) + v166 (ix4 0 0 r c) * v168 (ix2 0 c) + v173 (ix4 0 0 r c) * v175 (ix2 0 c) + v180 (ix4 0 0 r c) * v182 (ix2 0 c) + v187 (ix4 0 0 r c) * v189 (ix2 0 c) := by
  unfold k0_pay12
  pointwise

theorem pay13_apply (v193 : FVec Ideal S128x256 .f32) (v194 v201 v208 v215 : Vec Ideal S1x1x128x256 .f32) (v196 v203 v210 v217 : Vec Ideal S1x256 .f32) (r : Fin 128) (c : Fin 256) :
    k0_pay13 v193 v194 v196 v201 v203 v208 v210 v215 v217 (ix2 r c) = v193 (ix2 r c) + v194 (ix4 0 0 r c) * v196 (ix2 0 c) + v201 (ix4 0 0 r c) * v203 (ix2 0 c) + v208 (ix4 0 0 r c) * v210 (ix2 0 c) + v215 (ix4 0 0 r c) * v217 (ix2 0 c) := by
  unfold k0_pay13
  pointwise

theorem pay5_apply (v61 : Vec Ideal S1x1x128x256 .f32) (r : Fin 128) (c : Fin 256) :
    k0_pay5 v61 (ix2 r c) = v61 (ix4 0 0 r c) := by
  unfold k0_pay5
  pointwise

theorem pay8_apply (v124 : Vec Ideal S1x1x128x256 .f32) (r : Fin 128) (c : Fin 256) :
    k0_pay8 v124 (ix2 r c) = v124 (ix4 0 0 r c) := by
  unfold k0_pay8
  pointwise

theorem pay11_apply (v159 : Vec Ideal S1x1x128x256 .f32) (r : Fin 128) (c : Fin 256) :
    k0_pay11 v159 (ix2 r c) = v159 (ix4 0 0 r c) := by
  unfold k0_pay11
  pointwise

theorem pay18_apply (v267 : Vec Ideal S1x1x128x256 .f32) (r : Fin 128) (c : Fin 256) :
    k0_pay18 v267 (ix2 r c) = v267 (ix4 0 0 r c) := by
  unfold k0_pay18
  pointwise

theorem pay20_apply (v303 : Vec Ideal S1x1x128x256 .f32) (r : Fin 128) (c : Fin 256) :
    k0_pay20 v303 (ix2 r c) = v303 (ix4 0 0 r c) := by
  unfold k0_pay20
  pointwise

theorem pay9_apply (w : Vec Ideal S1x256 .f32) (r : Fin 128) (c : Fin 256) : k0_pay9 w (ix2 r c) = w (ix2 0 c) := by
  unfold k0_pay9
  pointwise

theorem pay2_apply (v0 : Vec Ideal S128x256 .f32) (r : Fin 128) (c : Fin 256) :
    k0_pay2 v0 (ix2 r c) = v0 (ix2 r c) := by
  unfold k0_pay2
  pointwise

theorem pay19_apply (v248 : IVec S1x256 32) (v266 v268 : FVec Ideal S128x256 .f32) (v276 v285 v294 : Vec Ideal S1x1x128x256 .f32) (r : Fin 128) (c : Fin 256) :
    k0_pay19 v248 v266 v268 v276 v285 v294 (ix2 r c) = v266 (ix2 r c) + v268 (ix2 r c) * onE (v248 (ix2 0 c)) 13#32 + v276 (ix4 0 0 r c) * onE (v248 (ix2 0 c)) 12#32 + v285 (ix4 0 0 r c) * onE (v248 (ix2 0 c)) 11#32 + v294 (ix4 0 0 r c) * onE (v248 (ix2 0 c)) 10#32 := by
  unfold k0_pay19 onE
  pointwise

theorem pay22_apply (v248 v307 : IVec S1x256 32) (v302 v304 : FVec Ideal S128x256 .f32) (v312 v321 v330 v339 : Vec Ideal S1x1x128x256 .f32) (r : Fin 128) (c : Fin 256) :
    k0_pay22 v248 v302 v304 v307 v312 v321 v330 v339 (ix2 r c) = v302 (ix2 r c) + v304 (ix2 r c) * FloatOps.sitofp (F := Ideal) FTy.f32 (v307 (ix2 0 c)) + v312 (ix4 0 0 r c) * onE (v248 (ix2 0 c)) 8#32 + v321 (ix4 0 0 r c) * onE (v248 (ix2 0 c)) 7#32 + v330 (ix4 0 0 r c) * onE (v248 (ix2 0 c)) 6#32 + v339 (ix4 0 0 r c) * onE (v248 (ix2 0 c)) 5#32 := by
  unfold k0_pay22 onE
  pointwise

theorem pay23_apply (v248 : IVec S1x256 32) (v347 : FVec Ideal S128x256 .f32) (v348 v357 v366 v375 : Vec Ideal S1x1x128x256 .f32) (r : Fin 128) (c : Fin 256) :
    k0_pay23 v248 v347 v348 v357 v366 v375 (ix2 r c) = v347 (ix2 r c) + v348 (ix4 0 0 r c) * onE (v248 (ix2 0 c)) 4#32 + v357 (ix4 0 0 r c) * onE (v248 (ix2 0 c)) 3#32 + v366 (ix4 0 0 r c) * onE (v248 (ix2 0 c)) 2#32 + v375 (ix4 0 0 r c) * onE (v248 (ix2 0 c)) 1#32 := by
  unfold k0_pay23 onE
  pointwise

theorem pay17_apply (v1 : FVec Ideal S128x256 .f32) (v222 : IVec S1x256 32) (z : BitVec 32) (v224 v227 : IVec S1x256 32) (o : BitVec 32) (a b : Vec Ideal S1x1x128x256 .f32)
    (r : Fin 128) (c : Fin 256) : k0_pay17 v1 v222 z v224 v227 o a b (ix2 r c)
      = v1 (ix2 r c) + a (ix4 0 0 r c) * onE (k0_pay16 v222 z v224 v227 o (ix2 0 c)) 15#32
        + b (ix4 0 0 r c) * onE (k0_pay16 v222 z v224 v227 o (ix2 0 c)) 14#32 := by
  unfold k0_pay17 onE
  generalize k0_pay16 v222 z v224 v227 o = w
  pointwise

theorem pay21_apply (w : IVec S1x256 32) (c : Fin 256) :
    FloatOps.sitofp (F := Ideal) FTy.f32 (k0_pay21 w (ix2 0 c)) = onE (w (ix2 0 c)) 9#32 := rfl

theorem pay24_apply (w : IVec S1x256 32) (c : Fin 256) :
    k0_pay24 (F := Ideal) w (ix2 0 c) = FloatOps.sitofp (F := Ideal) FTy.f32 (IntOp.minsi 2049#32 (w (ix2 0 c))) := rfl

theorem win_word : ∀ c : Fin 256, k0_pay16 (iota .tc S1x256 32 [1] iota_S1x256_d1_w32) 64#32 k0_pay14 k0_pay15 0#32 (ix2 0 c)
    = BitVec.ofNat 32 (winN c) := by decide +kernel

theorem min_word : ∀ c : Fin 256, IntOp.minsi 2049#32 (BitVec.ofNat 32 (winN c)) = BitVec.ofNat 32 (winN c) := by decide +kernel

theorem flag_word : ∀ (c : Fin 256) (j : Fin 15), BitVec.setWidth 32 (IntOp.cmpi .sgt (BitVec.ofNat 32 (winN c)) (BitVec.ofNat 32 (15 - j.val)))
    = if 15 - j.val < winN c then 1#32 else 0#32 := by decide +kernel

theorem onE_eq (c : Fin 256) (j : Fin 15) :
    onE (BitVec.ofNat 32 (winN c)) (BitVec.ofNat 32 (15 - j.val)) = if 15 - j.val < winN c then (1 : EReal) else 0 := by
  unfold onE
  rw [flag_word]
  split
  · show (((1#32 : BitVec 32).toInt : ℝ) : EReal) = 1
    simp
  · show (((0#32 : BitVec 32).toInt : ℝ) : EReal) = 0
    simp

theorem pay27_apply (v1 v383 : FVec Ideal S128x256 .f32) (n : FVec Ideal S1x256 .f32) (w : Vec Ideal S256x256 .bf16) (s : Vec Ideal S1x256 .f32) (r : Fin 128) (c : Fin 256) :
    k0_pay27 v1 v383 n w s (ix2 r c)
      = (∑ k : Fin 256, (Ideal.div (v383 (ix2 r k)) (n (ix2 0 k)) - v1 (ix2 r k)) * w (ix2 k c)) * s (ix2 0 c) := by
  unfold k0_pay27
  pointwise

theorem pay28_apply (y : FVec Ideal S128x256 .f32) (g b : Vec Ideal S1x256 .f32) (r : Fin 128) (c : Fin 256) :
    k0_pay28 y g b (ix2 r c) = convOut (fun k => y (ix2 r k)) (fun k => g (ix2 0 k)) (fun k => b (ix2 0 k)) c := by
  unfold k0_pay28 convOut norm256 mean256
  pointwise

/-- The normalised residual sum. -/
theorem tail_apply (x : FVec Ideal S128x1024 .f32) (ya : FVec Ideal S128x512 .bf16) (yp : FVec Ideal S128x256 .f32) (yc : FVec Ideal S128x256 .bf16)
    (wo : Vec Ideal S1x1024x1024 .bf16) (g : Vec Ideal S1x128x1024 .f32) (lng lnb : FVec Ideal S1x1024 .f32) (r : Fin 128) (c : Fin 1024) :
    k0_pay1 lng lnb (k0_pay31 x ya yp yc wo g) (ix2 r c)
      = normRow (sumRow (fun k => x (ix2 r k)) (fun k => g (ix3 0 r k))
          (catRow (fun k => yc (ix2 r k)) (fun k => yp (ix2 r k)) (fun k => ya (ix2 r k))) (fun k c => wo (ix3 0 k c)))
        (fun k => lng (ix2 0 k)) (fun k => lnb (ix2 0 k)) c := by
  have hc : (catRow (fun k => yc (ix2 r k)) (fun k => yp (ix2 r k)) (fun k => ya (ix2 r k)))
      = fun k => concatenate S128x1024 1 [⟨S128x256, yc⟩, ⟨S128x256, (truncf .bf16 yp bitsLt_bf16_f32 : FVec Ideal S128x256 .bf16)⟩, ⟨S128x512, ya⟩]
        concatenates_S128x256_S128x256_S128x512_S128x1024_d1 (ix2 r k) := by
    funext k
    unfold catRow
    pointwise
    refine dite_congr rfl (fun _ => rfl) fun h1 => ?_
    refine dite_congr (propext (by omega)) (fun _ => rfl) fun h2 => ?_
    exact congrArg (fun q : Fin 512 => ya (ix2 r q)) (Fin.ext (by show k.val - 512 = k.val - 256 - 256; omega))
  rw [hc]
  unfold k0_pay1 k0_pay31 normRow meanRow sumRow
  dsimp only
  generalize (concatenate S128x1024 1 [⟨S128x256, yc⟩, ⟨S128x256, (truncf .bf16 yp bitsLt_bf16_f32 : FVec Ideal S128x256 .bf16)⟩, ⟨S128x512, ya⟩]
        concatenates_S128x256_S128x256_S128x512_S128x1024_d1) = ct
  pointwise

/-- A step of the convolution's state as the body loads it. -/
theorem st_at (d : Nat) (hd : d < 30) (h : ∀ a, (![0, d, 0, 0] : Fin 4 → Nat) a + S1x1x128x256.size a ≤ S1x30x128x256.size a)
    (x : Vec Ideal S1x30x128x256 .f32) (r : Fin 128) (c : Fin 256) :
    View.ld x (Rect.unit (s := S1x30x128x256) ![0, d, 0, 0] S1x1x128x256.size h) (ix4 0 0 r c) = x (ix4 0 ⟨d, hd⟩ r c) :=
  congrArg x (by
    funext a
    apply Fin.ext
    match a with
    | ⟨0, _⟩ => rfl
    | ⟨1, _⟩ => show d + 1 * 0 = d; omega
    | ⟨2, _⟩ => show 0 + 1 * r.val = r.val; omega
    | ⟨3, _⟩ => show 0 + 1 * c.val = c.val; omega)

/-- A step of the pooling's state as the body loads it. -/
theorem po_at (d : Nat) (hd : d < 15) (h : ∀ a, (![0, d, 0, 0] : Fin 4 → Nat) a + S1x1x128x256.size a ≤ S1x15x128x256.size a)
    (x : Vec Ideal S1x15x128x256 .f32) (r : Fin 128) (c : Fin 256) :
    View.ld x (Rect.unit (s := S1x15x128x256) ![0, d, 0, 0] S1x1x128x256.size h) (ix4 0 0 r c) = x (ix4 0 ⟨d, hd⟩ r c) :=
  congrArg x (by
    funext a
    apply Fin.ext
    match a with
    | ⟨0, _⟩ => rfl
    | ⟨1, _⟩ => show d + 1 * 0 = d; omega
    | ⟨2, _⟩ => show 0 + 1 * r.val = r.val; omega
    | ⟨3, _⟩ => show 0 + 1 * c.val = c.val; omega)

/-- A row of the convolution's weights as the body loads it. -/
theorem wd_at (d : Nat) (hd : d < 32) (h : ∀ a, (![d, 0] : Fin 2 → Nat) a + S1x256.size a ≤ S32x256.size a)
    (x : Vec Ideal S32x256 .f32) (c : Fin 256) :
    View.ld x (Rect.unit (s := S32x256) ![d, 0] S1x256.size h) (ix2 0 c) = x (ix2 ⟨d, hd⟩ c) :=
  congrArg x (by
    funext a
    apply Fin.ext
    match a with
    | ⟨0, _⟩ => show d + 1 * 0 = d; omega
    | ⟨1, _⟩ => show 0 + 1 * c.val = c.val; omega)

theorem whole_row (y : Vec Ideal S128x256 .f32) : View.ld y r0_0 = y :=
  View.ld_unit_zero (by funext a; fin_cases a <;> rfl) inb_S128x256_S128x256_0_0 y
theorem whole_lane (y : Vec Ideal S1x256 .f32) : View.ld y r0_1 = y :=
  View.ld_unit_zero (by funext a; fin_cases a <;> rfl) inb_S1x256_S1x256_0_0 y

/-- The convolution, row by row. -/
theorem conv_apply (x1 : Vec Ideal S128x256 .f32) (x4 : Vec Ideal S1x30x128x256 .f32) (x6 : Vec Ideal S32x256 .f32) (x7 : Vec Ideal S1x256 .f32)
    (r : Fin 128) (c : Fin 256) :
    (k0_pay13 (k0_pay12 (k0_pay10 (k0_pay7 (k0_pay6 (k0_pay4 (k0_pay3 (View.ld x7 r0_1) (View.ld x1 r0_0) (View.ld x6 r0_2) (View.ld x4 r0_3) (View.ld x6 r0_4) (View.ld x4 r0_5) (View.ld x6 r0_6) (View.ld x4 r0_7) (View.ld x6 r0_8)) (View.ld x4 r0_9) (View.ld x6 r0_10) (View.ld x4 r0_11) (View.ld x6 r0_12) (View.ld x4 r0_13) (View.ld x6 r0_14) (View.ld x4 r0_15) (View.ld x6 r0_16)) (k0_pay5 (View.ld x4 r0_17)) (View.ld x6 r0_18) (View.ld x4 r0_19) (View.ld x6 r0_20) (View.ld x4 r0_21) (View.ld x6 r0_22) (View.ld x4 r0_23) (View.ld x6 r0_24) (View.ld x4 r0_25) (View.ld x6 r0_26)) (View.ld x4 r0_27) (View.ld x6 r0_28) (View.ld x4 r0_29) (View.ld x6 r0_30) (View.ld x4 r0_31) (View.ld x6 r0_32) (View.ld x4 r0_33) (View.ld x6 r0_34)) (k0_pay8 (View.ld x4 r0_35)) (k0_pay9 (View.ld x6 r0_36)) (View.ld x4 r0_37) (View.ld x6 r0_38) (View.ld x4 r0_39) (View.ld x6 r0_40) (View.ld x4 r0_41) (View.ld x6 r0_42) (View.ld x4 r0_43) (View.ld x6 r0_44)) (k0_pay11 (View.ld x4 r0_45)) (View.ld x6 r0_46) (View.ld x4 r0_47) (View.ld x6 r0_48) (View.ld x4 r0_49) (View.ld x6 r0_50) (View.ld x4 r0_51) (View.ld x6 r0_52) (View.ld x4 r0_53) (View.ld x6 r0_54)) (View.ld x4 r0_55) (View.ld x6 r0_56) (View.ld x4 r0_57) (View.ld x6 r0_58) (View.ld x4 r0_59) (View.ld x6 r0_60) (View.ld x4 r0_61) (View.ld x6 r0_62)) (ix2 r c)
      = convRow (fun j c => x4 (ix4 0 j r c)) (fun c => x1 (ix2 r c)) (fun j c => x6 (ix2 ⟨j.val, by omega⟩ c)) (fun c => x7 (ix2 0 c)) c := by
  rw [← conv_order]
  rw [pay13_apply, pay12_apply, pay10_apply, pay7_apply, pay6_apply, pay4_apply, pay3_apply, pay5_apply, pay8_apply, pay9_apply, pay11_apply]
  have s2 : ∀ {a b a' b' : EReal}, a = a' → b = b' → a + b = a' + b' := fun h h' => congrArg₂ (· + ·) h h'
  have p2 : ∀ {a b a' b' : EReal}, a = a' → b = b' → a * b = a' * b' := fun h h' => congrArg₂ (· * ·) h h'
  exact (s2 (s2 (s2 (s2 (s2 (s2 (s2 (s2 (s2 (s2 (s2 (s2 (s2 (s2 (s2 (s2 (s2 (s2 (s2 (s2 (s2 (s2 (s2 (s2 (s2 (s2 (s2 (s2 (s2 (s2 (s2 (congrFun (whole_lane x7) (ix2 0 c)) (p2 (congrFun (whole_row x1) (ix2 r c)) (wd_at 30 (by omega) _ x6 c))) (p2 (st_at 0 (by omega) _ x4 r c) (wd_at 0 (by omega) _ x6 c))) (p2 (st_at 1 (by omega) _ x4 r c) (wd_at 1 (by omega) _ x6 c))) (p2 (st_at 2 (by omega) _ x4 r c) (wd_at 2 (by omega) _ x6 c))) (p2 (st_at 3 (by omega) _ x4 r c) (wd_at 3 (by omega) _ x6 c))) (p2 (st_at 4 (by omega) _ x4 r c) (wd_at 4 (by omega) _ x6 c))) (p2 (st_at 5 (by omega) _ x4 r c) (wd_at 5 (by omega) _ x6 c))) (p2 (st_at 6 (by omega) _ x4 r c) (wd_at 6 (by omega) _ x6 c))) (p2 (st_at 7 (by omega) _ x4 r c) (wd_at 7 (by omega) _ x6 c))) (p2 (st_at 8 (by omega) _ x4 r c) (wd_at 8 (by omega) _ x6 c))) (p2 (st_at 9 (by omega) _ x4 r c) (wd_at 9 (by omega) _ x6 c))) (p2 (st_at 10 (by omega) _ x4 r c) (wd_at 10 (by omega) _ x6 c))) (p2 (st_at 11 (by omega) _ x4 r c) (wd_at 11 (by omega) _ x6 c))) (p2 (st_at 12 (by omega) _ x4 r c) (wd_at 12 (by omega) _ x6 c))) (p2 (st_at 13 (by omega) _ x4 r c) (wd_at 13 (by omega) _ x6 c))) (p2 (st_at 14 (by omega) _ x4 r c) (wd_at 14 (by omega) _ x6 c))) (p2 (st_at 15 (by omega) _ x4 r c) (wd_at 15 (by omega) _ x6 c))) (p2 (st_at 16 (by omega) _ x4 r c) (wd_at 16 (by omega) _ x6 c))) (p2 (st_at 17 (by omega) _ x4 r c) (wd_at 17 (by omega) _ x6 c))) (p2 (st_at 18 (by omega) _ x4 r c) (wd_at 18 (by omega) _ x6 c))) (p2 (st_at 19 (by omega) _ x4 r c) (wd_at 19 (by omega) _ x6 c))) (p2 (st_at 20 (by omega) _ x4 r c) (wd_at 20 (by omega) _ x6 c))) (p2 (st_at 21 (by omega) _ x4 r c) (wd_at 21 (by omega) _ x6 c))) (p2 (st_at 22 (by omega) _ x4 r c) (wd_at 22 (by omega) _ x6 c))) (p2 (st_at 23 (by omega) _ x4 r c) (wd_at 23 (by omega) _ x6 c))) (p2 (st_at 24 (by omega) _ x4 r c) (wd_at 24 (by omega) _ x6 c))) (p2 (st_at 25 (by omega) _ x4 r c) (wd_at 25 (by omega) _ x6 c))) (p2 (st_at 26 (by omega) _ x4 r c) (wd_at 26 (by omega) _ x6 c))) (p2 (st_at 27 (by omega) _ x4 r c) (wd_at 27 (by omega) _ x6 c))) (p2 (st_at 28 (by omega) _ x4 r c) (wd_at 28 (by omega) _ x6 c))) (p2 (st_at 29 (by omega) _ x4 r c) (wd_at 29 (by omega) _ x6 c)))

/-- The words of the lanes' windows. -/
theorem word_apply (x0 : Vec Ideal S128x1024 .f32) (x1 x2 : Vec Ideal S128x256 .f32) (x3 : Vec Ideal S128x512 .bf16) (x4 : Vec Ideal S1x30x128x256 .f32) (x5 : Vec Ideal S1x15x128x256 .f32) (x6 : Vec Ideal S32x256 .f32) (x7 x8 x9 : Vec Ideal S1x256 .f32) (x10 : Vec Ideal S256x256 .bf16) (x11 : Vec Ideal S1x256 .f32)
    (x12 : Vec Ideal S1x1024x1024 .bf16) (x13 : Vec Ideal S1x128x1024 .f32) (x14 x15 : Vec Ideal S1x1024 .f32) (c : Fin 256) :
    k0_pay36 (F := Ideal) x0 x1 x2 x3 x4 x5 x6 x7 x8 x9 x10 x11 x12 x13 x14 x15 (ix2 0 c) = BitVec.ofNat 32 (winN c) := win_word c

/-- The sum over a lane's window, row by row. -/
theorem pool_apply (x0 : Vec Ideal S128x1024 .f32) (x1 x2 : Vec Ideal S128x256 .f32) (x3 : Vec Ideal S128x512 .bf16) (x4 : Vec Ideal S1x30x128x256 .f32) (x5 : Vec Ideal S1x15x128x256 .f32) (x6 : Vec Ideal S32x256 .f32) (x7 x8 x9 : Vec Ideal S1x256 .f32) (x10 : Vec Ideal S256x256 .bf16) (x11 : Vec Ideal S1x256 .f32)
    (x12 : Vec Ideal S1x1024x1024 .bf16) (x13 : Vec Ideal S1x128x1024 .f32) (x14 x15 : Vec Ideal S1x1024 .f32)
    (r : Fin 128) (c : Fin 256) :
    (k0_pay23 (k0_pay36 x0 x1 x2 x3 x4 x5 x6 x7 x8 x9 x10 x11 x12 x13 x14 x15) (k0_pay22 (k0_pay36 x0 x1 x2 x3 x4 x5 x6 x7 x8 x9 x10 x11 x12 x13 x14 x15) (k0_pay19 (k0_pay36 x0 x1 x2 x3 x4 x5 x6 x7 x8 x9 x10 x11 x12 x13 x14 x15) (k0_pay17 (k0_pay32 x0 x1 x2 x3 x4 x5 x6 x7 x8 x9 x10 x11 x12 x13 x14 x15) (k0_pay33 x0 x1 x2 x3 x4 x5 x6 x7 x8 x9 x10 x11 x12 x13 x14 x15) 64#32 (k0_pay34 x0 x1 x2 x3 x4 x5 x6 x7 x8 x9 x10 x11 x12 x13 x14 x15) (k0_pay35 x0 x1 x2 x3 x4 x5 x6 x7 x8 x9 x10 x11 x12 x13 x14 x15) 0#32 (View.ld x5 r0_63) (View.ld x5 r0_64)) (k0_pay18 (View.ld x5 r0_65)) (View.ld x5 r0_66) (View.ld x5 r0_67) (View.ld x5 r0_68)) (k0_pay20 (View.ld x5 r0_69)) (k0_pay21 (k0_pay36 x0 x1 x2 x3 x4 x5 x6 x7 x8 x9 x10 x11 x12 x13 x14 x15)) (View.ld x5 r0_70) (View.ld x5 r0_71) (View.ld x5 r0_72) (View.ld x5 r0_73)) (View.ld x5 r0_74) (View.ld x5 r0_75) (View.ld x5 r0_76) (View.ld x5 r0_77)) (ix2 r c)
      = winSum (fun j c => x5 (ix4 0 j r c)) (fun c => x2 (ix2 r c)) c := by
  have w := word_apply x0 x1 x2 x3 x4 x5 x6 x7 x8 x9 x10 x11 x12 x13 x14 x15 c
  have e : ∀ j : Fin 15, (if 15 - j.val < winN c then (1 : EReal) else 0) = onE (BitVec.ofNat 32 (winN c)) (BitVec.ofNat 32 (15 - j.val)) :=
    fun j => (onE_eq c j).symm
  unfold winSum
  simp only [e]
  rw [← foldl_finRange]
  rw [pay23_apply, pay22_apply, pay21_apply, pay20_apply, pay19_apply, pay18_apply, pay17_apply, w]
  rw [show k0_pay16 (k0_pay33 (F := Ideal) x0 x1 x2 x3 x4 x5 x6 x7 x8 x9 x10 x11 x12 x13 x14 x15) 64#32 (k0_pay34 (F := Ideal) x0 x1 x2 x3 x4 x5 x6 x7 x8 x9 x10 x11 x12 x13 x14 x15) (k0_pay35 (F := Ideal) x0 x1 x2 x3 x4 x5 x6 x7 x8 x9 x10 x11 x12 x13 x14 x15) 0#32 (ix2 0 c) = BitVec.ofNat 32 (winN c) from w]
  unfold k0_pay32
  rw [pay2_apply, whole_row]
  have s2 : ∀ {a b a' b' : EReal}, a = a' → b = b' → a + b = a' + b' := fun h h' => congrArg₂ (· + ·) h h'
  have p2 : ∀ {a a' b : EReal}, a = a' → a * b = a' * b := fun h => congrArg (· * _) h
  exact (s2 (s2 (s2 (s2 (s2 (s2 (s2 (s2 (s2 (s2 (s2 (s2 (s2 (s2 (s2 (Eq.refl (x2 (ix2 r c))) (p2 (po_at 0 (by omega) _ x5 r c))) (p2 (po_at 1 (by omega) _ x5 r c))) (p2 (po_at 2 (by omega) _ x5 r c))) (p2 (po_at 3 (by omega) _ x5 r c))) (p2 (po_at 4 (by omega) _ x5 r c))) (p2 (po_at 5 (by omega) _ x5 r c))) (p2 (po_at 6 (by omega) _ x5 r c))) (p2 (po_at 7 (by omega) _ x5 r c))) (p2 (po_at 8 (by omega) _ x5 r c))) (p2 (po_at 9 (by omega) _ x5 r c))) (p2 (po_at 10 (by omega) _ x5 r c))) (p2 (po_at 11 (by omega) _ x5 r c))) (p2 (po_at 12 (by omega) _ x5 r c))) (p2 (po_at 13 (by omega) _ x5 r c))) (p2 (po_at 14 (by omega) _ x5 r c)))

/-- The block the kernel leaves, row by row, where the pooling weights lie in diagonal blocks. -/
theorem block_apply (x0 : Vec Ideal S128x1024 .f32) (x1 x2 : Vec Ideal S128x256 .f32) (x3 : Vec Ideal S128x512 .bf16) (x4 : Vec Ideal S1x30x128x256 .f32) (x5 : Vec Ideal S1x15x128x256 .f32) (x6 : Vec Ideal S32x256 .f32) (x7 x8 x9 : Vec Ideal S1x256 .f32) (x10 : Vec Ideal S256x256 .bf16) (x11 : Vec Ideal S1x256 .f32)
    (x12 : Vec Ideal S1x1024x1024 .bf16) (x13 : Vec Ideal S1x128x1024 .f32) (x14 x15 : Vec Ideal S1x1024 .f32)
    (wp : Fin 4 → Fin 64 → Fin 64 → EReal)
    (hW : ∀ k c : Fin 256, x10 (ix2 k c)
      = if k.val / 64 = c.val / 64 then wp ⟨c.val / 64, by omega⟩ ⟨k.val % 64, by omega⟩ ⟨c.val % 64, by omega⟩ else 0)
    (r : Fin 128) (c : Fin 1024) :
    out0_16 x0 x1 x2 x3 x4 x5 x6 x7 x8 x9 x10 x11 x12 x13 x14 x15 (ix2 r c)
      = mixRow (fun k => x0 (ix2 r k)) (fun k => x13 (ix3 0 r k)) (fun j c => x4 (ix4 0 j r c)) (fun c => x1 (ix2 r c))
        (fun j c => x6 (ix2 ⟨j.val, by omega⟩ c)) (fun c => x7 (ix2 0 c)) (fun c => x8 (ix2 0 c)) (fun c => x9 (ix2 0 c))
        (fun j c => x5 (ix4 0 j r c)) (fun c => x2 (ix2 r c)) wp (fun c => x11 (ix2 0 c)) (fun c => x3 (ix2 r c))
        (fun k c => x12 (ix3 0 k c)) (fun k => x14 (ix2 0 k)) (fun k => x15 (ix2 0 k)) c := by
  have e0 : View.ld x0 r0_78 = x0 := View.ld_unit_zero (by funext a; fin_cases a <;> rfl) inb_S128x1024_S128x1024_0_0 x0
  have e3 : View.ld x3 r0_79 = x3 := View.ld_unit_zero (by funext a; fin_cases a <;> rfl) inb_S128x512_S128x512_0_0 x3
  have e10 : View.ld x10 r0_80 = x10 := View.ld_unit_zero (by funext a; fin_cases a <;> rfl) inb_S256x256_S256x256_0_0 x10
  have e12 : View.ld x12 r0_81 = x12 := View.ld_unit_zero (by funext a; fin_cases a <;> rfl) inb_S1x1024x1024_S1x1024x1024_0_0_0 x12
  have e13 : View.ld x13 r0_82 = x13 := View.ld_unit_zero (by funext a; fin_cases a <;> rfl) inb_S1x128x1024_S1x128x1024_0_0_0 x13
  have e14 : ∀ y : Vec Ideal S1x1024 .f32, View.ld y r0_83 = y := fun y =>
    View.ld_unit_zero (by funext a; fin_cases a <;> rfl) inb_S1x1024_S1x1024_0_0 y
  unfold out0_16
  rw [View.canon_unit_zero (by funext a; fin_cases a <;> rfl) inb_S128x1024_S128x1024_0_0, tail_apply, e0, e3, e10, e12, e13, e14, e14]
  unfold mixRow
  have hc := fun k => conv_apply x1 x4 x6 x7 r k
  have hp := fun k => pool_apply x0 x1 x2 x3 x4 x5 x6 x7 x8 x9 x10 x11 x12 x13 x14 x15 r k
  generalize (k0_pay13 (k0_pay12 (k0_pay10 (k0_pay7 (k0_pay6 (k0_pay4 (k0_pay3 (View.ld x7 r0_1) (View.ld x1 r0_0) (View.ld x6 r0_2) (View.ld x4 r0_3) (View.ld x6 r0_4) (View.ld x4 r0_5) (View.ld x6 r0_6) (View.ld x4 r0_7) (View.ld x6 r0_8)) (View.ld x4 r0_9) (View.ld x6 r0_10) (View.ld x4 r0_11) (View.ld x6 r0_12) (View.ld x4 r0_13) (View.ld x6 r0_14) (View.ld x4 r0_15) (View.ld x6 r0_16)) (k0_pay5 (View.ld x4 r0_17)) (View.ld x6 r0_18) (View.ld x4 r0_19) (View.ld x6 r0_20) (View.ld x4 r0_21) (View.ld x6 r0_22) (View.ld x4 r0_23) (View.ld x6 r0_24) (View.ld x4 r0_25) (View.ld x6 r0_26)) (View.ld x4 r0_27) (View.ld x6 r0_28) (View.ld x4 r0_29) (View.ld x6 r0_30) (View.ld x4 r0_31) (View.ld x6 r0_32) (View.ld x4 r0_33) (View.ld x6 r0_34)) (k0_pay8 (View.ld x4 r0_35)) (k0_pay9 (View.ld x6 r0_36)) (View.ld x4 r0_37) (View.ld x6 r0_38) (View.ld x4 r0_39) (View.ld x6 r0_40) (View.ld x4 r0_41) (View.ld x6 r0_42) (View.ld x4 r0_43) (View.ld x6 r0_44)) (k0_pay11 (View.ld x4 r0_45)) (View.ld x6 r0_46) (View.ld x4 r0_47) (View.ld x6 r0_48) (View.ld x4 r0_49) (View.ld x6 r0_50) (View.ld x4 r0_51) (View.ld x6 r0_52) (View.ld x4 r0_53) (View.ld x6 r0_54)) (View.ld x4 r0_55) (View.ld x6 r0_56) (View.ld x4 r0_57) (View.ld x6 r0_58) (View.ld x4 r0_59) (View.ld x6 r0_60) (View.ld x4 r0_61) (View.ld x6 r0_62)) = Y at hc ⊢
  generalize (k0_pay23 (k0_pay36 x0 x1 x2 x3 x4 x5 x6 x7 x8 x9 x10 x11 x12 x13 x14 x15) (k0_pay22 (k0_pay36 x0 x1 x2 x3 x4 x5 x6 x7 x8 x9 x10 x11 x12 x13 x14 x15) (k0_pay19 (k0_pay36 x0 x1 x2 x3 x4 x5 x6 x7 x8 x9 x10 x11 x12 x13 x14 x15) (k0_pay17 (k0_pay32 x0 x1 x2 x3 x4 x5 x6 x7 x8 x9 x10 x11 x12 x13 x14 x15) (k0_pay33 x0 x1 x2 x3 x4 x5 x6 x7 x8 x9 x10 x11 x12 x13 x14 x15) 64#32 (k0_pay34 x0 x1 x2 x3 x4 x5 x6 x7 x8 x9 x10 x11 x12 x13 x14 x15) (k0_pay35 x0 x1 x2 x3 x4 x5 x6 x7 x8 x9 x10 x11 x12 x13 x14 x15) 0#32 (View.ld x5 r0_63) (View.ld x5 r0_64)) (k0_pay18 (View.ld x5 r0_65)) (View.ld x5 r0_66) (View.ld x5 r0_67) (View.ld x5 r0_68)) (k0_pay20 (View.ld x5 r0_69)) (k0_pay21 (k0_pay36 x0 x1 x2 x3 x4 x5 x6 x7 x8 x9 x10 x11 x12 x13 x14 x15)) (View.ld x5 r0_70) (View.ld x5 r0_71) (View.ld x5 r0_72) (View.ld x5 r0_73)) (View.ld x5 r0_74) (View.ld x5 r0_75) (View.ld x5 r0_76) (View.ld x5 r0_77)) = P at hp ⊢
  have hyc : (fun k => k0_pay28 Y (View.ld x8 r0_1) (View.ld x9 r0_1) (ix2 r k))
      = convOut (convRow (fun j c => x4 (ix4 0 j r c)) (fun c => x1 (ix2 r c)) (fun j c => x6 (ix2 ⟨j.val, by omega⟩ c)) (fun c => x7 (ix2 0 c)))
        (fun c => x8 (ix2 0 c)) (fun c => x9 (ix2 0 c)) := by
    funext k
    rw [pay28_apply, whole_lane, whole_lane]
    rw [show (fun k => Y (ix2 r k)) = convRow (fun j c => x4 (ix4 0 j r c)) (fun c => x1 (ix2 r c)) (fun j c => x6 (ix2 ⟨j.val, by omega⟩ c))
      (fun c => x7 (ix2 0 c)) from funext hc]
  have hyp : (fun k => k0_pay27 (k0_pay32 x0 x1 x2 x3 x4 x5 x6 x7 x8 x9 x10 x11 x12 x13 x14 x15) P (k0_pay24 (F := Ideal) (k0_pay36 x0 x1 x2 x3 x4 x5 x6 x7 x8 x9 x10 x11 x12 x13 x14 x15)) x10 (View.ld x11 r0_1) (ix2 r k))
      = poolOut (poolRow (fun j c => x5 (ix4 0 j r c)) (fun c => x2 (ix2 r c))) wp (fun c => x11 (ix2 0 c)) := by
    funext k
    rw [pay27_apply, whole_lane]
    refine Eq.trans ?_ (block_diag (poolRow (fun j c => x5 (ix4 0 j r c)) (fun c => x2 (ix2 r c))) wp (fun k c => x10 (ix2 k c)) hW
      (fun c => x11 (ix2 0 c)) k)
    refine congrArg (· * x11 (ix2 0 k)) (Finset.sum_congr rfl fun q _ => congrArg (· * x10 (ix2 q k)) ?_)
    unfold poolRow
    rw [hp, pay24_apply, word_apply, min_word]
    unfold k0_pay32
    rw [pay2_apply, whole_row]
  rw [hyc, hyp]
  have h25 : ∀ k : Fin 1024, k0_pay25 x0 (ix2 r k) = x0 (ix2 r k) := fun k => by unfold k0_pay25; pointwise
  have h26 : ∀ k : Fin 512, k0_pay26 x3 (ix2 r k) = x3 (ix2 r k) := fun k => by unfold k0_pay26; pointwise
  have h29 : ∀ k : Fin 1024, k0_pay29 x14 (ix2 0 k) = x14 (ix2 0 k) := fun k => by unfold k0_pay29; pointwise
  have h30 : ∀ k : Fin 1024, k0_pay30 x15 (ix2 0 k) = x15 (ix2 0 k) := fun k => by unfold k0_pay30; pointwise
  simp only [h25, h26, h29, h30]

end Cert.Proof.Mx

end
-- ==== Proof.MxCum.lean ====
module

public import proofs.«01_k».proof.Proof.MxRow
public import proofs.«01_k».proof.Proof.Gen.MixoutSampleRefIdeal.Read

@[expose] public section

set_option maxRecDepth 16384

noncomputable section

/-! # The reference's running sums of the pooled rows -/

namespace Cert.Proof.Mx

open Idealize.ShloMosaic Idealize.ShloMosaic.TcCoe Cert.MixoutSampleRefIdeal Cert.MixoutSampleRefIdeal.Read
open Idealize.ShloMosaic.Pointwise

/-- A sum over a window that ends at row `n` is the sum of the rows up to `n`. -/
theorem sum_shift {N : ℕ} (f : ℕ → EReal) (n : Fin (N + 1)) :
    (∑ w : Fin (N + 1), if N ≤ n.val + w.val then f (n.val + w.val - N) else 0) = ∑ i : Fin (N + 1), if i.val ≤ n.val then f i.val else 0 := by
  rw [← Finset.sum_filter, ← Finset.sum_filter]
  refine Finset.sum_bij' (fun w hw => ⟨n.val + w.val - N, by have := (Finset.mem_filter.1 hw).2; omega⟩)
    (fun i hi => ⟨i.val + N - n.val, by have := (Finset.mem_filter.1 hi).2; omega⟩) ?_ ?_ ?_ ?_ ?_
  · intro w hw
    exact Finset.mem_filter.2 ⟨Finset.mem_univ _, by show n.val + w.val - N ≤ n.val; omega⟩
  · intro i hi
    have := (Finset.mem_filter.1 hi).2
    exact Finset.mem_filter.2 ⟨Finset.mem_univ _, by show N ≤ n.val + (i.val + N - n.val); omega⟩
  · intro w hw
    have := (Finset.mem_filter.1 hw).2
    exact Fin.ext (by show n.val + w.val - N + N - n.val = w.val; omega)
  · intro i hi
    have := (Finset.mem_filter.1 hi).2
    exact Fin.ext (by show n.val + (i.val + N - n.val) - N = i.val; omega)
  · intro w hw
    rfl

/-- The window of a running sum along the middle axis. -/
abbrev winShape (N : ℕ) : Shape := ⟨3, ![1, N + 1, 1]⟩

/-- The coordinates of a window's entry. -/
theorem win_at {N : ℕ} (w : Fin (winShape N).numel) : ((winShape N).rowMajor.symm w 0).val = 0
    ∧ ((winShape N).rowMajor.symm w 1).val = w.val ∧ ((winShape N).rowMajor.symm w 2).val = 0 := by
  have h0 : ((winShape N).rowMajor.symm w 0).val < 1 := ((winShape N).rowMajor.symm w 0).isLt
  have h2 : ((winShape N).rowMajor.symm w 2).val < 1 := ((winShape N).rowMajor.symm w 2).isLt
  have e := Shape.rowMajor_val_three ((winShape N).rowMajor.symm w)
  rw [Equiv.apply_symm_apply] at e
  change w.val = (((winShape N).rowMajor.symm w 0).val * (N + 1) + ((winShape N).rowMajor.symm w 1).val) * 1 + ((winShape N).rowMajor.symm w 2).val at e
  rw [show ((winShape N).rowMajor.symm w 0).val = 0 by omega] at e ⊢
  omega

/-- A running sum along the middle axis, read at an entry. -/
theorem cum_entry {A N C : ℕ} (x : (⟨3, ![A, N + 1, C]⟩ : Shape).Idx → EReal)
    (h : (⟨3, ![A, N + 1, C]⟩ : Shape).ReduceWindows (![1, N + 1, 1] : Fin 3 → Nat) ![1, 1, 1] ![0, N, 0] ![0, 0, 0] ⟨3, ![A, N + 1, C]⟩) (r : Fin A)
    (n : Fin (N + 1)) (k : Fin C) :
    Ideal.hostReduceWindowAdd ![1, N + 1, 1] ![1, 1, 1] ![0, N, 0] ![0, 0, 0] h x 0 (ix3 r n k)
      = ∑ i : Fin (N + 1), if i.val ≤ n.val then x (ix3 r i k) else 0 := by
  have hs := sum_shift (fun m : ℕ => if h : m < N + 1 then x (ix3 r ⟨m, h⟩ k) else (0 : EReal)) n
  have hr : (∑ i : Fin (N + 1), if i.val ≤ n.val then (fun m : ℕ => if h : m < N + 1 then x (ix3 r ⟨m, h⟩ k) else (0 : EReal)) i.val else 0)
      = ∑ i : Fin (N + 1), if i.val ≤ n.val then x (ix3 r i k) else 0 :=
    Finset.sum_congr rfl fun i _ => if_congr Iff.rfl (dif_pos i.isLt) rfl
  have hN : (winShape N).numel = N + 1 := by
    show 1 * ((N + 1) * (1 * 1)) = N + 1
    omega
  rw [← hr, ← hs]
  unfold Ideal.hostReduceWindowAdd Host.reduceWindow
  refine Eq.trans (b := (List.finRange (winShape N).numel).foldl
    (fun a w => a + (if N ≤ n.val + w.val then (fun m : ℕ => if h : m < N + 1 then x (ix3 r ⟨m, h⟩ k) else (0 : EReal)) (n.val + w.val - N) else 0)) 0) ?_ ?_
  · refine congrArg (fun f : EReal → Fin (winShape N).numel → EReal => (List.finRange (winShape N).numel).foldl f 0) (funext fun a => funext fun w => congrArg (a + ·) ?_)
    obtain ⟨w0, w1, w2⟩ := win_at w
    have hw : w.val < N + 1 := lt_of_lt_of_eq w.isLt hN
    have hn := n.isLt
    have hr := r.isLt
    have hk := k.isLt
    split
    · next hin =>
      have h1 := hin 1
      change N ≤ n.val * 1 + ((winShape N).rowMajor.symm w 1).val ∧ n.val * 1 + ((winShape N).rowMajor.symm w 1).val - N < N + 1 at h1
      rw [w1] at h1
      rw [if_pos (by omega)]
      refine Eq.trans ?_ (dif_pos (by omega)).symm
      refine congrArg x (funext fun a => Fin.ext ?_)
      match a with
      | ⟨0, _⟩ =>
        show r.val * 1 + ((winShape N).rowMajor.symm w 0).val - 0 = r.val
        rw [w0]; omega
      | ⟨1, _⟩ =>
        show n.val * 1 + ((winShape N).rowMajor.symm w 1).val - N = n.val + w.val - N
        rw [w1]; omega
      | ⟨2, _⟩ =>
        show k.val * 1 + ((winShape N).rowMajor.symm w 2).val - 0 = k.val
        rw [w2]; omega
    · next hin =>
      rw [if_neg fun hle => hin fun a => by
        match a with
        | ⟨0, _⟩ =>
          show 0 ≤ r.val * 1 + ((winShape N).rowMajor.symm w 0).val ∧ r.val * 1 + ((winShape N).rowMajor.symm w 0).val - 0 < A
          rw [w0]; omega
        | ⟨1, _⟩ =>
          show N ≤ n.val * 1 + ((winShape N).rowMajor.symm w 1).val ∧ n.val * 1 + ((winShape N).rowMajor.symm w 1).val - N < N + 1
          rw [w1]; omega
        | ⟨2, _⟩ =>
          show 0 ≤ k.val * 1 + ((winShape N).rowMajor.symm w 2).val ∧ k.val * 1 + ((winShape N).rowMajor.symm w 2).val - 0 < C
          rw [w2]; omega]
  · refine (foldl_finRange _ (fun w : Fin (winShape N).numel => if N ≤ n.val + w.val then (fun m : ℕ => if h : m < N + 1 then x (ix3 r ⟨m, h⟩ k) else (0 : EReal)) (n.val + w.val - N) else 0) 0).trans ((zero_add _).trans ?_)
    exact Fintype.sum_equiv (finCongr hN) _ _ fun _ => rfl

/-- The running sums, read at an entry. -/
theorem ref_cum (x2 : FVec Ideal S128x1x256 .f32) (x6 : FVec Ideal S4x128x15x256 .f32) (r : Fin 128) (n : Fin 16) (k : Fin 256) :
    val_main_v57 (F := Ideal) x2 x6 (ix3 r n k) = ∑ i : Fin 16, if i.val ≤ n.val then val_main_v56 (F := Ideal) x2 x6 (ix3 r i k) else 0 := by
  have hv : ∀ i, val_main_call1_call0_v0 (F := Ideal) i = (0 : EReal) := fun i => by
    show Ideal.ofBits .f32 0#32 = 0
    simp [Ideal.ofBits, Ideal.ieee]
  unfold val_main_v57
  generalize val_main_v56 (F := Ideal) x2 x6 = x
  unfold Host.reduceWindowAdd
  rw [hv]
  exact cum_entry x _ r n k

end Cert.Proof.Mx

end
-- ==== Proof.MxRef.lean ====
module

public import proofs.«01_k».proof.Proof.MxCum

@[expose] public section

set_option maxRecDepth 16384

noncomputable section

/-! # One row of the sample batch's mixers and output projection, as the reference computes it -/

namespace Cert.Proof.Mx

open Idealize.ShloMosaic Idealize.ShloMosaic.TcCoe Cert.MixoutSampleRefIdeal Cert.MixoutSampleRefIdeal.Read
open Idealize.ShloMosaic.Pointwise Cert.Proof.Ff

variable (x0 : FVec Ideal S128x1x1024 .f32) (x1 x2 : FVec Ideal S128x1x256 .f32) (x3 : FVec Ideal S128x1x512 .bf16)
  (x4 : FVec Ideal S128x9216 .f32) (x5 : FVec Ideal S4x128x30x256 .f32) (x6 : FVec Ideal S4x128x15x256 .f32) (x7 : FVec Ideal S4x31x256 .f32)
  (x8 x9 x10 : FVec Ideal S4x256 .f32) (x11 : FVec Ideal S4x4x64x64 .f32) (x12 : FVec Ideal S4x256 .f32) (x13 : FVec Ideal S4x1024x1024 .f32)
  (x14 x15 : FVec Ideal S4x3x1024 .f32)

/-- The rows of the convolution. -/
theorem ref_v (r : Fin 128) (j : Fin 31) (k : Fin 256) :
    val_main_v12 (F := Ideal) x1 x5 (ix3 r j k) = if h : j.val < 30 then x5 (ix4 3 r ⟨j.val, h⟩ k) else x1 (ix3 r 0 k) := by
  unfold val_main_v12 val_main_v11 val_main_v10
  pointwise
  exact dite_congr rfl (fun _ => rfl) fun h => congrArg (fun a => x1 (ix3 r a k)) (Fin.ext (by show j.val - 30 = 0; omega))

/-- The convolution. -/
theorem ref_conv (r : Fin 128) (k : Fin 256) :
    val_main_v24 (F := Ideal) x1 x5 x7 x8 (ix3 r 0 k)
      = convRow (fun j k => x5 (ix4 3 r j k)) (fun k => x1 (ix3 r 0 k)) (fun j k => x7 (ix3 3 j k)) (fun k => x8 (ix2 3 k)) k := by
  have e := conv_all (fun j k => val_main_v12 (F := Ideal) x1 x5 (ix3 r j k)) (fun j k => x7 (ix3 3 j k)) (fun k => x8 (ix2 3 k)) k
  have e1 : (fun (j : Fin 30) (k : Fin 256) => val_main_v12 (F := Ideal) x1 x5 (ix3 r ⟨j.val, by omega⟩ k)) = fun j k => x5 (ix4 3 r j k) := by
    funext j k
    rw [ref_v]
    exact dif_pos j.isLt
  have e2 : (fun k : Fin 256 => val_main_v12 (F := Ideal) x1 x5 (ix3 r 30 k)) = fun k => x1 (ix3 r 0 k) := by
    funext k
    rw [ref_v]
    exact dif_neg (by decide)
  rw [← e1, ← e2, ← e]
  unfold val_main_v24 val_main_v23 val_main_v22 val_main_v21 val_main_v20 val_main_v19 val_main_v18 val_main_cst val_main_v17 val_main_v16
    val_main_v15 val_main_v14 val_main_v13
  generalize val_main_v12 (F := Ideal) x1 x5 = e
  pointwise

/-- The convolution's normalisation. -/
theorem ref_cnorm (r : Fin 128) (k : Fin 256) :
    val_main_v52 (F := Ideal) x1 x5 x7 x8 x9 x10 (ix3 r 0 k)
      = norm256 (fun k => val_main_v24 (F := Ideal) x1 x5 x7 x8 (ix3 r 0 k)) (fun k => x9 (ix2 3 k)) (fun k => x10 (ix2 3 k)) k := by
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_cst_0 val_main_cst_1 val_main_cst_2 val_main_cst_3 val_main_cst_4 norm256 mean256
  generalize val_main_v24 (F := Ideal) x1 x5 x7 x8 = y
  pointwise

/-- The convolution mixer. -/
theorem ref_silu (r : Fin 128) (k : Fin 256) :
    val_main_v53 (F := Ideal) x1 x5 x7 x8 x9 x10 (ix3 r 0 k)
      = val_main_v52 (F := Ideal) x1 x5 x7 x8 x9 x10 (ix3 r 0 k) * Ideal.logistic (val_main_v52 (F := Ideal) x1 x5 x7 x8 x9 x10 (ix3 r 0 k)) := by
  unfold val_main_v53 val_main_call0_v5 val_main_call0_v4 val_main_call0_v3 val_main_call0_v2 val_main_call0_v1 val_main_call0_v0
    val_main_call0_cst val_main_call0_cst_0
  generalize val_main_v52 (F := Ideal) x1 x5 x7 x8 x9 x10 = y
  pointwise
  rfl

theorem ref_yc (r : Fin 128) (k : Fin 256) :
    val_main_v53 (F := Ideal) x1 x5 x7 x8 x9 x10 (ix3 r 0 k)
      = convOut (convRow (fun j k => x5 (ix4 3 r j k)) (fun k => x1 (ix3 r 0 k)) (fun j k => x7 (ix3 3 j k)) (fun k => x8 (ix2 3 k)))
        (fun k => x9 (ix2 3 k)) (fun k => x10 (ix2 3 k)) k := by
  rw [ref_silu, ref_cnorm, funext (ref_conv x1 x5 x7 x8 r)]
  rfl

/-- The rows of the pooling. -/
theorem ref_u (r : Fin 128) (j : Fin 16) (k : Fin 256) :
    val_main_v56 (F := Ideal) x2 x6 (ix3 r j k) = if h : j.val < 15 then x6 (ix4 3 r ⟨j.val, h⟩ k) else x2 (ix3 r 0 k) := by
  unfold val_main_v56 val_main_v55 val_main_v54
  pointwise
  exact dite_congr rfl (fun _ => rfl) fun h => congrArg (fun a => x2 (ix3 r a k)) (Fin.ext (by show j.val - 15 = 0; omega))

/-- The running sums with a row of zeros before them. -/
theorem ref_z (r : Fin 128) (j : Fin 17) (k : Fin 256) :
    val_main_v60 (F := Ideal) x2 x6 (ix3 r j k) = ∑ i : Fin 16, if i.val < j.val then val_main_v56 (F := Ideal) x2 x6 (ix3 r i k) else 0 := by
  have h : val_main_v60 (F := Ideal) x2 x6 (ix3 r j k)
      = if h : j.val < 1 then (0 : EReal) else val_main_v57 (F := Ideal) x2 x6 (ix3 r ⟨j.val - 1, by omega⟩ k) := by
    unfold val_main_v60 val_main_v59 val_main_cst_5
    generalize val_main_v57 (F := Ideal) x2 x6 = y
    pointwise
  rw [h]
  split
  · next h0 => exact (Finset.sum_eq_zero fun i _ => if_neg (by omega)).symm
  · next h0 =>
    rw [ref_cum]
    exact Finset.sum_congr rfl fun i _ => if_congr (by show i.val ≤ j.val - 1 ↔ i.val < j.val; omega) rfl rfl

/-- The difference of the running sums a window apart. -/
theorem ref_win (r : Fin 128) (k : Fin 256) (hp : ∀ j : Fin 15, ∃ q : ℝ, x6 (ix4 3 r j k) = (q : EReal)) (n : Fin 17) (hn : n.val + winN k = 16) :
    val_main_v60 (F := Ideal) x2 x6 (ix3 r 16 k) - val_main_v60 (F := Ideal) x2 x6 (ix3 r n k)
      = winSum (fun j k => x6 (ix4 3 r j k)) (fun k => x2 (ix3 r 0 k)) k := by
  rw [ref_z, ref_z]
  refine Eq.trans (congrArg (· - _) (Finset.sum_congr rfl fun i _ => if_pos i.isLt)) ?_
  refine win_eq (fun j k => x6 (ix4 3 r j k)) (fun k => x2 (ix3 r 0 k)) k hp (fun i => val_main_v56 (F := Ideal) x2 x6 (ix3 r i k)) (fun j => ?_) ?_ n.val hn
  · rw [ref_u]
    exact dif_pos j.isLt
  · rw [ref_u]
    exact dif_neg (by decide)

/-- The difference of the running sums of group 0. -/
theorem ref_sub0 (r : Fin 128) (q : Fin 64) :
    val_main_v66 (F := Ideal) x2 x6 (ix3 r 0 q)
      = val_main_v60 (F := Ideal) x2 x6 (ix3 r 16 ⟨0 + q.val, by omega⟩) - val_main_v60 (F := Ideal) x2 x6 (ix3 r 14 ⟨0 + q.val, by omega⟩) := by
  unfold val_main_v66 val_main_v65 val_main_v64
  generalize val_main_v60 (F := Ideal) x2 x6 = y
  pointwise

/-- The pooled rows of group 0. -/
theorem ref_pool0 (r : Fin 128) (q : Fin 64) (hp : ∀ (j : Fin 15) (k : Fin 256), ∃ q : ℝ, x6 (ix4 3 r j k) = (q : EReal)) :
    val_main_v76 (F := Ideal) x2 x6 (ix3 r 0 q)
      = poolRow (fun j k => x6 (ix4 3 r j k)) (fun k => x2 (ix3 r 0 k)) ⟨0 + q.val, by omega⟩ := by
  have w : winN ⟨0 + q.val, by omega⟩ = 2 := by
    unfold winN
    rw [show (0 + q.val) / 64 = 0 by omega]
    rfl
  unfold poolRow
  rw [w, ← ref_win x2 x6 r ⟨0 + q.val, by omega⟩ (fun j => hp j _) 14 (by rw [w]; rfl), ← ref_sub0]
  unfold val_main_v76 val_main_v75 val_main_v74 val_main_v73 val_main_v72 val_main_v71 val_main_v70 val_main_v69 val_main_v68 val_main_v67
    val_main_v63 val_main_v62 val_main_v61 val_main_c val_main_c_6 val_main_c_7
  generalize val_main_v66 (F := Ideal) x2 x6 = y
  pointwise
  rw [show IntOp.minsi (IntOp.addi (IntOp.addi 2048#32 0#32) 1#32) 2#32 = 2#32 by decide]

/-- The product of group 0. -/
theorem ref_dot0 (r : Fin 128) (c : Fin 64) :
    val_main_v79 (F := Ideal) x2 x6 x11 (ix3 r 0 c)
      = ∑ q : Fin 64, val_main_v76 (F := Ideal) x2 x6 (ix3 r 0 q) * x11 (ix4 3 0 q c) := by
  unfold val_main_v79 val_main_v78 val_main_v77
  generalize val_main_v76 (F := Ideal) x2 x6 = y
  pointwise

/-- The difference of the running sums of group 1. -/
theorem ref_sub1 (r : Fin 128) (q : Fin 64) :
    val_main_v82 (F := Ideal) x2 x6 (ix3 r 0 q)
      = val_main_v60 (F := Ideal) x2 x6 (ix3 r 16 ⟨64 + q.val, by omega⟩) - val_main_v60 (F := Ideal) x2 x6 (ix3 r 12 ⟨64 + q.val, by omega⟩) := by
  unfold val_main_v82 val_main_v81 val_main_v80
  generalize val_main_v60 (F := Ideal) x2 x6 = y
  pointwise

/-- The pooled rows of group 1. -/
theorem ref_pool1 (r : Fin 128) (q : Fin 64) (hp : ∀ (j : Fin 15) (k : Fin 256), ∃ q : ℝ, x6 (ix4 3 r j k) = (q : EReal)) :
    val_main_v92 (F := Ideal) x2 x6 (ix3 r 0 q)
      = poolRow (fun j k => x6 (ix4 3 r j k)) (fun k => x2 (ix3 r 0 k)) ⟨64 + q.val, by omega⟩ := by
  have w : winN ⟨64 + q.val, by omega⟩ = 4 := by
    unfold winN
    rw [show (64 + q.val) / 64 = 1 by omega]
    rfl
  unfold poolRow
  rw [w, ← ref_win x2 x6 r ⟨64 + q.val, by omega⟩ (fun j => hp j _) 12 (by rw [w]; rfl), ← ref_sub1]
  unfold val_main_v92 val_main_v91 val_main_v90 val_main_v89 val_main_v88 val_main_v87 val_main_v86 val_main_v85 val_main_v84 val_main_v83
    val_main_v63 val_main_v62 val_main_v61 val_main_c val_main_c_8 val_main_c_9
  generalize val_main_v82 (F := Ideal) x2 x6 = y
  pointwise
  rw [show IntOp.minsi (IntOp.addi (IntOp.addi 2048#32 0#32) 1#32) 4#32 = 4#32 by decide]

/-- The product of group 1. -/
theorem ref_dot1 (r : Fin 128) (c : Fin 64) :
    val_main_v95 (F := Ideal) x2 x6 x11 (ix3 r 0 c)
      = ∑ q : Fin 64, val_main_v92 (F := Ideal) x2 x6 (ix3 r 0 q) * x11 (ix4 3 1 q c) := by
  unfold val_main_v95 val_main_v94 val_main_v93
  generalize val_main_v92 (F := Ideal) x2 x6 = y
  pointwise

/-- The difference of the running sums of group 2. -/
theorem ref_sub2 (r : Fin 128) (q : Fin 64) :
    val_main_v98 (F := Ideal) x2 x6 (ix3 r 0 q)
      = val_main_v60 (F := Ideal) x2 x6 (ix3 r 16 ⟨128 + q.val, by omega⟩) - val_main_v60 (F := Ideal) x2 x6 (ix3 r 8 ⟨128 + q.val, by omega⟩) := by
  unfold val_main_v98 val_main_v97 val_main_v96
  generalize val_main_v60 (F := Ideal) x2 x6 = y
  pointwise

/-- The pooled rows of group 2. -/
theorem ref_pool2 (r : Fin 128) (q : Fin 64) (hp : ∀ (j : Fin 15) (k : Fin 256), ∃ q : ℝ, x6 (ix4 3 r j k) = (q : EReal)) :
    val_main_v108 (F := Ideal) x2 x6 (ix3 r 0 q)
      = poolRow (fun j k => x6 (ix4 3 r j k)) (fun k => x2 (ix3 r 0 k)) ⟨128 + q.val, by omega⟩ := by
  have w : winN ⟨128 + q.val, by omega⟩ = 8 := by
    unfold winN
    rw [show (128 + q.val) / 64 = 2 by omega]
    rfl
  unfold poolRow
  rw [w, ← ref_win x2 x6 r ⟨128 + q.val, by omega⟩ (fun j => hp j _) 8 (by rw [w]; rfl), ← ref_sub2]
  unfold val_main_v108 val_main_v107 val_main_v106 val_main_v105 val_main_v104 val_main_v103 val_main_v102 val_main_v101 val_main_v100 val_main_v99
    val_main_v63 val_main_v62 val_main_v61 val_main_c val_main_c_10 val_main_c_11
  generalize val_main_v98 (F := Ideal) x2 x6 = y
  pointwise
  rw [show IntOp.minsi (IntOp.addi (IntOp.addi 2048#32 0#32) 1#32) 8#32 = 8#32 by decide]

/-- The product of group 2. -/
theorem ref_dot2 (r : Fin 128) (c : Fin 64) :
    val_main_v111 (F := Ideal) x2 x6 x11 (ix3 r 0 c)
      = ∑ q : Fin 64, val_main_v108 (F := Ideal) x2 x6 (ix3 r 0 q) * x11 (ix4 3 2 q c) := by
  unfold val_main_v111 val_main_v110 val_main_v109
  generalize val_main_v108 (F := Ideal) x2 x6 = y
  pointwise

/-- The difference of the running sums of group 3. -/
theorem ref_sub3 (r : Fin 128) (q : Fin 64) :
    val_main_v114 (F := Ideal) x2 x6 (ix3 r 0 q)
      = val_main_v60 (F := Ideal) x2 x6 (ix3 r 16 ⟨192 + q.val, by omega⟩) - val_main_v60 (F := Ideal) x2 x6 (ix3 r 0 ⟨192 + q.val, by omega⟩) := by
  unfold val_main_v114 val_main_v113 val_main_v112
  generalize val_main_v60 (F := Ideal) x2 x6 = y
  pointwise

/-- The pooled rows of group 3. -/
theorem ref_pool3 (r : Fin 128) (q : Fin 64) (hp : ∀ (j : Fin 15) (k : Fin 256), ∃ q : ℝ, x6 (ix4 3 r j k) = (q : EReal)) :
    val_main_v124 (F := Ideal) x2 x6 (ix3 r 0 q)
      = poolRow (fun j k => x6 (ix4 3 r j k)) (fun k => x2 (ix3 r 0 k)) ⟨192 + q.val, by omega⟩ := by
  have w : winN ⟨192 + q.val, by omega⟩ = 16 := by
    unfold winN
    rw [show (192 + q.val) / 64 = 3 by omega]
    rfl
  unfold poolRow
  rw [w, ← ref_win x2 x6 r ⟨192 + q.val, by omega⟩ (fun j => hp j _) 0 (by rw [w]; rfl), ← ref_sub3]
  unfold val_main_v124 val_main_v123 val_main_v122 val_main_v121 val_main_v120 val_main_v119 val_main_v118 val_main_v117 val_main_v116 val_main_v115
    val_main_v63 val_main_v62 val_main_v61 val_main_c val_main_c_12 val_main_c_13
  generalize val_main_v114 (F := Ideal) x2 x6 = y
  pointwise
  rw [show IntOp.minsi (IntOp.addi (IntOp.addi 2048#32 0#32) 1#32) 16#32 = 16#32 by decide]

/-- The product of group 3. -/
theorem ref_dot3 (r : Fin 128) (c : Fin 64) :
    val_main_v127 (F := Ideal) x2 x6 x11 (ix3 r 0 c)
      = ∑ q : Fin 64, val_main_v124 (F := Ideal) x2 x6 (ix3 r 0 q) * x11 (ix4 3 3 q c) := by
  unfold val_main_v127 val_main_v126 val_main_v125
  generalize val_main_v124 (F := Ideal) x2 x6 = y
  pointwise

/-- The pooled groups side by side. -/
theorem ref_cat (r : Fin 128) (k : Fin 256) (hp : ∀ (j : Fin 15) (k : Fin 256), ∃ q : ℝ, x6 (ix4 3 r j k) = (q : EReal)) :
    val_main_v128 (F := Ideal) x2 x6 x11 (ix3 r 0 k)
      = ∑ q : Fin 64, poolRow (fun j k => x6 (ix4 3 r j k)) (fun k => x2 (ix3 r 0 k)) ⟨64 * (k.val / 64) + q.val, by omega⟩
          * x11 (ix4 3 ⟨k.val / 64, by omega⟩ q ⟨k.val % 64, by omega⟩) := by
  have key : ∀ (g : Fin 4) (c : Fin 64), k.val = 64 * g.val + c.val →
      (∑ q : Fin 64, poolRow (fun j k => x6 (ix4 3 r j k)) (fun k => x2 (ix3 r 0 k)) ⟨64 * g.val + q.val, by omega⟩ * x11 (ix4 3 g q c))
      = ∑ q : Fin 64, poolRow (fun j k => x6 (ix4 3 r j k)) (fun k => x2 (ix3 r 0 k)) ⟨64 * (k.val / 64) + q.val, by omega⟩
          * x11 (ix4 3 ⟨k.val / 64, by omega⟩ q ⟨k.val % 64, by omega⟩) := fun g c h => by
    have hg : g = ⟨k.val / 64, by omega⟩ := Fin.ext (by show g.val = k.val / 64; omega)
    have hc : c = ⟨k.val % 64, by omega⟩ := Fin.ext (by show c.val = k.val % 64; omega)
    exact Finset.sum_congr rfl fun q _ => congrArg₂ (· * ·) (congrArg (poolRow _ _) (Fin.ext (by show 64 * g.val + q.val = 64 * (k.val / 64) + q.val; omega)))
      (congrArg₂ (fun a b => x11 (ix4 3 a q b)) hg hc)
  have e0 : ∀ c : Fin 64, k.val = 0 + c.val → val_main_v79 (F := Ideal) x2 x6 x11 (ix3 r 0 c) = _ := fun c h =>
    ((ref_dot0 x2 x6 x11 r c).trans (Finset.sum_congr rfl fun q _ => congrArg (· * x11 (ix4 3 0 q c)) (ref_pool0 x2 x6 r q hp))).trans (key 0 c h)
  have e1 : ∀ c : Fin 64, k.val = 64 + c.val → val_main_v95 (F := Ideal) x2 x6 x11 (ix3 r 0 c) = _ := fun c h =>
    ((ref_dot1 x2 x6 x11 r c).trans (Finset.sum_congr rfl fun q _ => congrArg (· * x11 (ix4 3 1 q c)) (ref_pool1 x2 x6 r q hp))).trans (key 1 c h)
  have e2 : ∀ c : Fin 64, k.val = 128 + c.val → val_main_v111 (F := Ideal) x2 x6 x11 (ix3 r 0 c) = _ := fun c h =>
    ((ref_dot2 x2 x6 x11 r c).trans (Finset.sum_congr rfl fun q _ => congrArg (· * x11 (ix4 3 2 q c)) (ref_pool2 x2 x6 r q hp))).trans (key 2 c h)
  have e3 : ∀ c : Fin 64, k.val = 192 + c.val → val_main_v127 (F := Ideal) x2 x6 x11 (ix3 r 0 c) = _ := fun c h =>
    ((ref_dot3 x2 x6 x11 r c).trans (Finset.sum_congr rfl fun q _ => congrArg (· * x11 (ix4 3 3 q c)) (ref_pool3 x2 x6 r q hp))).trans (key 3 c h)
  have hk := k.isLt
  have h : val_main_v128 (F := Ideal) x2 x6 x11 (ix3 r 0 k)
      = if h : k.val < 64 then val_main_v79 (F := Ideal) x2 x6 x11 (ix3 r 0 ⟨k.val, h⟩)
        else if h : k.val - 64 < 64 then val_main_v95 (F := Ideal) x2 x6 x11 (ix3 r 0 ⟨k.val - 64, h⟩)
        else if h : k.val - 64 - 64 < 64 then val_main_v111 (F := Ideal) x2 x6 x11 (ix3 r 0 ⟨k.val - 64 - 64, h⟩)
        else val_main_v127 (F := Ideal) x2 x6 x11 (ix3 r 0 ⟨k.val - 64 - 64 - 64, by omega⟩) := by
    unfold val_main_v128
    generalize val_main_v79 (F := Ideal) x2 x6 x11 = y0
    generalize val_main_v95 (F := Ideal) x2 x6 x11 = y1
    generalize val_main_v111 (F := Ideal) x2 x6 x11 = y2
    generalize val_main_v127 (F := Ideal) x2 x6 x11 = y3
    pointwise
  rw [h]
  split_ifs with a b d
  · exact e0 _ (by show k.val = 0 + k.val; omega)
  · exact e1 _ (by show k.val = 64 + (k.val - 64); omega)
  · exact e2 _ (by show k.val = 128 + (k.val - 64 - 64); omega)
  · exact e3 _ (by show k.val = 192 + (k.val - 64 - 64 - 64); omega)

/-- The pooling mixer. -/
theorem ref_yp (r : Fin 128) (k : Fin 256) (hp : ∀ (j : Fin 15) (k : Fin 256), ∃ q : ℝ, x6 (ix4 3 r j k) = (q : EReal)) :
    val_main_v133 (F := Ideal) x2 x6 x11 x12 (ix3 r 0 k)
      = poolOut (poolRow (fun j k => x6 (ix4 3 r j k)) (fun k => x2 (ix3 r 0 k))) (fun g q c => x11 (ix4 3 g q c)) (fun k => x12 (ix2 3 k)) k := by
  unfold poolOut
  rw [← ref_cat x2 x6 x11 r k hp]
  unfold val_main_v133 val_main_v132 val_main_v131 val_main_v130 val_main_v129
  generalize val_main_v128 (F := Ideal) x2 x6 x11 = y
  pointwise

/-- The three mixers side by side. -/
theorem ref_mix (r : Fin 128) (k : Fin 1024) :
    val_main_v135 (F := Ideal) x1 x2 x3 x5 x6 x7 x8 x9 x10 x11 x12 (ix3 r 0 k)
      = catRow (fun k => val_main_v53 (F := Ideal) x1 x5 x7 x8 x9 x10 (ix3 r 0 k)) (fun k => val_main_v133 (F := Ideal) x2 x6 x11 x12 (ix3 r 0 k))
        (fun k => x3 (ix3 r 0 k)) k := by
  unfold val_main_v135 val_main_v134 catRow
  generalize val_main_v53 (F := Ideal) x1 x5 x7 x8 x9 x10 = y0
  generalize val_main_v133 (F := Ideal) x2 x6 x11 x12 = y1
  pointwise
  refine dite_congr rfl (fun _ => rfl) fun h1 => ?_
  refine dite_congr (propext (by omega)) (fun _ => rfl) fun h2 => ?_
  exact congrArg (fun q : Fin 512 => x3 (ix3 r 0 q)) (Fin.ext (by show k.val - 256 - 256 = k.val - 512; omega))

/-- The residual sum. -/
theorem ref_res (r : Fin 128) (c : Fin 1024) :
    val_main_v142 (F := Ideal) x0 x1 x2 x3 x4 x5 x6 x7 x8 x9 x10 x11 x12 x13 (ix3 r 0 c)
      = sumRow (fun k => x0 (ix3 r 0 k)) (fun k => x4 (ix2 r ⟨5120 + k.val, by omega⟩))
        (fun k => val_main_v135 (F := Ideal) x1 x2 x3 x5 x6 x7 x8 x9 x10 x11 x12 (ix3 r 0 k)) (fun k c => x13 (ix3 3 k c)) c := by
  unfold val_main_v142 val_main_v141 val_main_v140 val_main_v139 val_main_cst_14 val_main_v138 val_main_v137 val_main_v136 val_main_v6 val_main_v0 sumRow
  generalize val_main_v135 (F := Ideal) x1 x2 x3 x5 x6 x7 x8 x9 x10 x11 x12 = y
  pointwise

/-- The normalised result. -/
theorem ref_norm (r : Fin 128) (c : Fin 1024) :
    val_main_v171 (F := Ideal) x0 x1 x2 x3 x4 x5 x6 x7 x8 x9 x10 x11 x12 x13 x14 x15 (ix2 r c)
      = normRow (fun k => val_main_v142 (F := Ideal) x0 x1 x2 x3 x4 x5 x6 x7 x8 x9 x10 x11 x12 x13 (ix3 r 0 k)) (fun k => x14 (ix3 3 1 k))
        (fun k => x15 (ix3 3 1 k)) c := by
  unfold val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_cst_15 val_main_cst_16 val_main_cst_17 val_main_cst_18 val_main_cst_19 normRow meanRow
  generalize val_main_v142 (F := Ideal) x0 x1 x2 x3 x4 x5 x6 x7 x8 x9 x10 x11 x12 x13 = y
  pointwise

/-- The reference's rows are the layer step applied row by row. -/
theorem ref_apply (r : Fin 128) (c : Fin 1024) (hp : ∀ (j : Fin 15) (k : Fin 256), ∃ q : ℝ, x6 (ix4 3 r j k) = (q : EReal)) :
    val_main_v171 (F := Ideal) x0 x1 x2 x3 x4 x5 x6 x7 x8 x9 x10 x11 x12 x13 x14 x15 (ix2 r c)
      = mixRow (fun k => x0 (ix3 r 0 k)) (fun k => x4 (ix2 r ⟨5120 + k.val, by omega⟩)) (fun j k => x5 (ix4 3 r j k)) (fun k => x1 (ix3 r 0 k))
        (fun j k => x7 (ix3 3 j k)) (fun k => x8 (ix2 3 k)) (fun k => x9 (ix2 3 k)) (fun k => x10 (ix2 3 k)) (fun j k => x6 (ix4 3 r j k))
        (fun k => x2 (ix3 r 0 k)) (fun g q c => x11 (ix4 3 g q c)) (fun k => x12 (ix2 3 k)) (fun k => x3 (ix3 r 0 k)) (fun k c => x13 (ix3 3 k c))
        (fun k => x14 (ix3 3 1 k)) (fun k => x15 (ix3 3 1 k)) c := by
  rw [ref_norm, funext (ref_res x0 x1 x2 x3 x4 x5 x6 x7 x8 x9 x10 x11 x12 x13 r), funext (ref_mix x1 x2 x3 x5 x6 x7 x8 x9 x10 x11 x12 r),
    funext (ref_yc x1 x5 x7 x8 x9 x10 r), funext fun k => ref_yp x2 x6 x11 x12 r k hp]
  rfl

/-- The new state of the convolution. -/
theorem ref_cs (j : Fin 30) (r : Fin 128) (k : Fin 256) :
    val_main_v173 (F := Ideal) x1 x5 (ix3 j r k) = if h : j.val < 29 then x5 (ix4 3 r ⟨1 + j.val, by omega⟩ k) else x1 (ix3 r 0 k) := by
  have h : val_main_v173 (F := Ideal) x1 x5 (ix3 j r k) = val_main_v12 (F := Ideal) x1 x5 (ix3 r ⟨1 + j.val, by omega⟩ k) := by
    unfold val_main_v173 val_main_v172
    generalize val_main_v12 (F := Ideal) x1 x5 = y
    pointwise
  rw [h, ref_v]
  exact dite_congr (propext (by show 1 + j.val < 30 ↔ j.val < 29; omega)) (fun _ => rfl) fun _ => rfl

/-- The new state of the pooling. -/
theorem ref_ps (j : Fin 15) (r : Fin 128) (k : Fin 256) :
    val_main_v175 (F := Ideal) x2 x6 (ix3 j r k) = if h : j.val < 14 then x6 (ix4 3 r ⟨1 + j.val, by omega⟩ k) else x2 (ix3 r 0 k) := by
  have h : val_main_v175 (F := Ideal) x2 x6 (ix3 j r k) = val_main_v56 (F := Ideal) x2 x6 (ix3 r ⟨1 + j.val, by omega⟩ k) := by
    unfold val_main_v175 val_main_v174
    generalize val_main_v56 (F := Ideal) x2 x6 = y
    pointwise
  rw [h, ref_u]
  exact dite_congr (propext (by show 1 + j.val < 15 ↔ j.val < 14; omega)) (fun _ => rfl) fun _ => rfl

end Cert.Proof.Mx

end
-- ==== Proof.MxFinal.lean ====
module

public import proofs.«01_k».proof.Proof.MxBlocks
public import proofs.«01_k».proof.Proof.MxBody
public import proofs.«01_k».proof.Proof.MxRef

@[expose] public section

set_option maxRecDepth 16384

noncomputable section

/-! # The run of the sample batch's mixer output kernel ends with the reference's results -/

namespace Cert.Proof.Mx

open Idealize Idealize.ShloMosaic Idealize.ShloMosaic.TcCoe Idealize.SL.Sem Cert.MixoutSampleIdeal
open Idealize.ShloMosaic.Pipeline (Dat Cfg Window)

variable (m : (ℓ : Loc nD τ sig) → Buf (Elt Ideal) ℓ) (ρ : Dev nD → PrngReg)

/-- The reference's rows of the kernel's arguments. -/
def resultOf : S128x1024.Idx → EReal :=
  Cert.MixoutSampleRefIdeal.Read.val_main_v171 (F := Ideal) (m ((0 : Dev nD).tc.loc main_arg0)) (m ((0 : Dev nD).tc.loc main_arg1)) (m ((0 : Dev nD).tc.loc main_arg2)) (m ((0 : Dev nD).tc.loc main_arg3)) (m ((0 : Dev nD).tc.loc main_arg4)) (m ((0 : Dev nD).tc.loc main_arg5)) (m ((0 : Dev nD).tc.loc main_arg6)) (m ((0 : Dev nD).tc.loc main_arg7)) (m ((0 : Dev nD).tc.loc main_arg8)) (m ((0 : Dev nD).tc.loc main_arg9)) (m ((0 : Dev nD).tc.loc main_arg10)) (m ((0 : Dev nD).tc.loc main_arg11)) (m ((0 : Dev nD).tc.loc main_arg12)) (m ((0 : Dev nD).tc.loc main_arg13)) (m ((0 : Dev nD).tc.loc main_arg14)) (m ((0 : Dev nD).tc.loc main_arg15))

/-- The reference's new state of the convolution. -/
def convOf : S30x128x256.Idx → EReal :=
  Cert.MixoutSampleRefIdeal.Read.val_main_v173 (F := Ideal) (m ((0 : Dev nD).tc.loc main_arg1)) (m ((0 : Dev nD).tc.loc main_arg5))

/-- The reference's new state of the pooling. -/
def poolOf : S15x128x256.Idx → EReal :=
  Cert.MixoutSampleRefIdeal.Read.val_main_v175 (F := Ideal) (m ((0 : Dev nD).tc.loc main_arg2)) (m ((0 : Dev nD).tc.loc main_arg6))

/-- The block a grid point leaves. -/
abbrev blockOf (t : Fin grid0.N) : Vec Ideal S128x1024 .f32 :=
  Gen.out0_16 (Gen.iblk m 0 0 t) (Gen.iblk m 0 1 t) (Gen.iblk m 0 2 t) (Gen.iblk m 0 3 t) (Gen.iblk m 0 4 t) (Gen.iblk m 0 5 t) (Gen.iblk m 0 6 t) (Gen.iblk m 0 7 t) (Gen.iblk m 0 8 t) (Gen.iblk m 0 9 t) (Gen.iblk m 0 10 t) (Gen.iblk m 0 11 t) (Gen.iblk m 0 12 t) (Gen.iblk m 0 13 t) (Gen.iblk m 0 14 t) (Gen.iblk m 0 15 t)

/-- A row of a grid point's block is the row of the result. -/
theorem block_row (hp : ∀ i : S4x128x15x256.Idx, ∃ q : ℝ, (m ((0 : Dev nD).tc.loc main_arg6) : Vec Ideal S4x128x15x256 .f32) i = (q : EReal)) (t : Fin grid0.N) (r : Fin 128) (k : Fin 1024) :
    blockOf m t (ix2 r k) = resultOf m (ix2 r k) := by
  refine (block_apply _ _ _ _ _ _ _ _ _ _ _ _ _ _ _ _
    (fun g q c => (m ((0 : Dev nD).tc.loc main_arg11) : Vec Ideal S4x4x64x64 .f32) (ix4 3 g q c)) (blk_wp m 0 t) r k).trans
    (Eq.trans ?_ (ref_apply _ _ _ _ _ _ _ _ _ _ _ _ _ _ _ _ r k (fun j k => hp (ix4 3 r j k))).symm)
  simp only [blk_x, blk_v, blk_u, blk_ya, blk_st, blk_p, blk_w, blk_b, blk_gc, blk_bc, blk_s, blk_wo, blk_g, blk_lng, blk_lnb]

/-- The write-back of a grid point writes its rows of the result. -/
theorem flushed_eq (hp : ∀ i : S4x128x15x256.Idx, ∃ q : ℝ, (m ((0 : Dev nD).tc.loc main_arg6) : Vec Ideal S4x128x15x256 .f32) i = (q : EReal)) (t : Fin cfg0.N) :
    (Gen.dats m 0 0).flushed 16 t = ((cfg0.win 16).blk t).view.read (Elt Ideal) (resultOf m) := by
  show (cfg0.win 16).cut (cfg0.grid.coords t) ((Gen.dats m 0 0).after 16 t) = _
  rw [Gen.after0_16]
  refine funext fun (j : S128x1024.Idx) => ?_
  have hj0 : (j 0).val < 128 := (j 0).isLt
  have hj1 : (j 1).val < 1024 := (j 1).isLt
  refine Eq.trans (b := blockOf m t (ix2 ⟨(j 0).val, hj0⟩ ⟨(j 1).val, hj1⟩)) ?_
    ((block_row m hp t ⟨(j 0).val, hj0⟩ ⟨(j 1).val, hj1⟩).trans ?_)
  · refine congrArg (blockOf m t) ?_
    funext a
    apply Fin.ext
    match a with
    | ⟨0, _⟩ => rfl
    | ⟨1, _⟩ => rfl
  · refine congrArg (resultOf m : S128x1024.Idx → EReal) ?_
    funext a
    apply Fin.ext
    match a with
    | ⟨0, _⟩ =>
      show (j 0).val = cc0_transform_16 (grid0.coords t) 0 * 128 + 1 * (j 0).val
      rw [show cc0_transform_16 (grid0.coords t) 0 = 0 from congrFun (index16 t) 0]; omega
    | ⟨1, _⟩ =>
      show (j 1).val = cc0_transform_16 (grid0.coords t) 1 * 1024 + 1 * (j 1).val
      rw [show cc0_transform_16 (grid0.coords t) 1 = 0 from congrFun (index16 t) 1]; omega

/-- Every cell of the result is written at the grid point. -/
theorem covered (i : S128x1024.Idx) : ∃ t : Fin cfg0.N, (cfg0.win 16).flush t = true
    ∧ (i : ((cfg0.win 16).blk t).view.ty.Idx) ∈ ((cfg0.win 16).blk t).view.set := by
  have i0 : (i 0 : Nat) < 128 := (i 0).isLt
  have i1 : (i 1 : Nat) < 1024 := (i 1).isLt
  have hN : grid0.N = 1 := Gen.N_0
  obtain ⟨t, hv⟩ : ∃ t : Fin grid0.N, t.val = 0 := ⟨⟨0, by omega⟩, rfl⟩
  refine ⟨t, Gen.flush0_16 _, ?_⟩
  have e : ((cfg0.win 16).blk t).view.emb (ix2 ⟨(i 0 : Nat), i0⟩ ⟨(i 1 : Nat), i1⟩ : S128x1024.Idx) = i := by
    funext a
    apply Fin.ext
    match a with
    | ⟨0, _⟩ =>
      show cc0_transform_16 (grid0.coords t) 0 * 128 + 1 * (i 0 : Nat) = (i 0 : Nat)
      rw [show cc0_transform_16 (grid0.coords t) 0 = 0 from congrFun (index16 t) 0]; omega
    | ⟨1, _⟩ =>
      show cc0_transform_16 (grid0.coords t) 1 * 1024 + 1 * (i 1 : Nat) = (i 1 : Nat)
      rw [show cc0_transform_16 (grid0.coords t) 1 = 0 from congrFun (index16 t) 1]; omega
  exact e ▸ View.emb_mem_set ((cfg0.win 16).blk t).view (ix2 ⟨(i 0 : Nat), i0⟩ ⟨(i 1 : Nat), i1⟩ : S128x1024.Idx)

/-- The result array ends holding the reference's rows. -/
theorem final_eq (hp : ∀ i : S4x128x15x256.Idx, ∃ q : ℝ, (m ((0 : Dev nD).tc.loc main_arg6) : Vec Ideal S4x128x15x256 .f32) i = (q : EReal)) :
    (Gen.dats m 0 0).arrAt 16 cfg0.N = (resultOf m : Buf (Elt Ideal) ((cfg0.win 16).arr.view.loc ((0 : Dev nD).tc))) :=
  (Gen.dats m 0 0).arrAt_eq_of_cover 16 (resultOf m) (fun t _ => flushed_eq m hp t) covered

/-- The host's new state of the convolution is the reference's. -/
theorem conv_eq : (Gen.V m 0 main_v7 : Vec Ideal S30x128x256 .f32) = convOf m := by
  refine funext fun (i : S30x128x256.Idx) => ?_
  have e : i = ix3 (i 0) (i 1) (i 2) := by funext a; match a with | ⟨0, _⟩ => rfl | ⟨1, _⟩ => rfl | ⟨2, _⟩ => rfl
  rw [e]
  exact (host_cs m 0 (i 0) (i 1) (i 2)).trans (ref_cs _ _ (i 0) (i 1) (i 2)).symm

/-- The host's new state of the pooling is the reference's. -/
theorem pool_eq : (Gen.V m 0 main_v11 : Vec Ideal S15x128x256 .f32) = poolOf m := by
  refine funext fun (i : S15x128x256.Idx) => ?_
  have e : i = ix3 (i 0) (i 1) (i 2) := by funext a; match a with | ⟨0, _⟩ => rfl | ⟨1, _⟩ => rfl | ⟨2, _⟩ => rfl
  rw [e]
  exact (host_ps m 0 (i 0) (i 1) (i 2)).trans (ref_ps _ _ (i 0) (i 1) (i 2)).symm

/-- The kernel's run: its results are the reference's, its arguments are unchanged. -/
theorem kernel_run (hp : ∀ i : S4x128x15x256.Idx, ∃ q : ℝ, (m ((0 : Dev nD).tc.loc main_arg6) : Vec Ideal S4x128x15x256 .f32) i = (q : EReal)) : θ_run defs (onTc (τ := τ) (main (F := Ideal))) ⟨m, fun _ => 0, ρ⟩ (fun r => ∀ c : Dev nD,
      r.2.mem ((c.tc : Thread nD τ).loc main_v65) = (fun _ : Dev nD => (resultOf m : Buf (Elt Ideal) ((c.tc : Thread nD τ).loc main_v65))) c
      ∧ r.2.mem ((c.tc : Thread nD τ).loc main_v7) = (fun _ : Dev nD => (convOf m : Buf (Elt Ideal) ((c.tc : Thread nD τ).loc main_v7))) c
      ∧ r.2.mem ((c.tc : Thread nD τ).loc main_v11) = (fun _ : Dev nD => (poolOf m : Buf (Elt Ideal) ((c.tc : Thread nD τ).loc main_v11))) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => by
    obtain rfl : c = 0 := Subsingleton.elim _ _
    refine ⟨(((h.1 0).1 16).trans (final_eq m hp) : _),
      (((h.1 0).2 main_v7 (Pipeline.mem_restRefs_of main_v7 (by decide) (by decide))).trans (conv_eq m) : _),
      (((h.1 0).2 main_v11 (Pipeline.mem_restRefs_of main_v11 (by decide) (by decide))).trans (pool_eq m) : _), ?_⟩
    exact h.2 0) (θ_run_and (Gen.run_main m ρ) (Gen.unchanged m ρ))

end Cert.Proof.Mx

end
-- ==== Proof.MxClaims.lean ====
/- The claims about the sample batch's mixers and output projection: the two kernels' frames, the reference's, and the equality of the
   idealized kernel and the reference where the pooled state is finite. -/
module

public import proofs.«01_k».proof.Defs
public import proofs.«01_k».proof.Proof.Gen.MixoutSample.Frame
public import proofs.«01_k».proof.Proof.Gen.Pre_pool_state_finite
public import proofs.«01_k».proof.Proof.MxFinal
public import proofs.«01_k».proof.Proof.SaPre
public import proofs.«01_k».proof.Proof.Gen.MixoutSampleRefIdeal.Run
public import Idealize.ShloMosaic.Lib.Claim
public import Idealize.ShloMosaic.Adequacy
public import Idealize.ShloMosaic.Init

@[expose] public section

set_option maxRecDepth 16384

noncomputable section

namespace Cert.Proof.Mx

open Idealize Idealize.ShloMosaic Idealize.SL.Sem

theorem frame_bits : Cert.quiescent_MixoutSample := fun m g _ => Cert.MixoutSample.Gen.frame m g

theorem frame_ideal : Cert.quiescent_MixoutSampleIdeal := fun m g _ => Cert.MixoutSampleIdeal.Gen.frame m g

theorem frame_ideal_pre : Cert.quiescent_MixoutSampleIdeal_pre_pool_state_finite := fun m g _ => Cert.MixoutSampleIdeal.Gen.frame m g

theorem frame_ref : Cert.quiescent_MixoutSampleRefIdeal := fun m g _ =>
  (θ_run Cert.MixoutSampleRefIdeal.defs _ _).mono
    (fun r h => ⟨fun c => (h c).2.2.2, sem_eq_zero_of_no_sems (by decide) r.2⟩)
    (Cert.MixoutSampleRefIdeal.Value.run (F := Ideal) m g)

theorem frame_ref_pre : Cert.quiescent_MixoutSampleRefIdeal_pre_pool_state_finite := fun m g _ => frame_ref m g trivial

/-- The idealized kernel names no constant and replaces no operation. -/
theorem preserves : Cert.preserves_MixoutSample_MixoutSampleIdeal := trivial

section

open Cert.MixoutSampleIdeal

variable (m : (ℓ : Loc nD τ sig) → Buf (Elt Ideal) ℓ)

/-- The reference's rows of equal arguments. -/
theorem ref_rows
    (a0 : FVec Ideal S128x1x1024 .f32)
    (a1 : FVec Ideal S128x1x256 .f32)
    (a2 : FVec Ideal S128x1x256 .f32)
    (a3 : FVec Ideal S128x1x512 .bf16)
    (a4 : FVec Ideal S128x9216 .f32)
    (a5 : FVec Ideal S4x128x30x256 .f32)
    (a6 : FVec Ideal S4x128x15x256 .f32)
    (a7 : FVec Ideal S4x31x256 .f32)
    (a8 : FVec Ideal S4x256 .f32)
    (a9 : FVec Ideal S4x256 .f32)
    (a10 : FVec Ideal S4x256 .f32)
    (a11 : FVec Ideal S4x4x64x64 .f32)
    (a12 : FVec Ideal S4x256 .f32)
    (a13 : FVec Ideal S4x1024x1024 .f32)
    (a14 : FVec Ideal S4x3x1024 .f32)
    (a15 : FVec Ideal S4x3x1024 .f32)
    (e0 : a0 = m ((0 : Dev nD).tc.loc main_arg0))
    (e1 : a1 = m ((0 : Dev nD).tc.loc main_arg1))
    (e2 : a2 = m ((0 : Dev nD).tc.loc main_arg2))
    (e3 : a3 = m ((0 : Dev nD).tc.loc main_arg3))
    (e4 : a4 = m ((0 : Dev nD).tc.loc main_arg4))
    (e5 : a5 = m ((0 : Dev nD).tc.loc main_arg5))
    (e6 : a6 = m ((0 : Dev nD).tc.loc main_arg6))
    (e7 : a7 = m ((0 : Dev nD).tc.loc main_arg7))
    (e8 : a8 = m ((0 : Dev nD).tc.loc main_arg8))
    (e9 : a9 = m ((0 : Dev nD).tc.loc main_arg9))
    (e10 : a10 = m ((0 : Dev nD).tc.loc main_arg10))
    (e11 : a11 = m ((0 : Dev nD).tc.loc main_arg11))
    (e12 : a12 = m ((0 : Dev nD).tc.loc main_arg12))
    (e13 : a13 = m ((0 : Dev nD).tc.loc main_arg13))
    (e14 : a14 = m ((0 : Dev nD).tc.loc main_arg14))
    (e15 : a15 = m ((0 : Dev nD).tc.loc main_arg15)) :
    Cert.MixoutSampleRefIdeal.Read.val_main_v171 (F := Ideal) a0 a1 a2 a3 a4 a5 a6 a7 a8 a9 a10 a11 a12 a13 a14 a15 = resultOf m := by
  subst e0 e1 e2 e3 e4 e5 e6 e7 e8 e9 e10 e11 e12 e13 e14 e15
  rfl

/-- The reference's new state of the convolution of equal arguments. -/
theorem ref_conv_state
    (a1 : FVec Ideal S128x1x256 .f32)
    (a5 : FVec Ideal S4x128x30x256 .f32)
    (e1 : a1 = m ((0 : Dev nD).tc.loc main_arg1))
    (e5 : a5 = m ((0 : Dev nD).tc.loc main_arg5)) :
    Cert.MixoutSampleRefIdeal.Read.val_main_v173 (F := Ideal) a1 a5 = convOf m := by
  subst e1 e5
  rfl

/-- The reference's new state of the pooling of equal arguments. -/
theorem ref_pool_state
    (a2 : FVec Ideal S128x1x256 .f32)
    (a6 : FVec Ideal S4x128x15x256 .f32)
    (e2 : a2 = m ((0 : Dev nD).tc.loc main_arg2))
    (e6 : a6 = m ((0 : Dev nD).tc.loc main_arg6)) :
    Cert.MixoutSampleRefIdeal.Read.val_main_v175 (F := Ideal) a2 a6 = poolOf m := by
  subst e2 e6
  rfl

end

theorem algebraic : Cert.algebraic_MixoutSampleIdeal_MixoutSampleRefIdeal_pre_pool_state_finite := fun m g m' g' h e =>
  have hp := fun i => float_real _ (congrFun (h 0) i)
  ⟨fun _ => resultOf m, fun _ => convOf m, fun _ => poolOf m, kernel_run m g hp,
    (θ_run Cert.MixoutSampleRefIdeal.defs _ _).mono (fun r hr c => by
      obtain rfl : c = 0 := Subsingleton.elim _ _
      obtain ⟨h0, h1, h2, ha⟩ := hr 0
      obtain ⟨e0, e1, e2, e3, e4, e5, e6, e7, e8, e9, e10, e11, e12, e13, e14, e15⟩ := e 0
      exact ⟨(h0.trans (Cert.MixoutSampleRefIdeal.Read.val_main_v171_eq _)).trans (ref_rows m _ _ _ _ _ _ _ _ _ _ _ _ _ _ _ _ e0 e1 e2 e3 e4 e5 e6 e7 e8 e9 e10 e11 e12 e13 e14 e15),
        (h1.trans (Cert.MixoutSampleRefIdeal.Read.val_main_v173_eq _)).trans (ref_conv_state m _ _ e1 e5),
        (h2.trans (Cert.MixoutSampleRefIdeal.Read.val_main_v175_eq _)).trans (ref_pool_state m _ _ e2 e6), ha⟩)
      (Cert.MixoutSampleRefIdeal.Value.run (F := Ideal) m' g')⟩

end Cert.Proof.Mx

end
-- ==== Proof.AdFinal.lean ====
module

public import proofs.«01_k».proof.Proof.Gen.AdaIdeal.Frame
public import proofs.«01_k».proof.Proof.Gen.AdaRefIdeal.Read
public import Idealize.ShloMosaic.Lib.StableHlo.ReadAt
public import Idealize.ShloMosaic.Lib.Pipeline.Value
public import Idealize.ShloMosaic.Lib.Pointwise
public import Idealize.ShloMosaic.PureOps.Ideal.Laws

@[expose] public section

set_option maxRecDepth 16384

noncomputable section

/-! # The run of the conditioning kernel ends with the reference's result -/

namespace Cert.Proof.Ad

open Idealize Idealize.ShloMosaic Idealize.ShloMosaic.TcCoe Idealize.SL.Sem Cert.AdaIdeal
open Idealize.ShloMosaic.Pipeline (Dat Cfg Window)
open Idealize.ShloMosaic.Pointwise

/-- One entry of the conditioning: a gated row times a column, plus an offset. -/
def condAt (x w : Fin 1024 → EReal) (b : EReal) : EReal := (∑ k, x k * Ideal.logistic (x k) * w k) + b

open Cert.AdaIdeal.Gen in
/-- The block a grid point leaves, entry by entry. -/
theorem block_apply (x : Vec Ideal S136x1024 .f32) (w : Vec Ideal S1x1024x1024 .f32) (b : Vec Ideal S1x1x1024 .f32)
    (r : Fin 136) (k : Fin 1024) :
    Gen.out0_3 x w b (ix3 0 r k) = condAt (fun q => x (ix2 r q)) (fun q => w (ix3 0 q k)) (b (ix3 0 0 k)) := by
  unfold Gen.out0_3
  rw [View.canon_unit_zero (by funext a; fin_cases a <;> rfl) inb_S1x136x1024_S1x136x1024_0_0_0,
    View.ld_unit_zero (by funext a; fin_cases a <;> rfl) inb_S136x1024_S136x1024_0_0,
    View.ld_unit_zero (by funext a; fin_cases a <;> rfl) inb_S1x1024x1024_S1x1024x1024_0_0_0,
    View.ld_unit_zero (by funext a; fin_cases a <;> rfl) inb_S1x1x1024_S1x1x1024_0_0_0]
  unfold Gen.k0_pay1 condAt
  pointwise

open Cert.AdaRefIdeal.Read in
/-- The reference's result at an entry. -/
theorem ref_apply (x0 : FVec Ideal S4x1024 .f32) (x1 : FVec Ideal S128x1024 .f32) (x2 : FVec Ideal S4x1024x9216 .f32)
    (x3 : FVec Ideal S4x9216 .f32) (l : Fin 4) (r : Fin 136) (n : Fin 9216) :
    val_main_v7 (F := Ideal) x0 x1 x2 x3 (ix3 l r n)
      = condAt (fun q => val_main_v1 (F := Ideal) x0 x1 (ix2 r q)) (fun q => x2 (ix3 l q n)) (x3 (ix2 l n)) := by
  unfold val_main_v7 val_main_v6 val_main_v5 val_main_v4 val_main_v3 val_main_v2 val_main_call0_v5 val_main_call0_v4 val_main_call0_v3
    val_main_call0_v2 val_main_call0_v1 val_main_call0_v0 val_main_call0_cst val_main_call0_cst_0 condAt
  generalize val_main_v1 (F := Ideal) x0 x1 = h
  pointwise
  rfl

variable (m : (ℓ : Loc nD τ sig) → Buf (Elt Ideal) ℓ) (ρ : Dev nD → PrngReg) (c : Dev nD)

/-- The rows the host lays under one another. -/
theorem host_rows : (Gen.V m c main_v1 : Vec Ideal S136x1024 .f32)
    = Cert.AdaRefIdeal.Read.val_main_v1 (F := Ideal) (m (c.tc.loc main_arg0)) (m (c.tc.loc main_arg1)) := by
  unfold Gen.V
  after_results <;> rfl

/-- The offsets. -/
theorem host_b (l : Fin 4) (n : Fin 9216) :
    (Gen.V m c main_v2 : Vec Ideal S4x1x9216 .f32) (ix3 l 0 n) = (m (c.tc.loc main_arg3) : Vec Ideal S4x9216 .f32) (ix2 l n) := by
  unfold Gen.V
  after_reads_at

theorem point_lt (t : Fin grid0.N) : t.val < 36 := by
  have := t.isLt
  have h : grid0.N = 36 := Gen.N_0
  omega

/-- The layer a grid point works on. -/
def layerAt (t : Fin grid0.N) : Fin 4 := ⟨t.val / 9, by have := point_lt t; omega⟩

/-- The column of the result that a grid point's block holds at a column. -/
def colAt (t : Fin grid0.N) (k : Fin 1024) : Fin 9216 := ⟨t.val % 9 * 1024 + k.val, by omega⟩

theorem index0 : ∀ (t : Fin grid0.N), cc0_transform_0 (grid0.coords t) = ![0, 0] := by decide +kernel
theorem index1 : ∀ (t : Fin grid0.N), cc0_transform_1 (grid0.coords t) = ![t.val / 9, 0, t.val % 9] := by decide +kernel
theorem index2 : ∀ (t : Fin grid0.N), cc0_transform_2 (grid0.coords t) = ![t.val / 9, 0, t.val % 9] := by decide +kernel
theorem index3 : ∀ (t : Fin grid0.N), cc0_transform_3 (grid0.coords t) = ![t.val / 9, 0, t.val % 9] := by decide +kernel

theorem blk_x (t : Fin grid0.N) (r : Fin 136) (k : Fin 1024) :
    (Gen.iblk m c 0 t : Vec Ideal S136x1024 .f32) (ix2 r k) = (Gen.V m c main_v1 : Vec Ideal S136x1024 .f32) (ix2 r k) := by
  unfold Gen.iblk
  refine congrArg (Gen.V m c main_v1 : S136x1024.Idx → EReal) ?_
  funext a
  apply Fin.ext
  match a with
  | ⟨0, _⟩ =>
    show cc0_transform_0 (grid0.coords t) 0 * 136 + 1 * r.val = r.val
    rw [show cc0_transform_0 (grid0.coords t) 0 = 0 from congrFun (index0 t) 0]; omega
  | ⟨1, _⟩ =>
    show cc0_transform_0 (grid0.coords t) 1 * 1024 + 1 * k.val = k.val
    rw [show cc0_transform_0 (grid0.coords t) 1 = 0 from congrFun (index0 t) 1]; omega

theorem blk_w (t : Fin grid0.N) (q k : Fin 1024) : (Gen.iblk m c 1 t : Vec Ideal S1x1024x1024 .f32) (ix3 0 q k)
    = (m (c.tc.loc main_arg2) : Vec Ideal S4x1024x9216 .f32) (ix3 (layerAt t) q (colAt t k)) := by
  refine (?_ : _ = (Gen.V m c main_arg2 : Vec Ideal S4x1024x9216 .f32) (ix3 (layerAt t) q (colAt t k))).trans
    (congrFun (Gen.V_main_arg2 m c) _)
  unfold Gen.iblk
  refine congrArg (Gen.V m c main_arg2 : S4x1024x9216.Idx → EReal) ?_
  funext a
  apply Fin.ext
  match a with
  | ⟨0, _⟩ =>
    show cc0_transform_1 (grid0.coords t) 0 * 1 + 1 * 0 = t.val / 9
    rw [show cc0_transform_1 (grid0.coords t) 0 = t.val / 9 from congrFun (index1 t) 0]; omega
  | ⟨1, _⟩ =>
    show cc0_transform_1 (grid0.coords t) 1 * 1024 + 1 * q.val = q.val
    rw [show cc0_transform_1 (grid0.coords t) 1 = 0 from congrFun (index1 t) 1]; omega
  | ⟨2, _⟩ =>
    show cc0_transform_1 (grid0.coords t) 2 * 1024 + 1 * k.val = t.val % 9 * 1024 + k.val
    rw [show cc0_transform_1 (grid0.coords t) 2 = t.val % 9 from congrFun (index1 t) 2]; omega

theorem blk_b (t : Fin grid0.N) (k : Fin 1024) : (Gen.iblk m c 2 t : Vec Ideal S1x1x1024 .f32) (ix3 0 0 k)
    = (m (c.tc.loc main_arg3) : Vec Ideal S4x9216 .f32) (ix2 (layerAt t) (colAt t k)) := by
  refine (?_ : _ = (Gen.V m c main_v2 : Vec Ideal S4x1x9216 .f32) (ix3 (layerAt t) 0 (colAt t k))).trans
    (host_b m c (layerAt t) (colAt t k))
  unfold Gen.iblk
  refine congrArg (Gen.V m c main_v2 : S4x1x9216.Idx → EReal) ?_
  funext a
  apply Fin.ext
  match a with
  | ⟨0, _⟩ =>
    show cc0_transform_2 (grid0.coords t) 0 * 1 + 1 * 0 = t.val / 9
    rw [show cc0_transform_2 (grid0.coords t) 0 = t.val / 9 from congrFun (index2 t) 0]; omega
  | ⟨1, _⟩ =>
    show cc0_transform_2 (grid0.coords t) 1 * 1 + 1 * 0 = 0
    rw [show cc0_transform_2 (grid0.coords t) 1 = 0 from congrFun (index2 t) 1]
  | ⟨2, _⟩ =>
    show cc0_transform_2 (grid0.coords t) 2 * 1024 + 1 * k.val = t.val % 9 * 1024 + k.val
    rw [show cc0_transform_2 (grid0.coords t) 2 = t.val % 9 from congrFun (index2 t) 2]; omega

/-- The reference's result of the kernel's arguments. -/
def resultOf : S4x136x9216.Idx → EReal :=
  Cert.AdaRefIdeal.Read.val_main_v7 (F := Ideal) (m ((0 : Dev nD).tc.loc main_arg0)) (m ((0 : Dev nD).tc.loc main_arg1))
    (m ((0 : Dev nD).tc.loc main_arg2)) (m ((0 : Dev nD).tc.loc main_arg3))

/-- A grid point's block holds the result's entries of its layer and columns. -/
theorem block_row (t : Fin grid0.N) (r : Fin 136) (k : Fin 1024) :
    Gen.out0_3 (Gen.iblk m 0 0 t) (Gen.iblk m 0 1 t) (Gen.iblk m 0 2 t) (ix3 0 r k) = resultOf m (ix3 (layerAt t) r (colAt t k)) := by
  refine (block_apply _ _ _ r k).trans (Eq.trans ?_ (ref_apply _ _ _ _ (layerAt t) r (colAt t k)).symm)
  simp only [blk_x, blk_w, blk_b]
  exact congrArg (fun x => condAt x _ _) (funext fun q => congrFun (host_rows m 0) (ix2 r q))

/-- The write-back of a grid point writes its entries of the result. -/
theorem flushed_eq (t : Fin cfg0.N) :
    (Gen.dats m 0 0).flushed 3 t = ((cfg0.win 3).blk t).view.read (Elt Ideal) (resultOf m) := by
  show (cfg0.win 3).cut (cfg0.grid.coords t) ((Gen.dats m 0 0).after 3 t) = _
  rw [Gen.after0_3]
  refine funext fun (j : S1x136x1024.Idx) => ?_
  have hj0 : (j 0).val < 1 := (j 0).isLt
  refine Eq.trans (b := Gen.out0_3 (Gen.iblk m 0 0 t) (Gen.iblk m 0 1 t) (Gen.iblk m 0 2 t) (ix3 0 (j 1) (j 2))) ?_
    ((block_row m t (j 1) (j 2)).trans ?_)
  · refine congrArg (Gen.out0_3 (Gen.iblk m 0 0 t) (Gen.iblk m 0 1 t) (Gen.iblk m 0 2 t)) ?_
    funext a
    apply Fin.ext
    match a with
    | ⟨0, _⟩ => show (j 0).val = 0; omega
    | ⟨1, _⟩ => rfl
    | ⟨2, _⟩ => rfl
  · refine congrArg (resultOf m : S4x136x9216.Idx → EReal) ?_
    funext a
    apply Fin.ext
    match a with
    | ⟨0, _⟩ =>
      show t.val / 9 = cc0_transform_3 (grid0.coords t) 0 * 1 + 1 * (j 0).val
      rw [show cc0_transform_3 (grid0.coords t) 0 = t.val / 9 from congrFun (index3 t) 0]; omega
    | ⟨1, _⟩ =>
      show (j 1).val = cc0_transform_3 (grid0.coords t) 1 * 136 + 1 * (j 1).val
      rw [show cc0_transform_3 (grid0.coords t) 1 = 0 from congrFun (index3 t) 1]; omega
    | ⟨2, _⟩ =>
      show t.val % 9 * 1024 + (j 2).val = cc0_transform_3 (grid0.coords t) 2 * 1024 + 1 * (j 2).val
      rw [show cc0_transform_3 (grid0.coords t) 2 = t.val % 9 from congrFun (index3 t) 2]; omega

/-- Every cell of the result is written at the grid point of its layer and column. -/
theorem covered (i : S4x136x9216.Idx) : ∃ t : Fin cfg0.N, (cfg0.win 3).flush t = true
    ∧ (i : ((cfg0.win 3).blk t).view.ty.Idx) ∈ ((cfg0.win 3).blk t).view.set := by
  have i0 : (i 0 : Nat) < 4 := (i 0).isLt
  have i1 : (i 1 : Nat) < 136 := (i 1).isLt
  have i2 : (i 2 : Nat) < 9216 := (i 2).isLt
  have hN : grid0.N = 36 := Gen.N_0
  have hk : (i 2 : Nat) % 1024 < 1024 := by omega
  obtain ⟨t, hv⟩ : ∃ t : Fin grid0.N, t.val = (i 0 : Nat) * 9 + (i 2 : Nat) / 1024 := ⟨⟨(i 0 : Nat) * 9 + (i 2 : Nat) / 1024, by omega⟩, rfl⟩
  refine ⟨t, Gen.flush0_3 _, ?_⟩
  have e : ((cfg0.win 3).blk t).view.emb (ix3 0 ⟨(i 1 : Nat), i1⟩ ⟨(i 2 : Nat) % 1024, hk⟩ : S1x136x1024.Idx) = i := by
    funext a
    apply Fin.ext
    match a with
    | ⟨0, _⟩ =>
      show cc0_transform_3 (grid0.coords t) 0 * 1 + 1 * 0 = (i 0 : Nat)
      rw [show cc0_transform_3 (grid0.coords t) 0 = t.val / 9 from congrFun (index3 t) 0]; omega
    | ⟨1, _⟩ =>
      show cc0_transform_3 (grid0.coords t) 1 * 136 + 1 * (i 1 : Nat) = (i 1 : Nat)
      rw [show cc0_transform_3 (grid0.coords t) 1 = 0 from congrFun (index3 t) 1]; omega
    | ⟨2, _⟩ =>
      show cc0_transform_3 (grid0.coords t) 2 * 1024 + 1 * ((i 2 : Nat) % 1024) = (i 2 : Nat)
      rw [show cc0_transform_3 (grid0.coords t) 2 = t.val % 9 from congrFun (index3 t) 2]; omega
  exact e ▸ View.emb_mem_set ((cfg0.win 3).blk t).view (ix3 0 ⟨(i 1 : Nat), i1⟩ ⟨(i 2 : Nat) % 1024, hk⟩ : S1x136x1024.Idx)

/-- The result array ends holding the reference's result. -/
theorem final_eq : (Gen.dats m 0 0).arrAt 3 cfg0.N = (resultOf m : Buf (Elt Ideal) ((cfg0.win 3).arr.view.loc ((0 : Dev nD).tc))) :=
  (Gen.dats m 0 0).arrAt_eq_of_cover 3 (resultOf m) (fun t _ => flushed_eq m t) covered

/-- The kernel's run: its result is the reference's, its arguments are unchanged. -/
theorem kernel_run : θ_run defs (onTc (τ := τ) (main (F := Ideal))) ⟨m, fun _ => 0, ρ⟩ (fun r => ∀ c : Dev nD,
      r.2.mem ((c.tc : Thread nD τ).loc main_v3) = (fun _ : Dev nD => (resultOf m : Buf (Elt Ideal) ((c.tc : Thread nD τ).loc main_v3))) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain rfl : c = 0 := Subsingleton.elim _ _
    refine ⟨(((h.1 0).1 3).trans (final_eq m) : _), ?_⟩
    exact h.2 0) (θ_run_and (Gen.run_main m ρ) (Gen.unchanged m ρ))

end Cert.Proof.Ad

end
-- ==== Proof.AdClaims.lean ====
/- The claims about the conditioning: the two kernels' frames, the reference's, and the equality of the idealized
   kernel and the reference. -/
module

public import proofs.«01_k».proof.Defs
public import proofs.«01_k».proof.Proof.Gen.Ada.Frame
public import proofs.«01_k».proof.Proof.AdFinal
public import proofs.«01_k».proof.Proof.Gen.AdaRefIdeal.Run
public import Idealize.ShloMosaic.Lib.Claim
public import Idealize.ShloMosaic.Adequacy
public import Idealize.ShloMosaic.Init

@[expose] public section

set_option maxRecDepth 16384

noncomputable section

namespace Cert.Proof.Ad

open Idealize Idealize.ShloMosaic Idealize.SL.Sem

theorem frame_bits : Cert.quiescent_Ada := fun m g _ => Cert.Ada.Gen.frame m g

theorem frame_ideal : Cert.quiescent_AdaIdeal := fun m g _ => Cert.AdaIdeal.Gen.frame m g

theorem frame_ref : Cert.quiescent_AdaRefIdeal := fun m g _ =>
  (θ_run Cert.AdaRefIdeal.defs _ _).mono (fun r h => ⟨fun c => (h c).2, sem_eq_zero_of_no_sems (by decide) r.2⟩)
    (Cert.AdaRefIdeal.Value.run (F := Ideal) m g)

/-- The idealized kernel names no constant and replaces no operation. -/
theorem preserves : Cert.preserves_Ada_AdaIdeal := trivial

/-- The reference's result of equal arguments. -/
theorem ref_result (m : (ℓ : Loc Cert.AdaIdeal.nD Cert.AdaIdeal.τ Cert.AdaIdeal.sig) → Buf (Elt Ideal) ℓ)
    (a0 : FVec Ideal Cert.AdaIdeal.S4x1024 .f32) (a1 : FVec Ideal Cert.AdaIdeal.S128x1024 .f32)
    (a2 : FVec Ideal Cert.AdaIdeal.S4x1024x9216 .f32) (a3 : FVec Ideal Cert.AdaIdeal.S4x9216 .f32)
    (e0 : a0 = m ((0 : Dev Cert.AdaIdeal.nD).tc.loc Cert.AdaIdeal.main_arg0))
    (e1 : a1 = m ((0 : Dev Cert.AdaIdeal.nD).tc.loc Cert.AdaIdeal.main_arg1))
    (e2 : a2 = m ((0 : Dev Cert.AdaIdeal.nD).tc.loc Cert.AdaIdeal.main_arg2))
    (e3 : a3 = m ((0 : Dev Cert.AdaIdeal.nD).tc.loc Cert.AdaIdeal.main_arg3)) :
    Cert.AdaRefIdeal.Read.val_main_v7 (F := Ideal) a0 a1 a2 a3 = resultOf m := by
  subst e0 e1 e2 e3
  rfl

theorem algebraic : Cert.algebraic_AdaIdeal_AdaRefIdeal := fun m g m' g' _ e =>
  ⟨fun _ => resultOf m, kernel_run m g,
    (θ_run Cert.AdaRefIdeal.defs _ _).mono (fun r hr c => by
      obtain rfl : c = 0 := Subsingleton.elim _ _
      refine ⟨((hr 0).1.trans (Cert.AdaRefIdeal.Read.val_main_v7_eq _ _ _ _)).trans ?_, (hr 0).2⟩
      exact ref_result m _ _ _ _ (e 0).1 (e 0).2.1 (e 0).2.2.1 (e 0).2.2.2)
      (Cert.AdaRefIdeal.Value.run (F := Ideal) m' g')⟩

end Cert.Proof.Ad

end
-- ==== Proof.MpLoad.lean ====
module

public import proofs.«01_k».proof.Proof.MxRow
public import proofs.«01_k».proof.Proof.Gen.MixoutPromptIdeal.Frame
public import Idealize.ShloMosaic.Lib.Pipeline.Value
public import Idealize.ShloMosaic.Lib.Pointwise
public import Idealize.ShloMosaic.PureOps.Ideal.Laws

@[expose] public section

set_option maxRecDepth 16384

noncomputable section

/-! # What the prompt's mixers load from the rows they have laid out -/

namespace Cert.Proof.Mp

open Idealize.ShloMosaic Idealize.ShloMosaic.TcCoe Cert.MixoutPromptIdeal Cert.MixoutPromptIdeal.Gen
open Idealize.ShloMosaic.Pointwise

/-- The 32 rows before a tile and the tile's 512 rows. -/
def two (a : S32x256.Idx → EReal) (b : S512x256.Idx → EReal) (n : ℕ) (c : Fin 256) : EReal :=
  if h : n < 32 then a (ix2 ⟨n, h⟩ c) else if h' : n - 32 < 512 then b (ix2 ⟨n - 32, h'⟩ c) else 0

variable {κ : Kind} {sp : Space}

/-- A load of rows from the two pieces laid one after the other. -/
theorem load_two {k : ℕ} (v : View sig κ sp S544x256 .f32) (a : S32x256.Idx → EReal) (b : S512x256.Idx → EReal)
    (h1 : ∀ x, (![32, 0] : Fin 2 → Nat) x + S512x256.size x ≤ S544x256.size x) (h0 : ∀ x, (![0, 0] : Fin 2 → Nat) x + S32x256.size x ≤ S544x256.size x)
    (o : ℕ) (ho : o + k ≤ 544) (h : ∀ x, (![o, 0] : Fin 2 → Nat) x + (⟨2, ![k, 256]⟩ : Shape).size x ≤ S544x256.size x) (r : Fin k) (c : Fin 256) :
    v.readCov (Val := Elt Ideal) [⟨Rect.unit ![32, 0] S512x256.size h1, b⟩, ⟨Rect.unit ![0, 0] S32x256.size h0, a⟩]
      (Rect.unit (s := S544x256) ![o, 0] (⟨2, ![k, 256]⟩ : Shape).size h).toLoadRect (ix2 r c) = two a b (o + r.val) c := by
  rw [View.readCov_eq_canon']
  have hr := r.isLt
  have hi : (Rect.unit (s := S544x256) ![o, 0] (⟨2, ![k, 256]⟩ : Shape).size h).toLoadRect.idx (ix2 r c) = ix2 (⟨o + r.val, by omega⟩ : Fin 544) c := by
    funext x
    apply Fin.ext
    match x with
    | ⟨0, _⟩ => show o + 1 * r.val = o + r.val; omega
    | ⟨1, _⟩ => show 0 + 1 * c.val = c.val; omega
  show View.canon _ _ = _
  rw [hi]
  unfold two
  by_cases hn : o + r.val < 32
  · rw [dif_pos hn, View.canon_cons_of_not_mem]
    · have e : ix2 (⟨o + r.val, by omega⟩ : Fin 544) c = (Rect.unit (s := S544x256) ![0, 0] S32x256.size h0).emb (ix2 ⟨o + r.val, hn⟩ c) := by
        funext x
        apply Fin.ext
        match x with
        | ⟨0, _⟩ => show o + r.val = 0 + 1 * (o + r.val); omega
        | ⟨1, _⟩ => show c.val = 0 + 1 * c.val; omega
      rw [e]
      exact View.canon_cons_emb (Val := Elt Ideal) (e := .f32) (Rect.unit (s := S544x256) ![0, 0] S32x256.size h0) a [] _
    · rw [Rect.mem_set_unit]
      intro hm
      have := (hm 0).1
      change 32 ≤ o + r.val at this
      omega
  · rw [dif_neg hn, dif_pos (by omega)]
    have e : ix2 (⟨o + r.val, by omega⟩ : Fin 544) c = (Rect.unit (s := S544x256) ![32, 0] S512x256.size h1).emb (ix2 ⟨o + r.val - 32, by omega⟩ c) := by
      funext x
      apply Fin.ext
      match x with
      | ⟨0, _⟩ => show o + r.val = 32 + 1 * (o + r.val - 32); omega
      | ⟨1, _⟩ => show c.val = 0 + 1 * c.val; omega
    rw [e]
    exact View.canon_cons_emb (Val := Elt Ideal) (e := .f32) (Rect.unit (s := S544x256) ![32, 0] S512x256.size h1) b _ _

/-- The newest shifted copy, read at one of its rows. -/
theorem canon_hit (q : Fin 8) (h : ∀ x, (![q.val, 0, 0] : Fin 3 → Nat) x + S1x536x256.size x ≤ S8x544x256.size x) (w : S1x536x256.Idx → EReal)
    (L : List (View.Piece (Elt Ideal) S8x544x256 .f32)) (n : Fin 536) (c : Fin 256) :
    View.canon ((⟨Rect.unit ![q.val, 0, 0] S1x536x256.size h, w⟩ : View.Piece (Elt Ideal) S8x544x256 .f32) :: L) (ix3 q (⟨n.val, by omega⟩ : Fin 544) c) = w (ix3 0 n c) := by
  have e : ix3 q (⟨n.val, by omega⟩ : Fin 544) c = (Rect.unit (s := S8x544x256) ![q.val, 0, 0] S1x536x256.size h).emb (ix3 0 n c) := by
    funext x
    apply Fin.ext
    match x with
    | ⟨0, _⟩ => show q.val = q.val + 1 * 0; omega
    | ⟨1, _⟩ => show n.val = 0 + 1 * n.val; omega
    | ⟨2, _⟩ => show c.val = 0 + 1 * c.val; omega
  rw [e]
  exact View.canon_cons_emb (Val := Elt Ideal) (e := .f32) (Rect.unit (s := S8x544x256) ![q.val, 0, 0] S1x536x256.size h) w L _

/-- The newest shifted copy, passed over. -/
theorem canon_miss (q p : Fin 8) (hqp : q ≠ p) (h : ∀ x, (![q.val, 0, 0] : Fin 3 → Nat) x + S1x536x256.size x ≤ S8x544x256.size x) (w : S1x536x256.Idx → EReal)
    (L : List (View.Piece (Elt Ideal) S8x544x256 .f32)) (n : Fin 544) (c : Fin 256) :
    View.canon ((⟨Rect.unit ![q.val, 0, 0] S1x536x256.size h, w⟩ : View.Piece (Elt Ideal) S8x544x256 .f32) :: L) (ix3 p n c) = View.canon L (ix3 p n c) := by
  refine View.canon_cons_of_not_mem _ L ?_
  rw [Rect.mem_set_unit]
  intro hm
  have h1 := (hm 0).1
  have h2 := (hm 0).2
  change q.val ≤ p.val at h1
  change p.val < q.val + 1 at h2
  exact hqp (Fin.ext (by omega))

/-- The seven shifted copies of the rows `X`, read at a row. -/
theorem canon_seven (X : ℕ → Fin 256 → EReal) (w1 w2 w3 w4 w5 w6 w7 : S1x536x256.Idx → EReal)
    (e1 : ∀ (n : Fin 536) c, w1 (ix3 0 n c) = X (1 + n.val) c) (h1 : ∀ x, (![1, 0, 0] : Fin 3 → Nat) x + S1x536x256.size x ≤ S8x544x256.size x)
    (e2 : ∀ (n : Fin 536) c, w2 (ix3 0 n c) = X (2 + n.val) c) (h2 : ∀ x, (![2, 0, 0] : Fin 3 → Nat) x + S1x536x256.size x ≤ S8x544x256.size x)
    (e3 : ∀ (n : Fin 536) c, w3 (ix3 0 n c) = X (3 + n.val) c) (h3 : ∀ x, (![3, 0, 0] : Fin 3 → Nat) x + S1x536x256.size x ≤ S8x544x256.size x)
    (e4 : ∀ (n : Fin 536) c, w4 (ix3 0 n c) = X (4 + n.val) c) (h4 : ∀ x, (![4, 0, 0] : Fin 3 → Nat) x + S1x536x256.size x ≤ S8x544x256.size x)
    (e5 : ∀ (n : Fin 536) c, w5 (ix3 0 n c) = X (5 + n.val) c) (h5 : ∀ x, (![5, 0, 0] : Fin 3 → Nat) x + S1x536x256.size x ≤ S8x544x256.size x)
    (e6 : ∀ (n : Fin 536) c, w6 (ix3 0 n c) = X (6 + n.val) c) (h6 : ∀ x, (![6, 0, 0] : Fin 3 → Nat) x + S1x536x256.size x ≤ S8x544x256.size x)
    (e7 : ∀ (n : Fin 536) c, w7 (ix3 0 n c) = X (7 + n.val) c) (h7 : ∀ x, (![7, 0, 0] : Fin 3 → Nat) x + S1x536x256.size x ≤ S8x544x256.size x)
    (L : List (View.Piece (Elt Ideal) S8x544x256 .f32)) (q : Fin 8) (hq : 1 ≤ q.val) (n : Fin 536) (c : Fin 256) :
    View.canon ((⟨Rect.unit ![7, 0, 0] S1x536x256.size h7, w7⟩ : View.Piece (Elt Ideal) S8x544x256 .f32) :: ⟨Rect.unit ![6, 0, 0] S1x536x256.size h6, w6⟩ :: ⟨Rect.unit ![5, 0, 0] S1x536x256.size h5, w5⟩ :: ⟨Rect.unit ![4, 0, 0] S1x536x256.size h4, w4⟩ :: ⟨Rect.unit ![3, 0, 0] S1x536x256.size h3, w3⟩ :: ⟨Rect.unit ![2, 0, 0] S1x536x256.size h2, w2⟩ :: ⟨Rect.unit ![1, 0, 0] S1x536x256.size h1, w1⟩ :: L)
      (ix3 q (⟨n.val, by omega⟩ : Fin 544) c) = X (q.val + n.val) c := by
  by_cases n7 : (7 : Fin 8) = q
  · subst n7; exact (canon_hit 7 h7 w7 _ n c).trans (e7 n c)
  refine (canon_miss 7 q n7 h7 w7 _ _ c).trans ?_
  by_cases n6 : (6 : Fin 8) = q
  · subst n6; exact (canon_hit 6 h6 w6 _ n c).trans (e6 n c)
  refine (canon_miss 6 q n6 h6 w6 _ _ c).trans ?_
  by_cases n5 : (5 : Fin 8) = q
  · subst n5; exact (canon_hit 5 h5 w5 _ n c).trans (e5 n c)
  refine (canon_miss 5 q n5 h5 w5 _ _ c).trans ?_
  by_cases n4 : (4 : Fin 8) = q
  · subst n4; exact (canon_hit 4 h4 w4 _ n c).trans (e4 n c)
  refine (canon_miss 4 q n4 h4 w4 _ _ c).trans ?_
  by_cases n3 : (3 : Fin 8) = q
  · subst n3; exact (canon_hit 3 h3 w3 _ n c).trans (e3 n c)
  refine (canon_miss 3 q n3 h3 w3 _ _ c).trans ?_
  by_cases n2 : (2 : Fin 8) = q
  · subst n2; exact (canon_hit 2 h2 w2 _ n c).trans (e2 n c)
  refine (canon_miss 2 q n2 h2 w2 _ _ c).trans ?_
  have n1 : (1 : Fin 8) = q := by omega
  subst n1
  exact (canon_hit 1 h1 w1 L n c).trans (e1 n c)

/-- A load of 512 rows from one of the shifted copies. -/
theorem load_shift (v : View sig κ sp S8x544x256 .f32) (X : ℕ → Fin 256 → EReal) (L : List (View.Piece (Elt Ideal) S8x544x256 .f32))
    (hL : ∀ (q : Fin 8) (_ : 1 ≤ q.val) (n : Fin 536) (c : Fin 256), View.canon L (ix3 q (⟨n.val, by omega⟩ : Fin 544) c) = X (q.val + n.val) c)
    (q o : ℕ) (hq : 1 ≤ q) (hq' : q < 8) (ho : o + 512 ≤ 536) (h : ∀ x, (![q, 0, 0] : Fin 3 → Nat) x + S1x544x256.size x ≤ S8x544x256.size x)
    (h' : ∀ x, (![o, 0] : Fin 2 → Nat) x + S512x256.size x ≤ S544x256.size x) (z0) (zs) (h₀)
    (hR : (Rect.unit (s := S544x256) ![o, 0] S512x256.size h').toLoadRect.shape.numel
      = ((Rect.unit (s := S8x544x256) ![q, 0, 0] S1x544x256.size h).withinL ((Rect.unit (s := S544x256) ![o, 0] S512x256.size h').toLoadRect.consLift ![1, 544, 256] z0 zs) h₀).shape.numel)
    (r : Fin 512) (c : Fin 256) :
    LoadRect.valAlong hR (v.readCov L ((Rect.unit (s := S8x544x256) ![q, 0, 0] S1x544x256.size h).withinL
      ((Rect.unit (s := S544x256) ![o, 0] S512x256.size h').toLoadRect.consLift ![1, 544, 256] z0 zs) h₀)) (ix2 r c) = X (q + o + r.val) c := by
  have hr := r.isLt
  show v.readCov L _ (Shape.reshapeEquiv hR (ix2 r c)) = _
  rw [View.readCov_eq_canon']
  have e : Shape.reshapeEquiv hR (ix2 r c) = Fin.cons ⟨0, Nat.one_pos⟩ (ix2 r c) := Shape.reshapeEquiv_cons_one (d := S512x256.size) _ _
  have hx := hL ⟨q, hq'⟩ hq ⟨o + r.val, by omega⟩ c
  rw [show X (q + o + r.val) c = X (q + (o + r.val)) c by rw [Nat.add_assoc]]
  refine Eq.trans (congrArg (View.canon L) ?_) hx
  rw [e]
  funext x
  apply Fin.ext
  match x with
  | ⟨0, _⟩ => show q + 0 + 1 * 0 = q; omega
  | ⟨1, _⟩ => show 0 + o + 1 * r.val = o + r.val; omega
  | ⟨2, _⟩ => show 0 + 0 + 1 * c.val = c.val; omega

end Cert.Proof.Mp

end
-- ==== Proof.MpPay.lean ====
module

public import proofs.«01_k».proof.Proof.MpLoad
public import proofs.«01_k».proof.Proof.MxBody

@[expose] public section

set_option maxRecDepth 16384

noncomputable section

/-! # The arithmetic of the prompt's mixers and output projection, entry by entry -/

namespace Cert.Proof.Mp

open Idealize.ShloMosaic Idealize.ShloMosaic.TcCoe Cert.MixoutPromptIdeal Cert.MixoutPromptIdeal.Gen
open Idealize.ShloMosaic.Pointwise Cert.Proof.Ff
open Cert.Proof.Mx (onE onE_eq winN winSum mean256 norm256 convOut convRow conv_all catRow sumRow poolOut block_diag foldl_finRange)

theorem pay14_apply (v62 : Vec Ideal S1x256 .f32) (v68 : Vec Ideal S512x256 .f32) (v69 : Vec Ideal S1x256 .f32) (v76 : Vec Ideal S512x256 .f32) (v77 : Vec Ideal S1x256 .f32) (r : Fin 512) (k : Fin 256) :
    k0_pay14 v62 v68 v69 v76 v77 (ix2 r k) = v62 (ix2 0 k) + v68 (ix2 r k) * v69 (ix2 0 k) + v76 (ix2 r k) * v77 (ix2 0 k) := by
  unfold k0_pay14
  pointwise

theorem pay16_apply (v81 : FVec Ideal S512x256 .f32) (v84 : Vec Ideal S512x256 .f32) (v86 : FVec Ideal S1x256 .f32) (v92 : Vec Ideal S512x256 .f32) (v93 : Vec Ideal S1x256 .f32) (v100 : Vec Ideal S512x256 .f32) (v101 : Vec Ideal S1x256 .f32) (v108 : Vec Ideal S512x256 .f32) (v109 : Vec Ideal S1x256 .f32) (v114 : Vec Ideal S512x256 .f32) (v115 : Vec Ideal S1x256 .f32) (r : Fin 512) (k : Fin 256) :
    k0_pay16 v81 v84 v86 v92 v93 v100 v101 v108 v109 v114 v115 (ix2 r k) = v81 (ix2 r k) + v84 (ix2 r k) * v86 (ix2 0 k) + v92 (ix2 r k) * v93 (ix2 0 k) + v100 (ix2 r k) * v101 (ix2 0 k) + v108 (ix2 r k) * v109 (ix2 0 k) + v114 (ix2 r k) * v115 (ix2 0 k) := by
  unfold k0_pay16
  pointwise

theorem pay17_apply (v119 : FVec Ideal S512x256 .f32) (v122 : Vec Ideal S512x256 .f32) (v123 : Vec Ideal S1x256 .f32) (v130 : Vec Ideal S512x256 .f32) (v131 : Vec Ideal S1x256 .f32) (v138 : Vec Ideal S512x256 .f32) (v139 : Vec Ideal S1x256 .f32) (v146 : Vec Ideal S512x256 .f32) (v147 : Vec Ideal S1x256 .f32) (r : Fin 512) (k : Fin 256) :
    k0_pay17 v119 v122 v123 v130 v131 v138 v139 v146 v147 (ix2 r k) = v119 (ix2 r k) + v122 (ix2 r k) * v123 (ix2 0 k) + v130 (ix2 r k) * v131 (ix2 0 k) + v138 (ix2 r k) * v139 (ix2 0 k) + v146 (ix2 r k) * v147 (ix2 0 k) := by
  unfold k0_pay17
  pointwise

theorem pay18_apply (v151 : FVec Ideal S512x256 .f32) (v154 : Vec Ideal S512x256 .f32) (v155 : Vec Ideal S1x256 .f32) (v162 : Vec Ideal S512x256 .f32) (v163 : Vec Ideal S1x256 .f32) (v170 : Vec Ideal S512x256 .f32) (v171 : Vec Ideal S1x256 .f32) (v176 : Vec Ideal S512x256 .f32) (v177 : Vec Ideal S1x256 .f32) (r : Fin 512) (k : Fin 256) :
    k0_pay18 v151 v154 v155 v162 v163 v170 v171 v176 v177 (ix2 r k) = v151 (ix2 r k) + v154 (ix2 r k) * v155 (ix2 0 k) + v162 (ix2 r k) * v163 (ix2 0 k) + v170 (ix2 r k) * v171 (ix2 0 k) + v176 (ix2 r k) * v177 (ix2 0 k) := by
  unfold k0_pay18
  pointwise

theorem pay19_apply (v181 : FVec Ideal S512x256 .f32) (v184 : Vec Ideal S512x256 .f32) (v185 : Vec Ideal S1x256 .f32) (v192 : Vec Ideal S512x256 .f32) (v193 : Vec Ideal S1x256 .f32) (v200 : Vec Ideal S512x256 .f32) (v201 : Vec Ideal S1x256 .f32) (v208 : Vec Ideal S512x256 .f32) (v209 : Vec Ideal S1x256 .f32) (r : Fin 512) (k : Fin 256) :
    k0_pay19 v181 v184 v185 v192 v193 v200 v201 v208 v209 (ix2 r k) = v181 (ix2 r k) + v184 (ix2 r k) * v185 (ix2 0 k) + v192 (ix2 r k) * v193 (ix2 0 k) + v200 (ix2 r k) * v201 (ix2 0 k) + v208 (ix2 r k) * v209 (ix2 0 k) := by
  unfold k0_pay19
  pointwise

theorem pay20_apply (v213 : FVec Ideal S512x256 .f32) (v216 : Vec Ideal S512x256 .f32) (v217 : Vec Ideal S1x256 .f32) (v224 : Vec Ideal S512x256 .f32) (v225 : Vec Ideal S1x256 .f32) (v232 : Vec Ideal S512x256 .f32) (v233 : Vec Ideal S1x256 .f32) (v238 : Vec Ideal S512x256 .f32) (v239 : Vec Ideal S1x256 .f32) (r : Fin 512) (k : Fin 256) :
    k0_pay20 v213 v216 v217 v224 v225 v232 v233 v238 v239 (ix2 r k) = v213 (ix2 r k) + v216 (ix2 r k) * v217 (ix2 0 k) + v224 (ix2 r k) * v225 (ix2 0 k) + v232 (ix2 r k) * v233 (ix2 0 k) + v238 (ix2 r k) * v239 (ix2 0 k) := by
  unfold k0_pay20
  pointwise

theorem pay22_apply (v243 : FVec Ideal S512x256 .f32) (v246 : Vec Ideal S512x256 .f32) (v248 : FVec Ideal S1x256 .f32) (v254 : Vec Ideal S512x256 .f32) (v255 : Vec Ideal S1x256 .f32) (v262 : Vec Ideal S512x256 .f32) (v263 : Vec Ideal S1x256 .f32) (v270 : Vec Ideal S512x256 .f32) (v271 : Vec Ideal S1x256 .f32) (r : Fin 512) (k : Fin 256) :
    k0_pay22 v243 v246 v248 v254 v255 v262 v263 v270 v271 (ix2 r k) = v243 (ix2 r k) + v246 (ix2 r k) * v248 (ix2 0 k) + v254 (ix2 r k) * v255 (ix2 0 k) + v262 (ix2 r k) * v263 (ix2 0 k) + v270 (ix2 r k) * v271 (ix2 0 k) := by
  unfold k0_pay22
  pointwise

theorem pay24_apply (v275 : FVec Ideal S512x256 .f32) (v278 : Vec Ideal S512x256 .f32) (v280 : FVec Ideal S1x256 .f32) (v286 : Vec Ideal S512x256 .f32) (v287 : Vec Ideal S1x256 .f32) (v294 : Vec Ideal S512x256 .f32) (v295 : Vec Ideal S1x256 .f32) (v300 : Vec Ideal S512x256 .f32) (v301 : Vec Ideal S1x256 .f32) (r : Fin 512) (k : Fin 256) :
    k0_pay24 v275 v278 v280 v286 v287 v294 v295 v300 v301 (ix2 r k) = v275 (ix2 r k) + v278 (ix2 r k) * v280 (ix2 0 k) + v286 (ix2 r k) * v287 (ix2 0 k) + v294 (ix2 r k) * v295 (ix2 0 k) + v300 (ix2 r k) * v301 (ix2 0 k) := by
  unfold k0_pay24
  pointwise

theorem pay15_apply (v85 : Vec Ideal S1x256 .f32) (k : Fin 256) : k0_pay15 v85 (ix2 0 k) = v85 (ix2 0 k) := by
  unfold k0_pay15
  pointwise

theorem pay21_apply (v247 : Vec Ideal S1x256 .f32) (k : Fin 256) : k0_pay21 v247 (ix2 0 k) = v247 (ix2 0 k) := by
  unfold k0_pay21
  pointwise

theorem pay23_apply (v279 : Vec Ideal S1x256 .f32) (k : Fin 256) : k0_pay23 v279 (ix2 0 k) = v279 (ix2 0 k) := by
  unfold k0_pay23
  pointwise

theorem pay35_apply (v30 : FVec Ideal S512x256 .f32) (v334 : IVec S1x256 32) (z : BitVec 32) (v336 : IVec S1x256 32) (v338 : IVec S1x256 1) (v363 v373 : Vec Ideal S512x256 .f32)
    (r : Fin 512) (k : Fin 256) : k0_pay35 v30 v334 z v336 v338 v363 v373 (ix2 r k)
      = v30 (ix2 r k) + v363 (ix2 r k) * onE (k0_pay34 v334 z v336 v338 (ix2 0 k)) 1#32 + v373 (ix2 r k) * onE (k0_pay34 v334 z v336 v338 (ix2 0 k)) 2#32 := by
  unfold k0_pay35 onE
  generalize k0_pay34 v334 z v336 v338 = w
  pointwise

theorem pay36_apply (v360 : IVec S1x256 32) (v380 : FVec Ideal S512x256 .f32) (v383 v393 v403 : Vec Ideal S512x256 .f32) (r : Fin 512) (k : Fin 256) :
    k0_pay36 v360 v380 v383 v393 v403 (ix2 r k) = v380 (ix2 r k) + v383 (ix2 r k) * onE (v360 (ix2 0 k)) 3#32 + v393 (ix2 r k) * onE (v360 (ix2 0 k)) 4#32 + v403 (ix2 r k) * onE (v360 (ix2 0 k)) 5#32 := by
  unfold k0_pay36 onE
  pointwise

theorem pay38_apply (v360 : IVec S1x256 32) (v410 : FVec Ideal S512x256 .f32) (v413 : Vec Ideal S512x256 .f32) (v416 : IVec S1x256 32) (v423 v431 v441 : Vec Ideal S512x256 .f32) (r : Fin 512) (k : Fin 256) :
    k0_pay38 v360 v410 v413 v416 v423 v431 v441 (ix2 r k) = v410 (ix2 r k) + v413 (ix2 r k) * FloatOps.sitofp (F := Ideal) FTy.f32 (v416 (ix2 0 k)) + v423 (ix2 r k) * onE (v360 (ix2 0 k)) 7#32 + v431 (ix2 r k) * onE (v360 (ix2 0 k)) 8#32 + v441 (ix2 r k) * onE (v360 (ix2 0 k)) 9#32 := by
  unfold k0_pay38 onE
  pointwise

theorem pay40_apply (v360 : IVec S1x256 32) (v448 : FVec Ideal S512x256 .f32) (v451 : Vec Ideal S512x256 .f32) (v455 : FVec Ideal S1x256 .f32) (v461 v471 v481 : Vec Ideal S512x256 .f32) (r : Fin 512) (k : Fin 256) :
    k0_pay40 v360 v448 v451 v455 v461 v471 v481 (ix2 r k) = v448 (ix2 r k) + v451 (ix2 r k) * v455 (ix2 0 k) + v461 (ix2 r k) * onE (v360 (ix2 0 k)) 11#32 + v471 (ix2 r k) * onE (v360 (ix2 0 k)) 12#32 + v481 (ix2 r k) * onE (v360 (ix2 0 k)) 13#32 := by
  unfold k0_pay40 onE
  pointwise

theorem pay37_apply (w : IVec S1x256 32) (k : Fin 256) :
    FloatOps.sitofp (F := Ideal) FTy.f32 (k0_pay37 w (ix2 0 k)) = onE (w (ix2 0 k)) 6#32 := rfl

theorem pay39_apply (w : IVec S1x256 32) (k : Fin 256) : k0_pay39 (F := Ideal) w (ix2 0 k) = onE (w (ix2 0 k)) 10#32 := rfl

theorem pay41_apply (v1 : BitVec 32) (v30 : FVec Ideal S512x256 .f32) (v360 : IVec S1x256 32) (v488 : FVec Ideal S512x256 .f32) (v491 v501 : Vec Ideal S512x256 .f32) (z : BitVec 32)
    (r : Fin 512) (k : Fin 256) : k0_pay41 v1 v30 v360 v488 v491 z v501 (ix2 r k)
      = Ideal.div (v488 (ix2 r k) + v491 (ix2 r k) * onE (v360 (ix2 0 k)) z + v501 (ix2 r k) * onE (v360 (ix2 0 k)) 15#32)
          (FloatOps.sitofp (F := Ideal) FTy.f32 (IntOp.minsi (BitVec.ofNat 32 r.val + v1 + 1#32) (v360 (ix2 0 k)))) - v30 (ix2 r k) := by
  unfold k0_pay41 onE
  pointwise
  rfl

theorem pay5_apply (v : Vec Ideal S1x512x256 .f32) (r : Fin 512) (k : Fin 256) : k0_pay5 v (ix2 r k) = v (ix3 0 r k) := by
  unfold k0_pay5
  pointwise

theorem pay3_apply (v : Vec Ideal S1x512x256 .f32) (r : Fin 512) (k : Fin 256) : k0_pay3 v (ix2 r k) = v (ix3 0 r k) := by
  unfold k0_pay3
  pointwise

theorem pay6_apply (v : FVec Ideal S512x256 .f32) (r : Fin 512) (k : Fin 256) : k0_pay6 v (ix2 r k) = v (ix2 r k) := by
  unfold k0_pay6
  pointwise

theorem win_word : ∀ k : Fin 256, k0_pay34 (iota .tc S1x256 32 [1] iota_S1x256_d1_w32) 64#32 k0_pay32 k0_pay33 (ix2 0 k)
    = BitVec.ofNat 32 (winN k) := by decide +kernel

theorem first_word : ∀ n : Fin 8, IntOp.cmpi .eq (BitVec.ofNat 32 n.val) 0#32 = if n.val = 0 then 1#1 else 0#1 := by decide

theorem pay2_apply (i : grid0.Coords) (v : Vec Ideal S1x32x256 .f32) (r : Fin 32) (k : Fin 256) :
    k0_pay2 i v (ix2 r k) = if (i 1).val = 0 then (0 : EReal) else v (ix3 0 r k) := by
  have z : Ideal.ofBits FTy.f32 0#32 = 0 := by simp [Ideal.ofBits, Ideal.ieee]
  have hc := first_word ⟨(i 1).val, (i 1).isLt⟩
  unfold k0_pay2
  dsimp only
  rw [show Scalar.cmpi .eq (BitVec.ofNat 32 (i 1).val) 0#32 = if (i 1).val = 0 then 1#1 else 0#1 from hc]
  split
  · exact z
  · have e : (shapeCast S32x256 (shapeCast S32x256 v shapeCasts_S1x32x256_S32x256 : FVec Ideal S32x256 .f32) shapeCasts_S32x256_S32x256 : FVec Ideal S32x256 .f32) (ix2 r k) = v (ix3 0 r k) := by
      pointwise
    exact e

/-- The convolution branch. -/
def convV (y m : FVec Ideal S512x256 .f32) (gc bc : FVec Ideal S1x256 .f32) : FVec Ideal S512x256 .f32 :=
  have v533 : FVec Ideal S512x256 .f32 := subf y m
  have v534 : FVec Ideal S512x256 .f32 := mulf v533 v533
  have v535 : FVec Ideal S512 .f32 := multiReduction .add [1] S512 v534 0x00000000#32 reduces_S512x256_S512 (.inl rfl) rfl
  have v536 : FVec Ideal S512x1 .f32 := shapeCast S512x1 v535 shapeCasts_S512_S512x1
  have v538 : FVec Ideal S512x1 .f32 := divf v536 (broadcast S512x1 (Scalar.ofBits .f32 0x43800000#32))
  have v540 : FVec Ideal S512x1 .f32 := addf v538 (broadcast S512x1 (Scalar.ofBits .f32 0x3727C5AC#32))
  have v543 : FVec Ideal S512x256 .f32 := mulf v533 (broadcastTo S512x256 (rsqrt v540) broadcasts_S512x1_S512x256)
  have v545 : FVec Ideal S512x256 .f32 := mulf v543 (broadcastTo S512x256 gc broadcasts_S1x256_S512x256)
  have v547 : FVec Ideal S512x256 .f32 := addf v545 (broadcastTo S512x256 bc broadcasts_S1x256_S512x256)
  mulf v547 (logistic v547)

/-- The pooling branch. -/
def poolV (d : FVec Ideal S512x256 .f32) (wp : Vec Ideal S256x256 .bf16) (s : Vec Ideal S1x256 .f32) : FVec Ideal S512x256 .f32 :=
  mulf (matmul dot_S512x256_S256x256_S512x256_1_0_0_1_n_n none (truncf .bf16 d bitsLt_bf16_f32 : FVec Ideal S512x256 .bf16)
      (shapeCast S256x256 wp shapeCasts_S256x256_S256x256 : FVec Ideal S256x256 .bf16) (constant S512x256 .f32 0x00000000#32) : FVec Ideal S512x256 .f32)
    (broadcastTo S512x256 (shapeCast S1x256 s shapeCasts_S1x256_S1x256 : FVec Ideal S1x256 .f32) broadcasts_S1x256_S512x256)

/-- The three branches side by side. -/
def catV (a b : FVec Ideal S512x256 .f32) (ya : FVec Ideal S512x512 .bf16) : FVec Ideal S512x1024 .bf16 :=
  concatenate S512x1024 1 [⟨S512x256, (truncf .bf16 a bitsLt_bf16_f32 : FVec Ideal S512x256 .bf16)⟩,
    ⟨S512x256, (truncf .bf16 b bitsLt_bf16_f32 : FVec Ideal S512x256 .bf16)⟩, ⟨S512x512, ya⟩] concatenates_S512x256_S512x256_S512x512_S512x1024_d1

/-- The residual sum. -/
def resV (x : FVec Ideal S512x1024 .f32) (ct : FVec Ideal S512x1024 .bf16) (wo : Vec Ideal S1x1024x1024 .bf16) (g : Vec Ideal S1x1x1024 .f32) : FVec Ideal S512x1024 .f32 :=
  addf (mulf (broadcast S512x1024 (Scalar.ofBits .f32 0x3FD744FD#32)) x)
    (mulf (broadcastTo S512x1024 (shapeCast S1x1024 g shapeCasts_S1x1x1024_S1x1024 : FVec Ideal S1x1024 .f32) broadcasts_S1x1024_S512x1024)
      (matmul dot_S512x1024_S1024x1024_S512x1024_1_0_0_1_n_n none ct (shapeCast S1024x1024 wo shapeCasts_S1x1024x1024_S1024x1024 : FVec Ideal S1024x1024 .bf16)
        (constant S512x1024 .f32 0x00000000#32)))

theorem convV_apply (y : FVec Ideal S512x256 .f32) (gc bc : FVec Ideal S1x256 .f32) (r : Fin 512) (k : Fin 256) :
    convV y (k0_pay46 y) gc bc (ix2 r k) = convOut (fun k => y (ix2 r k)) (fun k => gc (ix2 0 k)) (fun k => bc (ix2 0 k)) k := by
  unfold convV k0_pay46 convOut norm256 mean256
  pointwise

theorem poolV_apply (d : FVec Ideal S512x256 .f32) (wp : Vec Ideal S256x256 .bf16) (s : Vec Ideal S1x256 .f32) (r : Fin 512) (k : Fin 256) :
    poolV d wp s (ix2 r k) = (∑ q : Fin 256, d (ix2 r q) * wp (ix2 q k)) * s (ix2 0 k) := by
  unfold poolV
  pointwise

theorem catV_apply (a b : FVec Ideal S512x256 .f32) (ya : FVec Ideal S512x512 .bf16) (r : Fin 512) (k : Fin 1024) :
    catV a b ya (ix2 r k) = catRow (fun k => a (ix2 r k)) (fun k => b (ix2 r k)) (fun k => ya (ix2 r k)) k := by
  unfold catV catRow
  pointwise
  refine dite_congr rfl (fun _ => rfl) fun h1 => ?_
  refine dite_congr (propext (by omega)) (fun _ => rfl) fun h2 => ?_
  exact congrArg (fun q : Fin 512 => ya (ix2 r q)) (Fin.ext (by show k.val - 256 - 256 = k.val - 512; omega))

theorem resV_apply (x : FVec Ideal S512x1024 .f32) (ct : FVec Ideal S512x1024 .bf16) (wo : Vec Ideal S1x1024x1024 .bf16) (g : Vec Ideal S1x1x1024 .f32) (r : Fin 512) (c : Fin 1024) :
    resV x ct wo g (ix2 r c) = sumRow (fun k => x (ix2 r k)) (fun k => g (ix3 0 0 k)) (fun k => ct (ix2 r k)) (fun k c => wo (ix3 0 k c)) c := by
  unfold resV sumRow
  pointwise

theorem pay1_apply (y : FVec Ideal S512x1024 .f32) (lng : FVec Ideal S1x1024 .f32) (lnb : Vec Ideal S1x1024 .f32) (r : Fin 512) (c : Fin 1024) :
    k0_pay1 y lng lnb (ix3 0 r c) = normRow (fun k => y (ix2 r k)) (fun k => lng (ix2 0 k)) (fun k => lnb (ix2 0 k)) c := by
  unfold k0_pay1 normRow meanRow
  pointwise

/-- The mixers, the output projection and the normalisation of a row. -/
theorem tail_apply (y d : FVec Ideal S512x256 .f32) (x : FVec Ideal S512x1024 .f32) (ya : FVec Ideal S512x512 .bf16) (gc bc : FVec Ideal S1x256 .f32)
    (wp : Vec Ideal S256x256 .bf16) (s : Vec Ideal S1x256 .f32) (wo : Vec Ideal S1x1024x1024 .bf16) (g : Vec Ideal S1x1x1024 .f32) (lng : FVec Ideal S1x1024 .f32) (lnb : Vec Ideal S1x1024 .f32)
    (r : Fin 512) (c : Fin 1024) :
    k0_pay1 (k0_pay47 y d x ya gc bc (k0_pay46 y) wp s wo g) lng lnb (ix3 0 r c)
      = normRow (sumRow (fun k => x (ix2 r k)) (fun k => g (ix3 0 0 k))
          (catRow (convOut (fun k => y (ix2 r k)) (fun k => gc (ix2 0 k)) (fun k => bc (ix2 0 k)))
            (fun k => (∑ q : Fin 256, d (ix2 r q) * wp (ix2 q k)) * s (ix2 0 k)) (fun k => ya (ix2 r k))) (fun k c => wo (ix3 0 k c)))
        (fun k => lng (ix2 0 k)) (fun k => lnb (ix2 0 k)) c := by
  rw [show k0_pay47 y d x ya gc bc (k0_pay46 y) wp s wo g = resV x (catV (convV y (k0_pay46 y) gc bc) (poolV d wp s) ya) wo g from rfl,
    pay1_apply, funext fun k => resV_apply x _ wo g r k, funext fun k => catV_apply _ _ ya r k, funext fun k => convV_apply y gc bc r k,
    funext fun k => poolV_apply d wp s r k]

end Cert.Proof.Mp

end
-- ==== Proof.MpBody.lean ====
module

public import proofs.«01_k».proof.Proof.MpPay
public import proofs.«01_k».proof.Proof.Gen.MixoutPromptIdeal.Frame
public import Idealize.ShloMosaic.Lib.WholeRead
public import Idealize.ShloMosaic.PureOps.Ideal.Laws

@[expose] public section

set_option maxRecDepth 16384

noncomputable section

/-! # The block the prompt's mixers and output projection leave at a grid point, row by row -/

namespace Cert.Proof.Mp

open Idealize Idealize.ShloMosaic Idealize.ShloMosaic.TcCoe Cert.MixoutPromptIdeal Cert.MixoutPromptIdeal.Gen
open Idealize.ShloMosaic.Pointwise Cert.Proof.Ff
open Cert.Proof.Mx (onE onE_eq winN winSum mean256 norm256 convOut convRow conv_all catRow sumRow poolOut block_diag foldl_finRange)

/-- Row `N - 32` of a sequence, and zero before its first row. -/
def lagAt (x : Fin 4096 → Fin 256 → EReal) (N : ℕ) (c : Fin 256) : EReal :=
  if h : 32 ≤ N ∧ N < 4128 then x ⟨N - 32, by omega⟩ c else 0

theorem off1_all : ∀ n : Fin 8, (Scalar.indexCast (Scalar.maxsi (Scalar.subi (Scalar.muli (BitVec.ofNat 32 n.val) 512#32) 32#32) 0#32)).toNat = n.val * 512 - 32 := by decide
theorem off2_all : ∀ n : Fin 8, (Scalar.indexCast (Scalar.muli (BitVec.ofNat 32 n.val) 512#32)).toNat = n.val * 512 := by decide

theorem lift_apply (v : S536x256.Idx → EReal) (n : Fin 536) (c : Fin 256) :
    (shapeCast S1x536x256 v shapeCasts_S536x256_S1x536x256 : FVec Ideal S1x536x256 .f32) (ix3 0 n c) = v (ix2 n c) := by
  pointwise

section
variable (dc : Dev nD) (i : grid0.Coords) (a3 : Memref sig .tc .vmem S1x4096x256 .f32) (h3 : a3.IsWhole) (a4 : Memref sig .tc .vmem S1x4096x256 .f32)
  (h4 : a4.IsWhole) (a17 a18 : Memref sig .tc .vmem S544x256 .f32) (a19 : Memref sig .tc .vmem S8x544x256 .f32) (x1 x2 : Vec Ideal S1x4096x256 .f32)

/-- A load of rows before the tile. -/
theorem head_at (r : Fin 32) (k : Fin 256) :
    View.readAt (Elt Ideal) a3.view (Rect.unit (s := S1x4096x256) (k0_off1 i) S1x32x256.size (k0_off1_inb i)).toLoadRect (h3.unread x1) (ix3 0 r k)
      = x1 (ix3 0 ⟨(i 1).val * 512 - 32 + r.val, by have : (i 1).val < 8 := (i 1).isLt; omega⟩ k) := by
  rw [Memref.IsWhole.readAt_unread]
  refine congrArg x1 ?_
  funext a
  apply Fin.ext
  match a with
  | ⟨0, _⟩ => rfl
  | ⟨1, _⟩ =>
    show k0_off1 i 1 + 1 * r.val = (i 1).val * 512 - 32 + r.val
    rw [show k0_off1 i 1 = (i 1).val * 512 - 32 from off1_all ⟨(i 1).val, (i 1).isLt⟩]; omega
  | ⟨2, _⟩ => show 0 + 1 * k.val = k.val; omega

/-- A load of the tile's rows. -/
theorem tile_at (r : Fin 512) (k : Fin 256) :
    View.readAt (Elt Ideal) a3.view (Rect.unit (s := S1x4096x256) (k0_off2 i) S1x512x256.size (k0_off2_inb i)).toLoadRect (h3.unread x1) (ix3 0 r k)
      = x1 (ix3 0 ⟨(i 1).val * 512 + r.val, by have : (i 1).val < 8 := (i 1).isLt; omega⟩ k) := by
  rw [Memref.IsWhole.readAt_unread]
  refine congrArg x1 ?_
  funext a
  apply Fin.ext
  match a with
  | ⟨0, _⟩ => rfl
  | ⟨1, _⟩ =>
    show k0_off2 i 1 + 1 * r.val = (i 1).val * 512 + r.val
    rw [show k0_off2 i 1 = (i 1).val * 512 from off2_all ⟨(i 1).val, (i 1).isLt⟩]; omega
  | ⟨2, _⟩ => show 0 + 1 * k.val = k.val; omega

/-- The sequence's rows of a window over the first rows and the tile. -/
theorem two_lag (a : S32x256.Idx → EReal) (b : S512x256.Idx → EReal) (ti : Fin 8)
    (ha : ∀ (r : Fin 32) k, a (ix2 r k) = if ti.val = 0 then (0 : EReal) else x1 (ix3 0 ⟨ti.val * 512 - 32 + r.val, by omega⟩ k))
    (hb : ∀ (r : Fin 512) k, b (ix2 r k) = x1 (ix3 0 ⟨ti.val * 512 + r.val, by omega⟩ k)) (n : ℕ) (hn : n < 544) (k : Fin 256) :
    two a b n k = lagAt (fun r k => x1 (ix3 0 r k)) (512 * ti.val + n) k := by
  unfold two lagAt
  by_cases h : n < 32
  · rw [dif_pos h, ha]
    by_cases h0 : ti.val = 0
    · rw [if_pos h0, dif_neg (by omega)]
    · rw [if_neg h0, dif_pos (by omega)]
      exact congrArg (fun q : Fin 4096 => x1 (ix3 0 q k)) (Fin.ext (by show ti.val * 512 - 32 + n = 512 * ti.val + n - 32; omega))
  · rw [dif_neg h, dif_pos (by omega), hb, dif_pos (by omega)]
    exact congrArg (fun q : Fin 4096 => x1 (ix3 0 q k)) (Fin.ext (by show ti.val * 512 + (n - 32) = 512 * ti.val + n - 32; omega))

/-- A window of the convolution's rows. -/
theorem win_conv {k : ℕ} (o : ℕ) (ho : o + k ≤ 544) (h : ∀ x, (![o, 0] : Fin 2 → Nat) x + (⟨2, ![k, 256]⟩ : Shape).size x ≤ S544x256.size x) (r : Fin k) (c : Fin 256) :
    a17.view.readCov (kernelRun0_A.sl.HS0_2 (F := Ideal) dc i a3 h3 x1) (Rect.unit (s := S544x256) ![o, 0] (⟨2, ![k, 256]⟩ : Shape).size h).toLoadRect (ix2 r c)
      = lagAt (fun r k => x1 (ix3 0 r k)) (512 * (i 1).val + (o + r.val)) c :=
  (load_two a17.view _ _ _ _ o ho h r c).trans (two_lag x1 _ _ ⟨(i 1).val, (i 1).isLt⟩
    (fun r k => (pay2_apply i _ r k).trans (by rw [head_at])) (fun r k => (pay3_apply _ r k).trans (tile_at i a3 h3 x1 r k)) _ (by omega) c)

/-- A window of the pooling's rows. -/
theorem win_pool {k : ℕ} (o : ℕ) (ho : o + k ≤ 544) (h : ∀ x, (![o, 0] : Fin 2 → Nat) x + (⟨2, ![k, 256]⟩ : Shape).size x ≤ S544x256.size x) (r : Fin k) (c : Fin 256) :
    a18.view.readCov (kernelRun0_A.sl.HS1_2 (F := Ideal) dc i a4 h4 x2) (Rect.unit (s := S544x256) ![o, 0] (⟨2, ![k, 256]⟩ : Shape).size h).toLoadRect (ix2 r c)
      = lagAt (fun r k => x2 (ix3 0 r k)) (512 * (i 1).val + (o + r.val)) c :=
  (load_two a18.view _ _ _ _ o ho h r c).trans (two_lag x2 _ _ ⟨(i 1).val, (i 1).isLt⟩
    (fun r k => (pay2_apply i _ r k).trans (by rw [head_at]))
    (fun r k => ((pay6_apply _ r k).trans (pay5_apply _ r k)).trans (tile_at i a4 h4 x2 r k)) _ (by omega) c)

/-- The shifted copies of the convolution's rows. -/
theorem copies_conv (q : Fin 8) (hq : 1 ≤ q.val) (n : Fin 536) (c : Fin 256) :
    View.canon (kernelRun0_A.sl.HS2_7 (F := Ideal) dc i a3 h3 a17 x1) (ix3 q (⟨n.val, by omega⟩ : Fin 544) c)
      = lagAt (fun r k => x1 (ix3 0 r k)) (512 * (i 1).val + (q.val + n.val)) c := by
  unfold kernelRun0_A.sl.HS2_7
  exact canon_seven (fun N => lagAt (fun r k => x1 (ix3 0 r k)) (512 * (i 1).val + N)) _ _ _ _ _ _ _
    (fun n c => (lift_apply _ n c).trans (win_conv (k := 536) dc i a3 h3 a17 x1 1 (by omega) _ n c)) _
    (fun n c => (lift_apply _ n c).trans (win_conv (k := 536) dc i a3 h3 a17 x1 2 (by omega) _ n c)) _
    (fun n c => (lift_apply _ n c).trans (win_conv (k := 536) dc i a3 h3 a17 x1 3 (by omega) _ n c)) _
    (fun n c => (lift_apply _ n c).trans (win_conv (k := 536) dc i a3 h3 a17 x1 4 (by omega) _ n c)) _
    (fun n c => (lift_apply _ n c).trans (win_conv (k := 536) dc i a3 h3 a17 x1 5 (by omega) _ n c)) _
    (fun n c => (lift_apply _ n c).trans (win_conv (k := 536) dc i a3 h3 a17 x1 6 (by omega) _ n c)) _
    (fun n c => (lift_apply _ n c).trans (win_conv (k := 536) dc i a3 h3 a17 x1 7 (by omega) _ n c)) _
    [] q hq n c

/-- The shifted copies of the pooling's rows. -/
theorem copies_pool (q : Fin 8) (hq : 1 ≤ q.val) (n : Fin 536) (c : Fin 256) :
    View.canon (kernelRun0_A.sl.HS2_14 (F := Ideal) dc i a3 h3 a4 h4 a17 a18 x1 x2) (ix3 q (⟨n.val, by omega⟩ : Fin 544) c)
      = lagAt (fun r k => x2 (ix3 0 r k)) (512 * (i 1).val + (q.val + n.val)) c := by
  unfold kernelRun0_A.sl.HS2_14 kernelRun0_A.sl.HS2_8
  exact canon_seven (fun N => lagAt (fun r k => x2 (ix3 0 r k)) (512 * (i 1).val + N)) _ _ _ _ _ _ _
    (fun n c => (lift_apply _ n c).trans (win_pool (k := 536) dc i a4 h4 a18 x2 1 (by omega) _ n c)) _
    (fun n c => (lift_apply _ n c).trans (win_pool (k := 536) dc i a4 h4 a18 x2 2 (by omega) _ n c)) _
    (fun n c => (lift_apply _ n c).trans (win_pool (k := 536) dc i a4 h4 a18 x2 3 (by omega) _ n c)) _
    (fun n c => (lift_apply _ n c).trans (win_pool (k := 536) dc i a4 h4 a18 x2 4 (by omega) _ n c)) _
    (fun n c => (lift_apply _ n c).trans (win_pool (k := 536) dc i a4 h4 a18 x2 5 (by omega) _ n c)) _
    (fun n c => (lift_apply _ n c).trans (win_pool (k := 536) dc i a4 h4 a18 x2 6 (by omega) _ n c)) _
    (fun n c => (lift_apply _ n c).trans (win_pool (k := 536) dc i a4 h4 a18 x2 7 (by omega) _ n c)) _
    (kernelRun0_A.sl.HS2_7 dc i a3 h3 a17 x1) q hq n c

end

section
variable (dc : Dev nD) (i : grid0.Coords) (a3 : Memref sig .tc .vmem S1x4096x256 .f32) (h3 : a3.IsWhole) (a4 : Memref sig .tc .vmem S1x4096x256 .f32)
  (h4 : a4.IsWhole) (a6 : Memref sig .tc .vmem S32x256 .f32) (h6 : a6.IsWhole) (a7 : Memref sig .tc .vmem S1x256 .f32) (h7 : a7.IsWhole)
  (a17 a18 : Memref sig .tc .vmem S544x256 .f32) (a19 : Memref sig .tc .vmem S8x544x256 .f32) (x1 x2 : Vec Ideal S1x4096x256 .f32)
  (x4 : Vec Ideal S32x256 .f32) (x5 : Vec Ideal S1x256 .f32)

/-- A row of the convolution's weights. -/
theorem tap_at (j : ℕ) (hj : j < 32) (h : ∀ x, (![j, 0] : Fin 2 → Nat) x + S1x256.size x ≤ S32x256.size x) (c : Fin 256) :
    View.readAt (Elt Ideal) a6.view (Rect.unit (s := S32x256) ![j, 0] S1x256.size h).toLoadRect (h6.unread x4) (ix2 0 c) = x4 (ix2 ⟨j, hj⟩ c) := by
  rw [Memref.IsWhole.readAt_unread]
  refine congrArg x4 ?_
  funext a
  apply Fin.ext
  match a with
  | ⟨0, _⟩ => rfl
  | ⟨1, _⟩ => show 0 + 1 * c.val = c.val; omega

/-- The convolution, row by row. -/
theorem conv_apply (r : Fin 512) (c : Fin 256) :
    kernelRun0_A.sl.r_14 (F := Ideal) dc i a3 h3 a6 h6 a7 h7 a17 a19 x1 x4 x5 (ix2 r c)
      = x5 (ix2 0 c) + ∑ j : Fin 31, lagAt (fun r k => x1 (ix3 0 r k)) (512 * (i 1).val + (2 + j.val + r.val)) c * x4 (ix2 ⟨j.val, by omega⟩ c) := by
  rw [← foldl_finRange]
  unfold kernelRun0_A.sl.r_14 kernelRun0_A.sl.r_11 kernelRun0_A.sl.r_8 kernelRun0_A.sl.r_7 kernelRun0_A.sl.r_6 kernelRun0_A.sl.r_5 kernelRun0_A.sl.r_4 kernelRun0_A.sl.r_1
    kernelRun0_A.sl.r_3 kernelRun0_A.sl.r_10 kernelRun0_A.sl.r_13 kernelRun0_A.sl.r_2 kernelRun0_A.sl.r_9 kernelRun0_A.sl.r_12
  rw [pay24_apply, pay22_apply, pay20_apply, pay19_apply, pay18_apply, pay17_apply, pay16_apply, pay14_apply, pay15_apply, pay21_apply, pay23_apply]
  have s2 : ∀ {a b a' b' : EReal}, a = a' → b = b' → a + b = a' + b' := fun h h' => congrArg₂ (· + ·) h h'
  have p2 : ∀ {a b a' b' : EReal}, a = a' → b = b' → a * b = a' * b' := fun h h' => congrArg₂ (· * ·) h h'
  have b : View.readAt (Elt Ideal) a7.view (Rect.unit (s := S1x256) ![0, 0] S1x256.size inb_S1x256_S1x256_0_0).toLoadRect (h7.unread x5) (ix2 0 c) = x5 (ix2 0 c) := by
    rw [Memref.IsWhole.readAt_unread]
    refine congrArg x5 ?_
    funext a
    apply Fin.ext
    match a with
    | ⟨0, _⟩ => rfl
    | ⟨1, _⟩ => show 0 + 1 * c.val = c.val; omega
  have l := fun q o hq hq' ho h h' z0 zs h₀ hR =>
    load_shift a19.view (fun N => lagAt (fun r k => x1 (ix3 0 r k)) (512 * (i 1).val + N)) (kernelRun0_A.sl.HS2_7 (F := Ideal) dc i a3 h3 a17 x1) (copies_conv dc i a3 h3 a17 x1) q o hq hq' ho h h' z0 zs h₀ hR r c
  have t := fun j hj h => tap_at a6 h6 x4 j hj h c
  exact (s2 (s2 (s2 (s2 (s2 (s2 (s2 (s2 (s2 (s2 (s2 (s2 (s2 (s2 (s2 (s2 (s2 (s2 (s2 (s2 (s2 (s2 (s2 (s2 (s2 (s2 (s2 (s2 (s2 (s2 (s2 b (p2 (l 2 0 (by decide) (by decide) (by decide) _ _ _ _ _ _) (t 0 (by decide) _))) (p2 (l 3 0 (by decide) (by decide) (by decide) _ _ _ _ _ _) (t 1 (by decide) _))) (p2 (l 4 0 (by decide) (by decide) (by decide) _ _ _ _ _ _) (t 2 (by decide) _))) (p2 (l 5 0 (by decide) (by decide) (by decide) _ _ _ _ _ _) (t 3 (by decide) _))) (p2 (l 6 0 (by decide) (by decide) (by decide) _ _ _ _ _ _) (t 4 (by decide) _))) (p2 (l 7 0 (by decide) (by decide) (by decide) _ _ _ _ _ _) (t 5 (by decide) _))) (p2 (win_conv dc i a3 h3 a17 x1 8 (by decide) _ r c) (t 6 (by decide) _))) (p2 (l 1 8 (by decide) (by decide) (by decide) _ _ _ _ _ _) (t 7 (by decide) _))) (p2 (l 2 8 (by decide) (by decide) (by decide) _ _ _ _ _ _) (t 8 (by decide) _))) (p2 (l 3 8 (by decide) (by decide) (by decide) _ _ _ _ _ _) (t 9 (by decide) _))) (p2 (l 4 8 (by decide) (by decide) (by decide) _ _ _ _ _ _) (t 10 (by decide) _))) (p2 (l 5 8 (by decide) (by decide) (by decide) _ _ _ _ _ _) (t 11 (by decide) _))) (p2 (l 6 8 (by decide) (by decide) (by decide) _ _ _ _ _ _) (t 12 (by decide) _))) (p2 (l 7 8 (by decide) (by decide) (by decide) _ _ _ _ _ _) (t 13 (by decide) _))) (p2 (win_conv dc i a3 h3 a17 x1 16 (by decide) _ r c) (t 14 (by decide) _))) (p2 (l 1 16 (by decide) (by decide) (by decide) _ _ _ _ _ _) (t 15 (by decide) _))) (p2 (l 2 16 (by decide) (by decide) (by decide) _ _ _ _ _ _) (t 16 (by decide) _))) (p2 (l 3 16 (by decide) (by decide) (by decide) _ _ _ _ _ _) (t 17 (by decide) _))) (p2 (l 4 16 (by decide) (by decide) (by decide) _ _ _ _ _ _) (t 18 (by decide) _))) (p2 (l 5 16 (by decide) (by decide) (by decide) _ _ _ _ _ _) (t 19 (by decide) _))) (p2 (l 6 16 (by decide) (by decide) (by decide) _ _ _ _ _ _) (t 20 (by decide) _))) (p2 (l 7 16 (by decide) (by decide) (by decide) _ _ _ _ _ _) (t 21 (by decide) _))) (p2 (win_conv dc i a3 h3 a17 x1 24 (by decide) _ r c) (t 22 (by decide) _))) (p2 (l 1 24 (by decide) (by decide) (by decide) _ _ _ _ _ _) (t 23 (by decide) _))) (p2 (l 2 24 (by decide) (by decide) (by decide) _ _ _ _ _ _) (t 24 (by decide) _))) (p2 (l 3 24 (by decide) (by decide) (by decide) _ _ _ _ _ _) (t 25 (by decide) _))) (p2 (l 4 24 (by decide) (by decide) (by decide) _ _ _ _ _ _) (t 26 (by decide) _))) (p2 (l 5 24 (by decide) (by decide) (by decide) _ _ _ _ _ _) (t 27 (by decide) _))) (p2 (l 6 24 (by decide) (by decide) (by decide) _ _ _ _ _ _) (t 28 (by decide) _))) (p2 (l 7 24 (by decide) (by decide) (by decide) _ _ _ _ _ _) (t 29 (by decide) _))) (p2 (win_conv dc i a3 h3 a17 x1 32 (by decide) _ r c) (t 30 (by decide) _)))

/-- The pooling less the division, row by row. -/
theorem pool_apply (r : Fin 512) (c : Fin 256) :
    kernelRun0_A.sl.r_23 (F := Ideal) dc i a3 h3 a4 h4 a17 a18 a19 x1 x2 (ix2 r c)
      = Ideal.div (x2 (ix3 0 ⟨(i 1).val * 512 + r.val, by have : (i 1).val < 8 := (i 1).isLt; omega⟩ c)
            + ∑ j : Fin 15, lagAt (fun r k => x2 (ix3 0 r k)) (512 * (i 1).val + (32 - (1 + j.val) + r.val)) c * onE (BitVec.ofNat 32 (winN c)) (BitVec.ofNat 32 (1 + j.val)))
          (FloatOps.sitofp (F := Ideal) FTy.f32 (IntOp.minsi (BitVec.ofNat 32 r.val + Scalar.muli (BitVec.ofNat 32 (i 1).val) 512#32 + 1#32) (BitVec.ofNat 32 (winN c))))
        - x2 (ix3 0 ⟨(i 1).val * 512 + r.val, by have : (i 1).val < 8 := (i 1).isLt; omega⟩ c) := by
  rw [← foldl_finRange]
  unfold kernelRun0_A.sl.r_23 kernelRun0_A.sl.r_21 kernelRun0_A.sl.r_19 kernelRun0_A.sl.r_17 kernelRun0_A.sl.r_16 kernelRun0_A.sl.r_18 kernelRun0_A.sl.r_20 kernelRun0_A.sl.r_22
    kernelRun0_A.sl.r
  rw [pay41_apply, pay40_apply, pay39_apply, pay38_apply, pay37_apply, pay36_apply, pay35_apply, pay5_apply, tile_at]
  rw [show kernelRun0_A.sl.r_15 (ix2 0 c) = BitVec.ofNat 32 (winN c) from win_word c,
    show k0_pay34 kernelRun0_A.sl.v334 64#32 k0_pay32 k0_pay33 (ix2 0 c) = BitVec.ofNat 32 (winN c) from win_word c]
  have s2 : ∀ {a b a' b' : EReal}, a = a' → b = b' → a + b = a' + b' := fun h h' => congrArg₂ (· + ·) h h'
  have p2 : ∀ {a a' b : EReal}, a = a' → a * b = a' * b := fun h => congrArg (· * _) h
  have l := fun q o hq hq' ho h h' z0 zs h₀ hR =>
    load_shift a19.view (fun N => lagAt (fun r k => x2 (ix3 0 r k)) (512 * (i 1).val + N)) (kernelRun0_A.sl.HS2_14 (F := Ideal) dc i a3 h3 a4 h4 a17 a18 x1 x2) (copies_pool dc i a3 h3 a4 h4 a17 a18 x1 x2) q o hq hq' ho h h' z0 zs h₀ hR r c
  refine congrArg (fun s => Ideal.div s _ - _) ?_
  exact (s2 (s2 (s2 (s2 (s2 (s2 (s2 (s2 (s2 (s2 (s2 (s2 (s2 (s2 (s2 (Eq.refl _) (p2 (l 7 24 (by decide) (by decide) (by decide) _ _ _ _ _ _))) (p2 (l 6 24 (by decide) (by decide) (by decide) _ _ _ _ _ _))) (p2 (l 5 24 (by decide) (by decide) (by decide) _ _ _ _ _ _))) (p2 (l 4 24 (by decide) (by decide) (by decide) _ _ _ _ _ _))) (p2 (l 3 24 (by decide) (by decide) (by decide) _ _ _ _ _ _))) (p2 (l 2 24 (by decide) (by decide) (by decide) _ _ _ _ _ _))) (p2 (l 1 24 (by decide) (by decide) (by decide) _ _ _ _ _ _))) (p2 (win_pool dc i a4 h4 a18 x2 24 (by decide) _ r c))) (p2 (l 7 16 (by decide) (by decide) (by decide) _ _ _ _ _ _))) (p2 (l 6 16 (by decide) (by decide) (by decide) _ _ _ _ _ _))) (p2 (l 5 16 (by decide) (by decide) (by decide) _ _ _ _ _ _))) (p2 (l 4 16 (by decide) (by decide) (by decide) _ _ _ _ _ _))) (p2 (l 3 16 (by decide) (by decide) (by decide) _ _ _ _ _ _))) (p2 (l 2 16 (by decide) (by decide) (by decide) _ _ _ _ _ _))) (p2 (l 1 16 (by decide) (by decide) (by decide) _ _ _ _ _ _)))

end

end Cert.Proof.Mp

end
-- ==== Proof.MpTile.lean ====
module

public import proofs.«01_k».proof.Proof.MpBody

@[expose] public section

set_option maxRecDepth 16384

noncomputable section

/-! # The whole block of the prompt's mixers and output projection, row by row -/

namespace Cert.Proof.Mp

open Idealize Idealize.ShloMosaic Idealize.ShloMosaic.TcCoe Cert.MixoutPromptIdeal Cert.MixoutPromptIdeal.Gen
open Idealize.ShloMosaic.Pointwise Cert.Proof.Ff
open Cert.Proof.Mx (onE onE_eq winN winSum convOut catRow sumRow poolOut block_diag)

/-- The convolution at a row: the offset plus the last 31 rows, each times its weights. -/
def convP (v : Fin 4096 → Fin 256 → EReal) (w : Fin 31 → Fin 256 → EReal) (b : Fin 256 → EReal) (t : ℕ) (k : Fin 256) : EReal :=
  b k + ∑ j : Fin 31, lagAt v (t + 2 + j.val) k * w j k

/-- The mean of a row's window less the row. -/
def poolP (u : Fin 4096 → Fin 256 → EReal) (t : Fin 4096) (k : Fin 256) : EReal :=
  Ideal.div (winSum (fun j => lagAt u (t.val + 17 + j.val)) (u t) k)
      (FloatOps.sitofp (F := Ideal) FTy.f32 (IntOp.minsi (BitVec.ofNat 32 (t.val + 1)) (BitVec.ofNat 32 (winN k))))
    - u t k

/-- The whole layer step on one row. -/
def mixP (x g : Fin 1024 → EReal) (v u : Fin 4096 → Fin 256 → EReal) (w : Fin 31 → Fin 256 → EReal) (b gc bc : Fin 256 → EReal)
    (wp : Fin 4 → Fin 64 → Fin 64 → EReal) (s : Fin 256 → EReal) (ya : Fin 512 → EReal) (wo : Fin 1024 → Fin 1024 → EReal)
    (lng lnb : Fin 1024 → EReal) (t : Fin 4096) (c : Fin 1024) : EReal :=
  normRow (sumRow x g (catRow (convOut (convP v w b t.val) gc bc) (poolOut (poolP u t) wp s) ya) wo) lng lnb c

/-- The window's sum, from the row before backwards. -/
theorem win_back (u : Fin 4096 → Fin 256 → EReal) (t : Fin 4096) (k : Fin 256) :
    u t k + ∑ j : Fin 15, lagAt u (t.val + 32 - (1 + j.val)) k * onE (BitVec.ofNat 32 (winN k)) (BitVec.ofNat 32 (1 + j.val))
      = winSum (fun j => lagAt u (t.val + 17 + j.val)) (u t) k := by
  unfold winSum
  refine congrArg (u t k + ·) ?_
  rw [← Equiv.sum_comp Fin.revPerm]
  refine Finset.sum_congr rfl fun j _ => ?_
  rw [← onE_eq k j]
  have e : (Fin.revPerm j : Fin 15).val = 14 - j.val := by simp [Fin.revPerm, Fin.rev]
  rw [e, show t.val + 32 - (1 + (14 - j.val)) = t.val + 17 + j.val by omega, show 1 + (14 - j.val) = 15 - j.val by omega]

/-- The row count a grid point's word names. -/
theorem count_word (n r : ℕ) : BitVec.ofNat 32 r + Scalar.muli (BitVec.ofNat 32 n) 512#32 + 1#32 = BitVec.ofNat 32 (512 * n + r + 1) := by
  show BitVec.ofNat 32 r + BitVec.ofNat 32 n * BitVec.ofNat 32 512 + BitVec.ofNat 32 1 = _
  rw [← BitVec.ofNat_mul, ← BitVec.ofNat_add, ← BitVec.ofNat_add]
  exact congrArg (BitVec.ofNat 32) (by omega)

theorem whole2 (n k : ℕ) {e : EltTy} (M : Memref sig .tc .vmem (⟨2, ![n, k]⟩ : Shape) e) (h : M.IsWhole)
    (X : (⟨2, ![n, k]⟩ : Shape).Idx → Elt Ideal e) (hb : ∀ a, (![0, 0] : Fin 2 → ℕ) a + (![n, k] : Fin 2 → ℕ) a ≤ (⟨2, ![n, k]⟩ : Shape).size a) :
    View.readAt (Elt Ideal) M.view (Rect.unit (s := (⟨2, ![n, k]⟩ : Shape)) ![0, 0] ![n, k] hb).toLoadRect (h.unread X) = X := by
  rw [View.readAt_eq_ld, h.read_unread]
  exact View.ld_unit_zero (by funext a; fin_cases a <;> rfl) hb X

theorem whole3 (a b d : ℕ) {e : EltTy} (M : Memref sig .tc .vmem (⟨3, ![a, b, d]⟩ : Shape) e) (h : M.IsWhole)
    (X : (⟨3, ![a, b, d]⟩ : Shape).Idx → Elt Ideal e) (hb : ∀ q, (![0, 0, 0] : Fin 3 → ℕ) q + (![a, b, d] : Fin 3 → ℕ) q ≤ (⟨3, ![a, b, d]⟩ : Shape).size q) :
    View.readAt (Elt Ideal) M.view (Rect.unit (s := (⟨3, ![a, b, d]⟩ : Shape)) ![0, 0, 0] ![a, b, d] hb).toLoadRect (h.unread X) = X := by
  rw [View.readAt_eq_ld, h.read_unread]
  exact View.ld_unit_zero (by funext a; fin_cases a <;> rfl) hb X

theorem pay42_apply (v : Vec Ideal S1x512x1024 .f32) (r : Fin 512) (k : Fin 1024) : k0_pay42 v (ix2 r k) = v (ix3 0 r k) := by
  unfold k0_pay42; pointwise
theorem pay43_apply (v : Vec Ideal S1x512x512 .bf16) (r : Fin 512) (k : Fin 512) : k0_pay43 v (ix2 r k) = v (ix3 0 r k) := by
  unfold k0_pay43; pointwise
theorem pay44_apply (v : Vec Ideal S1x256 .f32) (k : Fin 256) : k0_pay44 v (ix2 0 k) = v (ix2 0 k) := by
  unfold k0_pay44; pointwise
theorem pay45_apply (v : Vec Ideal S1x256 .f32) (k : Fin 256) : k0_pay45 v (ix2 0 k) = v (ix2 0 k) := by
  unfold k0_pay45; pointwise
theorem pay48_apply (v : Vec Ideal S1x1024 .f32) (k : Fin 1024) : k0_pay48 v (ix2 0 k) = v (ix2 0 k) := by
  unfold k0_pay48; pointwise

set_option maxHeartbeats 4000000 in
/-- The block the kernel leaves, row by row, where the pooling weights lie in diagonal blocks. -/
theorem block_apply (dc : Dev nD) (i : grid0.Coords) (a2 : Memref sig .tc .vmem S1x512x1024 .f32) (h2 : a2.IsWhole) (a3 : Memref sig .tc .vmem S1x4096x256 .f32) (h3 : a3.IsWhole)
    (a4 : Memref sig .tc .vmem S1x4096x256 .f32) (h4 : a4.IsWhole) (a5 : Memref sig .tc .vmem S1x512x512 .bf16) (h5 : a5.IsWhole)
    (a6 : Memref sig .tc .vmem S32x256 .f32) (h6 : a6.IsWhole) (a7 : Memref sig .tc .vmem S1x256 .f32) (h7 : a7.IsWhole)
    (a8 : Memref sig .tc .vmem S1x256 .f32) (h8 : a8.IsWhole) (a9 : Memref sig .tc .vmem S1x256 .f32) (h9 : a9.IsWhole)
    (a10 : Memref sig .tc .vmem S256x256 .bf16) (h10 : a10.IsWhole) (a11 : Memref sig .tc .vmem S1x256 .f32) (h11 : a11.IsWhole)
    (a12 : Memref sig .tc .vmem S1x1024x1024 .bf16) (h12 : a12.IsWhole) (a13 : Memref sig .tc .vmem S1x1x1024 .f32) (h13 : a13.IsWhole)
    (a14 : Memref sig .tc .vmem S1x1024 .f32) (h14 : a14.IsWhole) (a15 : Memref sig .tc .vmem S1x1024 .f32) (h15 : a15.IsWhole)
    (a16 : Memref sig .tc .vmem S1x512x1024 .f32) (h16 : a16.IsWhole) (a17 : Memref sig .tc .vmem S544x256 .f32) (h17 : a17.IsWhole)
    (a18 : Memref sig .tc .vmem S544x256 .f32) (h18 : a18.IsWhole) (a19 : Memref sig .tc .vmem S8x544x256 .f32) (h19 : a19.IsWhole)
    (x0 : Vec Ideal S1x512x1024 .f32) (x1 x2 : Vec Ideal S1x4096x256 .f32) (x3 : Vec Ideal S1x512x512 .bf16) (x4 : Vec Ideal S32x256 .f32)
    (x5 x6 x7 : Vec Ideal S1x256 .f32) (x8 : Vec Ideal S256x256 .bf16) (x9 : Vec Ideal S1x256 .f32) (x10 : Vec Ideal S1x1024x1024 .bf16)
    (x11 : Vec Ideal S1x1x1024 .f32) (x12 x13 : Vec Ideal S1x1024 .f32) (wp : Fin 4 → Fin 64 → Fin 64 → EReal)
    (hW : ∀ k c : Fin 256, x8 (ix2 k c)
      = if k.val / 64 = c.val / 64 then wp ⟨c.val / 64, by omega⟩ ⟨k.val % 64, by omega⟩ ⟨c.val % 64, by omega⟩ else 0)
    (r : Fin 512) (t : Fin 4096) (ht : t.val = (i 1).val * 512 + r.val) (c : Fin 1024) :
    out0_A_14 (F := Ideal) dc i a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9 x10 x11 x12 x13 (ix3 0 r c)
      = mixP (fun k => x0 (ix3 0 r k)) (fun k => x11 (ix3 0 0 k)) (fun r k => x1 (ix3 0 r k)) (fun r k => x2 (ix3 0 r k))
        (fun j k => x4 (ix2 ⟨j.val, by omega⟩ k)) (fun k => x5 (ix2 0 k)) (fun k => x6 (ix2 0 k)) (fun k => x7 (ix2 0 k)) wp (fun k => x9 (ix2 0 k))
        (fun k => x3 (ix3 0 r k)) (fun k c => x10 (ix3 0 k c)) (fun k => x12 (ix2 0 k)) (fun k => x13 (ix2 0 k)) t c := by
  unfold out0_A_14
  rw [View.read_writes_eq_canon _ _ _ (cover0_A_14 (F := Ideal) dc i a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9 x10 x11 x12 x13)]
  unfold kernelRun0_A
  dsimp only
  rw [View.canon_unit_zero (by funext a; fin_cases a <;> rfl) inb_S1x512x1024_S1x512x1024_0_0_0]
  have hc := fun k => conv_apply dc i a3 h3 a6 h6 a7 h7 a17 a19 x1 x4 x5 r k
  have hp := fun k => pool_apply dc i a3 h3 a4 h4 a17 a18 a19 x1 x2 r k
  unfold kernelRun0_A.sl.r_29 kernelRun0_A.sl.r_24 kernelRun0_A.sl.r_25 kernelRun0_A.sl.r_26 kernelRun0_A.sl.r_27 kernelRun0_A.sl.r_28 kernelRun0_A.sl.r_30
  generalize kernelRun0_A.sl.r_14 (F := Ideal) dc i a3 h3 a6 h6 a7 h7 a17 a19 x1 x4 x5 = Y at hc ⊢
  generalize kernelRun0_A.sl.r_23 (F := Ideal) dc i a3 h3 a4 h4 a17 a18 a19 x1 x2 = P at hp ⊢
  refine (tail_apply _ _ _ _ _ _ _ _ _ _ _ _ r c).trans ?_
  simp only [pay42_apply, pay43_apply, pay44_apply, pay45_apply, pay48_apply]
  rw [whole3 1 512 1024 a2 h2 x0, whole3 1 512 512 a5 h5 x3, whole2 1 256 a8 h8 x6, whole2 1 256 a9 h9 x7, whole2 256 256 a10 h10 x8, whole2 1 256 a11 h11 x9,
    whole3 1 1024 1024 a12 h12 x10, whole3 1 1 1024 a13 h13 x11, whole2 1 1024 a14 h14 x12, whole2 1 1024 a15 h15 x13]
  unfold mixP
  have hy : (fun k => Y (ix2 r k)) = convP (fun r k => x1 (ix3 0 r k)) (fun j k => x4 (ix2 ⟨j.val, by omega⟩ k)) (fun k => x5 (ix2 0 k)) t.val := by
    funext k
    rw [hc]
    unfold convP
    refine congrArg (x5 (ix2 0 k) + ·) (Finset.sum_congr rfl fun j _ => ?_)
    rw [show 512 * (i 1).val + (2 + j.val + r.val) = t.val + 2 + j.val by omega]
  have hd : ∀ k, P (ix2 r k) = poolP (fun r k => x2 (ix3 0 r k)) t k := by
    intro k
    rw [hp, count_word]
    unfold poolP
    rw [← win_back]
    rw [show (⟨(i 1).val * 512 + r.val, by have : (i 1).val < 8 := (i 1).isLt; omega⟩ : Fin 4096) = t from Fin.ext ht.symm,
      show 512 * (i 1).val + r.val + 1 = t.val + 1 by omega]
    refine congrArg (fun s => Ideal.div (x2 (ix3 0 t k) + s) _ - _) (Finset.sum_congr rfl fun j _ => ?_)
    rw [show 512 * (i 1).val + (32 - (1 + j.val) + r.val) = t.val + 32 - (1 + j.val) by omega]
  rw [hy]
  have hq : (fun k => (∑ q, P (ix2 r q) * x8 (ix2 q k)) * x9 (ix2 0 k)) = poolOut (poolP (fun r k => x2 (ix3 0 r k)) t) wp (fun k => x9 (ix2 0 k)) := by
    funext k
    simp only [hd]
    exact block_diag _ wp (fun k c => x8 (ix2 k c)) hW (fun k => x9 (ix2 0 k)) k
  rw [← hq]

end Cert.Proof.Mp

end
-- ==== Proof.MpHost.lean ====
module

public import proofs.«01_k».proof.Proof.MpTile
public import proofs.«01_k».proof.Proof.MxHost

@[expose] public section

set_option maxRecDepth 16384

noncomputable section

/-! # What the host operations hand to the prompt's mixers, and the blocks the kernel reads -/

namespace Cert.Proof.Mp

open Idealize Idealize.ShloMosaic Idealize.SL.Sem Cert.MixoutPromptIdeal

variable (m : (ℓ : Loc nD τ sig) → Buf (Elt Ideal) ℓ) (c : Dev nD)

/-- Four diagonal blocks, laid one after another. -/
theorem diag_ifs (w : Fin 4 → EReal) (r k : Fin 256) :
    (if r.val / 64 = (3 : Fin 4).val ∧ k.val / 64 = (3 : Fin 4).val then w 3
      else if r.val / 64 = (2 : Fin 4).val ∧ k.val / 64 = (2 : Fin 4).val then w 2
      else if r.val / 64 = (1 : Fin 4).val ∧ k.val / 64 = (1 : Fin 4).val then w 1
      else if r.val / 64 = (0 : Fin 4).val ∧ k.val / 64 = (0 : Fin 4).val then w 0 else 0)
    = if r.val / 64 = k.val / 64 then w ⟨k.val / 64, by omega⟩ else 0 := by
  have hr : r.val < 256 := r.isLt
  have hk : k.val < 256 := k.isLt
  have q : ∀ g : Fin 4, k.val / 64 = g.val → w g = w ⟨k.val / 64, by omega⟩ := fun g h => congrArg w (Fin.ext h.symm)
  simp only [show (3 : Fin 4).val = 3 from rfl, show (2 : Fin 4).val = 2 from rfl, show (1 : Fin 4).val = 1 from rfl, show (0 : Fin 4).val = 0 from rfl]
  split_ifs with a3 h a2 h a1 h a0 h
  · exact q 3 a3.2
  · omega
  · exact q 2 a2.2
  · omega
  · exact q 1 a1.2
  · omega
  · exact q 0 a0.2
  · omega
  · omega
  · rfl

/-- The pooling weights lie in diagonal blocks. -/
theorem host_wp (r k : Fin 256) :
    (Gen.V m c main_v40 : Vec Ideal S256x256 .bf16) (ix2 r k)
      = if r.val / 64 = k.val / 64 then (m (c.tc.loc main_arg9) : Vec Ideal S4x4x64x64 .f32)
          (ix4 3 ⟨k.val / 64, by omega⟩ ⟨r.val % 64, by omega⟩ ⟨k.val % 64, by omega⟩) else (0 : EReal) := by
  unfold Gen.V
  after_reads_at
  have w : ∀ (x : IVec S2 32) (q : Fin 2) (g : Fin 4), x (ix1 q) = BitVec.ofNat 32 (64 * g.val) → (x (ix1 q)).toInt = 64 * g.val :=
    fun x q g h => by rw [h]; fin_cases g <;> rfl
  refine (Mx.scatter_block _ _ _ 3 (w _ 0 3 ?_) (w _ 1 3 ?_) r k).trans ?_
  · after_reads_at
  · after_reads_at
  refine Eq.trans (if_congr Iff.rfl rfl (Mx.scatter_block _ _ _ 2 (w _ 0 2 ?_) (w _ 1 2 ?_) r k)) ?_
  · after_reads_at
  · after_reads_at
  refine Eq.trans (if_congr Iff.rfl rfl (if_congr Iff.rfl rfl (Mx.scatter_block _ _ _ 1 (w _ 0 1 ?_) (w _ 1 1 ?_) r k))) ?_
  · after_reads_at
  · after_reads_at
  refine Eq.trans (if_congr Iff.rfl rfl (if_congr Iff.rfl rfl (if_congr Iff.rfl rfl (Mx.scatter_block _ _ _ 0 (w _ 0 0 ?_) (w _ 1 0 ?_) r k)))) ?_
  · after_reads_at
  · after_reads_at
  have z : (broadcastInDim S256x256 ![] Gen.bcast_S_S256x256 (constant S_ FTy.f32 0#32) : FVec Ideal S256x256 .f32) (ix2 r k) = 0 := by
    show Ideal.ofBits .f32 0#32 = 0
    simp [Ideal.ofBits, Ideal.ieee]
  rw [z]
  exact diag_ifs (fun g => (m (c.tc.loc main_arg9) : Vec Ideal S4x4x64x64 .f32) (ix4 3 g ⟨r.val % 64, by omega⟩ ⟨k.val % 64, by omega⟩)) r k

theorem point_lt (t : Fin grid0.N) : t.val < 32 := by
  have := t.isLt
  have h : grid0.N = 32 := Gen.N_0
  omega

/-- The sequence a grid point works on. -/
def seqAt (t : Fin grid0.N) : Fin 4 := ⟨t.val / 8, by have := point_lt t; omega⟩

/-- The row of the sequence that a grid point's block holds at a row. -/
def rowAt (t : Fin grid0.N) (r : Fin 512) : Fin 4096 := ⟨t.val % 8 * 512 + r.val, by omega⟩

theorem tile_of : ∀ t : Fin grid0.N, ((grid0.coords t) 1).val = t.val % 8 := by decide +kernel
theorem index0 : ∀ (t : Fin grid0.N), cc0_transform_0 (grid0.coords t) = ![t.val / 8, t.val % 8, 0] := by decide +kernel
theorem index1 : ∀ (t : Fin grid0.N), cc0_transform_1 (grid0.coords t) = ![t.val / 8, 0, 0] := by decide +kernel
theorem index2 : ∀ (t : Fin grid0.N), cc0_transform_2 (grid0.coords t) = ![t.val / 8, 0, 0] := by decide +kernel
theorem index3 : ∀ (t : Fin grid0.N), cc0_transform_3 (grid0.coords t) = ![t.val / 8, t.val % 8, 0] := by decide +kernel
theorem index4 : ∀ (t : Fin grid0.N), cc0_transform_4 (grid0.coords t) = ![0, 0] := by decide +kernel
theorem index5 : ∀ (t : Fin grid0.N), cc0_transform_5 (grid0.coords t) = ![0, 0] := by decide +kernel
theorem index6 : ∀ (t : Fin grid0.N), cc0_transform_6 (grid0.coords t) = ![0, 0] := by decide +kernel
theorem index7 : ∀ (t : Fin grid0.N), cc0_transform_7 (grid0.coords t) = ![0, 0] := by decide +kernel
theorem index8 : ∀ (t : Fin grid0.N), cc0_transform_8 (grid0.coords t) = ![0, 0] := by decide +kernel
theorem index9 : ∀ (t : Fin grid0.N), cc0_transform_9 (grid0.coords t) = ![0, 0] := by decide +kernel
theorem index10 : ∀ (t : Fin grid0.N), cc0_transform_10 (grid0.coords t) = ![3, 0, 0] := by decide +kernel
theorem index11 : ∀ (t : Fin grid0.N), cc0_transform_11 (grid0.coords t) = ![t.val / 8, 0, 5] := by decide +kernel
theorem index12 : ∀ (t : Fin grid0.N), cc0_transform_12 (grid0.coords t) = ![0, 0] := by decide +kernel
theorem index13 : ∀ (t : Fin grid0.N), cc0_transform_13 (grid0.coords t) = ![0, 0] := by decide +kernel
theorem index14 : ∀ (t : Fin grid0.N), cc0_transform_14 (grid0.coords t) = ![t.val / 8, t.val % 8, 0] := by decide +kernel

/-- The rows of the input. -/
theorem blk_x (t : Fin grid0.N) (r : Fin 512) (k : Fin 1024) : (Gen.iblk m c 0 t : Vec Ideal S1x512x1024 .f32) (ix3 0 r k)
    = (m (c.tc.loc main_arg0) : Vec Ideal S4x4096x1024 .f32) (ix3 (seqAt t) (rowAt t r) k) := by
  refine (?_ : _ = (Gen.V m c main_arg0 : Vec Ideal S4x4096x1024 .f32) (ix3 (seqAt t) (rowAt t r) k)).trans (congrFun (Gen.V_main_arg0 m c) _)
  unfold Gen.iblk
  refine congrArg (Gen.V m c main_arg0 : S4x4096x1024.Idx → EReal) ?_
  funext a
  apply Fin.ext
  match a with
  | ⟨0, _⟩ =>
    show cc0_transform_0 (grid0.coords t) 0 * 1 + 1 * 0 = t.val / 8
    rw [show cc0_transform_0 (grid0.coords t) 0 = t.val / 8 from congrFun (index0 t) 0]; omega
  | ⟨1, _⟩ =>
    show cc0_transform_0 (grid0.coords t) 1 * 512 + 1 * r.val = t.val % 8 * 512 + r.val
    rw [show cc0_transform_0 (grid0.coords t) 1 = t.val % 8 from congrFun (index0 t) 1]; omega
  | ⟨2, _⟩ =>
    show cc0_transform_0 (grid0.coords t) 2 * 1024 + 1 * k.val = k.val
    rw [show cc0_transform_0 (grid0.coords t) 2 = 0 from congrFun (index0 t) 2]; omega

/-- The rows of the convolution. -/
theorem blk_v (t : Fin grid0.N) (r : Fin 4096) (k : Fin 256) : (Gen.iblk m c 1 t : Vec Ideal S1x4096x256 .f32) (ix3 0 r k)
    = (m (c.tc.loc main_arg1) : Vec Ideal S4x4096x256 .f32) (ix3 (seqAt t) r k) := by
  refine (?_ : _ = (Gen.V m c main_arg1 : Vec Ideal S4x4096x256 .f32) (ix3 (seqAt t) r k)).trans (congrFun (Gen.V_main_arg1 m c) _)
  unfold Gen.iblk
  refine congrArg (Gen.V m c main_arg1 : S4x4096x256.Idx → EReal) ?_
  funext a
  apply Fin.ext
  match a with
  | ⟨0, _⟩ =>
    show cc0_transform_1 (grid0.coords t) 0 * 1 + 1 * 0 = t.val / 8
    rw [show cc0_transform_1 (grid0.coords t) 0 = t.val / 8 from congrFun (index1 t) 0]; omega
  | ⟨1, _⟩ =>
    show cc0_transform_1 (grid0.coords t) 1 * 4096 + 1 * r.val = r.val
    rw [show cc0_transform_1 (grid0.coords t) 1 = 0 from congrFun (index1 t) 1]; omega
  | ⟨2, _⟩ =>
    show cc0_transform_1 (grid0.coords t) 2 * 256 + 1 * k.val = k.val
    rw [show cc0_transform_1 (grid0.coords t) 2 = 0 from congrFun (index1 t) 2]; omega

/-- The rows of the pooling. -/
theorem blk_u (t : Fin grid0.N) (r : Fin 4096) (k : Fin 256) : (Gen.iblk m c 2 t : Vec Ideal S1x4096x256 .f32) (ix3 0 r k)
    = (m (c.tc.loc main_arg2) : Vec Ideal S4x4096x256 .f32) (ix3 (seqAt t) r k) := by
  refine (?_ : _ = (Gen.V m c main_arg2 : Vec Ideal S4x4096x256 .f32) (ix3 (seqAt t) r k)).trans (congrFun (Gen.V_main_arg2 m c) _)
  unfold Gen.iblk
  refine congrArg (Gen.V m c main_arg2 : S4x4096x256.Idx → EReal) ?_
  funext a
  apply Fin.ext
  match a with
  | ⟨0, _⟩ =>
    show cc0_transform_2 (grid0.coords t) 0 * 1 + 1 * 0 = t.val / 8
    rw [show cc0_transform_2 (grid0.coords t) 0 = t.val / 8 from congrFun (index2 t) 0]; omega
  | ⟨1, _⟩ =>
    show cc0_transform_2 (grid0.coords t) 1 * 4096 + 1 * r.val = r.val
    rw [show cc0_transform_2 (grid0.coords t) 1 = 0 from congrFun (index2 t) 1]; omega
  | ⟨2, _⟩ =>
    show cc0_transform_2 (grid0.coords t) 2 * 256 + 1 * k.val = k.val
    rw [show cc0_transform_2 (grid0.coords t) 2 = 0 from congrFun (index2 t) 2]; omega

/-- The rows of the attention. -/
theorem blk_ya (t : Fin grid0.N) (r : Fin 512) (k : Fin 512) : (Gen.iblk m c 3 t : Vec Ideal S1x512x512 .bf16) (ix3 0 r k)
    = (m (c.tc.loc main_arg3) : Vec Ideal S4x4096x512 .bf16) (ix3 (seqAt t) (rowAt t r) k) := by
  refine (?_ : _ = (Gen.V m c main_arg3 : Vec Ideal S4x4096x512 .bf16) (ix3 (seqAt t) (rowAt t r) k)).trans (congrFun (Gen.V_main_arg3 m c) _)
  unfold Gen.iblk
  refine congrArg (Gen.V m c main_arg3 : S4x4096x512.Idx → EReal) ?_
  funext a
  apply Fin.ext
  match a with
  | ⟨0, _⟩ =>
    show cc0_transform_3 (grid0.coords t) 0 * 1 + 1 * 0 = t.val / 8
    rw [show cc0_transform_3 (grid0.coords t) 0 = t.val / 8 from congrFun (index3 t) 0]; omega
  | ⟨1, _⟩ =>
    show cc0_transform_3 (grid0.coords t) 1 * 512 + 1 * r.val = t.val % 8 * 512 + r.val
    rw [show cc0_transform_3 (grid0.coords t) 1 = t.val % 8 from congrFun (index3 t) 1]; omega
  | ⟨2, _⟩ =>
    show cc0_transform_3 (grid0.coords t) 2 * 512 + 1 * k.val = k.val
    rw [show cc0_transform_3 (grid0.coords t) 2 = 0 from congrFun (index3 t) 2]; omega

/-- The weights of the convolution. -/
theorem blk_w (t : Fin grid0.N) (j : Fin 31) (k : Fin 256) : (Gen.iblk m c 4 t : Vec Ideal S32x256 .f32) (ix2 ⟨j.val, by omega⟩ k)
    = (m (c.tc.loc main_arg5) : Vec Ideal S4x31x256 .f32) (ix3 3 j k) := by
  refine (?_ : _ = (Gen.V m c main_v3 : Vec Ideal S32x256 .f32) (ix2 ⟨j.val, by omega⟩ k)).trans (by unfold Gen.V; after_reads_at)
  unfold Gen.iblk
  refine congrArg (Gen.V m c main_v3 : S32x256.Idx → EReal) ?_
  funext a
  apply Fin.ext
  match a with
  | ⟨0, _⟩ =>
    show cc0_transform_4 (grid0.coords t) 0 * 32 + 1 * j.val = j.val
    rw [show cc0_transform_4 (grid0.coords t) 0 = 0 from congrFun (index4 t) 0]; omega
  | ⟨1, _⟩ =>
    show cc0_transform_4 (grid0.coords t) 1 * 256 + 1 * k.val = k.val
    rw [show cc0_transform_4 (grid0.coords t) 1 = 0 from congrFun (index4 t) 1]; omega

/-- The offset of the convolution. -/
theorem blk_b (t : Fin grid0.N) (k : Fin 256) : (Gen.iblk m c 5 t : Vec Ideal S1x256 .f32) (ix2 0 k)
    = (m (c.tc.loc main_arg6) : Vec Ideal S4x256 .f32) (ix2 3 k) := by
  refine (?_ : _ = (Gen.V m c main_v6 : Vec Ideal S1x256 .f32) (ix2 0 k)).trans (by unfold Gen.V; after_reads_at)
  unfold Gen.iblk
  refine congrArg (Gen.V m c main_v6 : S1x256.Idx → EReal) ?_
  funext a
  apply Fin.ext
  match a with
  | ⟨0, _⟩ =>
    show cc0_transform_5 (grid0.coords t) 0 * 1 + 1 * 0 = 0
    rw [show cc0_transform_5 (grid0.coords t) 0 = 0 from congrFun (index5 t) 0]
  | ⟨1, _⟩ =>
    show cc0_transform_5 (grid0.coords t) 1 * 256 + 1 * k.val = k.val
    rw [show cc0_transform_5 (grid0.coords t) 1 = 0 from congrFun (index5 t) 1]; omega

/-- The scale of the convolution's normalisation. -/
theorem blk_gc (t : Fin grid0.N) (k : Fin 256) : (Gen.iblk m c 6 t : Vec Ideal S1x256 .f32) (ix2 0 k)
    = (m (c.tc.loc main_arg7) : Vec Ideal S4x256 .f32) (ix2 3 k) := by
  refine (?_ : _ = (Gen.V m c main_v9 : Vec Ideal S1x256 .f32) (ix2 0 k)).trans (by unfold Gen.V; after_reads_at)
  unfold Gen.iblk
  refine congrArg (Gen.V m c main_v9 : S1x256.Idx → EReal) ?_
  funext a
  apply Fin.ext
  match a with
  | ⟨0, _⟩ =>
    show cc0_transform_6 (grid0.coords t) 0 * 1 + 1 * 0 = 0
    rw [show cc0_transform_6 (grid0.coords t) 0 = 0 from congrFun (index6 t) 0]
  | ⟨1, _⟩ =>
    show cc0_transform_6 (grid0.coords t) 1 * 256 + 1 * k.val = k.val
    rw [show cc0_transform_6 (grid0.coords t) 1 = 0 from congrFun (index6 t) 1]; omega

/-- The offset of the convolution's normalisation. -/
theorem blk_bc (t : Fin grid0.N) (k : Fin 256) : (Gen.iblk m c 7 t : Vec Ideal S1x256 .f32) (ix2 0 k)
    = (m (c.tc.loc main_arg8) : Vec Ideal S4x256 .f32) (ix2 3 k) := by
  refine (?_ : _ = (Gen.V m c main_v12 : Vec Ideal S1x256 .f32) (ix2 0 k)).trans (by unfold Gen.V; after_reads_at)
  unfold Gen.iblk
  refine congrArg (Gen.V m c main_v12 : S1x256.Idx → EReal) ?_
  funext a
  apply Fin.ext
  match a with
  | ⟨0, _⟩ =>
    show cc0_transform_7 (grid0.coords t) 0 * 1 + 1 * 0 = 0
    rw [show cc0_transform_7 (grid0.coords t) 0 = 0 from congrFun (index7 t) 0]
  | ⟨1, _⟩ =>
    show cc0_transform_7 (grid0.coords t) 1 * 256 + 1 * k.val = k.val
    rw [show cc0_transform_7 (grid0.coords t) 1 = 0 from congrFun (index7 t) 1]; omega

/-- The pooling weights. -/
theorem blk_wp (t : Fin grid0.N) (r k : Fin 256) : (Gen.iblk m c 8 t : Vec Ideal S256x256 .bf16) (ix2 r k)
    = if r.val / 64 = k.val / 64 then (m (c.tc.loc main_arg9) : Vec Ideal S4x4x64x64 .f32)
      (ix4 3 ⟨k.val / 64, by omega⟩ ⟨r.val % 64, by omega⟩ ⟨k.val % 64, by omega⟩) else (0 : EReal) := by
  refine (?_ : _ = (Gen.V m c main_v40 : Vec Ideal S256x256 .bf16) (ix2 r k)).trans (host_wp m c r k)
  unfold Gen.iblk
  refine congrArg (Gen.V m c main_v40 : S256x256.Idx → EReal) ?_
  funext a
  apply Fin.ext
  match a with
  | ⟨0, _⟩ =>
    show cc0_transform_8 (grid0.coords t) 0 * 256 + 1 * r.val = r.val
    rw [show cc0_transform_8 (grid0.coords t) 0 = 0 from congrFun (index8 t) 0]; omega
  | ⟨1, _⟩ =>
    show cc0_transform_8 (grid0.coords t) 1 * 256 + 1 * k.val = k.val
    rw [show cc0_transform_8 (grid0.coords t) 1 = 0 from congrFun (index8 t) 1]; omega

/-- The scale of the pooling. -/
theorem blk_s (t : Fin grid0.N) (k : Fin 256) : (Gen.iblk m c 9 t : Vec Ideal S1x256 .f32) (ix2 0 k)
    = (m (c.tc.loc main_arg10) : Vec Ideal S4x256 .f32) (ix2 3 k) := by
  refine (?_ : _ = (Gen.V m c main_v43 : Vec Ideal S1x256 .f32) (ix2 0 k)).trans (by unfold Gen.V; after_reads_at)
  unfold Gen.iblk
  refine congrArg (Gen.V m c main_v43 : S1x256.Idx → EReal) ?_
  funext a
  apply Fin.ext
  match a with
  | ⟨0, _⟩ =>
    show cc0_transform_9 (grid0.coords t) 0 * 1 + 1 * 0 = 0
    rw [show cc0_transform_9 (grid0.coords t) 0 = 0 from congrFun (index9 t) 0]
  | ⟨1, _⟩ =>
    show cc0_transform_9 (grid0.coords t) 1 * 256 + 1 * k.val = k.val
    rw [show cc0_transform_9 (grid0.coords t) 1 = 0 from congrFun (index9 t) 1]; omega

/-- The output weights. -/
theorem blk_wo (t : Fin grid0.N) (f k : Fin 1024) : (Gen.iblk m c 10 t : Vec Ideal S1x1024x1024 .bf16) (ix3 0 f k)
    = (m (c.tc.loc main_arg11) : Vec Ideal S4x1024x1024 .f32) (ix3 3 f k) := by
  refine (?_ : _ = (Gen.V m c main_v44 : Vec Ideal S4x1024x1024 .bf16) (ix3 3 f k)).trans (by unfold Gen.V; after_reads_at)
  unfold Gen.iblk
  refine congrArg (Gen.V m c main_v44 : S4x1024x1024.Idx → EReal) ?_
  funext a
  apply Fin.ext
  match a with
  | ⟨0, _⟩ =>
    show cc0_transform_10 (grid0.coords t) 0 * 1 + 1 * 0 = 3
    rw [show cc0_transform_10 (grid0.coords t) 0 = 3 from congrFun (index10 t) 0]
  | ⟨1, _⟩ =>
    show cc0_transform_10 (grid0.coords t) 1 * 1024 + 1 * f.val = f.val
    rw [show cc0_transform_10 (grid0.coords t) 1 = 0 from congrFun (index10 t) 1]; omega
  | ⟨2, _⟩ =>
    show cc0_transform_10 (grid0.coords t) 2 * 1024 + 1 * k.val = k.val
    rw [show cc0_transform_10 (grid0.coords t) 2 = 0 from congrFun (index10 t) 2]; omega

/-- The gate. -/
theorem blk_g (t : Fin grid0.N) (k : Fin 1024) : (Gen.iblk m c 11 t : Vec Ideal S1x1x1024 .f32) (ix3 0 0 k)
    = (m (c.tc.loc main_arg4) : Vec Ideal S4x9216 .f32) (ix2 (seqAt t) ⟨5120 + k.val, by omega⟩) := by
  refine (?_ : _ = (Gen.V m c main_v0 : Vec Ideal S4x1x9216 .f32) (ix3 (seqAt t) 0 ⟨5120 + k.val, by omega⟩)).trans (by unfold Gen.V; after_reads_at)
  unfold Gen.iblk
  refine congrArg (Gen.V m c main_v0 : S4x1x9216.Idx → EReal) ?_
  funext a
  apply Fin.ext
  match a with
  | ⟨0, _⟩ =>
    show cc0_transform_11 (grid0.coords t) 0 * 1 + 1 * 0 = t.val / 8
    rw [show cc0_transform_11 (grid0.coords t) 0 = t.val / 8 from congrFun (index11 t) 0]; omega
  | ⟨1, _⟩ =>
    show cc0_transform_11 (grid0.coords t) 1 * 1 + 1 * 0 = 0
    rw [show cc0_transform_11 (grid0.coords t) 1 = 0 from congrFun (index11 t) 1]
  | ⟨2, _⟩ =>
    show cc0_transform_11 (grid0.coords t) 2 * 1024 + 1 * k.val = 5120 + k.val
    rw [show cc0_transform_11 (grid0.coords t) 2 = 5 from congrFun (index11 t) 2]; omega

/-- The scale of the normalisation. -/
theorem blk_lng (t : Fin grid0.N) (k : Fin 1024) : (Gen.iblk m c 12 t : Vec Ideal S1x1024 .f32) (ix2 0 k)
    = (m (c.tc.loc main_arg12) : Vec Ideal S4x3x1024 .f32) (ix3 3 1 k) := by
  refine (?_ : _ = (Gen.V m c main_v47 : Vec Ideal S1x1024 .f32) (ix2 0 k)).trans (by unfold Gen.V; after_reads_at)
  unfold Gen.iblk
  refine congrArg (Gen.V m c main_v47 : S1x1024.Idx → EReal) ?_
  funext a
  apply Fin.ext
  match a with
  | ⟨0, _⟩ =>
    show cc0_transform_12 (grid0.coords t) 0 * 1 + 1 * 0 = 0
    rw [show cc0_transform_12 (grid0.coords t) 0 = 0 from congrFun (index12 t) 0]
  | ⟨1, _⟩ =>
    show cc0_transform_12 (grid0.coords t) 1 * 1024 + 1 * k.val = k.val
    rw [show cc0_transform_12 (grid0.coords t) 1 = 0 from congrFun (index12 t) 1]; omega

/-- The offset of the normalisation. -/
theorem blk_lnb (t : Fin grid0.N) (k : Fin 1024) : (Gen.iblk m c 13 t : Vec Ideal S1x1024 .f32) (ix2 0 k)
    = (m (c.tc.loc main_arg13) : Vec Ideal S4x3x1024 .f32) (ix3 3 1 k) := by
  refine (?_ : _ = (Gen.V m c main_v50 : Vec Ideal S1x1024 .f32) (ix2 0 k)).trans (by unfold Gen.V; after_reads_at)
  unfold Gen.iblk
  refine congrArg (Gen.V m c main_v50 : S1x1024.Idx → EReal) ?_
  funext a
  apply Fin.ext
  match a with
  | ⟨0, _⟩ =>
    show cc0_transform_13 (grid0.coords t) 0 * 1 + 1 * 0 = 0
    rw [show cc0_transform_13 (grid0.coords t) 0 = 0 from congrFun (index13 t) 0]
  | ⟨1, _⟩ =>
    show cc0_transform_13 (grid0.coords t) 1 * 1024 + 1 * k.val = k.val
    rw [show cc0_transform_13 (grid0.coords t) 1 = 0 from congrFun (index13 t) 1]; omega

end Cert.Proof.Mp

end
-- ==== Proof.MpRef.lean ====
module

public import proofs.«01_k».proof.Proof.MpTile
public import proofs.«01_k».proof.Proof.MxCum
public import proofs.«01_k».proof.Proof.Gen.MixoutPromptRefIdeal.Read

@[expose] public section

set_option maxRecDepth 16384

noncomputable section

/-! # The reference of the prompt's mixers and output projection, row by row -/

namespace Cert.Proof.Mp

open Idealize Idealize.ShloMosaic Idealize.ShloMosaic.TcCoe Cert.MixoutPromptRefIdeal Cert.MixoutPromptRefIdeal.Read
open Idealize.ShloMosaic.Pointwise Cert.Proof.Ff
open Cert.Proof.Mx (winN winSum mean256 norm256 convOut catRow sumRow poolOut win_eq cum_entry foldl_finRange)

/-- The first entries of a sum over a range. -/
theorem sum_lt (N n : ℕ) (hn : n ≤ N) (f : ℕ → EReal) : (∑ i : Fin N, if i.val < n then f i.val else 0) = ∑ i ∈ Finset.range n, f i := by
  rw [Fin.sum_univ_eq_sum_range (fun i => if i < n then f i else 0) N, ← Finset.sum_filter]
  refine Finset.sum_congr (Finset.ext fun i => ?_) fun _ _ => rfl
  rw [Finset.mem_filter, Finset.mem_range, Finset.mem_range]
  omega

/-- Running sums that share their first rows differ by the rest. -/
theorem diff_rest (f : ℕ → EReal) (hf : ∀ i, ∃ r : ℝ, f i = (r : EReal)) (t n : ℕ) (hn : n ≤ 16) :
    (∑ i ∈ Finset.range (t + 16), f i) - ∑ i ∈ Finset.range (t + n), f i
      = (∑ i : Fin 16, f (t + i.val)) - ∑ i : Fin 16, if i.val < n then f (t + i.val) else 0 := by
  choose q hq using hf
  rw [sum_lt 16 n hn fun i => f (t + i), Fin.sum_univ_eq_sum_range (fun i => f (t + i)) 16, Finset.sum_range_add, Finset.sum_range_add]
  have hc : ∀ (s : Finset ℕ) (g : ℕ → ℝ), (∑ i ∈ s, (g i : EReal)) = ((∑ i ∈ s, g i : ℝ) : EReal) := fun s g => by
    induction s using Finset.induction_on with
    | empty => rfl
    | insert a s h ih => rw [Finset.sum_insert h, Finset.sum_insert h, ih, EReal.coe_add]
  simp only [hq, hc, ← EReal.coe_add, ← EReal.coe_sub]
  refine congrArg _ ?_
  ring

variable (x0 : FVec Ideal S4x4096x1024 .f32) (x1 x2 : FVec Ideal S4x4096x256 .f32) (x3 : FVec Ideal S4x4096x512 .bf16)
  (x4 : FVec Ideal S4x9216 .f32) (x5 : FVec Ideal S4x31x256 .f32) (x6 x7 x8 : FVec Ideal S4x256 .f32) (x9 : FVec Ideal S4x4x64x64 .f32)
  (x10 : FVec Ideal S4x256 .f32) (x11 : FVec Ideal S4x1024x1024 .f32) (x12 x13 : FVec Ideal S4x3x1024 .f32)

theorem zero_word : Ideal.ofBits .f32 0#32 = 0 := by simp [Ideal.ofBits, Ideal.ieee]

/-- The rows of the convolution with 30 rows of zeros before them. -/
theorem ref_v (b : Fin 4) (n : Fin 4126) (k : Fin 256) :
    val_main_v11 (F := Ideal) x1 (ix3 b n k) = lagAt (fun t k => x1 (ix3 b t k)) (n.val + 2) k := by
  have hn := n.isLt
  have h : val_main_v11 (F := Ideal) x1 (ix3 b n k) = if h : n.val < 30 then (0 : EReal) else x1 (ix3 b ⟨n.val - 30, by omega⟩ k) := by
    unfold val_main_v11 val_main_v10 val_main_cst
    pointwise
  rw [h]
  unfold lagAt
  by_cases q : n.val < 30
  · rw [dif_pos q, dif_neg (by omega)]
  · rw [dif_neg q, dif_pos (by omega)]
    exact congrArg (fun a => x1 (ix3 b a k)) (Fin.ext (by show n.val - 30 = n.val + 2 - 32; omega))

/-- The convolution. -/
theorem ref_conv (b : Fin 4) (t : Fin 4096) (k : Fin 256) :
    val_main_v234 (F := Ideal) x1 x5 x6 (ix3 b t k)
      = convP (fun t k => x1 (ix3 b t k)) (fun j k => x5 (ix3 3 j k)) (fun k => x6 (ix2 3 k)) t.val k := by
  have ht := t.isLt
  have s : (∑ j : Fin 31, lagAt (fun t k => x1 (ix3 b t k)) (t.val + 2 + j.val) k * x5 (ix3 3 j k))
      = val_main_v11 (F := Ideal) x1 (ix3 b ⟨t.val, by omega⟩ k) * x5 (ix3 3 0 k)
        + ∑ j : Fin 30, val_main_v11 (F := Ideal) x1 (ix3 b ⟨j.val + 1 + t.val, by omega⟩ k) * x5 (ix3 3 j.succ k) := by
    rw [Fin.sum_univ_succ, ref_v]
    refine congrArg (_ + ·) (Finset.sum_congr rfl fun j _ => ?_)
    rw [ref_v]
    exact congrArg (fun n => lagAt _ n k * _) (by show t.val + 2 + (j.val + 1) = j.val + 1 + t.val + 2; omega)
  unfold convP
  rw [s, ← foldl_finRange, add_comm]
  unfold val_main_v234 val_main_v233 val_main_v232 val_main_v231 val_main_v230 val_main_v229 val_main_v228 val_main_v227 val_main_v226 val_main_v225 val_main_v224 val_main_v223 val_main_v222 val_main_v221 val_main_v220 val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_cst_0
  generalize val_main_v11 (F := Ideal) x1 = e
  pointwise
  rfl

/-- The convolution's normalisation. -/
theorem ref_cnorm (b : Fin 4) (t : Fin 4096) (k : Fin 256) :
    val_main_v262 (F := Ideal) x1 x5 x6 x7 x8 (ix3 b t k)
      = norm256 (fun k => val_main_v234 (F := Ideal) x1 x5 x6 (ix3 b t k)) (fun k => x7 (ix2 3 k)) (fun k => x8 (ix2 3 k)) k := by
  unfold val_main_v262 val_main_v261 val_main_v260 val_main_v259 val_main_v258 val_main_v257 val_main_v256 val_main_v255 val_main_v254 val_main_v253 val_main_v252 val_main_v251 val_main_v250 val_main_v249 val_main_v248 val_main_v247 val_main_v246 val_main_v245 val_main_v244 val_main_v243 val_main_v242 val_main_v241 val_main_v240 val_main_v239 val_main_v238 val_main_v237 val_main_v236 val_main_v235 val_main_cst_1 val_main_cst_2 val_main_cst_3 val_main_cst_4 val_main_cst_5 norm256 mean256
  generalize val_main_v234 (F := Ideal) x1 x5 x6 = y
  pointwise

/-- The convolution mixer. -/
theorem ref_yc (b : Fin 4) (t : Fin 4096) (k : Fin 256) :
    val_main_v263 (F := Ideal) x1 x5 x6 x7 x8 (ix3 b t k)
      = convOut (convP (fun t k => x1 (ix3 b t k)) (fun j k => x5 (ix3 3 j k)) (fun k => x6 (ix2 3 k)) t.val)
        (fun k => x7 (ix2 3 k)) (fun k => x8 (ix2 3 k)) k := by
  have h : val_main_v263 (F := Ideal) x1 x5 x6 x7 x8 (ix3 b t k)
      = val_main_v262 (F := Ideal) x1 x5 x6 x7 x8 (ix3 b t k) * Ideal.logistic (val_main_v262 (F := Ideal) x1 x5 x6 x7 x8 (ix3 b t k)) := by
    unfold val_main_v263 val_main_call0_v5 val_main_call0_v4 val_main_call0_v3 val_main_call0_v2 val_main_call0_v1 val_main_call0_v0
      val_main_call0_cst val_main_call0_cst_0
    generalize val_main_v262 (F := Ideal) x1 x5 x6 x7 x8 = y
    pointwise
    rfl
  rw [h, ref_cnorm, funext (ref_conv x1 x5 x6 b t)]
  rfl

/-- The rows of the pooling with 15 rows of zeros before them. -/
theorem ref_u (b : Fin 4) (n : Fin 4111) (k : Fin 256) :
    val_main_v265 (F := Ideal) x2 (ix3 b n k) = lagAt (fun t k => x2 (ix3 b t k)) (n.val + 17) k := by
  have hn := n.isLt
  have h : val_main_v265 (F := Ideal) x2 (ix3 b n k) = if h : n.val < 15 then (0 : EReal) else x2 (ix3 b ⟨n.val - 15, by omega⟩ k) := by
    unfold val_main_v265 val_main_v264 val_main_cst_6
    pointwise
  rw [h]
  unfold lagAt
  by_cases q : n.val < 15
  · rw [dif_pos q, dif_neg (by omega)]
  · rw [dif_neg q, dif_pos (by omega)]
    exact congrArg (fun a => x2 (ix3 b a k)) (Fin.ext (by show n.val - 15 = n.val + 17 - 32; omega))

/-- The running sums, read at an entry. -/
theorem ref_cum (b : Fin 4) (n : Fin 4111) (k : Fin 256) :
    val_main_v266 (F := Ideal) x2 (ix3 b n k) = ∑ i : Fin 4111, if i.val ≤ n.val then val_main_v265 (F := Ideal) x2 (ix3 b i k) else 0 := by
  have hv : ∀ i, val_main_call1_call0_v0 (F := Ideal) i = (0 : EReal) := fun _ => zero_word
  unfold val_main_v266
  generalize val_main_v265 (F := Ideal) x2 = x
  unfold Host.reduceWindowAdd
  rw [hv]
  exact cum_entry (N := 4110) x _ b n k

/-- The running sums with a row of zeros before them. -/
theorem ref_z (b : Fin 4) (n : Fin 4112) (k : Fin 256) :
    val_main_v269 (F := Ideal) x2 (ix3 b n k) = ∑ i ∈ Finset.range n.val, lagAt (fun t k => x2 (ix3 b t k)) (i + 17) k := by
  have hn := n.isLt
  rw [← sum_lt 4111 n.val (by omega)]
  have h : val_main_v269 (F := Ideal) x2 (ix3 b n k)
      = if h : n.val < 1 then (0 : EReal) else val_main_v266 (F := Ideal) x2 (ix3 b ⟨n.val - 1, by omega⟩ k) := by
    unfold val_main_v269 val_main_v268 val_main_cst_7
    generalize val_main_v266 (F := Ideal) x2 = y
    pointwise
  rw [h]
  split
  · next h0 => exact (Finset.sum_eq_zero fun i _ => if_neg (by omega)).symm
  · next h0 =>
    rw [ref_cum]
    exact Finset.sum_congr rfl fun i _ => if_congr (by show i.val ≤ n.val - 1 ↔ i.val < n.val; omega) (ref_u x2 b i k) rfl

/-- A pooled entry: the difference of the running sums a window apart over the rows counted, less the row. -/
theorem pool_cell (hx : ∀ i, ∃ r : ℝ, x2 i = (r : EReal)) (b : Fin 4) (t : Fin 4096) (k : Fin 256) (n : ℕ) (hn : n + winN k = 16) :
    Ideal.div (val_main_v269 (F := Ideal) x2 (ix3 b ⟨16 + t.val, by omega⟩ k)
          - val_main_v269 (F := Ideal) x2 (ix3 b ⟨n + t.val, by have : winN k ≤ 16 := by omega
                                                                omega⟩ k))
        (FloatOps.sitofp (F := Ideal) FTy.f32 (IntOp.minsi (IntOp.addi (BitVec.ofNat 32 t.val) 1#32) (BitVec.ofNat 32 (winN k))))
      - x2 (ix3 b t k) = poolP (fun t k => x2 (ix3 b t k)) t k := by
  have ht := t.isLt
  have hl : ∀ N, ∃ r : ℝ, lagAt (fun t k => x2 (ix3 b t k)) N k = (r : EReal) := fun N => by
    unfold lagAt
    by_cases h : 32 ≤ N ∧ N < 4128
    · rw [dif_pos h]; exact hx _
    · rw [dif_neg h]; exact ⟨0, rfl⟩
  rw [ref_z, ref_z]
  show Ideal.div ((∑ i ∈ Finset.range (16 + t.val), lagAt (fun t k => x2 (ix3 b t k)) (i + 17) k) - ∑ i ∈ Finset.range (n + t.val), lagAt (fun t k => x2 (ix3 b t k)) (i + 17) k) _ - _ = _
  have hw := win_eq (fun j => lagAt (fun t k => x2 (ix3 b t k)) (t.val + 17 + j.val)) (fun k => x2 (ix3 b t k)) k (fun j => hl _)
    (fun i => lagAt (fun t k => x2 (ix3 b t k)) (t.val + i.val + 17) k)
    (fun j => congrArg (fun N => lagAt _ N k) (by show t.val + j.val + 17 = t.val + 17 + j.val; omega))
    (by
      show lagAt _ (t.val + 15 + 17) k = _
      unfold lagAt
      rw [dif_pos (by omega)]
      exact congrArg (fun a => x2 (ix3 b a k)) (Fin.ext (by show t.val + 15 + 17 - 32 = t.val; omega))) n hn
  rw [Nat.add_comm 16, Nat.add_comm n, diff_rest (fun i => lagAt (fun t k => x2 (ix3 b t k)) (i + 17) k) (fun i => hl _) t.val n (by omega), hw]
  unfold poolP
  rw [show IntOp.addi (BitVec.ofNat 32 t.val) 1#32 = BitVec.ofNat 32 (t.val + 1) from (BitVec.ofNat_add _ _).symm]

theorem win_of (k : Fin 256) (g : ℕ) (h : k.val / 64 = g) : winN k = 2 * 2 ^ g := by
  unfold winN
  rw [h]

/-- The product of the group whose window is 2. -/
theorem ref_dot0 (hx : ∀ i, ∃ r : ℝ, x2 i = (r : EReal)) (b : Fin 4) (t : Fin 4096) (c : Fin 64) :
    val_main_v286 (F := Ideal) x2 x9 (ix3 b t c)
      = ∑ q : Fin 64, poolP (fun t k => x2 (ix3 b t k)) t ⟨0 + q.val, by omega⟩ * x9 (ix4 3 0 q c) := by
  have w : ∀ q : Fin 64, winN ⟨0 + q.val, by omega⟩ = 2 := fun q => win_of _ 0 (by show (0 + q.val) / 64 = 0; omega)
  have h := fun q : Fin 64 => pool_cell x2 hx b t ⟨0 + q.val, by omega⟩ 14 (by rw [w])
  simp only [w] at h
  simp only [← h]
  unfold val_main_v286 val_main_v285 val_main_v284 val_main_v283 val_main_v282 val_main_v281 val_main_v280 val_main_v279 val_main_v278 val_main_v277 val_main_v276 val_main_v275 val_main_v274 val_main_v273 val_main_v272 val_main_v271 val_main_c val_main_c_8 val_main_v270
  generalize val_main_v269 (F := Ideal) x2 = y
  pointwise

/-- The product of the group whose window is 4. -/
theorem ref_dot1 (hx : ∀ i, ∃ r : ℝ, x2 i = (r : EReal)) (b : Fin 4) (t : Fin 4096) (c : Fin 64) :
    val_main_v302 (F := Ideal) x2 x9 (ix3 b t c)
      = ∑ q : Fin 64, poolP (fun t k => x2 (ix3 b t k)) t ⟨64 + q.val, by omega⟩ * x9 (ix4 3 1 q c) := by
  have w : ∀ q : Fin 64, winN ⟨64 + q.val, by omega⟩ = 4 := fun q => win_of _ 1 (by show (64 + q.val) / 64 = 1; omega)
  have h := fun q : Fin 64 => pool_cell x2 hx b t ⟨64 + q.val, by omega⟩ 12 (by rw [w])
  simp only [w] at h
  simp only [← h]
  unfold val_main_v302 val_main_v301 val_main_v300 val_main_v299 val_main_v298 val_main_v297 val_main_v296 val_main_v295 val_main_v294 val_main_v293 val_main_v292 val_main_v291 val_main_v290 val_main_v289 val_main_v288 val_main_v287 val_main_c_9 val_main_c_10 val_main_v270
  generalize val_main_v269 (F := Ideal) x2 = y
  pointwise

/-- The product of the group whose window is 8. -/
theorem ref_dot2 (hx : ∀ i, ∃ r : ℝ, x2 i = (r : EReal)) (b : Fin 4) (t : Fin 4096) (c : Fin 64) :
    val_main_v318 (F := Ideal) x2 x9 (ix3 b t c)
      = ∑ q : Fin 64, poolP (fun t k => x2 (ix3 b t k)) t ⟨128 + q.val, by omega⟩ * x9 (ix4 3 2 q c) := by
  have w : ∀ q : Fin 64, winN ⟨128 + q.val, by omega⟩ = 8 := fun q => win_of _ 2 (by show (128 + q.val) / 64 = 2; omega)
  have h := fun q : Fin 64 => pool_cell x2 hx b t ⟨128 + q.val, by omega⟩ 8 (by rw [w])
  simp only [w] at h
  simp only [← h]
  unfold val_main_v318 val_main_v317 val_main_v316 val_main_v315 val_main_v314 val_main_v313 val_main_v312 val_main_v311 val_main_v310 val_main_v309 val_main_v308 val_main_v307 val_main_v306 val_main_v305 val_main_v304 val_main_v303 val_main_c_11 val_main_c_12 val_main_v270
  generalize val_main_v269 (F := Ideal) x2 = y
  pointwise

/-- The product of the group whose window is 16. -/
theorem ref_dot3 (hx : ∀ i, ∃ r : ℝ, x2 i = (r : EReal)) (b : Fin 4) (t : Fin 4096) (c : Fin 64) :
    val_main_v334 (F := Ideal) x2 x9 (ix3 b t c)
      = ∑ q : Fin 64, poolP (fun t k => x2 (ix3 b t k)) t ⟨192 + q.val, by omega⟩ * x9 (ix4 3 3 q c) := by
  have w : ∀ q : Fin 64, winN ⟨192 + q.val, by omega⟩ = 16 := fun q => win_of _ 3 (by show (192 + q.val) / 64 = 3; omega)
  have h := fun q : Fin 64 => pool_cell x2 hx b t ⟨192 + q.val, by omega⟩ 0 (by rw [w])
  simp only [w] at h
  simp only [← h]
  unfold val_main_v334 val_main_v333 val_main_v332 val_main_v331 val_main_v330 val_main_v329 val_main_v328 val_main_v327 val_main_v326 val_main_v325 val_main_v324 val_main_v323 val_main_v322 val_main_v321 val_main_v320 val_main_v319 val_main_c_13 val_main_c_14 val_main_v270
  generalize val_main_v269 (F := Ideal) x2 = y
  pointwise

/-- The pooled groups side by side. -/
theorem ref_cat (hx : ∀ i, ∃ r : ℝ, x2 i = (r : EReal)) (b : Fin 4) (t : Fin 4096) (k : Fin 256) :
    val_main_v335 (F := Ideal) x2 x9 (ix3 b t k)
      = ∑ q : Fin 64, poolP (fun t k => x2 (ix3 b t k)) t ⟨64 * (k.val / 64) + q.val, by omega⟩
          * x9 (ix4 3 ⟨k.val / 64, by omega⟩ q ⟨k.val % 64, by omega⟩) := by
  have key : ∀ (g : Fin 4) (c : Fin 64), k.val = 64 * g.val + c.val →
      (∑ q : Fin 64, poolP (fun t k => x2 (ix3 b t k)) t ⟨64 * g.val + q.val, by omega⟩ * x9 (ix4 3 g q c))
      = ∑ q : Fin 64, poolP (fun t k => x2 (ix3 b t k)) t ⟨64 * (k.val / 64) + q.val, by omega⟩
          * x9 (ix4 3 ⟨k.val / 64, by omega⟩ q ⟨k.val % 64, by omega⟩) := fun g c h => by
    have hg : g = ⟨k.val / 64, by omega⟩ := Fin.ext (by show g.val = k.val / 64; omega)
    have hc : c = ⟨k.val % 64, by omega⟩ := Fin.ext (by show c.val = k.val % 64; omega)
    exact Finset.sum_congr rfl fun q _ => congrArg₂ (· * ·) (congrArg (poolP _ t) (Fin.ext (by show 64 * g.val + q.val = 64 * (k.val / 64) + q.val; omega)))
      (congrArg₂ (fun a b => x9 (ix4 3 a q b)) hg hc)
  have hk := k.isLt
  have h : val_main_v335 (F := Ideal) x2 x9 (ix3 b t k)
      = if h : k.val < 64 then val_main_v286 (F := Ideal) x2 x9 (ix3 b t ⟨k.val, h⟩)
        else if h : k.val - 64 < 64 then val_main_v302 (F := Ideal) x2 x9 (ix3 b t ⟨k.val - 64, h⟩)
        else if h : k.val - 64 - 64 < 64 then val_main_v318 (F := Ideal) x2 x9 (ix3 b t ⟨k.val - 64 - 64, h⟩)
        else val_main_v334 (F := Ideal) x2 x9 (ix3 b t ⟨k.val - 64 - 64 - 64, by omega⟩) := by
    unfold val_main_v335
    generalize val_main_v286 (F := Ideal) x2 x9 = y0
    generalize val_main_v302 (F := Ideal) x2 x9 = y1
    generalize val_main_v318 (F := Ideal) x2 x9 = y2
    generalize val_main_v334 (F := Ideal) x2 x9 = y3
    pointwise
  rw [h]
  split_ifs with a b d
  · exact (ref_dot0 x2 x9 hx _ t _).trans (key 0 _ (by show k.val = 64 * 0 + k.val; omega))
  · exact (ref_dot1 x2 x9 hx _ t _).trans (key 1 _ (by show k.val = 64 * 1 + (k.val - 64); omega))
  · exact (ref_dot2 x2 x9 hx _ t _).trans (key 2 _ (by show k.val = 64 * 2 + (k.val - 64 - 64); omega))
  · exact (ref_dot3 x2 x9 hx _ t _).trans (key 3 _ (by show k.val = 64 * 3 + (k.val - 64 - 64 - 64); omega))

/-- The pooling mixer. -/
theorem ref_yp (hx : ∀ i, ∃ r : ℝ, x2 i = (r : EReal)) (b : Fin 4) (t : Fin 4096) (k : Fin 256) :
    val_main_v340 (F := Ideal) x2 x9 x10 (ix3 b t k)
      = poolOut (poolP (fun t k => x2 (ix3 b t k)) t) (fun g q c => x9 (ix4 3 g q c)) (fun k => x10 (ix2 3 k)) k := by
  unfold poolOut
  rw [← ref_cat x2 x9 hx b t k]
  unfold val_main_v340 val_main_v339 val_main_v338 val_main_v337 val_main_v336
  generalize val_main_v335 (F := Ideal) x2 x9 = y
  pointwise

/-- The three mixers side by side. -/
theorem ref_mix (b : Fin 4) (t : Fin 4096) (k : Fin 1024) :
    val_main_v342 (F := Ideal) x1 x2 x3 x5 x6 x7 x8 x9 x10 (ix3 b t k)
      = catRow (fun k => val_main_v263 (F := Ideal) x1 x5 x6 x7 x8 (ix3 b t k)) (fun k => val_main_v340 (F := Ideal) x2 x9 x10 (ix3 b t k))
        (fun k => x3 (ix3 b t k)) k := by
  unfold val_main_v342 val_main_v341 catRow
  generalize val_main_v263 (F := Ideal) x1 x5 x6 x7 x8 = y0
  generalize val_main_v340 (F := Ideal) x2 x9 x10 = y1
  pointwise
  refine dite_congr rfl (fun _ => rfl) fun h1 => ?_
  refine dite_congr (propext (by omega)) (fun _ => rfl) fun h2 => ?_
  exact congrArg (fun q : Fin 512 => x3 (ix3 b t q)) (Fin.ext (by show k.val - 256 - 256 = k.val - 512; omega))

/-- The residual sum. -/
theorem ref_res (b : Fin 4) (t : Fin 4096) (c : Fin 1024) :
    val_main_v350 (F := Ideal) x0 x1 x2 x3 x4 x5 x6 x7 x8 x9 x10 x11 (ix3 b t c)
      = sumRow (fun k => x0 (ix3 b t k)) (fun k => x4 (ix2 b ⟨5120 + k.val, by omega⟩))
        (fun k => val_main_v342 (F := Ideal) x1 x2 x3 x5 x6 x7 x8 x9 x10 (ix3 b t k)) (fun k c => x11 (ix3 3 k c)) c := by
  unfold val_main_v350 val_main_v349 val_main_v348 val_main_v347 val_main_v346 val_main_v345 val_main_v344 val_main_v343 val_main_cst_15 val_main_v6 val_main_v0 sumRow
  generalize val_main_v342 (F := Ideal) x1 x2 x3 x5 x6 x7 x8 x9 x10 = y
  pointwise

/-- The normalised result. -/
theorem ref_norm (b : Fin 4) (t : Fin 4096) (c : Fin 1024) :
    val_main_v378 (F := Ideal) x0 x1 x2 x3 x4 x5 x6 x7 x8 x9 x10 x11 x12 x13 (ix3 b t c)
      = normRow (fun k => val_main_v350 (F := Ideal) x0 x1 x2 x3 x4 x5 x6 x7 x8 x9 x10 x11 (ix3 b t k)) (fun k => x12 (ix3 3 1 k))
        (fun k => x13 (ix3 3 1 k)) c := by
  unfold val_main_v378 val_main_v377 val_main_v376 val_main_v375 val_main_v374 val_main_v373 val_main_v372 val_main_v371 val_main_v370 val_main_v369 val_main_v368 val_main_v367 val_main_v366 val_main_v365 val_main_v364 val_main_v363 val_main_v362 val_main_v361 val_main_v360 val_main_v359 val_main_v358 val_main_v357 val_main_v356 val_main_v355 val_main_v354 val_main_v353 val_main_v352 val_main_v351 val_main_cst_16 val_main_cst_17 val_main_cst_18 val_main_cst_19 val_main_cst_20 normRow meanRow
  generalize val_main_v350 (F := Ideal) x0 x1 x2 x3 x4 x5 x6 x7 x8 x9 x10 x11 = y
  pointwise

/-- The reference's rows are the layer step applied row by row. -/
theorem ref_apply (hx : ∀ i, ∃ r : ℝ, x2 i = (r : EReal)) (b : Fin 4) (t : Fin 4096) (c : Fin 1024) :
    val_main_v378 (F := Ideal) x0 x1 x2 x3 x4 x5 x6 x7 x8 x9 x10 x11 x12 x13 (ix3 b t c)
      = mixP (fun k => x0 (ix3 b t k)) (fun k => x4 (ix2 b ⟨5120 + k.val, by omega⟩)) (fun t k => x1 (ix3 b t k)) (fun t k => x2 (ix3 b t k))
        (fun j k => x5 (ix3 3 j k)) (fun k => x6 (ix2 3 k)) (fun k => x7 (ix2 3 k)) (fun k => x8 (ix2 3 k)) (fun g q c => x9 (ix4 3 g q c))
        (fun k => x10 (ix2 3 k)) (fun k => x3 (ix3 b t k)) (fun k c => x11 (ix3 3 k c)) (fun k => x12 (ix3 3 1 k)) (fun k => x13 (ix3 3 1 k)) t c := by
  rw [ref_norm, funext (ref_res x0 x1 x2 x3 x4 x5 x6 x7 x8 x9 x10 x11 b t), funext (ref_mix x1 x2 x3 x5 x6 x7 x8 x9 x10 b t),
    funext (ref_yc x1 x5 x6 x7 x8 b t), funext (ref_yp x2 x9 x10 hx b t)]
  rfl

end Cert.Proof.Mp

end
-- ==== Proof.MpFinal.lean ====
module

public import proofs.«01_k».proof.Proof.MpHost
public import proofs.«01_k».proof.Proof.MpRef
public import Idealize.ShloMosaic.Lib.Pipeline.Value

@[expose] public section

set_option maxRecDepth 16384

noncomputable section

/-! # The run of the prompt's mixers and output projection ends with the reference's result -/

namespace Cert.Proof.Mp

open Idealize Idealize.ShloMosaic Idealize.ShloMosaic.TcCoe Idealize.SL.Sem Cert.MixoutPromptIdeal
open Idealize.ShloMosaic.Pipeline (Dat Cfg Window)

variable (m : (ℓ : Loc nD τ sig) → Buf (Elt Ideal) ℓ) (ρ : Dev nD → PrngReg)

/-- The reference's result of the kernel's arguments. -/
def resultOf : S4x4096x1024.Idx → EReal :=
  Cert.MixoutPromptRefIdeal.Read.val_main_v378 (F := Ideal) (m ((0 : Dev nD).tc.loc main_arg0)) (m ((0 : Dev nD).tc.loc main_arg1)) (m ((0 : Dev nD).tc.loc main_arg2))
    (m ((0 : Dev nD).tc.loc main_arg3)) (m ((0 : Dev nD).tc.loc main_arg4)) (m ((0 : Dev nD).tc.loc main_arg5))
    (m ((0 : Dev nD).tc.loc main_arg6)) (m ((0 : Dev nD).tc.loc main_arg7)) (m ((0 : Dev nD).tc.loc main_arg8))
    (m ((0 : Dev nD).tc.loc main_arg9)) (m ((0 : Dev nD).tc.loc main_arg10)) (m ((0 : Dev nD).tc.loc main_arg11))
    (m ((0 : Dev nD).tc.loc main_arg12)) (m ((0 : Dev nD).tc.loc main_arg13))

section

variable (hx : ∀ i : S4x4096x256.Idx, ∃ q : ℝ, (m ((0 : Dev nD).tc.loc main_arg2) : Vec Ideal S4x4096x256 .f32) i = (q : EReal))

include hx

/-- A grid point's block holds its rows of the result. -/
theorem block_row (t : Fin grid0.N) (r : Fin 512) (k : Fin 1024) :
    (Gen.outsAt0 m 0 t : Vec Ideal S1x512x1024 .f32) (ix3 0 r k) = resultOf m (ix3 (seqAt t) (rowAt t r) k) := by
  unfold Gen.outsAt0
  refine (block_apply 0 (grid0.coords t) _ _ _ _ _ _ _ _ _ _ _ _ _ _ _ _ _ _ _ _ _ _ _ _ _ _ _ _ _ _ _ _ _ _ _ _
    (Gen.iblk m 0 0 t) (Gen.iblk m 0 1 t) (Gen.iblk m 0 2 t) (Gen.iblk m 0 3 t) (Gen.iblk m 0 4 t) (Gen.iblk m 0 5 t) (Gen.iblk m 0 6 t)
    (Gen.iblk m 0 7 t) (Gen.iblk m 0 8 t) (Gen.iblk m 0 9 t) (Gen.iblk m 0 10 t) (Gen.iblk m 0 11 t) (Gen.iblk m 0 12 t) (Gen.iblk m 0 13 t)
    (fun g q c => (m ((0 : Dev nD).tc.loc main_arg9) : Vec Ideal S4x4x64x64 .f32) (ix4 3 g q c)) (fun q c => blk_wp m 0 t q c)
    r (rowAt t r) (by rw [tile_of]; rfl) k).trans (Eq.trans ?_ (Cert.Proof.Mp.ref_apply _ _ _ _ _ _ _ _ _ _ _ _ _ _ hx (seqAt t) (rowAt t r) k).symm)
  simp only [blk_x, blk_v, blk_u, blk_ya, blk_w, blk_b, blk_gc, blk_bc, blk_s, blk_wo, blk_g, blk_lng, blk_lnb]

/-- The write-back of a grid point writes its rows of the result. -/
theorem flushed_eq (t : Fin cfg0.N) :
    (Gen.dats m 0 0).flushed 14 t = ((cfg0.win 14).blk t).view.read (Elt Ideal) (resultOf m) := by
  show (cfg0.win 14).cut (cfg0.grid.coords t) ((Gen.dats m 0 0).after 14 t) = _
  rw [Gen.after0_14]
  refine funext fun (j : S1x512x1024.Idx) => ?_
  have hj0 : (j 0).val < 1 := (j 0).isLt
  refine Eq.trans (b := (Gen.outsAt0 m 0 t : Vec Ideal S1x512x1024 .f32) (ix3 0 (j 1) (j 2))) ?_ ((block_row m hx t (j 1) (j 2)).trans ?_)
  · refine congrArg (Gen.outsAt0 m 0 t : S1x512x1024.Idx → EReal) ?_
    funext a
    apply Fin.ext
    match a with
    | ⟨0, _⟩ => show (j 0).val = 0; omega
    | ⟨1, _⟩ => rfl
    | ⟨2, _⟩ => rfl
  · refine congrArg (resultOf m : S4x4096x1024.Idx → EReal) ?_
    funext a
    apply Fin.ext
    match a with
    | ⟨0, _⟩ =>
      show t.val / 8 = cc0_transform_14 (grid0.coords t) 0 * 1 + 1 * (j 0).val
      rw [show cc0_transform_14 (grid0.coords t) 0 = t.val / 8 from congrFun (index14 t) 0]; omega
    | ⟨1, _⟩ =>
      show t.val % 8 * 512 + (j 1).val = cc0_transform_14 (grid0.coords t) 1 * 512 + 1 * (j 1).val
      rw [show cc0_transform_14 (grid0.coords t) 1 = t.val % 8 from congrFun (index14 t) 1]; omega
    | ⟨2, _⟩ =>
      show (j 2).val = cc0_transform_14 (grid0.coords t) 2 * 1024 + 1 * (j 2).val
      rw [show cc0_transform_14 (grid0.coords t) 2 = 0 from congrFun (index14 t) 2]; omega

omit hx in
/-- Every cell of the result is written at the grid point of its sequence and row. -/
theorem covered (i : S4x4096x1024.Idx) : ∃ t : Fin cfg0.N, (cfg0.win 14).flush t = true
    ∧ (i : ((cfg0.win 14).blk t).view.ty.Idx) ∈ ((cfg0.win 14).blk t).view.set := by
  have i0 : (i 0 : Nat) < 4 := (i 0).isLt
  have i1 : (i 1 : Nat) < 4096 := (i 1).isLt
  have i2 : (i 2 : Nat) < 1024 := (i 2).isLt
  have hN : grid0.N = 32 := Gen.N_0
  have hk : (i 1 : Nat) % 512 < 512 := by omega
  obtain ⟨t, hv⟩ : ∃ t : Fin grid0.N, t.val = (i 0 : Nat) * 8 + (i 1 : Nat) / 512 := ⟨⟨(i 0 : Nat) * 8 + (i 1 : Nat) / 512, by omega⟩, rfl⟩
  refine ⟨t, Gen.flush0_14 _, ?_⟩
  have e : ((cfg0.win 14).blk t).view.emb (ix3 0 ⟨(i 1 : Nat) % 512, hk⟩ ⟨(i 2 : Nat), i2⟩ : S1x512x1024.Idx) = i := by
    funext a
    apply Fin.ext
    match a with
    | ⟨0, _⟩ =>
      show cc0_transform_14 (grid0.coords t) 0 * 1 + 1 * 0 = (i 0 : Nat)
      rw [show cc0_transform_14 (grid0.coords t) 0 = t.val / 8 from congrFun (index14 t) 0]; omega
    | ⟨1, _⟩ =>
      show cc0_transform_14 (grid0.coords t) 1 * 512 + 1 * ((i 1 : Nat) % 512) = (i 1 : Nat)
      rw [show cc0_transform_14 (grid0.coords t) 1 = t.val % 8 from congrFun (index14 t) 1]; omega
    | ⟨2, _⟩ =>
      show cc0_transform_14 (grid0.coords t) 2 * 1024 + 1 * (i 2 : Nat) = (i 2 : Nat)
      rw [show cc0_transform_14 (grid0.coords t) 2 = 0 from congrFun (index14 t) 2]; omega
  exact e ▸ View.emb_mem_set ((cfg0.win 14).blk t).view (ix3 0 ⟨(i 1 : Nat) % 512, hk⟩ ⟨(i 2 : Nat), i2⟩ : S1x512x1024.Idx)

/-- The result array ends holding the reference's result. -/
theorem final_eq : (Gen.dats m 0 0).arrAt 14 cfg0.N = (resultOf m : Buf (Elt Ideal) ((cfg0.win 14).arr.view.loc ((0 : Dev nD).tc))) :=
  (Gen.dats m 0 0).arrAt_eq_of_cover 14 (resultOf m) (fun t _ => flushed_eq m hx t) covered

/-- The kernel's run: its result is the reference's, its arguments are unchanged. -/
theorem kernel_run : θ_run defs (onTc (τ := τ) (main (F := Ideal))) ⟨m, fun _ => 0, ρ⟩ (fun r => ∀ c : Dev nD,
      r.2.mem ((c.tc : Thread nD τ).loc main_v51) = (fun _ : Dev nD => (resultOf m : Buf (Elt Ideal) ((c.tc : Thread nD τ).loc main_v51))) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain rfl : c = 0 := Subsingleton.elim _ _
    refine ⟨(((h.1 0).1 14).trans (final_eq m hx) : _), ?_⟩
    exact h.2 0) (θ_run_and (Gen.run_main m ρ) (Gen.unchanged m ρ))

end

end Cert.Proof.Mp

end
-- ==== Proof.MpClaims.lean ====
/- The claims about the prompt's mixers and output projection: the two kernels' frames, the reference's, and the equality
   of the idealized kernel and the reference where the pooled rows are real numbers. -/
module

public import proofs.«01_k».proof.Defs
public import proofs.«01_k».proof.Proof.Gen.MixoutPrompt.Frame
public import proofs.«01_k».proof.Proof.Gen.Pre_pool_input_finite
public import proofs.«01_k».proof.Proof.MpFinal
public import proofs.«01_k».proof.Proof.SaPre
public import proofs.«01_k».proof.Proof.Gen.MixoutPromptRefIdeal.Run
public import Idealize.ShloMosaic.Lib.Claim
public import Idealize.ShloMosaic.Adequacy
public import Idealize.ShloMosaic.Init

@[expose] public section

set_option maxRecDepth 16384

noncomputable section

namespace Cert.Proof.Mp

open Idealize Idealize.ShloMosaic Idealize.SL.Sem

theorem frame_bits : Cert.quiescent_MixoutPrompt := fun m g _ => Cert.MixoutPrompt.Gen.frame m g

theorem frame_ideal : Cert.quiescent_MixoutPromptIdeal := fun m g _ => Cert.MixoutPromptIdeal.Gen.frame m g

theorem frame_ideal_pre : Cert.quiescent_MixoutPromptIdeal_pre_pool_input_finite := fun m g _ => Cert.MixoutPromptIdeal.Gen.frame m g

theorem frame_ref : Cert.quiescent_MixoutPromptRefIdeal := fun m g _ =>
  (θ_run Cert.MixoutPromptRefIdeal.defs _ _).mono (fun r h => ⟨fun c => (h c).2, sem_eq_zero_of_no_sems (by decide) r.2⟩)
    (Cert.MixoutPromptRefIdeal.Value.run (F := Ideal) m g)

theorem frame_ref_pre : Cert.quiescent_MixoutPromptRefIdeal_pre_pool_input_finite := fun m g _ => frame_ref m g trivial

/-- The idealized kernel names no constant and replaces no operation. -/
theorem preserves : Cert.preserves_MixoutPrompt_MixoutPromptIdeal := trivial

section

open Cert.MixoutPromptIdeal

/-- The reference's result of equal arguments. -/
theorem ref_result (m : (ℓ : Loc nD τ sig) → Buf (Elt Ideal) ℓ)
    (a0 : FVec Ideal S4x4096x1024 .f32)
    (a1 : FVec Ideal S4x4096x256 .f32)
    (a2 : FVec Ideal S4x4096x256 .f32)
    (a3 : FVec Ideal S4x4096x512 .bf16)
    (a4 : FVec Ideal S4x9216 .f32)
    (a5 : FVec Ideal S4x31x256 .f32)
    (a6 : FVec Ideal S4x256 .f32)
    (a7 : FVec Ideal S4x256 .f32)
    (a8 : FVec Ideal S4x256 .f32)
    (a9 : FVec Ideal S4x4x64x64 .f32)
    (a10 : FVec Ideal S4x256 .f32)
    (a11 : FVec Ideal S4x1024x1024 .f32)
    (a12 : FVec Ideal S4x3x1024 .f32)
    (a13 : FVec Ideal S4x3x1024 .f32)
    (e0 : a0 = m ((0 : Dev nD).tc.loc main_arg0))
    (e1 : a1 = m ((0 : Dev nD).tc.loc main_arg1))
    (e2 : a2 = m ((0 : Dev nD).tc.loc main_arg2))
    (e3 : a3 = m ((0 : Dev nD).tc.loc main_arg3))
    (e4 : a4 = m ((0 : Dev nD).tc.loc main_arg4))
    (e5 : a5 = m ((0 : Dev nD).tc.loc main_arg5))
    (e6 : a6 = m ((0 : Dev nD).tc.loc main_arg6))
    (e7 : a7 = m ((0 : Dev nD).tc.loc main_arg7))
    (e8 : a8 = m ((0 : Dev nD).tc.loc main_arg8))
    (e9 : a9 = m ((0 : Dev nD).tc.loc main_arg9))
    (e10 : a10 = m ((0 : Dev nD).tc.loc main_arg10))
    (e11 : a11 = m ((0 : Dev nD).tc.loc main_arg11))
    (e12 : a12 = m ((0 : Dev nD).tc.loc main_arg12))
    (e13 : a13 = m ((0 : Dev nD).tc.loc main_arg13)) :
    Cert.MixoutPromptRefIdeal.Read.val_main_v378 (F := Ideal) a0 a1 a2 a3 a4 a5 a6 a7 a8 a9 a10 a11 a12 a13 = resultOf m := by
  subst e0 e1 e2 e3 e4 e5 e6 e7 e8 e9 e10 e11 e12 e13
  rfl

end

theorem algebraic : Cert.algebraic_MixoutPromptIdeal_MixoutPromptRefIdeal_pre_pool_input_finite := fun m g m' g' h e =>
  have hx := fun i => float_real _ (congrFun (h 0) i)
  ⟨fun _ => resultOf m, kernel_run m g hx,
    (θ_run Cert.MixoutPromptRefIdeal.defs _ _).mono (fun r hr c => by
      obtain rfl : c = 0 := Subsingleton.elim _ _
      obtain ⟨e0, e1, e2, e3, e4, e5, e6, e7, e8, e9, e10, e11, e12, e13⟩ := e 0
      exact ⟨((hr 0).1.trans (Cert.MixoutPromptRefIdeal.Read.val_main_v378_eq _)).trans
        (ref_result m _ _ _ _ _ _ _ _ _ _ _ _ _ _ e0 e1 e2 e3 e4 e5 e6 e7 e8 e9 e10 e11 e12 e13), (hr 0).2⟩)
      (Cert.MixoutPromptRefIdeal.Value.run (F := Ideal) m' g')⟩

end Cert.Proof.Mp

end
-- ==== Proof.lean ====
module

public import proofs.«01_k».proof.Defs
public import proofs.«01_k».proof.Proof.Gen.SampleAttn
public import proofs.«01_k».proof.Proof.Gen.SampleAttnIdeal
public import proofs.«01_k».proof.Proof.Gen.SampleAttnRefIdeal
public import proofs.«01_k».proof.Proof.Gen.Pre_pages_in_range
public import proofs.«01_k».proof.Proof.Gen.Pre_softmax_defined
public import proofs.«01_k».proof.Proof.Gen.Pre_pool_state_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleRefIdeal
public import proofs.«01_k».proof.Proof.Gen.FfnSampleRefIdeal.Run
public import proofs.«01_k».proof.Proof.Gen.FfnSampleRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.InprojSample
public import proofs.«01_k».proof.Proof.Gen.InprojSample.Skeleton
public import proofs.«01_k».proof.Proof.Gen.InprojSample.Launch
public import proofs.«01_k».proof.Proof.Gen.InprojSample.Points
public import proofs.«01_k».proof.Proof.Gen.InprojSample.Frame
public import proofs.«01_k».proof.Proof.Gen.InprojSampleIdeal
public import proofs.«01_k».proof.Proof.Gen.InprojSampleIdeal.Skeleton
public import proofs.«01_k».proof.Proof.Gen.InprojSampleIdeal.Launch
public import proofs.«01_k».proof.Proof.Gen.InprojSampleIdeal.Points
public import proofs.«01_k».proof.Proof.Gen.InprojSampleIdeal.Frame
public import proofs.«01_k».proof.Proof.Gen.InprojSampleRefIdeal
public import proofs.«01_k».proof.Proof.Gen.InprojSampleRefIdeal.Run
public import proofs.«01_k».proof.Proof.Gen.InprojSampleRefIdeal.Read
public import proofs.«01_k».proof.Proof.Gen.MixoutSample
public import proofs.«01_k».proof.Proof.Gen.MixoutSample.Skeleton
public import proofs.«01_k».proof.Proof.Gen.MixoutSample.Launch
public import proofs.«01_k».proof.Proof.Gen.MixoutSample.Points
public import proofs.«01_k».proof.Proof.Gen.MixoutSample.Frame
public import proofs.«01_k».proof.Proof.Gen.MixoutSampleIdeal
public import proofs.«01_k».proof.Proof.Gen.MixoutSampleIdeal.Skeleton
public import proofs.«01_k».proof.Proof.Gen.MixoutSampleIdeal.Launch
public import proofs.«01_k».proof.Proof.Gen.MixoutSampleIdeal.Points
public import proofs.«01_k».proof.Proof.Gen.MixoutSampleIdeal.Frame
public import proofs.«01_k».proof.Proof.Gen.MixoutSampleRefIdeal
public import proofs.«01_k».proof.Proof.Gen.MixoutSampleRefIdeal.Run
public import proofs.«01_k».proof.Proof.Gen.MixoutSampleRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.MixoutPrompt
public import proofs.«01_k».proof.Proof.Gen.MixoutPrompt.Skeleton
public import proofs.«01_k».proof.Proof.Gen.MixoutPrompt.Launch
public import proofs.«01_k».proof.Proof.Gen.MixoutPrompt.Points
public import proofs.«01_k».proof.Proof.Gen.MixoutPrompt.Frame
public import proofs.«01_k».proof.Proof.Gen.MixoutPromptIdeal
public import proofs.«01_k».proof.Proof.Gen.MixoutPromptIdeal.Skeleton
public import proofs.«01_k».proof.Proof.Gen.MixoutPromptIdeal.Launch
public import proofs.«01_k».proof.Proof.Gen.MixoutPromptIdeal.Points
public import proofs.«01_k».proof.Proof.Gen.MixoutPromptIdeal.Frame
public import proofs.«01_k».proof.Proof.Gen.MixoutPromptRefIdeal
public import proofs.«01_k».proof.Proof.Gen.MixoutPromptRefIdeal.Run
public import proofs.«01_k».proof.Proof.Gen.MixoutPromptRefIdeal.Read
public import proofs.«01_k».proof.Proof.Gen.Pre_pool_input_finite
public import proofs.«01_k».proof.Proof.SaClaims
public import proofs.«01_k».proof.Proof.FfClaims
public import proofs.«01_k».proof.Proof.FfsClaims
public import proofs.«01_k».proof.Proof.IpClaims
public import proofs.«01_k».proof.Proof.IpsClaims
public import proofs.«01_k».proof.Proof.MxClaims
public import proofs.«01_k».proof.Proof.AdClaims
public import proofs.«01_k».proof.Proof.MpClaims
public import Idealize.ShloMosaic.Adequacy
public import Idealize.ShloMosaic.Init

@[expose] public section

noncomputable section

namespace Cert.Proof

open Idealize.ShloMosaic Idealize.SL.Sem

theorem claim : Cert.Claim :=
  ⟨Cert.SampleAttn.Gen.facts, Cert.SampleAttnIdeal.Gen.facts, Cert.SampleAttnRefIdeal.Gen.facts,
    Cert.Ffn.Gen.facts, Cert.FfnIdeal.Gen.facts, Cert.FfnRefIdeal.Gen.facts,
    Cert.FfnSample.Gen.facts, Cert.FfnSampleIdeal.Gen.facts, Cert.FfnSampleRefIdeal.Gen.facts,
    Cert.Inproj.Gen.facts, Cert.InprojIdeal.Gen.facts, Cert.InprojRefIdeal.Gen.facts,
    Cert.InprojSample.Gen.facts, Cert.InprojSampleIdeal.Gen.facts, Cert.InprojSampleRefIdeal.Gen.facts,
    Cert.MixoutSample.Gen.facts, Cert.MixoutSampleIdeal.Gen.facts, Cert.MixoutSampleRefIdeal.Gen.facts,
    Cert.Ada.Gen.facts, Cert.AdaIdeal.Gen.facts, Cert.AdaRefIdeal.Gen.facts,
    Cert.MixoutPrompt.Gen.facts, Cert.MixoutPromptIdeal.Gen.facts, Cert.MixoutPromptRefIdeal.Gen.facts,
    Cert.Pre_pages_in_range.Gen.facts, Cert.Pre_softmax_defined.Gen.facts, Cert.Pre_pool_state_finite.Gen.facts,
    Cert.Pre_pool_input_finite.Gen.facts,
    frame_bits, frame_ideal, frame_ideal_pre, frame_ref, frame_ref_pre,
    Ff.frame_bits, Ff.frame_ideal, Ff.frame_ref, Ffs.frame_bits, Ffs.frame_ideal, Ffs.frame_ref,
    Ip.frame_bits, Ip.frame_ideal, Ip.frame_ref,
    Ips.frame_bits, Ips.frame_ideal, Ips.frame_ref,
    Mx.frame_bits, Mx.frame_ideal, Mx.frame_ideal_pre, Mx.frame_ref, Mx.frame_ref_pre,
    Ad.frame_bits, Ad.frame_ideal, Ad.frame_ref,
    Mp.frame_bits, Mp.frame_ideal, Mp.frame_ideal_pre, Mp.frame_ref, Mp.frame_ref_pre,
    preserves, algebraic, Ff.preserves, Ff.algebraic,
    Ffs.preserves, Ffs.algebraic, Ip.preserves, Ip.algebraic,
    Ips.preserves, Ips.algebraic, Mx.preserves, Mx.algebraic,
    Ad.preserves, Ad.algebraic, Mp.preserves, Mp.algebraic⟩

end Cert.Proof

end
